-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_HalfDx (m : (ℓ : Loc Cert.HalfDx.nD Cert.HalfDx.τ Cert.HalfDx.sig) → Buf (Elt Bits) ℓ) : Prop :=
  True

def Pre_HalfDxIdeal (m : (ℓ : Loc Cert.HalfDxIdeal.nD Cert.HalfDxIdeal.τ Cert.HalfDxIdeal.sig) → Buf (Elt Ideal) ℓ) : Prop :=
  True

def Pre_HalfDxRefIdeal (m : (ℓ : Loc Cert.HalfDxRefIdeal.nD Cert.HalfDxRefIdeal.τ Cert.HalfDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_L0Proj (m : (ℓ : Loc Cert.L0Proj.nD Cert.L0Proj.τ Cert.L0Proj.sig) → Buf (Elt Bits) ℓ) : Prop :=
  True

def Pre_L0ProjIdeal (m : (ℓ : Loc Cert.L0ProjIdeal.nD Cert.L0ProjIdeal.τ Cert.L0ProjIdeal.sig) → Buf (Elt Ideal) ℓ) : Prop :=
  True

def Pre_L0ProjRefIdeal (m : (ℓ : Loc Cert.L0ProjRefIdeal.nD Cert.L0ProjRefIdeal.τ Cert.L0ProjRefIdeal.sig) → Buf (Elt Ideal) ℓ) : Prop :=
  True

def Pre_L0ProjDx (m : (ℓ : Loc Cert.L0ProjDx.nD Cert.L0ProjDx.τ Cert.L0ProjDx.sig) → Buf (Elt Bits) ℓ) : Prop :=
  True

def Pre_L0ProjDxIdeal (m : (ℓ : Loc Cert.L0ProjDxIdeal.nD Cert.L0ProjDxIdeal.τ Cert.L0ProjDxIdeal.sig) → Buf (Elt Ideal) ℓ) : Prop :=
  True

def Pre_L0ProjDxRefIdeal (m : (ℓ : Loc Cert.L0ProjDxRefIdeal.nD Cert.L0ProjDxRefIdeal.τ Cert.L0ProjDxRefIdeal.sig) → Buf (Elt Ideal) ℓ) : Prop :=
  True

def Pre_L0ProjDw (m : (ℓ : Loc Cert.L0ProjDw.nD Cert.L0ProjDw.τ Cert.L0ProjDw.sig) → Buf (Elt Bits) ℓ) : Prop :=
  True

def Pre_L0ProjDwIdeal (m : (ℓ : Loc Cert.L0ProjDwIdeal.nD Cert.L0ProjDwIdeal.τ Cert.L0ProjDwIdeal.sig) → Buf (Elt Ideal) ℓ) : Prop :=
  True

def Pre_L0ProjDwRefIdeal (m : (ℓ : Loc Cert.L0ProjDwRefIdeal.nD Cert.L0ProjDwRefIdeal.τ Cert.L0ProjDwRefIdeal.sig) → Buf (Elt Ideal) ℓ) : Prop :=
  True

def Pre_L1Proj (m : (ℓ : Loc Cert.L1Proj.nD Cert.L1Proj.τ Cert.L1Proj.sig) → Buf (Elt Bits) ℓ) : Prop :=
  True

def Pre_L1ProjIdeal (m : (ℓ : Loc Cert.L1ProjIdeal.nD Cert.L1ProjIdeal.τ Cert.L1ProjIdeal.sig) → Buf (Elt Ideal) ℓ) : Prop :=
  True

def Pre_L1ProjRefIdeal (m : (ℓ : Loc Cert.L1ProjRefIdeal.nD Cert.L1ProjRefIdeal.τ Cert.L1ProjRefIdeal.sig) → Buf (Elt Ideal) ℓ) : Prop :=
  True

def Pre_L1ProjDx (m : (ℓ : Loc Cert.L1ProjDx.nD Cert.L1ProjDx.τ Cert.L1ProjDx.sig) → Buf (Elt Bits) ℓ) : Prop :=
  True

def Pre_L1ProjDxIdeal (m : (ℓ : Loc Cert.L1ProjDxIdeal.nD Cert.L1ProjDxIdeal.τ Cert.L1ProjDxIdeal.sig) → Buf (Elt Ideal) ℓ) : Prop :=
  True

def Pre_L1ProjDxRefIdeal (m : (ℓ : Loc Cert.L1ProjDxRefIdeal.nD Cert.L1ProjDxRefIdeal.τ Cert.L1ProjDxRefIdeal.sig) → Buf (Elt Ideal) ℓ) : Prop :=
  True

def Pre_L1ProjDw (m : (ℓ : Loc Cert.L1ProjDw.nD Cert.L1ProjDw.τ Cert.L1ProjDw.sig) → Buf (Elt Bits) ℓ) : Prop :=
  True

def Pre_L1ProjDwIdeal (m : (ℓ : Loc Cert.L1ProjDwIdeal.nD Cert.L1ProjDwIdeal.τ Cert.L1ProjDwIdeal.sig) → Buf (Elt Ideal) ℓ) : Prop :=
  True

def Pre_L1ProjDwRefIdeal (m : (ℓ : Loc Cert.L1ProjDwRefIdeal.nD Cert.L1ProjDwRefIdeal.τ Cert.L1ProjDwRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_AdamL0In (m : (ℓ : Loc Cert.AdamL0In.nD Cert.AdamL0In.τ Cert.AdamL0In.sig) → Buf (Elt Bits) ℓ) : Prop :=
  True

def Pre_AdamL0InIdeal (m : (ℓ : Loc Cert.AdamL0InIdeal.nD Cert.AdamL0InIdeal.τ Cert.AdamL0InIdeal.sig) → Buf (Elt Ideal) ℓ) : Prop :=
  True

def Pre_AdamL0InRefIdeal (m : (ℓ : Loc Cert.AdamL0InRefIdeal.nD Cert.AdamL0InRefIdeal.τ Cert.AdamL0InRefIdeal.sig) → Buf (Elt Ideal) ℓ) : Prop :=
  True

def Pre_AdamL1In (m : (ℓ : Loc Cert.AdamL1In.nD Cert.AdamL1In.τ Cert.AdamL1In.sig) → Buf (Elt Bits) ℓ) : Prop :=
  True

def Pre_AdamL1InIdeal (m : (ℓ : Loc Cert.AdamL1InIdeal.nD Cert.AdamL1InIdeal.τ Cert.AdamL1InIdeal.sig) → Buf (Elt Ideal) ℓ) : Prop :=
  True

def Pre_AdamL1InRefIdeal (m : (ℓ : Loc Cert.AdamL1InRefIdeal.nD Cert.AdamL1InRefIdeal.τ Cert.AdamL1InRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ChipL0In [hPre_a_core_ChipL0In : Cert.Pre_a_core_ChipL0In.Facts] (m : (ℓ : Loc Cert.ChipL0In.nD Cert.ChipL0In.τ Cert.ChipL0In.sig) → Buf (Elt Bits) ℓ) : Prop :=
  ∀ c : Dev Cert.ChipL0In.nD,
    (Cert.Pre_a_core_ChipL0In.fn (F := Bits) (m ((c.tc : Thread Cert.ChipL0In.nD Cert.ChipL0In.τ).loc Cert.ChipL0In.main_arg0)) (m ((c.tc : Thread Cert.ChipL0In.nD Cert.ChipL0In.τ).loc Cert.ChipL0In.main_arg1))) = (fun _ => 1#1)

def Pre_ChipL0InIdeal [hPre_a_core_ChipL0In : Cert.Pre_a_core_ChipL0In.Facts] (m : (ℓ : Loc Cert.ChipL0InIdeal.nD Cert.ChipL0InIdeal.τ Cert.ChipL0InIdeal.sig) → Buf (Elt Ideal) ℓ) : Prop :=
  ∀ c : Dev Cert.ChipL0InIdeal.nD,
    (Cert.Pre_a_core_ChipL0In.fn (F := Ideal) (m ((c.tc : Thread Cert.ChipL0InIdeal.nD Cert.ChipL0InIdeal.τ).loc Cert.ChipL0InIdeal.main_arg0)) (m ((c.tc : Thread Cert.ChipL0InIdeal.nD Cert.ChipL0InIdeal.τ).loc Cert.ChipL0InIdeal.main_arg1))) = (fun _ => 1#1)

def Pre_ChipL0InRefIdeal (m : (ℓ : Loc Cert.ChipL0InRefIdeal.nD Cert.ChipL0InRefIdeal.τ Cert.ChipL0InRefIdeal.sig) → Buf (Elt Ideal) ℓ) : Prop :=
  True

def Pre_ChipL0InRefIdeal_a_core_ChipL0In [hPre_a_core_ChipL0In : Cert.Pre_a_core_ChipL0In.Facts] (m : (ℓ : Loc Cert.ChipL0InRefIdeal.nD Cert.ChipL0InRefIdeal.τ Cert.ChipL0InRefIdeal.sig) → Buf (Elt Ideal) ℓ) : Prop :=
  ∀ c : Dev Cert.ChipL0InRefIdeal.nD,
    (Cert.Pre_a_core_ChipL0In.fn (F := Ideal) (m ((c.tc : Thread Cert.ChipL0InRefIdeal.nD Cert.ChipL0InRefIdeal.τ).loc Cert.ChipL0InRefIdeal.main_arg0)) (m ((c.tc : Thread Cert.ChipL0InRefIdeal.nD Cert.ChipL0InRefIdeal.τ).loc Cert.ChipL0InRefIdeal.main_arg1))) = (fun _ => 1#1)

def Pre_ChipL1In [hPre_a_core_ChipL1In : Cert.Pre_a_core_ChipL1In.Facts] (m : (ℓ : Loc Cert.ChipL1In.nD Cert.ChipL1In.τ Cert.ChipL1In.sig) → Buf (Elt Bits) ℓ) : Prop :=
  ∀ c : Dev Cert.ChipL1In.nD,
    (Cert.Pre_a_core_ChipL1In.fn (F := Bits) (m ((c.tc : Thread Cert.ChipL1In.nD Cert.ChipL1In.τ).loc Cert.ChipL1In.main_arg0)) (m ((c.tc : Thread Cert.ChipL1In.nD Cert.ChipL1In.τ).loc Cert.ChipL1In.main_arg1))) = (fun _ => 1#1)

def Pre_ChipL1InIdeal [hPre_a_core_ChipL1In : Cert.Pre_a_core_ChipL1In.Facts] (m : (ℓ : Loc Cert.ChipL1InIdeal.nD Cert.ChipL1InIdeal.τ Cert.ChipL1InIdeal.sig) → Buf (Elt Ideal) ℓ) : Prop :=
  ∀ c : Dev Cert.ChipL1InIdeal.nD,
    (Cert.Pre_a_core_ChipL1In.fn (F := Ideal) (m ((c.tc : Thread Cert.ChipL1InIdeal.nD Cert.ChipL1InIdeal.τ).loc Cert.ChipL1InIdeal.main_arg0)) (m ((c.tc : Thread Cert.ChipL1InIdeal.nD Cert.ChipL1InIdeal.τ).loc Cert.ChipL1InIdeal.main_arg1))) = (fun _ => 1#1)

def Pre_ChipL1InRefIdeal (m : (ℓ : Loc Cert.ChipL1InRefIdeal.nD Cert.ChipL1InRefIdeal.τ Cert.ChipL1InRefIdeal.sig) → Buf (Elt Ideal) ℓ) : Prop :=
  True

def Pre_ChipL1InRefIdeal_a_core_ChipL1In [hPre_a_core_ChipL1In : Cert.Pre_a_core_ChipL1In.Facts] (m : (ℓ : Loc Cert.ChipL1InRefIdeal.nD Cert.ChipL1InRefIdeal.τ Cert.ChipL1InRefIdeal.sig) → Buf (Elt Ideal) ℓ) : Prop :=
  ∀ c : Dev Cert.ChipL1InRefIdeal.nD,
    (Cert.Pre_a_core_ChipL1In.fn (F := Ideal) (m ((c.tc : Thread Cert.ChipL1InRefIdeal.nD Cert.ChipL1InRefIdeal.τ).loc Cert.ChipL1InRefIdeal.main_arg0)) (m ((c.tc : Thread Cert.ChipL1InRefIdeal.nD Cert.ChipL1InRefIdeal.τ).loc Cert.ChipL1InRefIdeal.main_arg1))) = (fun _ => 1#1)

def Pre_ChipUp [hPre_a_core_ChipUp : Cert.Pre_a_core_ChipUp.Facts] (m : (ℓ : Loc Cert.ChipUp.nD Cert.ChipUp.τ Cert.ChipUp.sig) → Buf (Elt Bits) ℓ) : Prop :=
  ∀ c : Dev Cert.ChipUp.nD,
    (Cert.Pre_a_core_ChipUp.fn (F := Bits) (m ((c.tc : Thread Cert.ChipUp.nD Cert.ChipUp.τ).loc Cert.ChipUp.main_arg0)) (m ((c.tc : Thread Cert.ChipUp.nD Cert.ChipUp.τ).loc Cert.ChipUp.main_arg1))) = (fun _ => 1#1)

def Pre_ChipUpIdeal [hPre_a_core_ChipUp : Cert.Pre_a_core_ChipUp.Facts] (m : (ℓ : Loc Cert.ChipUpIdeal.nD Cert.ChipUpIdeal.τ Cert.ChipUpIdeal.sig) → Buf (Elt Ideal) ℓ) : Prop :=
  ∀ c : Dev Cert.ChipUpIdeal.nD,
    (Cert.Pre_a_core_ChipUp.fn (F := Ideal) (m ((c.tc : Thread Cert.ChipUpIdeal.nD Cert.ChipUpIdeal.τ).loc Cert.ChipUpIdeal.main_arg0)) (m ((c.tc : Thread Cert.ChipUpIdeal.nD Cert.ChipUpIdeal.τ).loc Cert.ChipUpIdeal.main_arg1))) = (fun _ => 1#1)

def Pre_ChipUpRefIdeal (m : (ℓ : Loc Cert.ChipUpRefIdeal.nD Cert.ChipUpRefIdeal.τ Cert.ChipUpRefIdeal.sig) → Buf (Elt Ideal) ℓ) : Prop :=
  True

def Pre_ChipUpRefIdeal_a_core_ChipUp [hPre_a_core_ChipUp : Cert.Pre_a_core_ChipUp.Facts] (m : (ℓ : Loc Cert.ChipUpRefIdeal.nD Cert.ChipUpRefIdeal.τ Cert.ChipUpRefIdeal.sig) → Buf (Elt Ideal) ℓ) : Prop :=
  ∀ c : Dev Cert.ChipUpRefIdeal.nD,
    (Cert.Pre_a_core_ChipUp.fn (F := Ideal) (m ((c.tc : Thread Cert.ChipUpRefIdeal.nD Cert.ChipUpRefIdeal.τ).loc Cert.ChipUpRefIdeal.main_arg0)) (m ((c.tc : Thread Cert.ChipUpRefIdeal.nD Cert.ChipUpRefIdeal.τ).loc Cert.ChipUpRefIdeal.main_arg1))) = (fun _ => 1#1)

def Pre_ChipDown [hPre_a_core_ChipDown : Cert.Pre_a_core_ChipDown.Facts] (m : (ℓ : Loc Cert.ChipDown.nD Cert.ChipDown.τ Cert.ChipDown.sig) → Buf (Elt Bits) ℓ) : Prop :=
  ∀ c : Dev Cert.ChipDown.nD,
    (Cert.Pre_a_core_ChipDown.fn (F := Bits) (m ((c.tc : Thread Cert.ChipDown.nD Cert.ChipDown.τ).loc Cert.ChipDown.main_arg0)) (m ((c.tc : Thread Cert.ChipDown.nD Cert.ChipDown.τ).loc Cert.ChipDown.main_arg1))) = (fun _ => 1#1)

def Pre_ChipDownIdeal [hPre_a_core_ChipDown : Cert.Pre_a_core_ChipDown.Facts] (m : (ℓ : Loc Cert.ChipDownIdeal.nD Cert.ChipDownIdeal.τ Cert.ChipDownIdeal.sig) → Buf (Elt Ideal) ℓ) : Prop :=
  ∀ c : Dev Cert.ChipDownIdeal.nD,
    (Cert.Pre_a_core_ChipDown.fn (F := Ideal) (m ((c.tc : Thread Cert.ChipDownIdeal.nD Cert.ChipDownIdeal.τ).loc Cert.ChipDownIdeal.main_arg0)) (m ((c.tc : Thread Cert.ChipDownIdeal.nD Cert.ChipDownIdeal.τ).loc Cert.ChipDownIdeal.main_arg1))) = (fun _ => 1#1)

def Pre_ChipDownRefIdeal (m : (ℓ : Loc Cert.ChipDownRefIdeal.nD Cert.ChipDownRefIdeal.τ Cert.ChipDownRefIdeal.sig) → Buf (Elt Ideal) ℓ) : Prop :=
  True

def Pre_ChipDownRefIdeal_a_core_ChipDown [hPre_a_core_ChipDown : Cert.Pre_a_core_ChipDown.Facts] (m : (ℓ : Loc Cert.ChipDownRefIdeal.nD Cert.ChipDownRefIdeal.τ Cert.ChipDownRefIdeal.sig) → Buf (Elt Ideal) ℓ) : Prop :=
  ∀ c : Dev Cert.ChipDownRefIdeal.nD,
    (Cert.Pre_a_core_ChipDown.fn (F := Ideal) (m ((c.tc : Thread Cert.ChipDownRefIdeal.nD Cert.ChipDownRefIdeal.τ).loc Cert.ChipDownRefIdeal.main_arg0)) (m ((c.tc : Thread Cert.ChipDownRefIdeal.nD Cert.ChipDownRefIdeal.τ).loc Cert.ChipDownRefIdeal.main_arg1))) = (fun _ => 1#1)

def Pre_ChipOut [hPre_a_core_ChipOut : Cert.Pre_a_core_ChipOut.Facts] (m : (ℓ : Loc Cert.ChipOut.nD Cert.ChipOut.τ Cert.ChipOut.sig) → Buf (Elt Bits) ℓ) : Prop :=
  ∀ c : Dev Cert.ChipOut.nD,
    (Cert.Pre_a_core_ChipOut.fn (F := Bits) (m ((c.tc : Thread Cert.ChipOut.nD Cert.ChipOut.τ).loc Cert.ChipOut.main_arg0)) (m ((c.tc : Thread Cert.ChipOut.nD Cert.ChipOut.τ).loc Cert.ChipOut.main_arg1))) = (fun _ => 1#1)

def Pre_ChipOutIdeal [hPre_a_core_ChipOut : Cert.Pre_a_core_ChipOut.Facts] (m : (ℓ : Loc Cert.ChipOutIdeal.nD Cert.ChipOutIdeal.τ Cert.ChipOutIdeal.sig) → Buf (Elt Ideal) ℓ) : Prop :=
  ∀ c : Dev Cert.ChipOutIdeal.nD,
    (Cert.Pre_a_core_ChipOut.fn (F := Ideal) (m ((c.tc : Thread Cert.ChipOutIdeal.nD Cert.ChipOutIdeal.τ).loc Cert.ChipOutIdeal.main_arg0)) (m ((c.tc : Thread Cert.ChipOutIdeal.nD Cert.ChipOutIdeal.τ).loc Cert.ChipOutIdeal.main_arg1))) = (fun _ => 1#1)

def Pre_ChipOutRefIdeal (m : (ℓ : Loc Cert.ChipOutRefIdeal.nD Cert.ChipOutRefIdeal.τ Cert.ChipOutRefIdeal.sig) → Buf (Elt Ideal) ℓ) : Prop :=
  True

def Pre_ChipOutRefIdeal_a_core_ChipOut [hPre_a_core_ChipOut : Cert.Pre_a_core_ChipOut.Facts] (m : (ℓ : Loc Cert.ChipOutRefIdeal.nD Cert.ChipOutRefIdeal.τ Cert.ChipOutRefIdeal.sig) → Buf (Elt Ideal) ℓ) : Prop :=
  ∀ c : Dev Cert.ChipOutRefIdeal.nD,
    (Cert.Pre_a_core_ChipOut.fn (F := Ideal) (m ((c.tc : Thread Cert.ChipOutRefIdeal.nD Cert.ChipOutRefIdeal.τ).loc Cert.ChipOutRefIdeal.main_arg0)) (m ((c.tc : Thread Cert.ChipOutRefIdeal.nD Cert.ChipOutRefIdeal.τ).loc Cert.ChipOutRefIdeal.main_arg1))) = (fun _ => 1#1)

def Pre_ChipSmall [hPre_a_core_ChipSmall : Cert.Pre_a_core_ChipSmall.Facts] (m : (ℓ : Loc Cert.ChipSmall.nD Cert.ChipSmall.τ Cert.ChipSmall.sig) → Buf (Elt Bits) ℓ) : Prop :=
  ∀ c : Dev Cert.ChipSmall.nD,
    (Cert.Pre_a_core_ChipSmall.fn (F := Bits) (m ((c.tc : Thread Cert.ChipSmall.nD Cert.ChipSmall.τ).loc Cert.ChipSmall.main_arg0)) (m ((c.tc : Thread Cert.ChipSmall.nD Cert.ChipSmall.τ).loc Cert.ChipSmall.main_arg1))) = (fun _ => 1#1)

def Pre_ChipSmallIdeal [hPre_a_core_ChipSmall : Cert.Pre_a_core_ChipSmall.Facts] (m : (ℓ : Loc Cert.ChipSmallIdeal.nD Cert.ChipSmallIdeal.τ Cert.ChipSmallIdeal.sig) → Buf (Elt Ideal) ℓ) : Prop :=
  ∀ c : Dev Cert.ChipSmallIdeal.nD,
    (Cert.Pre_a_core_ChipSmall.fn (F := Ideal) (m ((c.tc : Thread Cert.ChipSmallIdeal.nD Cert.ChipSmallIdeal.τ).loc Cert.ChipSmallIdeal.main_arg0)) (m ((c.tc : Thread Cert.ChipSmallIdeal.nD Cert.ChipSmallIdeal.τ).loc Cert.ChipSmallIdeal.main_arg1))) = (fun _ => 1#1)

def Pre_ChipSmallRefIdeal (m : (ℓ : Loc Cert.ChipSmallRefIdeal.nD Cert.ChipSmallRefIdeal.τ Cert.ChipSmallRefIdeal.sig) → Buf (Elt Ideal) ℓ) : Prop :=
  True

def Pre_ChipSmallRefIdeal_a_core_ChipSmall [hPre_a_core_ChipSmall : Cert.Pre_a_core_ChipSmall.Facts] (m : (ℓ : Loc Cert.ChipSmallRefIdeal.nD Cert.ChipSmallRefIdeal.τ Cert.ChipSmallRefIdeal.sig) → Buf (Elt Ideal) ℓ) : Prop :=
  ∀ c : Dev Cert.ChipSmallRefIdeal.nD,
    (Cert.Pre_a_core_ChipSmall.fn (F := Ideal) (m ((c.tc : Thread Cert.ChipSmallRefIdeal.nD Cert.ChipSmallRefIdeal.τ).loc Cert.ChipSmallRefIdeal.main_arg0)) (m ((c.tc : Thread Cert.ChipSmallRefIdeal.nD Cert.ChipSmallRefIdeal.τ).loc Cert.ChipSmallRefIdeal.main_arg1))) = (fun _ => 1#1)

def Pre_PairL0In [hPre_a_core_PairL0In : Cert.Pre_a_core_PairL0In.Facts] (m : (ℓ : Loc Cert.PairL0In.nD Cert.PairL0In.τ Cert.PairL0In.sig) → Buf (Elt Bits) ℓ) : Prop :=
  ∀ c : Dev Cert.PairL0In.nD,
    (Cert.Pre_a_core_PairL0In.fn (F := Bits) (m ((c.tc : Thread Cert.PairL0In.nD Cert.PairL0In.τ).loc Cert.PairL0In.main_arg0)) (m ((c.tc : Thread Cert.PairL0In.nD Cert.PairL0In.τ).loc Cert.PairL0In.main_arg1)) (m ((c.tc : Thread Cert.PairL0In.nD Cert.PairL0In.τ).loc Cert.PairL0In.main_arg2))) = (fun _ => 1#1)

def Pre_PairL0InIdeal [hPre_a_core_PairL0In : Cert.Pre_a_core_PairL0In.Facts] (m : (ℓ : Loc Cert.PairL0InIdeal.nD Cert.PairL0InIdeal.τ Cert.PairL0InIdeal.sig) → Buf (Elt Ideal) ℓ) : Prop :=
  ∀ c : Dev Cert.PairL0InIdeal.nD,
    (Cert.Pre_a_core_PairL0In.fn (F := Ideal) (m ((c.tc : Thread Cert.PairL0InIdeal.nD Cert.PairL0InIdeal.τ).loc Cert.PairL0InIdeal.main_arg0)) (m ((c.tc : Thread Cert.PairL0InIdeal.nD Cert.PairL0InIdeal.τ).loc Cert.PairL0InIdeal.main_arg1)) (m ((c.tc : Thread Cert.PairL0InIdeal.nD Cert.PairL0InIdeal.τ).loc Cert.PairL0InIdeal.main_arg2))) = (fun _ => 1#1)

def Pre_PairL0InRefIdeal (m : (ℓ : Loc Cert.PairL0InRefIdeal.nD Cert.PairL0InRefIdeal.τ Cert.PairL0InRefIdeal.sig) → Buf (Elt Ideal) ℓ) : Prop :=
  True

def Pre_PairL0InRefIdeal_a_core_PairL0In [hPre_a_core_PairL0In : Cert.Pre_a_core_PairL0In.Facts] (m : (ℓ : Loc Cert.PairL0InRefIdeal.nD Cert.PairL0InRefIdeal.τ Cert.PairL0InRefIdeal.sig) → Buf (Elt Ideal) ℓ) : Prop :=
  ∀ c : Dev Cert.PairL0InRefIdeal.nD,
    (Cert.Pre_a_core_PairL0In.fn (F := Ideal) (m ((c.tc : Thread Cert.PairL0InRefIdeal.nD Cert.PairL0InRefIdeal.τ).loc Cert.PairL0InRefIdeal.main_arg0)) (m ((c.tc : Thread Cert.PairL0InRefIdeal.nD Cert.PairL0InRefIdeal.τ).loc Cert.PairL0InRefIdeal.main_arg1)) (m ((c.tc : Thread Cert.PairL0InRefIdeal.nD Cert.PairL0InRefIdeal.τ).loc Cert.PairL0InRefIdeal.main_arg2))) = (fun _ => 1#1)

def Pre_PairL1In [hPre_a_core_PairL1In : Cert.Pre_a_core_PairL1In.Facts] (m : (ℓ : Loc Cert.PairL1In.nD Cert.PairL1In.τ Cert.PairL1In.sig) → Buf (Elt Bits) ℓ) : Prop :=
  ∀ c : Dev Cert.PairL1In.nD,
    (Cert.Pre_a_core_PairL1In.fn (F := Bits) (m ((c.tc : Thread Cert.PairL1In.nD Cert.PairL1In.τ).loc Cert.PairL1In.main_arg0)) (m ((c.tc : Thread Cert.PairL1In.nD Cert.PairL1In.τ).loc Cert.PairL1In.main_arg1)) (m ((c.tc : Thread Cert.PairL1In.nD Cert.PairL1In.τ).loc Cert.PairL1In.main_arg2))) = (fun _ => 1#1)

def Pre_PairL1InIdeal [hPre_a_core_PairL1In : Cert.Pre_a_core_PairL1In.Facts] (m : (ℓ : Loc Cert.PairL1InIdeal.nD Cert.PairL1InIdeal.τ Cert.PairL1InIdeal.sig) → Buf (Elt Ideal) ℓ) : Prop :=
  ∀ c : Dev Cert.PairL1InIdeal.nD,
    (Cert.Pre_a_core_PairL1In.fn (F := Ideal) (m ((c.tc : Thread Cert.PairL1InIdeal.nD Cert.PairL1InIdeal.τ).loc Cert.PairL1InIdeal.main_arg0)) (m ((c.tc : Thread Cert.PairL1InIdeal.nD Cert.PairL1InIdeal.τ).loc Cert.PairL1InIdeal.main_arg1)) (m ((c.tc : Thread Cert.PairL1InIdeal.nD Cert.PairL1InIdeal.τ).loc Cert.PairL1InIdeal.main_arg2))) = (fun _ => 1#1)

def Pre_PairL1InRefIdeal (m : (ℓ : Loc Cert.PairL1InRefIdeal.nD Cert.PairL1InRefIdeal.τ Cert.PairL1InRefIdeal.sig) → Buf (Elt Ideal) ℓ) : Prop :=
  True

def Pre_PairL1InRefIdeal_a_core_PairL1In [hPre_a_core_PairL1In : Cert.Pre_a_core_PairL1In.Facts] (m : (ℓ : Loc Cert.PairL1InRefIdeal.nD Cert.PairL1InRefIdeal.τ Cert.PairL1InRefIdeal.sig) → Buf (Elt Ideal) ℓ) : Prop :=
  ∀ c : Dev Cert.PairL1InRefIdeal.nD,
    (Cert.Pre_a_core_PairL1In.fn (F := Ideal) (m ((c.tc : Thread Cert.PairL1InRefIdeal.nD Cert.PairL1InRefIdeal.τ).loc Cert.PairL1InRefIdeal.main_arg0)) (m ((c.tc : Thread Cert.PairL1InRefIdeal.nD Cert.PairL1InRefIdeal.τ).loc Cert.PairL1InRefIdeal.main_arg1)) (m ((c.tc : Thread Cert.PairL1InRefIdeal.nD Cert.PairL1InRefIdeal.τ).loc Cert.PairL1InRefIdeal.main_arg2))) = (fun _ => 1#1)

def Pre_PairUp [hPre_a_core_PairUp : Cert.Pre_a_core_PairUp.Facts] (m : (ℓ : Loc Cert.PairUp.nD Cert.PairUp.τ Cert.PairUp.sig) → Buf (Elt Bits) ℓ) : Prop :=
  ∀ c : Dev Cert.PairUp.nD,
    (Cert.Pre_a_core_PairUp.fn (F := Bits) (m ((c.tc : Thread Cert.PairUp.nD Cert.PairUp.τ).loc Cert.PairUp.main_arg0)) (m ((c.tc : Thread Cert.PairUp.nD Cert.PairUp.τ).loc Cert.PairUp.main_arg1)) (m ((c.tc : Thread Cert.PairUp.nD Cert.PairUp.τ).loc Cert.PairUp.main_arg2))) = (fun _ => 1#1)

def Pre_PairUpIdeal [hPre_a_core_PairUp : Cert.Pre_a_core_PairUp.Facts] (m : (ℓ : Loc Cert.PairUpIdeal.nD Cert.PairUpIdeal.τ Cert.PairUpIdeal.sig) → Buf (Elt Ideal) ℓ) : Prop :=
  ∀ c : Dev Cert.PairUpIdeal.nD,
    (Cert.Pre_a_core_PairUp.fn (F := Ideal) (m ((c.tc : Thread Cert.PairUpIdeal.nD Cert.PairUpIdeal.τ).loc Cert.PairUpIdeal.main_arg0)) (m ((c.tc : Thread Cert.PairUpIdeal.nD Cert.PairUpIdeal.τ).loc Cert.PairUpIdeal.main_arg1)) (m ((c.tc : Thread Cert.PairUpIdeal.nD Cert.PairUpIdeal.τ).loc Cert.PairUpIdeal.main_arg2))) = (fun _ => 1#1)

def Pre_PairUpRefIdeal (m : (ℓ : Loc Cert.PairUpRefIdeal.nD Cert.PairUpRefIdeal.τ Cert.PairUpRefIdeal.sig) → Buf (Elt Ideal) ℓ) : Prop :=
  True

def Pre_PairUpRefIdeal_a_core_PairUp [hPre_a_core_PairUp : Cert.Pre_a_core_PairUp.Facts] (m : (ℓ : Loc Cert.PairUpRefIdeal.nD Cert.PairUpRefIdeal.τ Cert.PairUpRefIdeal.sig) → Buf (Elt Ideal) ℓ) : Prop :=
  ∀ c : Dev Cert.PairUpRefIdeal.nD,
    (Cert.Pre_a_core_PairUp.fn (F := Ideal) (m ((c.tc : Thread Cert.PairUpRefIdeal.nD Cert.PairUpRefIdeal.τ).loc Cert.PairUpRefIdeal.main_arg0)) (m ((c.tc : Thread Cert.PairUpRefIdeal.nD Cert.PairUpRefIdeal.τ).loc Cert.PairUpRefIdeal.main_arg1)) (m ((c.tc : Thread Cert.PairUpRefIdeal.nD Cert.PairUpRefIdeal.τ).loc Cert.PairUpRefIdeal.main_arg2))) = (fun _ => 1#1)

def Pre_PairDown [hPre_a_core_PairDown : Cert.Pre_a_core_PairDown.Facts] (m : (ℓ : Loc Cert.PairDown.nD Cert.PairDown.τ Cert.PairDown.sig) → Buf (Elt Bits) ℓ) : Prop :=
  ∀ c : Dev Cert.PairDown.nD,
    (Cert.Pre_a_core_PairDown.fn (F := Bits) (m ((c.tc : Thread Cert.PairDown.nD Cert.PairDown.τ).loc Cert.PairDown.main_arg0)) (m ((c.tc : Thread Cert.PairDown.nD Cert.PairDown.τ).loc Cert.PairDown.main_arg1)) (m ((c.tc : Thread Cert.PairDown.nD Cert.PairDown.τ).loc Cert.PairDown.main_arg2))) = (fun _ => 1#1)

def Pre_PairDownIdeal [hPre_a_core_PairDown : Cert.Pre_a_core_PairDown.Facts] (m : (ℓ : Loc Cert.PairDownIdeal.nD Cert.PairDownIdeal.τ Cert.PairDownIdeal.sig) → Buf (Elt Ideal) ℓ) : Prop :=
  ∀ c : Dev Cert.PairDownIdeal.nD,
    (Cert.Pre_a_core_PairDown.fn (F := Ideal) (m ((c.tc : Thread Cert.PairDownIdeal.nD Cert.PairDownIdeal.τ).loc Cert.PairDownIdeal.main_arg0)) (m ((c.tc : Thread Cert.PairDownIdeal.nD Cert.PairDownIdeal.τ).loc Cert.PairDownIdeal.main_arg1)) (m ((c.tc : Thread Cert.PairDownIdeal.nD Cert.PairDownIdeal.τ).loc Cert.PairDownIdeal.main_arg2))) = (fun _ => 1#1)

def Pre_PairDownRefIdeal (m : (ℓ : Loc Cert.PairDownRefIdeal.nD Cert.PairDownRefIdeal.τ Cert.PairDownRefIdeal.sig) → Buf (Elt Ideal) ℓ) : Prop :=
  True

def Pre_PairDownRefIdeal_a_core_PairDown [hPre_a_core_PairDown : Cert.Pre_a_core_PairDown.Facts] (m : (ℓ : Loc Cert.PairDownRefIdeal.nD Cert.PairDownRefIdeal.τ Cert.PairDownRefIdeal.sig) → Buf (Elt Ideal) ℓ) : Prop :=
  ∀ c : Dev Cert.PairDownRefIdeal.nD,
    (Cert.Pre_a_core_PairDown.fn (F := Ideal) (m ((c.tc : Thread Cert.PairDownRefIdeal.nD Cert.PairDownRefIdeal.τ).loc Cert.PairDownRefIdeal.main_arg0)) (m ((c.tc : Thread Cert.PairDownRefIdeal.nD Cert.PairDownRefIdeal.τ).loc Cert.PairDownRefIdeal.main_arg1)) (m ((c.tc : Thread Cert.PairDownRefIdeal.nD Cert.PairDownRefIdeal.τ).loc Cert.PairDownRefIdeal.main_arg2))) = (fun _ => 1#1)

def Pre_PairOut [hPre_a_core_PairOut : Cert.Pre_a_core_PairOut.Facts] (m : (ℓ : Loc Cert.PairOut.nD Cert.PairOut.τ Cert.PairOut.sig) → Buf (Elt Bits) ℓ) : Prop :=
  ∀ c : Dev Cert.PairOut.nD,
    (Cert.Pre_a_core_PairOut.fn (F := Bits) (m ((c.tc : Thread Cert.PairOut.nD Cert.PairOut.τ).loc Cert.PairOut.main_arg0)) (m ((c.tc : Thread Cert.PairOut.nD Cert.PairOut.τ).loc Cert.PairOut.main_arg1)) (m ((c.tc : Thread Cert.PairOut.nD Cert.PairOut.τ).loc Cert.PairOut.main_arg2))) = (fun _ => 1#1)

def Pre_PairOutIdeal [hPre_a_core_PairOut : Cert.Pre_a_core_PairOut.Facts] (m : (ℓ : Loc Cert.PairOutIdeal.nD Cert.PairOutIdeal.τ Cert.PairOutIdeal.sig) → Buf (Elt Ideal) ℓ) : Prop :=
  ∀ c : Dev Cert.PairOutIdeal.nD,
    (Cert.Pre_a_core_PairOut.fn (F := Ideal) (m ((c.tc : Thread Cert.PairOutIdeal.nD Cert.PairOutIdeal.τ).loc Cert.PairOutIdeal.main_arg0)) (m ((c.tc : Thread Cert.PairOutIdeal.nD Cert.PairOutIdeal.τ).loc Cert.PairOutIdeal.main_arg1)) (m ((c.tc : Thread Cert.PairOutIdeal.nD Cert.PairOutIdeal.τ).loc Cert.PairOutIdeal.main_arg2))) = (fun _ => 1#1)

def Pre_PairOutRefIdeal (m : (ℓ : Loc Cert.PairOutRefIdeal.nD Cert.PairOutRefIdeal.τ Cert.PairOutRefIdeal.sig) → Buf (Elt Ideal) ℓ) : Prop :=
  True

def Pre_PairOutRefIdeal_a_core_PairOut [hPre_a_core_PairOut : Cert.Pre_a_core_PairOut.Facts] (m : (ℓ : Loc Cert.PairOutRefIdeal.nD Cert.PairOutRefIdeal.τ Cert.PairOutRefIdeal.sig) → Buf (Elt Ideal) ℓ) : Prop :=
  ∀ c : Dev Cert.PairOutRefIdeal.nD,
    (Cert.Pre_a_core_PairOut.fn (F := Ideal) (m ((c.tc : Thread Cert.PairOutRefIdeal.nD Cert.PairOutRefIdeal.τ).loc Cert.PairOutRefIdeal.main_arg0)) (m ((c.tc : Thread Cert.PairOutRefIdeal.nD Cert.PairOutRefIdeal.τ).loc Cert.PairOutRefIdeal.main_arg1)) (m ((c.tc : Thread Cert.PairOutRefIdeal.nD Cert.PairOutRefIdeal.τ).loc Cert.PairOutRefIdeal.main_arg2))) = (fun _ => 1#1)

def Pre_PairSmall [hPre_a_core_PairSmall : Cert.Pre_a_core_PairSmall.Facts] (m : (ℓ : Loc Cert.PairSmall.nD Cert.PairSmall.τ Cert.PairSmall.sig) → Buf (Elt Bits) ℓ) : Prop :=
  ∀ c : Dev Cert.PairSmall.nD,
    (Cert.Pre_a_core_PairSmall.fn (F := Bits) (m ((c.tc : Thread Cert.PairSmall.nD Cert.PairSmall.τ).loc Cert.PairSmall.main_arg0)) (m ((c.tc : Thread Cert.PairSmall.nD Cert.PairSmall.τ).loc Cert.PairSmall.main_arg1)) (m ((c.tc : Thread Cert.PairSmall.nD Cert.PairSmall.τ).loc Cert.PairSmall.main_arg2))) = (fun _ => 1#1)

def Pre_PairSmallIdeal [hPre_a_core_PairSmall : Cert.Pre_a_core_PairSmall.Facts] (m : (ℓ : Loc Cert.PairSmallIdeal.nD Cert.PairSmallIdeal.τ Cert.PairSmallIdeal.sig) → Buf (Elt Ideal) ℓ) : Prop :=
  ∀ c : Dev Cert.PairSmallIdeal.nD,
    (Cert.Pre_a_core_PairSmall.fn (F := Ideal) (m ((c.tc : Thread Cert.PairSmallIdeal.nD Cert.PairSmallIdeal.τ).loc Cert.PairSmallIdeal.main_arg0)) (m ((c.tc : Thread Cert.PairSmallIdeal.nD Cert.PairSmallIdeal.τ).loc Cert.PairSmallIdeal.main_arg1)) (m ((c.tc : Thread Cert.PairSmallIdeal.nD Cert.PairSmallIdeal.τ).loc Cert.PairSmallIdeal.main_arg2))) = (fun _ => 1#1)

def Pre_PairSmallRefIdeal (m : (ℓ : Loc Cert.PairSmallRefIdeal.nD Cert.PairSmallRefIdeal.τ Cert.PairSmallRefIdeal.sig) → Buf (Elt Ideal) ℓ) : Prop :=
  True

def Pre_PairSmallRefIdeal_a_core_PairSmall [hPre_a_core_PairSmall : Cert.Pre_a_core_PairSmall.Facts] (m : (ℓ : Loc Cert.PairSmallRefIdeal.nD Cert.PairSmallRefIdeal.τ Cert.PairSmallRefIdeal.sig) → Buf (Elt Ideal) ℓ) : Prop :=
  ∀ c : Dev Cert.PairSmallRefIdeal.nD,
    (Cert.Pre_a_core_PairSmall.fn (F := Ideal) (m ((c.tc : Thread Cert.PairSmallRefIdeal.nD Cert.PairSmallRefIdeal.τ).loc Cert.PairSmallRefIdeal.main_arg0)) (m ((c.tc : Thread Cert.PairSmallRefIdeal.nD Cert.PairSmallRefIdeal.τ).loc Cert.PairSmallRefIdeal.main_arg1)) (m ((c.tc : Thread Cert.PairSmallRefIdeal.nD Cert.PairSmallRefIdeal.τ).loc Cert.PairSmallRefIdeal.main_arg2))) = (fun _ => 1#1)

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumRefIdeal (m : (ℓ : Loc Cert.LossSumRefIdeal.nD Cert.LossSumRefIdeal.τ Cert.LossSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_HalfDx [hHalfDx : Cert.HalfDx.Facts] : Prop :=
  ∀ (m : (ℓ : Loc Cert.HalfDx.nD Cert.HalfDx.τ Cert.HalfDx.sig) → Buf (Elt Bits) ℓ) (g : Dev Cert.HalfDx.nD → PrngReg), Pre_HalfDx m →
    θ_run (Cert.HalfDx.defs (F := Bits)) (onTc (τ := Cert.HalfDx.τ) (Cert.HalfDx.main (F := Bits))) ⟨m, fun _ => 0, g⟩ (fun r => (∀ c : Dev Cert.HalfDx.nD,
      r.2.mem ((c.tc : Thread Cert.HalfDx.nD Cert.HalfDx.τ).loc Cert.HalfDx.main_arg0) = m ((c.tc : Thread Cert.HalfDx.nD Cert.HalfDx.τ).loc Cert.HalfDx.main_arg0)
      ∧ r.2.mem ((c.tc : Thread Cert.HalfDx.nD Cert.HalfDx.τ).loc Cert.HalfDx.main_arg1) = m ((c.tc : Thread Cert.HalfDx.nD Cert.HalfDx.τ).loc Cert.HalfDx.main_arg1)
      ∧ r.2.mem ((c.tc : Thread Cert.HalfDx.nD Cert.HalfDx.τ).loc Cert.HalfDx.main_arg2) = m ((c.tc : Thread Cert.HalfDx.nD Cert.HalfDx.τ).loc Cert.HalfDx.main_arg2))
      ∧ r.2.sem = fun _ => 0)

def quiescent_HalfDxIdeal [hHalfDxIdeal : Cert.HalfDxIdeal.Facts] : Prop :=
  ∀ (m : (ℓ : Loc Cert.HalfDxIdeal.nD Cert.HalfDxIdeal.τ Cert.HalfDxIdeal.sig) → Buf (Elt Ideal) ℓ) (g : Dev Cert.HalfDxIdeal.nD → PrngReg), Pre_HalfDxIdeal m →
    θ_run (Cert.HalfDxIdeal.defs (F := Ideal)) (onTc (τ := Cert.HalfDxIdeal.τ) (Cert.HalfDxIdeal.main (F := Ideal))) ⟨m, fun _ => 0, g⟩ (fun r => (∀ c : Dev Cert.HalfDxIdeal.nD,
      r.2.mem ((c.tc : Thread Cert.HalfDxIdeal.nD Cert.HalfDxIdeal.τ).loc Cert.HalfDxIdeal.main_arg0) = m ((c.tc : Thread Cert.HalfDxIdeal.nD Cert.HalfDxIdeal.τ).loc Cert.HalfDxIdeal.main_arg0)
      ∧ r.2.mem ((c.tc : Thread Cert.HalfDxIdeal.nD Cert.HalfDxIdeal.τ).loc Cert.HalfDxIdeal.main_arg1) = m ((c.tc : Thread Cert.HalfDxIdeal.nD Cert.HalfDxIdeal.τ).loc Cert.HalfDxIdeal.main_arg1)
      ∧ r.2.mem ((c.tc : Thread Cert.HalfDxIdeal.nD Cert.HalfDxIdeal.τ).loc Cert.HalfDxIdeal.main_arg2) = m ((c.tc : Thread Cert.HalfDxIdeal.nD Cert.HalfDxIdeal.τ).loc Cert.HalfDxIdeal.main_arg2))
      ∧ r.2.sem = fun _ => 0)

def quiescent_HalfDxRefIdeal [hHalfDxRefIdeal : Cert.HalfDxRefIdeal.Facts] : Prop :=
  ∀ (m : (ℓ : Loc Cert.HalfDxRefIdeal.nD Cert.HalfDxRefIdeal.τ Cert.HalfDxRefIdeal.sig) → Buf (Elt Ideal) ℓ) (g : Dev Cert.HalfDxRefIdeal.nD → PrngReg), Pre_HalfDxRefIdeal m →
    θ_run (Cert.HalfDxRefIdeal.defs (F := Ideal)) (onTc (τ := Cert.HalfDxRefIdeal.τ) (Cert.HalfDxRefIdeal.main (F := Ideal))) ⟨m, fun _ => 0, g⟩ (fun r => (∀ c : Dev Cert.HalfDxRefIdeal.nD,
      r.2.mem ((c.tc : Thread Cert.HalfDxRefIdeal.nD Cert.HalfDxRefIdeal.τ).loc Cert.HalfDxRefIdeal.main_arg0) = m ((c.tc : Thread Cert.HalfDxRefIdeal.nD Cert.HalfDxRefIdeal.τ).loc Cert.HalfDxRefIdeal.main_arg0)
      ∧ r.2.mem ((c.tc : Thread Cert.HalfDxRefIdeal.nD Cert.HalfDxRefIdeal.τ).loc Cert.HalfDxRefIdeal.main_arg1) = m ((c.tc : Thread Cert.HalfDxRefIdeal.nD Cert.HalfDxRefIdeal.τ).loc Cert.HalfDxRefIdeal.main_arg1)
      ∧ r.2.mem ((c.tc : Thread Cert.HalfDxRefIdeal.nD Cert.HalfDxRefIdeal.τ).loc Cert.HalfDxRefIdeal.main_arg2) = m ((c.tc : Thread Cert.HalfDxRefIdeal.nD Cert.HalfDxRefIdeal.τ).loc Cert.HalfDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_L0Proj [hL0Proj : Cert.L0Proj.Facts] : Prop :=
  ∀ (m : (ℓ : Loc Cert.L0Proj.nD Cert.L0Proj.τ Cert.L0Proj.sig) → Buf (Elt Bits) ℓ) (g : Dev Cert.L0Proj.nD → PrngReg), Pre_L0Proj m →
    θ_run (Cert.L0Proj.defs (F := Bits)) (onTc (τ := Cert.L0Proj.τ) (Cert.L0Proj.main (F := Bits))) ⟨m, fun _ => 0, g⟩ (fun r => (∀ c : Dev Cert.L0Proj.nD,
      r.2.mem ((c.tc : Thread Cert.L0Proj.nD Cert.L0Proj.τ).loc Cert.L0Proj.main_arg0) = m ((c.tc : Thread Cert.L0Proj.nD Cert.L0Proj.τ).loc Cert.L0Proj.main_arg0)
      ∧ r.2.mem ((c.tc : Thread Cert.L0Proj.nD Cert.L0Proj.τ).loc Cert.L0Proj.main_arg1) = m ((c.tc : Thread Cert.L0Proj.nD Cert.L0Proj.τ).loc Cert.L0Proj.main_arg1))
      ∧ r.2.sem = fun _ => 0)

def quiescent_L0ProjIdeal [hL0ProjIdeal : Cert.L0ProjIdeal.Facts] : Prop :=
  ∀ (m : (ℓ : Loc Cert.L0ProjIdeal.nD Cert.L0ProjIdeal.τ Cert.L0ProjIdeal.sig) → Buf (Elt Ideal) ℓ) (g : Dev Cert.L0ProjIdeal.nD → PrngReg), Pre_L0ProjIdeal m →
    θ_run (Cert.L0ProjIdeal.defs (F := Ideal)) (onTc (τ := Cert.L0ProjIdeal.τ) (Cert.L0ProjIdeal.main (F := Ideal))) ⟨m, fun _ => 0, g⟩ (fun r => (∀ c : Dev Cert.L0ProjIdeal.nD,
      r.2.mem ((c.tc : Thread Cert.L0ProjIdeal.nD Cert.L0ProjIdeal.τ).loc Cert.L0ProjIdeal.main_arg0) = m ((c.tc : Thread Cert.L0ProjIdeal.nD Cert.L0ProjIdeal.τ).loc Cert.L0ProjIdeal.main_arg0)
      ∧ r.2.mem ((c.tc : Thread Cert.L0ProjIdeal.nD Cert.L0ProjIdeal.τ).loc Cert.L0ProjIdeal.main_arg1) = m ((c.tc : Thread Cert.L0ProjIdeal.nD Cert.L0ProjIdeal.τ).loc Cert.L0ProjIdeal.main_arg1))
      ∧ r.2.sem = fun _ => 0)

def quiescent_L0ProjRefIdeal [hL0ProjRefIdeal : Cert.L0ProjRefIdeal.Facts] : Prop :=
  ∀ (m : (ℓ : Loc Cert.L0ProjRefIdeal.nD Cert.L0ProjRefIdeal.τ Cert.L0ProjRefIdeal.sig) → Buf (Elt Ideal) ℓ) (g : Dev Cert.L0ProjRefIdeal.nD → PrngReg), Pre_L0ProjRefIdeal m →
    θ_run (Cert.L0ProjRefIdeal.defs (F := Ideal)) (onTc (τ := Cert.L0ProjRefIdeal.τ) (Cert.L0ProjRefIdeal.main (F := Ideal))) ⟨m, fun _ => 0, g⟩ (fun r => (∀ c : Dev Cert.L0ProjRefIdeal.nD,
      r.2.mem ((c.tc : Thread Cert.L0ProjRefIdeal.nD Cert.L0ProjRefIdeal.τ).loc Cert.L0ProjRefIdeal.main_arg0) = m ((c.tc : Thread Cert.L0ProjRefIdeal.nD Cert.L0ProjRefIdeal.τ).loc Cert.L0ProjRefIdeal.main_arg0)
      ∧ r.2.mem ((c.tc : Thread Cert.L0ProjRefIdeal.nD Cert.L0ProjRefIdeal.τ).loc Cert.L0ProjRefIdeal.main_arg1) = m ((c.tc : Thread Cert.L0ProjRefIdeal.nD Cert.L0ProjRefIdeal.τ).loc Cert.L0ProjRefIdeal.main_arg1))
      ∧ r.2.sem = fun _ => 0)

def quiescent_L0ProjDx [hL0ProjDx : Cert.L0ProjDx.Facts] : Prop :=
  ∀ (m : (ℓ : Loc Cert.L0ProjDx.nD Cert.L0ProjDx.τ Cert.L0ProjDx.sig) → Buf (Elt Bits) ℓ) (g : Dev Cert.L0ProjDx.nD → PrngReg), Pre_L0ProjDx m →
    θ_run (Cert.L0ProjDx.defs (F := Bits)) (onTc (τ := Cert.L0ProjDx.τ) (Cert.L0ProjDx.main (F := Bits))) ⟨m, fun _ => 0, g⟩ (fun r => (∀ c : Dev Cert.L0ProjDx.nD,
      r.2.mem ((c.tc : Thread Cert.L0ProjDx.nD Cert.L0ProjDx.τ).loc Cert.L0ProjDx.main_arg0) = m ((c.tc : Thread Cert.L0ProjDx.nD Cert.L0ProjDx.τ).loc Cert.L0ProjDx.main_arg0)
      ∧ r.2.mem ((c.tc : Thread Cert.L0ProjDx.nD Cert.L0ProjDx.τ).loc Cert.L0ProjDx.main_arg1) = m ((c.tc : Thread Cert.L0ProjDx.nD Cert.L0ProjDx.τ).loc Cert.L0ProjDx.main_arg1)
      ∧ r.2.mem ((c.tc : Thread Cert.L0ProjDx.nD Cert.L0ProjDx.τ).loc Cert.L0ProjDx.main_arg2) = m ((c.tc : Thread Cert.L0ProjDx.nD Cert.L0ProjDx.τ).loc Cert.L0ProjDx.main_arg2))
      ∧ r.2.sem = fun _ => 0)

def quiescent_L0ProjDxIdeal [hL0ProjDxIdeal : Cert.L0ProjDxIdeal.Facts] : Prop :=
  ∀ (m : (ℓ : Loc Cert.L0ProjDxIdeal.nD Cert.L0ProjDxIdeal.τ Cert.L0ProjDxIdeal.sig) → Buf (Elt Ideal) ℓ) (g : Dev Cert.L0ProjDxIdeal.nD → PrngReg), Pre_L0ProjDxIdeal m →
    θ_run (Cert.L0ProjDxIdeal.defs (F := Ideal)) (onTc (τ := Cert.L0ProjDxIdeal.τ) (Cert.L0ProjDxIdeal.main (F := Ideal))) ⟨m, fun _ => 0, g⟩ (fun r => (∀ c : Dev Cert.L0ProjDxIdeal.nD,
      r.2.mem ((c.tc : Thread Cert.L0ProjDxIdeal.nD Cert.L0ProjDxIdeal.τ).loc Cert.L0ProjDxIdeal.main_arg0) = m ((c.tc : Thread Cert.L0ProjDxIdeal.nD Cert.L0ProjDxIdeal.τ).loc Cert.L0ProjDxIdeal.main_arg0)
      ∧ r.2.mem ((c.tc : Thread Cert.L0ProjDxIdeal.nD Cert.L0ProjDxIdeal.τ).loc Cert.L0ProjDxIdeal.main_arg1) = m ((c.tc : Thread Cert.L0ProjDxIdeal.nD Cert.L0ProjDxIdeal.τ).loc Cert.L0ProjDxIdeal.main_arg1)
      ∧ r.2.mem ((c.tc : Thread Cert.L0ProjDxIdeal.nD Cert.L0ProjDxIdeal.τ).loc Cert.L0ProjDxIdeal.main_arg2) = m ((c.tc : Thread Cert.L0ProjDxIdeal.nD Cert.L0ProjDxIdeal.τ).loc Cert.L0ProjDxIdeal.main_arg2))
      ∧ r.2.sem = fun _ => 0)

def quiescent_L0ProjDxRefIdeal [hL0ProjDxRefIdeal : Cert.L0ProjDxRefIdeal.Facts] : Prop :=
  ∀ (m : (ℓ : Loc Cert.L0ProjDxRefIdeal.nD Cert.L0ProjDxRefIdeal.τ Cert.L0ProjDxRefIdeal.sig) → Buf (Elt Ideal) ℓ) (g : Dev Cert.L0ProjDxRefIdeal.nD → PrngReg), Pre_L0ProjDxRefIdeal m →
    θ_run (Cert.L0ProjDxRefIdeal.defs (F := Ideal)) (onTc (τ := Cert.L0ProjDxRefIdeal.τ) (Cert.L0ProjDxRefIdeal.main (F := Ideal))) ⟨m, fun _ => 0, g⟩ (fun r => (∀ c : Dev Cert.L0ProjDxRefIdeal.nD,
      r.2.mem ((c.tc : Thread Cert.L0ProjDxRefIdeal.nD Cert.L0ProjDxRefIdeal.τ).loc Cert.L0ProjDxRefIdeal.main_arg0) = m ((c.tc : Thread Cert.L0ProjDxRefIdeal.nD Cert.L0ProjDxRefIdeal.τ).loc Cert.L0ProjDxRefIdeal.main_arg0)
      ∧ r.2.mem ((c.tc : Thread Cert.L0ProjDxRefIdeal.nD Cert.L0ProjDxRefIdeal.τ).loc Cert.L0ProjDxRefIdeal.main_arg1) = m ((c.tc : Thread Cert.L0ProjDxRefIdeal.nD Cert.L0ProjDxRefIdeal.τ).loc Cert.L0ProjDxRefIdeal.main_arg1)
      ∧ r.2.mem ((c.tc : Thread Cert.L0ProjDxRefIdeal.nD Cert.L0ProjDxRefIdeal.τ).loc Cert.L0ProjDxRefIdeal.main_arg2) = m ((c.tc : Thread Cert.L0ProjDxRefIdeal.nD Cert.L0ProjDxRefIdeal.τ).loc Cert.L0ProjDxRefIdeal.main_arg2))
      ∧ r.2.sem = fun _ => 0)

def quiescent_L0ProjDw [hL0ProjDw : Cert.L0ProjDw.Facts] : Prop :=
  ∀ (m : (ℓ : Loc Cert.L0ProjDw.nD Cert.L0ProjDw.τ Cert.L0ProjDw.sig) → Buf (Elt Bits) ℓ) (g : Dev Cert.L0ProjDw.nD → PrngReg), Pre_L0ProjDw m →
    θ_run (Cert.L0ProjDw.defs (F := Bits)) (onTc (τ := Cert.L0ProjDw.τ) (Cert.L0ProjDw.main (F := Bits))) ⟨m, fun _ => 0, g⟩ (fun r => (∀ c : Dev Cert.L0ProjDw.nD,
      r.2.mem ((c.tc : Thread Cert.L0ProjDw.nD Cert.L0ProjDw.τ).loc Cert.L0ProjDw.main_arg0) = m ((c.tc : Thread Cert.L0ProjDw.nD Cert.L0ProjDw.τ).loc Cert.L0ProjDw.main_arg0)
      ∧ r.2.mem ((c.tc : Thread Cert.L0ProjDw.nD Cert.L0ProjDw.τ).loc Cert.L0ProjDw.main_arg1) = m ((c.tc : Thread Cert.L0ProjDw.nD Cert.L0ProjDw.τ).loc Cert.L0ProjDw.main_arg1))
      ∧ r.2.sem = fun _ => 0)

def quiescent_L0ProjDwIdeal [hL0ProjDwIdeal : Cert.L0ProjDwIdeal.Facts] : Prop :=
  ∀ (m : (ℓ : Loc Cert.L0ProjDwIdeal.nD Cert.L0ProjDwIdeal.τ Cert.L0ProjDwIdeal.sig) → Buf (Elt Ideal) ℓ) (g : Dev Cert.L0ProjDwIdeal.nD → PrngReg), Pre_L0ProjDwIdeal m →
    θ_run (Cert.L0ProjDwIdeal.defs (F := Ideal)) (onTc (τ := Cert.L0ProjDwIdeal.τ) (Cert.L0ProjDwIdeal.main (F := Ideal))) ⟨m, fun _ => 0, g⟩ (fun r => (∀ c : Dev Cert.L0ProjDwIdeal.nD,
      r.2.mem ((c.tc : Thread Cert.L0ProjDwIdeal.nD Cert.L0ProjDwIdeal.τ).loc Cert.L0ProjDwIdeal.main_arg0) = m ((c.tc : Thread Cert.L0ProjDwIdeal.nD Cert.L0ProjDwIdeal.τ).loc Cert.L0ProjDwIdeal.main_arg0)
      ∧ r.2.mem ((c.tc : Thread Cert.L0ProjDwIdeal.nD Cert.L0ProjDwIdeal.τ).loc Cert.L0ProjDwIdeal.main_arg1) = m ((c.tc : Thread Cert.L0ProjDwIdeal.nD Cert.L0ProjDwIdeal.τ).loc Cert.L0ProjDwIdeal.main_arg1))
      ∧ r.2.sem = fun _ => 0)

def quiescent_L0ProjDwRefIdeal [hL0ProjDwRefIdeal : Cert.L0ProjDwRefIdeal.Facts] : Prop :=
  ∀ (m : (ℓ : Loc Cert.L0ProjDwRefIdeal.nD Cert.L0ProjDwRefIdeal.τ Cert.L0ProjDwRefIdeal.sig) → Buf (Elt Ideal) ℓ) (g : Dev Cert.L0ProjDwRefIdeal.nD → PrngReg), Pre_L0ProjDwRefIdeal m →
    θ_run (Cert.L0ProjDwRefIdeal.defs (F := Ideal)) (onTc (τ := Cert.L0ProjDwRefIdeal.τ) (Cert.L0ProjDwRefIdeal.main (F := Ideal))) ⟨m, fun _ => 0, g⟩ (fun r => (∀ c : Dev Cert.L0ProjDwRefIdeal.nD,
      r.2.mem ((c.tc : Thread Cert.L0ProjDwRefIdeal.nD Cert.L0ProjDwRefIdeal.τ).loc Cert.L0ProjDwRefIdeal.main_arg0) = m ((c.tc : Thread Cert.L0ProjDwRefIdeal.nD Cert.L0ProjDwRefIdeal.τ).loc Cert.L0ProjDwRefIdeal.main_arg0)
      ∧ r.2.mem ((c.tc : Thread Cert.L0ProjDwRefIdeal.nD Cert.L0ProjDwRefIdeal.τ).loc Cert.L0ProjDwRefIdeal.main_arg1) = m ((c.tc : Thread Cert.L0ProjDwRefIdeal.nD Cert.L0ProjDwRefIdeal.τ).loc Cert.L0ProjDwRefIdeal.main_arg1))
      ∧ r.2.sem = fun _ => 0)

def quiescent_L1Proj [hL1Proj : Cert.L1Proj.Facts] : Prop :=
  ∀ (m : (ℓ : Loc Cert.L1Proj.nD Cert.L1Proj.τ Cert.L1Proj.sig) → Buf (Elt Bits) ℓ) (g : Dev Cert.L1Proj.nD → PrngReg), Pre_L1Proj m →
    θ_run (Cert.L1Proj.defs (F := Bits)) (onTc (τ := Cert.L1Proj.τ) (Cert.L1Proj.main (F := Bits))) ⟨m, fun _ => 0, g⟩ (fun r => (∀ c : Dev Cert.L1Proj.nD,
      r.2.mem ((c.tc : Thread Cert.L1Proj.nD Cert.L1Proj.τ).loc Cert.L1Proj.main_arg0) = m ((c.tc : Thread Cert.L1Proj.nD Cert.L1Proj.τ).loc Cert.L1Proj.main_arg0)
      ∧ r.2.mem ((c.tc : Thread Cert.L1Proj.nD Cert.L1Proj.τ).loc Cert.L1Proj.main_arg1) = m ((c.tc : Thread Cert.L1Proj.nD Cert.L1Proj.τ).loc Cert.L1Proj.main_arg1))
      ∧ r.2.sem = fun _ => 0)

def quiescent_L1ProjIdeal [hL1ProjIdeal : Cert.L1ProjIdeal.Facts] : Prop :=
  ∀ (m : (ℓ : Loc Cert.L1ProjIdeal.nD Cert.L1ProjIdeal.τ Cert.L1ProjIdeal.sig) → Buf (Elt Ideal) ℓ) (g : Dev Cert.L1ProjIdeal.nD → PrngReg), Pre_L1ProjIdeal m →
    θ_run (Cert.L1ProjIdeal.defs (F := Ideal)) (onTc (τ := Cert.L1ProjIdeal.τ) (Cert.L1ProjIdeal.main (F := Ideal))) ⟨m, fun _ => 0, g⟩ (fun r => (∀ c : Dev Cert.L1ProjIdeal.nD,
      r.2.mem ((c.tc : Thread Cert.L1ProjIdeal.nD Cert.L1ProjIdeal.τ).loc Cert.L1ProjIdeal.main_arg0) = m ((c.tc : Thread Cert.L1ProjIdeal.nD Cert.L1ProjIdeal.τ).loc Cert.L1ProjIdeal.main_arg0)
      ∧ r.2.mem ((c.tc : Thread Cert.L1ProjIdeal.nD Cert.L1ProjIdeal.τ).loc Cert.L1ProjIdeal.main_arg1) = m ((c.tc : Thread Cert.L1ProjIdeal.nD Cert.L1ProjIdeal.τ).loc Cert.L1ProjIdeal.main_arg1))
      ∧ r.2.sem = fun _ => 0)

def quiescent_L1ProjRefIdeal [hL1ProjRefIdeal : Cert.L1ProjRefIdeal.Facts] : Prop :=
  ∀ (m : (ℓ : Loc Cert.L1ProjRefIdeal.nD Cert.L1ProjRefIdeal.τ Cert.L1ProjRefIdeal.sig) → Buf (Elt Ideal) ℓ) (g : Dev Cert.L1ProjRefIdeal.nD → PrngReg), Pre_L1ProjRefIdeal m →
    θ_run (Cert.L1ProjRefIdeal.defs (F := Ideal)) (onTc (τ := Cert.L1ProjRefIdeal.τ) (Cert.L1ProjRefIdeal.main (F := Ideal))) ⟨m, fun _ => 0, g⟩ (fun r => (∀ c : Dev Cert.L1ProjRefIdeal.nD,
      r.2.mem ((c.tc : Thread Cert.L1ProjRefIdeal.nD Cert.L1ProjRefIdeal.τ).loc Cert.L1ProjRefIdeal.main_arg0) = m ((c.tc : Thread Cert.L1ProjRefIdeal.nD Cert.L1ProjRefIdeal.τ).loc Cert.L1ProjRefIdeal.main_arg0)
      ∧ r.2.mem ((c.tc : Thread Cert.L1ProjRefIdeal.nD Cert.L1ProjRefIdeal.τ).loc Cert.L1ProjRefIdeal.main_arg1) = m ((c.tc : Thread Cert.L1ProjRefIdeal.nD Cert.L1ProjRefIdeal.τ).loc Cert.L1ProjRefIdeal.main_arg1))
      ∧ r.2.sem = fun _ => 0)

def quiescent_L1ProjDx [hL1ProjDx : Cert.L1ProjDx.Facts] : Prop :=
  ∀ (m : (ℓ : Loc Cert.L1ProjDx.nD Cert.L1ProjDx.τ Cert.L1ProjDx.sig) → Buf (Elt Bits) ℓ) (g : Dev Cert.L1ProjDx.nD → PrngReg), Pre_L1ProjDx m →
    θ_run (Cert.L1ProjDx.defs (F := Bits)) (onTc (τ := Cert.L1ProjDx.τ) (Cert.L1ProjDx.main (F := Bits))) ⟨m, fun _ => 0, g⟩ (fun r => (∀ c : Dev Cert.L1ProjDx.nD,
      r.2.mem ((c.tc : Thread Cert.L1ProjDx.nD Cert.L1ProjDx.τ).loc Cert.L1ProjDx.main_arg0) = m ((c.tc : Thread Cert.L1ProjDx.nD Cert.L1ProjDx.τ).loc Cert.L1ProjDx.main_arg0)
      ∧ r.2.mem ((c.tc : Thread Cert.L1ProjDx.nD Cert.L1ProjDx.τ).loc Cert.L1ProjDx.main_arg1) = m ((c.tc : Thread Cert.L1ProjDx.nD Cert.L1ProjDx.τ).loc Cert.L1ProjDx.main_arg1)
      ∧ r.2.mem ((c.tc : Thread Cert.L1ProjDx.nD Cert.L1ProjDx.τ).loc Cert.L1ProjDx.main_arg2) = m ((c.tc : Thread Cert.L1ProjDx.nD Cert.L1ProjDx.τ).loc Cert.L1ProjDx.main_arg2))
      ∧ r.2.sem = fun _ => 0)

def quiescent_L1ProjDxIdeal [hL1ProjDxIdeal : Cert.L1ProjDxIdeal.Facts] : Prop :=
  ∀ (m : (ℓ : Loc Cert.L1ProjDxIdeal.nD Cert.L1ProjDxIdeal.τ Cert.L1ProjDxIdeal.sig) → Buf (Elt Ideal) ℓ) (g : Dev Cert.L1ProjDxIdeal.nD → PrngReg), Pre_L1ProjDxIdeal m →
    θ_run (Cert.L1ProjDxIdeal.defs (F := Ideal)) (onTc (τ := Cert.L1ProjDxIdeal.τ) (Cert.L1ProjDxIdeal.main (F := Ideal))) ⟨m, fun _ => 0, g⟩ (fun r => (∀ c : Dev Cert.L1ProjDxIdeal.nD,
      r.2.mem ((c.tc : Thread Cert.L1ProjDxIdeal.nD Cert.L1ProjDxIdeal.τ).loc Cert.L1ProjDxIdeal.main_arg0) = m ((c.tc : Thread Cert.L1ProjDxIdeal.nD Cert.L1ProjDxIdeal.τ).loc Cert.L1ProjDxIdeal.main_arg0)
      ∧ r.2.mem ((c.tc : Thread Cert.L1ProjDxIdeal.nD Cert.L1ProjDxIdeal.τ).loc Cert.L1ProjDxIdeal.main_arg1) = m ((c.tc : Thread Cert.L1ProjDxIdeal.nD Cert.L1ProjDxIdeal.τ).loc Cert.L1ProjDxIdeal.main_arg1)
      ∧ r.2.mem ((c.tc : Thread Cert.L1ProjDxIdeal.nD Cert.L1ProjDxIdeal.τ).loc Cert.L1ProjDxIdeal.main_arg2) = m ((c.tc : Thread Cert.L1ProjDxIdeal.nD Cert.L1ProjDxIdeal.τ).loc Cert.L1ProjDxIdeal.main_arg2))
      ∧ r.2.sem = fun _ => 0)

def quiescent_L1ProjDxRefIdeal [hL1ProjDxRefIdeal : Cert.L1ProjDxRefIdeal.Facts] : Prop :=
  ∀ (m : (ℓ : Loc Cert.L1ProjDxRefIdeal.nD Cert.L1ProjDxRefIdeal.τ Cert.L1ProjDxRefIdeal.sig) → Buf (Elt Ideal) ℓ) (g : Dev Cert.L1ProjDxRefIdeal.nD → PrngReg), Pre_L1ProjDxRefIdeal m →
    θ_run (Cert.L1ProjDxRefIdeal.defs (F := Ideal)) (onTc (τ := Cert.L1ProjDxRefIdeal.τ) (Cert.L1ProjDxRefIdeal.main (F := Ideal))) ⟨m, fun _ => 0, g⟩ (fun r => (∀ c : Dev Cert.L1ProjDxRefIdeal.nD,
      r.2.mem ((c.tc : Thread Cert.L1ProjDxRefIdeal.nD Cert.L1ProjDxRefIdeal.τ).loc Cert.L1ProjDxRefIdeal.main_arg0) = m ((c.tc : Thread Cert.L1ProjDxRefIdeal.nD Cert.L1ProjDxRefIdeal.τ).loc Cert.L1ProjDxRefIdeal.main_arg0)
      ∧ r.2.mem ((c.tc : Thread Cert.L1ProjDxRefIdeal.nD Cert.L1ProjDxRefIdeal.τ).loc Cert.L1ProjDxRefIdeal.main_arg1) = m ((c.tc : Thread Cert.L1ProjDxRefIdeal.nD Cert.L1ProjDxRefIdeal.τ).loc Cert.L1ProjDxRefIdeal.main_arg1)
      ∧ r.2.mem ((c.tc : Thread Cert.L1ProjDxRefIdeal.nD Cert.L1ProjDxRefIdeal.τ).loc Cert.L1ProjDxRefIdeal.main_arg2) = m ((c.tc : Thread Cert.L1ProjDxRefIdeal.nD Cert.L1ProjDxRefIdeal.τ).loc Cert.L1ProjDxRefIdeal.main_arg2))
      ∧ r.2.sem = fun _ => 0)

def quiescent_L1ProjDw [hL1ProjDw : Cert.L1ProjDw.Facts] : Prop :=
  ∀ (m : (ℓ : Loc Cert.L1ProjDw.nD Cert.L1ProjDw.τ Cert.L1ProjDw.sig) → Buf (Elt Bits) ℓ) (g : Dev Cert.L1ProjDw.nD → PrngReg), Pre_L1ProjDw m →
    θ_run (Cert.L1ProjDw.defs (F := Bits)) (onTc (τ := Cert.L1ProjDw.τ) (Cert.L1ProjDw.main (F := Bits))) ⟨m, fun _ => 0, g⟩ (fun r => (∀ c : Dev Cert.L1ProjDw.nD,
      r.2.mem ((c.tc : Thread Cert.L1ProjDw.nD Cert.L1ProjDw.τ).loc Cert.L1ProjDw.main_arg0) = m ((c.tc : Thread Cert.L1ProjDw.nD Cert.L1ProjDw.τ).loc Cert.L1ProjDw.main_arg0)
      ∧ r.2.mem ((c.tc : Thread Cert.L1ProjDw.nD Cert.L1ProjDw.τ).loc Cert.L1ProjDw.main_arg1) = m ((c.tc : Thread Cert.L1ProjDw.nD Cert.L1ProjDw.τ).loc Cert.L1ProjDw.main_arg1))
      ∧ r.2.sem = fun _ => 0)

def quiescent_L1ProjDwIdeal [hL1ProjDwIdeal : Cert.L1ProjDwIdeal.Facts] : Prop :=
  ∀ (m : (ℓ : Loc Cert.L1ProjDwIdeal.nD Cert.L1ProjDwIdeal.τ Cert.L1ProjDwIdeal.sig) → Buf (Elt Ideal) ℓ) (g : Dev Cert.L1ProjDwIdeal.nD → PrngReg), Pre_L1ProjDwIdeal m →
    θ_run (Cert.L1ProjDwIdeal.defs (F := Ideal)) (onTc (τ := Cert.L1ProjDwIdeal.τ) (Cert.L1ProjDwIdeal.main (F := Ideal))) ⟨m, fun _ => 0, g⟩ (fun r => (∀ c : Dev Cert.L1ProjDwIdeal.nD,
      r.2.mem ((c.tc : Thread Cert.L1ProjDwIdeal.nD Cert.L1ProjDwIdeal.τ).loc Cert.L1ProjDwIdeal.main_arg0) = m ((c.tc : Thread Cert.L1ProjDwIdeal.nD Cert.L1ProjDwIdeal.τ).loc Cert.L1ProjDwIdeal.main_arg0)
      ∧ r.2.mem ((c.tc : Thread Cert.L1ProjDwIdeal.nD Cert.L1ProjDwIdeal.τ).loc Cert.L1ProjDwIdeal.main_arg1) = m ((c.tc : Thread Cert.L1ProjDwIdeal.nD Cert.L1ProjDwIdeal.τ).loc Cert.L1ProjDwIdeal.main_arg1))
      ∧ r.2.sem = fun _ => 0)

def quiescent_L1ProjDwRefIdeal [hL1ProjDwRefIdeal : Cert.L1ProjDwRefIdeal.Facts] : Prop :=
  ∀ (m : (ℓ : Loc Cert.L1ProjDwRefIdeal.nD Cert.L1ProjDwRefIdeal.τ Cert.L1ProjDwRefIdeal.sig) → Buf (Elt Ideal) ℓ) (g : Dev Cert.L1ProjDwRefIdeal.nD → PrngReg), Pre_L1ProjDwRefIdeal m →
    θ_run (Cert.L1ProjDwRefIdeal.defs (F := Ideal)) (onTc (τ := Cert.L1ProjDwRefIdeal.τ) (Cert.L1ProjDwRefIdeal.main (F := Ideal))) ⟨m, fun _ => 0, g⟩ (fun r => (∀ c : Dev Cert.L1ProjDwRefIdeal.nD,
      r.2.mem ((c.tc : Thread Cert.L1ProjDwRefIdeal.nD Cert.L1ProjDwRefIdeal.τ).loc Cert.L1ProjDwRefIdeal.main_arg0) = m ((c.tc : Thread Cert.L1ProjDwRefIdeal.nD Cert.L1ProjDwRefIdeal.τ).loc Cert.L1ProjDwRefIdeal.main_arg0)
      ∧ r.2.mem ((c.tc : Thread Cert.L1ProjDwRefIdeal.nD Cert.L1ProjDwRefIdeal.τ).loc Cert.L1ProjDwRefIdeal.main_arg1) = m ((c.tc : Thread Cert.L1ProjDwRefIdeal.nD Cert.L1ProjDwRefIdeal.τ).loc Cert.L1ProjDwRefIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_AdamL0In [hAdamL0In : Cert.AdamL0In.Facts] : Prop :=
  ∀ (m : (ℓ : Loc Cert.AdamL0In.nD Cert.AdamL0In.τ Cert.AdamL0In.sig) → Buf (Elt Bits) ℓ) (g : Dev Cert.AdamL0In.nD → PrngReg), Pre_AdamL0In m →
    θ_run (Cert.AdamL0In.defs (F := Bits)) (onTc (τ := Cert.AdamL0In.τ) (Cert.AdamL0In.main (F := Bits))) ⟨m, fun _ => 0, g⟩ (fun r => (∀ c : Dev Cert.AdamL0In.nD,
      r.2.mem ((c.tc : Thread Cert.AdamL0In.nD Cert.AdamL0In.τ).loc Cert.AdamL0In.main_arg0) = m ((c.tc : Thread Cert.AdamL0In.nD Cert.AdamL0In.τ).loc Cert.AdamL0In.main_arg0)
      ∧ r.2.mem ((c.tc : Thread Cert.AdamL0In.nD Cert.AdamL0In.τ).loc Cert.AdamL0In.main_arg1) = m ((c.tc : Thread Cert.AdamL0In.nD Cert.AdamL0In.τ).loc Cert.AdamL0In.main_arg1)
      ∧ r.2.mem ((c.tc : Thread Cert.AdamL0In.nD Cert.AdamL0In.τ).loc Cert.AdamL0In.main_arg2) = m ((c.tc : Thread Cert.AdamL0In.nD Cert.AdamL0In.τ).loc Cert.AdamL0In.main_arg2)
      ∧ r.2.mem ((c.tc : Thread Cert.AdamL0In.nD Cert.AdamL0In.τ).loc Cert.AdamL0In.main_arg3) = m ((c.tc : Thread Cert.AdamL0In.nD Cert.AdamL0In.τ).loc Cert.AdamL0In.main_arg3))
      ∧ r.2.sem = fun _ => 0)

def quiescent_AdamL0InIdeal [hAdamL0InIdeal : Cert.AdamL0InIdeal.Facts] : Prop :=
  ∀ (m : (ℓ : Loc Cert.AdamL0InIdeal.nD Cert.AdamL0InIdeal.τ Cert.AdamL0InIdeal.sig) → Buf (Elt Ideal) ℓ) (g : Dev Cert.AdamL0InIdeal.nD → PrngReg), Pre_AdamL0InIdeal m →
    θ_run (Cert.AdamL0InIdeal.defs (F := Ideal)) (onTc (τ := Cert.AdamL0InIdeal.τ) (Cert.AdamL0InIdeal.main (F := Ideal))) ⟨m, fun _ => 0, g⟩ (fun r => (∀ c : Dev Cert.AdamL0InIdeal.nD,
      r.2.mem ((c.tc : Thread Cert.AdamL0InIdeal.nD Cert.AdamL0InIdeal.τ).loc Cert.AdamL0InIdeal.main_arg0) = m ((c.tc : Thread Cert.AdamL0InIdeal.nD Cert.AdamL0InIdeal.τ).loc Cert.AdamL0InIdeal.main_arg0)
      ∧ r.2.mem ((c.tc : Thread Cert.AdamL0InIdeal.nD Cert.AdamL0InIdeal.τ).loc Cert.AdamL0InIdeal.main_arg1) = m ((c.tc : Thread Cert.AdamL0InIdeal.nD Cert.AdamL0InIdeal.τ).loc Cert.AdamL0InIdeal.main_arg1)
      ∧ r.2.mem ((c.tc : Thread Cert.AdamL0InIdeal.nD Cert.AdamL0InIdeal.τ).loc Cert.AdamL0InIdeal.main_arg2) = m ((c.tc : Thread Cert.AdamL0InIdeal.nD Cert.AdamL0InIdeal.τ).loc Cert.AdamL0InIdeal.main_arg2)
      ∧ r.2.mem ((c.tc : Thread Cert.AdamL0InIdeal.nD Cert.AdamL0InIdeal.τ).loc Cert.AdamL0InIdeal.main_arg3) = m ((c.tc : Thread Cert.AdamL0InIdeal.nD Cert.AdamL0InIdeal.τ).loc Cert.AdamL0InIdeal.main_arg3))
      ∧ r.2.sem = fun _ => 0)

def quiescent_AdamL0InRefIdeal [hAdamL0InRefIdeal : Cert.AdamL0InRefIdeal.Facts] : Prop :=
  ∀ (m : (ℓ : Loc Cert.AdamL0InRefIdeal.nD Cert.AdamL0InRefIdeal.τ Cert.AdamL0InRefIdeal.sig) → Buf (Elt Ideal) ℓ) (g : Dev Cert.AdamL0InRefIdeal.nD → PrngReg), Pre_AdamL0InRefIdeal m →
    θ_run (Cert.AdamL0InRefIdeal.defs (F := Ideal)) (onTc (τ := Cert.AdamL0InRefIdeal.τ) (Cert.AdamL0InRefIdeal.main (F := Ideal))) ⟨m, fun _ => 0, g⟩ (fun r => (∀ c : Dev Cert.AdamL0InRefIdeal.nD,
      r.2.mem ((c.tc : Thread Cert.AdamL0InRefIdeal.nD Cert.AdamL0InRefIdeal.τ).loc Cert.AdamL0InRefIdeal.main_arg0) = m ((c.tc : Thread Cert.AdamL0InRefIdeal.nD Cert.AdamL0InRefIdeal.τ).loc Cert.AdamL0InRefIdeal.main_arg0)
      ∧ r.2.mem ((c.tc : Thread Cert.AdamL0InRefIdeal.nD Cert.AdamL0InRefIdeal.τ).loc Cert.AdamL0InRefIdeal.main_arg1) = m ((c.tc : Thread Cert.AdamL0InRefIdeal.nD Cert.AdamL0InRefIdeal.τ).loc Cert.AdamL0InRefIdeal.main_arg1)
      ∧ r.2.mem ((c.tc : Thread Cert.AdamL0InRefIdeal.nD Cert.AdamL0InRefIdeal.τ).loc Cert.AdamL0InRefIdeal.main_arg2) = m ((c.tc : Thread Cert.AdamL0InRefIdeal.nD Cert.AdamL0InRefIdeal.τ).loc Cert.AdamL0InRefIdeal.main_arg2)
      ∧ r.2.mem ((c.tc : Thread Cert.AdamL0InRefIdeal.nD Cert.AdamL0InRefIdeal.τ).loc Cert.AdamL0InRefIdeal.main_arg3) = m ((c.tc : Thread Cert.AdamL0InRefIdeal.nD Cert.AdamL0InRefIdeal.τ).loc Cert.AdamL0InRefIdeal.main_arg3))
      ∧ r.2.sem = fun _ => 0)

def quiescent_AdamL1In [hAdamL1In : Cert.AdamL1In.Facts] : Prop :=
  ∀ (m : (ℓ : Loc Cert.AdamL1In.nD Cert.AdamL1In.τ Cert.AdamL1In.sig) → Buf (Elt Bits) ℓ) (g : Dev Cert.AdamL1In.nD → PrngReg), Pre_AdamL1In m →
    θ_run (Cert.AdamL1In.defs (F := Bits)) (onTc (τ := Cert.AdamL1In.τ) (Cert.AdamL1In.main (F := Bits))) ⟨m, fun _ => 0, g⟩ (fun r => (∀ c : Dev Cert.AdamL1In.nD,
      r.2.mem ((c.tc : Thread Cert.AdamL1In.nD Cert.AdamL1In.τ).loc Cert.AdamL1In.main_arg0) = m ((c.tc : Thread Cert.AdamL1In.nD Cert.AdamL1In.τ).loc Cert.AdamL1In.main_arg0)
      ∧ r.2.mem ((c.tc : Thread Cert.AdamL1In.nD Cert.AdamL1In.τ).loc Cert.AdamL1In.main_arg1) = m ((c.tc : Thread Cert.AdamL1In.nD Cert.AdamL1In.τ).loc Cert.AdamL1In.main_arg1)
      ∧ r.2.mem ((c.tc : Thread Cert.AdamL1In.nD Cert.AdamL1In.τ).loc Cert.AdamL1In.main_arg2) = m ((c.tc : Thread Cert.AdamL1In.nD Cert.AdamL1In.τ).loc Cert.AdamL1In.main_arg2)
      ∧ r.2.mem ((c.tc : Thread Cert.AdamL1In.nD Cert.AdamL1In.τ).loc Cert.AdamL1In.main_arg3) = m ((c.tc : Thread Cert.AdamL1In.nD Cert.AdamL1In.τ).loc Cert.AdamL1In.main_arg3))
      ∧ r.2.sem = fun _ => 0)

def quiescent_AdamL1InIdeal [hAdamL1InIdeal : Cert.AdamL1InIdeal.Facts] : Prop :=
  ∀ (m : (ℓ : Loc Cert.AdamL1InIdeal.nD Cert.AdamL1InIdeal.τ Cert.AdamL1InIdeal.sig) → Buf (Elt Ideal) ℓ) (g : Dev Cert.AdamL1InIdeal.nD → PrngReg), Pre_AdamL1InIdeal m →
    θ_run (Cert.AdamL1InIdeal.defs (F := Ideal)) (onTc (τ := Cert.AdamL1InIdeal.τ) (Cert.AdamL1InIdeal.main (F := Ideal))) ⟨m, fun _ => 0, g⟩ (fun r => (∀ c : Dev Cert.AdamL1InIdeal.nD,
      r.2.mem ((c.tc : Thread Cert.AdamL1InIdeal.nD Cert.AdamL1InIdeal.τ).loc Cert.AdamL1InIdeal.main_arg0) = m ((c.tc : Thread Cert.AdamL1InIdeal.nD Cert.AdamL1InIdeal.τ).loc Cert.AdamL1InIdeal.main_arg0)
      ∧ r.2.mem ((c.tc : Thread Cert.AdamL1InIdeal.nD Cert.AdamL1InIdeal.τ).loc Cert.AdamL1InIdeal.main_arg1) = m ((c.tc : Thread Cert.AdamL1InIdeal.nD Cert.AdamL1InIdeal.τ).loc Cert.AdamL1InIdeal.main_arg1)
      ∧ r.2.mem ((c.tc : Thread Cert.AdamL1InIdeal.nD Cert.AdamL1InIdeal.τ).loc Cert.AdamL1InIdeal.main_arg2) = m ((c.tc : Thread Cert.AdamL1InIdeal.nD Cert.AdamL1InIdeal.τ).loc Cert.AdamL1InIdeal.main_arg2)
      ∧ r.2.mem ((c.tc : Thread Cert.AdamL1InIdeal.nD Cert.AdamL1InIdeal.τ).loc Cert.AdamL1InIdeal.main_arg3) = m ((c.tc : Thread Cert.AdamL1InIdeal.nD Cert.AdamL1InIdeal.τ).loc Cert.AdamL1InIdeal.main_arg3))
      ∧ r.2.sem = fun _ => 0)

def quiescent_AdamL1InRefIdeal [hAdamL1InRefIdeal : Cert.AdamL1InRefIdeal.Facts] : Prop :=
  ∀ (m : (ℓ : Loc Cert.AdamL1InRefIdeal.nD Cert.AdamL1InRefIdeal.τ Cert.AdamL1InRefIdeal.sig) → Buf (Elt Ideal) ℓ) (g : Dev Cert.AdamL1InRefIdeal.nD → PrngReg), Pre_AdamL1InRefIdeal m →
    θ_run (Cert.AdamL1InRefIdeal.defs (F := Ideal)) (onTc (τ := Cert.AdamL1InRefIdeal.τ) (Cert.AdamL1InRefIdeal.main (F := Ideal))) ⟨m, fun _ => 0, g⟩ (fun r => (∀ c : Dev Cert.AdamL1InRefIdeal.nD,
      r.2.mem ((c.tc : Thread Cert.AdamL1InRefIdeal.nD Cert.AdamL1InRefIdeal.τ).loc Cert.AdamL1InRefIdeal.main_arg0) = m ((c.tc : Thread Cert.AdamL1InRefIdeal.nD Cert.AdamL1InRefIdeal.τ).loc Cert.AdamL1InRefIdeal.main_arg0)
      ∧ r.2.mem ((c.tc : Thread Cert.AdamL1InRefIdeal.nD Cert.AdamL1InRefIdeal.τ).loc Cert.AdamL1InRefIdeal.main_arg1) = m ((c.tc : Thread Cert.AdamL1InRefIdeal.nD Cert.AdamL1InRefIdeal.τ).loc Cert.AdamL1InRefIdeal.main_arg1)
      ∧ r.2.mem ((c.tc : Thread Cert.AdamL1InRefIdeal.nD Cert.AdamL1InRefIdeal.τ).loc Cert.AdamL1InRefIdeal.main_arg2) = m ((c.tc : Thread Cert.AdamL1InRefIdeal.nD Cert.AdamL1InRefIdeal.τ).loc Cert.AdamL1InRefIdeal.main_arg2)
      ∧ r.2.mem ((c.tc : Thread Cert.AdamL1InRefIdeal.nD Cert.AdamL1InRefIdeal.τ).loc Cert.AdamL1InRefIdeal.main_arg3) = m ((c.tc : Thread Cert.AdamL1InRefIdeal.nD Cert.AdamL1InRefIdeal.τ).loc Cert.AdamL1InRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_ChipL0In [hChipL0In : Cert.ChipL0In.Facts] [hPre_a_core_ChipL0In : Cert.Pre_a_core_ChipL0In.Facts] : Prop :=
  ∀ (m : (ℓ : Loc Cert.ChipL0In.nD Cert.ChipL0In.τ Cert.ChipL0In.sig) → Buf (Elt Bits) ℓ) (g : Dev Cert.ChipL0In.nD → PrngReg), Pre_ChipL0In m →
    θ_run (Cert.ChipL0In.defs (F := Bits)) (onTc (τ := Cert.ChipL0In.τ) (Cert.ChipL0In.main (F := Bits))) ⟨m, fun _ => 0, g⟩ (fun r => (∀ c : Dev Cert.ChipL0In.nD,
      r.2.mem ((c.tc : Thread Cert.ChipL0In.nD Cert.ChipL0In.τ).loc Cert.ChipL0In.main_arg0) = m ((c.tc : Thread Cert.ChipL0In.nD Cert.ChipL0In.τ).loc Cert.ChipL0In.main_arg0)
      ∧ r.2.mem ((c.tc : Thread Cert.ChipL0In.nD Cert.ChipL0In.τ).loc Cert.ChipL0In.main_arg1) = m ((c.tc : Thread Cert.ChipL0In.nD Cert.ChipL0In.τ).loc Cert.ChipL0In.main_arg1))
      ∧ r.2.sem = fun _ => 0)

def quiescent_ChipL0InIdeal [hChipL0InIdeal : Cert.ChipL0InIdeal.Facts] [hPre_a_core_ChipL0In : Cert.Pre_a_core_ChipL0In.Facts] : Prop :=
  ∀ (m : (ℓ : Loc Cert.ChipL0InIdeal.nD Cert.ChipL0InIdeal.τ Cert.ChipL0InIdeal.sig) → Buf (Elt Ideal) ℓ) (g : Dev Cert.ChipL0InIdeal.nD → PrngReg), Pre_ChipL0InIdeal m →
    θ_run (Cert.ChipL0InIdeal.defs (F := Ideal)) (onTc (τ := Cert.ChipL0InIdeal.τ) (Cert.ChipL0InIdeal.main (F := Ideal))) ⟨m, fun _ => 0, g⟩ (fun r => (∀ c : Dev Cert.ChipL0InIdeal.nD,
      r.2.mem ((c.tc : Thread Cert.ChipL0InIdeal.nD Cert.ChipL0InIdeal.τ).loc Cert.ChipL0InIdeal.main_arg0) = m ((c.tc : Thread Cert.ChipL0InIdeal.nD Cert.ChipL0InIdeal.τ).loc Cert.ChipL0InIdeal.main_arg0)
      ∧ r.2.mem ((c.tc : Thread Cert.ChipL0InIdeal.nD Cert.ChipL0InIdeal.τ).loc Cert.ChipL0InIdeal.main_arg1) = m ((c.tc : Thread Cert.ChipL0InIdeal.nD Cert.ChipL0InIdeal.τ).loc Cert.ChipL0InIdeal.main_arg1))
      ∧ r.2.sem = fun _ => 0)

def quiescent_ChipL0InRefIdeal [hChipL0InRefIdeal : Cert.ChipL0InRefIdeal.Facts] : Prop :=
  ∀ (m : (ℓ : Loc Cert.ChipL0InRefIdeal.nD Cert.ChipL0InRefIdeal.τ Cert.ChipL0InRefIdeal.sig) → Buf (Elt Ideal) ℓ) (g : Dev Cert.ChipL0InRefIdeal.nD → PrngReg), Pre_ChipL0InRefIdeal m →
    θ_run (Cert.ChipL0InRefIdeal.defs (F := Ideal)) (onTc (τ := Cert.ChipL0InRefIdeal.τ) (Cert.ChipL0InRefIdeal.main (F := Ideal))) ⟨m, fun _ => 0, g⟩ (fun r => (∀ c : Dev Cert.ChipL0InRefIdeal.nD,
      r.2.mem ((c.tc : Thread Cert.ChipL0InRefIdeal.nD Cert.ChipL0InRefIdeal.τ).loc Cert.ChipL0InRefIdeal.main_arg0) = m ((c.tc : Thread Cert.ChipL0InRefIdeal.nD Cert.ChipL0InRefIdeal.τ).loc Cert.ChipL0InRefIdeal.main_arg0)
      ∧ r.2.mem ((c.tc : Thread Cert.ChipL0InRefIdeal.nD Cert.ChipL0InRefIdeal.τ).loc Cert.ChipL0InRefIdeal.main_arg1) = m ((c.tc : Thread Cert.ChipL0InRefIdeal.nD Cert.ChipL0InRefIdeal.τ).loc Cert.ChipL0InRefIdeal.main_arg1))
      ∧ r.2.sem = fun _ => 0)

def quiescent_ChipL0InRefIdeal_pre_a_core_ChipL0In [hChipL0InRefIdeal : Cert.ChipL0InRefIdeal.Facts] [hPre_a_core_ChipL0In : Cert.Pre_a_core_ChipL0In.Facts] : Prop :=
  ∀ (m : (ℓ : Loc Cert.ChipL0InRefIdeal.nD Cert.ChipL0InRefIdeal.τ Cert.ChipL0InRefIdeal.sig) → Buf (Elt Ideal) ℓ) (g : Dev Cert.ChipL0InRefIdeal.nD → PrngReg), Pre_ChipL0InRefIdeal_a_core_ChipL0In m →
    θ_run (Cert.ChipL0InRefIdeal.defs (F := Ideal)) (onTc (τ := Cert.ChipL0InRefIdeal.τ) (Cert.ChipL0InRefIdeal.main (F := Ideal))) ⟨m, fun _ => 0, g⟩ (fun r => (∀ c : Dev Cert.ChipL0InRefIdeal.nD,
      r.2.mem ((c.tc : Thread Cert.ChipL0InRefIdeal.nD Cert.ChipL0InRefIdeal.τ).loc Cert.ChipL0InRefIdeal.main_arg0) = m ((c.tc : Thread Cert.ChipL0InRefIdeal.nD Cert.ChipL0InRefIdeal.τ).loc Cert.ChipL0InRefIdeal.main_arg0)
      ∧ r.2.mem ((c.tc : Thread Cert.ChipL0InRefIdeal.nD Cert.ChipL0InRefIdeal.τ).loc Cert.ChipL0InRefIdeal.main_arg1) = m ((c.tc : Thread Cert.ChipL0InRefIdeal.nD Cert.ChipL0InRefIdeal.τ).loc Cert.ChipL0InRefIdeal.main_arg1))
      ∧ r.2.sem = fun _ => 0)

def quiescent_ChipL1In [hChipL1In : Cert.ChipL1In.Facts] [hPre_a_core_ChipL1In : Cert.Pre_a_core_ChipL1In.Facts] : Prop :=
  ∀ (m : (ℓ : Loc Cert.ChipL1In.nD Cert.ChipL1In.τ Cert.ChipL1In.sig) → Buf (Elt Bits) ℓ) (g : Dev Cert.ChipL1In.nD → PrngReg), Pre_ChipL1In m →
    θ_run (Cert.ChipL1In.defs (F := Bits)) (onTc (τ := Cert.ChipL1In.τ) (Cert.ChipL1In.main (F := Bits))) ⟨m, fun _ => 0, g⟩ (fun r => (∀ c : Dev Cert.ChipL1In.nD,
      r.2.mem ((c.tc : Thread Cert.ChipL1In.nD Cert.ChipL1In.τ).loc Cert.ChipL1In.main_arg0) = m ((c.tc : Thread Cert.ChipL1In.nD Cert.ChipL1In.τ).loc Cert.ChipL1In.main_arg0)
      ∧ r.2.mem ((c.tc : Thread Cert.ChipL1In.nD Cert.ChipL1In.τ).loc Cert.ChipL1In.main_arg1) = m ((c.tc : Thread Cert.ChipL1In.nD Cert.ChipL1In.τ).loc Cert.ChipL1In.main_arg1))
      ∧ r.2.sem = fun _ => 0)

def quiescent_ChipL1InIdeal [hChipL1InIdeal : Cert.ChipL1InIdeal.Facts] [hPre_a_core_ChipL1In : Cert.Pre_a_core_ChipL1In.Facts] : Prop :=
  ∀ (m : (ℓ : Loc Cert.ChipL1InIdeal.nD Cert.ChipL1InIdeal.τ Cert.ChipL1InIdeal.sig) → Buf (Elt Ideal) ℓ) (g : Dev Cert.ChipL1InIdeal.nD → PrngReg), Pre_ChipL1InIdeal m →
    θ_run (Cert.ChipL1InIdeal.defs (F := Ideal)) (onTc (τ := Cert.ChipL1InIdeal.τ) (Cert.ChipL1InIdeal.main (F := Ideal))) ⟨m, fun _ => 0, g⟩ (fun r => (∀ c : Dev Cert.ChipL1InIdeal.nD,
      r.2.mem ((c.tc : Thread Cert.ChipL1InIdeal.nD Cert.ChipL1InIdeal.τ).loc Cert.ChipL1InIdeal.main_arg0) = m ((c.tc : Thread Cert.ChipL1InIdeal.nD Cert.ChipL1InIdeal.τ).loc Cert.ChipL1InIdeal.main_arg0)
      ∧ r.2.mem ((c.tc : Thread Cert.ChipL1InIdeal.nD Cert.ChipL1InIdeal.τ).loc Cert.ChipL1InIdeal.main_arg1) = m ((c.tc : Thread Cert.ChipL1InIdeal.nD Cert.ChipL1InIdeal.τ).loc Cert.ChipL1InIdeal.main_arg1))
      ∧ r.2.sem = fun _ => 0)

def quiescent_ChipL1InRefIdeal [hChipL1InRefIdeal : Cert.ChipL1InRefIdeal.Facts] : Prop :=
  ∀ (m : (ℓ : Loc Cert.ChipL1InRefIdeal.nD Cert.ChipL1InRefIdeal.τ Cert.ChipL1InRefIdeal.sig) → Buf (Elt Ideal) ℓ) (g : Dev Cert.ChipL1InRefIdeal.nD → PrngReg), Pre_ChipL1InRefIdeal m →
    θ_run (Cert.ChipL1InRefIdeal.defs (F := Ideal)) (onTc (τ := Cert.ChipL1InRefIdeal.τ) (Cert.ChipL1InRefIdeal.main (F := Ideal))) ⟨m, fun _ => 0, g⟩ (fun r => (∀ c : Dev Cert.ChipL1InRefIdeal.nD,
      r.2.mem ((c.tc : Thread Cert.ChipL1InRefIdeal.nD Cert.ChipL1InRefIdeal.τ).loc Cert.ChipL1InRefIdeal.main_arg0) = m ((c.tc : Thread Cert.ChipL1InRefIdeal.nD Cert.ChipL1InRefIdeal.τ).loc Cert.ChipL1InRefIdeal.main_arg0)
      ∧ r.2.mem ((c.tc : Thread Cert.ChipL1InRefIdeal.nD Cert.ChipL1InRefIdeal.τ).loc Cert.ChipL1InRefIdeal.main_arg1) = m ((c.tc : Thread Cert.ChipL1InRefIdeal.nD Cert.ChipL1InRefIdeal.τ).loc Cert.ChipL1InRefIdeal.main_arg1))
      ∧ r.2.sem = fun _ => 0)

def quiescent_ChipL1InRefIdeal_pre_a_core_ChipL1In [hChipL1InRefIdeal : Cert.ChipL1InRefIdeal.Facts] [hPre_a_core_ChipL1In : Cert.Pre_a_core_ChipL1In.Facts] : Prop :=
  ∀ (m : (ℓ : Loc Cert.ChipL1InRefIdeal.nD Cert.ChipL1InRefIdeal.τ Cert.ChipL1InRefIdeal.sig) → Buf (Elt Ideal) ℓ) (g : Dev Cert.ChipL1InRefIdeal.nD → PrngReg), Pre_ChipL1InRefIdeal_a_core_ChipL1In m →
    θ_run (Cert.ChipL1InRefIdeal.defs (F := Ideal)) (onTc (τ := Cert.ChipL1InRefIdeal.τ) (Cert.ChipL1InRefIdeal.main (F := Ideal))) ⟨m, fun _ => 0, g⟩ (fun r => (∀ c : Dev Cert.ChipL1InRefIdeal.nD,
      r.2.mem ((c.tc : Thread Cert.ChipL1InRefIdeal.nD Cert.ChipL1InRefIdeal.τ).loc Cert.ChipL1InRefIdeal.main_arg0) = m ((c.tc : Thread Cert.ChipL1InRefIdeal.nD Cert.ChipL1InRefIdeal.τ).loc Cert.ChipL1InRefIdeal.main_arg0)
      ∧ r.2.mem ((c.tc : Thread Cert.ChipL1InRefIdeal.nD Cert.ChipL1InRefIdeal.τ).loc Cert.ChipL1InRefIdeal.main_arg1) = m ((c.tc : Thread Cert.ChipL1InRefIdeal.nD Cert.ChipL1InRefIdeal.τ).loc Cert.ChipL1InRefIdeal.main_arg1))
      ∧ r.2.sem = fun _ => 0)

def quiescent_ChipUp [hChipUp : Cert.ChipUp.Facts] [hPre_a_core_ChipUp : Cert.Pre_a_core_ChipUp.Facts] : Prop :=
  ∀ (m : (ℓ : Loc Cert.ChipUp.nD Cert.ChipUp.τ Cert.ChipUp.sig) → Buf (Elt Bits) ℓ) (g : Dev Cert.ChipUp.nD → PrngReg), Pre_ChipUp m →
    θ_run (Cert.ChipUp.defs (F := Bits)) (onTc (τ := Cert.ChipUp.τ) (Cert.ChipUp.main (F := Bits))) ⟨m, fun _ => 0, g⟩ (fun r => (∀ c : Dev Cert.ChipUp.nD,
      r.2.mem ((c.tc : Thread Cert.ChipUp.nD Cert.ChipUp.τ).loc Cert.ChipUp.main_arg0) = m ((c.tc : Thread Cert.ChipUp.nD Cert.ChipUp.τ).loc Cert.ChipUp.main_arg0)
      ∧ r.2.mem ((c.tc : Thread Cert.ChipUp.nD Cert.ChipUp.τ).loc Cert.ChipUp.main_arg1) = m ((c.tc : Thread Cert.ChipUp.nD Cert.ChipUp.τ).loc Cert.ChipUp.main_arg1))
      ∧ r.2.sem = fun _ => 0)

def quiescent_ChipUpIdeal [hChipUpIdeal : Cert.ChipUpIdeal.Facts] [hPre_a_core_ChipUp : Cert.Pre_a_core_ChipUp.Facts] : Prop :=
  ∀ (m : (ℓ : Loc Cert.ChipUpIdeal.nD Cert.ChipUpIdeal.τ Cert.ChipUpIdeal.sig) → Buf (Elt Ideal) ℓ) (g : Dev Cert.ChipUpIdeal.nD → PrngReg), Pre_ChipUpIdeal m →
    θ_run (Cert.ChipUpIdeal.defs (F := Ideal)) (onTc (τ := Cert.ChipUpIdeal.τ) (Cert.ChipUpIdeal.main (F := Ideal))) ⟨m, fun _ => 0, g⟩ (fun r => (∀ c : Dev Cert.ChipUpIdeal.nD,
      r.2.mem ((c.tc : Thread Cert.ChipUpIdeal.nD Cert.ChipUpIdeal.τ).loc Cert.ChipUpIdeal.main_arg0) = m ((c.tc : Thread Cert.ChipUpIdeal.nD Cert.ChipUpIdeal.τ).loc Cert.ChipUpIdeal.main_arg0)
      ∧ r.2.mem ((c.tc : Thread Cert.ChipUpIdeal.nD Cert.ChipUpIdeal.τ).loc Cert.ChipUpIdeal.main_arg1) = m ((c.tc : Thread Cert.ChipUpIdeal.nD Cert.ChipUpIdeal.τ).loc Cert.ChipUpIdeal.main_arg1))
      ∧ r.2.sem = fun _ => 0)

def quiescent_ChipUpRefIdeal [hChipUpRefIdeal : Cert.ChipUpRefIdeal.Facts] : Prop :=
  ∀ (m : (ℓ : Loc Cert.ChipUpRefIdeal.nD Cert.ChipUpRefIdeal.τ Cert.ChipUpRefIdeal.sig) → Buf (Elt Ideal) ℓ) (g : Dev Cert.ChipUpRefIdeal.nD → PrngReg), Pre_ChipUpRefIdeal m →
    θ_run (Cert.ChipUpRefIdeal.defs (F := Ideal)) (onTc (τ := Cert.ChipUpRefIdeal.τ) (Cert.ChipUpRefIdeal.main (F := Ideal))) ⟨m, fun _ => 0, g⟩ (fun r => (∀ c : Dev Cert.ChipUpRefIdeal.nD,
      r.2.mem ((c.tc : Thread Cert.ChipUpRefIdeal.nD Cert.ChipUpRefIdeal.τ).loc Cert.ChipUpRefIdeal.main_arg0) = m ((c.tc : Thread Cert.ChipUpRefIdeal.nD Cert.ChipUpRefIdeal.τ).loc Cert.ChipUpRefIdeal.main_arg0)
      ∧ r.2.mem ((c.tc : Thread Cert.ChipUpRefIdeal.nD Cert.ChipUpRefIdeal.τ).loc Cert.ChipUpRefIdeal.main_arg1) = m ((c.tc : Thread Cert.ChipUpRefIdeal.nD Cert.ChipUpRefIdeal.τ).loc Cert.ChipUpRefIdeal.main_arg1))
      ∧ r.2.sem = fun _ => 0)

def quiescent_ChipUpRefIdeal_pre_a_core_ChipUp [hChipUpRefIdeal : Cert.ChipUpRefIdeal.Facts] [hPre_a_core_ChipUp : Cert.Pre_a_core_ChipUp.Facts] : Prop :=
  ∀ (m : (ℓ : Loc Cert.ChipUpRefIdeal.nD Cert.ChipUpRefIdeal.τ Cert.ChipUpRefIdeal.sig) → Buf (Elt Ideal) ℓ) (g : Dev Cert.ChipUpRefIdeal.nD → PrngReg), Pre_ChipUpRefIdeal_a_core_ChipUp m →
    θ_run (Cert.ChipUpRefIdeal.defs (F := Ideal)) (onTc (τ := Cert.ChipUpRefIdeal.τ) (Cert.ChipUpRefIdeal.main (F := Ideal))) ⟨m, fun _ => 0, g⟩ (fun r => (∀ c : Dev Cert.ChipUpRefIdeal.nD,
      r.2.mem ((c.tc : Thread Cert.ChipUpRefIdeal.nD Cert.ChipUpRefIdeal.τ).loc Cert.ChipUpRefIdeal.main_arg0) = m ((c.tc : Thread Cert.ChipUpRefIdeal.nD Cert.ChipUpRefIdeal.τ).loc Cert.ChipUpRefIdeal.main_arg0)
      ∧ r.2.mem ((c.tc : Thread Cert.ChipUpRefIdeal.nD Cert.ChipUpRefIdeal.τ).loc Cert.ChipUpRefIdeal.main_arg1) = m ((c.tc : Thread Cert.ChipUpRefIdeal.nD Cert.ChipUpRefIdeal.τ).loc Cert.ChipUpRefIdeal.main_arg1))
      ∧ r.2.sem = fun _ => 0)

def quiescent_ChipDown [hChipDown : Cert.ChipDown.Facts] [hPre_a_core_ChipDown : Cert.Pre_a_core_ChipDown.Facts] : Prop :=
  ∀ (m : (ℓ : Loc Cert.ChipDown.nD Cert.ChipDown.τ Cert.ChipDown.sig) → Buf (Elt Bits) ℓ) (g : Dev Cert.ChipDown.nD → PrngReg), Pre_ChipDown m →
    θ_run (Cert.ChipDown.defs (F := Bits)) (onTc (τ := Cert.ChipDown.τ) (Cert.ChipDown.main (F := Bits))) ⟨m, fun _ => 0, g⟩ (fun r => (∀ c : Dev Cert.ChipDown.nD,
      r.2.mem ((c.tc : Thread Cert.ChipDown.nD Cert.ChipDown.τ).loc Cert.ChipDown.main_arg0) = m ((c.tc : Thread Cert.ChipDown.nD Cert.ChipDown.τ).loc Cert.ChipDown.main_arg0)
      ∧ r.2.mem ((c.tc : Thread Cert.ChipDown.nD Cert.ChipDown.τ).loc Cert.ChipDown.main_arg1) = m ((c.tc : Thread Cert.ChipDown.nD Cert.ChipDown.τ).loc Cert.ChipDown.main_arg1))
      ∧ r.2.sem = fun _ => 0)

def quiescent_ChipDownIdeal [hChipDownIdeal : Cert.ChipDownIdeal.Facts] [hPre_a_core_ChipDown : Cert.Pre_a_core_ChipDown.Facts] : Prop :=
  ∀ (m : (ℓ : Loc Cert.ChipDownIdeal.nD Cert.ChipDownIdeal.τ Cert.ChipDownIdeal.sig) → Buf (Elt Ideal) ℓ) (g : Dev Cert.ChipDownIdeal.nD → PrngReg), Pre_ChipDownIdeal m →
    θ_run (Cert.ChipDownIdeal.defs (F := Ideal)) (onTc (τ := Cert.ChipDownIdeal.τ) (Cert.ChipDownIdeal.main (F := Ideal))) ⟨m, fun _ => 0, g⟩ (fun r => (∀ c : Dev Cert.ChipDownIdeal.nD,
      r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
      ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1))
      ∧ r.2.sem = fun _ => 0)

def quiescent_ChipDownRefIdeal [hChipDownRefIdeal : Cert.ChipDownRefIdeal.Facts] : Prop :=
  ∀ (m : (ℓ : Loc Cert.ChipDownRefIdeal.nD Cert.ChipDownRefIdeal.τ Cert.ChipDownRefIdeal.sig) → Buf (Elt Ideal) ℓ) (g : Dev Cert.ChipDownRefIdeal.nD → PrngReg), Pre_ChipDownRefIdeal m →
    θ_run (Cert.ChipDownRefIdeal.defs (F := Ideal)) (onTc (τ := Cert.ChipDownRefIdeal.τ) (Cert.ChipDownRefIdeal.main (F := Ideal))) ⟨m, fun _ => 0, g⟩ (fun r => (∀ c : Dev Cert.ChipDownRefIdeal.nD,
      r.2.mem ((c.tc : Thread Cert.ChipDownRefIdeal.nD Cert.ChipDownRefIdeal.τ).loc Cert.ChipDownRefIdeal.main_arg0) = m ((c.tc : Thread Cert.ChipDownRefIdeal.nD Cert.ChipDownRefIdeal.τ).loc Cert.ChipDownRefIdeal.main_arg0)
      ∧ r.2.mem ((c.tc : Thread Cert.ChipDownRefIdeal.nD Cert.ChipDownRefIdeal.τ).loc Cert.ChipDownRefIdeal.main_arg1) = m ((c.tc : Thread Cert.ChipDownRefIdeal.nD Cert.ChipDownRefIdeal.τ).loc Cert.ChipDownRefIdeal.main_arg1))
      ∧ r.2.sem = fun _ => 0)

def quiescent_ChipDownRefIdeal_pre_a_core_ChipDown [hChipDownRefIdeal : Cert.ChipDownRefIdeal.Facts] [hPre_a_core_ChipDown : Cert.Pre_a_core_ChipDown.Facts] : Prop :=
  ∀ (m : (ℓ : Loc Cert.ChipDownRefIdeal.nD Cert.ChipDownRefIdeal.τ Cert.ChipDownRefIdeal.sig) → Buf (Elt Ideal) ℓ) (g : Dev Cert.ChipDownRefIdeal.nD → PrngReg), Pre_ChipDownRefIdeal_a_core_ChipDown m →
    θ_run (Cert.ChipDownRefIdeal.defs (F := Ideal)) (onTc (τ := Cert.ChipDownRefIdeal.τ) (Cert.ChipDownRefIdeal.main (F := Ideal))) ⟨m, fun _ => 0, g⟩ (fun r => (∀ c : Dev Cert.ChipDownRefIdeal.nD,
      r.2.mem ((c.tc : Thread Cert.ChipDownRefIdeal.nD Cert.ChipDownRefIdeal.τ).loc Cert.ChipDownRefIdeal.main_arg0) = m ((c.tc : Thread Cert.ChipDownRefIdeal.nD Cert.ChipDownRefIdeal.τ).loc Cert.ChipDownRefIdeal.main_arg0)
      ∧ r.2.mem ((c.tc : Thread Cert.ChipDownRefIdeal.nD Cert.ChipDownRefIdeal.τ).loc Cert.ChipDownRefIdeal.main_arg1) = m ((c.tc : Thread Cert.ChipDownRefIdeal.nD Cert.ChipDownRefIdeal.τ).loc Cert.ChipDownRefIdeal.main_arg1))
      ∧ r.2.sem = fun _ => 0)

def quiescent_ChipOut [hChipOut : Cert.ChipOut.Facts] [hPre_a_core_ChipOut : Cert.Pre_a_core_ChipOut.Facts] : Prop :=
  ∀ (m : (ℓ : Loc Cert.ChipOut.nD Cert.ChipOut.τ Cert.ChipOut.sig) → Buf (Elt Bits) ℓ) (g : Dev Cert.ChipOut.nD → PrngReg), Pre_ChipOut m →
    θ_run (Cert.ChipOut.defs (F := Bits)) (onTc (τ := Cert.ChipOut.τ) (Cert.ChipOut.main (F := Bits))) ⟨m, fun _ => 0, g⟩ (fun r => (∀ c : Dev Cert.ChipOut.nD,
      r.2.mem ((c.tc : Thread Cert.ChipOut.nD Cert.ChipOut.τ).loc Cert.ChipOut.main_arg0) = m ((c.tc : Thread Cert.ChipOut.nD Cert.ChipOut.τ).loc Cert.ChipOut.main_arg0)
      ∧ r.2.mem ((c.tc : Thread Cert.ChipOut.nD Cert.ChipOut.τ).loc Cert.ChipOut.main_arg1) = m ((c.tc : Thread Cert.ChipOut.nD Cert.ChipOut.τ).loc Cert.ChipOut.main_arg1))
      ∧ r.2.sem = fun _ => 0)

def quiescent_ChipOutIdeal [hChipOutIdeal : Cert.ChipOutIdeal.Facts] [hPre_a_core_ChipOut : Cert.Pre_a_core_ChipOut.Facts] : Prop :=
  ∀ (m : (ℓ : Loc Cert.ChipOutIdeal.nD Cert.ChipOutIdeal.τ Cert.ChipOutIdeal.sig) → Buf (Elt Ideal) ℓ) (g : Dev Cert.ChipOutIdeal.nD → PrngReg), Pre_ChipOutIdeal m →
    θ_run (Cert.ChipOutIdeal.defs (F := Ideal)) (onTc (τ := Cert.ChipOutIdeal.τ) (Cert.ChipOutIdeal.main (F := Ideal))) ⟨m, fun _ => 0, g⟩ (fun r => (∀ c : Dev Cert.ChipOutIdeal.nD,
      r.2.mem ((c.tc : Thread Cert.ChipOutIdeal.nD Cert.ChipOutIdeal.τ).loc Cert.ChipOutIdeal.main_arg0) = m ((c.tc : Thread Cert.ChipOutIdeal.nD Cert.ChipOutIdeal.τ).loc Cert.ChipOutIdeal.main_arg0)
      ∧ r.2.mem ((c.tc : Thread Cert.ChipOutIdeal.nD Cert.ChipOutIdeal.τ).loc Cert.ChipOutIdeal.main_arg1) = m ((c.tc : Thread Cert.ChipOutIdeal.nD Cert.ChipOutIdeal.τ).loc Cert.ChipOutIdeal.main_arg1))
      ∧ r.2.sem = fun _ => 0)

def quiescent_ChipOutRefIdeal [hChipOutRefIdeal : Cert.ChipOutRefIdeal.Facts] : Prop :=
  ∀ (m : (ℓ : Loc Cert.ChipOutRefIdeal.nD Cert.ChipOutRefIdeal.τ Cert.ChipOutRefIdeal.sig) → Buf (Elt Ideal) ℓ) (g : Dev Cert.ChipOutRefIdeal.nD → PrngReg), Pre_ChipOutRefIdeal m →
    θ_run (Cert.ChipOutRefIdeal.defs (F := Ideal)) (onTc (τ := Cert.ChipOutRefIdeal.τ) (Cert.ChipOutRefIdeal.main (F := Ideal))) ⟨m, fun _ => 0, g⟩ (fun r => (∀ c : Dev Cert.ChipOutRefIdeal.nD,
      r.2.mem ((c.tc : Thread Cert.ChipOutRefIdeal.nD Cert.ChipOutRefIdeal.τ).loc Cert.ChipOutRefIdeal.main_arg0) = m ((c.tc : Thread Cert.ChipOutRefIdeal.nD Cert.ChipOutRefIdeal.τ).loc Cert.ChipOutRefIdeal.main_arg0)
      ∧ r.2.mem ((c.tc : Thread Cert.ChipOutRefIdeal.nD Cert.ChipOutRefIdeal.τ).loc Cert.ChipOutRefIdeal.main_arg1) = m ((c.tc : Thread Cert.ChipOutRefIdeal.nD Cert.ChipOutRefIdeal.τ).loc Cert.ChipOutRefIdeal.main_arg1))
      ∧ r.2.sem = fun _ => 0)

def quiescent_ChipOutRefIdeal_pre_a_core_ChipOut [hChipOutRefIdeal : Cert.ChipOutRefIdeal.Facts] [hPre_a_core_ChipOut : Cert.Pre_a_core_ChipOut.Facts] : Prop :=
  ∀ (m : (ℓ : Loc Cert.ChipOutRefIdeal.nD Cert.ChipOutRefIdeal.τ Cert.ChipOutRefIdeal.sig) → Buf (Elt Ideal) ℓ) (g : Dev Cert.ChipOutRefIdeal.nD → PrngReg), Pre_ChipOutRefIdeal_a_core_ChipOut m →
    θ_run (Cert.ChipOutRefIdeal.defs (F := Ideal)) (onTc (τ := Cert.ChipOutRefIdeal.τ) (Cert.ChipOutRefIdeal.main (F := Ideal))) ⟨m, fun _ => 0, g⟩ (fun r => (∀ c : Dev Cert.ChipOutRefIdeal.nD,
      r.2.mem ((c.tc : Thread Cert.ChipOutRefIdeal.nD Cert.ChipOutRefIdeal.τ).loc Cert.ChipOutRefIdeal.main_arg0) = m ((c.tc : Thread Cert.ChipOutRefIdeal.nD Cert.ChipOutRefIdeal.τ).loc Cert.ChipOutRefIdeal.main_arg0)
      ∧ r.2.mem ((c.tc : Thread Cert.ChipOutRefIdeal.nD Cert.ChipOutRefIdeal.τ).loc Cert.ChipOutRefIdeal.main_arg1) = m ((c.tc : Thread Cert.ChipOutRefIdeal.nD Cert.ChipOutRefIdeal.τ).loc Cert.ChipOutRefIdeal.main_arg1))
      ∧ r.2.sem = fun _ => 0)

def quiescent_ChipSmall [hChipSmall : Cert.ChipSmall.Facts] [hPre_a_core_ChipSmall : Cert.Pre_a_core_ChipSmall.Facts] : Prop :=
  ∀ (m : (ℓ : Loc Cert.ChipSmall.nD Cert.ChipSmall.τ Cert.ChipSmall.sig) → Buf (Elt Bits) ℓ) (g : Dev Cert.ChipSmall.nD → PrngReg), Pre_ChipSmall m →
    θ_run (Cert.ChipSmall.defs (F := Bits)) (onTc (τ := Cert.ChipSmall.τ) (Cert.ChipSmall.main (F := Bits))) ⟨m, fun _ => 0, g⟩ (fun r => (∀ c : Dev Cert.ChipSmall.nD,
      r.2.mem ((c.tc : Thread Cert.ChipSmall.nD Cert.ChipSmall.τ).loc Cert.ChipSmall.main_arg0) = m ((c.tc : Thread Cert.ChipSmall.nD Cert.ChipSmall.τ).loc Cert.ChipSmall.main_arg0)
      ∧ r.2.mem ((c.tc : Thread Cert.ChipSmall.nD Cert.ChipSmall.τ).loc Cert.ChipSmall.main_arg1) = m ((c.tc : Thread Cert.ChipSmall.nD Cert.ChipSmall.τ).loc Cert.ChipSmall.main_arg1))
      ∧ r.2.sem = fun _ => 0)

def quiescent_ChipSmallIdeal [hChipSmallIdeal : Cert.ChipSmallIdeal.Facts] [hPre_a_core_ChipSmall : Cert.Pre_a_core_ChipSmall.Facts] : Prop :=
  ∀ (m : (ℓ : Loc Cert.ChipSmallIdeal.nD Cert.ChipSmallIdeal.τ Cert.ChipSmallIdeal.sig) → Buf (Elt Ideal) ℓ) (g : Dev Cert.ChipSmallIdeal.nD → PrngReg), Pre_ChipSmallIdeal m →
    θ_run (Cert.ChipSmallIdeal.defs (F := Ideal)) (onTc (τ := Cert.ChipSmallIdeal.τ) (Cert.ChipSmallIdeal.main (F := Ideal))) ⟨m, fun _ => 0, g⟩ (fun r => (∀ c : Dev Cert.ChipSmallIdeal.nD,
      r.2.mem ((c.tc : Thread Cert.ChipSmallIdeal.nD Cert.ChipSmallIdeal.τ).loc Cert.ChipSmallIdeal.main_arg0) = m ((c.tc : Thread Cert.ChipSmallIdeal.nD Cert.ChipSmallIdeal.τ).loc Cert.ChipSmallIdeal.main_arg0)
      ∧ r.2.mem ((c.tc : Thread Cert.ChipSmallIdeal.nD Cert.ChipSmallIdeal.τ).loc Cert.ChipSmallIdeal.main_arg1) = m ((c.tc : Thread Cert.ChipSmallIdeal.nD Cert.ChipSmallIdeal.τ).loc Cert.ChipSmallIdeal.main_arg1))
      ∧ r.2.sem = fun _ => 0)

def quiescent_ChipSmallRefIdeal [hChipSmallRefIdeal : Cert.ChipSmallRefIdeal.Facts] : Prop :=
  ∀ (m : (ℓ : Loc Cert.ChipSmallRefIdeal.nD Cert.ChipSmallRefIdeal.τ Cert.ChipSmallRefIdeal.sig) → Buf (Elt Ideal) ℓ) (g : Dev Cert.ChipSmallRefIdeal.nD → PrngReg), Pre_ChipSmallRefIdeal m →
    θ_run (Cert.ChipSmallRefIdeal.defs (F := Ideal)) (onTc (τ := Cert.ChipSmallRefIdeal.τ) (Cert.ChipSmallRefIdeal.main (F := Ideal))) ⟨m, fun _ => 0, g⟩ (fun r => (∀ c : Dev Cert.ChipSmallRefIdeal.nD,
      r.2.mem ((c.tc : Thread Cert.ChipSmallRefIdeal.nD Cert.ChipSmallRefIdeal.τ).loc Cert.ChipSmallRefIdeal.main_arg0) = m ((c.tc : Thread Cert.ChipSmallRefIdeal.nD Cert.ChipSmallRefIdeal.τ).loc Cert.ChipSmallRefIdeal.main_arg0)
      ∧ r.2.mem ((c.tc : Thread Cert.ChipSmallRefIdeal.nD Cert.ChipSmallRefIdeal.τ).loc Cert.ChipSmallRefIdeal.main_arg1) = m ((c.tc : Thread Cert.ChipSmallRefIdeal.nD Cert.ChipSmallRefIdeal.τ).loc Cert.ChipSmallRefIdeal.main_arg1))
      ∧ r.2.sem = fun _ => 0)

def quiescent_ChipSmallRefIdeal_pre_a_core_ChipSmall [hChipSmallRefIdeal : Cert.ChipSmallRefIdeal.Facts] [hPre_a_core_ChipSmall : Cert.Pre_a_core_ChipSmall.Facts] : Prop :=
  ∀ (m : (ℓ : Loc Cert.ChipSmallRefIdeal.nD Cert.ChipSmallRefIdeal.τ Cert.ChipSmallRefIdeal.sig) → Buf (Elt Ideal) ℓ) (g : Dev Cert.ChipSmallRefIdeal.nD → PrngReg), Pre_ChipSmallRefIdeal_a_core_ChipSmall m →
    θ_run (Cert.ChipSmallRefIdeal.defs (F := Ideal)) (onTc (τ := Cert.ChipSmallRefIdeal.τ) (Cert.ChipSmallRefIdeal.main (F := Ideal))) ⟨m, fun _ => 0, g⟩ (fun r => (∀ c : Dev Cert.ChipSmallRefIdeal.nD,
      r.2.mem ((c.tc : Thread Cert.ChipSmallRefIdeal.nD Cert.ChipSmallRefIdeal.τ).loc Cert.ChipSmallRefIdeal.main_arg0) = m ((c.tc : Thread Cert.ChipSmallRefIdeal.nD Cert.ChipSmallRefIdeal.τ).loc Cert.ChipSmallRefIdeal.main_arg0)
      ∧ r.2.mem ((c.tc : Thread Cert.ChipSmallRefIdeal.nD Cert.ChipSmallRefIdeal.τ).loc Cert.ChipSmallRefIdeal.main_arg1) = m ((c.tc : Thread Cert.ChipSmallRefIdeal.nD Cert.ChipSmallRefIdeal.τ).loc Cert.ChipSmallRefIdeal.main_arg1))
      ∧ r.2.sem = fun _ => 0)

def quiescent_PairL0In [hPairL0In : Cert.PairL0In.Facts] [hPre_a_core_PairL0In : Cert.Pre_a_core_PairL0In.Facts] : Prop :=
  ∀ (m : (ℓ : Loc Cert.PairL0In.nD Cert.PairL0In.τ Cert.PairL0In.sig) → Buf (Elt Bits) ℓ) (g : Dev Cert.PairL0In.nD → PrngReg), Pre_PairL0In m →
    θ_run (Cert.PairL0In.defs (F := Bits)) (onTc (τ := Cert.PairL0In.τ) (Cert.PairL0In.main (F := Bits))) ⟨m, fun _ => 0, g⟩ (fun r => (∀ c : Dev Cert.PairL0In.nD,
      r.2.mem ((c.tc : Thread Cert.PairL0In.nD Cert.PairL0In.τ).loc Cert.PairL0In.main_arg0) = m ((c.tc : Thread Cert.PairL0In.nD Cert.PairL0In.τ).loc Cert.PairL0In.main_arg0)
      ∧ r.2.mem ((c.tc : Thread Cert.PairL0In.nD Cert.PairL0In.τ).loc Cert.PairL0In.main_arg1) = m ((c.tc : Thread Cert.PairL0In.nD Cert.PairL0In.τ).loc Cert.PairL0In.main_arg1)
      ∧ r.2.mem ((c.tc : Thread Cert.PairL0In.nD Cert.PairL0In.τ).loc Cert.PairL0In.main_arg2) = m ((c.tc : Thread Cert.PairL0In.nD Cert.PairL0In.τ).loc Cert.PairL0In.main_arg2))
      ∧ r.2.sem = fun _ => 0)

def quiescent_PairL0InIdeal [hPairL0InIdeal : Cert.PairL0InIdeal.Facts] [hPre_a_core_PairL0In : Cert.Pre_a_core_PairL0In.Facts] : Prop :=
  ∀ (m : (ℓ : Loc Cert.PairL0InIdeal.nD Cert.PairL0InIdeal.τ Cert.PairL0InIdeal.sig) → Buf (Elt Ideal) ℓ) (g : Dev Cert.PairL0InIdeal.nD → PrngReg), Pre_PairL0InIdeal m →
    θ_run (Cert.PairL0InIdeal.defs (F := Ideal)) (onTc (τ := Cert.PairL0InIdeal.τ) (Cert.PairL0InIdeal.main (F := Ideal))) ⟨m, fun _ => 0, g⟩ (fun r => (∀ c : Dev Cert.PairL0InIdeal.nD,
      r.2.mem ((c.tc : Thread Cert.PairL0InIdeal.nD Cert.PairL0InIdeal.τ).loc Cert.PairL0InIdeal.main_arg0) = m ((c.tc : Thread Cert.PairL0InIdeal.nD Cert.PairL0InIdeal.τ).loc Cert.PairL0InIdeal.main_arg0)
      ∧ r.2.mem ((c.tc : Thread Cert.PairL0InIdeal.nD Cert.PairL0InIdeal.τ).loc Cert.PairL0InIdeal.main_arg1) = m ((c.tc : Thread Cert.PairL0InIdeal.nD Cert.PairL0InIdeal.τ).loc Cert.PairL0InIdeal.main_arg1)
      ∧ r.2.mem ((c.tc : Thread Cert.PairL0InIdeal.nD Cert.PairL0InIdeal.τ).loc Cert.PairL0InIdeal.main_arg2) = m ((c.tc : Thread Cert.PairL0InIdeal.nD Cert.PairL0InIdeal.τ).loc Cert.PairL0InIdeal.main_arg2))
      ∧ r.2.sem = fun _ => 0)

def quiescent_PairL0InRefIdeal [hPairL0InRefIdeal : Cert.PairL0InRefIdeal.Facts] : Prop :=
  ∀ (m : (ℓ : Loc Cert.PairL0InRefIdeal.nD Cert.PairL0InRefIdeal.τ Cert.PairL0InRefIdeal.sig) → Buf (Elt Ideal) ℓ) (g : Dev Cert.PairL0InRefIdeal.nD → PrngReg), Pre_PairL0InRefIdeal m →
    θ_run (Cert.PairL0InRefIdeal.defs (F := Ideal)) (onTc (τ := Cert.PairL0InRefIdeal.τ) (Cert.PairL0InRefIdeal.main (F := Ideal))) ⟨m, fun _ => 0, g⟩ (fun r => (∀ c : Dev Cert.PairL0InRefIdeal.nD,
      r.2.mem ((c.tc : Thread Cert.PairL0InRefIdeal.nD Cert.PairL0InRefIdeal.τ).loc Cert.PairL0InRefIdeal.main_arg0) = m ((c.tc : Thread Cert.PairL0InRefIdeal.nD Cert.PairL0InRefIdeal.τ).loc Cert.PairL0InRefIdeal.main_arg0)
      ∧ r.2.mem ((c.tc : Thread Cert.PairL0InRefIdeal.nD Cert.PairL0InRefIdeal.τ).loc Cert.PairL0InRefIdeal.main_arg1) = m ((c.tc : Thread Cert.PairL0InRefIdeal.nD Cert.PairL0InRefIdeal.τ).loc Cert.PairL0InRefIdeal.main_arg1)
      ∧ r.2.mem ((c.tc : Thread Cert.PairL0InRefIdeal.nD Cert.PairL0InRefIdeal.τ).loc Cert.PairL0InRefIdeal.main_arg2) = m ((c.tc : Thread Cert.PairL0InRefIdeal.nD Cert.PairL0InRefIdeal.τ).loc Cert.PairL0InRefIdeal.main_arg2))
      ∧ r.2.sem = fun _ => 0)

def quiescent_PairL0InRefIdeal_pre_a_core_PairL0In [hPairL0InRefIdeal : Cert.PairL0InRefIdeal.Facts] [hPre_a_core_PairL0In : Cert.Pre_a_core_PairL0In.Facts] : Prop :=
  ∀ (m : (ℓ : Loc Cert.PairL0InRefIdeal.nD Cert.PairL0InRefIdeal.τ Cert.PairL0InRefIdeal.sig) → Buf (Elt Ideal) ℓ) (g : Dev Cert.PairL0InRefIdeal.nD → PrngReg), Pre_PairL0InRefIdeal_a_core_PairL0In m →
    θ_run (Cert.PairL0InRefIdeal.defs (F := Ideal)) (onTc (τ := Cert.PairL0InRefIdeal.τ) (Cert.PairL0InRefIdeal.main (F := Ideal))) ⟨m, fun _ => 0, g⟩ (fun r => (∀ c : Dev Cert.PairL0InRefIdeal.nD,
      r.2.mem ((c.tc : Thread Cert.PairL0InRefIdeal.nD Cert.PairL0InRefIdeal.τ).loc Cert.PairL0InRefIdeal.main_arg0) = m ((c.tc : Thread Cert.PairL0InRefIdeal.nD Cert.PairL0InRefIdeal.τ).loc Cert.PairL0InRefIdeal.main_arg0)
      ∧ r.2.mem ((c.tc : Thread Cert.PairL0InRefIdeal.nD Cert.PairL0InRefIdeal.τ).loc Cert.PairL0InRefIdeal.main_arg1) = m ((c.tc : Thread Cert.PairL0InRefIdeal.nD Cert.PairL0InRefIdeal.τ).loc Cert.PairL0InRefIdeal.main_arg1)
      ∧ r.2.mem ((c.tc : Thread Cert.PairL0InRefIdeal.nD Cert.PairL0InRefIdeal.τ).loc Cert.PairL0InRefIdeal.main_arg2) = m ((c.tc : Thread Cert.PairL0InRefIdeal.nD Cert.PairL0InRefIdeal.τ).loc Cert.PairL0InRefIdeal.main_arg2))
      ∧ r.2.sem = fun _ => 0)

def quiescent_PairL1In [hPairL1In : Cert.PairL1In.Facts] [hPre_a_core_PairL1In : Cert.Pre_a_core_PairL1In.Facts] : Prop :=
  ∀ (m : (ℓ : Loc Cert.PairL1In.nD Cert.PairL1In.τ Cert.PairL1In.sig) → Buf (Elt Bits) ℓ) (g : Dev Cert.PairL1In.nD → PrngReg), Pre_PairL1In m →
    θ_run (Cert.PairL1In.defs (F := Bits)) (onTc (τ := Cert.PairL1In.τ) (Cert.PairL1In.main (F := Bits))) ⟨m, fun _ => 0, g⟩ (fun r => (∀ c : Dev Cert.PairL1In.nD,
      r.2.mem ((c.tc : Thread Cert.PairL1In.nD Cert.PairL1In.τ).loc Cert.PairL1In.main_arg0) = m ((c.tc : Thread Cert.PairL1In.nD Cert.PairL1In.τ).loc Cert.PairL1In.main_arg0)
      ∧ r.2.mem ((c.tc : Thread Cert.PairL1In.nD Cert.PairL1In.τ).loc Cert.PairL1In.main_arg1) = m ((c.tc : Thread Cert.PairL1In.nD Cert.PairL1In.τ).loc Cert.PairL1In.main_arg1)
      ∧ r.2.mem ((c.tc : Thread Cert.PairL1In.nD Cert.PairL1In.τ).loc Cert.PairL1In.main_arg2) = m ((c.tc : Thread Cert.PairL1In.nD Cert.PairL1In.τ).loc Cert.PairL1In.main_arg2))
      ∧ r.2.sem = fun _ => 0)

def quiescent_PairL1InIdeal [hPairL1InIdeal : Cert.PairL1InIdeal.Facts] [hPre_a_core_PairL1In : Cert.Pre_a_core_PairL1In.Facts] : Prop :=
  ∀ (m : (ℓ : Loc Cert.PairL1InIdeal.nD Cert.PairL1InIdeal.τ Cert.PairL1InIdeal.sig) → Buf (Elt Ideal) ℓ) (g : Dev Cert.PairL1InIdeal.nD → PrngReg), Pre_PairL1InIdeal m →
    θ_run (Cert.PairL1InIdeal.defs (F := Ideal)) (onTc (τ := Cert.PairL1InIdeal.τ) (Cert.PairL1InIdeal.main (F := Ideal))) ⟨m, fun _ => 0, g⟩ (fun r => (∀ c : Dev Cert.PairL1InIdeal.nD,
      r.2.mem ((c.tc : Thread Cert.PairL1InIdeal.nD Cert.PairL1InIdeal.τ).loc Cert.PairL1InIdeal.main_arg0) = m ((c.tc : Thread Cert.PairL1InIdeal.nD Cert.PairL1InIdeal.τ).loc Cert.PairL1InIdeal.main_arg0)
      ∧ r.2.mem ((c.tc : Thread Cert.PairL1InIdeal.nD Cert.PairL1InIdeal.τ).loc Cert.PairL1InIdeal.main_arg1) = m ((c.tc : Thread Cert.PairL1InIdeal.nD Cert.PairL1InIdeal.τ).loc Cert.PairL1InIdeal.main_arg1)
      ∧ r.2.mem ((c.tc : Thread Cert.PairL1InIdeal.nD Cert.PairL1InIdeal.τ).loc Cert.PairL1InIdeal.main_arg2) = m ((c.tc : Thread Cert.PairL1InIdeal.nD Cert.PairL1InIdeal.τ).loc Cert.PairL1InIdeal.main_arg2))
      ∧ r.2.sem = fun _ => 0)

def quiescent_PairL1InRefIdeal [hPairL1InRefIdeal : Cert.PairL1InRefIdeal.Facts] : Prop :=
  ∀ (m : (ℓ : Loc Cert.PairL1InRefIdeal.nD Cert.PairL1InRefIdeal.τ Cert.PairL1InRefIdeal.sig) → Buf (Elt Ideal) ℓ) (g : Dev Cert.PairL1InRefIdeal.nD → PrngReg), Pre_PairL1InRefIdeal m →
    θ_run (Cert.PairL1InRefIdeal.defs (F := Ideal)) (onTc (τ := Cert.PairL1InRefIdeal.τ) (Cert.PairL1InRefIdeal.main (F := Ideal))) ⟨m, fun _ => 0, g⟩ (fun r => (∀ c : Dev Cert.PairL1InRefIdeal.nD,
      r.2.mem ((c.tc : Thread Cert.PairL1InRefIdeal.nD Cert.PairL1InRefIdeal.τ).loc Cert.PairL1InRefIdeal.main_arg0) = m ((c.tc : Thread Cert.PairL1InRefIdeal.nD Cert.PairL1InRefIdeal.τ).loc Cert.PairL1InRefIdeal.main_arg0)
      ∧ r.2.mem ((c.tc : Thread Cert.PairL1InRefIdeal.nD Cert.PairL1InRefIdeal.τ).loc Cert.PairL1InRefIdeal.main_arg1) = m ((c.tc : Thread Cert.PairL1InRefIdeal.nD Cert.PairL1InRefIdeal.τ).loc Cert.PairL1InRefIdeal.main_arg1)
      ∧ r.2.mem ((c.tc : Thread Cert.PairL1InRefIdeal.nD Cert.PairL1InRefIdeal.τ).loc Cert.PairL1InRefIdeal.main_arg2) = m ((c.tc : Thread Cert.PairL1InRefIdeal.nD Cert.PairL1InRefIdeal.τ).loc Cert.PairL1InRefIdeal.main_arg2))
      ∧ r.2.sem = fun _ => 0)

def quiescent_PairL1InRefIdeal_pre_a_core_PairL1In [hPairL1InRefIdeal : Cert.PairL1InRefIdeal.Facts] [hPre_a_core_PairL1In : Cert.Pre_a_core_PairL1In.Facts] : Prop :=
  ∀ (m : (ℓ : Loc Cert.PairL1InRefIdeal.nD Cert.PairL1InRefIdeal.τ Cert.PairL1InRefIdeal.sig) → Buf (Elt Ideal) ℓ) (g : Dev Cert.PairL1InRefIdeal.nD → PrngReg), Pre_PairL1InRefIdeal_a_core_PairL1In m →
    θ_run (Cert.PairL1InRefIdeal.defs (F := Ideal)) (onTc (τ := Cert.PairL1InRefIdeal.τ) (Cert.PairL1InRefIdeal.main (F := Ideal))) ⟨m, fun _ => 0, g⟩ (fun r => (∀ c : Dev Cert.PairL1InRefIdeal.nD,
      r.2.mem ((c.tc : Thread Cert.PairL1InRefIdeal.nD Cert.PairL1InRefIdeal.τ).loc Cert.PairL1InRefIdeal.main_arg0) = m ((c.tc : Thread Cert.PairL1InRefIdeal.nD Cert.PairL1InRefIdeal.τ).loc Cert.PairL1InRefIdeal.main_arg0)
      ∧ r.2.mem ((c.tc : Thread Cert.PairL1InRefIdeal.nD Cert.PairL1InRefIdeal.τ).loc Cert.PairL1InRefIdeal.main_arg1) = m ((c.tc : Thread Cert.PairL1InRefIdeal.nD Cert.PairL1InRefIdeal.τ).loc Cert.PairL1InRefIdeal.main_arg1)
      ∧ r.2.mem ((c.tc : Thread Cert.PairL1InRefIdeal.nD Cert.PairL1InRefIdeal.τ).loc Cert.PairL1InRefIdeal.main_arg2) = m ((c.tc : Thread Cert.PairL1InRefIdeal.nD Cert.PairL1InRefIdeal.τ).loc Cert.PairL1InRefIdeal.main_arg2))
      ∧ r.2.sem = fun _ => 0)

def quiescent_PairUp [hPairUp : Cert.PairUp.Facts] [hPre_a_core_PairUp : Cert.Pre_a_core_PairUp.Facts] : Prop :=
  ∀ (m : (ℓ : Loc Cert.PairUp.nD Cert.PairUp.τ Cert.PairUp.sig) → Buf (Elt Bits) ℓ) (g : Dev Cert.PairUp.nD → PrngReg), Pre_PairUp m →
    θ_run (Cert.PairUp.defs (F := Bits)) (onTc (τ := Cert.PairUp.τ) (Cert.PairUp.main (F := Bits))) ⟨m, fun _ => 0, g⟩ (fun r => (∀ c : Dev Cert.PairUp.nD,
      r.2.mem ((c.tc : Thread Cert.PairUp.nD Cert.PairUp.τ).loc Cert.PairUp.main_arg0) = m ((c.tc : Thread Cert.PairUp.nD Cert.PairUp.τ).loc Cert.PairUp.main_arg0)
      ∧ r.2.mem ((c.tc : Thread Cert.PairUp.nD Cert.PairUp.τ).loc Cert.PairUp.main_arg1) = m ((c.tc : Thread Cert.PairUp.nD Cert.PairUp.τ).loc Cert.PairUp.main_arg1)
      ∧ r.2.mem ((c.tc : Thread Cert.PairUp.nD Cert.PairUp.τ).loc Cert.PairUp.main_arg2) = m ((c.tc : Thread Cert.PairUp.nD Cert.PairUp.τ).loc Cert.PairUp.main_arg2))
      ∧ r.2.sem = fun _ => 0)

def quiescent_PairUpIdeal [hPairUpIdeal : Cert.PairUpIdeal.Facts] [hPre_a_core_PairUp : Cert.Pre_a_core_PairUp.Facts] : Prop :=
  ∀ (m : (ℓ : Loc Cert.PairUpIdeal.nD Cert.PairUpIdeal.τ Cert.PairUpIdeal.sig) → Buf (Elt Ideal) ℓ) (g : Dev Cert.PairUpIdeal.nD → PrngReg), Pre_PairUpIdeal m →
    θ_run (Cert.PairUpIdeal.defs (F := Ideal)) (onTc (τ := Cert.PairUpIdeal.τ) (Cert.PairUpIdeal.main (F := Ideal))) ⟨m, fun _ => 0, g⟩ (fun r => (∀ c : Dev Cert.PairUpIdeal.nD,
      r.2.mem ((c.tc : Thread Cert.PairUpIdeal.nD Cert.PairUpIdeal.τ).loc Cert.PairUpIdeal.main_arg0) = m ((c.tc : Thread Cert.PairUpIdeal.nD Cert.PairUpIdeal.τ).loc Cert.PairUpIdeal.main_arg0)
      ∧ r.2.mem ((c.tc : Thread Cert.PairUpIdeal.nD Cert.PairUpIdeal.τ).loc Cert.PairUpIdeal.main_arg1) = m ((c.tc : Thread Cert.PairUpIdeal.nD Cert.PairUpIdeal.τ).loc Cert.PairUpIdeal.main_arg1)
      ∧ r.2.mem ((c.tc : Thread Cert.PairUpIdeal.nD Cert.PairUpIdeal.τ).loc Cert.PairUpIdeal.main_arg2) = m ((c.tc : Thread Cert.PairUpIdeal.nD Cert.PairUpIdeal.τ).loc Cert.PairUpIdeal.main_arg2))
      ∧ r.2.sem = fun _ => 0)

def quiescent_PairUpRefIdeal [hPairUpRefIdeal : Cert.PairUpRefIdeal.Facts] : Prop :=
  ∀ (m : (ℓ : Loc Cert.PairUpRefIdeal.nD Cert.PairUpRefIdeal.τ Cert.PairUpRefIdeal.sig) → Buf (Elt Ideal) ℓ) (g : Dev Cert.PairUpRefIdeal.nD → PrngReg), Pre_PairUpRefIdeal m →
    θ_run (Cert.PairUpRefIdeal.defs (F := Ideal)) (onTc (τ := Cert.PairUpRefIdeal.τ) (Cert.PairUpRefIdeal.main (F := Ideal))) ⟨m, fun _ => 0, g⟩ (fun r => (∀ c : Dev Cert.PairUpRefIdeal.nD,
      r.2.mem ((c.tc : Thread Cert.PairUpRefIdeal.nD Cert.PairUpRefIdeal.τ).loc Cert.PairUpRefIdeal.main_arg0) = m ((c.tc : Thread Cert.PairUpRefIdeal.nD Cert.PairUpRefIdeal.τ).loc Cert.PairUpRefIdeal.main_arg0)
      ∧ r.2.mem ((c.tc : Thread Cert.PairUpRefIdeal.nD Cert.PairUpRefIdeal.τ).loc Cert.PairUpRefIdeal.main_arg1) = m ((c.tc : Thread Cert.PairUpRefIdeal.nD Cert.PairUpRefIdeal.τ).loc Cert.PairUpRefIdeal.main_arg1)
      ∧ r.2.mem ((c.tc : Thread Cert.PairUpRefIdeal.nD Cert.PairUpRefIdeal.τ).loc Cert.PairUpRefIdeal.main_arg2) = m ((c.tc : Thread Cert.PairUpRefIdeal.nD Cert.PairUpRefIdeal.τ).loc Cert.PairUpRefIdeal.main_arg2))
      ∧ r.2.sem = fun _ => 0)

def quiescent_PairUpRefIdeal_pre_a_core_PairUp [hPairUpRefIdeal : Cert.PairUpRefIdeal.Facts] [hPre_a_core_PairUp : Cert.Pre_a_core_PairUp.Facts] : Prop :=
  ∀ (m : (ℓ : Loc Cert.PairUpRefIdeal.nD Cert.PairUpRefIdeal.τ Cert.PairUpRefIdeal.sig) → Buf (Elt Ideal) ℓ) (g : Dev Cert.PairUpRefIdeal.nD → PrngReg), Pre_PairUpRefIdeal_a_core_PairUp m →
    θ_run (Cert.PairUpRefIdeal.defs (F := Ideal)) (onTc (τ := Cert.PairUpRefIdeal.τ) (Cert.PairUpRefIdeal.main (F := Ideal))) ⟨m, fun _ => 0, g⟩ (fun r => (∀ c : Dev Cert.PairUpRefIdeal.nD,
      r.2.mem ((c.tc : Thread Cert.PairUpRefIdeal.nD Cert.PairUpRefIdeal.τ).loc Cert.PairUpRefIdeal.main_arg0) = m ((c.tc : Thread Cert.PairUpRefIdeal.nD Cert.PairUpRefIdeal.τ).loc Cert.PairUpRefIdeal.main_arg0)
      ∧ r.2.mem ((c.tc : Thread Cert.PairUpRefIdeal.nD Cert.PairUpRefIdeal.τ).loc Cert.PairUpRefIdeal.main_arg1) = m ((c.tc : Thread Cert.PairUpRefIdeal.nD Cert.PairUpRefIdeal.τ).loc Cert.PairUpRefIdeal.main_arg1)
      ∧ r.2.mem ((c.tc : Thread Cert.PairUpRefIdeal.nD Cert.PairUpRefIdeal.τ).loc Cert.PairUpRefIdeal.main_arg2) = m ((c.tc : Thread Cert.PairUpRefIdeal.nD Cert.PairUpRefIdeal.τ).loc Cert.PairUpRefIdeal.main_arg2))
      ∧ r.2.sem = fun _ => 0)

def quiescent_PairDown [hPairDown : Cert.PairDown.Facts] [hPre_a_core_PairDown : Cert.Pre_a_core_PairDown.Facts] : Prop :=
  ∀ (m : (ℓ : Loc Cert.PairDown.nD Cert.PairDown.τ Cert.PairDown.sig) → Buf (Elt Bits) ℓ) (g : Dev Cert.PairDown.nD → PrngReg), Pre_PairDown m →
    θ_run (Cert.PairDown.defs (F := Bits)) (onTc (τ := Cert.PairDown.τ) (Cert.PairDown.main (F := Bits))) ⟨m, fun _ => 0, g⟩ (fun r => (∀ c : Dev Cert.PairDown.nD,
      r.2.mem ((c.tc : Thread Cert.PairDown.nD Cert.PairDown.τ).loc Cert.PairDown.main_arg0) = m ((c.tc : Thread Cert.PairDown.nD Cert.PairDown.τ).loc Cert.PairDown.main_arg0)
      ∧ r.2.mem ((c.tc : Thread Cert.PairDown.nD Cert.PairDown.τ).loc Cert.PairDown.main_arg1) = m ((c.tc : Thread Cert.PairDown.nD Cert.PairDown.τ).loc Cert.PairDown.main_arg1)
      ∧ r.2.mem ((c.tc : Thread Cert.PairDown.nD Cert.PairDown.τ).loc Cert.PairDown.main_arg2) = m ((c.tc : Thread Cert.PairDown.nD Cert.PairDown.τ).loc Cert.PairDown.main_arg2))
      ∧ r.2.sem = fun _ => 0)

def quiescent_PairDownIdeal [hPairDownIdeal : Cert.PairDownIdeal.Facts] [hPre_a_core_PairDown : Cert.Pre_a_core_PairDown.Facts] : Prop :=
  ∀ (m : (ℓ : Loc Cert.PairDownIdeal.nD Cert.PairDownIdeal.τ Cert.PairDownIdeal.sig) → Buf (Elt Ideal) ℓ) (g : Dev Cert.PairDownIdeal.nD → PrngReg), Pre_PairDownIdeal m →
    θ_run (Cert.PairDownIdeal.defs (F := Ideal)) (onTc (τ := Cert.PairDownIdeal.τ) (Cert.PairDownIdeal.main (F := Ideal))) ⟨m, fun _ => 0, g⟩ (fun r => (∀ c : Dev Cert.PairDownIdeal.nD,
      r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
      ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1)
      ∧ r.2.mem ((c.tc : Thread Cert.PairDownIdeal.nD Cert.PairDownIdeal.τ).loc Cert.PairDownIdeal.main_arg2) = m ((c.tc : Thread Cert.PairDownIdeal.nD Cert.PairDownIdeal.τ).loc Cert.PairDownIdeal.main_arg2))
      ∧ r.2.sem = fun _ => 0)

def quiescent_PairDownRefIdeal [hPairDownRefIdeal : Cert.PairDownRefIdeal.Facts] : Prop :=
  ∀ (m : (ℓ : Loc Cert.PairDownRefIdeal.nD Cert.PairDownRefIdeal.τ Cert.PairDownRefIdeal.sig) → Buf (Elt Ideal) ℓ) (g : Dev Cert.PairDownRefIdeal.nD → PrngReg), Pre_PairDownRefIdeal m →
    θ_run (Cert.PairDownRefIdeal.defs (F := Ideal)) (onTc (τ := Cert.PairDownRefIdeal.τ) (Cert.PairDownRefIdeal.main (F := Ideal))) ⟨m, fun _ => 0, g⟩ (fun r => (∀ c : Dev Cert.PairDownRefIdeal.nD,
      r.2.mem ((c.tc : Thread Cert.PairDownRefIdeal.nD Cert.PairDownRefIdeal.τ).loc Cert.PairDownRefIdeal.main_arg0) = m ((c.tc : Thread Cert.PairDownRefIdeal.nD Cert.PairDownRefIdeal.τ).loc Cert.PairDownRefIdeal.main_arg0)
      ∧ r.2.mem ((c.tc : Thread Cert.PairDownRefIdeal.nD Cert.PairDownRefIdeal.τ).loc Cert.PairDownRefIdeal.main_arg1) = m ((c.tc : Thread Cert.PairDownRefIdeal.nD Cert.PairDownRefIdeal.τ).loc Cert.PairDownRefIdeal.main_arg1)
      ∧ r.2.mem ((c.tc : Thread Cert.PairDownRefIdeal.nD Cert.PairDownRefIdeal.τ).loc Cert.PairDownRefIdeal.main_arg2) = m ((c.tc : Thread Cert.PairDownRefIdeal.nD Cert.PairDownRefIdeal.τ).loc Cert.PairDownRefIdeal.main_arg2))
      ∧ r.2.sem = fun _ => 0)

def quiescent_PairDownRefIdeal_pre_a_core_PairDown [hPairDownRefIdeal : Cert.PairDownRefIdeal.Facts] [hPre_a_core_PairDown : Cert.Pre_a_core_PairDown.Facts] : Prop :=
  ∀ (m : (ℓ : Loc Cert.PairDownRefIdeal.nD Cert.PairDownRefIdeal.τ Cert.PairDownRefIdeal.sig) → Buf (Elt Ideal) ℓ) (g : Dev Cert.PairDownRefIdeal.nD → PrngReg), Pre_PairDownRefIdeal_a_core_PairDown m →
    θ_run (Cert.PairDownRefIdeal.defs (F := Ideal)) (onTc (τ := Cert.PairDownRefIdeal.τ) (Cert.PairDownRefIdeal.main (F := Ideal))) ⟨m, fun _ => 0, g⟩ (fun r => (∀ c : Dev Cert.PairDownRefIdeal.nD,
      r.2.mem ((c.tc : Thread Cert.PairDownRefIdeal.nD Cert.PairDownRefIdeal.τ).loc Cert.PairDownRefIdeal.main_arg0) = m ((c.tc : Thread Cert.PairDownRefIdeal.nD Cert.PairDownRefIdeal.τ).loc Cert.PairDownRefIdeal.main_arg0)
      ∧ r.2.mem ((c.tc : Thread Cert.PairDownRefIdeal.nD Cert.PairDownRefIdeal.τ).loc Cert.PairDownRefIdeal.main_arg1) = m ((c.tc : Thread Cert.PairDownRefIdeal.nD Cert.PairDownRefIdeal.τ).loc Cert.PairDownRefIdeal.main_arg1)
      ∧ r.2.mem ((c.tc : Thread Cert.PairDownRefIdeal.nD Cert.PairDownRefIdeal.τ).loc Cert.PairDownRefIdeal.main_arg2) = m ((c.tc : Thread Cert.PairDownRefIdeal.nD Cert.PairDownRefIdeal.τ).loc Cert.PairDownRefIdeal.main_arg2))
      ∧ r.2.sem = fun _ => 0)

def quiescent_PairOut [hPairOut : Cert.PairOut.Facts] [hPre_a_core_PairOut : Cert.Pre_a_core_PairOut.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1)
      ∧ r.2.mem ((c.tc : Thread Cert.PairOut.nD Cert.PairOut.τ).loc Cert.PairOut.main_arg2) = m ((c.tc : Thread Cert.PairOut.nD Cert.PairOut.τ).loc Cert.PairOut.main_arg2))
      ∧ r.2.sem = fun _ => 0)

def quiescent_PairOutIdeal [hPairOutIdeal : Cert.PairOutIdeal.Facts] [hPre_a_core_PairOut : Cert.Pre_a_core_PairOut.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1)
      ∧ r.2.mem ((c.tc : Thread Cert.PairOutIdeal.nD Cert.PairOutIdeal.τ).loc Cert.PairOutIdeal.main_arg2) = m ((c.tc : Thread Cert.PairOutIdeal.nD Cert.PairOutIdeal.τ).loc Cert.PairOutIdeal.main_arg2))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1)
      ∧ r.2.mem ((c.tc : Thread Cert.PairOutRefIdeal.nD Cert.PairOutRefIdeal.τ).loc Cert.PairOutRefIdeal.main_arg2) = m ((c.tc : Thread Cert.PairOutRefIdeal.nD Cert.PairOutRefIdeal.τ).loc Cert.PairOutRefIdeal.main_arg2))
      ∧ r.2.sem = fun _ => 0)

def quiescent_PairOutRefIdeal_pre_a_core_PairOut [hPairOutRefIdeal : Cert.PairOutRefIdeal.Facts] [hPre_a_core_PairOut : Cert.Pre_a_core_PairOut.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal_a_core_PairOut m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1)
      ∧ r.2.mem ((c.tc : Thread Cert.PairOutRefIdeal.nD Cert.PairOutRefIdeal.τ).loc Cert.PairOutRefIdeal.main_arg2) = m ((c.tc : Thread Cert.PairOutRefIdeal.nD Cert.PairOutRefIdeal.τ).loc Cert.PairOutRefIdeal.main_arg2))
      ∧ r.2.sem = fun _ => 0)

def quiescent_PairSmall [hPairSmall : Cert.PairSmall.Facts] [hPre_a_core_PairSmall : Cert.Pre_a_core_PairSmall.Facts] : Prop :=
  ∀ (m : (ℓ : Loc Cert.PairSmall.nD Cert.PairSmall.τ Cert.PairSmall.sig) → Buf (Elt Bits) ℓ) (g : Dev Cert.PairSmall.nD → PrngReg), Pre_PairSmall m →
    θ_run (Cert.PairSmall.defs (F := Bits)) (onTc (τ := Cert.PairSmall.τ) (Cert.PairSmall.main (F := Bits))) ⟨m, fun _ => 0, g⟩ (fun r => (∀ c : Dev Cert.PairSmall.nD,
      r.2.mem ((c.tc : Thread Cert.PairSmall.nD Cert.PairSmall.τ).loc Cert.PairSmall.main_arg0) = m ((c.tc : Thread Cert.PairSmall.nD Cert.PairSmall.τ).loc Cert.PairSmall.main_arg0)
      ∧ r.2.mem ((c.tc : Thread Cert.PairSmall.nD Cert.PairSmall.τ).loc Cert.PairSmall.main_arg1) = m ((c.tc : Thread Cert.PairSmall.nD Cert.PairSmall.τ).loc Cert.PairSmall.main_arg1)
      ∧ r.2.mem ((c.tc : Thread Cert.PairSmall.nD Cert.PairSmall.τ).loc Cert.PairSmall.main_arg2) = m ((c.tc : Thread Cert.PairSmall.nD Cert.PairSmall.τ).loc Cert.PairSmall.main_arg2))
      ∧ r.2.sem = fun _ => 0)

def quiescent_PairSmallIdeal [hPairSmallIdeal : Cert.PairSmallIdeal.Facts] [hPre_a_core_PairSmall : Cert.Pre_a_core_PairSmall.Facts] : Prop :=
  ∀ (m : (ℓ : Loc Cert.PairSmallIdeal.nD Cert.PairSmallIdeal.τ Cert.PairSmallIdeal.sig) → Buf (Elt Ideal) ℓ) (g : Dev Cert.PairSmallIdeal.nD → PrngReg), Pre_PairSmallIdeal m →
    θ_run (Cert.PairSmallIdeal.defs (F := Ideal)) (onTc (τ := Cert.PairSmallIdeal.τ) (Cert.PairSmallIdeal.main (F := Ideal))) ⟨m, fun _ => 0, g⟩ (fun r => (∀ c : Dev Cert.PairSmallIdeal.nD,
      r.2.mem ((c.tc : Thread Cert.PairSmallIdeal.nD Cert.PairSmallIdeal.τ).loc Cert.PairSmallIdeal.main_arg0) = m ((c.tc : Thread Cert.PairSmallIdeal.nD Cert.PairSmallIdeal.τ).loc Cert.PairSmallIdeal.main_arg0)
      ∧ r.2.mem ((c.tc : Thread Cert.PairSmallIdeal.nD Cert.PairSmallIdeal.τ).loc Cert.PairSmallIdeal.main_arg1) = m ((c.tc : Thread Cert.PairSmallIdeal.nD Cert.PairSmallIdeal.τ).loc Cert.PairSmallIdeal.main_arg1)
      ∧ r.2.mem ((c.tc : Thread Cert.PairSmallIdeal.nD Cert.PairSmallIdeal.τ).loc Cert.PairSmallIdeal.main_arg2) = m ((c.tc : Thread Cert.PairSmallIdeal.nD Cert.PairSmallIdeal.τ).loc Cert.PairSmallIdeal.main_arg2))
      ∧ r.2.sem = fun _ => 0)

def quiescent_PairSmallRefIdeal [hPairSmallRefIdeal : Cert.PairSmallRefIdeal.Facts] : Prop :=
  ∀ (m : (ℓ : Loc Cert.PairSmallRefIdeal.nD Cert.PairSmallRefIdeal.τ Cert.PairSmallRefIdeal.sig) → Buf (Elt Ideal) ℓ) (g : Dev Cert.PairSmallRefIdeal.nD → PrngReg), Pre_PairSmallRefIdeal m →
    θ_run (Cert.PairSmallRefIdeal.defs (F := Ideal)) (onTc (τ := Cert.PairSmallRefIdeal.τ) (Cert.PairSmallRefIdeal.main (F := Ideal))) ⟨m, fun _ => 0, g⟩ (fun r => (∀ c : Dev Cert.PairSmallRefIdeal.nD,
      r.2.mem ((c.tc : Thread Cert.PairSmallRefIdeal.nD Cert.PairSmallRefIdeal.τ).loc Cert.PairSmallRefIdeal.main_arg0) = m ((c.tc : Thread Cert.PairSmallRefIdeal.nD Cert.PairSmallRefIdeal.τ).loc Cert.PairSmallRefIdeal.main_arg0)
      ∧ r.2.mem ((c.tc : Thread Cert.PairSmallRefIdeal.nD Cert.PairSmallRefIdeal.τ).loc Cert.PairSmallRefIdeal.main_arg1) = m ((c.tc : Thread Cert.PairSmallRefIdeal.nD Cert.PairSmallRefIdeal.τ).loc Cert.PairSmallRefIdeal.main_arg1)
      ∧ r.2.mem ((c.tc : Thread Cert.PairSmallRefIdeal.nD Cert.PairSmallRefIdeal.τ).loc Cert.PairSmallRefIdeal.main_arg2) = m ((c.tc : Thread Cert.PairSmallRefIdeal.nD Cert.PairSmallRefIdeal.τ).loc Cert.PairSmallRefIdeal.main_arg2))
      ∧ r.2.sem = fun _ => 0)

def quiescent_PairSmallRefIdeal_pre_a_core_PairSmall [hPairSmallRefIdeal : Cert.PairSmallRefIdeal.Facts] [hPre_a_core_PairSmall : Cert.Pre_a_core_PairSmall.Facts] : Prop :=
  ∀ (m : (ℓ : Loc Cert.PairSmallRefIdeal.nD Cert.PairSmallRefIdeal.τ Cert.PairSmallRefIdeal.sig) → Buf (Elt Ideal) ℓ) (g : Dev Cert.PairSmallRefIdeal.nD → PrngReg), Pre_PairSmallRefIdeal_a_core_PairSmall m →
    θ_run (Cert.PairSmallRefIdeal.defs (F := Ideal)) (onTc (τ := Cert.PairSmallRefIdeal.τ) (Cert.PairSmallRefIdeal.main (F := Ideal))) ⟨m, fun _ => 0, g⟩ (fun r => (∀ c : Dev Cert.PairSmallRefIdeal.nD,
      r.2.mem ((c.tc : Thread Cert.PairSmallRefIdeal.nD Cert.PairSmallRefIdeal.τ).loc Cert.PairSmallRefIdeal.main_arg0) = m ((c.tc : Thread Cert.PairSmallRefIdeal.nD Cert.PairSmallRefIdeal.τ).loc Cert.PairSmallRefIdeal.main_arg0)
      ∧ r.2.mem ((c.tc : Thread Cert.PairSmallRefIdeal.nD Cert.PairSmallRefIdeal.τ).loc Cert.PairSmallRefIdeal.main_arg1) = m ((c.tc : Thread Cert.PairSmallRefIdeal.nD Cert.PairSmallRefIdeal.τ).loc Cert.PairSmallRefIdeal.main_arg1)
      ∧ r.2.mem ((c.tc : Thread Cert.PairSmallRefIdeal.nD Cert.PairSmallRefIdeal.τ).loc Cert.PairSmallRefIdeal.main_arg2) = m ((c.tc : Thread Cert.PairSmallRefIdeal.nD Cert.PairSmallRefIdeal.τ).loc Cert.PairSmallRefIdeal.main_arg2))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_LossSumRefIdeal [hLossSumRefIdeal : Cert.LossSumRefIdeal.Facts] : Prop :=
  ∀ (m : (ℓ : Loc Cert.LossSumRefIdeal.nD Cert.LossSumRefIdeal.τ Cert.LossSumRefIdeal.sig) → Buf (Elt Ideal) ℓ) (g : Dev Cert.LossSumRefIdeal.nD → PrngReg), Pre_LossSumRefIdeal m →
    θ_run (Cert.LossSumRefIdeal.defs (F := Ideal)) (onTc (τ := Cert.LossSumRefIdeal.τ) (Cert.LossSumRefIdeal.main (F := Ideal))) ⟨m, fun _ => 0, g⟩ (fun r => (∀ c : Dev Cert.LossSumRefIdeal.nD,
      r.2.mem ((c.tc : Thread Cert.LossSumRefIdeal.nD Cert.LossSumRefIdeal.τ).loc Cert.LossSumRefIdeal.main_arg0) = m ((c.tc : Thread Cert.LossSumRefIdeal.nD Cert.LossSumRefIdeal.τ).loc Cert.LossSumRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v3) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_HalfDx_HalfDxIdeal : Prop :=
  True

def algebraic_HalfDxIdeal_HalfDxRefIdeal [hHalfDxIdeal : Cert.HalfDxIdeal.Facts] [hHalfDxRefIdeal : Cert.HalfDxRefIdeal.Facts] : Prop :=
  ∀ (m : (ℓ : Loc Cert.HalfDxIdeal.nD Cert.HalfDxIdeal.τ Cert.HalfDxIdeal.sig) → Buf (Elt Ideal) ℓ) (g : Dev Cert.HalfDxIdeal.nD → PrngReg)
    (m' : (ℓ : Loc Cert.HalfDxRefIdeal.nD Cert.HalfDxRefIdeal.τ Cert.HalfDxRefIdeal.sig) → Buf (Elt Ideal) ℓ) (g' : Dev Cert.HalfDxRefIdeal.nD → PrngReg), Pre_HalfDxIdeal m →
    (∀ c : Dev Cert.HalfDxIdeal.nD,
      m' ((c.tc : Thread Cert.HalfDxRefIdeal.nD Cert.HalfDxRefIdeal.τ).loc Cert.HalfDxRefIdeal.main_arg0) = m ((c.tc : Thread Cert.HalfDxIdeal.nD Cert.HalfDxIdeal.τ).loc Cert.HalfDxIdeal.main_arg0)
      ∧ m' ((c.tc : Thread Cert.HalfDxRefIdeal.nD Cert.HalfDxRefIdeal.τ).loc Cert.HalfDxRefIdeal.main_arg1) = m ((c.tc : Thread Cert.HalfDxIdeal.nD Cert.HalfDxIdeal.τ).loc Cert.HalfDxIdeal.main_arg1)
      ∧ m' ((c.tc : Thread Cert.HalfDxRefIdeal.nD Cert.HalfDxRefIdeal.τ).loc Cert.HalfDxRefIdeal.main_arg2) = m ((c.tc : Thread Cert.HalfDxIdeal.nD Cert.HalfDxIdeal.τ).loc Cert.HalfDxIdeal.main_arg2)) →
    ∃ (v0 : (c : Dev Cert.HalfDxIdeal.nD) → Buf (Elt Ideal) ((c.tc : Thread Cert.HalfDxIdeal.nD Cert.HalfDxIdeal.τ).loc Cert.HalfDxIdeal.main_v2)),
      θ_run (Cert.HalfDxIdeal.defs (F := Ideal)) (onTc (τ := Cert.HalfDxIdeal.τ) (Cert.HalfDxIdeal.main (F := Ideal))) ⟨m, fun _ => 0, g⟩ (fun r => ∀ c : Dev Cert.HalfDxIdeal.nD,
          r.2.mem ((c.tc : Thread Cert.HalfDxIdeal.nD Cert.HalfDxIdeal.τ).loc Cert.HalfDxIdeal.main_v2) = v0 c
          ∧ r.2.mem ((c.tc : Thread Cert.HalfDxIdeal.nD Cert.HalfDxIdeal.τ).loc Cert.HalfDxIdeal.main_arg0) = m ((c.tc : Thread Cert.HalfDxIdeal.nD Cert.HalfDxIdeal.τ).loc Cert.HalfDxIdeal.main_arg0)
          ∧ r.2.mem ((c.tc : Thread Cert.HalfDxIdeal.nD Cert.HalfDxIdeal.τ).loc Cert.HalfDxIdeal.main_arg1) = m ((c.tc : Thread Cert.HalfDxIdeal.nD Cert.HalfDxIdeal.τ).loc Cert.HalfDxIdeal.main_arg1)
          ∧ r.2.mem ((c.tc : Thread Cert.HalfDxIdeal.nD Cert.HalfDxIdeal.τ).loc Cert.HalfDxIdeal.main_arg2) = m ((c.tc : Thread Cert.HalfDxIdeal.nD Cert.HalfDxIdeal.τ).loc Cert.HalfDxIdeal.main_arg2))
      ∧ θ_run (Cert.HalfDxRefIdeal.defs (F := Ideal)) (onTc (τ := Cert.HalfDxRefIdeal.τ) (Cert.HalfDxRefIdeal.main (F := Ideal))) ⟨m', fun _ => 0, g'⟩ (fun r => ∀ c : Dev Cert.HalfDxRefIdeal.nD,
          r.2.mem ((c.tc : Thread Cert.HalfDxRefIdeal.nD Cert.HalfDxRefIdeal.τ).loc Cert.HalfDxRefIdeal.main_v3) = v0 c
          ∧ r.2.mem ((c.tc : Thread Cert.HalfDxRefIdeal.nD Cert.HalfDxRefIdeal.τ).loc Cert.HalfDxRefIdeal.main_arg0) = m' ((c.tc : Thread Cert.HalfDxRefIdeal.nD Cert.HalfDxRefIdeal.τ).loc Cert.HalfDxRefIdeal.main_arg0)
          ∧ r.2.mem ((c.tc : Thread Cert.HalfDxRefIdeal.nD Cert.HalfDxRefIdeal.τ).loc Cert.HalfDxRefIdeal.main_arg1) = m' ((c.tc : Thread Cert.HalfDxRefIdeal.nD Cert.HalfDxRefIdeal.τ).loc Cert.HalfDxRefIdeal.main_arg1)
          ∧ r.2.mem ((c.tc : Thread Cert.HalfDxRefIdeal.nD Cert.HalfDxRefIdeal.τ).loc Cert.HalfDxRefIdeal.main_arg2) = m' ((c.tc : Thread Cert.HalfDxRefIdeal.nD Cert.HalfDxRefIdeal.τ).loc Cert.HalfDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_GateDw_GateDwIdeal : Prop :=
  True

def algebraic_GateDwIdeal_GateDwRefIdeal_on_first_two [hGateDwIdeal : Cert.GateDwIdeal.Facts] [hGateDwRefIdeal : Cert.GateDwRefIdeal.Facts] [hOn_first_two : Cert.On_first_two.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v2)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          (∀ i : (⟨3, ![4, 1024, 1408]⟩ : Shape).Idx, (Cert.On_first_two.fn (F := Ideal) (m ((c.tc : Thread Cert.GateDwIdeal.nD Cert.GateDwIdeal.τ).loc Cert.GateDwIdeal.main_arg0)) (m ((c.tc : Thread Cert.GateDwIdeal.nD Cert.GateDwIdeal.τ).loc Cert.GateDwIdeal.main_arg1))) i = 1#1 → r.2.mem ((c.tc : Thread Cert.GateDwIdeal.nD Cert.GateDwIdeal.τ).loc Cert.GateDwIdeal.main_v2) i = v0 c i)
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          (∀ i : (⟨3, ![4, 1024, 1408]⟩ : Shape).Idx, (Cert.On_first_two.fn (F := Ideal) (m ((c.tc : Thread Cert.GateDwIdeal.nD Cert.GateDwIdeal.τ).loc Cert.GateDwIdeal.main_arg0)) (m ((c.tc : Thread Cert.GateDwIdeal.nD Cert.GateDwIdeal.τ).loc Cert.GateDwIdeal.main_arg1))) i = 1#1 → r.2.mem ((c.tc : Thread Cert.GateDwRefIdeal.nD Cert.GateDwRefIdeal.τ).loc Cert.GateDwRefIdeal.main_v7) i = v0 c i)
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_L0Proj_L0ProjIdeal : Prop :=
  True

def algebraic_L0ProjIdeal_L0ProjRefIdeal [hL0ProjIdeal : Cert.L0ProjIdeal.Facts] [hL0ProjRefIdeal : Cert.L0ProjRefIdeal.Facts] : Prop :=
  ∀ (m : (ℓ : Loc Cert.L0ProjIdeal.nD Cert.L0ProjIdeal.τ Cert.L0ProjIdeal.sig) → Buf (Elt Ideal) ℓ) (g : Dev Cert.L0ProjIdeal.nD → PrngReg)
    (m' : (ℓ : Loc Cert.L0ProjRefIdeal.nD Cert.L0ProjRefIdeal.τ Cert.L0ProjRefIdeal.sig) → Buf (Elt Ideal) ℓ) (g' : Dev Cert.L0ProjRefIdeal.nD → PrngReg), Pre_L0ProjIdeal m →
    (∀ c : Dev Cert.L0ProjIdeal.nD,
      m' ((c.tc : Thread Cert.L0ProjRefIdeal.nD Cert.L0ProjRefIdeal.τ).loc Cert.L0ProjRefIdeal.main_arg0) = m ((c.tc : Thread Cert.L0ProjIdeal.nD Cert.L0ProjIdeal.τ).loc Cert.L0ProjIdeal.main_arg0)
      ∧ m' ((c.tc : Thread Cert.L0ProjRefIdeal.nD Cert.L0ProjRefIdeal.τ).loc Cert.L0ProjRefIdeal.main_arg1) = m ((c.tc : Thread Cert.L0ProjIdeal.nD Cert.L0ProjIdeal.τ).loc Cert.L0ProjIdeal.main_arg1)) →
    ∃ (v0 : (c : Dev Cert.L0ProjIdeal.nD) → Buf (Elt Ideal) ((c.tc : Thread Cert.L0ProjIdeal.nD Cert.L0ProjIdeal.τ).loc Cert.L0ProjIdeal.main_v2)),
      θ_run (Cert.L0ProjIdeal.defs (F := Ideal)) (onTc (τ := Cert.L0ProjIdeal.τ) (Cert.L0ProjIdeal.main (F := Ideal))) ⟨m, fun _ => 0, g⟩ (fun r => ∀ c : Dev Cert.L0ProjIdeal.nD,
          r.2.mem ((c.tc : Thread Cert.L0ProjIdeal.nD Cert.L0ProjIdeal.τ).loc Cert.L0ProjIdeal.main_v2) = v0 c
          ∧ r.2.mem ((c.tc : Thread Cert.L0ProjIdeal.nD Cert.L0ProjIdeal.τ).loc Cert.L0ProjIdeal.main_arg0) = m ((c.tc : Thread Cert.L0ProjIdeal.nD Cert.L0ProjIdeal.τ).loc Cert.L0ProjIdeal.main_arg0)
          ∧ r.2.mem ((c.tc : Thread Cert.L0ProjIdeal.nD Cert.L0ProjIdeal.τ).loc Cert.L0ProjIdeal.main_arg1) = m ((c.tc : Thread Cert.L0ProjIdeal.nD Cert.L0ProjIdeal.τ).loc Cert.L0ProjIdeal.main_arg1))
      ∧ θ_run (Cert.L0ProjRefIdeal.defs (F := Ideal)) (onTc (τ := Cert.L0ProjRefIdeal.τ) (Cert.L0ProjRefIdeal.main (F := Ideal))) ⟨m', fun _ => 0, g'⟩ (fun r => ∀ c : Dev Cert.L0ProjRefIdeal.nD,
          r.2.mem ((c.tc : Thread Cert.L0ProjRefIdeal.nD Cert.L0ProjRefIdeal.τ).loc Cert.L0ProjRefIdeal.main_v0) = v0 c
          ∧ r.2.mem ((c.tc : Thread Cert.L0ProjRefIdeal.nD Cert.L0ProjRefIdeal.τ).loc Cert.L0ProjRefIdeal.main_arg0) = m' ((c.tc : Thread Cert.L0ProjRefIdeal.nD Cert.L0ProjRefIdeal.τ).loc Cert.L0ProjRefIdeal.main_arg0)
          ∧ r.2.mem ((c.tc : Thread Cert.L0ProjRefIdeal.nD Cert.L0ProjRefIdeal.τ).loc Cert.L0ProjRefIdeal.main_arg1) = m' ((c.tc : Thread Cert.L0ProjRefIdeal.nD Cert.L0ProjRefIdeal.τ).loc Cert.L0ProjRefIdeal.main_arg1))

def preserves_L0ProjDx_L0ProjDxIdeal : Prop :=
  True

def algebraic_L0ProjDxIdeal_L0ProjDxRefIdeal [hL0ProjDxIdeal : Cert.L0ProjDxIdeal.Facts] [hL0ProjDxRefIdeal : Cert.L0ProjDxRefIdeal.Facts] : Prop :=
  ∀ (m : (ℓ : Loc Cert.L0ProjDxIdeal.nD Cert.L0ProjDxIdeal.τ Cert.L0ProjDxIdeal.sig) → Buf (Elt Ideal) ℓ) (g : Dev Cert.L0ProjDxIdeal.nD → PrngReg)
    (m' : (ℓ : Loc Cert.L0ProjDxRefIdeal.nD Cert.L0ProjDxRefIdeal.τ Cert.L0ProjDxRefIdeal.sig) → Buf (Elt Ideal) ℓ) (g' : Dev Cert.L0ProjDxRefIdeal.nD → PrngReg), Pre_L0ProjDxIdeal m →
    (∀ c : Dev Cert.L0ProjDxIdeal.nD,
      m' ((c.tc : Thread Cert.L0ProjDxRefIdeal.nD Cert.L0ProjDxRefIdeal.τ).loc Cert.L0ProjDxRefIdeal.main_arg0) = m ((c.tc : Thread Cert.L0ProjDxIdeal.nD Cert.L0ProjDxIdeal.τ).loc Cert.L0ProjDxIdeal.main_arg0)
      ∧ m' ((c.tc : Thread Cert.L0ProjDxRefIdeal.nD Cert.L0ProjDxRefIdeal.τ).loc Cert.L0ProjDxRefIdeal.main_arg1) = m ((c.tc : Thread Cert.L0ProjDxIdeal.nD Cert.L0ProjDxIdeal.τ).loc Cert.L0ProjDxIdeal.main_arg1)
      ∧ m' ((c.tc : Thread Cert.L0ProjDxRefIdeal.nD Cert.L0ProjDxRefIdeal.τ).loc Cert.L0ProjDxRefIdeal.main_arg2) = m ((c.tc : Thread Cert.L0ProjDxIdeal.nD Cert.L0ProjDxIdeal.τ).loc Cert.L0ProjDxIdeal.main_arg2)) →
    ∃ (v0 : (c : Dev Cert.L0ProjDxIdeal.nD) → Buf (Elt Ideal) ((c.tc : Thread Cert.L0ProjDxIdeal.nD Cert.L0ProjDxIdeal.τ).loc Cert.L0ProjDxIdeal.main_v2)),
      θ_run (Cert.L0ProjDxIdeal.defs (F := Ideal)) (onTc (τ := Cert.L0ProjDxIdeal.τ) (Cert.L0ProjDxIdeal.main (F := Ideal))) ⟨m, fun _ => 0, g⟩ (fun r => ∀ c : Dev Cert.L0ProjDxIdeal.nD,
          r.2.mem ((c.tc : Thread Cert.L0ProjDxIdeal.nD Cert.L0ProjDxIdeal.τ).loc Cert.L0ProjDxIdeal.main_v2) = v0 c
          ∧ r.2.mem ((c.tc : Thread Cert.L0ProjDxIdeal.nD Cert.L0ProjDxIdeal.τ).loc Cert.L0ProjDxIdeal.main_arg0) = m ((c.tc : Thread Cert.L0ProjDxIdeal.nD Cert.L0ProjDxIdeal.τ).loc Cert.L0ProjDxIdeal.main_arg0)
          ∧ r.2.mem ((c.tc : Thread Cert.L0ProjDxIdeal.nD Cert.L0ProjDxIdeal.τ).loc Cert.L0ProjDxIdeal.main_arg1) = m ((c.tc : Thread Cert.L0ProjDxIdeal.nD Cert.L0ProjDxIdeal.τ).loc Cert.L0ProjDxIdeal.main_arg1)
          ∧ r.2.mem ((c.tc : Thread Cert.L0ProjDxIdeal.nD Cert.L0ProjDxIdeal.τ).loc Cert.L0ProjDxIdeal.main_arg2) = m ((c.tc : Thread Cert.L0ProjDxIdeal.nD Cert.L0ProjDxIdeal.τ).loc Cert.L0ProjDxIdeal.main_arg2))
      ∧ θ_run (Cert.L0ProjDxRefIdeal.defs (F := Ideal)) (onTc (τ := Cert.L0ProjDxRefIdeal.τ) (Cert.L0ProjDxRefIdeal.main (F := Ideal))) ⟨m', fun _ => 0, g'⟩ (fun r => ∀ c : Dev Cert.L0ProjDxRefIdeal.nD,
          r.2.mem ((c.tc : Thread Cert.L0ProjDxRefIdeal.nD Cert.L0ProjDxRefIdeal.τ).loc Cert.L0ProjDxRefIdeal.main_v3) = v0 c
          ∧ r.2.mem ((c.tc : Thread Cert.L0ProjDxRefIdeal.nD Cert.L0ProjDxRefIdeal.τ).loc Cert.L0ProjDxRefIdeal.main_arg0) = m' ((c.tc : Thread Cert.L0ProjDxRefIdeal.nD Cert.L0ProjDxRefIdeal.τ).loc Cert.L0ProjDxRefIdeal.main_arg0)
          ∧ r.2.mem ((c.tc : Thread Cert.L0ProjDxRefIdeal.nD Cert.L0ProjDxRefIdeal.τ).loc Cert.L0ProjDxRefIdeal.main_arg1) = m' ((c.tc : Thread Cert.L0ProjDxRefIdeal.nD Cert.L0ProjDxRefIdeal.τ).loc Cert.L0ProjDxRefIdeal.main_arg1)
          ∧ r.2.mem ((c.tc : Thread Cert.L0ProjDxRefIdeal.nD Cert.L0ProjDxRefIdeal.τ).loc Cert.L0ProjDxRefIdeal.main_arg2) = m' ((c.tc : Thread Cert.L0ProjDxRefIdeal.nD Cert.L0ProjDxRefIdeal.τ).loc Cert.L0ProjDxRefIdeal.main_arg2))

def preserves_L0ProjDw_L0ProjDwIdeal : Prop :=
  True

def algebraic_L0ProjDwIdeal_L0ProjDwRefIdeal [hL0ProjDwIdeal : Cert.L0ProjDwIdeal.Facts] [hL0ProjDwRefIdeal : Cert.L0ProjDwRefIdeal.Facts] : Prop :=
  ∀ (m : (ℓ : Loc Cert.L0ProjDwIdeal.nD Cert.L0ProjDwIdeal.τ Cert.L0ProjDwIdeal.sig) → Buf (Elt Ideal) ℓ) (g : Dev Cert.L0ProjDwIdeal.nD → PrngReg)
    (m' : (ℓ : Loc Cert.L0ProjDwRefIdeal.nD Cert.L0ProjDwRefIdeal.τ Cert.L0ProjDwRefIdeal.sig) → Buf (Elt Ideal) ℓ) (g' : Dev Cert.L0ProjDwRefIdeal.nD → PrngReg), Pre_L0ProjDwIdeal m →
    (∀ c : Dev Cert.L0ProjDwIdeal.nD,
      m' ((c.tc : Thread Cert.L0ProjDwRefIdeal.nD Cert.L0ProjDwRefIdeal.τ).loc Cert.L0ProjDwRefIdeal.main_arg0) = m ((c.tc : Thread Cert.L0ProjDwIdeal.nD Cert.L0ProjDwIdeal.τ).loc Cert.L0ProjDwIdeal.main_arg0)
      ∧ m' ((c.tc : Thread Cert.L0ProjDwRefIdeal.nD Cert.L0ProjDwRefIdeal.τ).loc Cert.L0ProjDwRefIdeal.main_arg1) = m ((c.tc : Thread Cert.L0ProjDwIdeal.nD Cert.L0ProjDwIdeal.τ).loc Cert.L0ProjDwIdeal.main_arg1)) →
    ∃ (v0 : (c : Dev Cert.L0ProjDwIdeal.nD) → Buf (Elt Ideal) ((c.tc : Thread Cert.L0ProjDwIdeal.nD Cert.L0ProjDwIdeal.τ).loc Cert.L0ProjDwIdeal.main_v2)),
      θ_run (Cert.L0ProjDwIdeal.defs (F := Ideal)) (onTc (τ := Cert.L0ProjDwIdeal.τ) (Cert.L0ProjDwIdeal.main (F := Ideal))) ⟨m, fun _ => 0, g⟩ (fun r => ∀ c : Dev Cert.L0ProjDwIdeal.nD,
          r.2.mem ((c.tc : Thread Cert.L0ProjDwIdeal.nD Cert.L0ProjDwIdeal.τ).loc Cert.L0ProjDwIdeal.main_v2) = v0 c
          ∧ r.2.mem ((c.tc : Thread Cert.L0ProjDwIdeal.nD Cert.L0ProjDwIdeal.τ).loc Cert.L0ProjDwIdeal.main_arg0) = m ((c.tc : Thread Cert.L0ProjDwIdeal.nD Cert.L0ProjDwIdeal.τ).loc Cert.L0ProjDwIdeal.main_arg0)
          ∧ r.2.mem ((c.tc : Thread Cert.L0ProjDwIdeal.nD Cert.L0ProjDwIdeal.τ).loc Cert.L0ProjDwIdeal.main_arg1) = m ((c.tc : Thread Cert.L0ProjDwIdeal.nD Cert.L0ProjDwIdeal.τ).loc Cert.L0ProjDwIdeal.main_arg1))
      ∧ θ_run (Cert.L0ProjDwRefIdeal.defs (F := Ideal)) (onTc (τ := Cert.L0ProjDwRefIdeal.τ) (Cert.L0ProjDwRefIdeal.main (F := Ideal))) ⟨m', fun _ => 0, g'⟩ (fun r => ∀ c : Dev Cert.L0ProjDwRefIdeal.nD,
          r.2.mem ((c.tc : Thread Cert.L0ProjDwRefIdeal.nD Cert.L0ProjDwRefIdeal.τ).loc Cert.L0ProjDwRefIdeal.main_v3) = v0 c
          ∧ r.2.mem ((c.tc : Thread Cert.L0ProjDwRefIdeal.nD Cert.L0ProjDwRefIdeal.τ).loc Cert.L0ProjDwRefIdeal.main_arg0) = m' ((c.tc : Thread Cert.L0ProjDwRefIdeal.nD Cert.L0ProjDwRefIdeal.τ).loc Cert.L0ProjDwRefIdeal.main_arg0)
          ∧ r.2.mem ((c.tc : Thread Cert.L0ProjDwRefIdeal.nD Cert.L0ProjDwRefIdeal.τ).loc Cert.L0ProjDwRefIdeal.main_arg1) = m' ((c.tc : Thread Cert.L0ProjDwRefIdeal.nD Cert.L0ProjDwRefIdeal.τ).loc Cert.L0ProjDwRefIdeal.main_arg1))

def preserves_L1Proj_L1ProjIdeal : Prop :=
  True

def algebraic_L1ProjIdeal_L1ProjRefIdeal [hL1ProjIdeal : Cert.L1ProjIdeal.Facts] [hL1ProjRefIdeal : Cert.L1ProjRefIdeal.Facts] : Prop :=
  ∀ (m : (ℓ : Loc Cert.L1ProjIdeal.nD Cert.L1ProjIdeal.τ Cert.L1ProjIdeal.sig) → Buf (Elt Ideal) ℓ) (g : Dev Cert.L1ProjIdeal.nD → PrngReg)
    (m' : (ℓ : Loc Cert.L1ProjRefIdeal.nD Cert.L1ProjRefIdeal.τ Cert.L1ProjRefIdeal.sig) → Buf (Elt Ideal) ℓ) (g' : Dev Cert.L1ProjRefIdeal.nD → PrngReg), Pre_L1ProjIdeal m →
    (∀ c : Dev Cert.L1ProjIdeal.nD,
      m' ((c.tc : Thread Cert.L1ProjRefIdeal.nD Cert.L1ProjRefIdeal.τ).loc Cert.L1ProjRefIdeal.main_arg0) = m ((c.tc : Thread Cert.L1ProjIdeal.nD Cert.L1ProjIdeal.τ).loc Cert.L1ProjIdeal.main_arg0)
      ∧ m' ((c.tc : Thread Cert.L1ProjRefIdeal.nD Cert.L1ProjRefIdeal.τ).loc Cert.L1ProjRefIdeal.main_arg1) = m ((c.tc : Thread Cert.L1ProjIdeal.nD Cert.L1ProjIdeal.τ).loc Cert.L1ProjIdeal.main_arg1)) →
    ∃ (v0 : (c : Dev Cert.L1ProjIdeal.nD) → Buf (Elt Ideal) ((c.tc : Thread Cert.L1ProjIdeal.nD Cert.L1ProjIdeal.τ).loc Cert.L1ProjIdeal.main_v2)),
      θ_run (Cert.L1ProjIdeal.defs (F := Ideal)) (onTc (τ := Cert.L1ProjIdeal.τ) (Cert.L1ProjIdeal.main (F := Ideal))) ⟨m, fun _ => 0, g⟩ (fun r => ∀ c : Dev Cert.L1ProjIdeal.nD,
          r.2.mem ((c.tc : Thread Cert.L1ProjIdeal.nD Cert.L1ProjIdeal.τ).loc Cert.L1ProjIdeal.main_v2) = v0 c
          ∧ r.2.mem ((c.tc : Thread Cert.L1ProjIdeal.nD Cert.L1ProjIdeal.τ).loc Cert.L1ProjIdeal.main_arg0) = m ((c.tc : Thread Cert.L1ProjIdeal.nD Cert.L1ProjIdeal.τ).loc Cert.L1ProjIdeal.main_arg0)
          ∧ r.2.mem ((c.tc : Thread Cert.L1ProjIdeal.nD Cert.L1ProjIdeal.τ).loc Cert.L1ProjIdeal.main_arg1) = m ((c.tc : Thread Cert.L1ProjIdeal.nD Cert.L1ProjIdeal.τ).loc Cert.L1ProjIdeal.main_arg1))
      ∧ θ_run (Cert.L1ProjRefIdeal.defs (F := Ideal)) (onTc (τ := Cert.L1ProjRefIdeal.τ) (Cert.L1ProjRefIdeal.main (F := Ideal))) ⟨m', fun _ => 0, g'⟩ (fun r => ∀ c : Dev Cert.L1ProjRefIdeal.nD,
          r.2.mem ((c.tc : Thread Cert.L1ProjRefIdeal.nD Cert.L1ProjRefIdeal.τ).loc Cert.L1ProjRefIdeal.main_v0) = v0 c
          ∧ r.2.mem ((c.tc : Thread Cert.L1ProjRefIdeal.nD Cert.L1ProjRefIdeal.τ).loc Cert.L1ProjRefIdeal.main_arg0) = m' ((c.tc : Thread Cert.L1ProjRefIdeal.nD Cert.L1ProjRefIdeal.τ).loc Cert.L1ProjRefIdeal.main_arg0)
          ∧ r.2.mem ((c.tc : Thread Cert.L1ProjRefIdeal.nD Cert.L1ProjRefIdeal.τ).loc Cert.L1ProjRefIdeal.main_arg1) = m' ((c.tc : Thread Cert.L1ProjRefIdeal.nD Cert.L1ProjRefIdeal.τ).loc Cert.L1ProjRefIdeal.main_arg1))

def preserves_L1ProjDx_L1ProjDxIdeal : Prop :=
  True

def algebraic_L1ProjDxIdeal_L1ProjDxRefIdeal [hL1ProjDxIdeal : Cert.L1ProjDxIdeal.Facts] [hL1ProjDxRefIdeal : Cert.L1ProjDxRefIdeal.Facts] : Prop :=
  ∀ (m : (ℓ : Loc Cert.L1ProjDxIdeal.nD Cert.L1ProjDxIdeal.τ Cert.L1ProjDxIdeal.sig) → Buf (Elt Ideal) ℓ) (g : Dev Cert.L1ProjDxIdeal.nD → PrngReg)
    (m' : (ℓ : Loc Cert.L1ProjDxRefIdeal.nD Cert.L1ProjDxRefIdeal.τ Cert.L1ProjDxRefIdeal.sig) → Buf (Elt Ideal) ℓ) (g' : Dev Cert.L1ProjDxRefIdeal.nD → PrngReg), Pre_L1ProjDxIdeal m →
    (∀ c : Dev Cert.L1ProjDxIdeal.nD,
      m' ((c.tc : Thread Cert.L1ProjDxRefIdeal.nD Cert.L1ProjDxRefIdeal.τ).loc Cert.L1ProjDxRefIdeal.main_arg0) = m ((c.tc : Thread Cert.L1ProjDxIdeal.nD Cert.L1ProjDxIdeal.τ).loc Cert.L1ProjDxIdeal.main_arg0)
      ∧ m' ((c.tc : Thread Cert.L1ProjDxRefIdeal.nD Cert.L1ProjDxRefIdeal.τ).loc Cert.L1ProjDxRefIdeal.main_arg1) = m ((c.tc : Thread Cert.L1ProjDxIdeal.nD Cert.L1ProjDxIdeal.τ).loc Cert.L1ProjDxIdeal.main_arg1)
      ∧ m' ((c.tc : Thread Cert.L1ProjDxRefIdeal.nD Cert.L1ProjDxRefIdeal.τ).loc Cert.L1ProjDxRefIdeal.main_arg2) = m ((c.tc : Thread Cert.L1ProjDxIdeal.nD Cert.L1ProjDxIdeal.τ).loc Cert.L1ProjDxIdeal.main_arg2)) →
    ∃ (v0 : (c : Dev Cert.L1ProjDxIdeal.nD) → Buf (Elt Ideal) ((c.tc : Thread Cert.L1ProjDxIdeal.nD Cert.L1ProjDxIdeal.τ).loc Cert.L1ProjDxIdeal.main_v2)),
      θ_run (Cert.L1ProjDxIdeal.defs (F := Ideal)) (onTc (τ := Cert.L1ProjDxIdeal.τ) (Cert.L1ProjDxIdeal.main (F := Ideal))) ⟨m, fun _ => 0, g⟩ (fun r => ∀ c : Dev Cert.L1ProjDxIdeal.nD,
          r.2.mem ((c.tc : Thread Cert.L1ProjDxIdeal.nD Cert.L1ProjDxIdeal.τ).loc Cert.L1ProjDxIdeal.main_v2) = v0 c
          ∧ r.2.mem ((c.tc : Thread Cert.L1ProjDxIdeal.nD Cert.L1ProjDxIdeal.τ).loc Cert.L1ProjDxIdeal.main_arg0) = m ((c.tc : Thread Cert.L1ProjDxIdeal.nD Cert.L1ProjDxIdeal.τ).loc Cert.L1ProjDxIdeal.main_arg0)
          ∧ r.2.mem ((c.tc : Thread Cert.L1ProjDxIdeal.nD Cert.L1ProjDxIdeal.τ).loc Cert.L1ProjDxIdeal.main_arg1) = m ((c.tc : Thread Cert.L1ProjDxIdeal.nD Cert.L1ProjDxIdeal.τ).loc Cert.L1ProjDxIdeal.main_arg1)
          ∧ r.2.mem ((c.tc : Thread Cert.L1ProjDxIdeal.nD Cert.L1ProjDxIdeal.τ).loc Cert.L1ProjDxIdeal.main_arg2) = m ((c.tc : Thread Cert.L1ProjDxIdeal.nD Cert.L1ProjDxIdeal.τ).loc Cert.L1ProjDxIdeal.main_arg2))
      ∧ θ_run (Cert.L1ProjDxRefIdeal.defs (F := Ideal)) (onTc (τ := Cert.L1ProjDxRefIdeal.τ) (Cert.L1ProjDxRefIdeal.main (F := Ideal))) ⟨m', fun _ => 0, g'⟩ (fun r => ∀ c : Dev Cert.L1ProjDxRefIdeal.nD,
          r.2.mem ((c.tc : Thread Cert.L1ProjDxRefIdeal.nD Cert.L1ProjDxRefIdeal.τ).loc Cert.L1ProjDxRefIdeal.main_v3) = v0 c
          ∧ r.2.mem ((c.tc : Thread Cert.L1ProjDxRefIdeal.nD Cert.L1ProjDxRefIdeal.τ).loc Cert.L1ProjDxRefIdeal.main_arg0) = m' ((c.tc : Thread Cert.L1ProjDxRefIdeal.nD Cert.L1ProjDxRefIdeal.τ).loc Cert.L1ProjDxRefIdeal.main_arg0)
          ∧ r.2.mem ((c.tc : Thread Cert.L1ProjDxRefIdeal.nD Cert.L1ProjDxRefIdeal.τ).loc Cert.L1ProjDxRefIdeal.main_arg1) = m' ((c.tc : Thread Cert.L1ProjDxRefIdeal.nD Cert.L1ProjDxRefIdeal.τ).loc Cert.L1ProjDxRefIdeal.main_arg1)
          ∧ r.2.mem ((c.tc : Thread Cert.L1ProjDxRefIdeal.nD Cert.L1ProjDxRefIdeal.τ).loc Cert.L1ProjDxRefIdeal.main_arg2) = m' ((c.tc : Thread Cert.L1ProjDxRefIdeal.nD Cert.L1ProjDxRefIdeal.τ).loc Cert.L1ProjDxRefIdeal.main_arg2))

def preserves_L1ProjDw_L1ProjDwIdeal : Prop :=
  True

def algebraic_L1ProjDwIdeal_L1ProjDwRefIdeal [hL1ProjDwIdeal : Cert.L1ProjDwIdeal.Facts] [hL1ProjDwRefIdeal : Cert.L1ProjDwRefIdeal.Facts] : Prop :=
  ∀ (m : (ℓ : Loc Cert.L1ProjDwIdeal.nD Cert.L1ProjDwIdeal.τ Cert.L1ProjDwIdeal.sig) → Buf (Elt Ideal) ℓ) (g : Dev Cert.L1ProjDwIdeal.nD → PrngReg)
    (m' : (ℓ : Loc Cert.L1ProjDwRefIdeal.nD Cert.L1ProjDwRefIdeal.τ Cert.L1ProjDwRefIdeal.sig) → Buf (Elt Ideal) ℓ) (g' : Dev Cert.L1ProjDwRefIdeal.nD → PrngReg), Pre_L1ProjDwIdeal m →
    (∀ c : Dev Cert.L1ProjDwIdeal.nD,
      m' ((c.tc : Thread Cert.L1ProjDwRefIdeal.nD Cert.L1ProjDwRefIdeal.τ).loc Cert.L1ProjDwRefIdeal.main_arg0) = m ((c.tc : Thread Cert.L1ProjDwIdeal.nD Cert.L1ProjDwIdeal.τ).loc Cert.L1ProjDwIdeal.main_arg0)
      ∧ m' ((c.tc : Thread Cert.L1ProjDwRefIdeal.nD Cert.L1ProjDwRefIdeal.τ).loc Cert.L1ProjDwRefIdeal.main_arg1) = m ((c.tc : Thread Cert.L1ProjDwIdeal.nD Cert.L1ProjDwIdeal.τ).loc Cert.L1ProjDwIdeal.main_arg1)) →
    ∃ (v0 : (c : Dev Cert.L1ProjDwIdeal.nD) → Buf (Elt Ideal) ((c.tc : Thread Cert.L1ProjDwIdeal.nD Cert.L1ProjDwIdeal.τ).loc Cert.L1ProjDwIdeal.main_v2)),
      θ_run (Cert.L1ProjDwIdeal.defs (F := Ideal)) (onTc (τ := Cert.L1ProjDwIdeal.τ) (Cert.L1ProjDwIdeal.main (F := Ideal))) ⟨m, fun _ => 0, g⟩ (fun r => ∀ c : Dev Cert.L1ProjDwIdeal.nD,
          r.2.mem ((c.tc : Thread Cert.L1ProjDwIdeal.nD Cert.L1ProjDwIdeal.τ).loc Cert.L1ProjDwIdeal.main_v2) = v0 c
          ∧ r.2.mem ((c.tc : Thread Cert.L1ProjDwIdeal.nD Cert.L1ProjDwIdeal.τ).loc Cert.L1ProjDwIdeal.main_arg0) = m ((c.tc : Thread Cert.L1ProjDwIdeal.nD Cert.L1ProjDwIdeal.τ).loc Cert.L1ProjDwIdeal.main_arg0)
          ∧ r.2.mem ((c.tc : Thread Cert.L1ProjDwIdeal.nD Cert.L1ProjDwIdeal.τ).loc Cert.L1ProjDwIdeal.main_arg1) = m ((c.tc : Thread Cert.L1ProjDwIdeal.nD Cert.L1ProjDwIdeal.τ).loc Cert.L1ProjDwIdeal.main_arg1))
      ∧ θ_run (Cert.L1ProjDwRefIdeal.defs (F := Ideal)) (onTc (τ := Cert.L1ProjDwRefIdeal.τ) (Cert.L1ProjDwRefIdeal.main (F := Ideal))) ⟨m', fun _ => 0, g'⟩ (fun r => ∀ c : Dev Cert.L1ProjDwRefIdeal.nD,
          r.2.mem ((c.tc : Thread Cert.L1ProjDwRefIdeal.nD Cert.L1ProjDwRefIdeal.τ).loc Cert.L1ProjDwRefIdeal.main_v3) = v0 c
          ∧ r.2.mem ((c.tc : Thread Cert.L1ProjDwRefIdeal.nD Cert.L1ProjDwRefIdeal.τ).loc Cert.L1ProjDwRefIdeal.main_arg0) = m' ((c.tc : Thread Cert.L1ProjDwRefIdeal.nD Cert.L1ProjDwRefIdeal.τ).loc Cert.L1ProjDwRefIdeal.main_arg0)
          ∧ r.2.mem ((c.tc : Thread Cert.L1ProjDwRefIdeal.nD Cert.L1ProjDwRefIdeal.τ).loc Cert.L1ProjDwRefIdeal.main_arg1) = m' ((c.tc : Thread Cert.L1ProjDwRefIdeal.nD Cert.L1ProjDwRefIdeal.τ).loc Cert.L1ProjDwRefIdeal.main_arg1))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)) →
    ∃ (v0 : (c : Dev Cert.OutAIdeal.nD) → Buf (Elt Ideal) ((c.tc : Thread Cert.OutAIdeal.nD Cert.OutAIdeal.τ).loc Cert.OutAIdeal.main_v2)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v2) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v0) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)) →
    ∃ (v0 : (c : Dev Cert.OutBIdeal.nD) → Buf (Elt Ideal) ((c.tc : Thread Cert.OutBIdeal.nD Cert.OutBIdeal.τ).loc Cert.OutBIdeal.main_v2)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v2) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v1) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_AdamL0In_AdamL0InIdeal : Prop :=
  True

def algebraic_AdamL0InIdeal_AdamL0InRefIdeal [hAdamL0InIdeal : Cert.AdamL0InIdeal.Facts] [hAdamL0InRefIdeal : Cert.AdamL0InRefIdeal.Facts] : Prop :=
  ∀ (m : (ℓ : Loc Cert.AdamL0InIdeal.nD Cert.AdamL0InIdeal.τ Cert.AdamL0InIdeal.sig) → Buf (Elt Ideal) ℓ) (g : Dev Cert.AdamL0InIdeal.nD → PrngReg)
    (m' : (ℓ : Loc Cert.AdamL0InRefIdeal.nD Cert.AdamL0InRefIdeal.τ Cert.AdamL0InRefIdeal.sig) → Buf (Elt Ideal) ℓ) (g' : Dev Cert.AdamL0InRefIdeal.nD → PrngReg), Pre_AdamL0InIdeal m →
    (∀ c : Dev Cert.AdamL0InIdeal.nD,
      m' ((c.tc : Thread Cert.AdamL0InRefIdeal.nD Cert.AdamL0InRefIdeal.τ).loc Cert.AdamL0InRefIdeal.main_arg0) = m ((c.tc : Thread Cert.AdamL0InIdeal.nD Cert.AdamL0InIdeal.τ).loc Cert.AdamL0InIdeal.main_arg0)
      ∧ m' ((c.tc : Thread Cert.AdamL0InRefIdeal.nD Cert.AdamL0InRefIdeal.τ).loc Cert.AdamL0InRefIdeal.main_arg1) = m ((c.tc : Thread Cert.AdamL0InIdeal.nD Cert.AdamL0InIdeal.τ).loc Cert.AdamL0InIdeal.main_arg1)
      ∧ m' ((c.tc : Thread Cert.AdamL0InRefIdeal.nD Cert.AdamL0InRefIdeal.τ).loc Cert.AdamL0InRefIdeal.main_arg2) = m ((c.tc : Thread Cert.AdamL0InIdeal.nD Cert.AdamL0InIdeal.τ).loc Cert.AdamL0InIdeal.main_arg2)
      ∧ m' ((c.tc : Thread Cert.AdamL0InRefIdeal.nD Cert.AdamL0InRefIdeal.τ).loc Cert.AdamL0InRefIdeal.main_arg3) = m ((c.tc : Thread Cert.AdamL0InIdeal.nD Cert.AdamL0InIdeal.τ).loc Cert.AdamL0InIdeal.main_arg3)) →
    ∃ (v0 : (c : Dev Cert.AdamL0InIdeal.nD) → Buf (Elt Ideal) ((c.tc : Thread Cert.AdamL0InIdeal.nD Cert.AdamL0InIdeal.τ).loc Cert.AdamL0InIdeal.main_v0_0)) (v1 : (c : Dev Cert.AdamL0InIdeal.nD) → Buf (Elt Ideal) ((c.tc : Thread Cert.AdamL0InIdeal.nD Cert.AdamL0InIdeal.τ).loc Cert.AdamL0InIdeal.main_v0_1)) (v2 : (c : Dev Cert.AdamL0InIdeal.nD) → Buf (Elt Ideal) ((c.tc : Thread Cert.AdamL0InIdeal.nD Cert.AdamL0InIdeal.τ).loc Cert.AdamL0InIdeal.main_v0_2)),
      θ_run (Cert.AdamL0InIdeal.defs (F := Ideal)) (onTc (τ := Cert.AdamL0InIdeal.τ) (Cert.AdamL0InIdeal.main (F := Ideal))) ⟨m, fun _ => 0, g⟩ (fun r => ∀ c : Dev Cert.AdamL0InIdeal.nD,
          r.2.mem ((c.tc : Thread Cert.AdamL0InIdeal.nD Cert.AdamL0InIdeal.τ).loc Cert.AdamL0InIdeal.main_v0_0) = v0 c
          ∧ r.2.mem ((c.tc : Thread Cert.AdamL0InIdeal.nD Cert.AdamL0InIdeal.τ).loc Cert.AdamL0InIdeal.main_v0_1) = v1 c
          ∧ r.2.mem ((c.tc : Thread Cert.AdamL0InIdeal.nD Cert.AdamL0InIdeal.τ).loc Cert.AdamL0InIdeal.main_v0_2) = v2 c
          ∧ r.2.mem ((c.tc : Thread Cert.AdamL0InIdeal.nD Cert.AdamL0InIdeal.τ).loc Cert.AdamL0InIdeal.main_arg0) = m ((c.tc : Thread Cert.AdamL0InIdeal.nD Cert.AdamL0InIdeal.τ).loc Cert.AdamL0InIdeal.main_arg0)
          ∧ r.2.mem ((c.tc : Thread Cert.AdamL0InIdeal.nD Cert.AdamL0InIdeal.τ).loc Cert.AdamL0InIdeal.main_arg1) = m ((c.tc : Thread Cert.AdamL0InIdeal.nD Cert.AdamL0InIdeal.τ).loc Cert.AdamL0InIdeal.main_arg1)
          ∧ r.2.mem ((c.tc : Thread Cert.AdamL0InIdeal.nD Cert.AdamL0InIdeal.τ).loc Cert.AdamL0InIdeal.main_arg2) = m ((c.tc : Thread Cert.AdamL0InIdeal.nD Cert.AdamL0InIdeal.τ).loc Cert.AdamL0InIdeal.main_arg2)
          ∧ r.2.mem ((c.tc : Thread Cert.AdamL0InIdeal.nD Cert.AdamL0InIdeal.τ).loc Cert.AdamL0InIdeal.main_arg3) = m ((c.tc : Thread Cert.AdamL0InIdeal.nD Cert.AdamL0InIdeal.τ).loc Cert.AdamL0InIdeal.main_arg3))
      ∧ θ_run (Cert.AdamL0InRefIdeal.defs (F := Ideal)) (onTc (τ := Cert.AdamL0InRefIdeal.τ) (Cert.AdamL0InRefIdeal.main (F := Ideal))) ⟨m', fun _ => 0, g'⟩ (fun r => ∀ c : Dev Cert.AdamL0InRefIdeal.nD,
          r.2.mem ((c.tc : Thread Cert.AdamL0InRefIdeal.nD Cert.AdamL0InRefIdeal.τ).loc Cert.AdamL0InRefIdeal.main_v23) = v0 c
          ∧ r.2.mem ((c.tc : Thread Cert.AdamL0InRefIdeal.nD Cert.AdamL0InRefIdeal.τ).loc Cert.AdamL0InRefIdeal.main_v4) = v1 c
          ∧ r.2.mem ((c.tc : Thread Cert.AdamL0InRefIdeal.nD Cert.AdamL0InRefIdeal.τ).loc Cert.AdamL0InRefIdeal.main_v10) = v2 c
          ∧ r.2.mem ((c.tc : Thread Cert.AdamL0InRefIdeal.nD Cert.AdamL0InRefIdeal.τ).loc Cert.AdamL0InRefIdeal.main_arg0) = m' ((c.tc : Thread Cert.AdamL0InRefIdeal.nD Cert.AdamL0InRefIdeal.τ).loc Cert.AdamL0InRefIdeal.main_arg0)
          ∧ r.2.mem ((c.tc : Thread Cert.AdamL0InRefIdeal.nD Cert.AdamL0InRefIdeal.τ).loc Cert.AdamL0InRefIdeal.main_arg1) = m' ((c.tc : Thread Cert.AdamL0InRefIdeal.nD Cert.AdamL0InRefIdeal.τ).loc Cert.AdamL0InRefIdeal.main_arg1)
          ∧ r.2.mem ((c.tc : Thread Cert.AdamL0InRefIdeal.nD Cert.AdamL0InRefIdeal.τ).loc Cert.AdamL0InRefIdeal.main_arg2) = m' ((c.tc : Thread Cert.AdamL0InRefIdeal.nD Cert.AdamL0InRefIdeal.τ).loc Cert.AdamL0InRefIdeal.main_arg2)
          ∧ r.2.mem ((c.tc : Thread Cert.AdamL0InRefIdeal.nD Cert.AdamL0InRefIdeal.τ).loc Cert.AdamL0InRefIdeal.main_arg3) = m' ((c.tc : Thread Cert.AdamL0InRefIdeal.nD Cert.AdamL0InRefIdeal.τ).loc Cert.AdamL0InRefIdeal.main_arg3))

def preserves_AdamL1In_AdamL1InIdeal : Prop :=
  True

def algebraic_AdamL1InIdeal_AdamL1InRefIdeal [hAdamL1InIdeal : Cert.AdamL1InIdeal.Facts] [hAdamL1InRefIdeal : Cert.AdamL1InRefIdeal.Facts] : Prop :=
  ∀ (m : (ℓ : Loc Cert.AdamL1InIdeal.nD Cert.AdamL1InIdeal.τ Cert.AdamL1InIdeal.sig) → Buf (Elt Ideal) ℓ) (g : Dev Cert.AdamL1InIdeal.nD → PrngReg)
    (m' : (ℓ : Loc Cert.AdamL1InRefIdeal.nD Cert.AdamL1InRefIdeal.τ Cert.AdamL1InRefIdeal.sig) → Buf (Elt Ideal) ℓ) (g' : Dev Cert.AdamL1InRefIdeal.nD → PrngReg), Pre_AdamL1InIdeal m →
    (∀ c : Dev Cert.AdamL1InIdeal.nD,
      m' ((c.tc : Thread Cert.AdamL1InRefIdeal.nD Cert.AdamL1InRefIdeal.τ).loc Cert.AdamL1InRefIdeal.main_arg0) = m ((c.tc : Thread Cert.AdamL1InIdeal.nD Cert.AdamL1InIdeal.τ).loc Cert.AdamL1InIdeal.main_arg0)
      ∧ m' ((c.tc : Thread Cert.AdamL1InRefIdeal.nD Cert.AdamL1InRefIdeal.τ).loc Cert.AdamL1InRefIdeal.main_arg1) = m ((c.tc : Thread Cert.AdamL1InIdeal.nD Cert.AdamL1InIdeal.τ).loc Cert.AdamL1InIdeal.main_arg1)
      ∧ m' ((c.tc : Thread Cert.AdamL1InRefIdeal.nD Cert.AdamL1InRefIdeal.τ).loc Cert.AdamL1InRefIdeal.main_arg2) = m ((c.tc : Thread Cert.AdamL1InIdeal.nD Cert.AdamL1InIdeal.τ).loc Cert.AdamL1InIdeal.main_arg2)
      ∧ m' ((c.tc : Thread Cert.AdamL1InRefIdeal.nD Cert.AdamL1InRefIdeal.τ).loc Cert.AdamL1InRefIdeal.main_arg3) = m ((c.tc : Thread Cert.AdamL1InIdeal.nD Cert.AdamL1InIdeal.τ).loc Cert.AdamL1InIdeal.main_arg3)) →
    ∃ (v0 : (c : Dev Cert.AdamL1InIdeal.nD) → Buf (Elt Ideal) ((c.tc : Thread Cert.AdamL1InIdeal.nD Cert.AdamL1InIdeal.τ).loc Cert.AdamL1InIdeal.main_v0_0)) (v1 : (c : Dev Cert.AdamL1InIdeal.nD) → Buf (Elt Ideal) ((c.tc : Thread Cert.AdamL1InIdeal.nD Cert.AdamL1InIdeal.τ).loc Cert.AdamL1InIdeal.main_v0_1)) (v2 : (c : Dev Cert.AdamL1InIdeal.nD) → Buf (Elt Ideal) ((c.tc : Thread Cert.AdamL1InIdeal.nD Cert.AdamL1InIdeal.τ).loc Cert.AdamL1InIdeal.main_v0_2)),
      θ_run (Cert.AdamL1InIdeal.defs (F := Ideal)) (onTc (τ := Cert.AdamL1InIdeal.τ) (Cert.AdamL1InIdeal.main (F := Ideal))) ⟨m, fun _ => 0, g⟩ (fun r => ∀ c : Dev Cert.AdamL1InIdeal.nD,
          r.2.mem ((c.tc : Thread Cert.AdamL1InIdeal.nD Cert.AdamL1InIdeal.τ).loc Cert.AdamL1InIdeal.main_v0_0) = v0 c
          ∧ r.2.mem ((c.tc : Thread Cert.AdamL1InIdeal.nD Cert.AdamL1InIdeal.τ).loc Cert.AdamL1InIdeal.main_v0_1) = v1 c
          ∧ r.2.mem ((c.tc : Thread Cert.AdamL1InIdeal.nD Cert.AdamL1InIdeal.τ).loc Cert.AdamL1InIdeal.main_v0_2) = v2 c
          ∧ r.2.mem ((c.tc : Thread Cert.AdamL1InIdeal.nD Cert.AdamL1InIdeal.τ).loc Cert.AdamL1InIdeal.main_arg0) = m ((c.tc : Thread Cert.AdamL1InIdeal.nD Cert.AdamL1InIdeal.τ).loc Cert.AdamL1InIdeal.main_arg0)
          ∧ r.2.mem ((c.tc : Thread Cert.AdamL1InIdeal.nD Cert.AdamL1InIdeal.τ).loc Cert.AdamL1InIdeal.main_arg1) = m ((c.tc : Thread Cert.AdamL1InIdeal.nD Cert.AdamL1InIdeal.τ).loc Cert.AdamL1InIdeal.main_arg1)
          ∧ r.2.mem ((c.tc : Thread Cert.AdamL1InIdeal.nD Cert.AdamL1InIdeal.τ).loc Cert.AdamL1InIdeal.main_arg2) = m ((c.tc : Thread Cert.AdamL1InIdeal.nD Cert.AdamL1InIdeal.τ).loc Cert.AdamL1InIdeal.main_arg2)
          ∧ r.2.mem ((c.tc : Thread Cert.AdamL1InIdeal.nD Cert.AdamL1InIdeal.τ).loc Cert.AdamL1InIdeal.main_arg3) = m ((c.tc : Thread Cert.AdamL1InIdeal.nD Cert.AdamL1InIdeal.τ).loc Cert.AdamL1InIdeal.main_arg3))
      ∧ θ_run (Cert.AdamL1InRefIdeal.defs (F := Ideal)) (onTc (τ := Cert.AdamL1InRefIdeal.τ) (Cert.AdamL1InRefIdeal.main (F := Ideal))) ⟨m', fun _ => 0, g'⟩ (fun r => ∀ c : Dev Cert.AdamL1InRefIdeal.nD,
          r.2.mem ((c.tc : Thread Cert.AdamL1InRefIdeal.nD Cert.AdamL1InRefIdeal.τ).loc Cert.AdamL1InRefIdeal.main_v23) = v0 c
          ∧ r.2.mem ((c.tc : Thread Cert.AdamL1InRefIdeal.nD Cert.AdamL1InRefIdeal.τ).loc Cert.AdamL1InRefIdeal.main_v4) = v1 c
          ∧ r.2.mem ((c.tc : Thread Cert.AdamL1InRefIdeal.nD Cert.AdamL1InRefIdeal.τ).loc Cert.AdamL1InRefIdeal.main_v10) = v2 c
          ∧ r.2.mem ((c.tc : Thread Cert.AdamL1InRefIdeal.nD Cert.AdamL1InRefIdeal.τ).loc Cert.AdamL1InRefIdeal.main_arg0) = m' ((c.tc : Thread Cert.AdamL1InRefIdeal.nD Cert.AdamL1InRefIdeal.τ).loc Cert.AdamL1InRefIdeal.main_arg0)
          ∧ r.2.mem ((c.tc : Thread Cert.AdamL1InRefIdeal.nD Cert.AdamL1InRefIdeal.τ).loc Cert.AdamL1InRefIdeal.main_arg1) = m' ((c.tc : Thread Cert.AdamL1InRefIdeal.nD Cert.AdamL1InRefIdeal.τ).loc Cert.AdamL1InRefIdeal.main_arg1)
          ∧ r.2.mem ((c.tc : Thread Cert.AdamL1InRefIdeal.nD Cert.AdamL1InRefIdeal.τ).loc Cert.AdamL1InRefIdeal.main_arg2) = m' ((c.tc : Thread Cert.AdamL1InRefIdeal.nD Cert.AdamL1InRefIdeal.τ).loc Cert.AdamL1InRefIdeal.main_arg2)
          ∧ r.2.mem ((c.tc : Thread Cert.AdamL1InRefIdeal.nD Cert.AdamL1InRefIdeal.τ).loc Cert.AdamL1InRefIdeal.main_arg3) = m' ((c.tc : Thread Cert.AdamL1InRefIdeal.nD Cert.AdamL1InRefIdeal.τ).loc Cert.AdamL1InRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_ChipL0In_ChipL0InIdeal : Prop :=
  True

def algebraic_ChipL0InIdeal_ChipL0InRefIdeal_on_own_half_ChipL0InIdeal [hChipL0InIdeal : Cert.ChipL0InIdeal.Facts] [hChipL0InRefIdeal : Cert.ChipL0InRefIdeal.Facts] [hPre_a_core_ChipL0In : Cert.Pre_a_core_ChipL0In.Facts] [hOn_own_half_ChipL0InIdeal : Cert.On_own_half_ChipL0InIdeal.Facts] : Prop :=
  ∀ (m : (ℓ : Loc Cert.ChipL0InIdeal.nD Cert.ChipL0InIdeal.τ Cert.ChipL0InIdeal.sig) → Buf (Elt Ideal) ℓ) (g : Dev Cert.ChipL0InIdeal.nD → PrngReg)
    (m' : (ℓ : Loc Cert.ChipL0InRefIdeal.nD Cert.ChipL0InRefIdeal.τ Cert.ChipL0InRefIdeal.sig) → Buf (Elt Ideal) ℓ) (g' : Dev Cert.ChipL0InRefIdeal.nD → PrngReg), Pre_ChipL0InIdeal m →
    (∀ c : Dev Cert.ChipL0InIdeal.nD,
      m' ((c.tc : Thread Cert.ChipL0InRefIdeal.nD Cert.ChipL0InRefIdeal.τ).loc Cert.ChipL0InRefIdeal.main_arg0) = m ((c.tc : Thread Cert.ChipL0InIdeal.nD Cert.ChipL0InIdeal.τ).loc Cert.ChipL0InIdeal.main_arg0)
      ∧ m' ((c.tc : Thread Cert.ChipL0InRefIdeal.nD Cert.ChipL0InRefIdeal.τ).loc Cert.ChipL0InRefIdeal.main_arg1) = m ((c.tc : Thread Cert.ChipL0InIdeal.nD Cert.ChipL0InIdeal.τ).loc Cert.ChipL0InIdeal.main_arg1)) →
    ∃ (v0 : (c : Dev Cert.ChipL0InIdeal.nD) → Buf (Elt Ideal) ((c.tc : Thread Cert.ChipL0InIdeal.nD Cert.ChipL0InIdeal.τ).loc Cert.ChipL0InIdeal.main_v0)),
      θ_run (Cert.ChipL0InIdeal.defs (F := Ideal)) (onTc (τ := Cert.ChipL0InIdeal.τ) (Cert.ChipL0InIdeal.main (F := Ideal))) ⟨m, fun _ => 0, g⟩ (fun r => ∀ c : Dev Cert.ChipL0InIdeal.nD,
          (∀ i : (⟨3, ![2, 512, 834]⟩ : Shape).Idx, (Cert.On_own_half_ChipL0InIdeal.fn (F := Ideal) (m ((c.tc : Thread Cert.ChipL0InIdeal.nD Cert.ChipL0InIdeal.τ).loc Cert.ChipL0InIdeal.main_arg0)) (m ((c.tc : Thread Cert.ChipL0InIdeal.nD Cert.ChipL0InIdeal.τ).loc Cert.ChipL0InIdeal.main_arg1))) i = 1#1 → r.2.mem ((c.tc : Thread Cert.ChipL0InIdeal.nD Cert.ChipL0InIdeal.τ).loc Cert.ChipL0InIdeal.main_v0) i = v0 c i)
          ∧ r.2.mem ((c.tc : Thread Cert.ChipL0InIdeal.nD Cert.ChipL0InIdeal.τ).loc Cert.ChipL0InIdeal.main_arg0) = m ((c.tc : Thread Cert.ChipL0InIdeal.nD Cert.ChipL0InIdeal.τ).loc Cert.ChipL0InIdeal.main_arg0)
          ∧ r.2.mem ((c.tc : Thread Cert.ChipL0InIdeal.nD Cert.ChipL0InIdeal.τ).loc Cert.ChipL0InIdeal.main_arg1) = m ((c.tc : Thread Cert.ChipL0InIdeal.nD Cert.ChipL0InIdeal.τ).loc Cert.ChipL0InIdeal.main_arg1))
      ∧ θ_run (Cert.ChipL0InRefIdeal.defs (F := Ideal)) (onTc (τ := Cert.ChipL0InRefIdeal.τ) (Cert.ChipL0InRefIdeal.main (F := Ideal))) ⟨m', fun _ => 0, g'⟩ (fun r => ∀ c : Dev Cert.ChipL0InRefIdeal.nD,
          (∀ i : (⟨3, ![2, 512, 834]⟩ : Shape).Idx, (Cert.On_own_half_ChipL0InIdeal.fn (F := Ideal) (m ((c.tc : Thread Cert.ChipL0InIdeal.nD Cert.ChipL0InIdeal.τ).loc Cert.ChipL0InIdeal.main_arg0)) (m ((c.tc : Thread Cert.ChipL0InIdeal.nD Cert.ChipL0InIdeal.τ).loc Cert.ChipL0InIdeal.main_arg1))) i = 1#1 → r.2.mem ((c.tc : Thread Cert.ChipL0InRefIdeal.nD Cert.ChipL0InRefIdeal.τ).loc Cert.ChipL0InRefIdeal.main_v2) i = v0 c i)
          ∧ r.2.mem ((c.tc : Thread Cert.ChipL0InRefIdeal.nD Cert.ChipL0InRefIdeal.τ).loc Cert.ChipL0InRefIdeal.main_arg0) = m' ((c.tc : Thread Cert.ChipL0InRefIdeal.nD Cert.ChipL0InRefIdeal.τ).loc Cert.ChipL0InRefIdeal.main_arg0)
          ∧ r.2.mem ((c.tc : Thread Cert.ChipL0InRefIdeal.nD Cert.ChipL0InRefIdeal.τ).loc Cert.ChipL0InRefIdeal.main_arg1) = m' ((c.tc : Thread Cert.ChipL0InRefIdeal.nD Cert.ChipL0InRefIdeal.τ).loc Cert.ChipL0InRefIdeal.main_arg1))

def preserves_ChipL1In_ChipL1InIdeal : Prop :=
  True

def algebraic_ChipL1InIdeal_ChipL1InRefIdeal_on_own_half_ChipL1InIdeal [hChipL1InIdeal : Cert.ChipL1InIdeal.Facts] [hChipL1InRefIdeal : Cert.ChipL1InRefIdeal.Facts] [hPre_a_core_ChipL1In : Cert.Pre_a_core_ChipL1In.Facts] [hOn_own_half_ChipL1InIdeal : Cert.On_own_half_ChipL1InIdeal.Facts] : Prop :=
  ∀ (m : (ℓ : Loc Cert.ChipL1InIdeal.nD Cert.ChipL1InIdeal.τ Cert.ChipL1InIdeal.sig) → Buf (Elt Ideal) ℓ) (g : Dev Cert.ChipL1InIdeal.nD → PrngReg)
    (m' : (ℓ : Loc Cert.ChipL1InRefIdeal.nD Cert.ChipL1InRefIdeal.τ Cert.ChipL1InRefIdeal.sig) → Buf (Elt Ideal) ℓ) (g' : Dev Cert.ChipL1InRefIdeal.nD → PrngReg), Pre_ChipL1InIdeal m →
    (∀ c : Dev Cert.ChipL1InIdeal.nD,
      m' ((c.tc : Thread Cert.ChipL1InRefIdeal.nD Cert.ChipL1InRefIdeal.τ).loc Cert.ChipL1InRefIdeal.main_arg0) = m ((c.tc : Thread Cert.ChipL1InIdeal.nD Cert.ChipL1InIdeal.τ).loc Cert.ChipL1InIdeal.main_arg0)
      ∧ m' ((c.tc : Thread Cert.ChipL1InRefIdeal.nD Cert.ChipL1InRefIdeal.τ).loc Cert.ChipL1InRefIdeal.main_arg1) = m ((c.tc : Thread Cert.ChipL1InIdeal.nD Cert.ChipL1InIdeal.τ).loc Cert.ChipL1InIdeal.main_arg1)) →
    ∃ (v0 : (c : Dev Cert.ChipL1InIdeal.nD) → Buf (Elt Ideal) ((c.tc : Thread Cert.ChipL1InIdeal.nD Cert.ChipL1InIdeal.τ).loc Cert.ChipL1InIdeal.main_v0)),
      θ_run (Cert.ChipL1InIdeal.defs (F := Ideal)) (onTc (τ := Cert.ChipL1InIdeal.τ) (Cert.ChipL1InIdeal.main (F := Ideal))) ⟨m, fun _ => 0, g⟩ (fun r => ∀ c : Dev Cert.ChipL1InIdeal.nD,
          (∀ i : (⟨3, ![2, 512, 488]⟩ : Shape).Idx, (Cert.On_own_half_ChipL1InIdeal.fn (F := Ideal) (m ((c.tc : Thread Cert.ChipL1InIdeal.nD Cert.ChipL1InIdeal.τ).loc Cert.ChipL1InIdeal.main_arg0)) (m ((c.tc : Thread Cert.ChipL1InIdeal.nD Cert.ChipL1InIdeal.τ).loc Cert.ChipL1InIdeal.main_arg1))) i = 1#1 → r.2.mem ((c.tc : Thread Cert.ChipL1InIdeal.nD Cert.ChipL1InIdeal.τ).loc Cert.ChipL1InIdeal.main_v0) i = v0 c i)
          ∧ r.2.mem ((c.tc : Thread Cert.ChipL1InIdeal.nD Cert.ChipL1InIdeal.τ).loc Cert.ChipL1InIdeal.main_arg0) = m ((c.tc : Thread Cert.ChipL1InIdeal.nD Cert.ChipL1InIdeal.τ).loc Cert.ChipL1InIdeal.main_arg0)
          ∧ r.2.mem ((c.tc : Thread Cert.ChipL1InIdeal.nD Cert.ChipL1InIdeal.τ).loc Cert.ChipL1InIdeal.main_arg1) = m ((c.tc : Thread Cert.ChipL1InIdeal.nD Cert.ChipL1InIdeal.τ).loc Cert.ChipL1InIdeal.main_arg1))
      ∧ θ_run (Cert.ChipL1InRefIdeal.defs (F := Ideal)) (onTc (τ := Cert.ChipL1InRefIdeal.τ) (Cert.ChipL1InRefIdeal.main (F := Ideal))) ⟨m', fun _ => 0, g'⟩ (fun r => ∀ c : Dev Cert.ChipL1InRefIdeal.nD,
          (∀ i : (⟨3, ![2, 512, 488]⟩ : Shape).Idx, (Cert.On_own_half_ChipL1InIdeal.fn (F := Ideal) (m ((c.tc : Thread Cert.ChipL1InIdeal.nD Cert.ChipL1InIdeal.τ).loc Cert.ChipL1InIdeal.main_arg0)) (m ((c.tc : Thread Cert.ChipL1InIdeal.nD Cert.ChipL1InIdeal.τ).loc Cert.ChipL1InIdeal.main_arg1))) i = 1#1 → r.2.mem ((c.tc : Thread Cert.ChipL1InRefIdeal.nD Cert.ChipL1InRefIdeal.τ).loc Cert.ChipL1InRefIdeal.main_v2) i = v0 c i)
          ∧ r.2.mem ((c.tc : Thread Cert.ChipL1InRefIdeal.nD Cert.ChipL1InRefIdeal.τ).loc Cert.ChipL1InRefIdeal.main_arg0) = m' ((c.tc : Thread Cert.ChipL1InRefIdeal.nD Cert.ChipL1InRefIdeal.τ).loc Cert.ChipL1InRefIdeal.main_arg0)
          ∧ r.2.mem ((c.tc : Thread Cert.ChipL1InRefIdeal.nD Cert.ChipL1InRefIdeal.τ).loc Cert.ChipL1InRefIdeal.main_arg1) = m' ((c.tc : Thread Cert.ChipL1InRefIdeal.nD Cert.ChipL1InRefIdeal.τ).loc Cert.ChipL1InRefIdeal.main_arg1))

def preserves_ChipUp_ChipUpIdeal : Prop :=
  True

def algebraic_ChipUpIdeal_ChipUpRefIdeal_on_own_half_ChipUpIdeal [hChipUpIdeal : Cert.ChipUpIdeal.Facts] [hChipUpRefIdeal : Cert.ChipUpRefIdeal.Facts] [hPre_a_core_ChipUp : Cert.Pre_a_core_ChipUp.Facts] [hOn_own_half_ChipUpIdeal : Cert.On_own_half_ChipUpIdeal.Facts] : Prop :=
  ∀ (m : (ℓ : Loc Cert.ChipUpIdeal.nD Cert.ChipUpIdeal.τ Cert.ChipUpIdeal.sig) → Buf (Elt Ideal) ℓ) (g : Dev Cert.ChipUpIdeal.nD → PrngReg)
    (m' : (ℓ : Loc Cert.ChipUpRefIdeal.nD Cert.ChipUpRefIdeal.τ Cert.ChipUpRefIdeal.sig) → Buf (Elt Ideal) ℓ) (g' : Dev Cert.ChipUpRefIdeal.nD → PrngReg), Pre_ChipUpIdeal m →
    (∀ c : Dev Cert.ChipUpIdeal.nD,
      m' ((c.tc : Thread Cert.ChipUpRefIdeal.nD Cert.ChipUpRefIdeal.τ).loc Cert.ChipUpRefIdeal.main_arg0) = m ((c.tc : Thread Cert.ChipUpIdeal.nD Cert.ChipUpIdeal.τ).loc Cert.ChipUpIdeal.main_arg0)
      ∧ m' ((c.tc : Thread Cert.ChipUpRefIdeal.nD Cert.ChipUpRefIdeal.τ).loc Cert.ChipUpRefIdeal.main_arg1) = m ((c.tc : Thread Cert.ChipUpIdeal.nD Cert.ChipUpIdeal.τ).loc Cert.ChipUpIdeal.main_arg1)) →
    ∃ (v0 : (c : Dev Cert.ChipUpIdeal.nD) → Buf (Elt Ideal) ((c.tc : Thread Cert.ChipUpIdeal.nD Cert.ChipUpIdeal.τ).loc Cert.ChipUpIdeal.main_v0)),
      θ_run (Cert.ChipUpIdeal.defs (F := Ideal)) (onTc (τ := Cert.ChipUpIdeal.τ) (Cert.ChipUpIdeal.main (F := Ideal))) ⟨m, fun _ => 0, g⟩ (fun r => ∀ c : Dev Cert.ChipUpIdeal.nD,
          (∀ i : (⟨3, ![2, 512, 1408]⟩ : Shape).Idx, (Cert.On_own_half_ChipUpIdeal.fn (F := Ideal) (m ((c.tc : Thread Cert.ChipUpIdeal.nD Cert.ChipUpIdeal.τ).loc Cert.ChipUpIdeal.main_arg0)) (m ((c.tc : Thread Cert.ChipUpIdeal.nD Cert.ChipUpIdeal.τ).loc Cert.ChipUpIdeal.main_arg1))) i = 1#1 → r.2.mem ((c.tc : Thread Cert.ChipUpIdeal.nD Cert.ChipUpIdeal.τ).loc Cert.ChipUpIdeal.main_v0) i = v0 c i)
          ∧ r.2.mem ((c.tc : Thread Cert.ChipUpIdeal.nD Cert.ChipUpIdeal.τ).loc Cert.ChipUpIdeal.main_arg0) = m ((c.tc : Thread Cert.ChipUpIdeal.nD Cert.ChipUpIdeal.τ).loc Cert.ChipUpIdeal.main_arg0)
          ∧ r.2.mem ((c.tc : Thread Cert.ChipUpIdeal.nD Cert.ChipUpIdeal.τ).loc Cert.ChipUpIdeal.main_arg1) = m ((c.tc : Thread Cert.ChipUpIdeal.nD Cert.ChipUpIdeal.τ).loc Cert.ChipUpIdeal.main_arg1))
      ∧ θ_run (Cert.ChipUpRefIdeal.defs (F := Ideal)) (onTc (τ := Cert.ChipUpRefIdeal.τ) (Cert.ChipUpRefIdeal.main (F := Ideal))) ⟨m', fun _ => 0, g'⟩ (fun r => ∀ c : Dev Cert.ChipUpRefIdeal.nD,
          (∀ i : (⟨3, ![2, 512, 1408]⟩ : Shape).Idx, (Cert.On_own_half_ChipUpIdeal.fn (F := Ideal) (m ((c.tc : Thread Cert.ChipUpIdeal.nD Cert.ChipUpIdeal.τ).loc Cert.ChipUpIdeal.main_arg0)) (m ((c.tc : Thread Cert.ChipUpIdeal.nD Cert.ChipUpIdeal.τ).loc Cert.ChipUpIdeal.main_arg1))) i = 1#1 → r.2.mem ((c.tc : Thread Cert.ChipUpRefIdeal.nD Cert.ChipUpRefIdeal.τ).loc Cert.ChipUpRefIdeal.main_v2) i = v0 c i)
          ∧ r.2.mem ((c.tc : Thread Cert.ChipUpRefIdeal.nD Cert.ChipUpRefIdeal.τ).loc Cert.ChipUpRefIdeal.main_arg0) = m' ((c.tc : Thread Cert.ChipUpRefIdeal.nD Cert.ChipUpRefIdeal.τ).loc Cert.ChipUpRefIdeal.main_arg0)
          ∧ r.2.mem ((c.tc : Thread Cert.ChipUpRefIdeal.nD Cert.ChipUpRefIdeal.τ).loc Cert.ChipUpRefIdeal.main_arg1) = m' ((c.tc : Thread Cert.ChipUpRefIdeal.nD Cert.ChipUpRefIdeal.τ).loc Cert.ChipUpRefIdeal.main_arg1))

def preserves_ChipDown_ChipDownIdeal : Prop :=
  True

def algebraic_ChipDownIdeal_ChipDownRefIdeal_on_own_half_ChipDownIdeal [hChipDownIdeal : Cert.ChipDownIdeal.Facts] [hChipDownRefIdeal : Cert.ChipDownRefIdeal.Facts] [hPre_a_core_ChipDown : Cert.Pre_a_core_ChipDown.Facts] [hOn_own_half_ChipDownIdeal : Cert.On_own_half_ChipDownIdeal.Facts] : Prop :=
  ∀ (m : (ℓ : Loc Cert.ChipDownIdeal.nD Cert.ChipDownIdeal.τ Cert.ChipDownIdeal.sig) → Buf (Elt Ideal) ℓ) (g : Dev Cert.ChipDownIdeal.nD → PrngReg)
    (m' : (ℓ : Loc Cert.ChipDownRefIdeal.nD Cert.ChipDownRefIdeal.τ Cert.ChipDownRefIdeal.sig) → Buf (Elt Ideal) ℓ) (g' : Dev Cert.ChipDownRefIdeal.nD → PrngReg), Pre_ChipDownIdeal m →
    (∀ c : Dev Cert.ChipDownIdeal.nD,
      m' ((c.tc : Thread Cert.ChipDownRefIdeal.nD Cert.ChipDownRefIdeal.τ).loc Cert.ChipDownRefIdeal.main_arg0) = m ((c.tc : Thread Cert.ChipDownIdeal.nD Cert.ChipDownIdeal.τ).loc Cert.ChipDownIdeal.main_arg0)
      ∧ m' ((c.tc : Thread Cert.ChipDownRefIdeal.nD Cert.ChipDownRefIdeal.τ).loc Cert.ChipDownRefIdeal.main_arg1) = m ((c.tc : Thread Cert.ChipDownIdeal.nD Cert.ChipDownIdeal.τ).loc Cert.ChipDownIdeal.main_arg1)) →
    ∃ (v0 : (c : Dev Cert.ChipDownIdeal.nD) → Buf (Elt Ideal) ((c.tc : Thread Cert.ChipDownIdeal.nD Cert.ChipDownIdeal.τ).loc Cert.ChipDownIdeal.main_v0)),
      θ_run (Cert.ChipDownIdeal.defs (F := Ideal)) (onTc (τ := Cert.ChipDownIdeal.τ) (Cert.ChipDownIdeal.main (F := Ideal))) ⟨m, fun _ => 0, g⟩ (fun r => ∀ c : Dev Cert.ChipDownIdeal.nD,
          (∀ i : (⟨3, ![2, 352, 1024]⟩ : Shape).Idx, (Cert.On_own_half_ChipDownIdeal.fn (F := Ideal) (m ((c.tc : Thread Cert.ChipDownIdeal.nD Cert.ChipDownIdeal.τ).loc Cert.ChipDownIdeal.main_arg0)) (m ((c.tc : Thread Cert.ChipDownIdeal.nD Cert.ChipDownIdeal.τ).loc Cert.ChipDownIdeal.main_arg1))) i = 1#1 → r.2.mem ((c.tc : Thread Cert.ChipDownIdeal.nD Cert.ChipDownIdeal.τ).loc Cert.ChipDownIdeal.main_v0) i = v0 c i)
          ∧ r.2.mem ((c.tc : Thread Cert.ChipDownIdeal.nD Cert.ChipDownIdeal.τ).loc Cert.ChipDownIdeal.main_arg0) = m ((c.tc : Thread Cert.ChipDownIdeal.nD Cert.ChipDownIdeal.τ).loc Cert.ChipDownIdeal.main_arg0)
          ∧ r.2.mem ((c.tc : Thread Cert.ChipDownIdeal.nD Cert.ChipDownIdeal.τ).loc Cert.ChipDownIdeal.main_arg1) = m ((c.tc : Thread Cert.ChipDownIdeal.nD Cert.ChipDownIdeal.τ).loc Cert.ChipDownIdeal.main_arg1))
      ∧ θ_run (Cert.ChipDownRefIdeal.defs (F := Ideal)) (onTc (τ := Cert.ChipDownRefIdeal.τ) (Cert.ChipDownRefIdeal.main (F := Ideal))) ⟨m', fun _ => 0, g'⟩ (fun r => ∀ c : Dev Cert.ChipDownRefIdeal.nD,
          (∀ i : (⟨3, ![2, 352, 1024]⟩ : Shape).Idx, (Cert.On_own_half_ChipDownIdeal.fn (F := Ideal) (m ((c.tc : Thread Cert.ChipDownIdeal.nD Cert.ChipDownIdeal.τ).loc Cert.ChipDownIdeal.main_arg0)) (m ((c.tc : Thread Cert.ChipDownIdeal.nD Cert.ChipDownIdeal.τ).loc Cert.ChipDownIdeal.main_arg1))) i = 1#1 → r.2.mem ((c.tc : Thread Cert.ChipDownRefIdeal.nD Cert.ChipDownRefIdeal.τ).loc Cert.ChipDownRefIdeal.main_v2) i = v0 c i)
          ∧ r.2.mem ((c.tc : Thread Cert.ChipDownRefIdeal.nD Cert.ChipDownRefIdeal.τ).loc Cert.ChipDownRefIdeal.main_arg0) = m' ((c.tc : Thread Cert.ChipDownRefIdeal.nD Cert.ChipDownRefIdeal.τ).loc Cert.ChipDownRefIdeal.main_arg0)
          ∧ r.2.mem ((c.tc : Thread Cert.ChipDownRefIdeal.nD Cert.ChipDownRefIdeal.τ).loc Cert.ChipDownRefIdeal.main_arg1) = m' ((c.tc : Thread Cert.ChipDownRefIdeal.nD Cert.ChipDownRefIdeal.τ).loc Cert.ChipDownRefIdeal.main_arg1))

def preserves_ChipOut_ChipOutIdeal : Prop :=
  True

def algebraic_ChipOutIdeal_ChipOutRefIdeal_on_own_half_ChipOutIdeal [hChipOutIdeal : Cert.ChipOutIdeal.Facts] [hChipOutRefIdeal : Cert.ChipOutRefIdeal.Facts] [hPre_a_core_ChipOut : Cert.Pre_a_core_ChipOut.Facts] [hOn_own_half_ChipOutIdeal : Cert.On_own_half_ChipOutIdeal.Facts] : Prop :=
  ∀ (m : (ℓ : Loc Cert.ChipOutIdeal.nD Cert.ChipOutIdeal.τ Cert.ChipOutIdeal.sig) → Buf (Elt Ideal) ℓ) (g : Dev Cert.ChipOutIdeal.nD → PrngReg)
    (m' : (ℓ : Loc Cert.ChipOutRefIdeal.nD Cert.ChipOutRefIdeal.τ Cert.ChipOutRefIdeal.sig) → Buf (Elt Ideal) ℓ) (g' : Dev Cert.ChipOutRefIdeal.nD → PrngReg), Pre_ChipOutIdeal m →
    (∀ c : Dev Cert.ChipOutIdeal.nD,
      m' ((c.tc : Thread Cert.ChipOutRefIdeal.nD Cert.ChipOutRefIdeal.τ).loc Cert.ChipOutRefIdeal.main_arg0) = m ((c.tc : Thread Cert.ChipOutIdeal.nD Cert.ChipOutIdeal.τ).loc Cert.ChipOutIdeal.main_arg0)
      ∧ m' ((c.tc : Thread Cert.ChipOutRefIdeal.nD Cert.ChipOutRefIdeal.τ).loc Cert.ChipOutRefIdeal.main_arg1) = m ((c.tc : Thread Cert.ChipOutIdeal.nD Cert.ChipOutIdeal.τ).loc Cert.ChipOutIdeal.main_arg1)) →
    ∃ (v0 : (c : Dev Cert.ChipOutIdeal.nD) → Buf (Elt Ideal) ((c.tc : Thread Cert.ChipOutIdeal.nD Cert.ChipOutIdeal.τ).loc Cert.ChipOutIdeal.main_v0)),
      θ_run (Cert.ChipOutIdeal.defs (F := Ideal)) (onTc (τ := Cert.ChipOutIdeal.τ) (Cert.ChipOutIdeal.main (F := Ideal))) ⟨m, fun _ => 0, g⟩ (fun r => ∀ c : Dev Cert.ChipOutIdeal.nD,
          (∀ i : (⟨3, ![2, 128, 1024]⟩ : Shape).Idx, (Cert.On_own_half_ChipOutIdeal.fn (F := Ideal) (m ((c.tc : Thread Cert.ChipOutIdeal.nD Cert.ChipOutIdeal.τ).loc Cert.ChipOutIdeal.main_arg0)) (m ((c.tc : Thread Cert.ChipOutIdeal.nD Cert.ChipOutIdeal.τ).loc Cert.ChipOutIdeal.main_arg1))) i = 1#1 → r.2.mem ((c.tc : Thread Cert.ChipOutIdeal.nD Cert.ChipOutIdeal.τ).loc Cert.ChipOutIdeal.main_v0) i = v0 c i)
          ∧ r.2.mem ((c.tc : Thread Cert.ChipOutIdeal.nD Cert.ChipOutIdeal.τ).loc Cert.ChipOutIdeal.main_arg0) = m ((c.tc : Thread Cert.ChipOutIdeal.nD Cert.ChipOutIdeal.τ).loc Cert.ChipOutIdeal.main_arg0)
          ∧ r.2.mem ((c.tc : Thread Cert.ChipOutIdeal.nD Cert.ChipOutIdeal.τ).loc Cert.ChipOutIdeal.main_arg1) = m ((c.tc : Thread Cert.ChipOutIdeal.nD Cert.ChipOutIdeal.τ).loc Cert.ChipOutIdeal.main_arg1))
      ∧ θ_run (Cert.ChipOutRefIdeal.defs (F := Ideal)) (onTc (τ := Cert.ChipOutRefIdeal.τ) (Cert.ChipOutRefIdeal.main (F := Ideal))) ⟨m', fun _ => 0, g'⟩ (fun r => ∀ c : Dev Cert.ChipOutRefIdeal.nD,
          (∀ i : (⟨3, ![2, 128, 1024]⟩ : Shape).Idx, (Cert.On_own_half_ChipOutIdeal.fn (F := Ideal) (m ((c.tc : Thread Cert.ChipOutIdeal.nD Cert.ChipOutIdeal.τ).loc Cert.ChipOutIdeal.main_arg0)) (m ((c.tc : Thread Cert.ChipOutIdeal.nD Cert.ChipOutIdeal.τ).loc Cert.ChipOutIdeal.main_arg1))) i = 1#1 → r.2.mem ((c.tc : Thread Cert.ChipOutRefIdeal.nD Cert.ChipOutRefIdeal.τ).loc Cert.ChipOutRefIdeal.main_v2) i = v0 c i)
          ∧ r.2.mem ((c.tc : Thread Cert.ChipOutRefIdeal.nD Cert.ChipOutRefIdeal.τ).loc Cert.ChipOutRefIdeal.main_arg0) = m' ((c.tc : Thread Cert.ChipOutRefIdeal.nD Cert.ChipOutRefIdeal.τ).loc Cert.ChipOutRefIdeal.main_arg0)
          ∧ r.2.mem ((c.tc : Thread Cert.ChipOutRefIdeal.nD Cert.ChipOutRefIdeal.τ).loc Cert.ChipOutRefIdeal.main_arg1) = m' ((c.tc : Thread Cert.ChipOutRefIdeal.nD Cert.ChipOutRefIdeal.τ).loc Cert.ChipOutRefIdeal.main_arg1))

def preserves_ChipSmall_ChipSmallIdeal : Prop :=
  True

def algebraic_ChipSmallIdeal_ChipSmallRefIdeal_on_own_half_ChipSmallIdeal [hChipSmallIdeal : Cert.ChipSmallIdeal.Facts] [hChipSmallRefIdeal : Cert.ChipSmallRefIdeal.Facts] [hPre_a_core_ChipSmall : Cert.Pre_a_core_ChipSmall.Facts] [hOn_own_half_ChipSmallIdeal : Cert.On_own_half_ChipSmallIdeal.Facts] : Prop :=
  ∀ (m : (ℓ : Loc Cert.ChipSmallIdeal.nD Cert.ChipSmallIdeal.τ Cert.ChipSmallIdeal.sig) → Buf (Elt Ideal) ℓ) (g : Dev Cert.ChipSmallIdeal.nD → PrngReg)
    (m' : (ℓ : Loc Cert.ChipSmallRefIdeal.nD Cert.ChipSmallRefIdeal.τ Cert.ChipSmallRefIdeal.sig) → Buf (Elt Ideal) ℓ) (g' : Dev Cert.ChipSmallRefIdeal.nD → PrngReg), Pre_ChipSmallIdeal m →
    (∀ c : Dev Cert.ChipSmallIdeal.nD,
      m' ((c.tc : Thread Cert.ChipSmallRefIdeal.nD Cert.ChipSmallRefIdeal.τ).loc Cert.ChipSmallRefIdeal.main_arg0) = m ((c.tc : Thread Cert.ChipSmallIdeal.nD Cert.ChipSmallIdeal.τ).loc Cert.ChipSmallIdeal.main_arg0)
      ∧ m' ((c.tc : Thread Cert.ChipSmallRefIdeal.nD Cert.ChipSmallRefIdeal.τ).loc Cert.ChipSmallRefIdeal.main_arg1) = m ((c.tc : Thread Cert.ChipSmallIdeal.nD Cert.ChipSmallIdeal.τ).loc Cert.ChipSmallIdeal.main_arg1)) →
    ∃ (v0 : (c : Dev Cert.ChipSmallIdeal.nD) → Buf (Elt Ideal) ((c.tc : Thread Cert.ChipSmallIdeal.nD Cert.ChipSmallIdeal.τ).loc Cert.ChipSmallIdeal.main_v0)),
      θ_run (Cert.ChipSmallIdeal.defs (F := Ideal)) (onTc (τ := Cert.ChipSmallIdeal.τ) (Cert.ChipSmallIdeal.main (F := Ideal))) ⟨m, fun _ => 0, g⟩ (fun r => ∀ c : Dev Cert.ChipSmallIdeal.nD,
          (∀ i : (⟨3, ![2, 552, 128]⟩ : Shape).Idx, (Cert.On_own_half_ChipSmallIdeal.fn (F := Ideal) (m ((c.tc : Thread Cert.ChipSmallIdeal.nD Cert.ChipSmallIdeal.τ).loc Cert.ChipSmallIdeal.main_arg0)) (m ((c.tc : Thread Cert.ChipSmallIdeal.nD Cert.ChipSmallIdeal.τ).loc Cert.ChipSmallIdeal.main_arg1))) i = 1#1 → r.2.mem ((c.tc : Thread Cert.ChipSmallIdeal.nD Cert.ChipSmallIdeal.τ).loc Cert.ChipSmallIdeal.main_v0) i = v0 c i)
          ∧ r.2.mem ((c.tc : Thread Cert.ChipSmallIdeal.nD Cert.ChipSmallIdeal.τ).loc Cert.ChipSmallIdeal.main_arg0) = m ((c.tc : Thread Cert.ChipSmallIdeal.nD Cert.ChipSmallIdeal.τ).loc Cert.ChipSmallIdeal.main_arg0)
          ∧ r.2.mem ((c.tc : Thread Cert.ChipSmallIdeal.nD Cert.ChipSmallIdeal.τ).loc Cert.ChipSmallIdeal.main_arg1) = m ((c.tc : Thread Cert.ChipSmallIdeal.nD Cert.ChipSmallIdeal.τ).loc Cert.ChipSmallIdeal.main_arg1))
      ∧ θ_run (Cert.ChipSmallRefIdeal.defs (F := Ideal)) (onTc (τ := Cert.ChipSmallRefIdeal.τ) (Cert.ChipSmallRefIdeal.main (F := Ideal))) ⟨m', fun _ => 0, g'⟩ (fun r => ∀ c : Dev Cert.ChipSmallRefIdeal.nD,
          (∀ i : (⟨3, ![2, 552, 128]⟩ : Shape).Idx, (Cert.On_own_half_ChipSmallIdeal.fn (F := Ideal) (m ((c.tc : Thread Cert.ChipSmallIdeal.nD Cert.ChipSmallIdeal.τ).loc Cert.ChipSmallIdeal.main_arg0)) (m ((c.tc : Thread Cert.ChipSmallIdeal.nD Cert.ChipSmallIdeal.τ).loc Cert.ChipSmallIdeal.main_arg1))) i = 1#1 → r.2.mem ((c.tc : Thread Cert.ChipSmallRefIdeal.nD Cert.ChipSmallRefIdeal.τ).loc Cert.ChipSmallRefIdeal.main_v1) i = v0 c i)
          ∧ r.2.mem ((c.tc : Thread Cert.ChipSmallRefIdeal.nD Cert.ChipSmallRefIdeal.τ).loc Cert.ChipSmallRefIdeal.main_arg0) = m' ((c.tc : Thread Cert.ChipSmallRefIdeal.nD Cert.ChipSmallRefIdeal.τ).loc Cert.ChipSmallRefIdeal.main_arg0)
          ∧ r.2.mem ((c.tc : Thread Cert.ChipSmallRefIdeal.nD Cert.ChipSmallRefIdeal.τ).loc Cert.ChipSmallRefIdeal.main_arg1) = m' ((c.tc : Thread Cert.ChipSmallRefIdeal.nD Cert.ChipSmallRefIdeal.τ).loc Cert.ChipSmallRefIdeal.main_arg1))

def preserves_PairL0In_PairL0InIdeal : Prop :=
  True

def algebraic_PairL0InIdeal_PairL0InRefIdeal [hPairL0InIdeal : Cert.PairL0InIdeal.Facts] [hPairL0InRefIdeal : Cert.PairL0InRefIdeal.Facts] [hPre_a_core_PairL0In : Cert.Pre_a_core_PairL0In.Facts] : Prop :=
  ∀ (m : (ℓ : Loc Cert.PairL0InIdeal.nD Cert.PairL0InIdeal.τ Cert.PairL0InIdeal.sig) → Buf (Elt Ideal) ℓ) (g : Dev Cert.PairL0InIdeal.nD → PrngReg)
    (m' : (ℓ : Loc Cert.PairL0InRefIdeal.nD Cert.PairL0InRefIdeal.τ Cert.PairL0InRefIdeal.sig) → Buf (Elt Ideal) ℓ) (g' : Dev Cert.PairL0InRefIdeal.nD → PrngReg), Pre_PairL0InIdeal m →
    (∀ c : Dev Cert.PairL0InIdeal.nD,
      m' ((c.tc : Thread Cert.PairL0InRefIdeal.nD Cert.PairL0InRefIdeal.τ).loc Cert.PairL0InRefIdeal.main_arg0) = m ((c.tc : Thread Cert.PairL0InIdeal.nD Cert.PairL0InIdeal.τ).loc Cert.PairL0InIdeal.main_arg0)
      ∧ m' ((c.tc : Thread Cert.PairL0InRefIdeal.nD Cert.PairL0InRefIdeal.τ).loc Cert.PairL0InRefIdeal.main_arg1) = m ((c.tc : Thread Cert.PairL0InIdeal.nD Cert.PairL0InIdeal.τ).loc Cert.PairL0InIdeal.main_arg1)
      ∧ m' ((c.tc : Thread Cert.PairL0InRefIdeal.nD Cert.PairL0InRefIdeal.τ).loc Cert.PairL0InRefIdeal.main_arg2) = m ((c.tc : Thread Cert.PairL0InIdeal.nD Cert.PairL0InIdeal.τ).loc Cert.PairL0InIdeal.main_arg2)) →
    ∃ (v0 : (c : Dev Cert.PairL0InIdeal.nD) → Buf (Elt Ideal) ((c.tc : Thread Cert.PairL0InIdeal.nD Cert.PairL0InIdeal.τ).loc Cert.PairL0InIdeal.main_v0)),
      θ_run (Cert.PairL0InIdeal.defs (F := Ideal)) (onTc (τ := Cert.PairL0InIdeal.τ) (Cert.PairL0InIdeal.main (F := Ideal))) ⟨m, fun _ => 0, g⟩ (fun r => ∀ c : Dev Cert.PairL0InIdeal.nD,
          r.2.mem ((c.tc : Thread Cert.PairL0InIdeal.nD Cert.PairL0InIdeal.τ).loc Cert.PairL0InIdeal.main_v0) = v0 c
          ∧ r.2.mem ((c.tc : Thread Cert.PairL0InIdeal.nD Cert.PairL0InIdeal.τ).loc Cert.PairL0InIdeal.main_arg0) = m ((c.tc : Thread Cert.PairL0InIdeal.nD Cert.PairL0InIdeal.τ).loc Cert.PairL0InIdeal.main_arg0)
          ∧ r.2.mem ((c.tc : Thread Cert.PairL0InIdeal.nD Cert.PairL0InIdeal.τ).loc Cert.PairL0InIdeal.main_arg1) = m ((c.tc : Thread Cert.PairL0InIdeal.nD Cert.PairL0InIdeal.τ).loc Cert.PairL0InIdeal.main_arg1)
          ∧ r.2.mem ((c.tc : Thread Cert.PairL0InIdeal.nD Cert.PairL0InIdeal.τ).loc Cert.PairL0InIdeal.main_arg2) = m ((c.tc : Thread Cert.PairL0InIdeal.nD Cert.PairL0InIdeal.τ).loc Cert.PairL0InIdeal.main_arg2))
      ∧ θ_run (Cert.PairL0InRefIdeal.defs (F := Ideal)) (onTc (τ := Cert.PairL0InRefIdeal.τ) (Cert.PairL0InRefIdeal.main (F := Ideal))) ⟨m', fun _ => 0, g'⟩ (fun r => ∀ c : Dev Cert.PairL0InRefIdeal.nD,
          r.2.mem ((c.tc : Thread Cert.PairL0InRefIdeal.nD Cert.PairL0InRefIdeal.τ).loc Cert.PairL0InRefIdeal.main_v9) = v0 c
          ∧ r.2.mem ((c.tc : Thread Cert.PairL0InRefIdeal.nD Cert.PairL0InRefIdeal.τ).loc Cert.PairL0InRefIdeal.main_arg0) = m' ((c.tc : Thread Cert.PairL0InRefIdeal.nD Cert.PairL0InRefIdeal.τ).loc Cert.PairL0InRefIdeal.main_arg0)
          ∧ r.2.mem ((c.tc : Thread Cert.PairL0InRefIdeal.nD Cert.PairL0InRefIdeal.τ).loc Cert.PairL0InRefIdeal.main_arg1) = m' ((c.tc : Thread Cert.PairL0InRefIdeal.nD Cert.PairL0InRefIdeal.τ).loc Cert.PairL0InRefIdeal.main_arg1)
          ∧ r.2.mem ((c.tc : Thread Cert.PairL0InRefIdeal.nD Cert.PairL0InRefIdeal.τ).loc Cert.PairL0InRefIdeal.main_arg2) = m' ((c.tc : Thread Cert.PairL0InRefIdeal.nD Cert.PairL0InRefIdeal.τ).loc Cert.PairL0InRefIdeal.main_arg2))

def preserves_PairL1In_PairL1InIdeal : Prop :=
  True

def algebraic_PairL1InIdeal_PairL1InRefIdeal [hPairL1InIdeal : Cert.PairL1InIdeal.Facts] [hPairL1InRefIdeal : Cert.PairL1InRefIdeal.Facts] [hPre_a_core_PairL1In : Cert.Pre_a_core_PairL1In.Facts] : Prop :=
  ∀ (m : (ℓ : Loc Cert.PairL1InIdeal.nD Cert.PairL1InIdeal.τ Cert.PairL1InIdeal.sig) → Buf (Elt Ideal) ℓ) (g : Dev Cert.PairL1InIdeal.nD → PrngReg)
    (m' : (ℓ : Loc Cert.PairL1InRefIdeal.nD Cert.PairL1InRefIdeal.τ Cert.PairL1InRefIdeal.sig) → Buf (Elt Ideal) ℓ) (g' : Dev Cert.PairL1InRefIdeal.nD → PrngReg), Pre_PairL1InIdeal m →
    (∀ c : Dev Cert.PairL1InIdeal.nD,
      m' ((c.tc : Thread Cert.PairL1InRefIdeal.nD Cert.PairL1InRefIdeal.τ).loc Cert.PairL1InRefIdeal.main_arg0) = m ((c.tc : Thread Cert.PairL1InIdeal.nD Cert.PairL1InIdeal.τ).loc Cert.PairL1InIdeal.main_arg0)
      ∧ m' ((c.tc : Thread Cert.PairL1InRefIdeal.nD Cert.PairL1InRefIdeal.τ).loc Cert.PairL1InRefIdeal.main_arg1) = m ((c.tc : Thread Cert.PairL1InIdeal.nD Cert.PairL1InIdeal.τ).loc Cert.PairL1InIdeal.main_arg1)
      ∧ m' ((c.tc : Thread Cert.PairL1InRefIdeal.nD Cert.PairL1InRefIdeal.τ).loc Cert.PairL1InRefIdeal.main_arg2) = m ((c.tc : Thread Cert.PairL1InIdeal.nD Cert.PairL1InIdeal.τ).loc Cert.PairL1InIdeal.main_arg2)) →
    ∃ (v0 : (c : Dev Cert.PairL1InIdeal.nD) → Buf (Elt Ideal) ((c.tc : Thread Cert.PairL1InIdeal.nD Cert.PairL1InIdeal.τ).loc Cert.PairL1InIdeal.main_v0)),
      θ_run (Cert.PairL1InIdeal.defs (F := Ideal)) (onTc (τ := Cert.PairL1InIdeal.τ) (Cert.PairL1InIdeal.main (F := Ideal))) ⟨m, fun _ => 0, g⟩ (fun r => ∀ c : Dev Cert.PairL1InIdeal.nD,
          r.2.mem ((c.tc : Thread Cert.PairL1InIdeal.nD Cert.PairL1InIdeal.τ).loc Cert.PairL1InIdeal.main_v0) = v0 c
          ∧ r.2.mem ((c.tc : Thread Cert.PairL1InIdeal.nD Cert.PairL1InIdeal.τ).loc Cert.PairL1InIdeal.main_arg0) = m ((c.tc : Thread Cert.PairL1InIdeal.nD Cert.PairL1InIdeal.τ).loc Cert.PairL1InIdeal.main_arg0)
          ∧ r.2.mem ((c.tc : Thread Cert.PairL1InIdeal.nD Cert.PairL1InIdeal.τ).loc Cert.PairL1InIdeal.main_arg1) = m ((c.tc : Thread Cert.PairL1InIdeal.nD Cert.PairL1InIdeal.τ).loc Cert.PairL1InIdeal.main_arg1)
          ∧ r.2.mem ((c.tc : Thread Cert.PairL1InIdeal.nD Cert.PairL1InIdeal.τ).loc Cert.PairL1InIdeal.main_arg2) = m ((c.tc : Thread Cert.PairL1InIdeal.nD Cert.PairL1InIdeal.τ).loc Cert.PairL1InIdeal.main_arg2))
      ∧ θ_run (Cert.PairL1InRefIdeal.defs (F := Ideal)) (onTc (τ := Cert.PairL1InRefIdeal.τ) (Cert.PairL1InRefIdeal.main (F := Ideal))) ⟨m', fun _ => 0, g'⟩ (fun r => ∀ c : Dev Cert.PairL1InRefIdeal.nD,
          r.2.mem ((c.tc : Thread Cert.PairL1InRefIdeal.nD Cert.PairL1InRefIdeal.τ).loc Cert.PairL1InRefIdeal.main_v9) = v0 c
          ∧ r.2.mem ((c.tc : Thread Cert.PairL1InRefIdeal.nD Cert.PairL1InRefIdeal.τ).loc Cert.PairL1InRefIdeal.main_arg0) = m' ((c.tc : Thread Cert.PairL1InRefIdeal.nD Cert.PairL1InRefIdeal.τ).loc Cert.PairL1InRefIdeal.main_arg0)
          ∧ r.2.mem ((c.tc : Thread Cert.PairL1InRefIdeal.nD Cert.PairL1InRefIdeal.τ).loc Cert.PairL1InRefIdeal.main_arg1) = m' ((c.tc : Thread Cert.PairL1InRefIdeal.nD Cert.PairL1InRefIdeal.τ).loc Cert.PairL1InRefIdeal.main_arg1)
          ∧ r.2.mem ((c.tc : Thread Cert.PairL1InRefIdeal.nD Cert.PairL1InRefIdeal.τ).loc Cert.PairL1InRefIdeal.main_arg2) = m' ((c.tc : Thread Cert.PairL1InRefIdeal.nD Cert.PairL1InRefIdeal.τ).loc Cert.PairL1InRefIdeal.main_arg2))

def preserves_PairUp_PairUpIdeal : Prop :=
  True

def algebraic_PairUpIdeal_PairUpRefIdeal [hPairUpIdeal : Cert.PairUpIdeal.Facts] [hPairUpRefIdeal : Cert.PairUpRefIdeal.Facts] [hPre_a_core_PairUp : Cert.Pre_a_core_PairUp.Facts] : Prop :=
  ∀ (m : (ℓ : Loc Cert.PairUpIdeal.nD Cert.PairUpIdeal.τ Cert.PairUpIdeal.sig) → Buf (Elt Ideal) ℓ) (g : Dev Cert.PairUpIdeal.nD → PrngReg)
    (m' : (ℓ : Loc Cert.PairUpRefIdeal.nD Cert.PairUpRefIdeal.τ Cert.PairUpRefIdeal.sig) → Buf (Elt Ideal) ℓ) (g' : Dev Cert.PairUpRefIdeal.nD → PrngReg), Pre_PairUpIdeal m →
    (∀ c : Dev Cert.PairUpIdeal.nD,
      m' ((c.tc : Thread Cert.PairUpRefIdeal.nD Cert.PairUpRefIdeal.τ).loc Cert.PairUpRefIdeal.main_arg0) = m ((c.tc : Thread Cert.PairUpIdeal.nD Cert.PairUpIdeal.τ).loc Cert.PairUpIdeal.main_arg0)
      ∧ m' ((c.tc : Thread Cert.PairUpRefIdeal.nD Cert.PairUpRefIdeal.τ).loc Cert.PairUpRefIdeal.main_arg1) = m ((c.tc : Thread Cert.PairUpIdeal.nD Cert.PairUpIdeal.τ).loc Cert.PairUpIdeal.main_arg1)
      ∧ m' ((c.tc : Thread Cert.PairUpRefIdeal.nD Cert.PairUpRefIdeal.τ).loc Cert.PairUpRefIdeal.main_arg2) = m ((c.tc : Thread Cert.PairUpIdeal.nD Cert.PairUpIdeal.τ).loc Cert.PairUpIdeal.main_arg2)) →
    ∃ (v0 : (c : Dev Cert.PairUpIdeal.nD) → Buf (Elt Ideal) ((c.tc : Thread Cert.PairUpIdeal.nD Cert.PairUpIdeal.τ).loc Cert.PairUpIdeal.main_v0)),
      θ_run (Cert.PairUpIdeal.defs (F := Ideal)) (onTc (τ := Cert.PairUpIdeal.τ) (Cert.PairUpIdeal.main (F := Ideal))) ⟨m, fun _ => 0, g⟩ (fun r => ∀ c : Dev Cert.PairUpIdeal.nD,
          r.2.mem ((c.tc : Thread Cert.PairUpIdeal.nD Cert.PairUpIdeal.τ).loc Cert.PairUpIdeal.main_v0) = v0 c
          ∧ r.2.mem ((c.tc : Thread Cert.PairUpIdeal.nD Cert.PairUpIdeal.τ).loc Cert.PairUpIdeal.main_arg0) = m ((c.tc : Thread Cert.PairUpIdeal.nD Cert.PairUpIdeal.τ).loc Cert.PairUpIdeal.main_arg0)
          ∧ r.2.mem ((c.tc : Thread Cert.PairUpIdeal.nD Cert.PairUpIdeal.τ).loc Cert.PairUpIdeal.main_arg1) = m ((c.tc : Thread Cert.PairUpIdeal.nD Cert.PairUpIdeal.τ).loc Cert.PairUpIdeal.main_arg1)
          ∧ r.2.mem ((c.tc : Thread Cert.PairUpIdeal.nD Cert.PairUpIdeal.τ).loc Cert.PairUpIdeal.main_arg2) = m ((c.tc : Thread Cert.PairUpIdeal.nD Cert.PairUpIdeal.τ).loc Cert.PairUpIdeal.main_arg2))
      ∧ θ_run (Cert.PairUpRefIdeal.defs (F := Ideal)) (onTc (τ := Cert.PairUpRefIdeal.τ) (Cert.PairUpRefIdeal.main (F := Ideal))) ⟨m', fun _ => 0, g'⟩ (fun r => ∀ c : Dev Cert.PairUpRefIdeal.nD,
          r.2.mem ((c.tc : Thread Cert.PairUpRefIdeal.nD Cert.PairUpRefIdeal.τ).loc Cert.PairUpRefIdeal.main_v9) = v0 c
          ∧ r.2.mem ((c.tc : Thread Cert.PairUpRefIdeal.nD Cert.PairUpRefIdeal.τ).loc Cert.PairUpRefIdeal.main_arg0) = m' ((c.tc : Thread Cert.PairUpRefIdeal.nD Cert.PairUpRefIdeal.τ).loc Cert.PairUpRefIdeal.main_arg0)
          ∧ r.2.mem ((c.tc : Thread Cert.PairUpRefIdeal.nD Cert.PairUpRefIdeal.τ).loc Cert.PairUpRefIdeal.main_arg1) = m' ((c.tc : Thread Cert.PairUpRefIdeal.nD Cert.PairUpRefIdeal.τ).loc Cert.PairUpRefIdeal.main_arg1)
          ∧ r.2.mem ((c.tc : Thread Cert.PairUpRefIdeal.nD Cert.PairUpRefIdeal.τ).loc Cert.PairUpRefIdeal.main_arg2) = m' ((c.tc : Thread Cert.PairUpRefIdeal.nD Cert.PairUpRefIdeal.τ).loc Cert.PairUpRefIdeal.main_arg2))

def preserves_PairDown_PairDownIdeal : Prop :=
  True

def algebraic_PairDownIdeal_PairDownRefIdeal [hPairDownIdeal : Cert.PairDownIdeal.Facts] [hPairDownRefIdeal : Cert.PairDownRefIdeal.Facts] [hPre_a_core_PairDown : Cert.Pre_a_core_PairDown.Facts] : Prop :=
  ∀ (m : (ℓ : Loc Cert.PairDownIdeal.nD Cert.PairDownIdeal.τ Cert.PairDownIdeal.sig) → Buf (Elt Ideal) ℓ) (g : Dev Cert.PairDownIdeal.nD → PrngReg)
    (m' : (ℓ : Loc Cert.PairDownRefIdeal.nD Cert.PairDownRefIdeal.τ Cert.PairDownRefIdeal.sig) → Buf (Elt Ideal) ℓ) (g' : Dev Cert.PairDownRefIdeal.nD → PrngReg), Pre_PairDownIdeal m →
    (∀ c : Dev Cert.PairDownIdeal.nD,
      m' ((c.tc : Thread Cert.PairDownRefIdeal.nD Cert.PairDownRefIdeal.τ).loc Cert.PairDownRefIdeal.main_arg0) = m ((c.tc : Thread Cert.PairDownIdeal.nD Cert.PairDownIdeal.τ).loc Cert.PairDownIdeal.main_arg0)
      ∧ m' ((c.tc : Thread Cert.PairDownRefIdeal.nD Cert.PairDownRefIdeal.τ).loc Cert.PairDownRefIdeal.main_arg1) = m ((c.tc : Thread Cert.PairDownIdeal.nD Cert.PairDownIdeal.τ).loc Cert.PairDownIdeal.main_arg1)
      ∧ m' ((c.tc : Thread Cert.PairDownRefIdeal.nD Cert.PairDownRefIdeal.τ).loc Cert.PairDownRefIdeal.main_arg2) = m ((c.tc : Thread Cert.PairDownIdeal.nD Cert.PairDownIdeal.τ).loc Cert.PairDownIdeal.main_arg2)) →
    ∃ (v0 : (c : Dev Cert.PairDownIdeal.nD) → Buf (Elt Ideal) ((c.tc : Thread Cert.PairDownIdeal.nD Cert.PairDownIdeal.τ).loc Cert.PairDownIdeal.main_v0)),
      θ_run (Cert.PairDownIdeal.defs (F := Ideal)) (onTc (τ := Cert.PairDownIdeal.τ) (Cert.PairDownIdeal.main (F := Ideal))) ⟨m, fun _ => 0, g⟩ (fun r => ∀ c : Dev Cert.PairDownIdeal.nD,
          r.2.mem ((c.tc : Thread Cert.PairDownIdeal.nD Cert.PairDownIdeal.τ).loc Cert.PairDownIdeal.main_v0) = v0 c
          ∧ r.2.mem ((c.tc : Thread Cert.PairDownIdeal.nD Cert.PairDownIdeal.τ).loc Cert.PairDownIdeal.main_arg0) = m ((c.tc : Thread Cert.PairDownIdeal.nD Cert.PairDownIdeal.τ).loc Cert.PairDownIdeal.main_arg0)
          ∧ r.2.mem ((c.tc : Thread Cert.PairDownIdeal.nD Cert.PairDownIdeal.τ).loc Cert.PairDownIdeal.main_arg1) = m ((c.tc : Thread Cert.PairDownIdeal.nD Cert.PairDownIdeal.τ).loc Cert.PairDownIdeal.main_arg1)
          ∧ r.2.mem ((c.tc : Thread Cert.PairDownIdeal.nD Cert.PairDownIdeal.τ).loc Cert.PairDownIdeal.main_arg2) = m ((c.tc : Thread Cert.PairDownIdeal.nD Cert.PairDownIdeal.τ).loc Cert.PairDownIdeal.main_arg2))
      ∧ θ_run (Cert.PairDownRefIdeal.defs (F := Ideal)) (onTc (τ := Cert.PairDownRefIdeal.τ) (Cert.PairDownRefIdeal.main (F := Ideal))) ⟨m', fun _ => 0, g'⟩ (fun r => ∀ c : Dev Cert.PairDownRefIdeal.nD,
          r.2.mem ((c.tc : Thread Cert.PairDownRefIdeal.nD Cert.PairDownRefIdeal.τ).loc Cert.PairDownRefIdeal.main_v9) = v0 c
          ∧ r.2.mem ((c.tc : Thread Cert.PairDownRefIdeal.nD Cert.PairDownRefIdeal.τ).loc Cert.PairDownRefIdeal.main_arg0) = m' ((c.tc : Thread Cert.PairDownRefIdeal.nD Cert.PairDownRefIdeal.τ).loc Cert.PairDownRefIdeal.main_arg0)
          ∧ r.2.mem ((c.tc : Thread Cert.PairDownRefIdeal.nD Cert.PairDownRefIdeal.τ).loc Cert.PairDownRefIdeal.main_arg1) = m' ((c.tc : Thread Cert.PairDownRefIdeal.nD Cert.PairDownRefIdeal.τ).loc Cert.PairDownRefIdeal.main_arg1)
          ∧ r.2.mem ((c.tc : Thread Cert.PairDownRefIdeal.nD Cert.PairDownRefIdeal.τ).loc Cert.PairDownRefIdeal.main_arg2) = m' ((c.tc : Thread Cert.PairDownRefIdeal.nD Cert.PairDownRefIdeal.τ).loc Cert.PairDownRefIdeal.main_arg2))

def preserves_PairOut_PairOutIdeal : Prop :=
  True

def algebraic_PairOutIdeal_PairOutRefIdeal [hPairOutIdeal : Cert.PairOutIdeal.Facts] [hPairOutRefIdeal : Cert.PairOutRefIdeal.Facts] [hPre_a_core_PairOut : Cert.Pre_a_core_PairOut.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)
      ∧ m' ((c.tc : Thread Cert.PairOutRefIdeal.nD Cert.PairOutRefIdeal.τ).loc Cert.PairOutRefIdeal.main_arg2) = m ((c.tc : Thread Cert.PairOutIdeal.nD Cert.PairOutIdeal.τ).loc Cert.PairOutIdeal.main_arg2)) →
    ∃ (v0 : (c : Dev Cert.PairOutIdeal.nD) → Buf (Elt Ideal) ((c.tc : Thread Cert.PairOutIdeal.nD Cert.PairOutIdeal.τ).loc Cert.PairOutIdeal.main_v0)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v0) = v0 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1)
          ∧ r.2.mem ((c.tc : Thread Cert.PairOutIdeal.nD Cert.PairOutIdeal.τ).loc Cert.PairOutIdeal.main_arg2) = m ((c.tc : Thread Cert.PairOutIdeal.nD Cert.PairOutIdeal.τ).loc Cert.PairOutIdeal.main_arg2))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v9) = v0 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1)
          ∧ r.2.mem ((c.tc : Thread Cert.PairOutRefIdeal.nD Cert.PairOutRefIdeal.τ).loc Cert.PairOutRefIdeal.main_arg2) = m' ((c.tc : Thread Cert.PairOutRefIdeal.nD Cert.PairOutRefIdeal.τ).loc Cert.PairOutRefIdeal.main_arg2))

def preserves_PairSmall_PairSmallIdeal : Prop :=
  True

def algebraic_PairSmallIdeal_PairSmallRefIdeal [hPairSmallIdeal : Cert.PairSmallIdeal.Facts] [hPairSmallRefIdeal : Cert.PairSmallRefIdeal.Facts] [hPre_a_core_PairSmall : Cert.Pre_a_core_PairSmall.Facts] : Prop :=
  ∀ (m : (ℓ : Loc Cert.PairSmallIdeal.nD Cert.PairSmallIdeal.τ Cert.PairSmallIdeal.sig) → Buf (Elt Ideal) ℓ) (g : Dev Cert.PairSmallIdeal.nD → PrngReg)
    (m' : (ℓ : Loc Cert.PairSmallRefIdeal.nD Cert.PairSmallRefIdeal.τ Cert.PairSmallRefIdeal.sig) → Buf (Elt Ideal) ℓ) (g' : Dev Cert.PairSmallRefIdeal.nD → PrngReg), Pre_PairSmallIdeal m →
    (∀ c : Dev Cert.PairSmallIdeal.nD,
      m' ((c.tc : Thread Cert.PairSmallRefIdeal.nD Cert.PairSmallRefIdeal.τ).loc Cert.PairSmallRefIdeal.main_arg0) = m ((c.tc : Thread Cert.PairSmallIdeal.nD Cert.PairSmallIdeal.τ).loc Cert.PairSmallIdeal.main_arg0)
      ∧ m' ((c.tc : Thread Cert.PairSmallRefIdeal.nD Cert.PairSmallRefIdeal.τ).loc Cert.PairSmallRefIdeal.main_arg1) = m ((c.tc : Thread Cert.PairSmallIdeal.nD Cert.PairSmallIdeal.τ).loc Cert.PairSmallIdeal.main_arg1)
      ∧ m' ((c.tc : Thread Cert.PairSmallRefIdeal.nD Cert.PairSmallRefIdeal.τ).loc Cert.PairSmallRefIdeal.main_arg2) = m ((c.tc : Thread Cert.PairSmallIdeal.nD Cert.PairSmallIdeal.τ).loc Cert.PairSmallIdeal.main_arg2)) →
    ∃ (v0 : (c : Dev Cert.PairSmallIdeal.nD) → Buf (Elt Ideal) ((c.tc : Thread Cert.PairSmallIdeal.nD Cert.PairSmallIdeal.τ).loc Cert.PairSmallIdeal.main_v0)),
      θ_run (Cert.PairSmallIdeal.defs (F := Ideal)) (onTc (τ := Cert.PairSmallIdeal.τ) (Cert.PairSmallIdeal.main (F := Ideal))) ⟨m, fun _ => 0, g⟩ (fun r => ∀ c : Dev Cert.PairSmallIdeal.nD,
          r.2.mem ((c.tc : Thread Cert.PairSmallIdeal.nD Cert.PairSmallIdeal.τ).loc Cert.PairSmallIdeal.main_v0) = v0 c
          ∧ r.2.mem ((c.tc : Thread Cert.PairSmallIdeal.nD Cert.PairSmallIdeal.τ).loc Cert.PairSmallIdeal.main_arg0) = m ((c.tc : Thread Cert.PairSmallIdeal.nD Cert.PairSmallIdeal.τ).loc Cert.PairSmallIdeal.main_arg0)
          ∧ r.2.mem ((c.tc : Thread Cert.PairSmallIdeal.nD Cert.PairSmallIdeal.τ).loc Cert.PairSmallIdeal.main_arg1) = m ((c.tc : Thread Cert.PairSmallIdeal.nD Cert.PairSmallIdeal.τ).loc Cert.PairSmallIdeal.main_arg1)
          ∧ r.2.mem ((c.tc : Thread Cert.PairSmallIdeal.nD Cert.PairSmallIdeal.τ).loc Cert.PairSmallIdeal.main_arg2) = m ((c.tc : Thread Cert.PairSmallIdeal.nD Cert.PairSmallIdeal.τ).loc Cert.PairSmallIdeal.main_arg2))
      ∧ θ_run (Cert.PairSmallRefIdeal.defs (F := Ideal)) (onTc (τ := Cert.PairSmallRefIdeal.τ) (Cert.PairSmallRefIdeal.main (F := Ideal))) ⟨m', fun _ => 0, g'⟩ (fun r => ∀ c : Dev Cert.PairSmallRefIdeal.nD,
          r.2.mem ((c.tc : Thread Cert.PairSmallRefIdeal.nD Cert.PairSmallRefIdeal.τ).loc Cert.PairSmallRefIdeal.main_v8) = v0 c
          ∧ r.2.mem ((c.tc : Thread Cert.PairSmallRefIdeal.nD Cert.PairSmallRefIdeal.τ).loc Cert.PairSmallRefIdeal.main_arg0) = m' ((c.tc : Thread Cert.PairSmallRefIdeal.nD Cert.PairSmallRefIdeal.τ).loc Cert.PairSmallRefIdeal.main_arg0)
          ∧ r.2.mem ((c.tc : Thread Cert.PairSmallRefIdeal.nD Cert.PairSmallRefIdeal.τ).loc Cert.PairSmallRefIdeal.main_arg1) = m' ((c.tc : Thread Cert.PairSmallRefIdeal.nD Cert.PairSmallRefIdeal.τ).loc Cert.PairSmallRefIdeal.main_arg1)
          ∧ r.2.mem ((c.tc : Thread Cert.PairSmallRefIdeal.nD Cert.PairSmallRefIdeal.τ).loc Cert.PairSmallRefIdeal.main_arg2) = m' ((c.tc : Thread Cert.PairSmallRefIdeal.nD Cert.PairSmallRefIdeal.τ).loc Cert.PairSmallRefIdeal.main_arg2))

def preserves_LossSum_LossSumIdeal : Prop :=
  True

def algebraic_LossSumIdeal_LossSumRefIdeal [hLossSumIdeal : Cert.LossSumIdeal.Facts] [hLossSumRefIdeal : Cert.LossSumRefIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumRefIdeal.nD Cert.LossSumRefIdeal.τ Cert.LossSumRefIdeal.sig) → Buf (Elt Ideal) ℓ) (g' : Dev Cert.LossSumRefIdeal.nD → PrngReg), Pre_LossSumIdeal m →
    (∀ c : Dev Cert.LossSumIdeal.nD,
      m ((c.tc : Thread Cert.LossSumIdeal.nD Cert.LossSumIdeal.τ).loc Cert.LossSumIdeal.main_arg0) = Layout.block ⟨2, ![8, 128]⟩ ⟨2, ![64, 128]⟩ 0 8 c (m' (((0 : Dev Cert.LossSumRefIdeal.nD).tc : Thread Cert.LossSumRefIdeal.nD Cert.LossSumRefIdeal.τ).loc Cert.LossSumRefIdeal.main_arg0))) →
    ∃ (v0 : Buf (Elt Ideal) (((0 : Dev Cert.LossSumRefIdeal.nD).tc : Thread Cert.LossSumRefIdeal.nD Cert.LossSumRefIdeal.τ).loc Cert.LossSumRefIdeal.main_v3)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v3) = v0
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.LossSumRefIdeal.defs (F := Ideal)) (onTc (τ := Cert.LossSumRefIdeal.τ) (Cert.LossSumRefIdeal.main (F := Ideal))) ⟨m', fun _ => 0, g'⟩ (fun r =>
          r.2.mem (((0 : Dev Cert.LossSumRefIdeal.nD).tc : Thread Cert.LossSumRefIdeal.nD Cert.LossSumRefIdeal.τ).loc Cert.LossSumRefIdeal.main_v3) = v0
          ∧ r.2.mem (((0 : Dev Cert.LossSumRefIdeal.nD).tc : Thread Cert.LossSumRefIdeal.nD Cert.LossSumRefIdeal.τ).loc Cert.LossSumRefIdeal.main_arg0) = m' (((0 : Dev Cert.LossSumRefIdeal.nD).tc : Thread Cert.LossSumRefIdeal.nD Cert.LossSumRefIdeal.τ).loc Cert.LossSumRefIdeal.main_arg0))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hHalfDx : Cert.HalfDx.Facts) (hHalfDxIdeal : Cert.HalfDxIdeal.Facts) (hHalfDxRefIdeal : Cert.HalfDxRefIdeal.Facts) (hUpDw : Cert.UpDw.Facts) (hUpDwIdeal : Cert.UpDwIdeal.Facts) (hUpDwRefIdeal : Cert.UpDwRefIdeal.Facts) (hGateDw : Cert.GateDw.Facts) (hGateDwIdeal : Cert.GateDwIdeal.Facts) (hGateDwRefIdeal : Cert.GateDwRefIdeal.Facts) (hL0Proj : Cert.L0Proj.Facts) (hL0ProjIdeal : Cert.L0ProjIdeal.Facts) (hL0ProjRefIdeal : Cert.L0ProjRefIdeal.Facts) (hL0ProjDx : Cert.L0ProjDx.Facts) (hL0ProjDxIdeal : Cert.L0ProjDxIdeal.Facts) (hL0ProjDxRefIdeal : Cert.L0ProjDxRefIdeal.Facts) (hL0ProjDw : Cert.L0ProjDw.Facts) (hL0ProjDwIdeal : Cert.L0ProjDwIdeal.Facts) (hL0ProjDwRefIdeal : Cert.L0ProjDwRefIdeal.Facts) (hL1Proj : Cert.L1Proj.Facts) (hL1ProjIdeal : Cert.L1ProjIdeal.Facts) (hL1ProjRefIdeal : Cert.L1ProjRefIdeal.Facts) (hL1ProjDx : Cert.L1ProjDx.Facts) (hL1ProjDxIdeal : Cert.L1ProjDxIdeal.Facts) (hL1ProjDxRefIdeal : Cert.L1ProjDxRefIdeal.Facts) (hL1ProjDw : Cert.L1ProjDw.Facts) (hL1ProjDwIdeal : Cert.L1ProjDwIdeal.Facts) (hL1ProjDwRefIdeal : Cert.L1ProjDwRefIdeal.Facts) (hOutA : Cert.OutA.Facts) (hOutAIdeal : Cert.OutAIdeal.Facts) (hOutARefIdeal : Cert.OutARefIdeal.Facts) (hOutB : Cert.OutB.Facts) (hOutBIdeal : Cert.OutBIdeal.Facts) (hOutBRefIdeal : Cert.OutBRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hAdamL0In : Cert.AdamL0In.Facts) (hAdamL0InIdeal : Cert.AdamL0InIdeal.Facts) (hAdamL0InRefIdeal : Cert.AdamL0InRefIdeal.Facts) (hAdamL1In : Cert.AdamL1In.Facts) (hAdamL1InIdeal : Cert.AdamL1InIdeal.Facts) (hAdamL1InRefIdeal : Cert.AdamL1InRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hLoss : Cert.Loss.Facts) (hLossIdeal : Cert.LossIdeal.Facts) (hLossRefIdeal : Cert.LossRefIdeal.Facts) (hChipL0In : Cert.ChipL0In.Facts) (hChipL0InIdeal : Cert.ChipL0InIdeal.Facts) (hChipL0InRefIdeal : Cert.ChipL0InRefIdeal.Facts) (hChipL1In : Cert.ChipL1In.Facts) (hChipL1InIdeal : Cert.ChipL1InIdeal.Facts) (hChipL1InRefIdeal : Cert.ChipL1InRefIdeal.Facts) (hChipUp : Cert.ChipUp.Facts) (hChipUpIdeal : Cert.ChipUpIdeal.Facts) (hChipUpRefIdeal : Cert.ChipUpRefIdeal.Facts) (hChipDown : Cert.ChipDown.Facts) (hChipDownIdeal : Cert.ChipDownIdeal.Facts) (hChipDownRefIdeal : Cert.ChipDownRefIdeal.Facts) (hChipOut : Cert.ChipOut.Facts) (hChipOutIdeal : Cert.ChipOutIdeal.Facts) (hChipOutRefIdeal : Cert.ChipOutRefIdeal.Facts) (hChipSmall : Cert.ChipSmall.Facts) (hChipSmallIdeal : Cert.ChipSmallIdeal.Facts) (hChipSmallRefIdeal : Cert.ChipSmallRefIdeal.Facts) (hPairL0In : Cert.PairL0In.Facts) (hPairL0InIdeal : Cert.PairL0InIdeal.Facts) (hPairL0InRefIdeal : Cert.PairL0InRefIdeal.Facts) (hPairL1In : Cert.PairL1In.Facts) (hPairL1InIdeal : Cert.PairL1InIdeal.Facts) (hPairL1InRefIdeal : Cert.PairL1InRefIdeal.Facts) (hPairUp : Cert.PairUp.Facts) (hPairUpIdeal : Cert.PairUpIdeal.Facts) (hPairUpRefIdeal : Cert.PairUpRefIdeal.Facts) (hPairDown : Cert.PairDown.Facts) (hPairDownIdeal : Cert.PairDownIdeal.Facts) (hPairDownRefIdeal : Cert.PairDownRefIdeal.Facts) (hPairOut : Cert.PairOut.Facts) (hPairOutIdeal : Cert.PairOutIdeal.Facts) (hPairOutRefIdeal : Cert.PairOutRefIdeal.Facts) (hPairSmall : Cert.PairSmall.Facts) (hPairSmallIdeal : Cert.PairSmallIdeal.Facts) (hPairSmallRefIdeal : Cert.PairSmallRefIdeal.Facts) (hLossSum : Cert.LossSum.Facts) (hLossSumIdeal : Cert.LossSumIdeal.Facts) (hLossSumRefIdeal : Cert.LossSumRefIdeal.Facts) (hPre_finite : Cert.Pre_finite.Facts) (hPre_a_core_ChipL0In : Cert.Pre_a_core_ChipL0In.Facts) (hPre_a_core_ChipL1In : Cert.Pre_a_core_ChipL1In.Facts) (hPre_a_core_ChipUp : Cert.Pre_a_core_ChipUp.Facts) (hPre_a_core_ChipDown : Cert.Pre_a_core_ChipDown.Facts) (hPre_a_core_ChipOut : Cert.Pre_a_core_ChipOut.Facts) (hPre_a_core_ChipSmall : Cert.Pre_a_core_ChipSmall.Facts) (hPre_a_core_PairL0In : Cert.Pre_a_core_PairL0In.Facts) (hPre_a_core_PairL1In : Cert.Pre_a_core_PairL1In.Facts) (hPre_a_core_PairUp : Cert.Pre_a_core_PairUp.Facts) (hPre_a_core_PairDown : Cert.Pre_a_core_PairDown.Facts) (hPre_a_core_PairOut : Cert.Pre_a_core_PairOut.Facts) (hPre_a_core_PairSmall : Cert.Pre_a_core_PairSmall.Facts) (hOn_first_two : Cert.On_first_two.Facts) (hOn_own_half_ChipL0InIdeal : Cert.On_own_half_ChipL0InIdeal.Facts) (hOn_own_half_ChipL1InIdeal : Cert.On_own_half_ChipL1InIdeal.Facts) (hOn_own_half_ChipUpIdeal : Cert.On_own_half_ChipUpIdeal.Facts) (hOn_own_half_ChipDownIdeal : Cert.On_own_half_ChipDownIdeal.Facts) (hOn_own_half_ChipOutIdeal : Cert.On_own_half_ChipOutIdeal.Facts) (hOn_own_half_ChipSmallIdeal : Cert.On_own_half_ChipSmallIdeal.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_HalfDx (hHalfDx := hHalfDx)
    ∧ quiescent_HalfDxIdeal (hHalfDxIdeal := hHalfDxIdeal)
    ∧ quiescent_HalfDxRefIdeal (hHalfDxRefIdeal := hHalfDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_L0Proj (hL0Proj := hL0Proj)
    ∧ quiescent_L0ProjIdeal (hL0ProjIdeal := hL0ProjIdeal)
    ∧ quiescent_L0ProjRefIdeal (hL0ProjRefIdeal := hL0ProjRefIdeal)
    ∧ quiescent_L0ProjDx (hL0ProjDx := hL0ProjDx)
    ∧ quiescent_L0ProjDxIdeal (hL0ProjDxIdeal := hL0ProjDxIdeal)
    ∧ quiescent_L0ProjDxRefIdeal (hL0ProjDxRefIdeal := hL0ProjDxRefIdeal)
    ∧ quiescent_L0ProjDw (hL0ProjDw := hL0ProjDw)
    ∧ quiescent_L0ProjDwIdeal (hL0ProjDwIdeal := hL0ProjDwIdeal)
    ∧ quiescent_L0ProjDwRefIdeal (hL0ProjDwRefIdeal := hL0ProjDwRefIdeal)
    ∧ quiescent_L1Proj (hL1Proj := hL1Proj)
    ∧ quiescent_L1ProjIdeal (hL1ProjIdeal := hL1ProjIdeal)
    ∧ quiescent_L1ProjRefIdeal (hL1ProjRefIdeal := hL1ProjRefIdeal)
    ∧ quiescent_L1ProjDx (hL1ProjDx := hL1ProjDx)
    ∧ quiescent_L1ProjDxIdeal (hL1ProjDxIdeal := hL1ProjDxIdeal)
    ∧ quiescent_L1ProjDxRefIdeal (hL1ProjDxRefIdeal := hL1ProjDxRefIdeal)
    ∧ quiescent_L1ProjDw (hL1ProjDw := hL1ProjDw)
    ∧ quiescent_L1ProjDwIdeal (hL1ProjDwIdeal := hL1ProjDwIdeal)
    ∧ quiescent_L1ProjDwRefIdeal (hL1ProjDwRefIdeal := hL1ProjDwRefIdeal)
    ∧ quiescent_OutA (hOutA := hOutA)
    ∧ quiescent_OutAIdeal (hOutAIdeal := hOutAIdeal)
    ∧ quiescent_OutARefIdeal (hOutARefIdeal := hOutARefIdeal)
    ∧ quiescent_OutB (hOutB := hOutB)
    ∧ quiescent_OutBIdeal (hOutBIdeal := hOutBIdeal)
    ∧ quiescent_OutBRefIdeal (hOutBRefIdeal := hOutBRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_AdamL0In (hAdamL0In := hAdamL0In)
    ∧ quiescent_AdamL0InIdeal (hAdamL0InIdeal := hAdamL0InIdeal)
    ∧ quiescent_AdamL0InRefIdeal (hAdamL0InRefIdeal := hAdamL0InRefIdeal)
    ∧ quiescent_AdamL1In (hAdamL1In := hAdamL1In)
    ∧ quiescent_AdamL1InIdeal (hAdamL1InIdeal := hAdamL1InIdeal)
    ∧ quiescent_AdamL1InRefIdeal (hAdamL1InRefIdeal := hAdamL1InRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Loss (hLoss := hLoss)
    ∧ quiescent_LossIdeal (hLossIdeal := hLossIdeal)
    ∧ quiescent_LossRefIdeal (hLossRefIdeal := hLossRefIdeal)
    ∧ quiescent_ChipL0In (hChipL0In := hChipL0In) (hPre_a_core_ChipL0In := hPre_a_core_ChipL0In)
    ∧ quiescent_ChipL0InIdeal (hChipL0InIdeal := hChipL0InIdeal) (hPre_a_core_ChipL0In := hPre_a_core_ChipL0In)
    ∧ quiescent_ChipL0InRefIdeal (hChipL0InRefIdeal := hChipL0InRefIdeal)
    ∧ quiescent_ChipL0InRefIdeal_pre_a_core_ChipL0In (hChipL0InRefIdeal := hChipL0InRefIdeal) (hPre_a_core_ChipL0In := hPre_a_core_ChipL0In)
    ∧ quiescent_ChipL1In (hChipL1In := hChipL1In) (hPre_a_core_ChipL1In := hPre_a_core_ChipL1In)
    ∧ quiescent_ChipL1InIdeal (hChipL1InIdeal := hChipL1InIdeal) (hPre_a_core_ChipL1In := hPre_a_core_ChipL1In)
    ∧ quiescent_ChipL1InRefIdeal (hChipL1InRefIdeal := hChipL1InRefIdeal)
    ∧ quiescent_ChipL1InRefIdeal_pre_a_core_ChipL1In (hChipL1InRefIdeal := hChipL1InRefIdeal) (hPre_a_core_ChipL1In := hPre_a_core_ChipL1In)
    ∧ quiescent_ChipUp (hChipUp := hChipUp) (hPre_a_core_ChipUp := hPre_a_core_ChipUp)
    ∧ quiescent_ChipUpIdeal (hChipUpIdeal := hChipUpIdeal) (hPre_a_core_ChipUp := hPre_a_core_ChipUp)
    ∧ quiescent_ChipUpRefIdeal (hChipUpRefIdeal := hChipUpRefIdeal)
    ∧ quiescent_ChipUpRefIdeal_pre_a_core_ChipUp (hChipUpRefIdeal := hChipUpRefIdeal) (hPre_a_core_ChipUp := hPre_a_core_ChipUp)
    ∧ quiescent_ChipDown (hChipDown := hChipDown) (hPre_a_core_ChipDown := hPre_a_core_ChipDown)
    ∧ quiescent_ChipDownIdeal (hChipDownIdeal := hChipDownIdeal) (hPre_a_core_ChipDown := hPre_a_core_ChipDown)
    ∧ quiescent_ChipDownRefIdeal (hChipDownRefIdeal := hChipDownRefIdeal)
    ∧ quiescent_ChipDownRefIdeal_pre_a_core_ChipDown (hChipDownRefIdeal := hChipDownRefIdeal) (hPre_a_core_ChipDown := hPre_a_core_ChipDown)
    ∧ quiescent_ChipOut (hChipOut := hChipOut) (hPre_a_core_ChipOut := hPre_a_core_ChipOut)
    ∧ quiescent_ChipOutIdeal (hChipOutIdeal := hChipOutIdeal) (hPre_a_core_ChipOut := hPre_a_core_ChipOut)
    ∧ quiescent_ChipOutRefIdeal (hChipOutRefIdeal := hChipOutRefIdeal)
    ∧ quiescent_ChipOutRefIdeal_pre_a_core_ChipOut (hChipOutRefIdeal := hChipOutRefIdeal) (hPre_a_core_ChipOut := hPre_a_core_ChipOut)
    ∧ quiescent_ChipSmall (hChipSmall := hChipSmall) (hPre_a_core_ChipSmall := hPre_a_core_ChipSmall)
    ∧ quiescent_ChipSmallIdeal (hChipSmallIdeal := hChipSmallIdeal) (hPre_a_core_ChipSmall := hPre_a_core_ChipSmall)
    ∧ quiescent_ChipSmallRefIdeal (hChipSmallRefIdeal := hChipSmallRefIdeal)
    ∧ quiescent_ChipSmallRefIdeal_pre_a_core_ChipSmall (hChipSmallRefIdeal := hChipSmallRefIdeal) (hPre_a_core_ChipSmall := hPre_a_core_ChipSmall)
    ∧ quiescent_PairL0In (hPairL0In := hPairL0In) (hPre_a_core_PairL0In := hPre_a_core_PairL0In)
    ∧ quiescent_PairL0InIdeal (hPairL0InIdeal := hPairL0InIdeal) (hPre_a_core_PairL0In := hPre_a_core_PairL0In)
    ∧ quiescent_PairL0InRefIdeal (hPairL0InRefIdeal := hPairL0InRefIdeal)
    ∧ quiescent_PairL0InRefIdeal_pre_a_core_PairL0In (hPairL0InRefIdeal := hPairL0InRefIdeal) (hPre_a_core_PairL0In := hPre_a_core_PairL0In)
    ∧ quiescent_PairL1In (hPairL1In := hPairL1In) (hPre_a_core_PairL1In := hPre_a_core_PairL1In)
    ∧ quiescent_PairL1InIdeal (hPairL1InIdeal := hPairL1InIdeal) (hPre_a_core_PairL1In := hPre_a_core_PairL1In)
    ∧ quiescent_PairL1InRefIdeal (hPairL1InRefIdeal := hPairL1InRefIdeal)
    ∧ quiescent_PairL1InRefIdeal_pre_a_core_PairL1In (hPairL1InRefIdeal := hPairL1InRefIdeal) (hPre_a_core_PairL1In := hPre_a_core_PairL1In)
    ∧ quiescent_PairUp (hPairUp := hPairUp) (hPre_a_core_PairUp := hPre_a_core_PairUp)
    ∧ quiescent_PairUpIdeal (hPairUpIdeal := hPairUpIdeal) (hPre_a_core_PairUp := hPre_a_core_PairUp)
    ∧ quiescent_PairUpRefIdeal (hPairUpRefIdeal := hPairUpRefIdeal)
    ∧ quiescent_PairUpRefIdeal_pre_a_core_PairUp (hPairUpRefIdeal := hPairUpRefIdeal) (hPre_a_core_PairUp := hPre_a_core_PairUp)
    ∧ quiescent_PairDown (hPairDown := hPairDown) (hPre_a_core_PairDown := hPre_a_core_PairDown)
    ∧ quiescent_PairDownIdeal (hPairDownIdeal := hPairDownIdeal) (hPre_a_core_PairDown := hPre_a_core_PairDown)
    ∧ quiescent_PairDownRefIdeal (hPairDownRefIdeal := hPairDownRefIdeal)
    ∧ quiescent_PairDownRefIdeal_pre_a_core_PairDown (hPairDownRefIdeal := hPairDownRefIdeal) (hPre_a_core_PairDown := hPre_a_core_PairDown)
    ∧ quiescent_PairOut (hPairOut := hPairOut) (hPre_a_core_PairOut := hPre_a_core_PairOut)
    ∧ quiescent_PairOutIdeal (hPairOutIdeal := hPairOutIdeal) (hPre_a_core_PairOut := hPre_a_core_PairOut)
    ∧ quiescent_PairOutRefIdeal (hPairOutRefIdeal := hPairOutRefIdeal)
    ∧ quiescent_PairOutRefIdeal_pre_a_core_PairOut (hPairOutRefIdeal := hPairOutRefIdeal) (hPre_a_core_PairOut := hPre_a_core_PairOut)
    ∧ quiescent_PairSmall (hPairSmall := hPairSmall) (hPre_a_core_PairSmall := hPre_a_core_PairSmall)
    ∧ quiescent_PairSmallIdeal (hPairSmallIdeal := hPairSmallIdeal) (hPre_a_core_PairSmall := hPre_a_core_PairSmall)
    ∧ quiescent_PairSmallRefIdeal (hPairSmallRefIdeal := hPairSmallRefIdeal)
    ∧ quiescent_PairSmallRefIdeal_pre_a_core_PairSmall (hPairSmallRefIdeal := hPairSmallRefIdeal) (hPre_a_core_PairSmall := hPre_a_core_PairSmall)
    ∧ quiescent_LossSum (hLossSum := hLossSum)
    ∧ quiescent_LossSumIdeal (hLossSumIdeal := hLossSumIdeal)
    ∧ quiescent_LossSumRefIdeal (hLossSumRefIdeal := hLossSumRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_HalfDx_HalfDxIdeal
    ∧ algebraic_HalfDxIdeal_HalfDxRefIdeal (hHalfDxIdeal := hHalfDxIdeal) (hHalfDxRefIdeal := hHalfDxRefIdeal)
    ∧ preserves_UpDw_UpDwIdeal
    ∧ algebraic_UpDwIdeal_UpDwRefIdeal (hUpDwIdeal := hUpDwIdeal) (hUpDwRefIdeal := hUpDwRefIdeal)
    ∧ preserves_GateDw_GateDwIdeal
    ∧ algebraic_GateDwIdeal_GateDwRefIdeal_on_first_two (hGateDwIdeal := hGateDwIdeal) (hGateDwRefIdeal := hGateDwRefIdeal) (hOn_first_two := hOn_first_two)
    ∧ preserves_L0Proj_L0ProjIdeal
    ∧ algebraic_L0ProjIdeal_L0ProjRefIdeal (hL0ProjIdeal := hL0ProjIdeal) (hL0ProjRefIdeal := hL0ProjRefIdeal)
    ∧ preserves_L0ProjDx_L0ProjDxIdeal
    ∧ algebraic_L0ProjDxIdeal_L0ProjDxRefIdeal (hL0ProjDxIdeal := hL0ProjDxIdeal) (hL0ProjDxRefIdeal := hL0ProjDxRefIdeal)
    ∧ preserves_L0ProjDw_L0ProjDwIdeal
    ∧ algebraic_L0ProjDwIdeal_L0ProjDwRefIdeal (hL0ProjDwIdeal := hL0ProjDwIdeal) (hL0ProjDwRefIdeal := hL0ProjDwRefIdeal)
    ∧ preserves_L1Proj_L1ProjIdeal
    ∧ algebraic_L1ProjIdeal_L1ProjRefIdeal (hL1ProjIdeal := hL1ProjIdeal) (hL1ProjRefIdeal := hL1ProjRefIdeal)
    ∧ preserves_L1ProjDx_L1ProjDxIdeal
    ∧ algebraic_L1ProjDxIdeal_L1ProjDxRefIdeal (hL1ProjDxIdeal := hL1ProjDxIdeal) (hL1ProjDxRefIdeal := hL1ProjDxRefIdeal)
    ∧ preserves_L1ProjDw_L1ProjDwIdeal
    ∧ algebraic_L1ProjDwIdeal_L1ProjDwRefIdeal (hL1ProjDwIdeal := hL1ProjDwIdeal) (hL1ProjDwRefIdeal := hL1ProjDwRefIdeal)
    ∧ preserves_OutA_OutAIdeal
    ∧ algebraic_OutAIdeal_OutARefIdeal (hOutAIdeal := hOutAIdeal) (hOutARefIdeal := hOutARefIdeal)
    ∧ preserves_OutB_OutBIdeal
    ∧ algebraic_OutBIdeal_OutBRefIdeal (hOutBIdeal := hOutBIdeal) (hOutBRefIdeal := hOutBRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_AdamL0In_AdamL0InIdeal
    ∧ algebraic_AdamL0InIdeal_AdamL0InRefIdeal (hAdamL0InIdeal := hAdamL0InIdeal) (hAdamL0InRefIdeal := hAdamL0InRefIdeal)
    ∧ preserves_AdamL1In_AdamL1InIdeal
    ∧ algebraic_AdamL1InIdeal_AdamL1InRefIdeal (hAdamL1InIdeal := hAdamL1InIdeal) (hAdamL1InRefIdeal := hAdamL1InRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Loss_LossIdeal
    ∧ algebraic_LossIdeal_LossRefIdeal (hLossIdeal := hLossIdeal) (hLossRefIdeal := hLossRefIdeal)
    ∧ preserves_ChipL0In_ChipL0InIdeal
    ∧ algebraic_ChipL0InIdeal_ChipL0InRefIdeal_on_own_half_ChipL0InIdeal (hChipL0InIdeal := hChipL0InIdeal) (hChipL0InRefIdeal := hChipL0InRefIdeal) (hPre_a_core_ChipL0In := hPre_a_core_ChipL0In) (hOn_own_half_ChipL0InIdeal := hOn_own_half_ChipL0InIdeal)
    ∧ preserves_ChipL1In_ChipL1InIdeal
    ∧ algebraic_ChipL1InIdeal_ChipL1InRefIdeal_on_own_half_ChipL1InIdeal (hChipL1InIdeal := hChipL1InIdeal) (hChipL1InRefIdeal := hChipL1InRefIdeal) (hPre_a_core_ChipL1In := hPre_a_core_ChipL1In) (hOn_own_half_ChipL1InIdeal := hOn_own_half_ChipL1InIdeal)
    ∧ preserves_ChipUp_ChipUpIdeal
    ∧ algebraic_ChipUpIdeal_ChipUpRefIdeal_on_own_half_ChipUpIdeal (hChipUpIdeal := hChipUpIdeal) (hChipUpRefIdeal := hChipUpRefIdeal) (hPre_a_core_ChipUp := hPre_a_core_ChipUp) (hOn_own_half_ChipUpIdeal := hOn_own_half_ChipUpIdeal)
    ∧ preserves_ChipDown_ChipDownIdeal
    ∧ algebraic_ChipDownIdeal_ChipDownRefIdeal_on_own_half_ChipDownIdeal (hChipDownIdeal := hChipDownIdeal) (hChipDownRefIdeal := hChipDownRefIdeal) (hPre_a_core_ChipDown := hPre_a_core_ChipDown) (hOn_own_half_ChipDownIdeal := hOn_own_half_ChipDownIdeal)
    ∧ preserves_ChipOut_ChipOutIdeal
    ∧ algebraic_ChipOutIdeal_ChipOutRefIdeal_on_own_half_ChipOutIdeal (hChipOutIdeal := hChipOutIdeal) (hChipOutRefIdeal := hChipOutRefIdeal) (hPre_a_core_ChipOut := hPre_a_core_ChipOut) (hOn_own_half_ChipOutIdeal := hOn_own_half_ChipOutIdeal)
    ∧ preserves_ChipSmall_ChipSmallIdeal
    ∧ algebraic_ChipSmallIdeal_ChipSmallRefIdeal_on_own_half_ChipSmallIdeal (hChipSmallIdeal := hChipSmallIdeal) (hChipSmallRefIdeal := hChipSmallRefIdeal) (hPre_a_core_ChipSmall := hPre_a_core_ChipSmall) (hOn_own_half_ChipSmallIdeal := hOn_own_half_ChipSmallIdeal)
    ∧ preserves_PairL0In_PairL0InIdeal
    ∧ algebraic_PairL0InIdeal_PairL0InRefIdeal (hPairL0InIdeal := hPairL0InIdeal) (hPairL0InRefIdeal := hPairL0InRefIdeal) (hPre_a_core_PairL0In := hPre_a_core_PairL0In)
    ∧ preserves_PairL1In_PairL1InIdeal
    ∧ algebraic_PairL1InIdeal_PairL1InRefIdeal (hPairL1InIdeal := hPairL1InIdeal) (hPairL1InRefIdeal := hPairL1InRefIdeal) (hPre_a_core_PairL1In := hPre_a_core_PairL1In)
    ∧ preserves_PairUp_PairUpIdeal
    ∧ algebraic_PairUpIdeal_PairUpRefIdeal (hPairUpIdeal := hPairUpIdeal) (hPairUpRefIdeal := hPairUpRefIdeal) (hPre_a_core_PairUp := hPre_a_core_PairUp)
    ∧ preserves_PairDown_PairDownIdeal
    ∧ algebraic_PairDownIdeal_PairDownRefIdeal (hPairDownIdeal := hPairDownIdeal) (hPairDownRefIdeal := hPairDownRefIdeal) (hPre_a_core_PairDown := hPre_a_core_PairDown)
    ∧ preserves_PairOut_PairOutIdeal
    ∧ algebraic_PairOutIdeal_PairOutRefIdeal (hPairOutIdeal := hPairOutIdeal) (hPairOutRefIdeal := hPairOutRefIdeal) (hPre_a_core_PairOut := hPre_a_core_PairOut)
    ∧ preserves_PairSmall_PairSmallIdeal
    ∧ algebraic_PairSmallIdeal_PairSmallRefIdeal (hPairSmallIdeal := hPairSmallIdeal) (hPairSmallRefIdeal := hPairSmallRefIdeal) (hPre_a_core_PairSmall := hPre_a_core_PairSmall)
    ∧ preserves_LossSum_LossSumIdeal
    ∧ algebraic_LossSumIdeal_LossSumRefIdeal (hLossSumIdeal := hLossSumIdeal) (hLossSumRefIdeal := hLossSumRefIdeal)
-- ==== On_first_two.lean ====
abbrev S4096x1024 : Shape := ⟨2, ![4096, 1024]⟩
abbrev S4096x2816 : Shape := ⟨2, ![4096, 2816]⟩
abbrev S4 : Shape := ⟨1, ![4]⟩
abbrev S4x1x1 : Shape := ⟨3, ![4, 1, 1]⟩
abbrev S_ : Shape := ⟨0, ![]⟩
abbrev S4x1024x1408 : Shape := ⟨3, ![4, 1024, 1408]⟩

class Facts : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x1024x1408_0_1_2 : S4x1x1.BroadcastsInDim S4x1024x1408 (![0, 1, 2] : Fin 3 → Fin S4x1024x1408.rank)

variable [Facts]

def fn {F : FTy → Type} [FloatOps F] (main_arg0 : FVec F S4096x1024 .f32) (main_arg1 : FVec F S4096x2816 .f32) : IVec S4x1024x1408 1 :=
  let main_v0 : IVec S4 32 := iotaInDim S4 32 0
  let main_v1 : IVec S4x1x1 32 := broadcastInDim S4x1x1 ![0] bcast_S4_S4x1x1_0 main_v0
  let main_c : IVec S_ 32 := constantI S_ 32 2#32
  let main_v2 : IVec S4x1x1 32 := broadcastInDim S4x1x1 ![] bcast_S_S4x1x1 main_c
  let main_v3 : IVec S4x1x1 1 := cmpi .slt main_v1 main_v2
  let main_v4 : IVec S4x1024x1408 1 := broadcastInDim S4x1024x1408 ![0, 1, 2] bcast_S4x1x1_S4x1024x1408_0_1_2 main_v3
  main_v4
-- ==== On_own_half_ChipDownIdeal.lean ====
abbrev S4x352x1024 : Shape := ⟨3, ![4, 352, 1024]⟩
abbrev S1 : Shape := ⟨1, ![1]⟩
abbrev S2 : Shape := ⟨1, ![2]⟩
abbrev S2x1x1 : Shape := ⟨3, ![2, 1, 1]⟩
abbrev S_ : Shape := ⟨0, ![]⟩
abbrev S2x352x1024 : Shape := ⟨3, ![2, 352, 1024]⟩

class Facts : Prop where
  bcast_S2_S2x1x1_0 : S2.BroadcastsInDim S2x1x1 (![0] : Fin 1 → Fin S2x1x1.rank)
  shapeCasts_S1_S_ : S1.ShapeCasts S_
  bcast_S_S2x1x1 : S_.BroadcastsInDim S2x1x1 (![] : Fin 0 → Fin S2x1x1.rank)
  bcast_S2x1x1_S2x352x1024_0_1_2 : S2x1x1.BroadcastsInDim S2x352x1024 (![0, 1, 2] : Fin 3 → Fin S2x352x1024.rank)

variable [Facts]

def fn {F : FTy → Type} [FloatOps F] (main_arg0 : FVec F S4x352x1024 .bf16) (main_arg1 : IVec S1 32) : IVec S2x352x1024 1 :=
  let main_v0 : IVec S2 32 := iotaInDim S2 32 0
  let main_v1 : IVec S2x1x1 32 := broadcastInDim S2x1x1 ![0] bcast_S2_S2x1x1_0 main_v0
  let main_v2 : IVec S_ 32 := shapeCast S_ main_arg1 shapeCasts_S1_S_
  let main_v3 : IVec S2x1x1 32 := broadcastInDim S2x1x1 ![] bcast_S_S2x1x1 main_v2
  let main_v4 : IVec S2x1x1 1 := cmpi .eq main_v1 main_v3
  let main_v5 : IVec S2x352x1024 1 := broadcastInDim S2x352x1024 ![0, 1, 2] bcast_S2x1x1_S2x352x1024_0_1_2 main_v4
  main_v5
-- ==== On_own_half_ChipL0InIdeal.lean ====
abbrev S4x512x834 : Shape := ⟨3, ![4, 512, 834]⟩
abbrev S1 : Shape := ⟨1, ![1]⟩
abbrev S2 : Shape := ⟨1, ![2]⟩
abbrev S2x1x1 : Shape := ⟨3, ![2, 1, 1]⟩
abbrev S_ : Shape := ⟨0, ![]⟩
abbrev S2x512x834 : Shape := ⟨3, ![2, 512, 834]⟩

class Facts : Prop where
  bcast_S2_S2x1x1_0 : S2.BroadcastsInDim S2x1x1 (![0] : Fin 1 → Fin S2x1x1.rank)
  shapeCasts_S1_S_ : S1.ShapeCasts S_
  bcast_S_S2x1x1 : S_.BroadcastsInDim S2x1x1 (![] : Fin 0 → Fin S2x1x1.rank)
  bcast_S2x1x1_S2x512x834_0_1_2 : S2x1x1.BroadcastsInDim S2x512x834 (![0, 1, 2] : Fin 3 → Fin S2x512x834.rank)

variable [Facts]

def fn {F : FTy → Type} [FloatOps F] (main_arg0 : FVec F S4x512x834 .bf16) (main_arg1 : IVec S1 32) : IVec S2x512x834 1 :=
  let main_v0 : IVec S2 32 := iotaInDim S2 32 0
  let main_v1 : IVec S2x1x1 32 := broadcastInDim S2x1x1 ![0] bcast_S2_S2x1x1_0 main_v0
  let main_v2 : IVec S_ 32 := shapeCast S_ main_arg1 shapeCasts_S1_S_
  let main_v3 : IVec S2x1x1 32 := broadcastInDim S2x1x1 ![] bcast_S_S2x1x1 main_v2
  let main_v4 : IVec S2x1x1 1 := cmpi .eq main_v1 main_v3
  let main_v5 : IVec S2x512x834 1 := broadcastInDim S2x512x834 ![0, 1, 2] bcast_S2x1x1_S2x512x834_0_1_2 main_v4
  main_v5
-- ==== On_own_half_ChipL1InIdeal.lean ====
abbrev S4x512x488 : Shape := ⟨3, ![4, 512, 488]⟩
abbrev S1 : Shape := ⟨1, ![1]⟩
abbrev S2 : Shape := ⟨1, ![2]⟩
abbrev S2x1x1 : Shape := ⟨3, ![2, 1, 1]⟩
abbrev S_ : Shape := ⟨0, ![]⟩
abbrev S2x512x488 : Shape := ⟨3, ![2, 512, 488]⟩

class Facts : Prop where
  bcast_S2_S2x1x1_0 : S2.BroadcastsInDim S2x1x1 (![0] : Fin 1 → Fin S2x1x1.rank)
  shapeCasts_S1_S_ : S1.ShapeCasts S_
  bcast_S_S2x1x1 : S_.BroadcastsInDim S2x1x1 (![] : Fin 0 → Fin S2x1x1.rank)
  bcast_S2x1x1_S2x512x488_0_1_2 : S2x1x1.BroadcastsInDim S2x512x488 (![0, 1, 2] : Fin 3 → Fin S2x512x488.rank)

variable [Facts]

def fn {F : FTy → Type} [FloatOps F] (main_arg0 : FVec F S4x512x488 .bf16) (main_arg1 : IVec S1 32) : IVec S2x512x488 1 :=
  let main_v0 : IVec S2 32 := iotaInDim S2 32 0
  let main_v1 : IVec S2x1x1 32 := broadcastInDim S2x1x1 ![0] bcast_S2_S2x1x1_0 main_v0
  let main_v2 : IVec S_ 32 := shapeCast S_ main_arg1 shapeCasts_S1_S_
  let main_v3 : IVec S2x1x1 32 := broadcastInDim S2x1x1 ![] bcast_S_S2x1x1 main_v2
  let main_v4 : IVec S2x1x1 1 := cmpi .eq main_v1 main_v3
  let main_v5 : IVec S2x512x488 1 := broadcastInDim S2x512x488 ![0, 1, 2] bcast_S2x1x1_S2x512x488_0_1_2 main_v4
  main_v5
-- ==== On_own_half_ChipOutIdeal.lean ====
abbrev S4x128x1024 : Shape := ⟨3, ![4, 128, 1024]⟩
abbrev S1 : Shape := ⟨1, ![1]⟩
abbrev S2 : Shape := ⟨1, ![2]⟩
abbrev S2x1x1 : Shape := ⟨3, ![2, 1, 1]⟩
abbrev S_ : Shape := ⟨0, ![]⟩
abbrev S2x128x1024 : Shape := ⟨3, ![2, 128, 1024]⟩

class Facts : Prop where
  bcast_S2_S2x1x1_0 : S2.BroadcastsInDim S2x1x1 (![0] : Fin 1 → Fin S2x1x1.rank)
  shapeCasts_S1_S_ : S1.ShapeCasts S_
  bcast_S_S2x1x1 : S_.BroadcastsInDim S2x1x1 (![] : Fin 0 → Fin S2x1x1.rank)
  bcast_S2x1x1_S2x128x1024_0_1_2 : S2x1x1.BroadcastsInDim S2x128x1024 (![0, 1, 2] : Fin 3 → Fin S2x128x1024.rank)

variable [Facts]

def fn {F : FTy → Type} [FloatOps F] (main_arg0 : FVec F S4x128x1024 .bf16) (main_arg1 : IVec S1 32) : IVec S2x128x1024 1 :=
  let main_v0 : IVec S2 32 := iotaInDim S2 32 0
  let main_v1 : IVec S2x1x1 32 := broadcastInDim S2x1x1 ![0] bcast_S2_S2x1x1_0 main_v0
  let main_v2 : IVec S_ 32 := shapeCast S_ main_arg1 shapeCasts_S1_S_
  let main_v3 : IVec S2x1x1 32 := broadcastInDim S2x1x1 ![] bcast_S_S2x1x1 main_v2
  let main_v4 : IVec S2x1x1 1 := cmpi .eq main_v1 main_v3
  let main_v5 : IVec S2x128x1024 1 := broadcastInDim S2x128x1024 ![0, 1, 2] bcast_S2x1x1_S2x128x1024_0_1_2 main_v4
  main_v5
-- ==== On_own_half_ChipSmallIdeal.lean ====
abbrev S4x552x128 : Shape := ⟨3, ![4, 552, 128]⟩
abbrev S1 : Shape := ⟨1, ![1]⟩
abbrev S2 : Shape := ⟨1, ![2]⟩
abbrev S2x1x1 : Shape := ⟨3, ![2, 1, 1]⟩
abbrev S_ : Shape := ⟨0, ![]⟩
abbrev S2x552x128 : Shape := ⟨3, ![2, 552, 128]⟩

class Facts : Prop where
  bcast_S2_S2x1x1_0 : S2.BroadcastsInDim S2x1x1 (![0] : Fin 1 → Fin S2x1x1.rank)
  shapeCasts_S1_S_ : S1.ShapeCasts S_
  bcast_S_S2x1x1 : S_.BroadcastsInDim S2x1x1 (![] : Fin 0 → Fin S2x1x1.rank)
  bcast_S2x1x1_S2x552x128_0_1_2 : S2x1x1.BroadcastsInDim S2x552x128 (![0, 1, 2] : Fin 3 → Fin S2x552x128.rank)

variable [Facts]

def fn {F : FTy → Type} [FloatOps F] (main_arg0 : FVec F S4x552x128 .f32) (main_arg1 : IVec S1 32) : IVec S2x552x128 1 :=
  let main_v0 : IVec S2 32 := iotaInDim S2 32 0
  let main_v1 : IVec S2x1x1 32 := broadcastInDim S2x1x1 ![0] bcast_S2_S2x1x1_0 main_v0
  let main_v2 : IVec S_ 32 := shapeCast S_ main_arg1 shapeCasts_S1_S_
  let main_v3 : IVec S2x1x1 32 := broadcastInDim S2x1x1 ![] bcast_S_S2x1x1 main_v2
  let main_v4 : IVec S2x1x1 1 := cmpi .eq main_v1 main_v3
  let main_v5 : IVec S2x552x128 1 := broadcastInDim S2x552x128 ![0, 1, 2] bcast_S2x1x1_S2x552x128_0_1_2 main_v4
  main_v5
-- ==== On_own_half_ChipUpIdeal.lean ====
abbrev S4x512x1408 : Shape := ⟨3, ![4, 512, 1408]⟩
abbrev S1 : Shape := ⟨1, ![1]⟩
abbrev S2 : Shape := ⟨1, ![2]⟩
abbrev S2x1x1 : Shape := ⟨3, ![2, 1, 1]⟩
abbrev S_ : Shape := ⟨0, ![]⟩
abbrev S2x512x1408 : Shape := ⟨3, ![2, 512, 1408]⟩

class Facts : Prop where
  bcast_S2_S2x1x1_0 : S2.BroadcastsInDim S2x1x1 (![0] : Fin 1 → Fin S2x1x1.rank)
  shapeCasts_S1_S_ : S1.ShapeCasts S_
  bcast_S_S2x1x1 : S_.BroadcastsInDim S2x1x1 (![] : Fin 0 → Fin S2x1x1.rank)
  bcast_S2x1x1_S2x512x1408_0_1_2 : S2x1x1.BroadcastsInDim S2x512x1408 (![0, 1, 2] : Fin 3 → Fin S2x512x1408.rank)

variable [Facts]

def fn {F : FTy → Type} [FloatOps F] (main_arg0 : FVec F S4x512x1408 .bf16) (main_arg1 : IVec S1 32) : IVec S2x512x1408 1 :=
  let main_v0 : IVec S2 32 := iotaInDim S2 32 0
  let main_v1 : IVec S2x1x1 32 := broadcastInDim S2x1x1 ![0] bcast_S2_S2x1x1_0 main_v0
  let main_v2 : IVec S_ 32 := shapeCast S_ main_arg1 shapeCasts_S1_S_
  let main_v3 : IVec S2x1x1 32 := broadcastInDim S2x1x1 ![] bcast_S_S2x1x1 main_v2
  let main_v4 : IVec S2x1x1 1 := cmpi .eq main_v1 main_v3
  let main_v5 : IVec S2x512x1408 1 := broadcastInDim S2x512x1408 ![0, 1, 2] bcast_S2x1x1_S2x512x1408_0_1_2 main_v4
  main_v5
-- ==== Pre_a_core_ChipDown.lean ====
abbrev S4x352x1024 : Shape := ⟨3, ![4, 352, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x352x1024 .bf16) (main_arg1 : IVec S1 32) : IVec S_ 1 :=
  let main_v0 : IVec S_ 32 := shapeCast S_ main_arg1 shapeCasts_S1_S_
  let main_c : IVec S_ 32 := constantI S_ 32 0#32
  let main_v1 : IVec S_ 1 := cmpi .sge main_v0 main_c
  let main_v2 : IVec S_ 32 := shapeCast S_ main_arg1 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_ChipL0In.lean ====
abbrev S4x512x834 : Shape := ⟨3, ![4, 512, 834]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x512x834 .bf16) (main_arg1 : IVec S1 32) : IVec S_ 1 :=
  let main_v0 : IVec S_ 32 := shapeCast S_ main_arg1 shapeCasts_S1_S_
  let main_c : IVec S_ 32 := constantI S_ 32 0#32
  let main_v1 : IVec S_ 1 := cmpi .sge main_v0 main_c
  let main_v2 : IVec S_ 32 := shapeCast S_ main_arg1 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_ChipL1In.lean ====
abbrev S4x512x488 : Shape := ⟨3, ![4, 512, 488]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x512x488 .bf16) (main_arg1 : IVec S1 32) : IVec S_ 1 :=
  let main_v0 : IVec S_ 32 := shapeCast S_ main_arg1 shapeCasts_S1_S_
  let main_c : IVec S_ 32 := constantI S_ 32 0#32
  let main_v1 : IVec S_ 1 := cmpi .sge main_v0 main_c
  let main_v2 : IVec S_ 32 := shapeCast S_ main_arg1 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_ChipOut.lean ====
abbrev S4x128x1024 : Shape := ⟨3, ![4, 128, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x128x1024 .bf16) (main_arg1 : IVec S1 32) : IVec S_ 1 :=
  let main_v0 : IVec S_ 32 := shapeCast S_ main_arg1 shapeCasts_S1_S_
  let main_c : IVec S_ 32 := constantI S_ 32 0#32
  let main_v1 : IVec S_ 1 := cmpi .sge main_v0 main_c
  let main_v2 : IVec S_ 32 := shapeCast S_ main_arg1 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_ChipSmall.lean ====
abbrev S4x552x128 : Shape := ⟨3, ![4, 552, 128]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x552x128 .f32) (main_arg1 : IVec S1 32) : IVec S_ 1 :=
  let main_v0 : IVec S_ 32 := shapeCast S_ main_arg1 shapeCasts_S1_S_
  let main_c : IVec S_ 32 := constantI S_ 32 0#32
  let main_v1 : IVec S_ 1 := cmpi .sge main_v0 main_c
  let main_v2 : IVec S_ 32 := shapeCast S_ main_arg1 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_ChipUp.lean ====
abbrev S4x512x1408 : Shape := ⟨3, ![4, 512, 1408]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x512x1408 .bf16) (main_arg1 : IVec S1 32) : IVec S_ 1 :=
  let main_v0 : IVec S_ 32 := shapeCast S_ main_arg1 shapeCasts_S1_S_
  let main_c : IVec S_ 32 := constantI S_ 32 0#32
  let main_v1 : IVec S_ 1 := cmpi .sge main_v0 main_c
  let main_v2 : IVec S_ 32 := shapeCast S_ main_arg1 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_PairDown.lean ====
abbrev S4x2x352x1024 : Shape := ⟨4, ![4, 2, 352, 1024]⟩
abbrev S4x352x1024 : Shape := ⟨3, ![4, 352, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2x352x1024 .f32) (main_arg1 : FVec F S4x352x1024 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_PairL0In.lean ====
abbrev S4x2x512x834 : Shape := ⟨4, ![4, 2, 512, 834]⟩
abbrev S4x512x834 : Shape := ⟨3, ![4, 512, 834]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2x512x834 .f32) (main_arg1 : FVec F S4x512x834 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_PairL1In.lean ====
abbrev S4x2x512x488 : Shape := ⟨4, ![4, 2, 512, 488]⟩
abbrev S4x512x488 : Shape := ⟨3, ![4, 512, 488]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2x512x488 .f32) (main_arg1 : FVec F S4x512x488 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_PairOut.lean ====
abbrev S4x2x128x1024 : Shape := ⟨4, ![4, 2, 128, 1024]⟩
abbrev S4x128x1024 : Shape := ⟨3, ![4, 128, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2x128x1024 .f32) (main_arg1 : FVec F S4x128x1024 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_PairSmall.lean ====
abbrev S4x2x552x128 : Shape := ⟨4, ![4, 2, 552, 128]⟩
abbrev S4x552x128 : Shape := ⟨3, ![4, 552, 128]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2x552x128 .f32) (main_arg1 : FVec F S4x552x128 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_a_core_PairUp.lean ====
abbrev S4x2x512x1408 : Shape := ⟨4, ![4, 2, 512, 1408]⟩
abbrev S4x512x1408 : Shape := ⟨3, ![4, 512, 1408]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2x512x1408 .f32) (main_arg1 : FVec F S4x512x1408 .f32) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  main_v4
-- ==== Pre_finite.lean ====
abbrev S4096x512 : Shape := ⟨2, ![4096, 512]⟩
abbrev S4096x256 : Shape := ⟨2, ![4096, 256]⟩
abbrev S4096x1024 : Shape := ⟨2, ![4096, 1024]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S4096x512 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S4096x512 .f32) (main_arg1 : FVec F S4096x256 .f32) (main_arg2 : FVec F S4096x1024 .f32) (main_arg3 : FVec F S4096x128 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_v13 main_v16
-- ==== Kernel.lean ====
abbrev S4096x512 : Shape := ⟨2, ![4096, 512]⟩
abbrev S4096x256 : Shape := ⟨2, ![4096, 256]⟩
abbrev S4096x1024 : Shape := ⟨2, ![4096, 1024]⟩
abbrev S4096x128 : Shape := ⟨2, ![4096, 128]⟩
abbrev S2x2048x8x128 : Shape := ⟨4, ![2, 2048, 8, 128]⟩
abbrev S2x8x2048x128 : Shape := ⟨4, ![2, 8, 2048, 128]⟩
abbrev S2x8x2048x64 : Shape := ⟨4, ![2, 8, 2048, 64]⟩
abbrev S2x2048x128 : Shape := ⟨3, ![2, 2048, 128]⟩
abbrev S2x2048x32 : Shape := ⟨3, ![2, 2048, 32]⟩
abbrev S2x2048x8x64 : Shape := ⟨4, ![2, 2048, 8, 64]⟩
abbrev S2x8x2048x2048 : Shape := ⟨4, ![2, 8, 2048, 2048]⟩
abbrev S2x2048x8x32 : Shape := ⟨4, ![2, 2048, 8, 32]⟩
abbrev S2x8x2048x32 : Shape := ⟨4, ![2, 8, 2048, 32]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S512x256 : Shape := ⟨2, ![512, 256]⟩
abbrev S512x128 : Shape := ⟨2, ![512, 128]⟩
abbrev S2048x512 : Shape := ⟨2, ![2048, 512]⟩
abbrev S2048x128 : Shape := ⟨2, ![2048, 128]⟩
abbrev S512x64 : Shape := ⟨2, ![512, 64]⟩
abbrev S512x32 : Shape := ⟨2, ![512, 32]⟩
abbrev S512x1 : Shape := ⟨2, ![512, 1]⟩
abbrev S512 : Shape := ⟨1, ![512]⟩
abbrev S256x32 : Shape := ⟨2, ![256, 32]⟩
abbrev S256x64 : Shape := ⟨2, ![256, 64]⟩
abbrev S1x512x64 : Shape := ⟨3, ![1, 512, 64]⟩
abbrev S1 : Shape := ⟨1, ![1]⟩
abbrev S1x1x1 : Shape := ⟨3, ![1, 1, 1]⟩
abbrev S1x512x1 : Shape := ⟨3, ![1, 512, 1]⟩

abbrev nBuf : Space → Nat
  | .hbm => 58
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x1024, .f32⟩
  | .hbm, ⟨3, _⟩ => ⟨S4096x128, .f32⟩
  | .hbm, ⟨4, _⟩ => ⟨S4096x512, .f32⟩
  | .hbm, ⟨5, _⟩ => ⟨S2x2048x8x128, .f32⟩
  | .hbm, ⟨6, _⟩ => ⟨S2x8x2048x128, .f32⟩
  | .hbm, ⟨7, _⟩ => ⟨S2x8x2048x64, .f32⟩
  | .hbm, ⟨8, _⟩ => ⟨S2x2048x128, .f32⟩
  | .hbm, ⟨9, _⟩ => ⟨S2x2048x32, .f32⟩
  | .hbm, ⟨10, _⟩ => ⟨S2x2048x8x64, .f32⟩
  | .hbm, ⟨11, _⟩ => ⟨S2x8x2048x64, .f32⟩
  | .hbm, ⟨12, _⟩ => ⟨S2x8x2048x2048, .f32⟩
  | .hbm, ⟨13, _⟩ => ⟨S2x2048x8x32, .f32⟩
  | .hbm, ⟨14, _⟩ => ⟨S2x8x2048x32, .f32⟩
  | .hbm, ⟨15, _⟩ => ⟨S2x8x2048x2048, .f32⟩
  | .hbm, ⟨16, _⟩ => ⟨S2x8x2048x2048, .f32⟩
  | .hbm, ⟨17, _⟩ => ⟨S_, .f32⟩
  | .hbm, ⟨18, _⟩ => ⟨S2x8x2048x2048, .f32⟩
  | .hbm, ⟨19, _⟩ => ⟨S2x8x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S2x8x2048x2048, .i1⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048x1, .f32⟩
  | .hbm, ⟨41, _⟩ => ⟨S2x8x2048x2048, .f32⟩
  | .hbm, ⟨42, _⟩ => ⟨S2x8x2048x2048, .f32⟩
  | .hbm, ⟨43, _⟩ => ⟨S2x2048x8x128, .f32⟩
  | .hbm, ⟨44, _⟩ => ⟨S2x8x2048x128, .f32⟩
  | .hbm, ⟨45, _⟩ => ⟨S2x8x2048x64, .f32⟩
  | .hbm, ⟨46, _⟩ => ⟨S2x8x2048x64, .f32⟩
  | .hbm, ⟨47, _⟩ => ⟨S2x2048x8x64, .f32⟩
  | .hbm, ⟨48, _⟩ => ⟨S4096x512, .f32⟩
  | .hbm, ⟨49, _⟩ => ⟨S2x8x2048x1, .f32⟩
  | .hbm, ⟨50, _⟩ => ⟨S2x8x2048x1, .f32⟩
  | .hbm, ⟨51, _⟩ => ⟨S2x8x2048x64, .f32⟩
  | .hbm, ⟨52, _⟩ => ⟨S2x2048x8x64, .f32⟩
  | .hbm, ⟨53, _⟩ => ⟨S4096x512, .f32⟩
  | .hbm, ⟨54, _⟩ => ⟨S4096x512, .f32⟩
  | .hbm, ⟨55, _⟩ => ⟨S4096x256, .f32⟩
  | .hbm, ⟨56, _⟩ => ⟨S4096x1024, .f32⟩
  | .hbm, ⟨57, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S2048x512, .f32⟩
  | .local _ .vmem, ⟨5, _⟩ => ⟨S2048x512, .f32⟩
  | .local _ .vmem, ⟨6, _⟩ => ⟨S2048x128, .f32⟩
  | .local _ .vmem, ⟨7, _⟩ => ⟨S2048x128, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S2048x512, .f32⟩
  | .local _ .vmem, ⟨19, _⟩ => ⟨S2048x512, .f32⟩
  | .local _ .vmem, ⟨20, _⟩ => ⟨S2048x128, .f32⟩
  | .local _ .vmem, ⟨21, _⟩ => ⟨S2048x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

@[reducible] def k0_t1_loop (i : grid0.Coords) : Scf.Loop 32 :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_56 : BitVec 32 := 1#32
  ⟨c0_i32_54, v78, c1_i32_56⟩
def k0_mult1 (i : grid0.Coords) (k0_t1 : Fin (k0_t1_loop i).trips) : BitVec 32 :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  v89
def k0_off1 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v91 : Index := Scalar.indexCast v90
  let c0_75 : Index := 0#32
  ![v91.toNat, 0]
def k0_off2 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v93 : Index := Scalar.indexCast v90
  let c0_76 : Index := 0#32
  ![v93.toNat, 0]
def k0_off3 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v95 : Index := Scalar.indexCast v90
  let c64_77 : Index := 64#32
  ![v95.toNat, 64]
def k0_off4 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v192 : Index := Scalar.indexCast v90
  let c128_108 : Index := 128#32
  ![v192.toNat, 128]
def k0_off5 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v194 : Index := Scalar.indexCast v90
  let c192_109 : Index := 192#32
  ![v194.toNat, 192]
def k0_off6 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v291 : Index := Scalar.indexCast v90
  let c256 : Index := 256#32
  ![v291.toNat, 256]
def k0_off7 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v293 : Index := Scalar.indexCast v90
  let c320 : Index := 320#32
  ![v293.toNat, 320]
def k0_off8 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v390 : Index := Scalar.indexCast v90
  let c384 : Index := 384#32
  ![v390.toNat, 384]
def k0_off9 (i : grid0.Coords) (k0_t1 : Fin (k0_t1_loop i).trips) : Fin 2 → Nat :=
  let c0_i32_54 : BitVec 32 := 0#32
  let c1_i32_56 : BitVec 32 := 1#32
  let arg14 : BitVec 32 := Scf.iv c0_i32_54 c1_i32_56 k0_t1
  let c256_i32_74 : BitVec 32 := 256#32
  let v89 : BitVec 32 := Scalar.muli arg14 c256_i32_74
  let v90 : BitVec 32 := v89
  let v392 : Index := Scalar.indexCast v90
  let c448 : Index := 448#32
  ![v392.toNat, 448]
@[reducible] def k0_t2_loop (i : grid0.Coords) : Scf.Loop 32 :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let v75 : BitVec 32 := Scalar.addi c0_i32_54 v74
  let c1_i32_57 : BitVec 32 := 1#32
  ⟨v78, v75, c1_i32_57⟩
def k0_mult2 (i : grid0.Coords) (k0_t2 : Fin (k0_t2_loop i).trips) : BitVec 32 :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  v89
def k0_off10 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v91 : Index := Scalar.indexCast v90
  let c0_75 : Index := 0#32
  ![v91.toNat, 0]
def k0_off11 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v93 : Index := Scalar.indexCast v90
  let c0_76 : Index := 0#32
  ![v93.toNat, 0]
def k0_off12 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v95 : Index := Scalar.indexCast v90
  let c64_77 : Index := 64#32
  ![v95.toNat, 64]
def k0_off13 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v192 : Index := Scalar.indexCast v90
  let c128_108 : Index := 128#32
  ![v192.toNat, 128]
def k0_off14 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v194 : Index := Scalar.indexCast v90
  let c192_109 : Index := 192#32
  ![v194.toNat, 192]
def k0_off15 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v291 : Index := Scalar.indexCast v90
  let c256 : Index := 256#32
  ![v291.toNat, 256]
def k0_off16 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v293 : Index := Scalar.indexCast v90
  let c320 : Index := 320#32
  ![v293.toNat, 320]
def k0_off17 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v390 : Index := Scalar.indexCast v90
  let c384 : Index := 384#32
  ![v390.toNat, 384]
def k0_off18 (i : grid0.Coords) (k0_t2 : Fin (k0_t2_loop i).trips) : Fin 2 → Nat :=
  let c0_i32_54 : BitVec 32 := 0#32
  let arg2 : BitVec 32 := BitVec.ofNat 32 (i 2).val
  let c512_i32 : BitVec 32 := 512#32
  let v7 : BitVec 32 := Scalar.muli arg2 c512_i32
  let c512_i32_3 : BitVec 32 := 512#32
  let v8 : BitVec 32 := Scalar.addi v7 c512_i32_3
  let c0_i32_4 : BitVec 32 := 0#32
  let v10 : BitVec 1 := Scalar.cmpi .sgt v8 c0_i32_4
  let v11 : BitVec 32 := Scalar.extui v10
  let c0_i32_5 : BitVec 32 := 0#32
  let v12 : BitVec 1 := Scalar.cmpi .slt v8 c0_i32_5
  let v13 : BitVec 32 := Scalar.extui v12
  let v14 : BitVec 32 := Scalar.subi v11 v13
  let c256_i32 : BitVec 32 := 256#32
  let c0_i32_6 : BitVec 32 := 0#32
  let v15 : BitVec 1 := Scalar.cmpi .sgt c256_i32 c0_i32_6
  let v16 : BitVec 32 := Scalar.extui v15
  let c0_i32_7 : BitVec 32 := 0#32
  let v17 : BitVec 1 := Scalar.cmpi .slt c256_i32 c0_i32_7
  let v18 : BitVec 32 := Scalar.extui v17
  let v19 : BitVec 32 := Scalar.subi v16 v18
  let v20 : BitVec 1 := Scalar.cmpi .ne v14 v19
  let v21 : BitVec 32 := Scalar.remsi v8 c256_i32
  let c0_i32_8 : BitVec 32 := 0#32
  let v22 : BitVec 1 := Scalar.cmpi .ne v21 c0_i32_8
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v74 : BitVec 32 := Scalar.subi v25 c0_i32_54
  let c1_i32_55 : BitVec 32 := 1#32
  let v76 : BitVec 32 := Scalar.divsi v74 c1_i32_55
  let v77 : BitVec 32 := Scalar.muli v76 c1_i32_55
  let v78 : BitVec 32 := Scalar.addi c0_i32_54 v77
  let c1_i32_57 : BitVec 32 := 1#32
  let arg14 : BitVec 32 := Scf.iv v78 c1_i32_57 k0_t2
  let c256_i32_74 : BitVec 32 := 256#32
  let v89 : BitVec 32 := Scalar.muli arg14 c256_i32_74
  let v90 : BitVec 32 := v89
  let v392 : Index := Scalar.indexCast v90
  let c448 : Index := 448#32
  ![v392.toNat, 448]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== ReferenceIdeal.lean ====
abbrev S4096x512 : Shape := ⟨2, ![4096, 512]⟩
abbrev S4096x256 : Shape := ⟨2, ![4096, 256]⟩
abbrev S4096x1024 : Shape := ⟨2, ![4096, 1024]⟩
abbrev S4096x128 : Shape := ⟨2, ![4096, 128]⟩
abbrev S2x2048x8x128 : Shape := ⟨4, ![2, 2048, 8, 128]⟩
abbrev S2x8x2048x128 : Shape := ⟨4, ![2, 8, 2048, 128]⟩
abbrev S2x8x2048x64 : Shape := ⟨4, ![2, 8, 2048, 64]⟩
abbrev S2x2048x128 : Shape := ⟨3, ![2, 2048, 128]⟩
abbrev S2x2048x32 : Shape := ⟨3, ![2, 2048, 32]⟩
abbrev S2x2048x8x64 : Shape := ⟨4, ![2, 2048, 8, 64]⟩
abbrev S2x8x2048x2048 : Shape := ⟨4, ![2, 8, 2048, 2048]⟩
abbrev S2x2048x8x32 : Shape := ⟨4, ![2, 2048, 8, 32]⟩
abbrev S2x8x2048x32 : Shape := ⟨4, ![2, 8, 2048, 32]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 123
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x1024, .f32⟩
  | .hbm, ⟨3, _⟩ => ⟨S4096x128, .f32⟩
  | .hbm, ⟨4, _⟩ => ⟨S4096x512, .f32⟩
  | .hbm, ⟨5, _⟩ => ⟨S2x2048x8x128, .f32⟩
  | .hbm, ⟨6, _⟩ => ⟨S2x8x2048x128, .f32⟩
  | .hbm, ⟨7, _⟩ => ⟨S2x8x2048x64, .f32⟩
  | .hbm, ⟨8, _⟩ => ⟨S2x2048x128, .f32⟩
  | .hbm, ⟨9, _⟩ => ⟨S2x2048x32, .f32⟩
  | .hbm, ⟨10, _⟩ => ⟨S2x2048x8x64, .f32⟩
  | .hbm, ⟨11, _⟩ => ⟨S2x8x2048x64, .f32⟩
  | .hbm, ⟨12, _⟩ => ⟨S2x8x2048x2048, .f32⟩
  | .hbm, ⟨13, _⟩ => ⟨S2x2048x8x32, .f32⟩
  | .hbm, ⟨14, _⟩ => ⟨S2x8x2048x32, .f32⟩
  | .hbm, ⟨15, _⟩ => ⟨S2x8x2048x2048, .f32⟩
  | .hbm, ⟨16, _⟩ => ⟨S2x8x2048x2048, .f32⟩
  | .hbm, ⟨17, _⟩ => ⟨S_, .f32⟩
  | .hbm, ⟨18, _⟩ => ⟨S2x8x2048x2048, .f32⟩
  | .hbm, ⟨19, _⟩ => ⟨S2x8x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S2x8x2048x2048, .i1⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .i1⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S_, .f32⟩
  | .hbm, ⟨46, _⟩ => ⟨S2x8x2048, .f32⟩
  | .hbm, ⟨47, _⟩ => ⟨S2x8x2048, .i1⟩
  | .hbm, ⟨48, _⟩ => ⟨S_, .f32⟩
  | .hbm, ⟨49, _⟩ => ⟨S2x8x2048, .f32⟩
  | .hbm, ⟨50, _⟩ => ⟨S2x8x2048, .i1⟩
  | .hbm, ⟨51, _⟩ => ⟨S_, .f32⟩
  | .hbm, ⟨52, _⟩ => ⟨S2x8x2048, .f32⟩
  | .hbm, ⟨53, _⟩ => ⟨S_, .f32⟩
  | .hbm, ⟨54, _⟩ => ⟨S2x8x2048, .f32⟩
  | .hbm, ⟨55, _⟩ => ⟨S_, .f32⟩
  | .hbm, ⟨56, _⟩ => ⟨S2x8x2048, .f32⟩
  | .hbm, ⟨57, _⟩ => ⟨S2x8x2048, .f32⟩
  | .hbm, ⟨58, _⟩ => ⟨S2x8x2048, .f32⟩
  | .hbm, ⟨59, _⟩ => ⟨S2x8x2048x1, .f32⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S_, .f32⟩
  | .hbm, ⟨64, _⟩ => ⟨S2x8x2048, .f32⟩
  | .hbm, ⟨65, _⟩ => ⟨S2x8x2048x1, .f32⟩
  | .hbm, ⟨66, _⟩ => ⟨S2x8x2048x2048, .f32⟩
  | .hbm, ⟨67, _⟩ => ⟨S2x8x2048x2048, .f32⟩
  | .hbm, ⟨68, _⟩ => ⟨S2x8x2048x1, .f32⟩
  | .hbm, ⟨69, _⟩ => ⟨S_, .f32⟩
  | .hbm, ⟨70, _⟩ => ⟨S2x8x2048x1, .f32⟩
  | .hbm, ⟨71, _⟩ => ⟨S2x8x2048x1, .f32⟩
  | .hbm, ⟨72, _⟩ => ⟨S2x2048x8x128, .f32⟩
  | .hbm, ⟨73, _⟩ => ⟨S2x8x2048x128, .f32⟩
  | .hbm, ⟨74, _⟩ => ⟨S2x8x2048x64, .f32⟩
  | .hbm, ⟨75, _⟩ => ⟨S2x8x2048x64, .f32⟩
  | .hbm, ⟨76, _⟩ => ⟨S2x2048x8x64, .f32⟩
  | .hbm, ⟨77, _⟩ => ⟨S4096x512, .f32⟩
  | .hbm, ⟨78, _⟩ => ⟨S2x2048x8x64, .f32⟩
  | .hbm, ⟨79, _⟩ => ⟨S2x8x2048x64, .f32⟩
  | .hbm, ⟨80, _⟩ => ⟨S2x8x64x2048, .f32⟩
  | .hbm, ⟨81, _⟩ => ⟨S2x8x2048x64, .f32⟩
  | .hbm, ⟨82, _⟩ => ⟨S2x8x2048x2048, .f32⟩
  | .hbm, ⟨83, _⟩ => ⟨S_, .f32⟩
  | .hbm, ⟨84, _⟩ => ⟨S2x8x2048x128, .f32⟩
  | .hbm, ⟨85, _⟩ => ⟨S2x2048x8x128, .f32⟩
  | .hbm, ⟨86, _⟩ => ⟨S4096x1024, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .f32⟩
  | .hbm, ⟨90, _⟩ => ⟨S_, .f32⟩
  | .hbm, ⟨91, _⟩ => ⟨S2x8x2048, .f32⟩
  | .hbm, ⟨92, _⟩ => ⟨S2x8x2048x1, .f32⟩
  | .hbm, ⟨93, _⟩ => ⟨S2x8x2048x1, .f32⟩
  | .hbm, ⟨94, _⟩ => ⟨S2x8x2048x2048, .f32⟩
  | .hbm, ⟨95, _⟩ => ⟨S2x8x2048x2048, .f32⟩
  | .hbm, ⟨96, _⟩ => ⟨S_, .f32⟩
  | .hbm, ⟨97, _⟩ => ⟨S2x8x2048, .f32⟩
  | .hbm, ⟨98, _⟩ => ⟨S2x8x2048x2048, .f32⟩
  | .hbm, ⟨99, _⟩ => ⟨S2x8x2048x2048, .f32⟩
  | .hbm, ⟨100, _⟩ => ⟨S2x8x2048x2048, .f32⟩
  | .hbm, ⟨101, _⟩ => ⟨S_, .f32⟩
  | .hbm, ⟨102, _⟩ => ⟨S2x8x2048x2048, .f32⟩
  | .hbm, ⟨103, _⟩ => ⟨S2x8x2048x2048, .f32⟩
  | .hbm, ⟨104, _⟩ => ⟨S_, .f32⟩
  | .hbm, ⟨105, _⟩ => ⟨S2x8x2048x2048, .f32⟩
  | .hbm, ⟨106, _⟩ => ⟨S2x8x2048x2048, .f32⟩
  | .hbm, ⟨107, _⟩ => ⟨S2x2048x32, .f32⟩
  | .hbm, ⟨108, _⟩ => ⟨S2x8x2048x32, .f32⟩
  | .hbm, ⟨109, _⟩ => ⟨S2x2048x8x32, .f32⟩
  | .hbm, ⟨110, _⟩ => ⟨S4096x256, .f32⟩
  | .hbm, ⟨111, _⟩ => ⟨S2x8x2048x64, .f32⟩
  | .hbm, ⟨112, _⟩ => ⟨S2x8x2048x64, .f32⟩
  | .hbm, ⟨113, _⟩ => ⟨S2x2048x8x64, .f32⟩
  | .hbm, ⟨114, _⟩ => ⟨S4096x512, .f32⟩
  | .hbm, ⟨115, _⟩ => ⟨S_, .f32⟩
  | .hbm, ⟨116, _⟩ => ⟨S2x2048x128, .f32⟩
  | .hbm, ⟨117, _⟩ => ⟨S4096x128, .f32⟩
  | .hbm, ⟨118, _⟩ => ⟨S_, .f32⟩
  | .hbm, ⟨119, _⟩ => ⟨S2x8x2048x128, .f32⟩
  | .hbm, ⟨120, _⟩ => ⟨S2x2048x8x128, .f32⟩
  | .hbm, ⟨121, _⟩ => ⟨S4096x1024, .f32⟩
  | .hbm, ⟨122, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call1_cst : Ref sig .tc := ⟨.hbm, 101, rfl⟩
abbrev main_call1_v0 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDx.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S4096x1024, .bf16⟩
  | .hbm, ⟨3, _⟩ => ⟨S2816x1024, .bf16⟩
  | .hbm, ⟨4, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S4096x1024, .bf16⟩
  | .hbm, ⟨3, _⟩ => ⟨S2816x1024, .bf16⟩
  | .hbm, ⟨4, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== HalfDx.lean ====
abbrev S1024x2816 : Shape := ⟨2, ![1024, 2816]⟩
abbrev S4096x2816 : Shape := ⟨2, ![4096, 2816]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x2816, .f32⟩
  | .hbm, ⟨1, _⟩ => ⟨S4096x2816, .f32⟩
  | .hbm, ⟨2, _⟩ => ⟨S4096x1024, .f32⟩
  | .hbm, ⟨3, _⟩ => ⟨S4096x2816, .bf16⟩
  | .hbm, ⟨4, _⟩ => ⟨S1024x2816, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HalfDxIdeal.lean ====
abbrev S1024x2816 : Shape := ⟨2, ![1024, 2816]⟩
abbrev S4096x2816 : Shape := ⟨2, ![4096, 2816]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x2816, .f32⟩
  | .hbm, ⟨1, _⟩ => ⟨S4096x2816, .f32⟩
  | .hbm, ⟨2, _⟩ => ⟨S4096x1024, .f32⟩
  | .hbm, ⟨3, _⟩ => ⟨S4096x2816, .bf16⟩
  | .hbm, ⟨4, _⟩ => ⟨S1024x2816, .bf16⟩
  | .hbm, ⟨5, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HalfDxRefIdeal.lean ====
abbrev S1024x2816 : Shape := ⟨2, ![1024, 2816]⟩
abbrev S4096x2816 : Shape := ⟨2, ![4096, 2816]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S4096x2816, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== UpDw.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S4096x1024, .bf16⟩
  | .hbm, ⟨4, _⟩ => ⟨S4096x2816, .bf16⟩
  | .hbm, ⟨5, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S4096x1024, .bf16⟩
  | .hbm, ⟨4, _⟩ => ⟨S4096x2816, .bf16⟩
  | .hbm, ⟨5, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x2816 : Shape := ⟨2, ![4096, 2816]⟩
abbrev S4x1024x1408 : Shape := ⟨3, ![4, 1024, 1408]⟩
abbrev S2x1024x1408 : Shape := ⟨3, ![2, 1024, 1408]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1408, .f32⟩
  | .hbm, ⟨3, _⟩ => ⟨S2x1024x1408, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2x1408, .f32⟩
  | .hbm, ⟨10, _⟩ => ⟨S2x1024x1408, .f32⟩
  | .hbm, ⟨11, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GateDw.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x1024, .bf16⟩
  | .hbm, ⟨3, _⟩ => ⟨S4096x2816, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwIdeal.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x1024, .bf16⟩
  | .hbm, ⟨3, _⟩ => ⟨S4096x2816, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1024x2x1408, .f32⟩
  | .hbm, ⟨8, _⟩ => ⟨S2x1024x1408, .f32⟩
  | .hbm, ⟨9, _⟩ => ⟨S_, .f32⟩
  | .hbm, ⟨10, _⟩ => ⟨S2x1024x1408, .f32⟩
  | .hbm, ⟨11, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== L0Proj.lean ====
abbrev S4096x1024 : Shape := ⟨2, ![4096, 1024]⟩
abbrev S1024x3456 : Shape := ⟨2, ![1024, 3456]⟩
abbrev S4096x3456 : Shape := ⟨2, ![4096, 3456]⟩
abbrev S1024x1024 : Shape := ⟨2, ![1024, 1024]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3456, .f32⟩
  | .hbm, ⟨2, _⟩ => ⟨S4096x1024, .bf16⟩
  | .hbm, ⟨3, _⟩ => ⟨S1024x3456, .bf16⟩
  | .hbm, ⟨4, _⟩ => ⟨S4096x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0ProjIdeal.lean ====
abbrev S4096x1024 : Shape := ⟨2, ![4096, 1024]⟩
abbrev S1024x3456 : Shape := ⟨2, ![1024, 3456]⟩
abbrev S4096x3456 : Shape := ⟨2, ![4096, 3456]⟩
abbrev S1024x1024 : Shape := ⟨2, ![1024, 1024]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3456, .f32⟩
  | .hbm, ⟨2, _⟩ => ⟨S4096x1024, .bf16⟩
  | .hbm, ⟨3, _⟩ => ⟨S1024x3456, .bf16⟩
  | .hbm, ⟨4, _⟩ => ⟨S4096x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0ProjRefIdeal.lean ====
abbrev S4096x1024 : Shape := ⟨2, ![4096, 1024]⟩
abbrev S1024x3456 : Shape := ⟨2, ![1024, 3456]⟩
abbrev S4096x3456 : Shape := ⟨2, ![4096, 3456]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3456, .f32⟩
  | .hbm, ⟨2, _⟩ => ⟨S4096x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== L0ProjDx.lean ====
abbrev S1024x3456 : Shape := ⟨2, ![1024, 3456]⟩
abbrev S4096x3456 : Shape := ⟨2, ![4096, 3456]⟩
abbrev S4096x1024 : Shape := ⟨2, ![4096, 1024]⟩
abbrev S1024x1152 : Shape := ⟨2, ![1024, 1152]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x3456, .f32⟩
  | .hbm, ⟨1, _⟩ => ⟨S4096x3456, .f32⟩
  | .hbm, ⟨2, _⟩ => ⟨S4096x1024, .f32⟩
  | .hbm, ⟨3, _⟩ => ⟨S4096x3456, .bf16⟩
  | .hbm, ⟨4, _⟩ => ⟨S1024x3456, .bf16⟩
  | .hbm, ⟨5, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== L0ProjDxIdeal.lean ====
abbrev S1024x3456 : Shape := ⟨2, ![1024, 3456]⟩
abbrev S4096x3456 : Shape := ⟨2, ![4096, 3456]⟩
abbrev S4096x1024 : Shape := ⟨2, ![4096, 1024]⟩
abbrev S1024x1152 : Shape := ⟨2, ![1024, 1152]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x3456, .f32⟩
  | .hbm, ⟨1, _⟩ => ⟨S4096x3456, .f32⟩
  | .hbm, ⟨2, _⟩ => ⟨S4096x1024, .f32⟩
  | .hbm, ⟨3, _⟩ => ⟨S4096x3456, .bf16⟩
  | .hbm, ⟨4, _⟩ => ⟨S1024x3456, .bf16⟩
  | .hbm, ⟨5, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== L0ProjDxRefIdeal.lean ====
abbrev S1024x3456 : Shape := ⟨2, ![1024, 3456]⟩
abbrev S4096x3456 : Shape := ⟨2, ![4096, 3456]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x3456, .f32⟩
  | .hbm, ⟨1, _⟩ => ⟨S4096x3456, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x3456, .f32⟩
  | .hbm, ⟨6, _⟩ => ⟨S4096x1024, .f32⟩
  | .hbm, ⟨7, _⟩ => ⟨S4096x1024, .f32⟩
  | _, _ => ⟨S1024x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== L0ProjDw.lean ====
abbrev S4096x1024 : Shape := ⟨2, ![4096, 1024]⟩
abbrev S4096x3456 : Shape := ⟨2, ![4096, 3456]⟩
abbrev S1024x3456 : Shape := ⟨2, ![1024, 3456]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3456, .f32⟩
  | .hbm, ⟨2, _⟩ => ⟨S4096x1024, .bf16⟩
  | .hbm, ⟨3, _⟩ => ⟨S4096x3456, .bf16⟩
  | .hbm, ⟨4, _⟩ => ⟨S1024x3456, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0ProjDwIdeal.lean ====
abbrev S4096x1024 : Shape := ⟨2, ![4096, 1024]⟩
abbrev S4096x3456 : Shape := ⟨2, ![4096, 3456]⟩
abbrev S1024x3456 : Shape := ⟨2, ![1024, 3456]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3456, .f32⟩
  | .hbm, ⟨2, _⟩ => ⟨S4096x1024, .bf16⟩
  | .hbm, ⟨3, _⟩ => ⟨S4096x3456, .bf16⟩
  | .hbm, ⟨4, _⟩ => ⟨S1024x3456, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L0ProjDwRefIdeal.lean ====
abbrev S4096x1024 : Shape := ⟨2, ![4096, 1024]⟩
abbrev S4096x3456 : Shape := ⟨2, ![4096, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3456, .f32⟩
  | .hbm, ⟨2, _⟩ => ⟨S_, .f32⟩
  | .hbm, ⟨3, _⟩ => ⟨S1024x3456, .f32⟩
  | .hbm, ⟨4, _⟩ => ⟨S4096x3456, .f32⟩
  | .hbm, ⟨5, _⟩ => ⟨S3456x1024, .f32⟩
  | .hbm, ⟨6, _⟩ => ⟨S1024x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== L1Proj.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1ProjIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1ProjRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== L1ProjDx.lean ====
abbrev S1024x2048 : Shape := ⟨2, ![1024, 2048]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S4096x1024, .f32⟩
  | .hbm, ⟨3, _⟩ => ⟨S4096x2048, .bf16⟩
  | .hbm, ⟨4, _⟩ => ⟨S1024x2048, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== L1ProjDxIdeal.lean ====
abbrev S1024x2048 : Shape := ⟨2, ![1024, 2048]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S4096x1024, .f32⟩
  | .hbm, ⟨3, _⟩ => ⟨S4096x2048, .bf16⟩
  | .hbm, ⟨4, _⟩ => ⟨S1024x2048, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== L1ProjDxRefIdeal.lean ====
abbrev S1024x2048 : Shape := ⟨2, ![1024, 2048]⟩
abbrev S4096x2048 : Shape := ⟨2, ![4096, 2048]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== L1ProjDw.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1ProjDwIdeal.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== L1ProjDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutA.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutARefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutB.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S512x1024, .bf16⟩
  | .hbm, ⟨5, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutBIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S512x1024, .bf16⟩
  | .hbm, ⟨5, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutBRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDx.lean ====
abbrev S512x1024 : Shape := ⟨2, ![512, 1024]⟩
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S4096x1024, .f32⟩
  | .hbm, ⟨2, _⟩ => ⟨S4096x1024, .bf16⟩
  | .hbm, ⟨3, _⟩ => ⟨S512x1024, .bf16⟩
  | .hbm, ⟨4, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S512x1024 : Shape := ⟨2, ![512, 1024]⟩
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S4096x1024, .f32⟩
  | .hbm, ⟨2, _⟩ => ⟨S4096x1024, .bf16⟩
  | .hbm, ⟨3, _⟩ => ⟨S512x1024, .bf16⟩
  | .hbm, ⟨4, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S512x1024 : Shape := ⟨2, ![512, 1024]⟩
abbrev S4096x1024 : Shape := ⟨2, ![4096, 1024]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4096x1024, .f32⟩
  | .hbm, ⟨2, _⟩ => ⟨S_, .f32⟩
  | .hbm, ⟨3, _⟩ => ⟨S4096x512, .f32⟩
  | .hbm, ⟨4, _⟩ => ⟨S4096x1024, .f32⟩
  | .hbm, ⟨5, _⟩ => ⟨S4096x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamL0In.lean ====
abbrev S1024x834 : Shape := ⟨2, ![1024, 834]⟩
abbrev S256x834 : Shape := ⟨2, ![256, 834]⟩

abbrev nBuf : Space → Nat
  | .hbm => 7
  | .vmem => 14
  | .smem => 0
  | _ => 0

abbrev bufTy : (tb : Table) → Fin (tcTables nBuf tb) → BufTy
  | .hbm, ⟨0, _⟩ => ⟨S1024x834, .f32⟩
  | .hbm, ⟨1, _⟩ => ⟨S1024x834, .f32⟩
  | .hbm, ⟨2, _⟩ => ⟨S1024x834, .f32⟩
  | .hbm, ⟨3, _⟩ => ⟨S1024x834, .f32⟩
  | .hbm, ⟨4, _⟩ => ⟨S1024x834, .f32⟩
  | .hbm, ⟨5, _⟩ => ⟨S1024x834, .f32⟩
  | .hbm, ⟨6, _⟩ => ⟨S1024x834, .f32⟩
  | .local _ .vmem, ⟨0, _⟩ => ⟨S256x834, .f32⟩
  | .local _ .vmem, ⟨1, _⟩ => ⟨S256x834, .f32⟩
  | .local _ .vmem, ⟨2, _⟩ => ⟨S256x834, .f32⟩
  | .local _ .vmem, ⟨3, _⟩ => ⟨S256x834, .f32⟩
  | .local _ .vmem, ⟨4, _⟩ => ⟨S256x834, .f32⟩
  | .local _ .vmem, ⟨5, _⟩ => ⟨S256x834, .f32⟩
  | .local _ .vmem, ⟨6, _⟩ => ⟨S256x834, .f32⟩
  | .local _ .vmem, ⟨7, _⟩ => ⟨S256x834, .f32⟩
  | .local _ .vmem, ⟨8, _⟩ => ⟨S256x834, .f32⟩
  | .local _ .vmem, ⟨9, _⟩ => ⟨S256x834, .f32⟩
  | .local _ .vmem, ⟨10, _⟩ => ⟨S256x834, .f32⟩
  | .local _ .vmem, ⟨11, _⟩ => ⟨S256x834, .f32⟩
  | .local _ .vmem, ⟨12, _⟩ => ⟨S256x834, .f32⟩
  | .local _ .vmem, ⟨13, _⟩ => ⟨S256x834, .f32⟩
  | _, _ => ⟨S1024x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x834 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x834 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x834 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x834 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x834 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x834 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamL0InIdeal.lean ====
abbrev S1024x834 : Shape := ⟨2, ![1024, 834]⟩
abbrev S256x834 : Shape := ⟨2, ![256, 834]⟩

abbrev nBuf : Space → Nat
  | .hbm => 7
  | .vmem => 14
  | .smem => 0
  | _ => 0

abbrev bufTy : (tb : Table) → Fin (tcTables nBuf tb) → BufTy
  | .hbm, ⟨0, _⟩ => ⟨S1024x834, .f32⟩
  | .hbm, ⟨1, _⟩ => ⟨S1024x834, .f32⟩
  | .hbm, ⟨2, _⟩ => ⟨S1024x834, .f32⟩
  | .hbm, ⟨3, _⟩ => ⟨S1024x834, .f32⟩
  | .hbm, ⟨4, _⟩ => ⟨S1024x834, .f32⟩
  | .hbm, ⟨5, _⟩ => ⟨S1024x834, .f32⟩
  | .hbm, ⟨6, _⟩ => ⟨S1024x834, .f32⟩
  | .local _ .vmem, ⟨0, _⟩ => ⟨S256x834, .f32⟩
  | .local _ .vmem, ⟨1, _⟩ => ⟨S256x834, .f32⟩
  | .local _ .vmem, ⟨2, _⟩ => ⟨S256x834, .f32⟩
  | .local _ .vmem, ⟨3, _⟩ => ⟨S256x834, .f32⟩
  | .local _ .vmem, ⟨4, _⟩ => ⟨S256x834, .f32⟩
  | .local _ .vmem, ⟨5, _⟩ => ⟨S256x834, .f32⟩
  | .local _ .vmem, ⟨6, _⟩ => ⟨S256x834, .f32⟩
  | .local _ .vmem, ⟨7, _⟩ => ⟨S256x834, .f32⟩
  | .local _ .vmem, ⟨8, _⟩ => ⟨S256x834, .f32⟩
  | .local _ .vmem, ⟨9, _⟩ => ⟨S256x834, .f32⟩
  | .local _ .vmem, ⟨10, _⟩ => ⟨S256x834, .f32⟩
  | .local _ .vmem, ⟨11, _⟩ => ⟨S256x834, .f32⟩
  | .local _ .vmem, ⟨12, _⟩ => ⟨S256x834, .f32⟩
  | .local _ .vmem, ⟨13, _⟩ => ⟨S256x834, .f32⟩
  | _, _ => ⟨S1024x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x834 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x834 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x834 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x834 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x834 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x834 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamL0InRefIdeal.lean ====
abbrev S1024x834 : Shape := ⟨2, ![1024, 834]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x834, .f32⟩
  | .hbm, ⟨1, _⟩ => ⟨S1024x834, .f32⟩
  | .hbm, ⟨2, _⟩ => ⟨S1024x834, .f32⟩
  | .hbm, ⟨3, _⟩ => ⟨S1024x834, .f32⟩
  | .hbm, ⟨4, _⟩ => ⟨S_, .f32⟩
  | .hbm, ⟨5, _⟩ => ⟨S1024x834, .f32⟩
  | .hbm, ⟨6, _⟩ => ⟨S1024x834, .f32⟩
  | .hbm, ⟨7, _⟩ => ⟨S_, .f32⟩
  | .hbm, ⟨8, _⟩ => ⟨S1024x834, .f32⟩
  | .hbm, ⟨9, _⟩ => ⟨S1024x834, .f32⟩
  | .hbm, ⟨10, _⟩ => ⟨S1024x834, .f32⟩
  | .hbm, ⟨11, _⟩ => ⟨S_, .f32⟩
  | .hbm, ⟨12, _⟩ => ⟨S1024x834, .f32⟩
  | .hbm, ⟨13, _⟩ => ⟨S1024x834, .f32⟩
  | .hbm, ⟨14, _⟩ => ⟨S1024x834, .f32⟩
  | .hbm, ⟨15, _⟩ => ⟨S_, .f32⟩
  | .hbm, ⟨16, _⟩ => ⟨S1024x834, .f32⟩
  | .hbm, ⟨17, _⟩ => ⟨S1024x834, .f32⟩
  | .hbm, ⟨18, _⟩ => ⟨S1024x834, .f32⟩
  | .hbm, ⟨19, _⟩ => ⟨S_, .f32⟩
  | .hbm, ⟨20, _⟩ => ⟨S1024x834, .f32⟩
  | .hbm, ⟨21, _⟩ => ⟨S1024x834, .f32⟩
  | .hbm, ⟨22, _⟩ => ⟨S_, .f32⟩
  | .hbm, ⟨23, _⟩ => ⟨S1024x834, .f32⟩
  | .hbm, ⟨24, _⟩ => ⟨S1024x834, .f32⟩
  | .hbm, ⟨25, _⟩ => ⟨S1024x834, .f32⟩
  | .hbm, ⟨26, _⟩ => ⟨S_, .f32⟩
  | .hbm, ⟨27, _⟩ => ⟨S1024x834, .f32⟩
  | .hbm, ⟨28, _⟩ => ⟨S1024x834, .f32⟩
  | .hbm, ⟨29, _⟩ => ⟨S1024x834, .f32⟩
  | .hbm, ⟨30, _⟩ => ⟨S_, .f32⟩
  | .hbm, ⟨31, _⟩ => ⟨S1024x834, .f32⟩
  | .hbm, ⟨32, _⟩ => ⟨S1024x834, .f32⟩
  | .hbm, ⟨33, _⟩ => ⟨S1024x834, .f32⟩
  | .hbm, ⟨34, _⟩ => ⟨S_, .f32⟩
  | .hbm, ⟨35, _⟩ => ⟨S1024x834, .f32⟩
  | .hbm, ⟨36, _⟩ => ⟨S1024x834, .f32⟩
  | _, _ => ⟨S1024x834, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamL1In.lean ====
abbrev S1024x488 : Shape := ⟨2, ![1024, 488]⟩
abbrev S512x488 : Shape := ⟨2, ![512, 488]⟩

abbrev nBuf : Space → Nat
  | .hbm => 7
  | .vmem => 14
  | .smem => 0
  | _ => 0

abbrev bufTy : (tb : Table) → Fin (tcTables nBuf tb) → BufTy
  | .hbm, ⟨0, _⟩ => ⟨S1024x488, .f32⟩
  | .hbm, ⟨1, _⟩ => ⟨S1024x488, .f32⟩
  | .hbm, ⟨2, _⟩ => ⟨S1024x488, .f32⟩
  | .hbm, ⟨3, _⟩ => ⟨S1024x488, .f32⟩
  | .hbm, ⟨4, _⟩ => ⟨S1024x488, .f32⟩
  | .hbm, ⟨5, _⟩ => ⟨S1024x488, .f32⟩
  | .hbm, ⟨6, _⟩ => ⟨S1024x488, .f32⟩
  | .local _ .vmem, ⟨0, _⟩ => ⟨S512x488, .f32⟩
  | .local _ .vmem, ⟨1, _⟩ => ⟨S512x488, .f32⟩
  | .local _ .vmem, ⟨2, _⟩ => ⟨S512x488, .f32⟩
  | .local _ .vmem, ⟨3, _⟩ => ⟨S512x488, .f32⟩
  | .local _ .vmem, ⟨4, _⟩ => ⟨S512x488, .f32⟩
  | .local _ .vmem, ⟨5, _⟩ => ⟨S512x488, .f32⟩
  | .local _ .vmem, ⟨6, _⟩ => ⟨S512x488, .f32⟩
  | .local _ .vmem, ⟨7, _⟩ => ⟨S512x488, .f32⟩
  | .local _ .vmem, ⟨8, _⟩ => ⟨S512x488, .f32⟩
  | .local _ .vmem, ⟨9, _⟩ => ⟨S512x488, .f32⟩
  | .local _ .vmem, ⟨10, _⟩ => ⟨S512x488, .f32⟩
  | .local _ .vmem, ⟨11, _⟩ => ⟨S512x488, .f32⟩
  | .local _ .vmem, ⟨12, _⟩ => ⟨S512x488, .f32⟩
  | .local _ .vmem, ⟨13, _⟩ => ⟨S512x488, .f32⟩
  | _, _ => ⟨S1024x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamL1InIdeal.lean ====
abbrev S1024x488 : Shape := ⟨2, ![1024, 488]⟩
abbrev S512x488 : Shape := ⟨2, ![512, 488]⟩

abbrev nBuf : Space → Nat
  | .hbm => 7
  | .vmem => 14
  | .smem => 0
  | _ => 0

abbrev bufTy : (tb : Table) → Fin (tcTables nBuf tb) → BufTy
  | .hbm, ⟨0, _⟩ => ⟨S1024x488, .f32⟩
  | .hbm, ⟨1, _⟩ => ⟨S1024x488, .f32⟩
  | .hbm, ⟨2, _⟩ => ⟨S1024x488, .f32⟩
  | .hbm, ⟨3, _⟩ => ⟨S1024x488, .f32⟩
  | .hbm, ⟨4, _⟩ => ⟨S1024x488, .f32⟩
  | .hbm, ⟨5, _⟩ => ⟨S1024x488, .f32⟩
  | .hbm, ⟨6, _⟩ => ⟨S1024x488, .f32⟩
  | .local _ .vmem, ⟨0, _⟩ => ⟨S512x488, .f32⟩
  | .local _ .vmem, ⟨1, _⟩ => ⟨S512x488, .f32⟩
  | .local _ .vmem, ⟨2, _⟩ => ⟨S512x488, .f32⟩
  | .local _ .vmem, ⟨3, _⟩ => ⟨S512x488, .f32⟩
  | .local _ .vmem, ⟨4, _⟩ => ⟨S512x488, .f32⟩
  | .local _ .vmem, ⟨5, _⟩ => ⟨S512x488, .f32⟩
  | .local _ .vmem, ⟨6, _⟩ => ⟨S512x488, .f32⟩
  | .local _ .vmem, ⟨7, _⟩ => ⟨S512x488, .f32⟩
  | .local _ .vmem, ⟨8, _⟩ => ⟨S512x488, .f32⟩
  | .local _ .vmem, ⟨9, _⟩ => ⟨S512x488, .f32⟩
  | .local _ .vmem, ⟨10, _⟩ => ⟨S512x488, .f32⟩
  | .local _ .vmem, ⟨11, _⟩ => ⟨S512x488, .f32⟩
  | .local _ .vmem, ⟨12, _⟩ => ⟨S512x488, .f32⟩
  | .local _ .vmem, ⟨13, _⟩ => ⟨S512x488, .f32⟩
  | _, _ => ⟨S1024x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamL1InRefIdeal.lean ====
abbrev S1024x488 : Shape := ⟨2, ![1024, 488]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x488, .f32⟩
  | .hbm, ⟨1, _⟩ => ⟨S1024x488, .f32⟩
  | .hbm, ⟨2, _⟩ => ⟨S1024x488, .f32⟩
  | .hbm, ⟨3, _⟩ => ⟨S1024x488, .f32⟩
  | .hbm, ⟨4, _⟩ => ⟨S_, .f32⟩
  | .hbm, ⟨5, _⟩ => ⟨S1024x488, .f32⟩
  | .hbm, ⟨6, _⟩ => ⟨S1024x488, .f32⟩
  | .hbm, ⟨7, _⟩ => ⟨S_, .f32⟩
  | .hbm, ⟨8, _⟩ => ⟨S1024x488, .f32⟩
  | .hbm, ⟨9, _⟩ => ⟨S1024x488, .f32⟩
  | .hbm, ⟨10, _⟩ => ⟨S1024x488, .f32⟩
  | .hbm, ⟨11, _⟩ => ⟨S_, .f32⟩
  | .hbm, ⟨12, _⟩ => ⟨S1024x488, .f32⟩
  | .hbm, ⟨13, _⟩ => ⟨S1024x488, .f32⟩
  | .hbm, ⟨14, _⟩ => ⟨S1024x488, .f32⟩
  | .hbm, ⟨15, _⟩ => ⟨S_, .f32⟩
  | .hbm, ⟨16, _⟩ => ⟨S1024x488, .f32⟩
  | .hbm, ⟨17, _⟩ => ⟨S1024x488, .f32⟩
  | .hbm, ⟨18, _⟩ => ⟨S1024x488, .f32⟩
  | .hbm, ⟨19, _⟩ => ⟨S_, .f32⟩
  | .hbm, ⟨20, _⟩ => ⟨S1024x488, .f32⟩
  | .hbm, ⟨21, _⟩ => ⟨S1024x488, .f32⟩
  | .hbm, ⟨22, _⟩ => ⟨S_, .f32⟩
  | .hbm, ⟨23, _⟩ => ⟨S1024x488, .f32⟩
  | .hbm, ⟨24, _⟩ => ⟨S1024x488, .f32⟩
  | .hbm, ⟨25, _⟩ => ⟨S1024x488, .f32⟩
  | .hbm, ⟨26, _⟩ => ⟨S_, .f32⟩
  | .hbm, ⟨27, _⟩ => ⟨S1024x488, .f32⟩
  | .hbm, ⟨28, _⟩ => ⟨S1024x488, .f32⟩
  | .hbm, ⟨29, _⟩ => ⟨S1024x488, .f32⟩
  | .hbm, ⟨30, _⟩ => ⟨S_, .f32⟩
  | .hbm, ⟨31, _⟩ => ⟨S1024x488, .f32⟩
  | .hbm, ⟨32, _⟩ => ⟨S1024x488, .f32⟩
  | .hbm, ⟨33, _⟩ => ⟨S1024x488, .f32⟩
  | .hbm, ⟨34, _⟩ => ⟨S_, .f32⟩
  | .hbm, ⟨35, _⟩ => ⟨S1024x488, .f32⟩
  | .hbm, ⟨36, _⟩ => ⟨S1024x488, .f32⟩
  | _, _ => ⟨S1024x488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1408 : Shape := ⟨2, ![1024, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x1408 : Shape := ⟨2, ![1024, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1104x128 : Shape := ⟨2, ![1104, 128]⟩

abbrev nBuf : Space → Nat
  | .hbm => 7
  | .vmem => 7
  | .smem => 0
  | _ => 0

abbrev bufTy : (tb : Table) → Fin (tcTables nBuf tb) → BufTy
  | .hbm, ⟨0, _⟩ => ⟨S1104x128, .f32⟩
  | .hbm, ⟨1, _⟩ => ⟨S1104x128, .f32⟩
  | .hbm, ⟨2, _⟩ => ⟨S1104x128, .f32⟩
  | .hbm, ⟨3, _⟩ => ⟨S1104x128, .f32⟩
  | .hbm, ⟨4, _⟩ => ⟨S1104x128, .f32⟩
  | .hbm, ⟨5, _⟩ => ⟨S1104x128, .f32⟩
  | .hbm, ⟨6, _⟩ => ⟨S1104x128, .f32⟩
  | .local _ .vmem, ⟨0, _⟩ => ⟨S1104x128, .f32⟩
  | .local _ .vmem, ⟨1, _⟩ => ⟨S1104x128, .f32⟩
  | .local _ .vmem, ⟨2, _⟩ => ⟨S1104x128, .f32⟩
  | .local _ .vmem, ⟨3, _⟩ => ⟨S1104x128, .f32⟩
  | .local _ .vmem, ⟨4, _⟩ => ⟨S1104x128, .f32⟩
  | .local _ .vmem, ⟨5, _⟩ => ⟨S1104x128, .f32⟩
  | .local _ .vmem, ⟨6, _⟩ => ⟨S1104x128, .f32⟩
  | _, _ => ⟨S1104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
abbrev S1104x128 : Shape := ⟨2, ![1104, 128]⟩

abbrev nBuf : Space → Nat
  | .hbm => 7
  | .vmem => 7
  | .smem => 0
  | _ => 0

abbrev bufTy : (tb : Table) → Fin (tcTables nBuf tb) → BufTy
  | .hbm, ⟨0, _⟩ => ⟨S1104x128, .f32⟩
  | .hbm, ⟨1, _⟩ => ⟨S1104x128, .f32⟩
  | .hbm, ⟨2, _⟩ => ⟨S1104x128, .f32⟩
  | .hbm, ⟨3, _⟩ => ⟨S1104x128, .f32⟩
  | .hbm, ⟨4, _⟩ => ⟨S1104x128, .f32⟩
  | .hbm, ⟨5, _⟩ => ⟨S1104x128, .f32⟩
  | .hbm, ⟨6, _⟩ => ⟨S1104x128, .f32⟩
  | .local _ .vmem, ⟨0, _⟩ => ⟨S1104x128, .f32⟩
  | .local _ .vmem, ⟨1, _⟩ => ⟨S1104x128, .f32⟩
  | .local _ .vmem, ⟨2, _⟩ => ⟨S1104x128, .f32⟩
  | .local _ .vmem, ⟨3, _⟩ => ⟨S1104x128, .f32⟩
  | .local _ .vmem, ⟨4, _⟩ => ⟨S1104x128, .f32⟩
  | .local _ .vmem, ⟨5, _⟩ => ⟨S1104x128, .f32⟩
  | .local _ .vmem, ⟨6, _⟩ => ⟨S1104x128, .f32⟩
  | _, _ => ⟨S1104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1104x128 : Shape := ⟨2, ![1104, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1104x128, .f32⟩
  | .hbm, ⟨1, _⟩ => ⟨S1104x128, .f32⟩
  | .hbm, ⟨2, _⟩ => ⟨S1104x128, .f32⟩
  | .hbm, ⟨3, _⟩ => ⟨S1104x128, .f32⟩
  | .hbm, ⟨4, _⟩ => ⟨S_, .f32⟩
  | .hbm, ⟨5, _⟩ => ⟨S1104x128, .f32⟩
  | .hbm, ⟨6, _⟩ => ⟨S1104x128, .f32⟩
  | .hbm, ⟨7, _⟩ => ⟨S_, .f32⟩
  | .hbm, ⟨8, _⟩ => ⟨S1104x128, .f32⟩
  | .hbm, ⟨9, _⟩ => ⟨S1104x128, .f32⟩
  | .hbm, ⟨10, _⟩ => ⟨S1104x128, .f32⟩
  | .hbm, ⟨11, _⟩ => ⟨S_, .f32⟩
  | .hbm, ⟨12, _⟩ => ⟨S1104x128, .f32⟩
  | .hbm, ⟨13, _⟩ => ⟨S1104x128, .f32⟩
  | .hbm, ⟨14, _⟩ => ⟨S1104x128, .f32⟩
  | .hbm, ⟨15, _⟩ => ⟨S_, .f32⟩
  | .hbm, ⟨16, _⟩ => ⟨S1104x128, .f32⟩
  | .hbm, ⟨17, _⟩ => ⟨S1104x128, .f32⟩
  | .hbm, ⟨18, _⟩ => ⟨S1104x128, .f32⟩
  | .hbm, ⟨19, _⟩ => ⟨S_, .f32⟩
  | .hbm, ⟨20, _⟩ => ⟨S1104x128, .f32⟩
  | .hbm, ⟨21, _⟩ => ⟨S1104x128, .f32⟩
  | .hbm, ⟨22, _⟩ => ⟨S_, .f32⟩
  | .hbm, ⟨23, _⟩ => ⟨S1104x128, .f32⟩
  | .hbm, ⟨24, _⟩ => ⟨S1104x128, .f32⟩
  | .hbm, ⟨25, _⟩ => ⟨S1104x128, .f32⟩
  | .hbm, ⟨26, _⟩ => ⟨S_, .f32⟩
  | .hbm, ⟨27, _⟩ => ⟨S1104x128, .f32⟩
  | .hbm, ⟨28, _⟩ => ⟨S1104x128, .f32⟩
  | .hbm, ⟨29, _⟩ => ⟨S1104x128, .f32⟩
  | .hbm, ⟨30, _⟩ => ⟨S_, .f32⟩
  | .hbm, ⟨31, _⟩ => ⟨S1104x128, .f32⟩
  | .hbm, ⟨32, _⟩ => ⟨S1104x128, .f32⟩
  | .hbm, ⟨33, _⟩ => ⟨S1104x128, .f32⟩
  | .hbm, ⟨34, _⟩ => ⟨S_, .f32⟩
  | .hbm, ⟨35, _⟩ => ⟨S1104x128, .f32⟩
  | .hbm, ⟨36, _⟩ => ⟨S1104x128, .f32⟩
  | _, _ => ⟨S1104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossIdeal.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== ChipL0In.lean ====
abbrev S4x512x834 : Shape := ⟨3, ![4, 512, 834]⟩
abbrev S1 : Shape := ⟨1, ![1]⟩
abbrev S2x512x834 : Shape := ⟨3, ![2, 512, 834]⟩
abbrev S4x256x834 : Shape := ⟨3, ![4, 256, 834]⟩
abbrev S1x256x834 : Shape := ⟨3, ![1, 256, 834]⟩
abbrev S256x834 : Shape := ⟨2, ![256, 834]⟩

abbrev nBuf : Space → Nat
  | .hbm => 2
  | .vmem => 4
  | .smem => 1
  | _ => 0

abbrev bufTy : (tb : Table) → Fin (tcTables nBuf tb) → BufTy
  | .hbm, ⟨0, _⟩ => ⟨S4x512x834, .bf16⟩
  | .hbm, ⟨1, _⟩ => ⟨S2x512x834, .f32⟩
  | .local _ .vmem, ⟨0, _⟩ => ⟨S4x256x834, .bf16⟩
  | .local _ .vmem, ⟨1, _⟩ => ⟨S4x256x834, .bf16⟩
  | .local _ .vmem, ⟨2, _⟩ => ⟨S1x256x834, .f32⟩
  | .local _ .vmem, ⟨3, _⟩ => ⟨S1x256x834, .f32⟩
  | .local _ .smem, ⟨0, _⟩ => ⟨S1, .i32⟩
  | _, _ => ⟨S4x512x834, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S4x256x834 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipL0InIdeal.lean ====
abbrev S4x512x834 : Shape := ⟨3, ![4, 512, 834]⟩
abbrev S1 : Shape := ⟨1, ![1]⟩
abbrev S2x512x834 : Shape := ⟨3, ![2, 512, 834]⟩
abbrev S4x256x834 : Shape := ⟨3, ![4, 256, 834]⟩
abbrev S1x256x834 : Shape := ⟨3, ![1, 256, 834]⟩
abbrev S256x834 : Shape := ⟨2, ![256, 834]⟩

abbrev nBuf : Space → Nat
  | .hbm => 2
  | .vmem => 4
  | .smem => 1
  | _ => 0

abbrev bufTy : (tb : Table) → Fin (tcTables nBuf tb) → BufTy
  | .hbm, ⟨0, _⟩ => ⟨S4x512x834, .bf16⟩
  | .hbm, ⟨1, _⟩ => ⟨S2x512x834, .f32⟩
  | .local _ .vmem, ⟨0, _⟩ => ⟨S4x256x834, .bf16⟩
  | .local _ .vmem, ⟨1, _⟩ => ⟨S4x256x834, .bf16⟩
  | .local _ .vmem, ⟨2, _⟩ => ⟨S1x256x834, .f32⟩
  | .local _ .vmem, ⟨3, _⟩ => ⟨S1x256x834, .f32⟩
  | .local _ .smem, ⟨0, _⟩ => ⟨S1, .i32⟩
  | _, _ => ⟨S4x512x834, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S4x256x834 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipL0InRefIdeal.lean ====
abbrev S4x512x834 : Shape := ⟨3, ![4, 512, 834]⟩
abbrev S1 : Shape := ⟨1, ![1]⟩
abbrev S_ : Shape := ⟨0, ![]⟩
abbrev S512x834 : Shape := ⟨2, ![512, 834]⟩
abbrev S2x512x834 : Shape := ⟨3, ![2, 512, 834]⟩

abbrev nBuf : Space → Nat
  | .hbm => 6
  | .vmem => 0
  | .smem => 0
  | _ => 0

abbrev bufTy : (tb : Table) → Fin (tcTables nBuf tb) → BufTy
  | .hbm, ⟨0, _⟩ => ⟨S4x512x834, .bf16⟩
  | .hbm, ⟨1, _⟩ => ⟨S1, .i32⟩
  | .hbm, ⟨2, _⟩ => ⟨S4x512x834, .f32⟩
  | .hbm, ⟨3, _⟩ => ⟨S_, .f32⟩
  | .hbm, ⟨4, _⟩ => ⟨S512x834, .f32⟩
  | .hbm, ⟨5, _⟩ => ⟨S2x512x834, .f32⟩
  | _, _ => ⟨S4x512x834, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipL1In.lean ====
abbrev S4x512x488 : Shape := ⟨3, ![4, 512, 488]⟩
abbrev S1 : Shape := ⟨1, ![1]⟩
abbrev S2x512x488 : Shape := ⟨3, ![2, 512, 488]⟩
abbrev S1x512x488 : Shape := ⟨3, ![1, 512, 488]⟩
abbrev S512x488 : Shape := ⟨2, ![512, 488]⟩

abbrev nBuf : Space → Nat
  | .hbm => 2
  | .vmem => 2
  | .smem => 1
  | _ => 0

abbrev bufTy : (tb : Table) → Fin (tcTables nBuf tb) → BufTy
  | .hbm, ⟨0, _⟩ => ⟨S4x512x488, .bf16⟩
  | .hbm, ⟨1, _⟩ => ⟨S2x512x488, .f32⟩
  | .local _ .vmem, ⟨0, _⟩ => ⟨S4x512x488, .bf16⟩
  | .local _ .vmem, ⟨1, _⟩ => ⟨S1x512x488, .f32⟩
  | .local _ .smem, ⟨0, _⟩ => ⟨S1, .i32⟩
  | _, _ => ⟨S4x512x488, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 1 → Memref sig .tc .vmem S4x512x488 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x488 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipL1InIdeal.lean ====
abbrev S4x512x488 : Shape := ⟨3, ![4, 512, 488]⟩
abbrev S1 : Shape := ⟨1, ![1]⟩
abbrev S2x512x488 : Shape := ⟨3, ![2, 512, 488]⟩
abbrev S1x512x488 : Shape := ⟨3, ![1, 512, 488]⟩
abbrev S512x488 : Shape := ⟨2, ![512, 488]⟩

abbrev nBuf : Space → Nat
  | .hbm => 2
  | .vmem => 2
  | .smem => 1
  | _ => 0

abbrev bufTy : (tb : Table) → Fin (tcTables nBuf tb) → BufTy
  | .hbm, ⟨0, _⟩ => ⟨S4x512x488, .bf16⟩
  | .hbm, ⟨1, _⟩ => ⟨S2x512x488, .f32⟩
  | .local _ .vmem, ⟨0, _⟩ => ⟨S4x512x488, .bf16⟩
  | .local _ .vmem, ⟨1, _⟩ => ⟨S1x512x488, .f32⟩
  | .local _ .smem, ⟨0, _⟩ => ⟨S1, .i32⟩
  | _, _ => ⟨S4x512x488, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 1 → Memref sig .tc .vmem S4x512x488 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x488 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipL1InRefIdeal.lean ====
abbrev S4x512x488 : Shape := ⟨3, ![4, 512, 488]⟩
abbrev S1 : Shape := ⟨1, ![1]⟩
abbrev S_ : Shape := ⟨0, ![]⟩
abbrev S512x488 : Shape := ⟨2, ![512, 488]⟩
abbrev S2x512x488 : Shape := ⟨3, ![2, 512, 488]⟩

abbrev nBuf : Space → Nat
  | .hbm => 6
  | .vmem => 0
  | .smem => 0
  | _ => 0

abbrev bufTy : (tb : Table) → Fin (tcTables nBuf tb) → BufTy
  | .hbm, ⟨0, _⟩ => ⟨S4x512x488, .bf16⟩
  | .hbm, ⟨1, _⟩ => ⟨S1, .i32⟩
  | .hbm, ⟨2, _⟩ => ⟨S4x512x488, .f32⟩
  | .hbm, ⟨3, _⟩ => ⟨S_, .f32⟩
  | .hbm, ⟨4, _⟩ => ⟨S512x488, .f32⟩
  | .hbm, ⟨5, _⟩ => ⟨S2x512x488, .f32⟩
  | _, _ => ⟨S4x512x488, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipUp.lean ====
abbrev S4x512x1408 : Shape := ⟨3, ![4, 512, 1408]⟩
abbrev S1 : Shape := ⟨1, ![1]⟩
abbrev S2x512x1408 : Shape := ⟨3, ![2, 512, 1408]⟩
abbrev S4x128x1408 : Shape := ⟨3, ![4, 128, 1408]⟩
abbrev S1x128x1408 : Shape := ⟨3, ![1, 128, 1408]⟩
abbrev S128x1408 : Shape := ⟨2, ![128, 1408]⟩

abbrev nBuf : Space → Nat
  | .hbm => 2
  | .vmem => 4
  | .smem => 1
  | _ => 0

abbrev bufTy : (tb : Table) → Fin (tcTables nBuf tb) → BufTy
  | .hbm, ⟨0, _⟩ => ⟨S4x512x1408, .bf16⟩
  | .hbm, ⟨1, _⟩ => ⟨S2x512x1408, .f32⟩
  | .local _ .vmem, ⟨0, _⟩ => ⟨S4x128x1408, .bf16⟩
  | .local _ .vmem, ⟨1, _⟩ => ⟨S4x128x1408, .bf16⟩
  | .local _ .vmem, ⟨2, _⟩ => ⟨S1x128x1408, .f32⟩
  | .local _ .vmem, ⟨3, _⟩ => ⟨S1x128x1408, .f32⟩
  | .local _ .smem, ⟨0, _⟩ => ⟨S1, .i32⟩
  | _, _ => ⟨S4x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipUpIdeal.lean ====
abbrev S4x512x1408 : Shape := ⟨3, ![4, 512, 1408]⟩
abbrev S1 : Shape := ⟨1, ![1]⟩
abbrev S2x512x1408 : Shape := ⟨3, ![2, 512, 1408]⟩
abbrev S4x128x1408 : Shape := ⟨3, ![4, 128, 1408]⟩
abbrev S1x128x1408 : Shape := ⟨3, ![1, 128, 1408]⟩
abbrev S128x1408 : Shape := ⟨2, ![128, 1408]⟩

abbrev nBuf : Space → Nat
  | .hbm => 2
  | .vmem => 4
  | .smem => 1
  | _ => 0

abbrev bufTy : (tb : Table) → Fin (tcTables nBuf tb) → BufTy
  | .hbm, ⟨0, _⟩ => ⟨S4x512x1408, .bf16⟩
  | .hbm, ⟨1, _⟩ => ⟨S2x512x1408, .f32⟩
  | .local _ .vmem, ⟨0, _⟩ => ⟨S4x128x1408, .bf16⟩
  | .local _ .vmem, ⟨1, _⟩ => ⟨S4x128x1408, .bf16⟩
  | .local _ .vmem, ⟨2, _⟩ => ⟨S1x128x1408, .f32⟩
  | .local _ .vmem, ⟨3, _⟩ => ⟨S1x128x1408, .f32⟩
  | .local _ .smem, ⟨0, _⟩ => ⟨S1, .i32⟩
  | _, _ => ⟨S4x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipUpRefIdeal.lean ====
abbrev S4x512x1408 : Shape := ⟨3, ![4, 512, 1408]⟩
abbrev S1 : Shape := ⟨1, ![1]⟩
abbrev S_ : Shape := ⟨0, ![]⟩
abbrev S512x1408 : Shape := ⟨2, ![512, 1408]⟩
abbrev S2x512x1408 : Shape := ⟨3, ![2, 512, 1408]⟩

abbrev nBuf : Space → Nat
  | .hbm => 6
  | .vmem => 0
  | .smem => 0
  | _ => 0

abbrev bufTy : (tb : Table) → Fin (tcTables nBuf tb) → BufTy
  | .hbm, ⟨0, _⟩ => ⟨S4x512x1408, .bf16⟩
  | .hbm, ⟨1, _⟩ => ⟨S1, .i32⟩
  | .hbm, ⟨2, _⟩ => ⟨S4x512x1408, .f32⟩
  | .hbm, ⟨3, _⟩ => ⟨S_, .f32⟩
  | .hbm, ⟨4, _⟩ => ⟨S512x1408, .f32⟩
  | .hbm, ⟨5, _⟩ => ⟨S2x512x1408, .f32⟩
  | _, _ => ⟨S4x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipDown.lean ====
abbrev S4x352x1024 : Shape := ⟨3, ![4, 352, 1024]⟩
abbrev S1 : Shape := ⟨1, ![1]⟩
abbrev S2x352x1024 : Shape := ⟨3, ![2, 352, 1024]⟩
abbrev S4x176x1024 : Shape := ⟨3, ![4, 176, 1024]⟩
abbrev S1x176x1024 : Shape := ⟨3, ![1, 176, 1024]⟩
abbrev S176x1024 : Shape := ⟨2, ![176, 1024]⟩

abbrev nBuf : Space → Nat
  | .hbm => 2
  | .vmem => 4
  | .smem => 1
  | _ => 0

abbrev bufTy : (tb : Table) → Fin (tcTables nBuf tb) → BufTy
  | .hbm, ⟨0, _⟩ => ⟨S4x352x1024, .bf16⟩
  | .hbm, ⟨1, _⟩ => ⟨S2x352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S1x176x1024, .f32⟩
  | .local _ .vmem, ⟨3, _⟩ => ⟨S1x176x1024, .f32⟩
  | .local _ .smem, ⟨0, _⟩ => ⟨S1, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipDownIdeal.lean ====
abbrev S4x352x1024 : Shape := ⟨3, ![4, 352, 1024]⟩
abbrev S1 : Shape := ⟨1, ![1]⟩
abbrev S2x352x1024 : Shape := ⟨3, ![2, 352, 1024]⟩
abbrev S4x176x1024 : Shape := ⟨3, ![4, 176, 1024]⟩
abbrev S1x176x1024 : Shape := ⟨3, ![1, 176, 1024]⟩
abbrev S176x1024 : Shape := ⟨2, ![176, 1024]⟩

abbrev nBuf : Space → Nat
  | .hbm => 2
  | .vmem => 4
  | .smem => 1
  | _ => 0

abbrev bufTy : (tb : Table) → Fin (tcTables nBuf tb) → BufTy
  | .hbm, ⟨0, _⟩ => ⟨S4x352x1024, .bf16⟩
  | .hbm, ⟨1, _⟩ => ⟨S2x352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S1x176x1024, .f32⟩
  | .local _ .vmem, ⟨3, _⟩ => ⟨S1x176x1024, .f32⟩
  | .local _ .smem, ⟨0, _⟩ => ⟨S1, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipDownRefIdeal.lean ====
abbrev S4x352x1024 : Shape := ⟨3, ![4, 352, 1024]⟩
abbrev S1 : Shape := ⟨1, ![1]⟩
abbrev S_ : Shape := ⟨0, ![]⟩
abbrev S352x1024 : Shape := ⟨2, ![352, 1024]⟩
abbrev S2x352x1024 : Shape := ⟨3, ![2, 352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S1, .i32⟩
  | .hbm, ⟨2, _⟩ => ⟨S4x352x1024, .f32⟩
  | .hbm, ⟨3, _⟩ => ⟨S_, .f32⟩
  | .hbm, ⟨4, _⟩ => ⟨S352x1024, .f32⟩
  | .hbm, ⟨5, _⟩ => ⟨S2x352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipOut.lean ====
abbrev S4x128x1024 : Shape := ⟨3, ![4, 128, 1024]⟩
abbrev S1 : Shape := ⟨1, ![1]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 2
  | .vmem => 2
  | .smem => 1
  | _ => 0

abbrev bufTy : (tb : Table) → Fin (tcTables nBuf tb) → BufTy
  | .hbm, ⟨0, _⟩ => ⟨S4x128x1024, .bf16⟩
  | .hbm, ⟨1, _⟩ => ⟨S2x128x1024, .f32⟩
  | .local _ .vmem, ⟨0, _⟩ => ⟨S4x128x1024, .bf16⟩
  | .local _ .vmem, ⟨1, _⟩ => ⟨S1x128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipOutIdeal.lean ====
abbrev S4x128x1024 : Shape := ⟨3, ![4, 128, 1024]⟩
abbrev S1 : Shape := ⟨1, ![1]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 2
  | .vmem => 2
  | .smem => 1
  | _ => 0

abbrev bufTy : (tb : Table) → Fin (tcTables nBuf tb) → BufTy
  | .hbm, ⟨0, _⟩ => ⟨S4x128x1024, .bf16⟩
  | .hbm, ⟨1, _⟩ => ⟨S2x128x1024, .f32⟩
  | .local _ .vmem, ⟨0, _⟩ => ⟨S4x128x1024, .bf16⟩
  | .local _ .vmem, ⟨1, _⟩ => ⟨S1x128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipOutRefIdeal.lean ====
abbrev S4x128x1024 : Shape := ⟨3, ![4, 128, 1024]⟩
abbrev S1 : Shape := ⟨1, ![1]⟩
abbrev S_ : Shape := ⟨0, ![]⟩
abbrev S128x1024 : Shape := ⟨2, ![128, 1024]⟩
abbrev S2x128x1024 : Shape := ⟨3, ![2, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S1, .i32⟩
  | .hbm, ⟨2, _⟩ => ⟨S4x128x1024, .f32⟩
  | .hbm, ⟨3, _⟩ => ⟨S_, .f32⟩
  | .hbm, ⟨4, _⟩ => ⟨S128x1024, .f32⟩
  | .hbm, ⟨5, _⟩ => ⟨S2x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ChipSmall.lean ====
abbrev S4x552x128 : Shape := ⟨3, ![4, 552, 128]⟩
abbrev S1 : Shape := ⟨1, ![1]⟩
abbrev S2x552x128 : Shape := ⟨3, ![2, 552, 128]⟩
abbrev S1x552x128 : Shape := ⟨3, ![1, 552, 128]⟩
abbrev S552x128 : Shape := ⟨2, ![552, 128]⟩

abbrev nBuf : Space → Nat
  | .hbm => 2
  | .vmem => 2
  | .smem => 1
  | _ => 0

abbrev bufTy : (tb : Table) → Fin (tcTables nBuf tb) → BufTy
  | .hbm, ⟨0, _⟩ => ⟨S4x552x128, .f32⟩
  | .hbm, ⟨1, _⟩ => ⟨S2x552x128, .f32⟩
  | .local _ .vmem, ⟨0, _⟩ => ⟨S4x552x128, .f32⟩
  | .local _ .vmem, ⟨1, _⟩ => ⟨S1x552x128, .f32⟩
  | .local _ .smem, ⟨0, _⟩ => ⟨S1, .i32⟩
  | _, _ => ⟨S4x552x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 1 → Memref sig .tc .vmem S4x552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSmallIdeal.lean ====
abbrev S4x552x128 : Shape := ⟨3, ![4, 552, 128]⟩
abbrev S1 : Shape := ⟨1, ![1]⟩
abbrev S2x552x128 : Shape := ⟨3, ![2, 552, 128]⟩
abbrev S1x552x128 : Shape := ⟨3, ![1, 552, 128]⟩
abbrev S552x128 : Shape := ⟨2, ![552, 128]⟩

abbrev nBuf : Space → Nat
  | .hbm => 2
  | .vmem => 2
  | .smem => 1
  | _ => 0

abbrev bufTy : (tb : Table) → Fin (tcTables nBuf tb) → BufTy
  | .hbm, ⟨0, _⟩ => ⟨S4x552x128, .f32⟩
  | .hbm, ⟨1, _⟩ => ⟨S2x552x128, .f32⟩
  | .local _ .vmem, ⟨0, _⟩ => ⟨S4x552x128, .f32⟩
  | .local _ .vmem, ⟨1, _⟩ => ⟨S1x552x128, .f32⟩
  | .local _ .smem, ⟨0, _⟩ => ⟨S1, .i32⟩
  | _, _ => ⟨S4x552x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 1 → Memref sig .tc .vmem S4x552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSmallRefIdeal.lean ====
abbrev S4x552x128 : Shape := ⟨3, ![4, 552, 128]⟩
abbrev S1 : Shape := ⟨1, ![1]⟩
abbrev S_ : Shape := ⟨0, ![]⟩
abbrev S552x128 : Shape := ⟨2, ![552, 128]⟩
abbrev S2x552x128 : Shape := ⟨3, ![2, 552, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x552x128, .f32⟩
  | .hbm, ⟨1, _⟩ => ⟨S1, .i32⟩
  | .hbm, ⟨2, _⟩ => ⟨S_, .f32⟩
  | .hbm, ⟨3, _⟩ => ⟨S552x128, .f32⟩
  | .hbm, ⟨4, _⟩ => ⟨S2x552x128, .f32⟩
  | _, _ => ⟨S4x552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PairL0In.lean ====
abbrev S4x2x512x834 : Shape := ⟨4, ![4, 2, 512, 834]⟩
abbrev S4x512x834 : Shape := ⟨3, ![4, 512, 834]⟩
abbrev S1 : Shape := ⟨1, ![1]⟩
abbrev S1x1x512x834 : Shape := ⟨4, ![1, 1, 512, 834]⟩
abbrev S1x512x834 : Shape := ⟨3, ![1, 512, 834]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x834, .f32⟩
  | .hbm, ⟨1, _⟩ => ⟨S4x512x834, .f32⟩
  | .hbm, ⟨2, _⟩ => ⟨S4x512x834, .bf16⟩
  | .local _ .vmem, ⟨0, _⟩ => ⟨S1x1x512x834, .f32⟩
  | .local _ .vmem, ⟨1, _⟩ => ⟨S1x1x512x834, .f32⟩
  | .local _ .vmem, ⟨2, _⟩ => ⟨S1x512x834, .f32⟩
  | .local _ .vmem, ⟨3, _⟩ => ⟨S1x512x834, .f32⟩
  | .local _ .vmem, ⟨4, _⟩ => ⟨S1x512x834, .bf16⟩
  | .local _ .vmem, ⟨5, _⟩ => ⟨S1x512x834, .bf16⟩
  | .local _ .smem, ⟨0, _⟩ => ⟨S1, .i32⟩
  | _, _ => ⟨S4x2x512x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x834 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x834 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairL0InIdeal.lean ====
abbrev S4x2x512x834 : Shape := ⟨4, ![4, 2, 512, 834]⟩
abbrev S4x512x834 : Shape := ⟨3, ![4, 512, 834]⟩
abbrev S1 : Shape := ⟨1, ![1]⟩
abbrev S1x1x512x834 : Shape := ⟨4, ![1, 1, 512, 834]⟩
abbrev S1x512x834 : Shape := ⟨3, ![1, 512, 834]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x834, .f32⟩
  | .hbm, ⟨1, _⟩ => ⟨S4x512x834, .f32⟩
  | .hbm, ⟨2, _⟩ => ⟨S4x512x834, .bf16⟩
  | .local _ .vmem, ⟨0, _⟩ => ⟨S1x1x512x834, .f32⟩
  | .local _ .vmem, ⟨1, _⟩ => ⟨S1x1x512x834, .f32⟩
  | .local _ .vmem, ⟨2, _⟩ => ⟨S1x512x834, .f32⟩
  | .local _ .vmem, ⟨3, _⟩ => ⟨S1x512x834, .f32⟩
  | .local _ .vmem, ⟨4, _⟩ => ⟨S1x512x834, .bf16⟩
  | .local _ .vmem, ⟨5, _⟩ => ⟨S1x512x834, .bf16⟩
  | .local _ .smem, ⟨0, _⟩ => ⟨S1, .i32⟩
  | _, _ => ⟨S4x2x512x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x834 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x834 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairL0InRefIdeal.lean ====
abbrev S4x2x512x834 : Shape := ⟨4, ![4, 2, 512, 834]⟩
abbrev S4x512x834 : Shape := ⟨3, ![4, 512, 834]⟩
abbrev S1 : Shape := ⟨1, ![1]⟩
abbrev S_ : Shape := ⟨0, ![]⟩
abbrev S4x1x512x834 : Shape := ⟨4, ![4, 1, 512, 834]⟩

abbrev nBuf : Space → Nat
  | .hbm => 14
  | .vmem => 0
  | .smem => 0
  | _ => 0

abbrev bufTy : (tb : Table) → Fin (tcTables nBuf tb) → BufTy
  | .hbm, ⟨0, _⟩ => ⟨S4x2x512x834, .f32⟩
  | .hbm, ⟨1, _⟩ => ⟨S4x512x834, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x834, .i1⟩
  | .hbm, ⟨7, _⟩ => ⟨S4x1x512x834, .f32⟩
  | .hbm, ⟨8, _⟩ => ⟨S4x512x834, .f32⟩
  | .hbm, ⟨9, _⟩ => ⟨S4x1x512x834, .f32⟩
  | .hbm, ⟨10, _⟩ => ⟨S4x512x834, .f32⟩
  | .hbm, ⟨11, _⟩ => ⟨S4x512x834, .f32⟩
  | .hbm, ⟨12, _⟩ => ⟨S4x512x834, .f32⟩
  | .hbm, ⟨13, _⟩ => ⟨S4x512x834, .bf16⟩
  | _, _ => ⟨S4x2x512x834, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PairL1In.lean ====
abbrev S4x2x512x488 : Shape := ⟨4, ![4, 2, 512, 488]⟩
abbrev S4x512x488 : Shape := ⟨3, ![4, 512, 488]⟩
abbrev S1 : Shape := ⟨1, ![1]⟩
abbrev S1x1x512x488 : Shape := ⟨4, ![1, 1, 512, 488]⟩
abbrev S1x512x488 : Shape := ⟨3, ![1, 512, 488]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x488, .f32⟩
  | .hbm, ⟨1, _⟩ => ⟨S4x512x488, .f32⟩
  | .hbm, ⟨2, _⟩ => ⟨S4x512x488, .bf16⟩
  | .local _ .vmem, ⟨0, _⟩ => ⟨S1x1x512x488, .f32⟩
  | .local _ .vmem, ⟨1, _⟩ => ⟨S1x1x512x488, .f32⟩
  | .local _ .vmem, ⟨2, _⟩ => ⟨S1x512x488, .f32⟩
  | .local _ .vmem, ⟨3, _⟩ => ⟨S1x512x488, .f32⟩
  | .local _ .vmem, ⟨4, _⟩ => ⟨S1x512x488, .bf16⟩
  | .local _ .vmem, ⟨5, _⟩ => ⟨S1x512x488, .bf16⟩
  | .local _ .smem, ⟨0, _⟩ => ⟨S1, .i32⟩
  | _, _ => ⟨S4x2x512x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x488 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairL1InIdeal.lean ====
abbrev S4x2x512x488 : Shape := ⟨4, ![4, 2, 512, 488]⟩
abbrev S4x512x488 : Shape := ⟨3, ![4, 512, 488]⟩
abbrev S1 : Shape := ⟨1, ![1]⟩
abbrev S1x1x512x488 : Shape := ⟨4, ![1, 1, 512, 488]⟩
abbrev S1x512x488 : Shape := ⟨3, ![1, 512, 488]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x488, .f32⟩
  | .hbm, ⟨1, _⟩ => ⟨S4x512x488, .f32⟩
  | .hbm, ⟨2, _⟩ => ⟨S4x512x488, .bf16⟩
  | .local _ .vmem, ⟨0, _⟩ => ⟨S1x1x512x488, .f32⟩
  | .local _ .vmem, ⟨1, _⟩ => ⟨S1x1x512x488, .f32⟩
  | .local _ .vmem, ⟨2, _⟩ => ⟨S1x512x488, .f32⟩
  | .local _ .vmem, ⟨3, _⟩ => ⟨S1x512x488, .f32⟩
  | .local _ .vmem, ⟨4, _⟩ => ⟨S1x512x488, .bf16⟩
  | .local _ .vmem, ⟨5, _⟩ => ⟨S1x512x488, .bf16⟩
  | .local _ .smem, ⟨0, _⟩ => ⟨S1, .i32⟩
  | _, _ => ⟨S4x2x512x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x488 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairL1InRefIdeal.lean ====
abbrev S4x2x512x488 : Shape := ⟨4, ![4, 2, 512, 488]⟩
abbrev S4x512x488 : Shape := ⟨3, ![4, 512, 488]⟩
abbrev S1 : Shape := ⟨1, ![1]⟩
abbrev S_ : Shape := ⟨0, ![]⟩
abbrev S4x1x512x488 : Shape := ⟨4, ![4, 1, 512, 488]⟩

abbrev nBuf : Space → Nat
  | .hbm => 14
  | .vmem => 0
  | .smem => 0
  | _ => 0

abbrev bufTy : (tb : Table) → Fin (tcTables nBuf tb) → BufTy
  | .hbm, ⟨0, _⟩ => ⟨S4x2x512x488, .f32⟩
  | .hbm, ⟨1, _⟩ => ⟨S4x512x488, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x488, .i1⟩
  | .hbm, ⟨7, _⟩ => ⟨S4x1x512x488, .f32⟩
  | .hbm, ⟨8, _⟩ => ⟨S4x512x488, .f32⟩
  | .hbm, ⟨9, _⟩ => ⟨S4x1x512x488, .f32⟩
  | .hbm, ⟨10, _⟩ => ⟨S4x512x488, .f32⟩
  | .hbm, ⟨11, _⟩ => ⟨S4x512x488, .f32⟩
  | .hbm, ⟨12, _⟩ => ⟨S4x512x488, .f32⟩
  | .hbm, ⟨13, _⟩ => ⟨S4x512x488, .bf16⟩
  | _, _ => ⟨S4x2x512x488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PairUp.lean ====
abbrev S4x2x512x1408 : Shape := ⟨4, ![4, 2, 512, 1408]⟩
abbrev S4x512x1408 : Shape := ⟨3, ![4, 512, 1408]⟩
abbrev S1 : Shape := ⟨1, ![1]⟩
abbrev S1x1x256x1408 : Shape := ⟨4, ![1, 1, 256, 1408]⟩
abbrev S1x256x1408 : Shape := ⟨3, ![1, 256, 1408]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x1408, .f32⟩
  | .hbm, ⟨1, _⟩ => ⟨S4x512x1408, .f32⟩
  | .hbm, ⟨2, _⟩ => ⟨S4x512x1408, .bf16⟩
  | .local _ .vmem, ⟨0, _⟩ => ⟨S1x1x256x1408, .f32⟩
  | .local _ .vmem, ⟨1, _⟩ => ⟨S1x1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S4x2x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUpIdeal.lean ====
abbrev S4x2x512x1408 : Shape := ⟨4, ![4, 2, 512, 1408]⟩
abbrev S4x512x1408 : Shape := ⟨3, ![4, 512, 1408]⟩
abbrev S1 : Shape := ⟨1, ![1]⟩
abbrev S1x1x256x1408 : Shape := ⟨4, ![1, 1, 256, 1408]⟩
abbrev S1x256x1408 : Shape := ⟨3, ![1, 256, 1408]⟩

abbrev nBuf : Space → Nat
  | .hbm => 3
  | .vmem => 6
  | .smem => 1
  | _ => 0

abbrev bufTy : (tb : Table) → Fin (tcTables nBuf tb) → BufTy
  | .hbm, ⟨0, _⟩ => ⟨S4x2x512x1408, .f32⟩
  | .hbm, ⟨1, _⟩ => ⟨S4x512x1408, .f32⟩
  | .hbm, ⟨2, _⟩ => ⟨S4x512x1408, .bf16⟩
  | .local _ .vmem, ⟨0, _⟩ => ⟨S1x1x256x1408, .f32⟩
  | .local _ .vmem, ⟨1, _⟩ => ⟨S1x1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .bf16⟩
  | .local _ .vmem, ⟨5, _⟩ => ⟨S1x256x1408, .bf16⟩
  | .local _ .smem, ⟨0, _⟩ => ⟨S1, .i32⟩
  | _, _ => ⟨S4x2x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairUpRefIdeal.lean ====
abbrev S4x2x512x1408 : Shape := ⟨4, ![4, 2, 512, 1408]⟩
abbrev S4x512x1408 : Shape := ⟨3, ![4, 512, 1408]⟩
abbrev S1 : Shape := ⟨1, ![1]⟩
abbrev S_ : Shape := ⟨0, ![]⟩
abbrev S4x1x512x1408 : Shape := ⟨4, ![4, 1, 512, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4x2x512x1408, .f32⟩
  | .hbm, ⟨1, _⟩ => ⟨S4x512x1408, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x1408, .i1⟩
  | .hbm, ⟨7, _⟩ => ⟨S4x1x512x1408, .f32⟩
  | .hbm, ⟨8, _⟩ => ⟨S4x512x1408, .f32⟩
  | .hbm, ⟨9, _⟩ => ⟨S4x1x512x1408, .f32⟩
  | .hbm, ⟨10, _⟩ => ⟨S4x512x1408, .f32⟩
  | .hbm, ⟨11, _⟩ => ⟨S4x512x1408, .f32⟩
  | .hbm, ⟨12, _⟩ => ⟨S4x512x1408, .f32⟩
  | .hbm, ⟨13, _⟩ => ⟨S4x512x1408, .bf16⟩
  | _, _ => ⟨S4x2x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PairDown.lean ====
abbrev S4x2x352x1024 : Shape := ⟨4, ![4, 2, 352, 1024]⟩
abbrev S4x352x1024 : Shape := ⟨3, ![4, 352, 1024]⟩
abbrev S1 : Shape := ⟨1, ![1]⟩
abbrev S1x1x352x1024 : Shape := ⟨4, ![1, 1, 352, 1024]⟩
abbrev S1x352x1024 : Shape := ⟨3, ![1, 352, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x352x1024, .f32⟩
  | .hbm, ⟨1, _⟩ => ⟨S4x352x1024, .f32⟩
  | .hbm, ⟨2, _⟩ => ⟨S4x352x1024, .bf16⟩
  | .local _ .vmem, ⟨0, _⟩ => ⟨S1x1x352x1024, .f32⟩
  | .local _ .vmem, ⟨1, _⟩ => ⟨S1x1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .bf16⟩
  | .local _ .vmem, ⟨5, _⟩ => ⟨S1x352x1024, .bf16⟩
  | .local _ .smem, ⟨0, _⟩ => ⟨S1, .i32⟩
  | _, _ => ⟨S4x2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairDownIdeal.lean ====
abbrev S4x2x352x1024 : Shape := ⟨4, ![4, 2, 352, 1024]⟩
abbrev S4x352x1024 : Shape := ⟨3, ![4, 352, 1024]⟩
abbrev S1 : Shape := ⟨1, ![1]⟩
abbrev S1x1x352x1024 : Shape := ⟨4, ![1, 1, 352, 1024]⟩
abbrev S1x352x1024 : Shape := ⟨3, ![1, 352, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x352x1024, .f32⟩
  | .hbm, ⟨1, _⟩ => ⟨S4x352x1024, .f32⟩
  | .hbm, ⟨2, _⟩ => ⟨S4x352x1024, .bf16⟩
  | .local _ .vmem, ⟨0, _⟩ => ⟨S1x1x352x1024, .f32⟩
  | .local _ .vmem, ⟨1, _⟩ => ⟨S1x1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .bf16⟩
  | .local _ .vmem, ⟨5, _⟩ => ⟨S1x352x1024, .bf16⟩
  | .local _ .smem, ⟨0, _⟩ => ⟨S1, .i32⟩
  | _, _ => ⟨S4x2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairDownRefIdeal.lean ====
abbrev S4x2x352x1024 : Shape := ⟨4, ![4, 2, 352, 1024]⟩
abbrev S4x352x1024 : Shape := ⟨3, ![4, 352, 1024]⟩
abbrev S1 : Shape := ⟨1, ![1]⟩
abbrev S_ : Shape := ⟨0, ![]⟩
abbrev S4x1x352x1024 : Shape := ⟨4, ![4, 1, 352, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2x352x1024, .f32⟩
  | .hbm, ⟨1, _⟩ => ⟨S4x352x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x352x1024, .i1⟩
  | .hbm, ⟨7, _⟩ => ⟨S4x1x352x1024, .f32⟩
  | .hbm, ⟨8, _⟩ => ⟨S4x352x1024, .f32⟩
  | .hbm, ⟨9, _⟩ => ⟨S4x1x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .bf16⟩
  | _, _ => ⟨S4x2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PairOut.lean ====
abbrev S4x2x128x1024 : Shape := ⟨4, ![4, 2, 128, 1024]⟩
abbrev S4x128x1024 : Shape := ⟨3, ![4, 128, 1024]⟩
abbrev S1 : Shape := ⟨1, ![1]⟩
abbrev S1x1x128x1024 : Shape := ⟨4, ![1, 1, 128, 1024]⟩
abbrev S1x128x1024 : Shape := ⟨3, ![1, 128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x128x1024, .f32⟩
  | .hbm, ⟨1, _⟩ => ⟨S4x128x1024, .f32⟩
  | .hbm, ⟨2, _⟩ => ⟨S4x128x1024, .bf16⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutIdeal.lean ====
abbrev S4x2x128x1024 : Shape := ⟨4, ![4, 2, 128, 1024]⟩
abbrev S4x128x1024 : Shape := ⟨3, ![4, 128, 1024]⟩
abbrev S1 : Shape := ⟨1, ![1]⟩
abbrev S1x1x128x1024 : Shape := ⟨4, ![1, 1, 128, 1024]⟩
abbrev S1x128x1024 : Shape := ⟨3, ![1, 128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x128x1024, .f32⟩
  | .hbm, ⟨1, _⟩ => ⟨S4x128x1024, .f32⟩
  | .hbm, ⟨2, _⟩ => ⟨S4x128x1024, .bf16⟩
  | .local _ .vmem, ⟨0, _⟩ => ⟨S1x1x128x1024, .f32⟩
  | .local _ .vmem, ⟨1, _⟩ => ⟨S1x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutRefIdeal.lean ====
abbrev S4x2x128x1024 : Shape := ⟨4, ![4, 2, 128, 1024]⟩
abbrev S4x128x1024 : Shape := ⟨3, ![4, 128, 1024]⟩
abbrev S1 : Shape := ⟨1, ![1]⟩
abbrev S_ : Shape := ⟨0, ![]⟩
abbrev S4x1x128x1024 : Shape := ⟨4, ![4, 1, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2x128x1024, .f32⟩
  | .hbm, ⟨1, _⟩ => ⟨S4x128x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x128x1024, .i1⟩
  | .hbm, ⟨7, _⟩ => ⟨S4x1x128x1024, .f32⟩
  | .hbm, ⟨8, _⟩ => ⟨S4x128x1024, .f32⟩
  | .hbm, ⟨9, _⟩ => ⟨S4x1x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .hbm, ⟨13, _⟩ => ⟨S4x128x1024, .bf16⟩
  | _, _ => ⟨S4x2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PairSmall.lean ====
abbrev S4x2x552x128 : Shape := ⟨4, ![4, 2, 552, 128]⟩
abbrev S4x552x128 : Shape := ⟨3, ![4, 552, 128]⟩
abbrev S1 : Shape := ⟨1, ![1]⟩
abbrev S1x1x552x128 : Shape := ⟨4, ![1, 1, 552, 128]⟩
abbrev S1x552x128 : Shape := ⟨3, ![1, 552, 128]⟩

abbrev nBuf : Space → Nat
  | .hbm => 3
  | .vmem => 6
  | .smem => 1
  | _ => 0

abbrev bufTy : (tb : Table) → Fin (tcTables nBuf tb) → BufTy
  | .hbm, ⟨0, _⟩ => ⟨S4x2x552x128, .f32⟩
  | .hbm, ⟨1, _⟩ => ⟨S4x552x128, .f32⟩
  | .hbm, ⟨2, _⟩ => ⟨S4x552x128, .f32⟩
  | .local _ .vmem, ⟨0, _⟩ => ⟨S1x1x552x128, .f32⟩
  | .local _ .vmem, ⟨1, _⟩ => ⟨S1x1x552x128, .f32⟩
  | .local _ .vmem, ⟨2, _⟩ => ⟨S1x552x128, .f32⟩
  | .local _ .vmem, ⟨3, _⟩ => ⟨S1x552x128, .f32⟩
  | .local _ .vmem, ⟨4, _⟩ => ⟨S1x552x128, .f32⟩
  | .local _ .vmem, ⟨5, _⟩ => ⟨S1x552x128, .f32⟩
  | .local _ .smem, ⟨0, _⟩ => ⟨S1, .i32⟩
  | _, _ => ⟨S4x2x552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x552x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x552x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x552x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSmallRefIdeal.lean ====
abbrev S4x2x552x128 : Shape := ⟨4, ![4, 2, 552, 128]⟩
abbrev S4x552x128 : Shape := ⟨3, ![4, 552, 128]⟩
abbrev S1 : Shape := ⟨1, ![1]⟩
abbrev S_ : Shape := ⟨0, ![]⟩
abbrev S4x1x552x128 : Shape := ⟨4, ![4, 1, 552, 128]⟩

abbrev nBuf : Space → Nat
  | .hbm => 13
  | .vmem => 0
  | .smem => 0
  | _ => 0

abbrev bufTy : (tb : Table) → Fin (tcTables nBuf tb) → BufTy
  | .hbm, ⟨0, _⟩ => ⟨S4x2x552x128, .f32⟩
  | .hbm, ⟨1, _⟩ => ⟨S4x552x128, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x552x128, .i1⟩
  | .hbm, ⟨7, _⟩ => ⟨S4x1x552x128, .f32⟩
  | .hbm, ⟨8, _⟩ => ⟨S4x552x128, .f32⟩
  | .hbm, ⟨9, _⟩ => ⟨S4x1x552x128, .f32⟩
  | .hbm, ⟨10, _⟩ => ⟨S4x552x128, .f32⟩
  | .hbm, ⟨11, _⟩ => ⟨S4x552x128, .f32⟩
  | .hbm, ⟨12, _⟩ => ⟨S4x552x128, .f32⟩
  | _, _ => ⟨S4x2x552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== LossSum.lean ====
abbrev S8x128 : Shape := ⟨2, ![8, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== LossSumRefIdeal.lean ====
abbrev S64x128 : Shape := ⟨2, ![64, 128]⟩
abbrev S8x8x128 : Shape := ⟨3, ![8, 8, 128]⟩
abbrev S8x1x1 : Shape := ⟨3, ![8, 1, 1]⟩
abbrev S8 : Shape := ⟨1, ![8]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x8x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Mm.Basic.lean ====
/- What the products of this certificate share: a load or a store of a whole two-axis buffer, an array read at two plain
   numbers, one step of a blocked product at an entry, and the sums of the steps. -/
module

public import Idealize.ShloMosaic.Lib.Pipeline.Value
public import Idealize.ShloMosaic.Lib.Pointwise
public import Idealize.ShloMosaic.Lib.VecWindow

@[expose] public section

set_option maxRecDepth 16384

noncomputable section

namespace Cert.Mm

open Idealize.ShloMosaic

section Whole

variable {sig : RefSig} {κ : Kind} {sp : Space} {Val : EltTy → Type} {e : EltTy} {a b : ℕ}

/-- A load of the whole of a two-axis buffer is its contents. -/
theorem readAt_all (v : View sig κ sp ⟨2, ![a, b]⟩ e) (f : v.ty.Contents Val) {off : Fin 2 → ℕ}
    (inb : ∀ k : Fin 2, off k + (![a, b] : Fin 2 → ℕ) k ≤ (![a, b] : Fin 2 → ℕ) k) :
    v.readAt Val (Rect.unit off ![a, b] inb).toLoadRect f = v.read Val f :=
  View.readAt_full v f inb

/-- A load of the whole of a two-axis buffer after a store of the whole of it is the value stored. -/
theorem readCov_all [∀ e, Nonempty (Val e)] (v : View sig κ sp ⟨2, ![a, b]⟩ e) {off off' : Fin 2 → ℕ}
    (inb : ∀ k : Fin 2, off k + (![a, b] : Fin 2 → ℕ) k ≤ (![a, b] : Fin 2 → ℕ) k)
    (inb' : ∀ k : Fin 2, off' k + (![a, b] : Fin 2 → ℕ) k ≤ (![a, b] : Fin 2 → ℕ) k)
    (w : (Rect.unit (s := ⟨2, ![a, b]⟩) off' ![a, b] inb').shape.Idx → Val e) (L : List (View.Piece Val ⟨2, ![a, b]⟩ e)) :
    v.readCov (⟨Rect.unit off' ![a, b] inb', w⟩ :: L) (Rect.unit off ![a, b] inb).toLoadRect = w :=
  View.readCov_full v inb inb' w L

/-- What a two-axis buffer holds after a store of the whole of it is the value stored. -/
theorem read_all (v : View sig κ sp ⟨2, ![a, b]⟩ e) (f : v.ty.Contents Val) {off : Fin 2 → ℕ}
    (inb : ∀ k : Fin 2, off k + (![a, b] : Fin 2 → ℕ) k ≤ (![a, b] : Fin 2 → ℕ) k)
    (w : (Rect.unit (s := ⟨2, ![a, b]⟩) off ![a, b] inb).shape.Idx → Val e) (L : List (View.Piece Val ⟨2, ![a, b]⟩ e)) :
    v.read Val (v.writes Val f (⟨Rect.unit off ![a, b] inb, w⟩ :: L)) = w :=
  View.read_writes_full v f inb w L

end Whole

variable {M N K : ℕ}

/-- The entry of a two-axis array at two plain numbers; zero outside the array. -/
def at2 (A : (⟨2, ![M, N]⟩ : Shape).Idx → EReal) (i j : ℕ) : EReal :=
  if h : i < M ∧ j < N then A (ix2 ⟨i, h.1⟩ ⟨j, h.2⟩) else 0

/-- An entry by its coordinates. -/
theorem at2_coords (A : (⟨2, ![M, N]⟩ : Shape).Idx → EReal) (y : (⟨2, ![M, N]⟩ : Shape).Idx) :
    A y = at2 A (y 0).val (y 1).val := by
  have h0 : (y 0).val < M := (y 0).isLt
  have h1 : (y 1).val < N := (y 1).isLt
  rw [at2, dif_pos ⟨h0, h1⟩]
  congr 1
  funext k
  match k with
  | ⟨0, _⟩ => rfl
  | ⟨1, _⟩ => rfl

/-- An entry at a named place. -/
theorem at2_ix (A : (⟨2, ![M, N]⟩ : Shape).Idx → EReal) (i : Fin M) (j : Fin N) : A (ix2 i j) = at2 A i.val j.val :=
  at2_coords A (ix2 i j)

/-- `n` products of two sequences from place `o` on, summed. -/
def dot (f g : ℕ → EReal) (o n : ℕ) : EReal := ∑ k ∈ Finset.range n, f (o + k) * g (o + k)

theorem sum_fin_dot (f g : ℕ → EReal) (n : ℕ) : ∑ k : Fin n, f k.val * g k.val = dot f g 0 n := by
  unfold dot
  rw [Finset.sum_range]
  simp only [zero_add]

/-- Two stretches, one after the other, are one. -/
theorem dot_add (f g : ℕ → EReal) (o n p : ℕ) : dot f g o n + dot f g (o + n) p = dot f g o (n + p) := by
  unfold dot
  rw [Finset.sum_range_add]
  simp only [add_assoc]

theorem dot_comm (f g : ℕ → EReal) (o n : ℕ) : dot f g o n = dot g f o n :=
  Finset.sum_congr rfl fun _ _ => mul_comm _ _

/-- `A B`, at an entry. -/
def nn (A : (⟨2, ![M, K]⟩ : Shape).Idx → EReal) (B : (⟨2, ![K, N]⟩ : Shape).Idx → EReal) (i j : ℕ) : EReal :=
  dot (fun k => at2 A i k) (fun k => at2 B k j) 0 K

/-- `A Bᵀ`, at an entry. -/
def nt (A : (⟨2, ![M, K]⟩ : Shape).Idx → EReal) (B : (⟨2, ![N, K]⟩ : Shape).Idx → EReal) (i j : ℕ) : EReal :=
  dot (fun k => at2 A i k) (fun k => at2 B j k) 0 K

/-- `Aᵀ B`, at an entry. -/
def tn (A : (⟨2, ![K, M]⟩ : Shape).Idx → EReal) (B : (⟨2, ![K, N]⟩ : Shape).Idx → EReal) (i j : ℕ) : EReal :=
  dot (fun k => at2 A k i) (fun k => at2 B k j) 0 K

/-- The sum a step's product prints, `A B`. -/
theorem sum_nn (A : (⟨2, ![M, K]⟩ : Shape).Idx → EReal) (B : (⟨2, ![K, N]⟩ : Shape).Idx → EReal) (i : Fin M) (j : Fin N) :
    ∑ k : Fin K, A (ix2 i k) * B (ix2 k j) = nn A B i.val j.val := by
  simp only [at2_ix]
  exact sum_fin_dot (fun k => at2 A i.val k) (fun k => at2 B k j.val) K

/-- The sum a step's product prints, `A Bᵀ`. -/
theorem sum_nt (A : (⟨2, ![M, K]⟩ : Shape).Idx → EReal) (B : (⟨2, ![N, K]⟩ : Shape).Idx → EReal) (i : Fin M) (j : Fin N) :
    ∑ k : Fin K, A (ix2 i k) * B (ix2 j k) = nt A B i.val j.val := by
  simp only [at2_ix]
  exact sum_fin_dot (fun k => at2 A i.val k) (fun k => at2 B j.val k) K

/-- The sum a step's product prints, `Aᵀ B`. -/
theorem sum_tn (A : (⟨2, ![K, M]⟩ : Shape).Idx → EReal) (B : (⟨2, ![K, N]⟩ : Shape).Idx → EReal) (i : Fin M) (j : Fin N) :
    ∑ k : Fin K, A (ix2 k i) * B (ix2 k j) = tn A B i.val j.val := by
  simp only [at2_ix]
  exact sum_fin_dot (fun k => at2 A k i.val) (fun k => at2 B k j.val) K

/-- A sum of products of entries, by where the entries are. -/
theorem sum_reads {M' N' n : ℕ} {A : (⟨2, ![M, N]⟩ : Shape).Idx → EReal} {B : (⟨2, ![M', N']⟩ : Shape).Idx → EReal} {f g : ℕ → EReal}
    {L : Fin n → (⟨2, ![M, N]⟩ : Shape).Idx} {R : Fin n → (⟨2, ![M', N']⟩ : Shape).Idx}
    (hf : ∀ k, at2 A (L k 0).val (L k 1).val = f k.val) (hg : ∀ k, at2 B (R k 0).val (R k 1).val = g k.val) :
    ∑ k : Fin n, A (L k) * B (R k) = dot f g 0 n := by
  rw [← sum_fin_dot]
  exact Finset.sum_congr rfl fun k _ => by rw [at2_coords A, at2_coords B, hf, hg]

/-- `x` is the block of `A` whose first entry is at `(i, j)`. -/
def IsBlock {m n : ℕ} (x : (⟨2, ![m, n]⟩ : Shape).Idx → EReal) (A : (⟨2, ![M, N]⟩ : Shape).Idx → EReal) (i j : ℕ) : Prop :=
  ∀ a b, a < m → b < n → at2 x a b = at2 A (i + a) (j + b)

/-- A block by the place of its entries. -/
theorem isBlock_of {m n : ℕ} (x : (⟨2, ![m, n]⟩ : Shape).Idx → EReal) (A : (⟨2, ![M, N]⟩ : Shape).Idx → EReal) (i j : ℕ)
    (emb : (⟨2, ![m, n]⟩ : Shape).Idx → (⟨2, ![M, N]⟩ : Shape).Idx) (hx : ∀ y, x y = A (emb y))
    (h0 : ∀ y, (emb y 0).val = i + 1 * (y 0).val) (h1 : ∀ y, (emb y 1).val = j + 1 * (y 1).val) : IsBlock x A i j := by
  intro a b ha hb
  rw [at2, dif_pos ⟨ha, hb⟩, hx, at2_coords A, h0, h1, one_mul, one_mul]
  rfl

/-- The product of two blocks is a stretch of the product's entry, `A B`. -/
theorem nn_block {m n k : ℕ} {x : (⟨2, ![m, k]⟩ : Shape).Idx → EReal} {w : (⟨2, ![k, n]⟩ : Shape).Idx → EReal}
    {A : (⟨2, ![M, K]⟩ : Shape).Idx → EReal} {B : (⟨2, ![K, N]⟩ : Shape).Idx → EReal} {i j o : ℕ}
    (hx : IsBlock x A i o) (hw : IsBlock w B o j) (a : Fin m) (b : Fin n) :
    nn x w a.val b.val = dot (fun t => at2 A (i + a.val) t) (fun t => at2 B t (j + b.val)) o k := by
  unfold nn dot
  refine Finset.sum_congr rfl fun t ht => ?_
  have h := Finset.mem_range.mp ht
  simp only [zero_add]
  rw [hx _ _ a.isLt (by omega), hw _ _ (by omega) b.isLt]

/-- The product of two blocks is a stretch of the product's entry, `A Bᵀ`. -/
theorem nt_block {m n k : ℕ} {x : (⟨2, ![m, k]⟩ : Shape).Idx → EReal} {w : (⟨2, ![n, k]⟩ : Shape).Idx → EReal}
    {A : (⟨2, ![M, K]⟩ : Shape).Idx → EReal} {B : (⟨2, ![N, K]⟩ : Shape).Idx → EReal} {i j o : ℕ}
    (hx : IsBlock x A i o) (hw : IsBlock w B j o) (a : Fin m) (b : Fin n) :
    nt x w a.val b.val = dot (fun t => at2 A (i + a.val) t) (fun t => at2 B (j + b.val) t) o k := by
  unfold nt dot
  refine Finset.sum_congr rfl fun t ht => ?_
  have h := Finset.mem_range.mp ht
  simp only [zero_add]
  rw [hx _ _ a.isLt (by omega), hw _ _ b.isLt (by omega)]

/-- The product of two blocks is a stretch of the product's entry, `Aᵀ B`. -/
theorem tn_block {m n k : ℕ} {x : (⟨2, ![k, m]⟩ : Shape).Idx → EReal} {w : (⟨2, ![k, n]⟩ : Shape).Idx → EReal}
    {A : (⟨2, ![K, M]⟩ : Shape).Idx → EReal} {B : (⟨2, ![K, N]⟩ : Shape).Idx → EReal} {i j o : ℕ}
    (hx : IsBlock x A o i) (hw : IsBlock w B o j) (a : Fin m) (b : Fin n) :
    tn x w a.val b.val = dot (fun t => at2 A t (i + a.val)) (fun t => at2 B t (j + b.val)) o k := by
  unfold tn dot
  refine Finset.sum_congr rfl fun t ht => ?_
  have h := Finset.mem_range.mp ht
  simp only [zero_add]
  rw [hx _ _ (by omega) a.isLt, hw _ _ (by omega) b.isLt]

/-- An index of a two-axis array lies in the block its quotients by the block's sizes name. -/
theorem mem_block {m n : ℕ} {off : Fin 2 → ℕ} (inb : ∀ k : Fin 2, off k + (![m, n] : Fin 2 → ℕ) k ≤ (![M, N] : Fin 2 → ℕ) k)
    (i : (⟨2, ![M, N]⟩ : Shape).Idx) (hm : 0 < m) (hn : 0 < n) (h0 : off 0 = (i 0).val / m * m) (h1 : off 1 = (i 1).val / n * n) :
    i ∈ (Rect.unit (s := ⟨2, ![M, N]⟩) off ![m, n] inb).set := by
  rw [Rect.mem_set_unit]
  intro k
  match k with
  | ⟨0, _⟩ =>
    show off 0 ≤ (i 0).val ∧ (i 0).val < off 0 + m
    rw [h0]
    exact ⟨Nat.div_mul_le_self _ _, Nat.lt_div_mul_add hm⟩
  | ⟨1, _⟩ =>
    show off 1 ≤ (i 1).val ∧ (i 1).val < off 1 + n
    rw [h1]
    exact ⟨Nat.div_mul_le_self _ _, Nat.lt_div_mul_add hn⟩

end Cert.Mm

end
-- ==== Proof.Mm.Up.lean ====
/- The feed-forward up product: the array the kernel leaves is the product of the two arguments. -/
module

public import proofs.«01_k».proof.Proof.Mm.Basic
public import proofs.«01_k».proof.Proof.Gen.UpIdeal.Value
public import proofs.«01_k».proof.Proof.Gen.UpRefIdeal.Run
public import proofs.«01_k».proof.Proof.Gen.UpRefIdeal.Read
public import proofs.«01_k».proof.Defs
import all proofs.«01_k».proof.Proof.Gen.UpIdeal.Frame

@[expose] public section

set_option maxRecDepth 16384

noncomputable section

namespace Cert.Mm.Up

open Cert.UpIdeal Cert.UpIdeal.Gen Idealize.ShloMosaic Idealize.ShloMosaic.TcCoe Idealize.SL.Sem

variable (m : (ℓ : Loc nD τ sig) → Buf (Elt Ideal) ℓ) (c : Dev nD)

/-- The first argument. -/
abbrev a : S4096x1024.Idx → EReal := m ((c : Thread nD τ).loc main_arg0)

/-- The second argument. -/
abbrev b : S1024x5632.Idx → EReal := m ((c : Thread nD τ).loc main_arg1)

/-- What a step adds to the sum, at an entry. -/
theorem step (v : FVec Ideal S1024x1408 .f32) (x : FVec Ideal S1024x1024 .bf16) (w : FVec Ideal S1024x1408 .bf16) (y : S1024x1408.Idx) :
    k0_pay2 v x w y = v y + nn x w (y 0).val (y 1).val := by
  rw [← sum_nn x w (y 0) (y 1)]
  unfold k0_pay2
  pointwise

/-- The sum starts from zero. -/
theorem start (y : S1024x1408.Idx) : k0_pay1 (F := Ideal) y = 0 := by
  unfold k0_pay1
  pointwise

/-- The blocks a point reads follow the block it writes. -/
theorem idx (t : Fin cfg0.N) : win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1]) t

/-- Every block of the result is written. -/
theorem onto (p q : ℕ) (hp : p < 4) (hq : q < 4) : ∃ t : Fin cfg0.N, win0_2.flush t = true ∧ win0_2.index t = ![p, q] :=
  (by decide +kernel : ∀ (p : Fin 4) (q : Fin 4), ∃ t : Fin grid0.N, win0_2.flush t = true ∧ win0_2.index t = ![p.val, q.val]) ⟨p, hp⟩ ⟨q, hq⟩

/-- The block of the first argument at a point. -/
theorem block_a (t : Fin cfg0.N) : IsBlock (iblk m c 0 t) (a m c) (win0_0.index t 0 * 1024) (win0_0.index t 1 * 1024) :=
  isBlock_of _ _ _ _ ((cfg0.win 0).blk t).view.emb (fun y => by
    show V m c main_v0 _ = _
    entry_read
    rfl)
    (fun _ => rfl) (fun _ => rfl)

/-- The block of the second argument at a point. -/
theorem block_b (t : Fin cfg0.N) : IsBlock (iblk m c 1 t) (b m c) (win0_1.index t 0 * 1024) (win0_1.index t 1 * 1408) :=
  isBlock_of _ _ _ _ ((cfg0.win 1).blk t).view.emb (fun y => by
    show V m c main_v1 _ = _
    entry_read
    rfl)
    (fun _ => rfl) (fun _ => rfl)

/-- What a point writes back. -/
theorem written (t : Fin cfg0.N) : (dats m 0 c).flushed 2 t = k0_pay2 k0_pay1 (iblk m c 0 t) (iblk m c 1 t) := by
  rw [Value.flushed2_A]
  unfold out0_A_2 kernelRun0_A
  dsimp only
  refine (View.read_writes_full VO0_2 _ inb_S1024x1408_S1024x1408_0_0 _ _).trans ?_
  sl_unfold_words
  simp only [readCov_all, readAt_all, Memref.IsWhole.read_unread]

/-- The array the kernel leaves. -/
theorem final : (dats m 0 c).arrAt 2 cfg0.N = fun i => nn (a m c) (b m c) (i 0).val (i 1).val := by
  refine (dats m 0 c).arrAt_eq_of_cover 2 _ (fun t _ => ?_) (fun i => ?_)
  · rw [written]
    funext y
    have hA := block_a m c t
    have hB := block_b m c t
    rw [(idx t).1] at hA
    rw [(idx t).2] at hB
    show _ = nn (a m c) (b m c) (win0_2.index t 0 * 1024 + 1 * (y 0).val) (win0_2.index t 1 * 1408 + 1 * (y 1).val)
    rw [step, start, zero_add, one_mul, one_mul]
    exact nn_block hA hB (y 0) (y 1)
  · have hi0 : (i 0).val < 4096 := (i 0).isLt
    have hi1 : (i 1).val < 5632 := (i 1).isLt
    obtain ⟨t, hf, ht⟩ := onto ((i 0).val / 1024) ((i 1).val / 1408) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1408) ht)

/-- The kernel and the reference end with the same array. -/
theorem algebraic : Cert.algebraic_UpIdeal_UpRefIdeal := by
  intro m g m' g' _ h
  refine ⟨fun c => (dats m 0 c).arrAt 2 cfg0.N, Value.run_blocks m g, ?_⟩
  refine (θ_run _ _ _).mono (fun r hr c => ⟨?_, (hr c).2⟩) (UpRefIdeal.Value.run m' g')
  refine Eq.trans ?_ (final m c).symm
  rw [(hr c).1, UpRefIdeal.Read.val_main_v0_eq, (h c).1, (h c).2]
  funext i
  rw [UpRefIdeal.Read.val_main_v0_apply]
  exact sum_reads (fun _ => rfl) (fun _ => rfl)

end Cert.Mm.Up

end
-- ==== Proof.Mm.Down.lean ====
/- The feed-forward down product: the array the kernel leaves is the product of the two arguments. -/
module

public import proofs.«01_k».proof.Proof.Mm.Basic
public import proofs.«01_k».proof.Proof.Gen.DownIdeal.Value
public import proofs.«01_k».proof.Proof.Gen.DownRefIdeal.Run
public import proofs.«01_k».proof.Proof.Gen.DownRefIdeal.Read
public import proofs.«01_k».proof.Defs
import all proofs.«01_k».proof.Proof.Gen.DownIdeal.Frame

@[expose] public section

set_option maxRecDepth 16384

noncomputable section

namespace Cert.Mm.Down

open Cert.DownIdeal Cert.DownIdeal.Gen Idealize.ShloMosaic Idealize.ShloMosaic.TcCoe Idealize.SL.Sem

variable (m : (ℓ : Loc nD τ sig) → Buf (Elt Ideal) ℓ) (c : Dev nD)

/-- The first argument. -/
abbrev a : S4096x2816.Idx → EReal := m ((c : Thread nD τ).loc main_arg0)

/-- The second argument. -/
abbrev b : S2816x1024.Idx → EReal := m ((c : Thread nD τ).loc main_arg1)

/-- What a step adds to the sum, at an entry. -/
theorem step (v : FVec Ideal S1024x1024 .f32) (x : FVec Ideal S1024x1408 .bf16) (w : FVec Ideal S1408x1024 .bf16) (y : S1024x1024.Idx) :
    k0_pay2 v x w y = v y + nn x w (y 0).val (y 1).val := by
  rw [← sum_nn x w (y 0) (y 1)]
  unfold k0_pay2
  pointwise

/-- The sum starts from zero. -/
theorem start (y : S1024x1024.Idx) : k0_pay1 (F := Ideal) y = 0 := by
  unfold k0_pay1
  pointwise

/-- The blocks a point reads follow the block it writes and the step of the sum; a pair of points has one block. -/
theorem idx (t : Fin cfg0.N) : win0_0.index t = ![win0_2.index t 0, t.val % 2] ∧ win0_1.index t = ![t.val % 2, win0_2.index t 1] :=
  (by decide +kernel : ∀ t : Fin grid0.N, win0_0.index t = ![win0_2.index t 0, t.val % 2] ∧ win0_1.index t = ![t.val % 2, win0_2.index t 1]) t

/-- A block is written back at its second point, and has the place it had at its first. -/
theorem pair (t : Fin cfg0.N) (h : win0_2.flush t = true) :
    t.val % 2 = 1 ∧ ∀ h' : t.val - 1 < cfg0.N, (⟨t.val - 1, h'⟩ : Fin cfg0.N).val % 2 = 0 ∧ win0_2.index ⟨t.val - 1, h'⟩ = win0_2.index t :=
  (by decide +kernel : ∀ t : Fin grid0.N, win0_2.flush t = true → t.val % 2 = 1 ∧ ∀ h' : t.val - 1 < grid0.N, (⟨t.val - 1, h'⟩ : Fin grid0.N).val % 2 = 0 ∧ win0_2.index ⟨t.val - 1, h'⟩ = win0_2.index t) t h

/-- Every block of the result is written. -/
theorem onto (p q : ℕ) (hp : p < 4) (hq : q < 1) : ∃ t : Fin cfg0.N, win0_2.flush t = true ∧ win0_2.index t = ![p, q] :=
  (by decide +kernel : ∀ (p : Fin 4) (q : Fin 1), ∃ t : Fin grid0.N, win0_2.flush t = true ∧ win0_2.index t = ![p.val, q.val]) ⟨p, hp⟩ ⟨q, hq⟩

/-- The block of the first argument at a point. -/
theorem block_a (t : Fin cfg0.N) : IsBlock (iblk m c 0 t) (a m c) (win0_0.index t 0 * 1024) (win0_0.index t 1 * 1408) :=
  isBlock_of _ _ _ _ ((cfg0.win 0).blk t).view.emb (fun y => by
    show V m c main_v0 _ = _
    entry_read
    rfl)
    (fun _ => rfl) (fun _ => rfl)

/-- The block of the second argument at a point. -/
theorem block_b (t : Fin cfg0.N) : IsBlock (iblk m c 1 t) (b m c) (win0_1.index t 0 * 1408) (win0_1.index t 1 * 1024) :=
  isBlock_of _ _ _ _ ((cfg0.win 1).blk t).view.emb (fun y => by
    show V m c main_v1 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1024x1024_S1024x1024_0_0 _ _).trans ?_
  sl_unfold_words
  simp only [readCov_all, readAt_all, Memref.IsWhole.read_unread]

/-- What the second point of a block writes back, over what the first left. -/
theorem written (t : Fin cfg0.N) (h : t.val % 2 = 1) :
    (dats m 0 c).flushed 2 t =
      k0_pay2 (outsAt0 m c (t.val - 1) (Nat.lt_of_le_of_lt (Nat.sub_le _ _) t.isLt)).2 (iblk m c 0 t) (iblk m c 1 t) := by
  rw [Value.flushed2_B m c t (by omega) h]
  unfold out0_B_2 kernelRun0_B
  dsimp only
  refine (View.read_writes_full VO0_2 _ inb_S1024x1024_S1024x1024_0_0 _ _).trans ?_
  sl_unfold_words
  simp only [readCov_all, readAt_all, Memref.IsWhole.read_unread]
  exact congrArg (fun v => k0_pay2 v (iblk m c 0 t) (iblk m c 1 t)) ((Memref.isWhole_whole cc0_scratch0).read_unread _)

/-- The array the kernel leaves. -/
theorem final : (dats m 0 c).arrAt 2 cfg0.N = fun i => nn (a m c) (b m c) (i 0).val (i 1).val := by
  refine (dats m 0 c).arrAt_eq_of_cover 2 _ (fun t ht => ?_) (fun i => ?_)
  · obtain ⟨h1, hp⟩ := pair t ht
    have hlt : t.val - 1 < cfg0.N := Nat.lt_of_le_of_lt (Nat.sub_le _ _) t.isLt
    obtain ⟨h0, hi⟩ := hp hlt
    rw [written m c t h1]
    funext y
    have hA := block_a m c t
    have hB := block_b m c t
    have hA' := block_a m c ⟨t.val - 1, hlt⟩
    have hB' := block_b m c ⟨t.val - 1, hlt⟩
    rw [(idx t).1, h1] at hA
    rw [(idx t).2, h1] at hB
    rw [(idx _).1, h0, hi] at hA'
    rw [(idx _).2, h0, hi] at hB'
    show _ = nn (a m c) (b m c) (win0_2.index t 0 * 1024 + 1 * (y 0).val) (win0_2.index t 1 * 1024 + 1 * (y 1).val)
    rw [step, first m c ⟨t.val - 1, hlt⟩ h0, step, start, zero_add, one_mul, one_mul]
    rw [nn_block hA hB (y 0) (y 1), nn_block hA' hB' (y 0) (y 1)]
    exact dot_add _ _ 0 1408 1408
  · have hi0 : (i 0).val < 4096 := (i 0).isLt
    have hi1 : (i 1).val < 1024 := (i 1).isLt
    obtain ⟨t, hf, ht⟩ := onto ((i 0).val / 1024) ((i 1).val / 1024) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_DownIdeal_DownRefIdeal := by
  intro m g m' g' _ h
  refine ⟨fun c => (dats m 0 c).arrAt 2 cfg0.N, Value.run_blocks m g, ?_⟩
  refine (θ_run _ _ _).mono (fun r hr c => ⟨?_, (hr c).2⟩) (DownRefIdeal.Value.run m' g')
  refine Eq.trans ?_ (final m c).symm
  rw [(hr c).1, DownRefIdeal.Read.val_main_v0_eq, (h c).1, (h c).2]
  funext i
  rw [DownRefIdeal.Read.val_main_v0_apply]
  exact sum_reads (fun _ => rfl) (fun _ => rfl)

end Cert.Mm.Down

end
-- ==== Proof.Mm.DownDx.lean ====
/- The gradient of the activation under the feed-forward down product: the array the kernel leaves is `a bᵀ`. -/
module

public import proofs.«01_k».proof.Proof.Mm.Basic
public import proofs.«01_k».proof.Proof.Gen.DownDxIdeal.Value
public import proofs.«01_k».proof.Proof.Gen.DownDxRefIdeal.Run
public import proofs.«01_k».proof.Proof.Gen.DownDxRefIdeal.Read
public import proofs.«01_k».proof.Defs
import all proofs.«01_k».proof.Proof.Gen.DownDxIdeal.Frame

@[expose] public section

set_option maxRecDepth 16384

noncomputable section

namespace Cert.Mm.DownDx

open Cert.DownDxIdeal Cert.DownDxIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg1)

/-- The right factor. -/
abbrev b : S2816x1024.Idx → EReal := m ((c : Thread nD τ).loc main_arg0)

/-- What a step adds to the sum, at an entry. -/
theorem step (v : FVec Ideal S1024x1408 .f32) (x : FVec Ideal S1024x1024 .bf16) (w : FVec Ideal S1408x1024 .bf16) (y : S1024x1408.Idx) :
    k0_pay2 v x w y = v y + nt x w (y 0).val (y 1).val := by
  rw [← sum_nt x w (y 0) (y 1)]
  unfold k0_pay2
  pointwise

/-- The sum starts from zero. -/
theorem start (y : S1024x1408.Idx) : k0_pay1 (F := Ideal) y = 0 := by
  unfold k0_pay1
  pointwise

/-- The blocks a point reads follow the block it writes. -/
theorem idx (t : Fin cfg0.N) : win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0]) t

/-- Every block of the result is written. -/
theorem onto (p q : ℕ) (hp : p < 4) (hq : q < 2) : ∃ t : Fin cfg0.N, win0_2.flush t = true ∧ win0_2.index t = ![p, q] :=
  (by decide +kernel : ∀ (p : Fin 4) (q : Fin 2), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 1408) (win0_1.index t 1 * 1024) :=
  isBlock_of _ _ _ _ ((cfg0.win 1).blk t).view.emb (fun y => by
    show V m c main_v1 _ = _
    entry_read
    rfl)
    (fun _ => rfl) (fun _ => rfl)

/-- What a point writes back. -/
theorem written (t : Fin cfg0.N) : (dats m 0 c).flushed 2 t = k0_pay2 k0_pay1 (iblk m c 0 t) (iblk m c 1 t) := by
  rw [Value.flushed2_A]
  unfold out0_A_2 kernelRun0_A
  dsimp only
  refine (View.read_writes_full VO0_2 _ inb_S1024x1408_S1024x1408_0_0 _ _).trans ?_
  sl_unfold_words
  simp only [readCov_all, readAt_all, Memref.IsWhole.read_unread]

/-- The array the kernel leaves. -/
theorem final : (dats m 0 c).arrAt 2 cfg0.N = fun i => nt (a m c) (b m c) (i 0).val (i 1).val := by
  refine (dats m 0 c).arrAt_eq_of_cover 2 _ (fun t _ => ?_) (fun i => ?_)
  · rw [written]
    funext y
    have hA := block_a m c t
    have hB := block_b m c t
    rw [(idx t).1] at hA
    rw [(idx t).2] at hB
    show _ = nt (a m c) (b m c) (win0_2.index t 0 * 1024 + 1 * (y 0).val) (win0_2.index t 1 * 1408 + 1 * (y 1).val)
    rw [one_mul, one_mul]
    rw [step, start, zero_add]
    exact nt_block hA hB (y 0) (y 1)
  · have hi0 : (i 0).val < 4096 := (i 0).isLt
    have hi1 : (i 1).val < 2816 := (i 1).isLt
    obtain ⟨t, hf, ht⟩ := onto ((i 0).val / 1024) ((i 1).val / 1408) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1408) ht)

/-- The kernel and the reference end with the same array. -/
theorem algebraic : Cert.algebraic_DownDxIdeal_DownDxRefIdeal := by
  intro m g m' g' _ h
  refine ⟨fun c => (dats m 0 c).arrAt 2 cfg0.N, Value.run_blocks m g, ?_⟩
  refine (θ_run _ _ _).mono (fun r hr c => ⟨?_, (hr c).2⟩) (DownDxRefIdeal.Value.run m' g')
  refine Eq.trans ?_ (final m c).symm
  rw [(hr c).1, DownDxRefIdeal.Read.val_main_v2_eq, (h c).1, (h c).2]
  funext i
  rw [DownDxRefIdeal.Read.val_main_v2_apply]
  exact sum_reads (fun _ => rfl) (fun _ => rfl)

end Cert.Mm.DownDx

end
-- ==== Proof.Mm.DownDw.lean ====
/- The gradient of the feed-forward down weight: the array the kernel leaves is `aᵀ b`. -/
module

public import proofs.«01_k».proof.Proof.Mm.Basic
public import proofs.«01_k».proof.Proof.Gen.DownDwIdeal.Value
public import proofs.«01_k».proof.Proof.Gen.DownDwRefIdeal.Run
public import proofs.«01_k».proof.Proof.Gen.DownDwRefIdeal.Read
public import proofs.«01_k».proof.Defs
import all proofs.«01_k».proof.Proof.Gen.DownDwIdeal.Frame

@[expose] public section

set_option maxRecDepth 16384

noncomputable section

namespace Cert.Mm.DownDw

open Cert.DownDwIdeal Cert.DownDwIdeal.Gen Idealize.ShloMosaic Idealize.ShloMosaic.TcCoe Idealize.SL.Sem

variable (m : (ℓ : Loc nD τ sig) → Buf (Elt Ideal) ℓ) (c : Dev nD)

/-- The left factor. -/
abbrev a : S4096x2816.Idx → EReal := m ((c : Thread nD τ).loc main_arg0)

/-- The right factor. -/
abbrev b : S4096x1024.Idx → EReal := m ((c : Thread nD τ).loc main_arg1)

/-- What a step adds to the sum, at an entry. -/
theorem step (v : FVec Ideal S1408x1024 .f32) (x : FVec Ideal S2048x1408 .bf16) (w : FVec Ideal S2048x1024 .bf16) (y : S1408x1024.Idx) :
    k0_pay2 v x w y = v y + tn x w (y 0).val (y 1).val := by
  rw [← sum_tn x w (y 0) (y 1)]
  unfold k0_pay2
  pointwise

/-- The sum starts from zero. -/
theorem start (y : S1408x1024.Idx) : k0_pay1 (F := Ideal) y = 0 := by
  unfold k0_pay1
  pointwise

/-- The blocks a point reads follow the block it writes and the step of the sum. -/
theorem idx (t : Fin cfg0.N) : win0_0.index t = ![t.val % 2, win0_2.index t 0] ∧ win0_1.index t = ![t.val % 2, win0_2.index t 1] :=
  (by decide +kernel : ∀ t : Fin grid0.N, win0_0.index t = ![t.val % 2, win0_2.index t 0] ∧ win0_1.index t = ![t.val % 2, win0_2.index t 1]) t

/-- A block is written back at its second point, and has the place it had at its first. -/
theorem pair (t : Fin cfg0.N) (h : win0_2.flush t = true) :
    t.val % 2 = 1 ∧ ∀ h' : t.val - 1 < cfg0.N, (⟨t.val - 1, h'⟩ : Fin cfg0.N).val % 2 = 0 ∧ win0_2.index ⟨t.val - 1, h'⟩ = win0_2.index t :=
  (by decide +kernel : ∀ t : Fin grid0.N, win0_2.flush t = true → t.val % 2 = 1 ∧ ∀ h' : t.val - 1 < grid0.N, (⟨t.val - 1, h'⟩ : Fin grid0.N).val % 2 = 0 ∧ win0_2.index ⟨t.val - 1, h'⟩ = win0_2.index t) t h

/-- Every block of the result is written. -/
theorem onto (p q : ℕ) (hp : p < 2) (hq : q < 1) : ∃ t : Fin cfg0.N, win0_2.flush t = true ∧ win0_2.index t = ![p, q] :=
  (by decide +kernel : ∀ (p : Fin 2) (q : Fin 1), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 2048) (win0_0.index t 1 * 1408) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 2048) (win0_1.index t 1 * 1024) :=
  isBlock_of _ _ _ _ ((cfg0.win 1).blk t).view.emb (fun y => by
    show V m c main_v1 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1408x1024_S1408x1024_0_0 _ _).trans ?_
  sl_unfold_words
  simp only [readCov_all, readAt_all, Memref.IsWhole.read_unread]

/-- What the last point of a block writes back, over what the point before left. -/
theorem written (t : Fin cfg0.N) (h : t.val % 2 = 1) :
    (dats m 0 c).flushed 2 t = k0_pay2 (outsAt0 m c (t.val - 1) (Nat.lt_of_le_of_lt (Nat.sub_le _ _) t.isLt)).2 (iblk m c 0 t) (iblk m c 1 t) := by
  rw [Value.flushed2_B m c t (by omega) h]
  unfold out0_B_2 kernelRun0_B
  dsimp only
  refine (View.read_writes_full VO0_2 _ inb_S1408x1024_S1408x1024_0_0 _ _).trans ?_
  sl_unfold_words
  simp only [readCov_all, readAt_all, Memref.IsWhole.read_unread]
  exact congrArg (fun v => k0_pay2 v (iblk m c 0 t) (iblk m c 1 t)) ((Memref.isWhole_whole cc0_scratch0).read_unread _)

/-- The array the kernel leaves. -/
theorem final : (dats m 0 c).arrAt 2 cfg0.N = fun i => tn (a m c) (b m c) (i 0).val (i 1).val := by
  refine (dats m 0 c).arrAt_eq_of_cover 2 _ (fun t ht => ?_) (fun i => ?_)
  · obtain ⟨h1, hp⟩ := pair t ht
    have hlt : t.val - 1 < cfg0.N := Nat.lt_of_le_of_lt (Nat.sub_le _ _) t.isLt
    obtain ⟨h0, hi⟩ := hp hlt
    rw [written m c t h1]
    funext y
    have hA := block_a m c t
    have hB := block_b m c t
    have hA' := block_a m c ⟨t.val - 1, hlt⟩
    have hB' := block_b m c ⟨t.val - 1, hlt⟩
    rw [(idx t).1, h1] at hA
    rw [(idx t).2, h1] at hB
    rw [(idx _).1, h0, hi] at hA'
    rw [(idx _).2, h0, hi] at hB'
    show _ = tn (a m c) (b m c) (win0_2.index t 0 * 1408 + 1 * (y 0).val) (win0_2.index t 1 * 1024 + 1 * (y 1).val)
    rw [one_mul, one_mul]
    rw [step, first m c ⟨t.val - 1, hlt⟩ h0, step, start, zero_add]
    rw [tn_block hA hB (y 0) (y 1), tn_block hA' hB' (y 0) (y 1)]
    exact dot_add _ _ 0 2048 2048
  · have hi0 : (i 0).val < 2816 := (i 0).isLt
    have hi1 : (i 1).val < 1024 := (i 1).isLt
    obtain ⟨t, hf, ht⟩ := onto ((i 0).val / 1408) ((i 1).val / 1024) (by omega) (by omega)
    refine ⟨t, hf, ?_⟩
    show i ∈ ((View.whole main_v2).slice (win0_2.rect t)).set
    rw [View.set_slice_whole]
    exact mem_block _ i (by decide) (by decide) (congrArg (fun f => f 0 * 1408) ht) (congrArg (fun f => f 1 * 1024) ht)

/-- The kernel and the reference end with the same array. -/
theorem algebraic : Cert.algebraic_DownDwIdeal_DownDwRefIdeal := by
  intro m g m' g' _ h
  refine ⟨fun c => (dats m 0 c).arrAt 2 cfg0.N, Value.run_blocks m g, ?_⟩
  refine (θ_run _ _ _).mono (fun r hr c => ⟨?_, (hr c).2⟩) (DownDwRefIdeal.Value.run m' g')
  refine Eq.trans ?_ (final m c).symm
  rw [(hr c).1, DownDwRefIdeal.Read.val_main_v3_eq, (h c).1, (h c).2]
  funext i
  rw [DownDwRefIdeal.Read.val_main_v3_apply, DownDwRefIdeal.Read.val_main_v2_apply]
  exact (sum_reads (fun _ => rfl) (fun _ => rfl)).trans (dot_comm _ _ _ _)

end Cert.Mm.DownDw

end
-- ==== Proof.Mm.HalfDx.lean ====
/- The gradient of the normalised input through one half of the feed-forward up product, added to what is there: the array the kernel leaves is `a bᵀ` plus the third argument. -/
module

public import proofs.«01_k».proof.Proof.Mm.Basic
public import proofs.«01_k».proof.Proof.Gen.HalfDxIdeal.Value
public import proofs.«01_k».proof.Proof.Gen.HalfDxRefIdeal.Run
public import proofs.«01_k».proof.Proof.Gen.HalfDxRefIdeal.Read
public import proofs.«01_k».proof.Defs
import all proofs.«01_k».proof.Proof.Gen.HalfDxIdeal.Frame

@[expose] public section

set_option maxRecDepth 16384

noncomputable section

namespace Cert.Mm.HalfDx

open Cert.HalfDxIdeal Cert.HalfDxIdeal.Gen Idealize.ShloMosaic Idealize.ShloMosaic.TcCoe Idealize.SL.Sem

variable (m : (ℓ : Loc nD τ sig) → Buf (Elt Ideal) ℓ) (c : Dev nD)

/-- The left factor. -/
abbrev a : S4096x2816.Idx → EReal := m ((c : Thread nD τ).loc main_arg1)

/-- The right factor. -/
abbrev b : S1024x2816.Idx → EReal := m ((c : Thread nD τ).loc main_arg0)

/-- What the product is added to. -/
abbrev d : S4096x1024.Idx → EReal := m ((c : Thread nD τ).loc main_arg2)

/-- What a step adds to the sum, at an entry. -/
theorem step (v : FVec Ideal S1024x1024 .f32) (x : FVec Ideal S1024x1408 .bf16) (w : FVec Ideal S1024x1408 .bf16) (y : S1024x1024.Idx) :
    k0_pay2 v x w y = v y + nt x w (y 0).val (y 1).val := by
  rw [← sum_nt x w (y 0) (y 1)]
  unfold k0_pay2
  pointwise

/-- The sum starts from zero. -/
theorem start (y : S1024x1024.Idx) : k0_pay1 (F := Ideal) y = 0 := by
  unfold k0_pay1
  pointwise

/-- The blocks a point reads follow the block it writes and the step of the sum. -/
theorem idx (t : Fin cfg0.N) : win0_0.index t = ![win0_3.index t 0, t.val % 2] ∧ win0_1.index t = ![win0_3.index t 1, t.val % 2] ∧ win0_2.index t = win0_3.index t :=
  (by decide +kernel : ∀ t : Fin grid0.N, win0_0.index t = ![win0_3.index t 0, t.val % 2] ∧ win0_1.index t = ![win0_3.index t 1, t.val % 2] ∧ win0_2.index t = win0_3.index t) t

/-- A block is written back at its second point, and has the place it had at its first. -/
theorem pair (t : Fin cfg0.N) (h : win0_3.flush t = true) :
    t.val % 2 = 1 ∧ ∀ h' : t.val - 1 < cfg0.N, (⟨t.val - 1, h'⟩ : Fin cfg0.N).val % 2 = 0 ∧ win0_3.index ⟨t.val - 1, h'⟩ = win0_3.index t :=
  (by decide +kernel : ∀ t : Fin grid0.N, win0_3.flush t = true → t.val % 2 = 1 ∧ ∀ h' : t.val - 1 < grid0.N, (⟨t.val - 1, h'⟩ : Fin grid0.N).val % 2 = 0 ∧ win0_3.index ⟨t.val - 1, h'⟩ = win0_3.index t) t h

/-- Every block of the result is written. -/
theorem onto (p q : ℕ) (hp : p < 4) (hq : q < 1) : ∃ t : Fin cfg0.N, win0_3.flush t = true ∧ win0_3.index t = ![p, q] :=
  (by decide +kernel : ∀ (p : Fin 4) (q : Fin 1), ∃ t : Fin grid0.N, win0_3.flush t = true ∧ win0_3.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 1408) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 1024) (win0_1.index t 1 * 1408) :=
  isBlock_of _ _ _ _ ((cfg0.win 1).blk t).view.emb (fun y => by
    show V m c main_v1 _ = _
    entry_read
    rfl)
    (fun _ => rfl) (fun _ => rfl)

/-- The block of the array added to at a point. -/
theorem block_d (t : Fin cfg0.N) : IsBlock (iblk m c 2 t) (d m c) (win0_2.index t 0 * 1024) (win0_2.index t 1 * 1024) :=
  isBlock_of _ _ _ _ ((cfg0.win 2).blk t).view.emb (fun y => by
    show V m c main_arg2 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1024x1024_S1024x1024_0_0 _ _).trans ?_
  sl_unfold_words
  simp only [readCov_all, readAt_all, Memref.IsWhole.read_unread]

/-- What the last point of a block writes back, over what the point before left. -/
theorem written (t : Fin cfg0.N) (h : t.val % 2 = 1) :
    (dats m 0 c).flushed 3 t = k0_pay3 (k0_pay2 (outsAt0 m c (t.val - 1) (Nat.lt_of_le_of_lt (Nat.sub_le _ _) t.isLt)).2 (iblk m c 0 t) (iblk m c 1 t)) (iblk m c 2 t) := by
  rw [Value.flushed3_B m c t (by omega) h]
  unfold out0_B_3 kernelRun0_B
  dsimp only
  refine (View.read_writes_full VO0_3 _ inb_S1024x1024_S1024x1024_0_0 _ _).trans ?_
  sl_unfold_words
  simp only [readCov_all, readAt_all, Memref.IsWhole.read_unread]
  exact congrArg (fun v => k0_pay3 (k0_pay2 v (iblk m c 0 t) (iblk m c 1 t)) (iblk m c 2 t)) ((Memref.isWhole_whole cc0_scratch0).read_unread _)

/-- The array the kernel leaves. -/
theorem final : (dats m 0 c).arrAt 3 cfg0.N = fun i => nt (a m c) (b m c) (i 0).val (i 1).val + at2 (d m c) (i 0).val (i 1).val := by
  refine (dats m 0 c).arrAt_eq_of_cover 3 _ (fun t ht => ?_) (fun i => ?_)
  · obtain ⟨h1, hp⟩ := pair t ht
    have hlt : t.val - 1 < cfg0.N := Nat.lt_of_le_of_lt (Nat.sub_le _ _) t.isLt
    obtain ⟨h0, hi⟩ := hp hlt
    rw [written m c t h1]
    funext y
    have hA := block_a m c t
    have hB := block_b m c t
    have hA' := block_a m c ⟨t.val - 1, hlt⟩
    have hB' := block_b m c ⟨t.val - 1, hlt⟩
    rw [(idx t).1, h1] at hA
    rw [(idx t).2.1, h1] at hB
    rw [(idx _).1, h0, hi] at hA'
    rw [(idx _).2.1, h0, hi] at hB'
    have hD := block_d m c t
    rw [(idx t).2.2] at hD
    show _ = nt (a m c) (b m c) (win0_3.index t 0 * 1024 + 1 * (y 0).val) (win0_3.index t 1 * 1024 + 1 * (y 1).val) + at2 (d m c) (win0_3.index t 0 * 1024 + 1 * (y 0).val) (win0_3.index t 1 * 1024 + 1 * (y 1).val)
    rw [one_mul, one_mul]
    show k0_pay2 _ _ _ y + iblk m c 2 t y = _
    rw [at2_coords (iblk m c 2 t) y, hD _ _ (y 0).isLt (y 1).isLt]
    refine congrArg (· + _) ?_
    rw [step, first m c ⟨t.val - 1, hlt⟩ h0, step, start, zero_add]
    rw [nt_block hA hB (y 0) (y 1), nt_block hA' hB' (y 0) (y 1)]
    exact dot_add _ _ 0 1408 1408
  · have hi0 : (i 0).val < 4096 := (i 0).isLt
    have hi1 : (i 1).val < 1024 := (i 1).isLt
    obtain ⟨t, hf, ht⟩ := onto ((i 0).val / 1024) ((i 1).val / 1024) (by omega) (by omega)
    refine ⟨t, hf, ?_⟩
    show i ∈ ((View.whole main_v2).slice (win0_3.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_HalfDxIdeal_HalfDxRefIdeal := by
  intro m g m' g' _ h
  refine ⟨fun c => (dats m 0 c).arrAt 3 cfg0.N, Value.run_blocks m g, ?_⟩
  refine (θ_run _ _ _).mono (fun r hr c => ⟨?_, (hr c).2⟩) (HalfDxRefIdeal.Value.run m' g')
  refine Eq.trans ?_ (final m c).symm
  rw [(hr c).1, HalfDxRefIdeal.Read.val_main_v3_eq, (h c).1, (h c).2.1, (h c).2.2]
  funext i
  rw [HalfDxRefIdeal.Read.val_main_v3_apply, HalfDxRefIdeal.Read.val_main_v2_apply, ← at2_coords (d m c) i]
  exact congrArg (· + _) (sum_reads (fun _ => rfl) (fun _ => rfl))

end Cert.Mm.HalfDx

end
-- ==== Proof.Mm.UpDw.lean ====
/- The gradient of one half of the feed-forward up weight, written by pieces behind the pieces of the other half: the array the
   kernel leaves is the first two pieces of the third argument, then the two pieces of `aᵀ b`. -/
module

public import proofs.«01_k».proof.Proof.Mm.Basic
public import proofs.«01_k».proof.Proof.Gen.UpDwIdeal.Value
public import proofs.«01_k».proof.Proof.Gen.UpDwRefIdeal.Run
public import proofs.«01_k».proof.Proof.Gen.UpDwRefIdeal.Read
public import proofs.«01_k».proof.Defs
import all proofs.«01_k».proof.Proof.Gen.UpDwIdeal.Frame

@[expose] public section

set_option maxRecDepth 16384

noncomputable section

namespace Cert.Mm.UpDw

open Cert.UpDwIdeal Cert.UpDwIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg0)

/-- The right factor. -/
abbrev b : S4096x2816.Idx → EReal := m ((c : Thread nD τ).loc main_arg1)

/-- The pieces that are there before. -/
abbrev d : S4x1024x1408.Idx → EReal := m ((c : Thread nD τ).loc main_arg2)

/-- What a step adds to the sum, at an entry. -/
theorem step (v : FVec Ideal S1024x1408 .f32) (x : FVec Ideal S2048x1024 .bf16) (w : FVec Ideal S2048x1408 .bf16) (y : S1024x1408.Idx) :
    k0_pay2 v x w y = v y + tn x w (y 0).val (y 1).val := by
  rw [← sum_tn x w (y 0) (y 1)]
  unfold k0_pay2
  pointwise

/-- The sum starts from zero. -/
theorem start (y : S1024x1408.Idx) : k0_pay1 (F := Ideal) y = 0 := by
  unfold k0_pay1
  pointwise

/-- A sum as one piece of the result. -/
theorem piece (v : FVec Ideal S1024x1408 .f32) (y : S1x1024x1408.Idx) : k0_pay3 v y = v (ix2 (⟨(y 1).val, (y 1).isLt⟩ : Fin 1024) (⟨(y 2).val, (y 2).isLt⟩ : Fin 1408)) := by
  unfold k0_pay3
  pointwise

/-- The blocks a point reads follow the piece it writes and the step of the sum; the pieces written are the last two. -/
theorem idx (t : Fin cfg0.N) :
    2 ≤ win0_2.index t 0 ∧ win0_2.index t 1 = 0 ∧ win0_2.index t 2 = 0 ∧
      win0_0.index t = ![t.val % 2, 0] ∧ win0_1.index t = ![t.val % 2, win0_2.index t 0 - 2] :=
  (by decide +kernel : ∀ t : Fin grid0.N, 2 ≤ win0_2.index t 0 ∧ win0_2.index t 1 = 0 ∧ win0_2.index t 2 = 0 ∧
    win0_0.index t = ![t.val % 2, 0] ∧ win0_1.index t = ![t.val % 2, win0_2.index t 0 - 2]) t

/-- A piece is written back at its second point, and has the place it had at its first. -/
theorem pair (t : Fin cfg0.N) (h : win0_2.flush t = true) :
    t.val % 2 = 1 ∧ ∀ h' : t.val - 1 < cfg0.N, (⟨t.val - 1, h'⟩ : Fin cfg0.N).val % 2 = 0 ∧ win0_2.index ⟨t.val - 1, h'⟩ = win0_2.index t :=
  (by decide +kernel : ∀ t : Fin grid0.N, win0_2.flush t = true → t.val % 2 = 1 ∧ ∀ h' : t.val - 1 < grid0.N, (⟨t.val - 1, h'⟩ : Fin grid0.N).val % 2 = 0 ∧ win0_2.index ⟨t.val - 1, h'⟩ = win0_2.index t) t h

/-- Each of the last two pieces is written. -/
theorem onto (p : ℕ) (hp : 2 ≤ p) (hp' : p < 4) : ∃ t : Fin cfg0.N, win0_2.flush t = true ∧ win0_2.index t = ![p, 0, 0] :=
  (by decide +kernel : ∀ p : Fin 4, 2 ≤ p.val → ∃ t : Fin grid0.N, win0_2.flush t = true ∧ win0_2.index t = ![p.val, 0, 0]) ⟨p, hp'⟩ hp

/-- The block of the left factor at a point. -/
theorem block_a (t : Fin cfg0.N) : IsBlock (iblk m c 0 t) (a m c) (win0_0.index t 0 * 2048) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 2048) (win0_1.index t 1 * 1408) :=
  isBlock_of _ _ _ _ ((cfg0.win 1).blk t).view.emb (fun y => by
    show V m c main_v1 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1024x1408_S1024x1408_0_0 _ _).trans ?_
  sl_unfold_words
  simp only [readCov_all, readAt_all, Memref.IsWhole.read_unread]

/-- What the last point of a piece writes back, over what the point before left. -/
theorem written (t : Fin cfg0.N) (h : t.val % 2 = 1) :
    (dats m 0 c).flushed 2 t =
      k0_pay3 (k0_pay2 (outsAt0 m c (t.val - 1) (Nat.lt_of_le_of_lt (Nat.sub_le _ _) t.isLt)).2 (iblk m c 0 t) (iblk m c 1 t)) := by
  rw [Value.flushed2_B m c t (by omega) h]
  unfold out0_B_2 kernelRun0_B
  dsimp only
  refine (View.read_writes_full VO0_2 _ inb_S1x1024x1408_S1x1024x1408_0_0_0 _ _).trans ?_
  sl_unfold_words
  simp only [readCov_all, readAt_all, Memref.IsWhole.read_unread]
  exact congrArg (fun v => k0_pay3 (k0_pay2 v (iblk m c 0 t) (iblk m c 1 t))) ((Memref.isWhole_whole cc0_scratch0).read_unread _)

/-- The last two pieces: the product, cut along its columns. -/
def pieces (i : S4x1024x1408.Idx) : EReal := tn (a m c) (b m c) (i 1).val (((i 0).val - 2) * 1408 + (i 2).val)

/-- What is written back is a piece of the product. -/
theorem written_piece (t : Fin cfg0.N) (ht : win0_2.flush t = true) :
    (dats m 0 c).flushed 2 t = ((cfg0.win 2).blk t).view.read (Elt Ideal) (pieces m c) := by
  obtain ⟨h1, hp⟩ := pair t ht
  have hlt : t.val - 1 < cfg0.N := Nat.lt_of_le_of_lt (Nat.sub_le _ _) t.isLt
  obtain ⟨h0, hi⟩ := hp hlt
  obtain ⟨_, e1, e2, eA, eB⟩ := idx t
  rw [written m c t h1]
  funext y
  have hA : IsBlock (iblk m c 0 t) (a m c) (0 + 2048) 0 := by
    have h := block_a m c t
    rw [eA, h1] at h
    exact h
  have hB : IsBlock (iblk m c 1 t) (b m c) (0 + 2048) ((win0_2.index t 0 - 2) * 1408) := by
    have h := block_b m c t
    rw [eB, h1] at h
    exact h
  have hA' : IsBlock (iblk m c 0 ⟨t.val - 1, hlt⟩) (a m c) 0 0 := by
    have h := block_a m c ⟨t.val - 1, hlt⟩
    rw [(idx _).2.2.2.1, h0] at h
    exact h
  have hB' : IsBlock (iblk m c 1 ⟨t.val - 1, hlt⟩) (b m c) 0 ((win0_2.index t 0 - 2) * 1408) := by
    have h := block_b m c ⟨t.val - 1, hlt⟩
    rw [(idx _).2.2.2.2, h0, hi] at h
    exact h
  have hy : (y 0).val = 0 := Nat.lt_one_iff.mp (y 0).isLt
  show _ = tn (a m c) (b m c) (win0_2.index t 1 * 1024 + 1 * (y 1).val)
    ((win0_2.index t 0 * 1 + 1 * (y 0).val - 2) * 1408 + (win0_2.index t 2 * 1408 + 1 * (y 2).val))
  rw [piece, step, first m c ⟨t.val - 1, hlt⟩ h0, step, start, zero_add, e1, e2, hy]
  refine (congrArg₂ (· + ·) (tn_block hA' hB' (y 1) (y 2)) (tn_block hA hB (y 1) (y 2))).trans ?_
  rw [dot_add]
  simp only [zero_mul, zero_add, one_mul, mul_zero, mul_one, add_zero]
  rfl

/-- The array the kernel leaves. -/
theorem final : (dats m 0 c).arrAt 2 cfg0.N = fun i => if (i 0).val < 2 then d m c i else pieces m c i := by
  funext i
  split
  · rename_i h
    rw [Value.entry2 m c i ?_]
    · show V m c main_v2 i = _
      entry_read
      rfl
    · intro t _ hi
      have hi' : i ∈ ((View.whole main_v2).slice (win0_2.rect t)).set := hi
      rw [View.set_slice_whole] at hi'
      have h0 := (Rect.mem_set_unit.mp hi' 0).1
      have h0' : win0_2.index t (0 : Fin 3) * 1 ≤ (i 0).val := h0
      have := (idx t).1
      omega
  · rename_i h
    have hi0 : (i 0).val < 4 := (i 0).isLt
    have hi1 : (i 1).val < 1024 := (i 1).isLt
    have hi2 : (i 2).val < 1408 := (i 2).isLt
    obtain ⟨t, hf, ht⟩ := onto (i 0).val (by omega) hi0
    refine (dats m 0 c).arrAt_apply_of_mem 2 (pieces m c) (written_piece m c) cfg0.N t i t.isLt hf ?_
    show i ∈ ((View.whole main_v2).slice (win0_2.rect t)).set
    rw [View.set_slice_whole]
    have q0 : win0_2.index t (0 : Fin 3) = (i 0).val := congrFun ht 0
    have q1 : win0_2.index t (1 : Fin 3) = 0 := congrFun ht 1
    have q2 : win0_2.index t (2 : Fin 3) = 0 := congrFun ht 2
    refine Rect.mem_set_unit.mpr fun k => ?_
    match k with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 1024 ≤ (i 1).val ∧ (i 1).val < win0_2.index t (1 : Fin 3) * 1024 + 1024
      omega
    | ⟨2, _⟩ =>
      show win0_2.index t (2 : Fin 3) * 1408 ≤ (i 2).val ∧ (i 2).val < win0_2.index t (2 : Fin 3) * 1408 + 1408
      omega

/-- The reference's array. -/
theorem reference (i : S4x1024x1408.Idx) :
    UpDwRefIdeal.Read.val_main_v7 (F := Ideal) (a m c) (b m c) (d m c) i = if (i 0).val < 2 then d m c i else pieces m c i := by
  have hi0 : (i 0).val < 4 := (i 0).isLt
  have hi1 : (i 1).val < 1024 := (i 1).isLt
  have hi2 : (i 2).val < 1408 := (i 2).isLt
  unfold UpDwRefIdeal.Read.val_main_v7
  by_cases h : (i 0).val < 2
  · rw [if_pos h]
    let j : UpDwRefIdeal.S2x1024x1408.Idx := fun k => match k with
      | ⟨0, _⟩ => ⟨(i 0).val, h⟩
      | ⟨1, _⟩ => ⟨(i 1).val, hi1⟩
      | ⟨2, _⟩ => ⟨(i 2).val, hi2⟩
    refine (concatenate_pair_apply_left (s₁ := UpDwRefIdeal.S2x1024x1408) (s₂ := UpDwRefIdeal.S2x1024x1408) 0 _ _ _ i rfl j fun k => ?_).trans ?_
    · match k with
      | ⟨0, _⟩ => rfl
      | ⟨1, _⟩ => rfl
      | ⟨2, _⟩ => rfl
    · rw [UpDwRefIdeal.Read.val_main_v0_apply]
      congr 1
      funext k
      match k with
      | ⟨0, _⟩ => rfl
      | ⟨1, _⟩ => rfl
      | ⟨2, _⟩ => rfl
  · rw [if_neg h]
    let j : UpDwRefIdeal.S2x1024x1408.Idx := fun k => match k with
      | ⟨0, _⟩ => ⟨(i 0).val - 2, by show _ < 2; omega⟩
      | ⟨1, _⟩ => ⟨(i 1).val, hi1⟩
      | ⟨2, _⟩ => ⟨(i 2).val, hi2⟩
    refine (concatenate_pair_apply_right (s₁ := UpDwRefIdeal.S2x1024x1408) (s₂ := UpDwRefIdeal.S2x1024x1408) 0 _ _ _ i rfl rfl j (fun k hk => ?_) ?_).trans ?_
    · match k, hk with
      | ⟨0, _⟩, hk => exact absurd rfl hk
      | ⟨1, _⟩, _ => rfl
      | ⟨2, _⟩, _ => rfl
    · show (i 0).val - 2 + 2 = (i 0).val
      omega
    · rw [UpDwRefIdeal.Read.val_main_v6_apply, UpDwRefIdeal.Read.val_main_v5_apply, UpDwRefIdeal.Read.val_main_v4_apply,
        UpDwRefIdeal.Read.val_main_v3_apply]
      have e1 : (((i 1).val * 2 + ((i 0).val - 2)) * 1408 + (i 2).val) / 2816 = (i 1).val := by omega
      have e2 : (((i 1).val * 2 + ((i 0).val - 2)) * 1408 + (i 2).val) % 2816 = ((i 0).val - 2) * 1408 + (i 2).val := by omega
      refine (sum_reads (f := fun k => at2 (b m c) k (((i 0).val - 2) * 1408 + (i 2).val)) (g := fun k => at2 (a m c) k (i 1).val)
        (fun k => ?_) (fun k => ?_)).trans (dot_comm _ _ _ _)
      · exact congrArg (at2 (b m c) k.val) e2
      · exact congrArg (at2 (a m c) k.val) e1

/-- The kernel and the reference end with the same array. -/
theorem algebraic : Cert.algebraic_UpDwIdeal_UpDwRefIdeal := by
  intro m g m' g' _ h
  refine ⟨fun c => (dats m 0 c).arrAt 2 cfg0.N, Value.run_blocks m g, ?_⟩
  refine (θ_run _ _ _).mono (fun r hr c => ⟨?_, (hr c).2⟩) (UpDwRefIdeal.Value.run m' g')
  refine Eq.trans ?_ (final m c).symm
  rw [(hr c).1, UpDwRefIdeal.Read.val_main_v7_eq, (h c).1, (h c).2.1, (h c).2.2]
  exact funext (reference m c)

end Cert.Mm.UpDw

end
-- ==== Proof.Mm.GateDw.lean ====
/- The gradient of the first half of the feed-forward up weight, written by pieces: the first two of the four pieces of the array
   the kernel leaves are those of `aᵀ b`. The other two are left as they were, and nothing is said of them. -/
module

public import proofs.«01_k».proof.Proof.Mm.Basic
public import proofs.«01_k».proof.Proof.Gen.GateDwIdeal.Value
public import proofs.«01_k».proof.Proof.Gen.GateDwRefIdeal.Run
public import proofs.«01_k».proof.Proof.Gen.GateDwRefIdeal.Read
public import proofs.«01_k».proof.Proof.Gen.On_first_two
public import proofs.«01_k».proof.Defs
import all proofs.«01_k».proof.Proof.Gen.GateDwIdeal.Frame

@[expose] public section

set_option maxRecDepth 16384

noncomputable section

namespace Cert.Mm.GateDw

open Cert.GateDwIdeal Cert.GateDwIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg0)

/-- The right factor. -/
abbrev b : S4096x2816.Idx → EReal := m ((c : Thread nD τ).loc main_arg1)

/-- What a step adds to the sum, at an entry. -/
theorem step (v : FVec Ideal S1024x1408 .f32) (x : FVec Ideal S2048x1024 .bf16) (w : FVec Ideal S2048x1408 .bf16) (y : S1024x1408.Idx) :
    k0_pay2 v x w y = v y + tn x w (y 0).val (y 1).val := by
  rw [← sum_tn x w (y 0) (y 1)]
  unfold k0_pay2
  pointwise

/-- The sum starts from zero. -/
theorem start (y : S1024x1408.Idx) : k0_pay1 (F := Ideal) y = 0 := by
  unfold k0_pay1
  pointwise

/-- A sum as one piece of the result. -/
theorem piece (v : FVec Ideal S1024x1408 .f32) (y : S1x1024x1408.Idx) : k0_pay3 v y = v (ix2 (⟨(y 1).val, (y 1).isLt⟩ : Fin 1024) (⟨(y 2).val, (y 2).isLt⟩ : Fin 1408)) := by
  unfold k0_pay3
  pointwise

/-- The blocks a point reads follow the piece it writes and the step of the sum; the pieces written are the first two. -/
theorem idx (t : Fin cfg0.N) :
    win0_2.index t 0 < 2 ∧ win0_2.index t 1 = 0 ∧ win0_2.index t 2 = 0 ∧
      win0_0.index t = ![t.val % 2, 0] ∧ win0_1.index t = ![t.val % 2, win0_2.index t 0] :=
  (by decide +kernel : ∀ t : Fin grid0.N, win0_2.index t 0 < 2 ∧ win0_2.index t 1 = 0 ∧ win0_2.index t 2 = 0 ∧
    win0_0.index t = ![t.val % 2, 0] ∧ win0_1.index t = ![t.val % 2, win0_2.index t 0]) t

/-- A piece is written back at its second point, and has the place it had at its first. -/
theorem pair (t : Fin cfg0.N) (h : win0_2.flush t = true) :
    t.val % 2 = 1 ∧ ∀ h' : t.val - 1 < cfg0.N, (⟨t.val - 1, h'⟩ : Fin cfg0.N).val % 2 = 0 ∧ win0_2.index ⟨t.val - 1, h'⟩ = win0_2.index t :=
  (by decide +kernel : ∀ t : Fin grid0.N, win0_2.flush t = true → t.val % 2 = 1 ∧ ∀ h' : t.val - 1 < grid0.N, (⟨t.val - 1, h'⟩ : Fin grid0.N).val % 2 = 0 ∧ win0_2.index ⟨t.val - 1, h'⟩ = win0_2.index t) t h

/-- Each of the first two pieces is written. -/
theorem onto (p : ℕ) (hp : p < 2) : ∃ t : Fin cfg0.N, win0_2.flush t = true ∧ win0_2.index t = ![p, 0, 0] :=
  (by decide +kernel : ∀ p : Fin 2, ∃ t : Fin grid0.N, win0_2.flush t = true ∧ win0_2.index t = ![p.val, 0, 0]) ⟨p, hp⟩

/-- The block of the left factor at a point. -/
theorem block_a (t : Fin cfg0.N) : IsBlock (iblk m c 0 t) (a m c) (win0_0.index t 0 * 2048) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 2048) (win0_1.index t 1 * 1408) :=
  isBlock_of _ _ _ _ ((cfg0.win 1).blk t).view.emb (fun y => by
    show V m c main_v1 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1024x1408_S1024x1408_0_0 _ _).trans ?_
  sl_unfold_words
  simp only [readCov_all, readAt_all, Memref.IsWhole.read_unread]

/-- What the last point of a piece writes back, over what the point before left. -/
theorem written (t : Fin cfg0.N) (h : t.val % 2 = 1) :
    (dats m 0 c).flushed 2 t =
      k0_pay3 (k0_pay2 (outsAt0 m c (t.val - 1) (Nat.lt_of_le_of_lt (Nat.sub_le _ _) t.isLt)).2 (iblk m c 0 t) (iblk m c 1 t)) := by
  rw [Value.flushed2_B m c t (by omega) h]
  unfold out0_B_2 kernelRun0_B
  dsimp only
  refine (View.read_writes_full VO0_2 _ inb_S1x1024x1408_S1x1024x1408_0_0_0 _ _).trans ?_
  sl_unfold_words
  simp only [readCov_all, readAt_all, Memref.IsWhole.read_unread]
  exact congrArg (fun v => k0_pay3 (k0_pay2 v (iblk m c 0 t) (iblk m c 1 t))) ((Memref.isWhole_whole cc0_scratch0).read_unread _)

/-- The pieces of the product: the product, cut along its columns. -/
def pieces (i : S4x1024x1408.Idx) : EReal := tn (a m c) (b m c) (i 1).val ((i 0).val * 1408 + (i 2).val)

/-- What is written back is a piece of the product. -/
theorem written_piece (t : Fin cfg0.N) (ht : win0_2.flush t = true) :
    (dats m 0 c).flushed 2 t = ((cfg0.win 2).blk t).view.read (Elt Ideal) (pieces m c) := by
  obtain ⟨h1, hp⟩ := pair t ht
  have hlt : t.val - 1 < cfg0.N := Nat.lt_of_le_of_lt (Nat.sub_le _ _) t.isLt
  obtain ⟨h0, hi⟩ := hp hlt
  obtain ⟨_, e1, e2, eA, eB⟩ := idx t
  rw [written m c t h1]
  funext y
  have hA : IsBlock (iblk m c 0 t) (a m c) (0 + 2048) 0 := by
    have h := block_a m c t
    rw [eA, h1] at h
    exact h
  have hB : IsBlock (iblk m c 1 t) (b m c) (0 + 2048) (win0_2.index t 0 * 1408) := by
    have h := block_b m c t
    rw [eB, h1] at h
    exact h
  have hA' : IsBlock (iblk m c 0 ⟨t.val - 1, hlt⟩) (a m c) 0 0 := by
    have h := block_a m c ⟨t.val - 1, hlt⟩
    rw [(idx _).2.2.2.1, h0] at h
    exact h
  have hB' : IsBlock (iblk m c 1 ⟨t.val - 1, hlt⟩) (b m c) 0 (win0_2.index t 0 * 1408) := by
    have h := block_b m c ⟨t.val - 1, hlt⟩
    rw [(idx _).2.2.2.2, h0, hi] at h
    exact h
  have hy : (y 0).val = 0 := Nat.lt_one_iff.mp (y 0).isLt
  show _ = tn (a m c) (b m c) (win0_2.index t 1 * 1024 + 1 * (y 1).val)
    ((win0_2.index t 0 * 1 + 1 * (y 0).val) * 1408 + (win0_2.index t 2 * 1408 + 1 * (y 2).val))
  rw [piece, step, first m c ⟨t.val - 1, hlt⟩ h0, step, start, zero_add, e1, e2, hy]
  refine (congrArg₂ (· + ·) (tn_block hA' hB' (y 1) (y 2)) (tn_block hA hB (y 1) (y 2))).trans ?_
  rw [dot_add]
  simp only [zero_mul, zero_add, one_mul, mul_zero, mul_one, add_zero]
  rfl

/-- The first two pieces of the array the kernel leaves. -/
theorem final (i : S4x1024x1408.Idx) (hi : (i 0).val < 2) : (dats m 0 c).arrAt 2 cfg0.N i = pieces m c i := by
  have hi1 : (i 1).val < 1024 := (i 1).isLt
  have hi2 : (i 2).val < 1408 := (i 2).isLt
  obtain ⟨t, hf, ht⟩ := onto (i 0).val hi
  refine (dats m 0 c).arrAt_apply_of_mem 2 (pieces m c) (written_piece m c) cfg0.N t i t.isLt hf ?_
  show i ∈ ((View.whole main_v2).slice (win0_2.rect t)).set
  rw [View.set_slice_whole]
  have q0 : win0_2.index t (0 : Fin 3) = (i 0).val := congrFun ht 0
  have q1 : win0_2.index t (1 : Fin 3) = 0 := congrFun ht 1
  have q2 : win0_2.index t (2 : Fin 3) = 0 := congrFun ht 2
  refine Rect.mem_set_unit.mpr fun k => ?_
  match k with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1408 ≤ (i 2).val ∧ (i 2).val < win0_2.index t (2 : Fin 3) * 1408 + 1408
    omega

/-- The first two pieces of the reference's array. -/
theorem reference (i : S4x1024x1408.Idx) (hi : (i 0).val < 2) :
    GateDwRefIdeal.Read.val_main_v7 (F := Ideal) (a m c) (b m c) i = pieces m c i := by
  have hi1 : (i 1).val < 1024 := (i 1).isLt
  have hi2 : (i 2).val < 1408 := (i 2).isLt
  unfold GateDwRefIdeal.Read.val_main_v7
  let j : GateDwRefIdeal.S2x1024x1408.Idx := fun k => match k with
    | ⟨0, _⟩ => ⟨(i 0).val, hi⟩
    | ⟨1, _⟩ => ⟨(i 1).val, hi1⟩
    | ⟨2, _⟩ => ⟨(i 2).val, hi2⟩
  refine (concatenate_pair_apply_left (s₁ := GateDwRefIdeal.S2x1024x1408) (s₂ := GateDwRefIdeal.S2x1024x1408) 0 _ _ _ i rfl j fun k => ?_).trans ?_
  · match k with
    | ⟨0, _⟩ => rfl
    | ⟨1, _⟩ => rfl
    | ⟨2, _⟩ => rfl
  · rw [GateDwRefIdeal.Read.val_main_v5_apply, GateDwRefIdeal.Read.val_main_v4_apply, GateDwRefIdeal.Read.val_main_v3_apply,
      GateDwRefIdeal.Read.val_main_v2_apply]
    have e1 : (((i 1).val * 2 + (i 0).val) * 1408 + (i 2).val) / 2816 = (i 1).val := by omega
    have e2 : (((i 1).val * 2 + (i 0).val) * 1408 + (i 2).val) % 2816 = (i 0).val * 1408 + (i 2).val := by omega
    refine (sum_reads (f := fun k => at2 (b m c) k ((i 0).val * 1408 + (i 2).val)) (g := fun k => at2 (a m c) k (i 1).val)
      (fun k => ?_) (fun k => ?_)).trans (dot_comm _ _ _ _)
    · exact congrArg (at2 (b m c) k.val) e2
    · exact congrArg (at2 (a m c) k.val) e1

/-- The mask selects entries of the first two pieces only. -/
theorem selected (i : S4x1024x1408.Idx) (h : Cert.On_first_two.fn (F := Ideal) (a m c) (b m c) i = 1#1) : (i 0).val < 2 := by
  have h' : IntOp.cmpi .slt (BitVec.ofNat 32 (i 0).val) 2#32 = 1#1 := h
  have hi0 : (i 0).val < 4 := (i 0).isLt
  generalize (i 0).val = p at *
  revert h'
  interval_cases p <;> decide

/-- The kernel and the reference end with the same first two pieces. -/
theorem algebraic : Cert.algebraic_GateDwIdeal_GateDwRefIdeal_on_first_two := by
  intro m g m' g' _ h
  refine ⟨fun c => (dats m 0 c).arrAt 2 cfg0.N, ?_, ?_⟩
  · exact (θ_run _ _ _).mono (fun r hr c => ⟨fun i _ => congrFun (hr c).1 i, (hr c).2⟩) (Value.run_blocks m g)
  · refine (θ_run _ _ _).mono (fun r hr c => ⟨fun i hi => ?_, (hr c).2⟩) (GateDwRefIdeal.Value.run m' g')
    refine Eq.trans ?_ (final m c i (selected m c i hi)).symm
    rw [(hr c).1, GateDwRefIdeal.Read.val_main_v7_eq, (h c).1, (h c).2]
    exact reference m c i (selected m c i hi)

end Cert.Mm.GateDw

end
-- ==== Proof.Mm.L0Proj.lean ====
/- The projection of the recurrent layer: the array the kernel leaves is `a b`. -/
module

public import proofs.«01_k».proof.Proof.Mm.Basic
public import proofs.«01_k».proof.Proof.Gen.L0ProjIdeal.Value
public import proofs.«01_k».proof.Proof.Gen.L0ProjRefIdeal.Run
public import proofs.«01_k».proof.Proof.Gen.L0ProjRefIdeal.Read
public import proofs.«01_k».proof.Defs
import all proofs.«01_k».proof.Proof.Gen.L0ProjIdeal.Frame

@[expose] public section

set_option maxRecDepth 16384

noncomputable section

namespace Cert.Mm.L0Proj

open Cert.L0ProjIdeal Cert.L0ProjIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg0)

/-- The right factor. -/
abbrev b : S1024x3456.Idx → EReal := m ((c : Thread nD τ).loc main_arg1)

/-- What a step adds to the sum, at an entry. -/
theorem step (v : FVec Ideal S1024x1152 .f32) (x : FVec Ideal S1024x1024 .bf16) (w : FVec Ideal S1024x1152 .bf16) (y : S1024x1152.Idx) :
    k0_pay2 v x w y = v y + nn x w (y 0).val (y 1).val := by
  rw [← sum_nn x w (y 0) (y 1)]
  unfold k0_pay2
  pointwise

/-- The sum starts from zero. -/
theorem start (y : S1024x1152.Idx) : k0_pay1 (F := Ideal) y = 0 := by
  unfold k0_pay1
  pointwise

/-- The blocks a point reads follow the block it writes. -/
theorem idx (t : Fin cfg0.N) : win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1]) t

/-- Every block of the result is written. -/
theorem onto (p q : ℕ) (hp : p < 4) (hq : q < 3) : ∃ t : Fin cfg0.N, win0_2.flush t = true ∧ win0_2.index t = ![p, q] :=
  (by decide +kernel : ∀ (p : Fin 4) (q : Fin 3), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 1024) (win0_1.index t 1 * 1152) :=
  isBlock_of _ _ _ _ ((cfg0.win 1).blk t).view.emb (fun y => by
    show V m c main_v1 _ = _
    entry_read
    rfl)
    (fun _ => rfl) (fun _ => rfl)

/-- What a point writes back. -/
theorem written (t : Fin cfg0.N) : (dats m 0 c).flushed 2 t = k0_pay2 k0_pay1 (iblk m c 0 t) (iblk m c 1 t) := by
  rw [Value.flushed2_A]
  unfold out0_A_2 kernelRun0_A
  dsimp only
  refine (View.read_writes_full VO0_2 _ inb_S1024x1152_S1024x1152_0_0 _ _).trans ?_
  sl_unfold_words
  simp only [readCov_all, readAt_all, Memref.IsWhole.read_unread]

/-- The array the kernel leaves. -/
theorem final : (dats m 0 c).arrAt 2 cfg0.N = fun i => nn (a m c) (b m c) (i 0).val (i 1).val := by
  refine (dats m 0 c).arrAt_eq_of_cover 2 _ (fun t _ => ?_) (fun i => ?_)
  · rw [written]
    funext y
    have hA := block_a m c t
    have hB := block_b m c t
    rw [(idx t).1] at hA
    rw [(idx t).2] at hB
    show _ = nn (a m c) (b m c) (win0_2.index t 0 * 1024 + 1 * (y 0).val) (win0_2.index t 1 * 1152 + 1 * (y 1).val)
    rw [one_mul, one_mul]
    rw [step, start, zero_add]
    exact nn_block hA hB (y 0) (y 1)
  · have hi0 : (i 0).val < 4096 := (i 0).isLt
    have hi1 : (i 1).val < 3456 := (i 1).isLt
    obtain ⟨t, hf, ht⟩ := onto ((i 0).val / 1024) ((i 1).val / 1152) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1152) ht)

/-- The kernel and the reference end with the same array. -/
theorem algebraic : Cert.algebraic_L0ProjIdeal_L0ProjRefIdeal := by
  intro m g m' g' _ h
  refine ⟨fun c => (dats m 0 c).arrAt 2 cfg0.N, Value.run_blocks m g, ?_⟩
  refine (θ_run _ _ _).mono (fun r hr c => ⟨?_, (hr c).2⟩) (L0ProjRefIdeal.Value.run m' g')
  refine Eq.trans ?_ (final m c).symm
  rw [(hr c).1, L0ProjRefIdeal.Read.val_main_v0_eq, (h c).1, (h c).2]
  funext i
  rw [L0ProjRefIdeal.Read.val_main_v0_apply]
  exact sum_reads (fun _ => rfl) (fun _ => rfl)

end Cert.Mm.L0Proj

end
-- ==== Proof.Mm.L0ProjDx.lean ====
/- The gradient of the normalised input through the projection of the recurrent layer, added to what is there: the array the kernel leaves is `a bᵀ` plus the third argument. -/
module

public import proofs.«01_k».proof.Proof.Mm.Basic
public import proofs.«01_k».proof.Proof.Gen.L0ProjDxIdeal.Value
public import proofs.«01_k».proof.Proof.Gen.L0ProjDxRefIdeal.Run
public import proofs.«01_k».proof.Proof.Gen.L0ProjDxRefIdeal.Read
public import proofs.«01_k».proof.Defs
import all proofs.«01_k».proof.Proof.Gen.L0ProjDxIdeal.Frame

@[expose] public section

set_option maxRecDepth 16384

noncomputable section

namespace Cert.Mm.L0ProjDx

open Cert.L0ProjDxIdeal Cert.L0ProjDxIdeal.Gen Idealize.ShloMosaic Idealize.ShloMosaic.TcCoe Idealize.SL.Sem

variable (m : (ℓ : Loc nD τ sig) → Buf (Elt Ideal) ℓ) (c : Dev nD)

/-- The left factor. -/
abbrev a : S4096x3456.Idx → EReal := m ((c : Thread nD τ).loc main_arg1)

/-- The right factor. -/
abbrev b : S1024x3456.Idx → EReal := m ((c : Thread nD τ).loc main_arg0)

/-- What the product is added to. -/
abbrev d : S4096x1024.Idx → EReal := m ((c : Thread nD τ).loc main_arg2)

/-- What a step adds to the sum, at an entry. -/
theorem step (v : FVec Ideal S1024x1024 .f32) (x : FVec Ideal S1024x1152 .bf16) (w : FVec Ideal S1024x1152 .bf16) (y : S1024x1024.Idx) :
    k0_pay2 v x w y = v y + nt x w (y 0).val (y 1).val := by
  rw [← sum_nt x w (y 0) (y 1)]
  unfold k0_pay2
  pointwise

/-- The sum starts from zero. -/
theorem start (y : S1024x1024.Idx) : k0_pay1 (F := Ideal) y = 0 := by
  unfold k0_pay1
  pointwise

/-- The blocks a point reads follow the block it writes and the step of the sum. -/
theorem idx (t : Fin cfg0.N) : win0_0.index t = ![win0_3.index t 0, t.val % 3] ∧ win0_1.index t = ![win0_3.index t 1, t.val % 3] ∧ win0_2.index t = win0_3.index t :=
  (by decide +kernel : ∀ t : Fin grid0.N, win0_0.index t = ![win0_3.index t 0, t.val % 3] ∧ win0_1.index t = ![win0_3.index t 1, t.val % 3] ∧ win0_2.index t = win0_3.index t) t

/-- A block is written back at its third point, and has the place it had at its first two. -/
theorem triple (t : Fin cfg0.N) (h : win0_3.flush t = true) :
    t.val % 3 = 2 ∧ (∀ h' : t.val - 1 < cfg0.N, (⟨t.val - 1, h'⟩ : Fin cfg0.N).val % 3 = 1 ∧ win0_3.index ⟨t.val - 1, h'⟩ = win0_3.index t) ∧
      ∀ h' : t.val - 1 - 1 < cfg0.N, (⟨t.val - 1 - 1, h'⟩ : Fin cfg0.N).val % 3 = 0 ∧ win0_3.index ⟨t.val - 1 - 1, h'⟩ = win0_3.index t :=
  (by decide +kernel : ∀ t : Fin grid0.N, win0_3.flush t = true → t.val % 3 = 2 ∧ (∀ h' : t.val - 1 < grid0.N, (⟨t.val - 1, h'⟩ : Fin grid0.N).val % 3 = 1 ∧ win0_3.index ⟨t.val - 1, h'⟩ = win0_3.index t) ∧
    ∀ h' : t.val - 1 - 1 < grid0.N, (⟨t.val - 1 - 1, h'⟩ : Fin grid0.N).val % 3 = 0 ∧ win0_3.index ⟨t.val - 1 - 1, h'⟩ = win0_3.index t) t h

/-- Every block of the result is written. -/
theorem onto (p q : ℕ) (hp : p < 4) (hq : q < 1) : ∃ t : Fin cfg0.N, win0_3.flush t = true ∧ win0_3.index t = ![p, q] :=
  (by decide +kernel : ∀ (p : Fin 4) (q : Fin 1), ∃ t : Fin grid0.N, win0_3.flush t = true ∧ win0_3.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 1152) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 1024) (win0_1.index t 1 * 1152) :=
  isBlock_of _ _ _ _ ((cfg0.win 1).blk t).view.emb (fun y => by
    show V m c main_v1 _ = _
    entry_read
    rfl)
    (fun _ => rfl) (fun _ => rfl)

/-- The block of the array added to at a point. -/
theorem block_d (t : Fin cfg0.N) : IsBlock (iblk m c 2 t) (d m c) (win0_2.index t 0 * 1024) (win0_2.index t 1 * 1024) :=
  isBlock_of _ _ _ _ ((cfg0.win 2).blk t).view.emb (fun y => by
    show V m c main_arg2 _ = _
    entry_read
    rfl)
    (fun _ => rfl) (fun _ => rfl)

/-- What the first point of a block leaves in the sum. -/
theorem first (t : Fin cfg0.N) (h : t.val % 3 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1024x1024_S1024x1024_0_0 _ _).trans ?_
  sl_unfold_words
  simp only [readCov_all, readAt_all, Memref.IsWhole.read_unread]

/-- What the second point of a block leaves in the sum, over what the first left. -/
theorem second (t : Fin cfg0.N) (h : t.val % 3 = 1) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t (by omega) (by omega)]
  dsimp only
  unfold sout0_B_0 kernelRun0_B
  dsimp only
  refine (View.read_writes_full VS0_0 _ inb_S1024x1024_S1024x1024_0_0 _ _).trans ?_
  sl_unfold_words
  simp only [readCov_all, readAt_all, Memref.IsWhole.read_unread]
  exact congrArg (fun v => k0_pay2 v (iblk m c 0 t) (iblk m c 1 t)) ((Memref.isWhole_whole cc0_scratch0).read_unread _)

/-- What the last point of a block writes back, over what the point before left. -/
theorem written (t : Fin cfg0.N) (h : t.val % 3 = 2) :
    (dats m 0 c).flushed 3 t = k0_pay3 (k0_pay2 (outsAt0 m c (t.val - 1) (Nat.lt_of_le_of_lt (Nat.sub_le _ _) t.isLt)).2 (iblk m c 0 t) (iblk m c 1 t)) (iblk m c 2 t) := by
  rw [Value.flushed3_C m c t (by omega) h]
  unfold out0_C_3 kernelRun0_C
  dsimp only
  refine (View.read_writes_full VO0_3 _ inb_S1024x1024_S1024x1024_0_0 _ _).trans ?_
  sl_unfold_words
  simp only [readCov_all, readAt_all, Memref.IsWhole.read_unread]
  exact congrArg (fun v => k0_pay3 (k0_pay2 v (iblk m c 0 t) (iblk m c 1 t)) (iblk m c 2 t)) ((Memref.isWhole_whole cc0_scratch0).read_unread _)

/-- The array the kernel leaves. -/
theorem final : (dats m 0 c).arrAt 3 cfg0.N = fun i => nt (a m c) (b m c) (i 0).val (i 1).val + at2 (d m c) (i 0).val (i 1).val := by
  refine (dats m 0 c).arrAt_eq_of_cover 3 _ (fun t ht => ?_) (fun i => ?_)
  · obtain ⟨h2, hp, hq⟩ := triple t ht
    have hlt : t.val - 1 < cfg0.N := Nat.lt_of_le_of_lt (Nat.sub_le _ _) t.isLt
    have hlt' : t.val - 1 - 1 < cfg0.N := Nat.lt_of_le_of_lt (Nat.sub_le _ _) hlt
    obtain ⟨h1, hi⟩ := hp hlt
    obtain ⟨h0, hj⟩ := hq hlt'
    rw [written m c t h2]
    funext y
    have hA := block_a m c t
    have hB := block_b m c t
    have hA' := block_a m c ⟨t.val - 1, hlt⟩
    have hB' := block_b m c ⟨t.val - 1, hlt⟩
    have hA'' := block_a m c ⟨t.val - 1 - 1, hlt'⟩
    have hB'' := block_b m c ⟨t.val - 1 - 1, hlt'⟩
    rw [(idx t).1, h2] at hA
    rw [(idx t).2.1, h2] at hB
    rw [(idx _).1, h1, hi] at hA'
    rw [(idx _).2.1, h1, hi] at hB'
    rw [(idx _).1, h0, hj] at hA''
    rw [(idx _).2.1, h0, hj] at hB''
    have hD := block_d m c t
    rw [(idx t).2.2] at hD
    show _ = nt (a m c) (b m c) (win0_3.index t 0 * 1024 + 1 * (y 0).val) (win0_3.index t 1 * 1024 + 1 * (y 1).val) + at2 (d m c) (win0_3.index t 0 * 1024 + 1 * (y 0).val) (win0_3.index t 1 * 1024 + 1 * (y 1).val)
    rw [one_mul, one_mul]
    show k0_pay2 _ _ _ y + iblk m c 2 t y = _
    rw [at2_coords (iblk m c 2 t) y, hD _ _ (y 0).isLt (y 1).isLt]
    refine congrArg (· + _) ?_
    rw [step, second m c ⟨t.val - 1, hlt⟩ h1, step, first m c ⟨t.val - 1 - 1, hlt'⟩ h0, step, start, zero_add]
    rw [nt_block hA hB (y 0) (y 1), nt_block hA' hB' (y 0) (y 1), nt_block hA'' hB'' (y 0) (y 1)]
    exact (congrArg (· + _) (dot_add _ _ 0 1152 1152)).trans (dot_add _ _ 0 2304 1152)
  · have hi0 : (i 0).val < 4096 := (i 0).isLt
    have hi1 : (i 1).val < 1024 := (i 1).isLt
    obtain ⟨t, hf, ht⟩ := onto ((i 0).val / 1024) ((i 1).val / 1024) (by omega) (by omega)
    refine ⟨t, hf, ?_⟩
    show i ∈ ((View.whole main_v2).slice (win0_3.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_L0ProjDxIdeal_L0ProjDxRefIdeal := by
  intro m g m' g' _ h
  refine ⟨fun c => (dats m 0 c).arrAt 3 cfg0.N, Value.run_blocks m g, ?_⟩
  refine (θ_run _ _ _).mono (fun r hr c => ⟨?_, (hr c).2⟩) (L0ProjDxRefIdeal.Value.run m' g')
  refine Eq.trans ?_ (final m c).symm
  rw [(hr c).1, L0ProjDxRefIdeal.Read.val_main_v3_eq, (h c).1, (h c).2.1, (h c).2.2]
  funext i
  rw [L0ProjDxRefIdeal.Read.val_main_v3_apply, L0ProjDxRefIdeal.Read.val_main_v2_apply, ← at2_coords (d m c) i]
  exact congrArg (· + _) (sum_reads (fun _ => rfl) (fun _ => rfl))

end Cert.Mm.L0ProjDx

end
-- ==== Proof.Mm.L0ProjDw.lean ====
/- The gradient of the projection weight of the recurrent layer: the array the kernel leaves is `aᵀ b`. -/
module

public import proofs.«01_k».proof.Proof.Mm.Basic
public import proofs.«01_k».proof.Proof.Gen.L0ProjDwIdeal.Value
public import proofs.«01_k».proof.Proof.Gen.L0ProjDwRefIdeal.Run
public import proofs.«01_k».proof.Proof.Gen.L0ProjDwRefIdeal.Read
public import proofs.«01_k».proof.Defs
import all proofs.«01_k».proof.Proof.Gen.L0ProjDwIdeal.Frame

@[expose] public section

set_option maxRecDepth 16384

noncomputable section

namespace Cert.Mm.L0ProjDw

open Cert.L0ProjDwIdeal Cert.L0ProjDwIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg0)

/-- The right factor. -/
abbrev b : S4096x3456.Idx → EReal := m ((c : Thread nD τ).loc main_arg1)

/-- What a step adds to the sum, at an entry. -/
theorem step (v : FVec Ideal S1024x1152 .f32) (x : FVec Ideal S2048x1024 .bf16) (w : FVec Ideal S2048x1152 .bf16) (y : S1024x1152.Idx) :
    k0_pay2 v x w y = v y + tn x w (y 0).val (y 1).val := by
  rw [← sum_tn x w (y 0) (y 1)]
  unfold k0_pay2
  pointwise

/-- The sum starts from zero. -/
theorem start (y : S1024x1152.Idx) : k0_pay1 (F := Ideal) y = 0 := by
  unfold k0_pay1
  pointwise

/-- The blocks a point reads follow the block it writes and the step of the sum. -/
theorem idx (t : Fin cfg0.N) : win0_0.index t = ![t.val % 2, win0_2.index t 0] ∧ win0_1.index t = ![t.val % 2, win0_2.index t 1] :=
  (by decide +kernel : ∀ t : Fin grid0.N, win0_0.index t = ![t.val % 2, win0_2.index t 0] ∧ win0_1.index t = ![t.val % 2, win0_2.index t 1]) t

/-- A block is written back at its second point, and has the place it had at its first. -/
theorem pair (t : Fin cfg0.N) (h : win0_2.flush t = true) :
    t.val % 2 = 1 ∧ ∀ h' : t.val - 1 < cfg0.N, (⟨t.val - 1, h'⟩ : Fin cfg0.N).val % 2 = 0 ∧ win0_2.index ⟨t.val - 1, h'⟩ = win0_2.index t :=
  (by decide +kernel : ∀ t : Fin grid0.N, win0_2.flush t = true → t.val % 2 = 1 ∧ ∀ h' : t.val - 1 < grid0.N, (⟨t.val - 1, h'⟩ : Fin grid0.N).val % 2 = 0 ∧ win0_2.index ⟨t.val - 1, h'⟩ = win0_2.index t) t h

/-- Every block of the result is written. -/
theorem onto (p q : ℕ) (hp : p < 1) (hq : q < 3) : ∃ t : Fin cfg0.N, win0_2.flush t = true ∧ win0_2.index t = ![p, q] :=
  (by decide +kernel : ∀ (p : Fin 1) (q : Fin 3), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 2048) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 2048) (win0_1.index t 1 * 1152) :=
  isBlock_of _ _ _ _ ((cfg0.win 1).blk t).view.emb (fun y => by
    show V m c main_v1 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1024x1152_S1024x1152_0_0 _ _).trans ?_
  sl_unfold_words
  simp only [readCov_all, readAt_all, Memref.IsWhole.read_unread]

/-- What the last point of a block writes back, over what the point before left. -/
theorem written (t : Fin cfg0.N) (h : t.val % 2 = 1) :
    (dats m 0 c).flushed 2 t = k0_pay2 (outsAt0 m c (t.val - 1) (Nat.lt_of_le_of_lt (Nat.sub_le _ _) t.isLt)).2 (iblk m c 0 t) (iblk m c 1 t) := by
  rw [Value.flushed2_B m c t (by omega) h]
  unfold out0_B_2 kernelRun0_B
  dsimp only
  refine (View.read_writes_full VO0_2 _ inb_S1024x1152_S1024x1152_0_0 _ _).trans ?_
  sl_unfold_words
  simp only [readCov_all, readAt_all, Memref.IsWhole.read_unread]
  exact congrArg (fun v => k0_pay2 v (iblk m c 0 t) (iblk m c 1 t)) ((Memref.isWhole_whole cc0_scratch0).read_unread _)

/-- The array the kernel leaves. -/
theorem final : (dats m 0 c).arrAt 2 cfg0.N = fun i => tn (a m c) (b m c) (i 0).val (i 1).val := by
  refine (dats m 0 c).arrAt_eq_of_cover 2 _ (fun t ht => ?_) (fun i => ?_)
  · obtain ⟨h1, hp⟩ := pair t ht
    have hlt : t.val - 1 < cfg0.N := Nat.lt_of_le_of_lt (Nat.sub_le _ _) t.isLt
    obtain ⟨h0, hi⟩ := hp hlt
    rw [written m c t h1]
    funext y
    have hA := block_a m c t
    have hB := block_b m c t
    have hA' := block_a m c ⟨t.val - 1, hlt⟩
    have hB' := block_b m c ⟨t.val - 1, hlt⟩
    rw [(idx t).1, h1] at hA
    rw [(idx t).2, h1] at hB
    rw [(idx _).1, h0, hi] at hA'
    rw [(idx _).2, h0, hi] at hB'
    show _ = tn (a m c) (b m c) (win0_2.index t 0 * 1024 + 1 * (y 0).val) (win0_2.index t 1 * 1152 + 1 * (y 1).val)
    rw [one_mul, one_mul]
    rw [step, first m c ⟨t.val - 1, hlt⟩ h0, step, start, zero_add]
    rw [tn_block hA hB (y 0) (y 1), tn_block hA' hB' (y 0) (y 1)]
    exact dot_add _ _ 0 2048 2048
  · have hi0 : (i 0).val < 1024 := (i 0).isLt
    have hi1 : (i 1).val < 3456 := (i 1).isLt
    obtain ⟨t, hf, ht⟩ := onto ((i 0).val / 1024) ((i 1).val / 1152) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1152) ht)

/-- The kernel and the reference end with the same array. -/
theorem algebraic : Cert.algebraic_L0ProjDwIdeal_L0ProjDwRefIdeal := by
  intro m g m' g' _ h
  refine ⟨fun c => (dats m 0 c).arrAt 2 cfg0.N, Value.run_blocks m g, ?_⟩
  refine (θ_run _ _ _).mono (fun r hr c => ⟨?_, (hr c).2⟩) (L0ProjDwRefIdeal.Value.run m' g')
  refine Eq.trans ?_ (final m c).symm
  rw [(hr c).1, L0ProjDwRefIdeal.Read.val_main_v3_eq, (h c).1, (h c).2]
  funext i
  rw [L0ProjDwRefIdeal.Read.val_main_v3_apply, L0ProjDwRefIdeal.Read.val_main_v2_apply]
  exact (sum_reads (fun _ => rfl) (fun _ => rfl)).trans (dot_comm _ _ _ _)

end Cert.Mm.L0ProjDw

end
-- ==== Proof.Mm.L1Proj.lean ====
/- The projection of the attention layer: the array the kernel leaves is `a b`. -/
module

public import proofs.«01_k».proof.Proof.Mm.Basic
public import proofs.«01_k».proof.Proof.Gen.L1ProjIdeal.Value
public import proofs.«01_k».proof.Proof.Gen.L1ProjRefIdeal.Run
public import proofs.«01_k».proof.Proof.Gen.L1ProjRefIdeal.Read
public import proofs.«01_k».proof.Defs
import all proofs.«01_k».proof.Proof.Gen.L1ProjIdeal.Frame

@[expose] public section

set_option maxRecDepth 16384

noncomputable section

namespace Cert.Mm.L1Proj

open Cert.L1ProjIdeal Cert.L1ProjIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg0)

/-- The right factor. -/
abbrev b : S1024x2048.Idx → EReal := m ((c : Thread nD τ).loc main_arg1)

/-- What a step adds to the sum, at an entry. -/
theorem step (v : FVec Ideal S1024x1024 .f32) (x : FVec Ideal S1024x1024 .bf16) (w : FVec Ideal S1024x1024 .bf16) (y : S1024x1024.Idx) :
    k0_pay2 v x w y = v y + nn x w (y 0).val (y 1).val := by
  rw [← sum_nn x w (y 0) (y 1)]
  unfold k0_pay2
  pointwise

/-- The sum starts from zero. -/
theorem start (y : S1024x1024.Idx) : k0_pay1 (F := Ideal) y = 0 := by
  unfold k0_pay1
  pointwise

/-- The blocks a point reads follow the block it writes. -/
theorem idx (t : Fin cfg0.N) : win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1]) t

/-- Every block of the result is written. -/
theorem onto (p q : ℕ) (hp : p < 4) (hq : q < 2) : ∃ t : Fin cfg0.N, win0_2.flush t = true ∧ win0_2.index t = ![p, q] :=
  (by decide +kernel : ∀ (p : Fin 4) (q : Fin 2), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 1024) (win0_1.index t 1 * 1024) :=
  isBlock_of _ _ _ _ ((cfg0.win 1).blk t).view.emb (fun y => by
    show V m c main_v1 _ = _
    entry_read
    rfl)
    (fun _ => rfl) (fun _ => rfl)

/-- What a point writes back. -/
theorem written (t : Fin cfg0.N) : (dats m 0 c).flushed 2 t = k0_pay2 k0_pay1 (iblk m c 0 t) (iblk m c 1 t) := by
  rw [Value.flushed2_A]
  unfold out0_A_2 kernelRun0_A
  dsimp only
  refine (View.read_writes_full VO0_2 _ inb_S1024x1024_S1024x1024_0_0 _ _).trans ?_
  sl_unfold_words
  simp only [readCov_all, readAt_all, Memref.IsWhole.read_unread]

/-- The array the kernel leaves. -/
theorem final : (dats m 0 c).arrAt 2 cfg0.N = fun i => nn (a m c) (b m c) (i 0).val (i 1).val := by
  refine (dats m 0 c).arrAt_eq_of_cover 2 _ (fun t _ => ?_) (fun i => ?_)
  · rw [written]
    funext y
    have hA := block_a m c t
    have hB := block_b m c t
    rw [(idx t).1] at hA
    rw [(idx t).2] at hB
    show _ = nn (a m c) (b m c) (win0_2.index t 0 * 1024 + 1 * (y 0).val) (win0_2.index t 1 * 1024 + 1 * (y 1).val)
    rw [one_mul, one_mul]
    rw [step, start, zero_add]
    exact nn_block hA hB (y 0) (y 1)
  · have hi0 : (i 0).val < 4096 := (i 0).isLt
    have hi1 : (i 1).val < 2048 := (i 1).isLt
    obtain ⟨t, hf, ht⟩ := onto ((i 0).val / 1024) ((i 1).val / 1024) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_L1ProjIdeal_L1ProjRefIdeal := by
  intro m g m' g' _ h
  refine ⟨fun c => (dats m 0 c).arrAt 2 cfg0.N, Value.run_blocks m g, ?_⟩
  refine (θ_run _ _ _).mono (fun r hr c => ⟨?_, (hr c).2⟩) (L1ProjRefIdeal.Value.run m' g')
  refine Eq.trans ?_ (final m c).symm
  rw [(hr c).1, L1ProjRefIdeal.Read.val_main_v0_eq, (h c).1, (h c).2]
  funext i
  rw [L1ProjRefIdeal.Read.val_main_v0_apply]
  exact sum_reads (fun _ => rfl) (fun _ => rfl)

end Cert.Mm.L1Proj

end
-- ==== Proof.Mm.L1ProjDx.lean ====
/- The gradient of the normalised input through the projection of the attention layer, added to what is there: the array the kernel leaves is `a bᵀ` plus the third argument. -/
module

public import proofs.«01_k».proof.Proof.Mm.Basic
public import proofs.«01_k».proof.Proof.Gen.L1ProjDxIdeal.Value
public import proofs.«01_k».proof.Proof.Gen.L1ProjDxRefIdeal.Run
public import proofs.«01_k».proof.Proof.Gen.L1ProjDxRefIdeal.Read
public import proofs.«01_k».proof.Defs
import all proofs.«01_k».proof.Proof.Gen.L1ProjDxIdeal.Frame

@[expose] public section

set_option maxRecDepth 16384

noncomputable section

namespace Cert.Mm.L1ProjDx

open Cert.L1ProjDxIdeal Cert.L1ProjDxIdeal.Gen Idealize.ShloMosaic Idealize.ShloMosaic.TcCoe Idealize.SL.Sem

variable (m : (ℓ : Loc nD τ sig) → Buf (Elt Ideal) ℓ) (c : Dev nD)

/-- The left factor. -/
abbrev a : S4096x2048.Idx → EReal := m ((c : Thread nD τ).loc main_arg1)

/-- The right factor. -/
abbrev b : S1024x2048.Idx → EReal := m ((c : Thread nD τ).loc main_arg0)

/-- What the product is added to. -/
abbrev d : S4096x1024.Idx → EReal := m ((c : Thread nD τ).loc main_arg2)

/-- What a step adds to the sum, at an entry. -/
theorem step (v : FVec Ideal S1024x1024 .f32) (x : FVec Ideal S1024x2048 .bf16) (w : FVec Ideal S1024x2048 .bf16) (y : S1024x1024.Idx) :
    k0_pay2 v x w y = v y + nt x w (y 0).val (y 1).val := by
  rw [← sum_nt x w (y 0) (y 1)]
  unfold k0_pay2
  pointwise

/-- The sum starts from zero. -/
theorem start (y : S1024x1024.Idx) : k0_pay1 (F := Ideal) y = 0 := by
  unfold k0_pay1
  pointwise

/-- The blocks a point reads follow the block it writes. -/
theorem idx (t : Fin cfg0.N) : win0_0.index t = ![win0_3.index t 0, 0] ∧ win0_1.index t = ![win0_3.index t 1, 0] ∧ win0_2.index t = win0_3.index t :=
  (by decide +kernel : ∀ t : Fin grid0.N, win0_0.index t = ![win0_3.index t 0, 0] ∧ win0_1.index t = ![win0_3.index t 1, 0] ∧ win0_2.index t = win0_3.index t) t

/-- Every block of the result is written. -/
theorem onto (p q : ℕ) (hp : p < 4) (hq : q < 1) : ∃ t : Fin cfg0.N, win0_3.flush t = true ∧ win0_3.index t = ![p, q] :=
  (by decide +kernel : ∀ (p : Fin 4) (q : Fin 1), ∃ t : Fin grid0.N, win0_3.flush t = true ∧ win0_3.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 2048) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 1024) (win0_1.index t 1 * 2048) :=
  isBlock_of _ _ _ _ ((cfg0.win 1).blk t).view.emb (fun y => by
    show V m c main_v1 _ = _
    entry_read
    rfl)
    (fun _ => rfl) (fun _ => rfl)

/-- The block of the array added to at a point. -/
theorem block_d (t : Fin cfg0.N) : IsBlock (iblk m c 2 t) (d m c) (win0_2.index t 0 * 1024) (win0_2.index t 1 * 1024) :=
  isBlock_of _ _ _ _ ((cfg0.win 2).blk t).view.emb (fun y => by
    show V m c main_arg2 _ = _
    entry_read
    rfl)
    (fun _ => rfl) (fun _ => rfl)

/-- What a point writes back. -/
theorem written (t : Fin cfg0.N) : (dats m 0 c).flushed 3 t = k0_pay3 (k0_pay2 k0_pay1 (iblk m c 0 t) (iblk m c 1 t)) (iblk m c 2 t) := by
  rw [Value.flushed3_A]
  unfold out0_A_3 kernelRun0_A
  dsimp only
  refine (View.read_writes_full VO0_3 _ inb_S1024x1024_S1024x1024_0_0 _ _).trans ?_
  sl_unfold_words
  simp only [readCov_all, readAt_all, Memref.IsWhole.read_unread]

/-- The array the kernel leaves. -/
theorem final : (dats m 0 c).arrAt 3 cfg0.N = fun i => nt (a m c) (b m c) (i 0).val (i 1).val + at2 (d m c) (i 0).val (i 1).val := by
  refine (dats m 0 c).arrAt_eq_of_cover 3 _ (fun t _ => ?_) (fun i => ?_)
  · rw [written]
    funext y
    have hA := block_a m c t
    have hB := block_b m c t
    rw [(idx t).1] at hA
    rw [(idx t).2.1] at hB
    have hD := block_d m c t
    rw [(idx t).2.2] at hD
    show _ = nt (a m c) (b m c) (win0_3.index t 0 * 1024 + 1 * (y 0).val) (win0_3.index t 1 * 1024 + 1 * (y 1).val) + at2 (d m c) (win0_3.index t 0 * 1024 + 1 * (y 0).val) (win0_3.index t 1 * 1024 + 1 * (y 1).val)
    rw [one_mul, one_mul]
    show k0_pay2 _ _ _ y + iblk m c 2 t y = _
    rw [at2_coords (iblk m c 2 t) y, hD _ _ (y 0).isLt (y 1).isLt]
    refine congrArg (· + _) ?_
    rw [step, start, zero_add]
    exact nt_block hA hB (y 0) (y 1)
  · have hi0 : (i 0).val < 4096 := (i 0).isLt
    have hi1 : (i 1).val < 1024 := (i 1).isLt
    obtain ⟨t, hf, ht⟩ := onto ((i 0).val / 1024) ((i 1).val / 1024) (by omega) (by omega)
    refine ⟨t, hf, ?_⟩
    show i ∈ ((View.whole main_v2).slice (win0_3.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_L1ProjDxIdeal_L1ProjDxRefIdeal := by
  intro m g m' g' _ h
  refine ⟨fun c => (dats m 0 c).arrAt 3 cfg0.N, Value.run_blocks m g, ?_⟩
  refine (θ_run _ _ _).mono (fun r hr c => ⟨?_, (hr c).2⟩) (L1ProjDxRefIdeal.Value.run m' g')
  refine Eq.trans ?_ (final m c).symm
  rw [(hr c).1, L1ProjDxRefIdeal.Read.val_main_v3_eq, (h c).1, (h c).2.1, (h c).2.2]
  funext i
  rw [L1ProjDxRefIdeal.Read.val_main_v3_apply, L1ProjDxRefIdeal.Read.val_main_v2_apply, ← at2_coords (d m c) i]
  exact congrArg (· + _) (sum_reads (fun _ => rfl) (fun _ => rfl))

end Cert.Mm.L1ProjDx

end
-- ==== Proof.Mm.L1ProjDw.lean ====
/- The gradient of the projection weight of the attention layer: the array the kernel leaves is `aᵀ b`. -/
module

public import proofs.«01_k».proof.Proof.Mm.Basic
public import proofs.«01_k».proof.Proof.Gen.L1ProjDwIdeal.Value
public import proofs.«01_k».proof.Proof.Gen.L1ProjDwRefIdeal.Run
public import proofs.«01_k».proof.Proof.Gen.L1ProjDwRefIdeal.Read
public import proofs.«01_k».proof.Defs
import all proofs.«01_k».proof.Proof.Gen.L1ProjDwIdeal.Frame

@[expose] public section

set_option maxRecDepth 16384

noncomputable section

namespace Cert.Mm.L1ProjDw

open Cert.L1ProjDwIdeal Cert.L1ProjDwIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg0)

/-- The right factor. -/
abbrev b : S4096x2048.Idx → EReal := m ((c : Thread nD τ).loc main_arg1)

/-- What a step adds to the sum, at an entry. -/
theorem step (v : FVec Ideal S1024x1024 .f32) (x : FVec Ideal S2048x1024 .bf16) (w : FVec Ideal S2048x1024 .bf16) (y : S1024x1024.Idx) :
    k0_pay2 v x w y = v y + tn x w (y 0).val (y 1).val := by
  rw [← sum_tn x w (y 0) (y 1)]
  unfold k0_pay2
  pointwise

/-- The sum starts from zero. -/
theorem start (y : S1024x1024.Idx) : k0_pay1 (F := Ideal) y = 0 := by
  unfold k0_pay1
  pointwise

/-- The blocks a point reads follow the block it writes and the step of the sum. -/
theorem idx (t : Fin cfg0.N) : win0_0.index t = ![t.val % 2, win0_2.index t 0] ∧ win0_1.index t = ![t.val % 2, win0_2.index t 1] :=
  (by decide +kernel : ∀ t : Fin grid0.N, win0_0.index t = ![t.val % 2, win0_2.index t 0] ∧ win0_1.index t = ![t.val % 2, win0_2.index t 1]) t

/-- A block is written back at its second point, and has the place it had at its first. -/
theorem pair (t : Fin cfg0.N) (h : win0_2.flush t = true) :
    t.val % 2 = 1 ∧ ∀ h' : t.val - 1 < cfg0.N, (⟨t.val - 1, h'⟩ : Fin cfg0.N).val % 2 = 0 ∧ win0_2.index ⟨t.val - 1, h'⟩ = win0_2.index t :=
  (by decide +kernel : ∀ t : Fin grid0.N, win0_2.flush t = true → t.val % 2 = 1 ∧ ∀ h' : t.val - 1 < grid0.N, (⟨t.val - 1, h'⟩ : Fin grid0.N).val % 2 = 0 ∧ win0_2.index ⟨t.val - 1, h'⟩ = win0_2.index t) t h

/-- Every block of the result is written. -/
theorem onto (p q : ℕ) (hp : p < 1) (hq : q < 2) : ∃ t : Fin cfg0.N, win0_2.flush t = true ∧ win0_2.index t = ![p, q] :=
  (by decide +kernel : ∀ (p : Fin 1) (q : Fin 2), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 2048) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 2048) (win0_1.index t 1 * 1024) :=
  isBlock_of _ _ _ _ ((cfg0.win 1).blk t).view.emb (fun y => by
    show V m c main_v1 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S1024x1024_S1024x1024_0_0 _ _).trans ?_
  sl_unfold_words
  simp only [readCov_all, readAt_all, Memref.IsWhole.read_unread]

/-- What the last point of a block writes back, over what the point before left. -/
theorem written (t : Fin cfg0.N) (h : t.val % 2 = 1) :
    (dats m 0 c).flushed 2 t = k0_pay2 (outsAt0 m c (t.val - 1) (Nat.lt_of_le_of_lt (Nat.sub_le _ _) t.isLt)).2 (iblk m c 0 t) (iblk m c 1 t) := by
  rw [Value.flushed2_B m c t (by omega) h]
  unfold out0_B_2 kernelRun0_B
  dsimp only
  refine (View.read_writes_full VO0_2 _ inb_S1024x1024_S1024x1024_0_0 _ _).trans ?_
  sl_unfold_words
  simp only [readCov_all, readAt_all, Memref.IsWhole.read_unread]
  exact congrArg (fun v => k0_pay2 v (iblk m c 0 t) (iblk m c 1 t)) ((Memref.isWhole_whole cc0_scratch0).read_unread _)

/-- The array the kernel leaves. -/
theorem final : (dats m 0 c).arrAt 2 cfg0.N = fun i => tn (a m c) (b m c) (i 0).val (i 1).val := by
  refine (dats m 0 c).arrAt_eq_of_cover 2 _ (fun t ht => ?_) (fun i => ?_)
  · obtain ⟨h1, hp⟩ := pair t ht
    have hlt : t.val - 1 < cfg0.N := Nat.lt_of_le_of_lt (Nat.sub_le _ _) t.isLt
    obtain ⟨h0, hi⟩ := hp hlt
    rw [written m c t h1]
    funext y
    have hA := block_a m c t
    have hB := block_b m c t
    have hA' := block_a m c ⟨t.val - 1, hlt⟩
    have hB' := block_b m c ⟨t.val - 1, hlt⟩
    rw [(idx t).1, h1] at hA
    rw [(idx t).2, h1] at hB
    rw [(idx _).1, h0, hi] at hA'
    rw [(idx _).2, h0, hi] at hB'
    show _ = tn (a m c) (b m c) (win0_2.index t 0 * 1024 + 1 * (y 0).val) (win0_2.index t 1 * 1024 + 1 * (y 1).val)
    rw [one_mul, one_mul]
    rw [step, first m c ⟨t.val - 1, hlt⟩ h0, step, start, zero_add]
    rw [tn_block hA hB (y 0) (y 1), tn_block hA' hB' (y 0) (y 1)]
    exact dot_add _ _ 0 2048 2048
  · have hi0 : (i 0).val < 1024 := (i 0).isLt
    have hi1 : (i 1).val < 2048 := (i 1).isLt
    obtain ⟨t, hf, ht⟩ := onto ((i 0).val / 1024) ((i 1).val / 1024) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_L1ProjDwIdeal_L1ProjDwRefIdeal := by
  intro m g m' g' _ h
  refine ⟨fun c => (dats m 0 c).arrAt 2 cfg0.N, Value.run_blocks m g, ?_⟩
  refine (θ_run _ _ _).mono (fun r hr c => ⟨?_, (hr c).2⟩) (L1ProjDwRefIdeal.Value.run m' g')
  refine Eq.trans ?_ (final m c).symm
  rw [(hr c).1, L1ProjDwRefIdeal.Read.val_main_v3_eq, (h c).1, (h c).2]
  funext i
  rw [L1ProjDwRefIdeal.Read.val_main_v3_apply, L1ProjDwRefIdeal.Read.val_main_v2_apply]
  exact (sum_reads (fun _ => rfl) (fun _ => rfl)).trans (dot_comm _ _ _ _)

end Cert.Mm.L1ProjDw

end
-- ==== Proof.Mm.OutA.lean ====
/- The first half of the mixer output projection: the array the kernel leaves is `a b`. -/
module

public import proofs.«01_k».proof.Proof.Mm.Basic
public import proofs.«01_k».proof.Proof.Gen.OutAIdeal.Value
public import proofs.«01_k».proof.Proof.Gen.OutARefIdeal.Run
public import proofs.«01_k».proof.Proof.Gen.OutARefIdeal.Read
public import proofs.«01_k».proof.Defs
import all proofs.«01_k».proof.Proof.Gen.OutAIdeal.Frame

@[expose] public section

set_option maxRecDepth 16384

noncomputable section

namespace Cert.Mm.OutA

open Cert.OutAIdeal Cert.OutAIdeal.Gen Idealize.ShloMosaic Idealize.ShloMosaic.TcCoe Idealize.SL.Sem

variable (m : (ℓ : Loc nD τ sig) → Buf (Elt Ideal) ℓ) (c : Dev nD)

/-- The left factor. -/
abbrev a : S4096x512.Idx → EReal := m ((c : Thread nD τ).loc main_arg0)

/-- The right factor. -/
abbrev b : S512x1024.Idx → EReal := m ((c : Thread nD τ).loc main_arg1)

/-- What a step adds to the sum, at an entry. -/
theorem step (v : FVec Ideal S1024x1024 .f32) (x : FVec Ideal S1024x512 .bf16) (w : FVec Ideal S512x1024 .bf16) (y : S1024x1024.Idx) :
    k0_pay2 v x w y = v y + nn x w (y 0).val (y 1).val := by
  rw [← sum_nn x w (y 0) (y 1)]
  unfold k0_pay2
  pointwise

/-- The sum starts from zero. -/
theorem start (y : S1024x1024.Idx) : k0_pay1 (F := Ideal) y = 0 := by
  unfold k0_pay1
  pointwise

/-- The blocks a point reads follow the block it writes. -/
theorem idx (t : Fin cfg0.N) : win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1]) t

/-- Every block of the result is written. -/
theorem onto (p q : ℕ) (hp : p < 4) (hq : q < 1) : ∃ t : Fin cfg0.N, win0_2.flush t = true ∧ win0_2.index t = ![p, q] :=
  (by decide +kernel : ∀ (p : Fin 4) (q : Fin 1), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 512) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 512) (win0_1.index t 1 * 1024) :=
  isBlock_of _ _ _ _ ((cfg0.win 1).blk t).view.emb (fun y => by
    show V m c main_v1 _ = _
    entry_read
    rfl)
    (fun _ => rfl) (fun _ => rfl)

/-- What a point writes back. -/
theorem written (t : Fin cfg0.N) : (dats m 0 c).flushed 2 t = k0_pay2 k0_pay1 (iblk m c 0 t) (iblk m c 1 t) := by
  rw [Value.flushed2_A]
  unfold out0_A_2 kernelRun0_A
  dsimp only
  refine (View.read_writes_full VO0_2 _ inb_S1024x1024_S1024x1024_0_0 _ _).trans ?_
  sl_unfold_words
  simp only [readCov_all, readAt_all, Memref.IsWhole.read_unread]

/-- The array the kernel leaves. -/
theorem final : (dats m 0 c).arrAt 2 cfg0.N = fun i => nn (a m c) (b m c) (i 0).val (i 1).val := by
  refine (dats m 0 c).arrAt_eq_of_cover 2 _ (fun t _ => ?_) (fun i => ?_)
  · rw [written]
    funext y
    have hA := block_a m c t
    have hB := block_b m c t
    rw [(idx t).1] at hA
    rw [(idx t).2] at hB
    show _ = nn (a m c) (b m c) (win0_2.index t 0 * 1024 + 1 * (y 0).val) (win0_2.index t 1 * 1024 + 1 * (y 1).val)
    rw [one_mul, one_mul]
    rw [step, start, zero_add]
    exact nn_block hA hB (y 0) (y 1)
  · have hi0 : (i 0).val < 4096 := (i 0).isLt
    have hi1 : (i 1).val < 1024 := (i 1).isLt
    obtain ⟨t, hf, ht⟩ := onto ((i 0).val / 1024) ((i 1).val / 1024) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_OutAIdeal_OutARefIdeal := by
  intro m g m' g' _ h
  refine ⟨fun c => (dats m 0 c).arrAt 2 cfg0.N, Value.run_blocks m g, ?_⟩
  refine (θ_run _ _ _).mono (fun r hr c => ⟨?_, (hr c).2⟩) (OutARefIdeal.Value.run m' g')
  refine Eq.trans ?_ (final m c).symm
  rw [(hr c).1, OutARefIdeal.Read.val_main_v0_eq, (h c).1, (h c).2]
  funext i
  rw [OutARefIdeal.Read.val_main_v0_apply]
  exact sum_reads (fun _ => rfl) (fun _ => rfl)

end Cert.Mm.OutA

end
-- ==== Proof.Mm.OutB.lean ====
/- The second half of the mixer output projection, added to the first: the array the kernel leaves is `a b` plus the third argument. -/
module

public import proofs.«01_k».proof.Proof.Mm.Basic
public import proofs.«01_k».proof.Proof.Gen.OutBIdeal.Value
public import proofs.«01_k».proof.Proof.Gen.OutBRefIdeal.Run
public import proofs.«01_k».proof.Proof.Gen.OutBRefIdeal.Read
public import proofs.«01_k».proof.Defs
import all proofs.«01_k».proof.Proof.Gen.OutBIdeal.Frame

@[expose] public section

set_option maxRecDepth 16384

noncomputable section

namespace Cert.Mm.OutB

open Cert.OutBIdeal Cert.OutBIdeal.Gen Idealize.ShloMosaic Idealize.ShloMosaic.TcCoe Idealize.SL.Sem

variable (m : (ℓ : Loc nD τ sig) → Buf (Elt Ideal) ℓ) (c : Dev nD)

/-- The left factor. -/
abbrev a : S4096x512.Idx → EReal := m ((c : Thread nD τ).loc main_arg0)

/-- The right factor. -/
abbrev b : S512x1024.Idx → EReal := m ((c : Thread nD τ).loc main_arg1)

/-- What the product is added to. -/
abbrev d : S4096x1024.Idx → EReal := m ((c : Thread nD τ).loc main_arg2)

/-- What a step adds to the sum, at an entry. -/
theorem step (v : FVec Ideal S1024x1024 .f32) (x : FVec Ideal S1024x512 .bf16) (w : FVec Ideal S512x1024 .bf16) (y : S1024x1024.Idx) :
    k0_pay2 v x w y = v y + nn x w (y 0).val (y 1).val := by
  rw [← sum_nn x w (y 0) (y 1)]
  unfold k0_pay2
  pointwise

/-- The sum starts from zero. -/
theorem start (y : S1024x1024.Idx) : k0_pay1 (F := Ideal) y = 0 := by
  unfold k0_pay1
  pointwise

/-- The blocks a point reads follow the block it writes. -/
theorem idx (t : Fin cfg0.N) : win0_0.index t = ![win0_3.index t 0, 0] ∧ win0_1.index t = ![0, win0_3.index t 1] ∧ win0_2.index t = win0_3.index t :=
  (by decide +kernel : ∀ t : Fin grid0.N, win0_0.index t = ![win0_3.index t 0, 0] ∧ win0_1.index t = ![0, win0_3.index t 1] ∧ win0_2.index t = win0_3.index t) t

/-- Every block of the result is written. -/
theorem onto (p q : ℕ) (hp : p < 4) (hq : q < 1) : ∃ t : Fin cfg0.N, win0_3.flush t = true ∧ win0_3.index t = ![p, q] :=
  (by decide +kernel : ∀ (p : Fin 4) (q : Fin 1), ∃ t : Fin grid0.N, win0_3.flush t = true ∧ win0_3.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 512) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 512) (win0_1.index t 1 * 1024) :=
  isBlock_of _ _ _ _ ((cfg0.win 1).blk t).view.emb (fun y => by
    show V m c main_v1 _ = _
    entry_read
    rfl)
    (fun _ => rfl) (fun _ => rfl)

/-- The block of the array added to at a point. -/
theorem block_d (t : Fin cfg0.N) : IsBlock (iblk m c 2 t) (d m c) (win0_2.index t 0 * 1024) (win0_2.index t 1 * 1024) :=
  isBlock_of _ _ _ _ ((cfg0.win 2).blk t).view.emb (fun y => by
    show V m c main_arg2 _ = _
    entry_read
    rfl)
    (fun _ => rfl) (fun _ => rfl)

/-- What a point writes back. -/
theorem written (t : Fin cfg0.N) : (dats m 0 c).flushed 3 t = k0_pay3 (k0_pay2 k0_pay1 (iblk m c 0 t) (iblk m c 1 t)) (iblk m c 2 t) := by
  rw [Value.flushed3_A]
  unfold out0_A_3 kernelRun0_A
  dsimp only
  refine (View.read_writes_full VO0_3 _ inb_S1024x1024_S1024x1024_0_0 _ _).trans ?_
  sl_unfold_words
  simp only [readCov_all, readAt_all, Memref.IsWhole.read_unread]

/-- The array the kernel leaves. -/
theorem final : (dats m 0 c).arrAt 3 cfg0.N = fun i => nn (a m c) (b m c) (i 0).val (i 1).val + at2 (d m c) (i 0).val (i 1).val := by
  refine (dats m 0 c).arrAt_eq_of_cover 3 _ (fun t _ => ?_) (fun i => ?_)
  · rw [written]
    funext y
    have hA := block_a m c t
    have hB := block_b m c t
    rw [(idx t).1] at hA
    rw [(idx t).2.1] at hB
    have hD := block_d m c t
    rw [(idx t).2.2] at hD
    show _ = nn (a m c) (b m c) (win0_3.index t 0 * 1024 + 1 * (y 0).val) (win0_3.index t 1 * 1024 + 1 * (y 1).val) + at2 (d m c) (win0_3.index t 0 * 1024 + 1 * (y 0).val) (win0_3.index t 1 * 1024 + 1 * (y 1).val)
    rw [one_mul, one_mul]
    show k0_pay2 _ _ _ y + iblk m c 2 t y = _
    rw [at2_coords (iblk m c 2 t) y, hD _ _ (y 0).isLt (y 1).isLt]
    refine congrArg (· + _) ?_
    rw [step, start, zero_add]
    exact nn_block hA hB (y 0) (y 1)
  · have hi0 : (i 0).val < 4096 := (i 0).isLt
    have hi1 : (i 1).val < 1024 := (i 1).isLt
    obtain ⟨t, hf, ht⟩ := onto ((i 0).val / 1024) ((i 1).val / 1024) (by omega) (by omega)
    refine ⟨t, hf, ?_⟩
    show i ∈ ((View.whole main_v2).slice (win0_3.rect t)).set
    rw [View.set_slice_whole]
    exact mem_block _ i (by decide) (by decide) (congrArg (fun f => f 0 * 1024) ht) (congrArg (fun f => f 1 * 1024) ht)

/-- The kernel and the reference end with the same array. -/
theorem algebraic : Cert.algebraic_OutBIdeal_OutBRefIdeal := by
  intro m g m' g' _ h
  refine ⟨fun c => (dats m 0 c).arrAt 3 cfg0.N, Value.run_blocks m g, ?_⟩
  refine (θ_run _ _ _).mono (fun r hr c => ⟨?_, (hr c).2⟩) (OutBRefIdeal.Value.run m' g')
  refine Eq.trans ?_ (final m c).symm
  rw [(hr c).1, OutBRefIdeal.Read.val_main_v1_eq, (h c).1, (h c).2.1, (h c).2.2]
  funext i
  rw [OutBRefIdeal.Read.val_main_v1_apply]
  show _ + d m c i = _
  rw [at2_coords (d m c) i]
  refine congrArg (· + _) ?_
  rw [OutBRefIdeal.Read.val_main_v0_apply]
  exact sum_reads (fun _ => rfl) (fun _ => rfl)

end Cert.Mm.OutB

end
-- ==== Proof.Mm.OutDx.lean ====
/- The gradient of one half of the mixed heads under the output projection: the array the kernel leaves is `a bᵀ`. -/
module

public import proofs.«01_k».proof.Proof.Mm.Basic
public import proofs.«01_k».proof.Proof.Gen.OutDxIdeal.Value
public import proofs.«01_k».proof.Proof.Gen.OutDxRefIdeal.Run
public import proofs.«01_k».proof.Proof.Gen.OutDxRefIdeal.Read
public import proofs.«01_k».proof.Defs
import all proofs.«01_k».proof.Proof.Gen.OutDxIdeal.Frame

@[expose] public section

set_option maxRecDepth 16384

noncomputable section

namespace Cert.Mm.OutDx

open Cert.OutDxIdeal Cert.OutDxIdeal.Gen Idealize.ShloMosaic Idealize.ShloMosaic.TcCoe Idealize.SL.Sem

variable (m : (ℓ : Loc nD τ sig) → Buf (Elt Ideal) ℓ) (c : Dev nD)

/-- The left factor. -/
abbrev a : S4096x1024.Idx → EReal := m ((c : Thread nD τ).loc main_arg1)

/-- The right factor. -/
abbrev b : S512x1024.Idx → EReal := m ((c : Thread nD τ).loc main_arg0)

/-- What a step adds to the sum, at an entry. -/
theorem step (v : FVec Ideal S1024x512 .f32) (x : FVec Ideal S1024x1024 .bf16) (w : FVec Ideal S512x1024 .bf16) (y : S1024x512.Idx) :
    k0_pay2 v x w y = v y + nt x w (y 0).val (y 1).val := by
  rw [← sum_nt x w (y 0) (y 1)]
  unfold k0_pay2
  pointwise

/-- The sum starts from zero. -/
theorem start (y : S1024x512.Idx) : k0_pay1 (F := Ideal) y = 0 := by
  unfold k0_pay1
  pointwise

/-- The blocks a point reads follow the block it writes. -/
theorem idx (t : Fin cfg0.N) : win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0]) t

/-- Every block of the result is written. -/
theorem onto (p q : ℕ) (hp : p < 4) (hq : q < 1) : ∃ t : Fin cfg0.N, win0_2.flush t = true ∧ win0_2.index t = ![p, q] :=
  (by decide +kernel : ∀ (p : Fin 4) (q : Fin 1), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 1024) (win0_0.index t 1 * 1024) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 512) (win0_1.index t 1 * 1024) :=
  isBlock_of _ _ _ _ ((cfg0.win 1).blk t).view.emb (fun y => by
    show V m c main_v1 _ = _
    entry_read
    rfl)
    (fun _ => rfl) (fun _ => rfl)

/-- What a point writes back. -/
theorem written (t : Fin cfg0.N) : (dats m 0 c).flushed 2 t = k0_pay2 k0_pay1 (iblk m c 0 t) (iblk m c 1 t) := by
  rw [Value.flushed2_A]
  unfold out0_A_2 kernelRun0_A
  dsimp only
  refine (View.read_writes_full VO0_2 _ inb_S1024x512_S1024x512_0_0 _ _).trans ?_
  sl_unfold_words
  simp only [readCov_all, readAt_all, Memref.IsWhole.read_unread]

/-- The array the kernel leaves. -/
theorem final : (dats m 0 c).arrAt 2 cfg0.N = fun i => nt (a m c) (b m c) (i 0).val (i 1).val := by
  refine (dats m 0 c).arrAt_eq_of_cover 2 _ (fun t _ => ?_) (fun i => ?_)
  · rw [written]
    funext y
    have hA := block_a m c t
    have hB := block_b m c t
    rw [(idx t).1] at hA
    rw [(idx t).2] at hB
    show _ = nt (a m c) (b m c) (win0_2.index t 0 * 1024 + 1 * (y 0).val) (win0_2.index t 1 * 512 + 1 * (y 1).val)
    rw [one_mul, one_mul]
    rw [step, start, zero_add]
    exact nt_block hA hB (y 0) (y 1)
  · have hi0 : (i 0).val < 4096 := (i 0).isLt
    have hi1 : (i 1).val < 512 := (i 1).isLt
    obtain ⟨t, hf, ht⟩ := onto ((i 0).val / 1024) ((i 1).val / 512) (by omega) (by omega)
    refine ⟨t, hf, ?_⟩
    show i ∈ ((View.whole main_v2).slice (win0_2.rect t)).set
    rw [View.set_slice_whole]
    exact mem_block _ i (by decide) (by decide) (congrArg (fun f => f 0 * 1024) ht) (congrArg (fun f => f 1 * 512) ht)

/-- The kernel and the reference end with the same array. -/
theorem algebraic : Cert.algebraic_OutDxIdeal_OutDxRefIdeal := by
  intro m g m' g' _ h
  refine ⟨fun c => (dats m 0 c).arrAt 2 cfg0.N, Value.run_blocks m g, ?_⟩
  refine (θ_run _ _ _).mono (fun r hr c => ⟨?_, (hr c).2⟩) (OutDxRefIdeal.Value.run m' g')
  refine Eq.trans ?_ (final m c).symm
  rw [(hr c).1, OutDxRefIdeal.Read.val_main_v2_eq, (h c).1, (h c).2]
  funext i
  rw [OutDxRefIdeal.Read.val_main_v2_apply]
  exact sum_reads (fun _ => rfl) (fun _ => rfl)

end Cert.Mm.OutDx

end
-- ==== Proof.Mm.OutDw.lean ====
/- The gradient of one half of the output projection weight: the array the kernel leaves is `aᵀ b`. -/
module

public import proofs.«01_k».proof.Proof.Mm.Basic
public import proofs.«01_k».proof.Proof.Gen.OutDwIdeal.Value
public import proofs.«01_k».proof.Proof.Gen.OutDwRefIdeal.Run
public import proofs.«01_k».proof.Proof.Gen.OutDwRefIdeal.Read
public import proofs.«01_k».proof.Defs
import all proofs.«01_k».proof.Proof.Gen.OutDwIdeal.Frame

@[expose] public section

set_option maxRecDepth 16384

noncomputable section

namespace Cert.Mm.OutDw

open Cert.OutDwIdeal Cert.OutDwIdeal.Gen Idealize.ShloMosaic Idealize.ShloMosaic.TcCoe Idealize.SL.Sem

variable (m : (ℓ : Loc nD τ sig) → Buf (Elt Ideal) ℓ) (c : Dev nD)

/-- The left factor. -/
abbrev a : S4096x512.Idx → EReal := m ((c : Thread nD τ).loc main_arg0)

/-- The right factor. -/
abbrev b : S4096x1024.Idx → EReal := m ((c : Thread nD τ).loc main_arg1)

/-- What a step adds to the sum, at an entry. -/
theorem step (v : FVec Ideal S512x1024 .f32) (x : FVec Ideal S2048x512 .bf16) (w : FVec Ideal S2048x1024 .bf16) (y : S512x1024.Idx) :
    k0_pay2 v x w y = v y + tn x w (y 0).val (y 1).val := by
  rw [← sum_tn x w (y 0) (y 1)]
  unfold k0_pay2
  pointwise

/-- The sum starts from zero. -/
theorem start (y : S512x1024.Idx) : k0_pay1 (F := Ideal) y = 0 := by
  unfold k0_pay1
  pointwise

/-- The blocks a point reads follow the block it writes and the step of the sum. -/
theorem idx (t : Fin cfg0.N) : win0_0.index t = ![t.val % 2, win0_2.index t 0] ∧ win0_1.index t = ![t.val % 2, win0_2.index t 1] :=
  (by decide +kernel : ∀ t : Fin grid0.N, win0_0.index t = ![t.val % 2, win0_2.index t 0] ∧ win0_1.index t = ![t.val % 2, win0_2.index t 1]) t

/-- A block is written back at its second point, and has the place it had at its first. -/
theorem pair (t : Fin cfg0.N) (h : win0_2.flush t = true) :
    t.val % 2 = 1 ∧ ∀ h' : t.val - 1 < cfg0.N, (⟨t.val - 1, h'⟩ : Fin cfg0.N).val % 2 = 0 ∧ win0_2.index ⟨t.val - 1, h'⟩ = win0_2.index t :=
  (by decide +kernel : ∀ t : Fin grid0.N, win0_2.flush t = true → t.val % 2 = 1 ∧ ∀ h' : t.val - 1 < grid0.N, (⟨t.val - 1, h'⟩ : Fin grid0.N).val % 2 = 0 ∧ win0_2.index ⟨t.val - 1, h'⟩ = win0_2.index t) t h

/-- Every block of the result is written. -/
theorem onto (p q : ℕ) (hp : p < 1) (hq : q < 1) : ∃ t : Fin cfg0.N, win0_2.flush t = true ∧ win0_2.index t = ![p, q] :=
  (by decide +kernel : ∀ (p : Fin 1) (q : Fin 1), ∃ t : Fin grid0.N, win0_2.flush t = true ∧ win0_2.index t = ![p.val, q.val]) ⟨p, hp⟩ ⟨q, hq⟩

/-- The block of the left factor at a point. -/
theorem block_a (t : Fin cfg0.N) : IsBlock (iblk m c 0 t) (a m c) (win0_0.index t 0 * 2048) (win0_0.index t 1 * 512) :=
  isBlock_of _ _ _ _ ((cfg0.win 0).blk t).view.emb (fun y => by
    show V m c main_v0 _ = _
    entry_read
    rfl)
    (fun _ => rfl) (fun _ => rfl)

/-- The block of the right factor at a point. -/
theorem block_b (t : Fin cfg0.N) : IsBlock (iblk m c 1 t) (b m c) (win0_1.index t 0 * 2048) (win0_1.index t 1 * 1024) :=
  isBlock_of _ _ _ _ ((cfg0.win 1).blk t).view.emb (fun y => by
    show V m c main_v1 _ = _
    entry_read
    rfl)
    (fun _ => rfl) (fun _ => rfl)

/-- What the first point of a block leaves in the sum. -/
theorem first (t : Fin cfg0.N) (h : t.val % 2 = 0) :
    (outsAt0 m c t.val t.isLt).2 = k0_pay2 k0_pay1 (iblk m c 0 t) (iblk m c 1 t) := by
  rw [outsAt0_A m c t h (by omega)]
  dsimp only
  unfold sout0_A_0 kernelRun0_A
  dsimp only
  refine (View.read_writes_full VS0_0 _ inb_S512x1024_S512x1024_0_0 _ _).trans ?_
  sl_unfold_words
  simp only [readCov_all, readAt_all, Memref.IsWhole.read_unread]

/-- What the last point of a block writes back, over what the point before left. -/
theorem written (t : Fin cfg0.N) (h : t.val % 2 = 1) :
    (dats m 0 c).flushed 2 t = k0_pay2 (outsAt0 m c (t.val - 1) (Nat.lt_of_le_of_lt (Nat.sub_le _ _) t.isLt)).2 (iblk m c 0 t) (iblk m c 1 t) := by
  rw [Value.flushed2_B m c t (by omega) h]
  unfold out0_B_2 kernelRun0_B
  dsimp only
  refine (View.read_writes_full VO0_2 _ inb_S512x1024_S512x1024_0_0 _ _).trans ?_
  sl_unfold_words
  simp only [readCov_all, readAt_all, Memref.IsWhole.read_unread]
  exact congrArg (fun v => k0_pay2 v (iblk m c 0 t) (iblk m c 1 t)) ((Memref.isWhole_whole cc0_scratch0).read_unread _)

/-- The array the kernel leaves. -/
theorem final : (dats m 0 c).arrAt 2 cfg0.N = fun i => tn (a m c) (b m c) (i 0).val (i 1).val := by
  refine (dats m 0 c).arrAt_eq_of_cover 2 _ (fun t ht => ?_) (fun i => ?_)
  · obtain ⟨h1, hp⟩ := pair t ht
    have hlt : t.val - 1 < cfg0.N := Nat.lt_of_le_of_lt (Nat.sub_le _ _) t.isLt
    obtain ⟨h0, hi⟩ := hp hlt
    rw [written m c t h1]
    funext y
    have hA := block_a m c t
    have hB := block_b m c t
    have hA' := block_a m c ⟨t.val - 1, hlt⟩
    have hB' := block_b m c ⟨t.val - 1, hlt⟩
    rw [(idx t).1, h1] at hA
    rw [(idx t).2, h1] at hB
    rw [(idx _).1, h0, hi] at hA'
    rw [(idx _).2, h0, hi] at hB'
    show _ = tn (a m c) (b m c) (win0_2.index t 0 * 512 + 1 * (y 0).val) (win0_2.index t 1 * 1024 + 1 * (y 1).val)
    rw [one_mul, one_mul]
    rw [step, first m c ⟨t.val - 1, hlt⟩ h0, step, start, zero_add]
    rw [tn_block hA hB (y 0) (y 1), tn_block hA' hB' (y 0) (y 1)]
    exact dot_add _ _ 0 2048 2048
  · have hi0 : (i 0).val < 512 := (i 0).isLt
    have hi1 : (i 1).val < 1024 := (i 1).isLt
    obtain ⟨t, hf, ht⟩ := onto ((i 0).val / 512) ((i 1).val / 1024) (by omega) (by omega)
    refine ⟨t, hf, ?_⟩
    show i ∈ ((View.whole main_v2).slice (win0_2.rect t)).set
    rw [View.set_slice_whole]
    exact mem_block _ i (by decide) (by decide) (congrArg (fun f => f 0 * 512) ht) (congrArg (fun f => f 1 * 1024) ht)

/-- The kernel and the reference end with the same array. -/
theorem algebraic : Cert.algebraic_OutDwIdeal_OutDwRefIdeal := by
  intro m g m' g' _ h
  refine ⟨fun c => (dats m 0 c).arrAt 2 cfg0.N, Value.run_blocks m g, ?_⟩
  refine (θ_run _ _ _).mono (fun r hr c => ⟨?_, (hr c).2⟩) (OutDwRefIdeal.Value.run m' g')
  refine Eq.trans ?_ (final m c).symm
  rw [(hr c).1, OutDwRefIdeal.Read.val_main_v3_eq, (h c).1, (h c).2]
  funext i
  rw [OutDwRefIdeal.Read.val_main_v3_apply, OutDwRefIdeal.Read.val_main_v2_apply]
  exact (sum_reads (fun _ => rfl) (fun _ => rfl)).trans (dot_comm _ _ _ _)

end Cert.Mm.OutDw

end
-- ==== Proof.Step.Adam.lean ====
/- One step of the optimiser, at any shape: what the whole-array operations leave is the same formula at every entry. -/
module

public import Idealize.ShloMosaic.Lib.Pipeline.Value
public import Idealize.ShloMosaic.Lib.Pointwise
public import proofs.«01_k».proof.Defs

@[expose] public section

noncomputable section

namespace Cert.Step

open Idealize.ShloMosaic

variable {s z : Shape}

/-- Both moments are running means `β x + (1 − β) y`, with the two factors given by their bits. -/
abbrev mean (β β' : BitVec 32) (x y : FVec Ideal s .f32) : FVec Ideal s .f32 := fun i =>
  FloatOps.addf (FloatOps.mulf (Scalar.ofBits .f32 β) (x i)) (FloatOps.mulf (Scalar.ofBits .f32 β') (y i))

/-- The first moment after the step, from the moment before it and the gradient. -/
abbrev first (x g : FVec Ideal s .f32) : FVec Ideal s .f32 := mean 0x3F666666#32 0x3DCCCCCD#32 x g

/-- The second moment after the step, from the moment before it and the gradient's square. -/
abbrev second (x g : FVec Ideal s .f32) : FVec Ideal s .f32 := mean 0x3F7FBE77#32 0x3A83126F#32 x (mulf g g)

/-- The change of the weight: the corrected first moment over the root of the corrected second one, with the weight's decay. -/
abbrev change (w g x y : FVec Ideal s .f32) : FVec Ideal s .f32 := fun i =>
  FloatOps.mulf (Scalar.ofBits .f32 0xBA83126F#32)
    (FloatOps.addf
      (FloatOps.divf (FloatOps.divf (first x g i) (Scalar.ofBits .f32 0x3F26BD02#32))
        (FloatOps.addf (FloatOps.sqrt (FloatOps.divf (second y g i) (Scalar.ofBits .f32 0x3C231ACC#32)))
          (Scalar.ofBits .f32 0x322BCC77#32)))
      (FloatOps.mulf (Scalar.ofBits .f32 0x3C23D70A#32) (w i)))

/-- A number spread over an array is that number at every entry. -/
theorem spread {d : Fin z.rank → Fin s.rank} (h : z.BroadcastsInDim s d) (b : BitVec 32) (i : s.Idx) :
    broadcastInDim s d h (constant (F := Ideal) z .f32 b) i = Scalar.ofBits .f32 b := rfl

/-- A running mean written with whole arrays. -/
theorem mean_eq {d : Fin z.rank → Fin s.rank} (h : z.BroadcastsInDim s d) (β β' : BitVec 32) (x y : FVec Ideal s .f32) :
    addf (mulf (broadcastInDim s d h (constant z .f32 β)) x) (mulf (broadcastInDim s d h (constant z .f32 β')) y) = mean β β' x y :=
  funext fun i => by
    show FloatOps.addf (FloatOps.mulf (broadcastInDim s d h (constant z .f32 β) i) _) (FloatOps.mulf (broadcastInDim s d h (constant z .f32 β') i) _) = _
    rw [spread, spread]

/-- The change of the weight written with whole arrays, from the two moments after the step. -/
theorem change_eq {d : Fin z.rank → Fin s.rank} (h : z.BroadcastsInDim s d) (w g x y : FVec Ideal s .f32) :
    mulf (broadcastInDim s d h (constant z .f32 0xBA83126F#32))
        (addf
          (Host.divf (Host.divf (first x g) (broadcastInDim s d h (constant z .f32 0x3F26BD02#32)))
            (addf (Host.sqrt (Host.divf (second y g) (broadcastInDim s d h (constant z .f32 0x3C231ACC#32))))
              (broadcastInDim s d h (constant z .f32 0x322BCC77#32))))
          (mulf (broadcastInDim s d h (constant z .f32 0x3C23D70A#32)) w))
      = change w g x y := rfl

end Cert.Step
-- ==== Proof.Step.AdamL0In.lean ====
/- The optimiser's step for the first layer's input projections, one array side by side: the kernel and the plain formula leave the same three arrays. -/
module

public import proofs.«01_k».proof.Proof.Step.Adam
public import proofs.«01_k».proof.Proof.Gen.AdamL0InIdeal.Value
public import proofs.«01_k».proof.Proof.Gen.AdamL0InRefIdeal.Run
public import proofs.«01_k».proof.Defs

@[expose] public section

noncomputable section

namespace Cert.Step.AdamL0In

open Cert.AdamL0InIdeal Idealize.ShloMosaic Idealize.ShloMosaic.TcCoe Idealize.SL.Sem

/-- From the same weights, gradients and moments both programs end with the same change of the weights and the same two moments. -/
theorem algebraic : Cert.algebraic_AdamL0InIdeal_AdamL0InRefIdeal := by
  intro m g m' g' _ h
  refine ⟨fun _ => _, fun _ => _, fun _ => _, Value.run m g, ?_⟩
  refine (θ_run _ _ _).mono (fun r hr c => ⟨?_, ?_, ?_, (hr c).2.2.2⟩) (Cert.AdamL0InRefIdeal.Value.run m' g')
  · rw [(hr c).1, (h c).1, (h c).2.1, (h c).2.2.1, (h c).2.2.2, mean_eq, mean_eq, change_eq]
    rfl
  · rw [(hr c).2.1, (h c).2.1, (h c).2.2.1, mean_eq]
  · rw [(hr c).2.2.1, (h c).2.1, (h c).2.2.2, mean_eq]
    rfl

end Cert.Step.AdamL0In
-- ==== Proof.Step.AdamL1In.lean ====
/- The optimiser's step for the second layer's input projections, one array side by side: the kernel and the plain formula leave the same three arrays. -/
module

public import proofs.«01_k».proof.Proof.Step.Adam
public import proofs.«01_k».proof.Proof.Gen.AdamL1InIdeal.Value
public import proofs.«01_k».proof.Proof.Gen.AdamL1InRefIdeal.Run
public import proofs.«01_k».proof.Defs

@[expose] public section

noncomputable section

namespace Cert.Step.AdamL1In

open Cert.AdamL1InIdeal Idealize.ShloMosaic Idealize.ShloMosaic.TcCoe Idealize.SL.Sem

/-- From the same weights, gradients and moments both programs end with the same change of the weights and the same two moments. -/
theorem algebraic : Cert.algebraic_AdamL1InIdeal_AdamL1InRefIdeal := by
  intro m g m' g' _ h
  refine ⟨fun _ => _, fun _ => _, fun _ => _, Value.run m g, ?_⟩
  refine (θ_run _ _ _).mono (fun r hr c => ⟨?_, ?_, ?_, (hr c).2.2.2⟩) (Cert.AdamL1InRefIdeal.Value.run m' g')
  · rw [(hr c).1, (h c).1, (h c).2.1, (h c).2.2.1, (h c).2.2.2, mean_eq, mean_eq, change_eq]
    rfl
  · rw [(hr c).2.1, (h c).2.1, (h c).2.2.1, mean_eq]
  · rw [(hr c).2.2.1, (h c).2.1, (h c).2.2.2, mean_eq]
    rfl

end Cert.Step.AdamL1In
-- ==== Proof.Step.AdamUp.lean ====
/- The optimiser's step for the rows into a feed-forward hidden layer: the kernel and the plain formula leave the same three arrays. -/
module

public import proofs.«01_k».proof.Proof.Step.Adam
public import proofs.«01_k».proof.Proof.Gen.AdamUpIdeal.Value
public import proofs.«01_k».proof.Proof.Gen.AdamUpRefIdeal.Run
public import proofs.«01_k».proof.Defs

@[expose] public section

noncomputable section

namespace Cert.Step.AdamUp

open Cert.AdamUpIdeal Idealize.ShloMosaic Idealize.ShloMosaic.TcCoe Idealize.SL.Sem

/-- From the same weights, gradients and moments both programs end with the same change of the weights and the same two moments. -/
theorem algebraic : Cert.algebraic_AdamUpIdeal_AdamUpRefIdeal := by
  intro m g m' g' _ h
  refine ⟨fun _ => _, fun _ => _, fun _ => _, Value.run m g, ?_⟩
  refine (θ_run _ _ _).mono (fun r hr c => ⟨?_, ?_, ?_, (hr c).2.2.2⟩) (Cert.AdamUpRefIdeal.Value.run m' g')
  · rw [(hr c).1, (h c).1, (h c).2.1, (h c).2.2.1, (h c).2.2.2, mean_eq, mean_eq, change_eq]
    rfl
  · rw [(hr c).2.1, (h c).2.1, (h c).2.2.1, mean_eq]
  · rw [(hr c).2.2.1, (h c).2.1, (h c).2.2.2, mean_eq]
    rfl

end Cert.Step.AdamUp
-- ==== Proof.Step.AdamDown.lean ====
/- The optimiser's step for the rows out of a feed-forward hidden layer: the kernel and the plain formula leave the same three arrays. -/
module

public import proofs.«01_k».proof.Proof.Step.Adam
public import proofs.«01_k».proof.Proof.Gen.AdamDownIdeal.Value
public import proofs.«01_k».proof.Proof.Gen.AdamDownRefIdeal.Run
public import proofs.«01_k».proof.Defs

@[expose] public section

noncomputable section

namespace Cert.Step.AdamDown

open Cert.AdamDownIdeal Idealize.ShloMosaic Idealize.ShloMosaic.TcCoe Idealize.SL.Sem

/-- From the same weights, gradients and moments both programs end with the same change of the weights and the same two moments. -/
theorem algebraic : Cert.algebraic_AdamDownIdeal_AdamDownRefIdeal := by
  intro m g m' g' _ h
  refine ⟨fun _ => _, fun _ => _, fun _ => _, Value.run m g, ?_⟩
  refine (θ_run _ _ _).mono (fun r hr c => ⟨?_, ?_, ?_, (hr c).2.2.2⟩) (Cert.AdamDownRefIdeal.Value.run m' g')
  · rw [(hr c).1, (h c).1, (h c).2.1, (h c).2.2.1, (h c).2.2.2, mean_eq, mean_eq, change_eq]
    rfl
  · rw [(hr c).2.1, (h c).2.1, (h c).2.2.1, mean_eq]
  · rw [(hr c).2.2.1, (h c).2.1, (h c).2.2.2, mean_eq]
    rfl

end Cert.Step.AdamDown
-- ==== Proof.Step.AdamOut.lean ====
/- The optimiser's step for a projection back to the model's width: the kernel and the plain formula leave the same three arrays. -/
module

public import proofs.«01_k».proof.Proof.Step.Adam
public import proofs.«01_k».proof.Proof.Gen.AdamOutIdeal.Value
public import proofs.«01_k».proof.Proof.Gen.AdamOutRefIdeal.Run
public import proofs.«01_k».proof.Defs

@[expose] public section

noncomputable section

namespace Cert.Step.AdamOut

open Cert.AdamOutIdeal Idealize.ShloMosaic Idealize.ShloMosaic.TcCoe Idealize.SL.Sem

/-- From the same weights, gradients and moments both programs end with the same change of the weights and the same two moments. -/
theorem algebraic : Cert.algebraic_AdamOutIdeal_AdamOutRefIdeal := by
  intro m g m' g' _ h
  refine ⟨fun _ => _, fun _ => _, fun _ => _, Value.run m g, ?_⟩
  refine (θ_run _ _ _).mono (fun r hr c => ⟨?_, ?_, ?_, (hr c).2.2.2⟩) (Cert.AdamOutRefIdeal.Value.run m' g')
  · rw [(hr c).1, (h c).1, (h c).2.1, (h c).2.2.1, (h c).2.2.2, mean_eq, mean_eq, change_eq]
    rfl
  · rw [(hr c).2.1, (h c).2.1, (h c).2.2.1, mean_eq]
  · rw [(hr c).2.2.1, (h c).2.1, (h c).2.2.2, mean_eq]
    rfl

end Cert.Step.AdamOut
-- ==== Proof.Step.AdamSmall.lean ====
/- The optimiser's step for the small weights, packed into rows of 128: the kernel and the plain formula leave the same three arrays. -/
module

public import proofs.«01_k».proof.Proof.Step.Adam
public import proofs.«01_k».proof.Proof.Gen.AdamSmallIdeal.Value
public import proofs.«01_k».proof.Proof.Gen.AdamSmallRefIdeal.Run
public import proofs.«01_k».proof.Defs

@[expose] public section

noncomputable section

namespace Cert.Step.AdamSmall

open Cert.AdamSmallIdeal Idealize.ShloMosaic Idealize.ShloMosaic.TcCoe Idealize.SL.Sem

/-- From the same weights, gradients and moments both programs end with the same change of the weights and the same two moments. -/
theorem algebraic : Cert.algebraic_AdamSmallIdeal_AdamSmallRefIdeal := by
  intro m g m' g' _ h
  refine ⟨fun _ => _, fun _ => _, fun _ => _, Value.run m g, ?_⟩
  refine (θ_run _ _ _).mono (fun r hr c => ⟨?_, ?_, ?_, (hr c).2.2.2⟩) (Cert.AdamSmallRefIdeal.Value.run m' g')
  · rw [(hr c).1, (h c).1, (h c).2.1, (h c).2.2.1, (h c).2.2.2, mean_eq, mean_eq, change_eq]
    rfl
  · rw [(hr c).2.1, (h c).2.1, (h c).2.2.1, mean_eq]
  · rw [(hr c).2.2.1, (h c).2.1, (h c).2.2.2, mean_eq]
    rfl

end Cert.Step.AdamSmall
-- ==== Proof.Step.Loss.lean ====
/- The loss of a device's tokens and its gradient: the kernel adds the loss up block of rows by block of rows, the reference
   takes half of one sum over all rows; the summands are not negative, so the two are the same number. -/
module

public import proofs.«01_k».proof.Proof.Mm.Basic
public import proofs.«01_k».proof.Proof.Gen.LossIdeal.Value
public import proofs.«01_k».proof.Proof.Gen.LossRefIdeal.Run
public import proofs.«01_k».proof.Proof.Gen.LossRefIdeal.Read
public import proofs.«01_k».proof.Defs
import all proofs.«01_k».proof.Proof.Gen.LossIdeal.Frame

@[expose] public section

set_option maxRecDepth 16384

noncomputable section

namespace Cert.Step.Loss

open Cert.LossIdeal Cert.LossIdeal.Gen Cert.Mm Idealize.ShloMosaic Idealize.ShloMosaic.TcCoe Idealize.SL.Sem

/-! ## One row, and the numbers that stand in the two programs -/

/-- The mean of the squared differences of one row. -/
def row {M : ℕ} (A B : (⟨2, ![M, 1024]⟩ : Shape).Idx → EReal) (r : ℕ) : EReal :=
  dot (fun k => at2 A r k - at2 B r k) (fun k => at2 A r k - at2 B r k) 0 1024 * ((1 / 1024 : ℝ) : EReal)

/-- The word of a half. -/
theorem half_eq : Ideal.ofBits .f32 0x3F000000#32 = ((1 / 2 : ℝ) : EReal) := by
  simp [Ideal.ofBits, Ideal.ieee]
  rw [← EReal.coe_mul]
  norm_num

/-- The word of 1/1024. -/
theorem small_eq : Ideal.ofBits .f32 0x3A800000#32 = ((1 / 1024 : ℝ) : EReal) := by
  simp [Ideal.ofBits, Ideal.ieee]
  rw [← EReal.coe_mul]
  norm_num

/-- The word of 1024. -/
theorem width_eq : Ideal.ofBits .f32 0x44800000#32 = ((1024 : ℝ) : EReal) := by
  simp [Ideal.ofBits, Ideal.ieee]
  rw [← EReal.coe_mul]
  norm_num

/-- The word of two. -/
theorem two_eq : Ideal.ofBits .f32 0x40000000#32 = ((2 : ℝ) : EReal) := by
  simp [Ideal.ofBits, Ideal.ieee]
  rw [← EReal.coe_mul]
  norm_num

/-- The word of one. -/
theorem unit_eq : Ideal.ofBits .f32 0x3F800000#32 = ((1 : ℝ) : EReal) := by
  simp [Ideal.ofBits, Ideal.ieee]
  rw [← EReal.coe_mul]
  norm_num

/-- The word of zero. -/
theorem zero_eq : Ideal.ofBits .f32 0x00000000#32 = 0 := by simp [Ideal.ofBits, Ideal.ieee]

/-- A square is not negative, infinite numbers included. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A row's mean is not negative. -/
theorem row_nonneg {M : ℕ} (A B : (⟨2, ![M, 1024]⟩ : Shape).Idx → EReal) (r : ℕ) : 0 ≤ row A B r :=
  mul_nonneg (Finset.sum_nonneg fun _ _ => square_nonneg _) (EReal.coe_nonneg.mpr (by norm_num))

/-- A row of a block is a row of the array. -/
theorem row_block {M m : ℕ} {x w : (⟨2, ![m, 1024]⟩ : Shape).Idx → EReal} {A B : (⟨2, ![M, 1024]⟩ : Shape).Idx → EReal} {o : ℕ}
    (hx : IsBlock x A o 0) (hw : IsBlock w B o 0) (r : ℕ) (hr : r < m) : row x w r = row A B (o + r) := by
  unfold row dot
  refine congrArg (· * _) (Finset.sum_congr rfl fun k hk => ?_)
  have h := Finset.mem_range.mp hk
  show (at2 x r (0 + k) - at2 w r (0 + k)) * (at2 x r (0 + k) - at2 w r (0 + k)) = _
  rw [hx r (0 + k) hr (by omega), hw r (0 + k) hr (by omega), zero_add]

/-- Half of the means of the rows before a place. -/
def half {M : ℕ} (A B : (⟨2, ![M, 1024]⟩ : Shape).Idx → EReal) (n : ℕ) : EReal :=
  ((1 / 2 : ℝ) : EReal) * ∑ r ∈ Finset.range n, row A B r

/-- Half of a stretch of rows and half of the next one make half of both. -/
theorem half_add {M : ℕ} (A B : (⟨2, ![M, 1024]⟩ : Shape).Idx → EReal) (n p : ℕ) :
    half A B n + ((1 / 2 : ℝ) : EReal) * ∑ r ∈ Finset.range p, row A B (n + r) = half A B (n + p) := by
  unfold half
  rw [Finset.sum_range_add, EReal.left_distrib_of_nonneg (Finset.sum_nonneg fun _ _ => row_nonneg A B _)
    (Finset.sum_nonneg fun _ _ => row_nonneg A B _)]

/-! ## What the kernel does -/

variable (m : (ℓ : Loc nD τ sig) → Buf (Elt Ideal) ℓ) (c : Dev nD)

/-- The network's result. -/
abbrev a : S4096x1024.Idx → EReal := m ((c : Thread nD τ).loc main_arg0)

/-- What it should have been. -/
abbrev b : S4096x1024.Idx → EReal := m ((c : Thread nD τ).loc main_arg1)

/-- What a step adds to the loss, the same in every entry of the block. -/
theorem step (x w : FVec Ideal S512x1024 .f32) (v : FVec Ideal S8x128 .f32) (y : S8x128.Idx) :
    k0_pay4 (F := Ideal) x w v y = v y + ((1 / 2 : ℝ) : EReal) * ∑ r ∈ Finset.range 512, row x w r := by
  unfold k0_pay4 k0_pay1
  pointwise
  rw [half_eq, small_eq, Finset.sum_range]
  refine congrArg (fun s => v y + _ * s) (Finset.sum_congr rfl fun r _ => congrArg (· * _) ?_)
  simp only [at2_ix]
  exact sum_fin_dot (fun k => at2 x r.val k - at2 w r.val k) (fun k => at2 x r.val k - at2 w r.val k) 1024

/-- The loss starts from zero. -/
theorem start (y : S8x128.Idx) : k0_pay3 (F := Ideal) y = 0 := by
  unfold k0_pay3
  pointwise

/-- What a step writes of the gradient. -/
theorem slope (x w : FVec Ideal S512x1024 .f32) (y : S512x1024.Idx) :
    k0_pay2 (F := Ideal) x w y = (x y - w y) * ((1 / 1024 : ℝ) : EReal) := by
  rw [← small_eq]
  unfold k0_pay2 k0_pay1
  pointwise

/-- The rows a point reads and writes. -/
theorem idx (t : Fin cfg0.N) : win0_0.index t = ![t.val, 0] ∧ win0_1.index t = ![t.val, 0] ∧ win0_3.index t = ![t.val, 0] :=
  (by decide +kernel : ∀ t : Fin grid0.N, win0_0.index t = ![t.val, 0] ∧ win0_1.index t = ![t.val, 0] ∧ win0_3.index t = ![t.val, 0]) t

/-- The loss is written back at the last point, at the only place there is. -/
theorem last (t : Fin cfg0.N) (h : win0_2.flush t = true) : t.val = 7 :=
  (by decide +kernel : ∀ t : Fin grid0.N, win0_2.flush t = true → t.val = 7) t h

/-- The loss is written back. -/
theorem there : ∃ t : Fin cfg0.N, win0_2.flush t = true ∧ win0_2.index t = ![0, 0] :=
  (by decide +kernel : ∃ t : Fin grid0.N, win0_2.flush t = true ∧ win0_2.index t = ![0, 0])

/-- Every block of the gradient is written. -/
theorem onto (p : ℕ) (hp : p < 8) : ∃ t : Fin cfg0.N, win0_3.flush t = true ∧ win0_3.index t = ![p, 0] :=
  (by decide +kernel : ∀ p : Fin 8, ∃ t : Fin grid0.N, win0_3.flush t = true ∧ win0_3.index t = ![p.val, 0]) ⟨p, hp⟩

/-- The rows of the result at a point. -/
theorem block_a (t : Fin cfg0.N) : IsBlock (iblk m c 0 t) (a m c) (512 * t.val) 0 := by
  have h := isBlock_of (iblk m c 0 t) (a m c) (win0_0.index t 0 * 512) (win0_0.index t 1 * 1024) ((cfg0.win 0).blk t).view.emb (fun y => by
    show V m c main_arg0 _ = _
    entry_read
    rfl)
    (fun _ => rfl) (fun _ => rfl)
  rw [(idx t).1] at h
  rw [mul_comm]
  exact h

/-- The rows of the target at a point. -/
theorem block_b (t : Fin cfg0.N) : IsBlock (iblk m c 1 t) (b m c) (512 * t.val) 0 := by
  have h := isBlock_of (iblk m c 1 t) (b m c) (win0_1.index t 0 * 512) (win0_1.index t 1 * 1024) ((cfg0.win 1).blk t).view.emb (fun y => by
    show V m c main_arg1 _ = _
    entry_read
    rfl)
    (fun _ => rfl) (fun _ => rfl)
  rw [(idx t).2.1] at h
  rw [mul_comm]
  exact h

/-- What a point adds to the loss, by the rows of the arrays. -/
theorem added (t : Fin cfg0.N) (v : FVec Ideal S8x128 .f32) (y : S8x128.Idx) :
    k0_pay4 (F := Ideal) (iblk m c 0 t) (iblk m c 1 t) v y
      = v y + ((1 / 2 : ℝ) : EReal) * ∑ r ∈ Finset.range 512, row (a m c) (b m c) (512 * t.val + r) := by
  rw [step]
  refine congrArg (fun s => v y + _ * s) (Finset.sum_congr rfl fun r hr => ?_)
  exact row_block (block_a m c t) (block_b m c t) r (Finset.mem_range.mp hr)

/-- What the first point leaves of the loss. -/
theorem first (t : Fin cfg0.N) (h : t.val % 8 = 0) :
    (outsAt0 m c t.val t.isLt).1 = k0_pay4 (iblk m c 0 t) (iblk m c 1 t) (k0_pay3 (F := Ideal)) := by
  rw [outsAt0_A m c t h]
  dsimp only
  unfold out0_A_2 kernelRun0_A
  dsimp only
  refine (View.read_writes_full VO0_2 _ inb_S8x128_S8x128_0_0 _ _).trans ?_
  sl_unfold_words
  simp only [readCov_all, readAt_all, Memref.IsWhole.read_unread]

/-- What a later point leaves of the loss, over what the point before left. -/
theorem later (t : Fin cfg0.N) (h : ¬t.val % 8 = 0) :
    (outsAt0 m c t.val t.isLt).1
      = k0_pay4 (iblk m c 0 t) (iblk m c 1 t) (outsAt0 m c (t.val - 1) (Nat.lt_of_le_of_lt (Nat.sub_le _ _) t.isLt)).1 := by
  rw [outsAt0_B m c t h]
  dsimp only
  unfold out0_B_2 kernelRun0_B
  dsimp only
  refine (View.read_writes_full VO0_2 _ inb_S8x128_S8x128_0_0 _ _).trans ?_
  sl_unfold_words
  simp only [readCov_all, readAt_all, Memref.IsWhole.read_unread]

/-- After a point the block holds half of the means of all rows up to there. -/
theorem running (n : ℕ) (hn : n < cfg0.N) (y : S8x128.Idx) :
    (outsAt0 m c n hn).1 y = half (a m c) (b m c) (512 * n + 512) := by
  have hN : cfg0.N = 8 := by decide
  induction n with
  | zero =>
    rw [first m c ⟨0, hn⟩ rfl, added, start, ← half_add]
    exact congrArg (· + _) (by unfold half; simp)
  | succ n ih =>
    rw [later m c ⟨n + 1, hn⟩ (by show ¬(n + 1) % 8 = 0; omega), added, ← half_add]
    exact congrArg (· + _) (ih _)

/-- The block of the loss the kernel leaves. -/
theorem final_loss : (dats m 0 c).arrAt 2 cfg0.N = fun _ => half (a m c) (b m c) 4096 := by
  refine (dats m 0 c).arrAt_eq_of_cover 2 _ (fun t ht => ?_) (fun i => ?_)
  · funext y
    rw [Value.flushed2]
    refine (running m c t.val t.isLt y).trans ?_
    rw [last t ht]
    rfl
  · obtain ⟨t, hf, ht⟩ := there
    have hi0 : (i 0).val < 8 := (i 0).isLt
    have hi1 : (i 1).val < 128 := (i 1).isLt
    refine ⟨t, hf, ?_⟩
    show i ∈ ((View.whole main_v0_0).slice (win0_2.rect t)).set
    rw [View.set_slice_whole]
    exact mem_block _ i (by decide) (by decide)
      ((congrArg (fun f => f 0 * 8) ht).trans (congrArg (· * 8) (Nat.div_eq_of_lt hi0).symm))
      ((congrArg (fun f => f 1 * 128) ht).trans (congrArg (· * 128) (Nat.div_eq_of_lt hi1).symm))

/-- What a point leaves of the gradient. -/
theorem written (t : Fin cfg0.N) : (dats m 0 c).flushed 3 t = k0_pay2 (iblk m c 0 t) (iblk m c 1 t) := by
  by_cases h : t.val % 8 = 0
  · rw [Value.flushed3_A m c t h]
    unfold out0_A_3 kernelRun0_A
    dsimp only
    refine (View.read_writes_full VO0_3 _ inb_S512x1024_S512x1024_0_0 _ _).trans ?_
    sl_unfold_words
    simp only [readCov_all, readAt_all, Memref.IsWhole.read_unread]
  · rw [Value.flushed3_B m c t h]
    unfold out0_B_3 kernelRun0_B
    dsimp only
    refine (View.read_writes_full VO0_3 _ inb_S512x1024_S512x1024_0_0 _ _).trans ?_
    sl_unfold_words
    simp only [readCov_all, readAt_all, Memref.IsWhole.read_unread]

/-- The gradient the kernel leaves. -/
theorem final_slope : (dats m 0 c).arrAt 3 cfg0.N = fun i => (a m c i - b m c i) * ((1 / 1024 : ℝ) : EReal) := by
  refine (dats m 0 c).arrAt_eq_of_cover 3 _ (fun t _ => ?_) (fun i => ?_)
  · rw [written]
    funext y
    refine (slope _ _ y).trans ?_
    have hA := block_a m c t _ _ (y 0).isLt (y 1).isLt
    have hB := block_b m c t _ _ (y 0).isLt (y 1).isLt
    rw [at2_coords (iblk m c 0 t) y, at2_coords (iblk m c 1 t) y, hA, hB]
    show _ = (a m c (((cfg0.win 3).blk t).view.emb y) - b m c (((cfg0.win 3).blk t).view.emb y)) * _
    rw [at2_coords (a m c), at2_coords (b m c)]
    show _ = (at2 (a m c) (win0_3.index t 0 * 512 + 1 * (y 0).val) (win0_3.index t 1 * 1024 + 1 * (y 1).val)
      - at2 (b m c) (win0_3.index t 0 * 512 + 1 * (y 0).val) (win0_3.index t 1 * 1024 + 1 * (y 1).val)) * _
    rw [(idx t).2.2, one_mul, one_mul, mul_comm 512]
    rfl
  · have hi0 : (i 0).val < 4096 := (i 0).isLt
    have hi1 : (i 1).val < 1024 := (i 1).isLt
    obtain ⟨t, hf, ht⟩ := onto ((i 0).val / 512) (by omega)
    refine ⟨t, hf, ?_⟩
    show i ∈ ((View.whole main_v0_1).slice (win0_3.rect t)).set
    rw [View.set_slice_whole]
    exact mem_block _ i (by decide) (by decide) (congrArg (fun f => f 0 * 512) ht)
      ((congrArg (fun f => f 1 * 1024) ht).trans (congrArg (· * 1024) (Nat.div_eq_of_lt hi1).symm))

/-! ## What the reference does -/

open Cert.LossRefIdeal.Read in
/-- One row's mean in the reference. -/
theorem ref_row (x w : S4096x1024.Idx → EReal) (r : Fin 4096) (j : Cert.LossRefIdeal.S4096.Idx) (hj : (j 0).val = r.val) :
    val_main_v6 (F := Ideal) x w j = row x w r.val := by
  rw [val_main_v6_apply, val_main_v4_apply, val_main_v5_apply, val_main_cst_0_apply, val_main_cst_1_apply]
  show Ideal.div (Ideal.ofBits .f32 0x00000000#32 + _) (Ideal.ofBits .f32 0x44800000#32) = _
  rw [zero_eq, zero_add, width_eq, Ideal.div_coe (by norm_num)]
  refine congrArg (· * _) ?_
  rw [← sum_fin_dot (fun k => at2 x r.val k - at2 w r.val k) (fun k => at2 x r.val k - at2 w r.val k) 1024]
  refine Finset.sum_congr rfl fun k _ => ?_
  show (x _ - w _) * (x _ - w _) = _
  rw [at2_coords x, at2_coords w]
  show (at2 x (j 0).val k.val - at2 w (j 0).val k.val) * (at2 x (j 0).val k.val - at2 w (j 0).val k.val) = _
  rw [hj]

/-- The places of a one-axis array are its numbers. -/
def places : Cert.LossRefIdeal.S4096.Idx ≃ Fin 4096 where
  toFun j := j 0
  invFun r := fun k => match k with | ⟨0, _⟩ => r
  left_inv j := funext fun k => by fin_cases k; rfl
  right_inv _ := rfl

open Cert.LossRefIdeal.Read in
/-- The reference's loss, in every entry of the block. -/
theorem ref_loss (x w : S4096x1024.Idx → EReal) (i : S8x128.Idx) :
    val_main_v9 (F := Ideal) x w i = half x w 4096 := by
  rw [val_main_v9_apply, val_main_v8_apply, val_main_v7_apply, val_main_cst_2_apply, val_main_cst_3_apply]
  show Ideal.ofBits .f32 0x3F000000#32 * (Ideal.ofBits .f32 0x00000000#32 + _) = _
  rw [zero_eq, zero_add, half_eq]
  unfold half
  rw [Finset.sum_range]
  refine congrArg (_ * ·) ?_
  exact Fintype.sum_equiv places _ _ fun j => ref_row x w (j 0) j rfl

open Cert.LossRefIdeal.Read in
/-- The reference's gradient. -/
theorem ref_slope (x w : S4096x1024.Idx → EReal) (i : S4096x1024.Idx) :
    val_main_v15 (F := Ideal) x w i = (x i - w i) * ((1 / 1024 : ℝ) : EReal) := by
  rw [val_main_v15_apply, val_main_v14_apply, val_main_v13_apply, val_main_v12_apply, val_main_v11_apply, val_main_v10_apply,
    val_main_v3_apply, val_main_v2_apply, val_main_v0_apply, val_main_cst_apply, val_main_cst_4_apply, val_main_cst_5_apply,
    val_main_cst_6_apply]
  show Ideal.div (Ideal.ofBits .f32 0x3F000000#32 * Ideal.ofBits .f32 0x3F800000#32) (Ideal.ofBits .f32 0x44800000#32)
    * (Ideal.ofBits .f32 0x40000000#32 * (x i - w i)) = _
  rw [half_eq, unit_eq, width_eq, two_eq, Ideal.div_coe (by norm_num), ← mul_assoc, mul_comm (x i - w i), ← EReal.coe_mul,
    ← EReal.coe_mul, ← EReal.coe_mul]
  norm_num

/-- The kernel and the reference end with the same loss and the same gradient. -/
theorem algebraic : Cert.algebraic_LossIdeal_LossRefIdeal := by
  intro m g m' g' _ h
  refine ⟨fun c => (dats m 0 c).arrAt 2 cfg0.N, fun c => (dats m 0 c).arrAt 3 cfg0.N, Value.run_blocks m g, ?_⟩
  refine (θ_run _ _ _).mono (fun r hr c => ⟨?_, ?_, (hr c).2.2⟩) (LossRefIdeal.Value.run m' g')
  · refine Eq.trans ?_ (final_loss m c).symm
    rw [(hr c).1, LossRefIdeal.Read.val_main_v9_eq, (h c).1, (h c).2]
    exact funext fun i => ref_loss _ _ i
  · refine Eq.trans ?_ (final_slope m c).symm
    rw [(hr c).2.1, LossRefIdeal.Read.val_main_v15_eq, (h c).1, (h c).2]
    exact funext fun i => ref_slope _ _ i

end Cert.Step.Loss

end
-- ==== Proof.Mla.Tile.lean ====
/- One tile of the attention's backward pass: 512 queries against 256 keys of one head, in the operations the kernel uses,
   and the entries of these at plain numbers. -/
module

public import proofs.«01_k».proof.Proof.Mm.Basic
public import proofs.«01_k».proof.Proof.Gen.KernelIdeal.Value

@[expose] public section

set_option maxRecDepth 16384

noncomputable section

namespace Cert.Mla

open Cert.KernelIdeal Cert.KernelIdeal.Gen Cert.Mm Idealize.ShloMosaic Idealize.ShloMosaic.TcCoe Idealize.SL.Sem

section Ops

variable {F : FTy → Type} [FloatOps F]

/-- Which keys of the tile a query sees: the key's place is at most the query's. -/
def seen (q k : BitVec 32) : IVec S512x256 1 :=
  cmpi .sle (addi (broadcast S512x256 k) (iota .tc S512x256 32 [1] iota_S512x256_d1_w32))
    (addi (broadcast S512x256 q) (iota .tc S512x256 32 [0] iota_S512x256_d0_w32))

/-- The exponential of the masked score less the row's logarithm. -/
def expo (s : IVec S512x256 1) (qn : Vec F S512x64 .f32) (qr : Vec F S512x32 .f32) (l : FVec F S512x1 .f32) (kp : Vec F S256x32 .f32)
    (kn : Vec F S256x64 .f32) : FVec F S512x256 .f32 :=
  exp (subf
    (select s
      (mulf
        (addf
          (matmul dot_S512x64_S256x64_S512x256_1_1_0_0_n_n none (truncf .bf16 qn bitsLt_bf16_f32) (truncf .bf16 kn bitsLt_bf16_f32)
            (constant S512x256 .f32 0x00000000#32))
          (matmul dot_S512x32_S256x32_S512x256_1_1_0_0_n_n none (truncf .bf16 qr bitsLt_bf16_f32) (truncf .bf16 kp bitsLt_bf16_f32)
            (constant S512x256 .f32 0x00000000#32)))
        (broadcast S512x256 (Scalar.ofBits .f32 0x3DD105EC#32)))
      (broadcast S512x256 (Scalar.ofBits .f32 0xF149F2CA#32)))
    (broadcastTo S512x256 l broadcasts_S512x1_S512x256))

/-- An array where the query sees the key, zero elsewhere. -/
def keep (s : IVec S512x256 1) (x : FVec F S512x256 .f32) : FVec F S512x256 .f32 :=
  select s x (broadcast S512x256 (Scalar.ofBits .f32 0x00000000#32))

/-- The gradient of the head's result, times one. -/
def once (g : Vec F S512x64 .f32) : FVec F S512x64 .f32 := mulf g (broadcast S512x64 (Scalar.ofBits .f32 0x3F800000#32))

/-- The gradient of the scores. -/
def slope (s : IVec S512x256 1) (g : Vec F S512x64 .f32) (d : FVec F S512x1 .f32) (v : Vec F S256x64 .f32) (e : FVec F S512x256 .f32) :
    FVec F S512x256 .f32 :=
  mulf
    (keep s
      (mulf
        (keep s
          (addf
            (broadcastTo S512x256
              (shapeCast S512x1
                (multiReduction .add [1] S512
                  (mulf d (broadcast S512x1 (Scalar.subf (Scalar.ofBits .f32 0x00000000#32) (Scalar.ofBits .f32 0x3F800000#32))))
                  0x00000000#32 reduces_S512x1_S512 (.inl rfl) rfl)
                shapeCasts_S512_S512x1)
              broadcasts_S512x1_S512x256)
            (matmul dot_S512x64_S256x64_S512x256_1_1_0_0_n_n none (truncf .bf16 (once g) bitsLt_bf16_f32) (truncf .bf16 v bitsLt_bf16_f32)
              (constant S512x256 .f32 0x00000000#32))))
        e))
    (broadcast S512x256 (Scalar.ofBits .f32 0x3DD105EC#32))

/-- A tile times 64 columns of the keys. -/
def rows64 (x : FVec F S512x256 .f32) (w : Vec F S256x64 .f32) : FVec F S512x64 .f32 :=
  matmul dot_S512x256_S256x64_S512x64_1_0_0_1_n_n none (truncf .bf16 x bitsLt_bf16_f32) (truncf .bf16 w bitsLt_bf16_f32)
    (constant S512x64 .f32 0x00000000#32)

/-- A tile times 32 columns of the keys. -/
def rows32 (x : FVec F S512x256 .f32) (w : Vec F S256x32 .f32) : FVec F S512x32 .f32 :=
  matmul dot_S512x256_S256x32_S512x32_1_0_0_1_n_n none (truncf .bf16 x bitsLt_bf16_f32) (truncf .bf16 w bitsLt_bf16_f32)
    (constant S512x32 .f32 0x00000000#32)

/-- A tile's transpose times 64 columns of the queries. -/
def cols64 (x : FVec F S512x256 .f32) (w : Vec F S512x64 .f32) : FVec F S256x64 .f32 :=
  matmul dot_S512x256_S512x64_S256x64_0_0_1_1_n_n none (truncf .bf16 x bitsLt_bf16_f32) (truncf .bf16 w bitsLt_bf16_f32)
    (constant S256x64 .f32 0x00000000#32)

/-- A tile's transpose times 32 columns of the queries. -/
def cols32 (x : FVec F S512x256 .f32) (w : Vec F S512x32 .f32) : FVec F S256x32 .f32 :=
  matmul dot_S512x256_S512x32_S256x32_0_0_1_1_n_n none (truncf .bf16 x bitsLt_bf16_f32) (truncf .bf16 w bitsLt_bf16_f32)
    (constant S256x32 .f32 0x00000000#32)

end Ops

/-- The factor of the scores. -/
def factor : EReal := Ideal.ofBits .f32 0x3DD105EC#32

/-- An entry is kept where the mask is set, and zero elsewhere. -/
theorem keep_at (s : IVec S512x256 1) (x : FVec Ideal S512x256 .f32) (y : S512x256.Idx) : keep s x y = if s y = 1 then x y else 0 := by
  unfold keep
  pointwise
  rfl

/-- The exponential of a tile's score less the logarithm of its row's sum. -/
theorem expo_at (s : IVec S512x256 1) (qn : Vec Ideal S512x64 .f32) (qr : Vec Ideal S512x32 .f32) (l : FVec Ideal S512x1 .f32)
    (kp : Vec Ideal S256x32 .f32) (kn : Vec Ideal S256x64 .f32) (i : Fin 512) (j : Fin 256) (hs : s (ix2 i j) = 1) :
    expo s qn qr l kp kn (ix2 i j) = Ideal.exp ((nt qn kn i.val j.val + nt qr kp i.val j.val) * factor - at2 l i.val 0) := by
  rw [← sum_nt qn kn i j, ← sum_nt qr kp i j, show at2 l i.val 0 = l (ix2 i 0) from (at2_ix l i (0 : Fin 1)).symm]
  unfold expo factor
  pointwise
  simp only [hs]
  rfl

/-- A tile times 64 columns, at an entry. -/
theorem rows64_at (x : FVec Ideal S512x256 .f32) (w : Vec Ideal S256x64 .f32) (y : S512x64.Idx) :
    rows64 x w y = nn x w (y 0).val (y 1).val := by
  rw [← sum_nn x w (y 0) (y 1)]
  unfold rows64
  pointwise

/-- A tile times 32 columns, at an entry. -/
theorem rows32_at (x : FVec Ideal S512x256 .f32) (w : Vec Ideal S256x32 .f32) (y : S512x32.Idx) :
    rows32 x w y = nn x w (y 0).val (y 1).val := by
  rw [← sum_nn x w (y 0) (y 1)]
  unfold rows32
  pointwise

/-- A tile's transpose times 64 columns, at an entry. -/
theorem cols64_at (x : FVec Ideal S512x256 .f32) (w : Vec Ideal S512x64 .f32) (y : S256x64.Idx) :
    cols64 x w y = tn x w (y 0).val (y 1).val := by
  rw [← sum_tn x w (y 0) (y 1)]
  unfold cols64
  pointwise

/-- A tile's transpose times 32 columns, at an entry. -/
theorem cols32_at (x : FVec Ideal S512x256 .f32) (w : Vec Ideal S512x32 .f32) (y : S256x32.Idx) :
    cols32 x w y = tn x w (y 0).val (y 1).val := by
  rw [← sum_tn x w (y 0) (y 1)]
  unfold cols32
  pointwise

/-- A gradient times one is itself. -/
theorem once_eq (g : Vec Ideal S512x64 .f32) : once g = g := by
  funext y
  unfold once
  pointwise

/-- The gradient of the scores is zero at a key not seen. -/
theorem slope_at_not (s : IVec S512x256 1) (g : Vec Ideal S512x64 .f32) (d : FVec Ideal S512x1 .f32) (v : Vec Ideal S256x64 .f32)
    (e : FVec Ideal S512x256 .f32) (y : S512x256.Idx) (hs : ¬s y = 1) : slope s g d v e y = 0 := by
  unfold slope
  show (keep (F := Ideal) s _ y * _ : EReal) = 0
  rw [keep_at, if_neg hs, zero_mul]

/-- The gradient of a tile's scores, at an entry. -/
theorem slope_at (s : IVec S512x256 1) (g : Vec Ideal S512x64 .f32) (d : FVec Ideal S512x1 .f32) (v : Vec Ideal S256x64 .f32)
    (e : FVec Ideal S512x256 .f32) (i : Fin 512) (j : Fin 256) (hs : s (ix2 i j) = 1) :
    slope s g d v e (ix2 i j) = ((-at2 d i.val 0 + nt g v i.val j.val) * e (ix2 i j)) * factor := by
  rw [← sum_nt g v i j, show at2 d i.val 0 = d (ix2 i 0) from (at2_ix d i (0 : Fin 1)).symm]
  unfold slope factor
  show keep _ _ (ix2 i j) * _ = _
  rw [keep_at, if_pos hs]
  show (keep _ _ (ix2 i j) * _) * _ = _
  rw [keep_at, if_pos hs, once_eq]
  pointwise
  congr 3
  rw [show (∑ x, d (ix2 i x) * (0 - 1)) = d (ix2 i 0) * (0 - 1) from Fintype.sum_unique _, zero_sub, mul_neg_one]

/-- The mask of a tile: the key is at most the query's place. -/
theorem seen_at (q k : ℕ) (hq : q < 4096) (hk : k < 4096) (i : Fin 512) (j : Fin 256) :
    seen (BitVec.ofNat 32 q) (BitVec.ofNat 32 k) (ix2 i j) = 1 ↔ k + j.val ≤ q + i.val := by
  unfold seen
  pointwise
  have hi := i.isLt
  have hj := j.isLt
  rw [IntOp.addi, IntOp.addi, ← BitVec.ofNat_add, ← BitVec.ofNat_add]
  have h1 : (BitVec.ofNat 32 (k + j.val)).toInt = ((k + j.val : ℕ) : ℤ) := by
    rw [BitVec.toInt_ofNat']; exact Int.bmod_eq_of_le (by omega) (by omega)
  have h2 : (BitVec.ofNat 32 (q + i.val)).toInt = ((q + i.val : ℕ) : ℤ) := by
    rw [BitVec.toInt_ofNat']; exact Int.bmod_eq_of_le (by omega) (by omega)
  unfold IntOp.cmpi
  simp only [BitVec.sle_eq_decide, h1, h2]
  by_cases h : k + j.val ≤ q + i.val
  · rw [decide_eq_true (Int.ofNat_le.mpr h)]
    exact iff_of_true rfl h
  · rw [decide_eq_false fun h' => h (Int.ofNat_le.mp h')]
    exact iff_of_false (by decide) h

end Cert.Mla

end
-- ==== Proof.Mla.Trip.lean ====
/- One trip of the kernel's loop over the keys: what it adds to the carried gradients of the queries, and what it writes
   into the gradients of the keys and values. The four heads are told by a number. -/
module

public import proofs.«01_k».proof.Proof.Mla.Tile
import all proofs.«01_k».proof.Proof.Gen.KernelIdeal.Frame
import all proofs.«01_k».proof.Proof.Gen.KernelIdeal.Loops

@[expose] public section

set_option maxRecDepth 16384

noncomputable section

namespace Cert.Mla

open Cert.KernelIdeal Cert.KernelIdeal.Gen Cert.Mm Idealize.ShloMosaic Idealize.ShloMosaic.TcCoe Idealize.SL.Sem

/-- The gradient of a head's result times the result, summed along a row. -/
def rowdot {F : FTy → Type} [FloatOps F] (g o : Vec F S512x64 .f32) : FVec F S512x1 .f32 := k0_pay128 g o

section Trip

variable {F : FTy → Type} [FloatOps F]
variable (𝒱 : Variants) (c : Dev nD) (bd : Option 𝒱.V) (i : grid0.Coords)
  (arg3 : Memref sig .tc .vmem S512x256 .f32) (harg3 : arg3.IsWhole)
  (arg4 : Memref sig .tc .vmem S512x128 .f32) (harg4 : arg4.IsWhole)
  (arg5 : Memref sig .tc .vmem S2048x512 .f32) (harg5 : arg5.IsWhole)
  (arg6 : Memref sig .tc .vmem S2048x128 .f32) (harg6 : arg6.IsWhole)
  (arg7 : Memref sig .tc .vmem S512x256 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S512x128 .f32) (harg11 : arg11.IsWhole)
  (arg12 : Memref sig .tc .vmem S2048x512 .f32) (harg12 : arg12.IsWhole)
  (arg13 : Memref sig .tc .vmem S2048x128 .f32) (harg13 : arg13.IsWhole)
variable (v7 v25 : BitVec 32) (qn : Fin 4 → Vec F S512x64 .f32) (qr : Fin 4 → Vec F S512x32 .f32) (g o : Fin 4 → Vec F S512x64 .f32)
  (l : Fin 4 → FVec F S512x1 .f32)
variable (X5 : BufTy.Contents (Elt F) arg5.view.ty) (X6 : BufTy.Contents (Elt F) arg6.view.ty) (k : Fin (k0_t1_loop i).trips)

/-- The word of the first key's place. -/
def keyWord : BitVec 32 := Scalar.muli (Scf.iv 0#32 1#32 k.val) 256#32

/-- The rotated part of the trip's keys. -/
def keyR : Vec F S256x32 .f32 := View.readAt (Elt F) arg6.view (Rect.unit (s := S2048x128) (k0_off1 i k) S256x32.size (k0_off1_inb i k)).toLoadRect X6

/-- A head's keys. -/
def keyN (h : Fin 4) : Vec F S256x64 .f32 :=
  match h with
  | 0 => View.readAt (Elt F) arg5.view (Rect.unit (s := S2048x512) (k0_off2 i k) S256x64.size (k0_off2_inb i k)).toLoadRect X5
  | 1 => View.readAt (Elt F) arg5.view (Rect.unit (s := S2048x512) (k0_off4 i k) S256x64.size (k0_off4_inb i k)).toLoadRect X5
  | 2 => View.readAt (Elt F) arg5.view (Rect.unit (s := S2048x512) (k0_off6 i k) S256x64.size (k0_off6_inb i k)).toLoadRect X5
  | 3 => View.readAt (Elt F) arg5.view (Rect.unit (s := S2048x512) (k0_off8 i k) S256x64.size (k0_off8_inb i k)).toLoadRect X5

/-- A head's values. -/
def val (h : Fin 4) : Vec F S256x64 .f32 :=
  match h with
  | 0 => View.readAt (Elt F) arg5.view (Rect.unit (s := S2048x512) (k0_off3 i k) S256x64.size (k0_off3_inb i k)).toLoadRect X5
  | 1 => View.readAt (Elt F) arg5.view (Rect.unit (s := S2048x512) (k0_off5 i k) S256x64.size (k0_off5_inb i k)).toLoadRect X5
  | 2 => View.readAt (Elt F) arg5.view (Rect.unit (s := S2048x512) (k0_off7 i k) S256x64.size (k0_off7_inb i k)).toLoadRect X5
  | 3 => View.readAt (Elt F) arg5.view (Rect.unit (s := S2048x512) (k0_off9 i k) S256x64.size (k0_off9_inb i k)).toLoadRect X5

/-- A head's exponentials. -/
def tripE (h : Fin 4) : FVec F S512x256 .f32 :=
  expo (seen v7 (keyWord i k)) (qn h) (qr h) (l h) (keyR i arg6 X6 k) (keyN i arg5 X5 k h)

/-- A head's probabilities. -/
def tripP (h : Fin 4) : FVec F S512x256 .f32 := keep (seen v7 (keyWord i k)) (tripE i arg5 arg6 v7 qn qr l X5 X6 k h)

/-- A head's gradient of the scores. -/
def tripS (h : Fin 4) : FVec F S512x256 .f32 :=
  slope (seen v7 (keyWord i k)) (g h) (rowdot (g h) (o h)) (val i arg5 X5 k h) (tripE i arg5 arg6 v7 qn qr l X5 X6 k h)

/-- What the trip carries on. -/
theorem tripR_eq (acc : FVec F S512x64 .f32 × FVec F S512x32 .f32 × FVec F S512x64 .f32 × FVec F S512x32 .f32 × FVec F S512x64 .f32 ×
      FVec F S512x32 .f32 × FVec F S512x64 .f32 × FVec F S512x32 .f32)
    (f12 : BufTy.Contents (Elt F) arg12.view.ty) (f13 : BufTy.Contents (Elt F) arg13.view.ty) :
    tripR_k0_t1 (F := F) 𝒱 c bd i arg3 harg3 arg4 harg4 arg5 harg5 arg6 harg6 arg7 harg7 arg8 harg8 arg9 harg9 arg10 harg10 arg11 harg11 arg12 harg12 arg13 harg13 v7 v25 (qn 0) (qn 1) (qn 2) (qn 3) (qr 0) (qr 1) (qr 2) (qr 3) (g 0) (g 1) (g 2) (g 3) (l 0) (l 1) (l 2) (l 3) (rowdot (g 0) (o 0)) (rowdot (g 1) (o 1)) (rowdot (g 2) (o 2)) (o 3) X5 X6 k acc f12 f13
      = (addf acc.1 (rows64 (tripS i arg5 arg6 v7 qn qr g o l X5 X6 k 0) (keyN i arg5 X5 k 0)),
        addf acc.2.1 (rows32 (tripS i arg5 arg6 v7 qn qr g o l X5 X6 k 0) (keyR i arg6 X6 k)),
        addf acc.2.2.1 (rows64 (tripS i arg5 arg6 v7 qn qr g o l X5 X6 k 1) (keyN i arg5 X5 k 1)),
        addf acc.2.2.2.1 (rows32 (tripS i arg5 arg6 v7 qn qr g o l X5 X6 k 1) (keyR i arg6 X6 k)),
        addf acc.2.2.2.2.1 (rows64 (tripS i arg5 arg6 v7 qn qr g o l X5 X6 k 2) (keyN i arg5 X5 k 2)),
        addf acc.2.2.2.2.2.1 (rows32 (tripS i arg5 arg6 v7 qn qr g o l X5 X6 k 2) (keyR i arg6 X6 k)),
        addf acc.2.2.2.2.2.2.1 (rows64 (tripS i arg5 arg6 v7 qn qr g o l X5 X6 k 3) (keyN i arg5 X5 k 3)),
        addf acc.2.2.2.2.2.2.2 (rows32 (tripS i arg5 arg6 v7 qn qr g o l X5 X6 k 3) (keyR i arg6 X6 k))) := by
  unfold tripR_k0_t1 trip_k0_t1
  dsimp only
  rfl

/-- A load of a place, with an array added. -/
def plus64 (x : Vec F S256x64 .f32) (w : FVec F S256x64 .f32) : FVec F S256x64 .f32 := addf (shapeCast S256x64 x shapeCasts_S256x64_S256x64) w

/-- A load of a place, with an array added. -/
def plus32 (x : Vec F S256x32 .f32) (w : FVec F S256x32 .f32) : FVec F S256x32 .f32 := addf (shapeCast S256x32 x shapeCasts_S256x32_S256x32) w

/-- What the trip writes over the gradients of the keys and values. -/
def tripKV (f12 : BufTy.Contents (Elt F) arg12.view.ty) : List (View.Piece (Elt F) S2048x512 .f32) :=
  [⟨Rect.unit (s := S2048x512) (k0_off9 i k) S256x64.size (k0_off9_inb i k),
      plus64 (View.readAt (Elt F) arg12.view (Rect.unit (s := S2048x512) (k0_off9 i k) S256x64.size (k0_off9_inb i k)).toLoadRect f12)
        (cols64 (tripP i arg5 arg6 v7 qn qr l X5 X6 k 3) (once (g 3)))⟩,
    ⟨Rect.unit (s := S2048x512) (k0_off8 i k) S256x64.size (k0_off8_inb i k),
      plus64 (View.readAt (Elt F) arg12.view (Rect.unit (s := S2048x512) (k0_off8 i k) S256x64.size (k0_off8_inb i k)).toLoadRect f12)
        (cols64 (tripS i arg5 arg6 v7 qn qr g o l X5 X6 k 3) (qn 3))⟩,
    ⟨Rect.unit (s := S2048x512) (k0_off7 i k) S256x64.size (k0_off7_inb i k),
      plus64 (View.readAt (Elt F) arg12.view (Rect.unit (s := S2048x512) (k0_off7 i k) S256x64.size (k0_off7_inb i k)).toLoadRect f12)
        (cols64 (tripP i arg5 arg6 v7 qn qr l X5 X6 k 2) (once (g 2)))⟩,
    ⟨Rect.unit (s := S2048x512) (k0_off6 i k) S256x64.size (k0_off6_inb i k),
      plus64 (View.readAt (Elt F) arg12.view (Rect.unit (s := S2048x512) (k0_off6 i k) S256x64.size (k0_off6_inb i k)).toLoadRect f12)
        (cols64 (tripS i arg5 arg6 v7 qn qr g o l X5 X6 k 2) (qn 2))⟩,
    ⟨Rect.unit (s := S2048x512) (k0_off5 i k) S256x64.size (k0_off5_inb i k),
      plus64 (View.readAt (Elt F) arg12.view (Rect.unit (s := S2048x512) (k0_off5 i k) S256x64.size (k0_off5_inb i k)).toLoadRect f12)
        (cols64 (tripP i arg5 arg6 v7 qn qr l X5 X6 k 1) (once (g 1)))⟩,
    ⟨Rect.unit (s := S2048x512) (k0_off4 i k) S256x64.size (k0_off4_inb i k),
      plus64 (View.readAt (Elt F) arg12.view (Rect.unit (s := S2048x512) (k0_off4 i k) S256x64.size (k0_off4_inb i k)).toLoadRect f12)
        (cols64 (tripS i arg5 arg6 v7 qn qr g o l X5 X6 k 1) (qn 1))⟩,
    ⟨Rect.unit (s := S2048x512) (k0_off3 i k) S256x64.size (k0_off3_inb i k),
      plus64 (View.readAt (Elt F) arg12.view (Rect.unit (s := S2048x512) (k0_off3 i k) S256x64.size (k0_off3_inb i k)).toLoadRect f12)
        (cols64 (tripP i arg5 arg6 v7 qn qr l X5 X6 k 0) (once (g 0)))⟩,
    ⟨Rect.unit (s := S2048x512) (k0_off2 i k) S256x64.size (k0_off2_inb i k),
      plus64 (View.readAt (Elt F) arg12.view (Rect.unit (s := S2048x512) (k0_off2 i k) S256x64.size (k0_off2_inb i k)).toLoadRect f12)
        (cols64 (tripS i arg5 arg6 v7 qn qr g o l X5 X6 k 0) (qn 0))⟩]

/-- The place of the trip's rotated keys. -/
abbrev placeR : Rect S2048x128 := Rect.unit (k0_off1 i k) S256x32.size (k0_off1_inb i k)

/-- What the trip writes over the gradient of the rotated keys: the heads' contributions, one over the other. -/
def tripKR (f13 : BufTy.Contents (Elt F) arg13.view.ty) : ℕ → List (View.Piece (Elt F) S2048x128 .f32)
  | 0 => [⟨placeR i k, plus32 (View.readAt (Elt F) arg13.view (placeR i k).toLoadRect f13) (cols32 (tripS i arg5 arg6 v7 qn qr g o l X5 X6 k 0) (qr 0))⟩]
  | h + 1 => ⟨placeR i k, plus32 (arg13.view.readCov (tripKR f13 h) (placeR i k).toLoadRect)
      (cols32 (tripS i arg5 arg6 v7 qn qr g o l X5 X6 k (Fin.ofNat 4 (h + 1))) (qr (Fin.ofNat 4 (h + 1))))⟩ :: tripKR f13 h

/-- What the trip writes. -/
theorem tripL_eq (acc : FVec F S512x64 .f32 × FVec F S512x32 .f32 × FVec F S512x64 .f32 × FVec F S512x32 .f32 × FVec F S512x64 .f32 ×
      FVec F S512x32 .f32 × FVec F S512x64 .f32 × FVec F S512x32 .f32)
    (f12 : BufTy.Contents (Elt F) arg12.view.ty) (f13 : BufTy.Contents (Elt F) arg13.view.ty) :
    tripL_k0_t1 (F := F) 𝒱 c bd i arg3 harg3 arg4 harg4 arg5 harg5 arg6 harg6 arg7 harg7 arg8 harg8 arg9 harg9 arg10 harg10 arg11 harg11 arg12 harg12 arg13 harg13 v7 v25 (qn 0) (qn 1) (qn 2) (qn 3) (qr 0) (qr 1) (qr 2) (qr 3) (g 0) (g 1) (g 2) (g 3) (l 0) (l 1) (l 2) (l 3) (rowdot (g 0) (o 0)) (rowdot (g 1) (o 1)) (rowdot (g 2) (o 2)) (o 3) X5 X6 k acc f12 f13
      = (tripKV i arg5 arg6 arg12 v7 qn qr g o l X5 X6 k f12, tripKR i arg5 arg6 arg13 v7 qn qr g o l X5 X6 k f13 3) := by
  unfold tripL_k0_t1 trip_k0_t1
  dsimp only
  rfl

end Trip

end Cert.Mla

end
-- ==== Proof.Mla.Spec.lean ====
/- The backward pass of causal attention in sums: the probabilities and the gradient of the scores by head, query and key, and
   the tile of these that one trip of the kernel computes. -/
module

public import proofs.«01_k».proof.Proof.Mla.Trip

@[expose] public section

set_option maxRecDepth 16384

noncomputable section

namespace Cert.Mla

open Cert.KernelIdeal Cert.KernelIdeal.Gen Cert.Mm Idealize.ShloMosaic Idealize.ShloMosaic.TcCoe Idealize.SL.Sem

/-- What the backward pass of one sequence reads, by head, place and column: keys, values, queries and the gradient of the
    result; the rotated parts, the keys' shared by the heads; the gradient times the result, and the logarithm of the sum of
    the exponentials, of a row. -/
structure Att where
  kn : ℕ → ℕ → ℕ → EReal
  v : ℕ → ℕ → ℕ → EReal
  kr : ℕ → ℕ → EReal
  qn : ℕ → ℕ → ℕ → EReal
  qr : ℕ → ℕ → ℕ → EReal
  g : ℕ → ℕ → ℕ → EReal
  d : ℕ → ℕ → EReal
  l : ℕ → ℕ → EReal

namespace Att

variable (A : Att)

/-- The heads from the `n`-th on. -/
def from_ (n : ℕ) : Att where
  kn h := A.kn (n + h)
  v h := A.v (n + h)
  kr := A.kr
  qn h := A.qn (n + h)
  qr h := A.qr (n + h)
  g h := A.g (n + h)
  d h := A.d (n + h)
  l h := A.l (n + h)

/-- The exponential of a score less its row's logarithm. -/
def e (h i j : ℕ) : EReal := Ideal.exp ((dot (A.qn h i) (A.kn h j) 0 64 + dot (A.qr h i) (A.kr j) 0 32) * factor - A.l h i)

/-- The probability: zero at a later key. -/
def p (h i j : ℕ) : EReal := if j ≤ i then A.e h i j else 0

/-- The gradient of a score. -/
def s (h i j : ℕ) : EReal := if j ≤ i then (-A.d h i + dot (A.g h i) (A.v h j) 0 64) * A.e h i j * factor else 0

end Att

/-- Equal terms give equal products. -/
theorem dot_congr {f f' g g' : ℕ → EReal} {n : ℕ} (hf : ∀ t < n, f t = f' t) (hg : ∀ t < n, g t = g' t) : dot f g 0 n = dot f' g' 0 n := by
  unfold dot
  refine Finset.sum_congr rfl fun t ht => ?_
  rw [zero_add, hf t (Finset.mem_range.mp ht), hg t (Finset.mem_range.mp ht)]

/-- An entry of an array given by a function of natural coordinates. -/
theorem at2_mk {M N : ℕ} (f : ℕ → ℕ → EReal) {i j : ℕ} (hi : i < M) (hj : j < N) :
    at2 (fun y : (⟨2, ![M, N]⟩ : Shape).Idx => f (y 0).val (y 1).val) i j = f i j := by
  rw [at2, dif_pos ⟨hi, hj⟩]
  rfl

/-- An entry at a place inside. -/
theorem at2_of {M N : ℕ} (A : (⟨2, ![M, N]⟩ : Shape).Idx → EReal) {i j : ℕ} (hi : i < M) (hj : j < N) :
    at2 A i j = A (ix2 ⟨i, hi⟩ ⟨j, hj⟩) := dif_pos ⟨hi, hj⟩

/-- A load of a rectangle of a two-axis buffer, at an entry. -/
theorem at2_readAt {sig : RefSig} {κ : Kind} {sp : Space} {M N a b r c : ℕ} (v : View sig κ sp ⟨2, ![M, N]⟩ .f32)
    (f : v.ty.Contents (Elt Ideal)) {off : Fin 2 → ℕ} (inb : ∀ k : Fin 2, off k + (![a, b] : Fin 2 → ℕ) k ≤ (![M, N] : Fin 2 → ℕ) k)
    (ho : off = ![r, c]) {i j : ℕ} (hi : i < a) (hj : j < b) :
    at2 (M := a) (N := b) (v.readAt (Elt Ideal) (Rect.unit (s := ⟨2, ![M, N]⟩) off ![a, b] inb).toLoadRect f) i j
      = at2 (v.read (Elt Ideal) f) (r + i) (c + j) := by
  subst ho
  rw [at2_of _ hi hj]
  refine (at2_coords (v.read (Elt Ideal) f) ((Rect.unit (s := ⟨2, ![M, N]⟩) ![r, c] ![a, b] inb).emb (ix2 ⟨i, hi⟩ ⟨j, hj⟩))).trans ?_
  show at2 _ (r + 1 * i) (c + 1 * j) = _
  rw [one_mul, one_mul]

section Tile

variable (i : grid0.Coords) (arg5 : Memref sig .tc .vmem S2048x512 .f32) (arg6 : Memref sig .tc .vmem S2048x128 .f32)
variable (v7 : BitVec 32) (qn : Fin 4 → Vec Ideal S512x64 .f32) (qr : Fin 4 → Vec Ideal S512x32 .f32) (g o : Fin 4 → Vec Ideal S512x64 .f32)
  (l : Fin 4 → FVec Ideal S512x1 .f32)
variable (X5 : BufTy.Contents (Elt Ideal) arg5.view.ty) (X6 : BufTy.Contents (Elt Ideal) arg6.view.ty)

/-- The blocks a point of the grid reads are those of a sequence's four heads, the queries from place `512 q` on. -/
structure Reads (A : Att) (q : ℕ) : Prop where
  lt_at : q < 4
  word_at : v7 = BitVec.ofNat 32 (512 * q)
  qn_at : ∀ (h : Fin 4) (r t : ℕ), r < 512 → t < 64 → at2 (qn h) r t = A.qn h.val (512 * q + r) t
  qr_at : ∀ (h : Fin 4) (r t : ℕ), r < 512 → t < 32 → at2 (qr h) r t = A.qr h.val (512 * q + r) t
  g_at : ∀ (h : Fin 4) (r t : ℕ), r < 512 → t < 64 → at2 (g h) r t = A.g h.val (512 * q + r) t
  d_at : ∀ (h : Fin 4) (r : ℕ), r < 512 → at2 (rowdot (g h) (o h)) r 0 = A.d h.val (512 * q + r)
  l_at : ∀ (h : Fin 4) (r : ℕ), r < 512 → at2 (l h) r 0 = A.l h.val (512 * q + r)
  kn_at : ∀ (h : Fin 4) (j t : ℕ), j < 2048 → t < 64 → at2 (arg5.view.read (Elt Ideal) X5) j (128 * h.val + t) = A.kn h.val j t
  v_at : ∀ (h : Fin 4) (j t : ℕ), j < 2048 → t < 64 → at2 (arg5.view.read (Elt Ideal) X5) j (128 * h.val + 64 + t) = A.v h.val j t
  kr_at : ∀ (j t : ℕ), j < 2048 → t < 32 → at2 (arg6.view.read (Elt Ideal) X6) j t = A.kr j t

variable {i arg5 arg6 v7 qn qr g o l X5 X6} {A : Att} {q : ℕ} (H : Reads arg5 arg6 v7 qn qr g o l X5 X6 A q) (k : Fin (k0_t1_loop i).trips)
include H

omit H in
/-- A block of queries has at most eight blocks of keys before or at it. -/
theorem trips_le (i : grid0.Coords) : (k0_t1_loop i).trips ≤ 8 := (k0_t1_abs i).2.1

omit H in
/-- A key of a block is a key of the sequence. -/
theorem key_lt {s : ℕ} (hs : s < 256) : 256 * k.val + s < 2048 := by
  have := trips_le i
  have := k.isLt
  omega

/-- The second part of a block's keys. -/
theorem at2_keyR {s t : ℕ} (hs : s < 256) (ht : t < 32) : at2 (keyR i arg6 X6 k) s t = A.kr (256 * k.val + s) t := by
  refine (at2_readAt arg6.view X6 _ (k0_off1_eq i k) hs ht).trans ?_
  rw [zero_add]
  exact H.kr_at _ _ (key_lt k hs) ht

/-- The first part of a block's keys. -/
theorem at2_keyN (h : Fin 4) {s t : ℕ} (hs : s < 256) (ht : t < 64) : at2 (keyN i arg5 X5 k h) s t = A.kn h.val (256 * k.val + s) t := by
  refine Eq.trans ?_ (H.kn_at h _ _ (key_lt k hs) ht)
  match h with
  | 0 => exact at2_readAt arg5.view X5 _ (k0_off2_eq i k) hs ht
  | 1 => exact at2_readAt arg5.view X5 _ (k0_off4_eq i k) hs ht
  | 2 => exact at2_readAt arg5.view X5 _ (k0_off6_eq i k) hs ht
  | 3 => exact at2_readAt arg5.view X5 _ (k0_off8_eq i k) hs ht

/-- A block's values. -/
theorem at2_val (h : Fin 4) {s t : ℕ} (hs : s < 256) (ht : t < 64) : at2 (val i arg5 X5 k h) s t = A.v h.val (256 * k.val + s) t := by
  refine Eq.trans ?_ (H.v_at h _ _ (key_lt k hs) ht)
  match h with
  | 0 => exact at2_readAt arg5.view X5 _ (k0_off3_eq i k) hs ht
  | 1 => exact at2_readAt arg5.view X5 _ (k0_off5_eq i k) hs ht
  | 2 => exact at2_readAt arg5.view X5 _ (k0_off7_eq i k) hs ht
  | 3 => exact at2_readAt arg5.view X5 _ (k0_off9_eq i k) hs ht

/-- The mask of a tile in the places of the whole sequence. -/
theorem seen_iff (r : Fin 512) (s : Fin 256) : seen v7 (keyWord i k) (ix2 r s) = 1 ↔ 256 * k.val + s.val ≤ 512 * q + r.val := by
  have hw : keyWord i k = BitVec.ofNat 32 (256 * k.val) := by
    unfold keyWord Scf.iv
    show (0#32 + BitVec.ofNat 32 k.val * 1#32) * 256#32 = _
    rw [BitVec.zero_add, BitVec.mul_one, mul_comm 256, BitVec.ofNat_mul]
  have := key_lt k (s := 0) (by decide)
  rw [hw, H.word_at]
  exact seen_at _ _ (by have := H.lt_at; omega) (by omega) r s

/-- The exponentials of a tile where the key is seen. -/
theorem at2_tripE (h : Fin 4) {r s : ℕ} (hr : r < 512) (hs : s < 256) (hle : 256 * k.val + s ≤ 512 * q + r) :
    at2 (tripE i arg5 arg6 v7 qn qr l X5 X6 k h) r s = A.e h.val (512 * q + r) (256 * k.val + s) := by
  rw [at2_of _ hr hs]
  unfold tripE Att.e
  rw [expo_at _ _ _ _ _ _ _ _ ((seen_iff H k ⟨r, hr⟩ ⟨s, hs⟩).mpr hle), H.l_at h r hr]
  unfold nt
  rw [dot_congr (fun t ht => H.qn_at h r t hr ht) (fun t ht => at2_keyN H k h hs ht),
    dot_congr (fun t ht => H.qr_at h r t hr ht) (fun t ht => at2_keyR H k hs ht)]

/-- The weights of a tile. -/
theorem at2_tripP (h : Fin 4) {r s : ℕ} (hr : r < 512) (hs : s < 256) :
    at2 (tripP i arg5 arg6 v7 qn qr l X5 X6 k h) r s = A.p h.val (512 * q + r) (256 * k.val + s) := by
  have hi := seen_iff H k ⟨r, hr⟩ ⟨s, hs⟩
  rw [at2_of _ hr hs]
  unfold tripP Att.p
  rw [keep_at]
  by_cases hle : 256 * k.val + s ≤ 512 * q + r
  · rw [if_pos (hi.mpr hle), if_pos hle, ← at2_tripE H k h hr hs hle, at2_of _ hr hs]
  · rw [if_neg (fun h' => hle (hi.mp h')), if_neg hle]

/-- The gradients of a tile's scores. -/
theorem at2_tripS (h : Fin 4) {r s : ℕ} (hr : r < 512) (hs : s < 256) :
    at2 (tripS i arg5 arg6 v7 qn qr g o l X5 X6 k h) r s = A.s h.val (512 * q + r) (256 * k.val + s) := by
  have hi := seen_iff H k ⟨r, hr⟩ ⟨s, hs⟩
  rw [at2_of _ hr hs]
  unfold tripS Att.s
  by_cases hle : 256 * k.val + s ≤ 512 * q + r
  · rw [slope_at _ _ _ _ _ _ _ (hi.mpr hle), if_pos hle, H.d_at h r hr, ← at2_of (tripE i arg5 arg6 v7 qn qr l X5 X6 k h) hr hs, at2_tripE H k h hr hs hle]
    unfold nt
    rw [dot_congr (fun t ht => H.g_at h r t hr ht) (fun t ht => at2_val H k h hs ht)]
  · rw [slope_at_not _ _ _ _ _ _ (fun h' => hle (hi.mp h')), if_neg hle]

/-- What a trip adds to a head's gradient of the queries. -/
theorem rows64_tile (h : Fin 4) (y : S512x64.Idx) :
    rows64 (tripS i arg5 arg6 v7 qn qr g o l X5 X6 k h) (keyN i arg5 X5 k h) y
      = dot (A.s h.val (512 * q + (y 0).val)) (fun j => A.kn h.val j (y 1).val) (256 * k.val) 256 := by
  rw [rows64_at]
  unfold nn dot
  refine Finset.sum_congr rfl fun s hs => ?_
  have hs := Finset.mem_range.mp hs
  simp only [zero_add]
  rw [at2_tripS H k h (y 0).isLt hs, at2_keyN H k h hs (y 1).isLt]

/-- What a trip adds to a head's gradient of the rotated queries. -/
theorem rows32_tile (h : Fin 4) (y : S512x32.Idx) :
    rows32 (tripS i arg5 arg6 v7 qn qr g o l X5 X6 k h) (keyR i arg6 X6 k) y
      = dot (A.s h.val (512 * q + (y 0).val)) (fun j => A.kr j (y 1).val) (256 * k.val) 256 := by
  rw [rows32_at]
  unfold nn dot
  refine Finset.sum_congr rfl fun s hs => ?_
  have hs := Finset.mem_range.mp hs
  simp only [zero_add]
  rw [at2_tripS H k h (y 0).isLt hs, at2_keyR H k hs (y 1).isLt]

end Tile

/-- What 512 queries from place `o` on add to the gradient of a head's keys. -/
def Att.dkn (A : Att) (h o j t : ℕ) : EReal := dot (fun i => A.s h i j) (fun i => A.qn h i t) o 512

/-- What 512 queries from place `o` on add to the gradient of a head's values. -/
def Att.dv (A : Att) (h o j t : ℕ) : EReal := dot (fun i => A.p h i j) (fun i => A.g h i t) o 512

/-- What 512 queries of a head from place `o` on add to the gradient of the rotated keys. -/
def Att.dkr (A : Att) (h o j t : ℕ) : EReal := dot (fun i => A.s h i j) (fun i => A.qr h i t) o 512

section Cols

variable {i : grid0.Coords} {arg5 : Memref sig .tc .vmem S2048x512 .f32} {arg6 : Memref sig .tc .vmem S2048x128 .f32}
variable {v7 : BitVec 32} {qn : Fin 4 → Vec Ideal S512x64 .f32} {qr : Fin 4 → Vec Ideal S512x32 .f32} {g o : Fin 4 → Vec Ideal S512x64 .f32}
  {l : Fin 4 → FVec Ideal S512x1 .f32}
variable {X5 : BufTy.Contents (Elt Ideal) arg5.view.ty} {X6 : BufTy.Contents (Elt Ideal) arg6.view.ty}
variable {A : Att} {q : ℕ} (H : Reads arg5 arg6 v7 qn qr g o l X5 X6 A q) (k : Fin (k0_t1_loop i).trips)
include H

/-- What a trip adds to the gradient of a head's keys. -/
theorem cols64_tileS (h : Fin 4) (y : S256x64.Idx) :
    cols64 (tripS i arg5 arg6 v7 qn qr g o l X5 X6 k h) (qn h) y = A.dkn h.val (512 * q) (256 * k.val + (y 0).val) (y 1).val := by
  rw [cols64_at]
  unfold tn Att.dkn dot
  refine Finset.sum_congr rfl fun r hr => ?_
  have hr := Finset.mem_range.mp hr
  simp only [zero_add]
  rw [at2_tripS H k h hr (y 0).isLt, H.qn_at h r _ hr (y 1).isLt]

/-- What a trip adds to the gradient of a head's values. -/
theorem cols64_tileP (h : Fin 4) (y : S256x64.Idx) :
    cols64 (tripP i arg5 arg6 v7 qn qr l X5 X6 k h) (once (g h)) y = A.dv h.val (512 * q) (256 * k.val + (y 0).val) (y 1).val := by
  rw [cols64_at, once_eq]
  unfold tn Att.dv dot
  refine Finset.sum_congr rfl fun r hr => ?_
  have hr := Finset.mem_range.mp hr
  simp only [zero_add]
  rw [at2_tripP H k h hr (y 0).isLt, H.g_at h r _ hr (y 1).isLt]

/-- What a head of a trip adds to the gradient of the rotated keys. -/
theorem cols32_tile (h : Fin 4) (y : S256x32.Idx) :
    cols32 (tripS i arg5 arg6 v7 qn qr g o l X5 X6 k h) (qr h) y = A.dkr h.val (512 * q) (256 * k.val + (y 0).val) (y 1).val := by
  rw [cols32_at]
  unfold tn Att.dkr dot
  refine Finset.sum_congr rfl fun r hr => ?_
  have hr := Finset.mem_range.mp hr
  simp only [zero_add]
  rw [at2_tripS H k h hr (y 0).isLt, H.qr_at h r _ hr (y 1).isLt]

end Cols

end Cert.Mla

end
-- ==== Proof.Mla.Scores.lean ====
/- What the reference's arrays hold, entry by entry, up to the masked scores. -/
module

public import proofs.«01_k».proof.Proof.Mla.Spec
public import proofs.«01_k».proof.Proof.Gen.ReferenceIdeal.Read

@[expose] public section

set_option maxRecDepth 16384

noncomputable section

namespace Cert.Mla

open Cert.ReferenceIdeal Cert.ReferenceIdeal.Read Cert.Mm Idealize.ShloMosaic Idealize.ShloMosaic.TcCoe

/-- An entry by coordinates equal to its own. -/
theorem at2_entry {M N : ℕ} (A : (⟨2, ![M, N]⟩ : Shape).Idx → EReal) (z : (⟨2, ![M, N]⟩ : Shape).Idx) {r c : ℕ} (h0 : (z 0).val = r)
    (h1 : (z 1).val = c) : A z = at2 A r c := by
  rw [at2_coords A z, h0, h1]

variable (x0 : S4096x512.Idx → EReal) (x1 : S4096x256.Idx → EReal) (x2 : S4096x1024.Idx → EReal) (x3 : S4096x128.Idx → EReal)
  (x4 : S4096x512.Idx → EReal)

/-- The first part of a head's queries, read off the queries' array. -/
theorem v6_at (y : S2x8x2048x64.Idx) :
    val_main_v6 (F := Ideal) x0 y = at2 x0 (2048 * (y 0).val + (y 2).val) (64 * (y 1).val + (y 3).val) := by
  have h0 : (y 0).val < 2 := (y 0).isLt
  have h1 : (y 1).val < 8 := (y 1).isLt
  have h2 : (y 2).val < 2048 := (y 2).isLt
  have h3 : (y 3).val < 64 := (y 3).isLt
  rw [val_main_v6_apply, val_main_v5_apply]
  refine at2_entry _ _ ?_ ?_
  · show ((((y 0).val * 2048 + (y 2).val) * 8 + (y 1).val) * 64 + (y 3).val) / 512 = _
    omega
  · show ((((y 0).val * 2048 + (y 2).val) * 8 + (y 1).val) * 64 + (y 3).val) % 512 = _
    omega

/-- A head's gradient of the output, read off the array of gradients. -/
theorem v57_at (y : S2x8x2048x64.Idx) :
    val_main_v57 (F := Ideal) x4 y = at2 x4 (2048 * (y 0).val + (y 2).val) (64 * (y 1).val + (y 3).val) := by
  have h0 : (y 0).val < 2 := (y 0).isLt
  have h1 : (y 1).val < 8 := (y 1).isLt
  have h2 : (y 2).val < 2048 := (y 2).isLt
  have h3 : (y 3).val < 64 := (y 3).isLt
  rw [val_main_v57_apply, val_main_v56_apply]
  refine at2_entry _ _ ?_ ?_
  · show ((((y 0).val * 2048 + (y 2).val) * 8 + (y 1).val) * 64 + (y 3).val) / 512 = _
    omega
  · show ((((y 0).val * 2048 + (y 2).val) * 8 + (y 1).val) * 64 + (y 3).val) % 512 = _
    omega

/-- The second part of a head's queries, read off its array. -/
theorem v9_at (y : S2x8x2048x32.Idx) :
    val_main_v9 (F := Ideal) x1 y = at2 x1 (2048 * (y 0).val + (y 2).val) (32 * (y 1).val + (y 3).val) := by
  have h0 : (y 0).val < 2 := (y 0).isLt
  have h1 : (y 1).val < 8 := (y 1).isLt
  have h2 : (y 2).val < 2048 := (y 2).isLt
  have h3 : (y 3).val < 32 := (y 3).isLt
  rw [val_main_v9_apply, val_main_v8_apply]
  refine at2_entry _ _ ?_ ?_
  · show ((((y 0).val * 2048 + (y 2).val) * 8 + (y 1).val) * 32 + (y 3).val) / 256 = _
    omega
  · show ((((y 0).val * 2048 + (y 2).val) * 8 + (y 1).val) * 32 + (y 3).val) % 256 = _
    omega

/-- The first half of a head's 128 columns of keys and values: its keys. -/
theorem v2_at (y : S2x8x2048x64.Idx) :
    val_main_v2 (F := Ideal) x2 y = at2 x2 (2048 * (y 0).val + (y 2).val) (128 * (y 1).val + (y 3).val) := by
  have h0 : (y 0).val < 2 := (y 0).isLt
  have h1 : (y 1).val < 8 := (y 1).isLt
  have h2 : (y 2).val < 2048 := (y 2).isLt
  have h3 : (y 3).val < 64 := (y 3).isLt
  rw [val_main_v2_apply, val_main_v1_apply, val_main_v0_apply]
  refine at2_entry _ _ ?_ ?_
  · show ((((y 0).val * 2048 + (y 2).val) * 8 + (y 1).val) * 128 + (y 3).val) / 1024 = _
    omega
  · show ((((y 0).val * 2048 + (y 2).val) * 8 + (y 1).val) * 128 + (y 3).val) % 1024 = _
    omega

/-- The second half of a head's 128 columns: its values. -/
theorem v52_at (y : S2x8x2048x64.Idx) :
    val_main_v52 (F := Ideal) x2 y = at2 x2 (2048 * (y 0).val + (y 2).val) (128 * (y 1).val + 64 + (y 3).val) := by
  have h0 : (y 0).val < 2 := (y 0).isLt
  have h1 : (y 1).val < 8 := (y 1).isLt
  have h2 : (y 2).val < 2048 := (y 2).isLt
  have h3 : (y 3).val < 64 := (y 3).isLt
  rw [val_main_v52_apply, val_main_v51_apply, val_main_v50_apply]
  refine at2_entry _ _ ?_ ?_
  · show ((((y 0).val * 2048 + (y 2).val) * 8 + (y 1).val) * 128 + (64 + (y 3).val)) / 1024 = _
    omega
  · show ((((y 0).val * 2048 + (y 2).val) * 8 + (y 1).val) * 128 + (64 + (y 3).val)) % 1024 = _
    omega

/-- The second part of the keys, shared by all heads: the first 32 columns of its array. -/
theorem v4_at (y : S2x2048x32.Idx) : val_main_v4 (F := Ideal) x3 y = at2 x3 (2048 * (y 0).val + (y 1).val) (y 2).val := by
  have h0 : (y 0).val < 2 := (y 0).isLt
  have h1 : (y 1).val < 2048 := (y 1).isLt
  have h2 : (y 2).val < 32 := (y 2).isLt
  rw [val_main_v4_apply, val_main_v3_apply]
  refine at2_entry _ _ ?_ ?_
  · show (((y 0).val * 2048 + (y 1).val) * 128 + (y 2).val) / 128 = _
    omega
  · show (((y 0).val * 2048 + (y 1).val) * 128 + (y 2).val) % 128 = _
    omega

/-- The unmasked score of a query (`y 2`) and a key (`y 3`). -/
def score (b h i j : ℕ) : EReal :=
  (dot (fun t => at2 x0 (2048 * b + i) (64 * h + t)) (fun t => at2 x2 (2048 * b + j) (128 * h + t)) 0 64
    + dot (fun t => at2 x1 (2048 * b + i) (32 * h + t)) (fun t => at2 x3 (2048 * b + j) t) 0 32) * factor

/-- The reference's unmasked scores. -/
theorem v13_at (y : S2x8x2048x2048.Idx) :
    val_main_v13 (F := Ideal) x0 x1 x2 x3 y = score x0 x1 x2 x3 (y 0).val (y 1).val (y 2).val (y 3).val := by
  rw [val_main_v13_apply, val_main_v11_apply, val_main_v7_apply, val_main_v10_apply, val_main_v12_apply, val_main_cst_apply]
  simp only [v6_at, v2_at, v9_at, v4_at]
  exact congrArg₂ (fun a b => (a + b) * factor)
    (sum_fin_dot (fun t => at2 x0 (2048 * (y 0).val + (y 2).val) (64 * (y 1).val + t)) (fun t => at2 x2 (2048 * (y 0).val + (y 3).val) (128 * (y 1).val + t)) 64)
    (sum_fin_dot (fun t => at2 x1 (2048 * (y 0).val + (y 2).val) (32 * (y 1).val + t)) (fun t => at2 x3 (2048 * (y 0).val + (y 3).val) t) 32)

/-- The reference's mask: a key at most the query's place. -/
theorem mask_at (y : S2x8x2048x2048.Idx) : val_main_v21_1 (F := Ideal) y = 1#1 ↔ (y 3).val ≤ (y 2).val := by
  have hi : (y 2).val < 2048 := (y 2).isLt
  have hj : (y 3).val < 2048 := (y 3).isLt
  rw [val_main_v21_1_apply, val_main_v20_apply, val_main_v18_apply, val_main_v19_apply, val_main_v15_apply, val_main_v17_apply,
    val_main_v14_apply, val_main_v16_apply]
  show IntOp.cmpi .sle (BitVec.ofNat 32 (y 3).val) (BitVec.ofNat 32 (y 2).val) = 1#1 ↔ _
  have h1 : (BitVec.ofNat 32 (y 3).val).toInt = (((y 3).val : ℕ) : ℤ) := by
    rw [BitVec.toInt_ofNat']; exact Int.bmod_eq_of_le (by omega) (by omega)
  have h2 : (BitVec.ofNat 32 (y 2).val).toInt = (((y 2).val : ℕ) : ℤ) := by
    rw [BitVec.toInt_ofNat']; exact Int.bmod_eq_of_le (by omega) (by omega)
  rw [IntOp.cmpi_sle, h1, h2]
  exact Int.ofNat_le

/-- A choice by the mask is a choice by the places of the key and the query. -/
theorem select_mask (y : S2x8x2048x2048.Idx) (a b : EReal) :
    Scalar.select (val_main_v21_1 (F := Ideal) y) a b = if (y 3).val ≤ (y 2).val then a else b := by
  show (if val_main_v21_1 (F := Ideal) y = 1#1 then a else b) = _
  by_cases h : (y 3).val ≤ (y 2).val
  · exact (if_pos ((mask_at y).mpr h)).trans (if_pos h).symm
  · exact (if_neg fun h' => h ((mask_at y).mp h')).trans (if_neg h).symm

/-- The word of minus infinity is the least element. -/
theorem ninf_eq : (FloatOps.ofBits .f32 0xFF800000#32 : Ideal .f32) = (⊥ : EReal) := by
  show Ideal.ofBits .f32 0xFF800000#32 = ⊥
  simp [Ideal.ofBits, Ideal.ieee]

/-- The masked scores. -/
theorem v21_at (y : S2x8x2048x2048.Idx) : val_main_v21_0 (F := Ideal) x0 x1 x2 x3 y
    = if (y 3).val ≤ (y 2).val then score x0 x1 x2 x3 (y 0).val (y 1).val (y 2).val (y 3).val else ⊥ := by
  rw [val_main_v21_0_apply, v13_at, val_main_call0_v2_apply, val_main_call0_v0_apply, val_main_cst_0_apply, ninf_eq]
  exact select_mask y _ _

end Cert.Mla

end
-- ==== Proof.Mla.Row.lean ====
/- One row of the attention over the real numbers: its weights from the scores and any shift of them, and the gradient of its scores. -/
module

public import proofs.«01_k».proof.Proof.Mla.Spec

@[expose] public section

set_option maxRecDepth 16384

noncomputable section

namespace Cert.Mla

open Cert.Mm Idealize.ShloMosaic

/-- The sum of the products of two real sequences' terms. -/
def rdot (f g : ℕ → ℝ) (n : ℕ) : ℝ := ∑ k ∈ Finset.range n, f k * g k

/-- A sum of real numbers, as an extended real. -/
theorem coe_sum (f : ℕ → ℝ) (n : ℕ) : ((∑ k ∈ Finset.range n, f k : ℝ) : EReal) = ∑ k ∈ Finset.range n, (f k : EReal) := by
  induction n with
  | zero => simp
  | succ n ih => rw [Finset.sum_range_succ, Finset.sum_range_succ, EReal.coe_add, ih]

/-- The same over the numbers below a bound. -/
theorem coe_fin_sum (f : ℕ → ℝ) (n : ℕ) : ∑ k : Fin n, (f k.val : EReal) = ((∑ k ∈ Finset.range n, f k : ℝ) : EReal) := by
  rw [coe_sum, Finset.sum_range]

/-- A product of two sequences of real numbers is a real number. -/
theorem coe_dot {f g : ℕ → EReal} {f' g' : ℕ → ℝ} (hf : ∀ k, f k = (f' k : EReal)) (hg : ∀ k, g k = (g' k : EReal)) (n : ℕ) :
    dot f g 0 n = ((rdot f' g' n : ℝ) : EReal) := by
  unfold dot rdot
  rw [coe_sum]
  refine Finset.sum_congr rfl fun k _ => ?_
  rw [hf, hg, zero_add, EReal.coe_mul]

namespace Row

variable (σ : ℕ → ℝ) (M : ℝ) (i : ℕ)

/-- A score's exponential, less the shift; nothing past the row's own place. -/
def E (j : ℕ) : ℝ := if j ≤ i then Real.exp (σ j - M) else 0

/-- The row's sum. -/
def L : ℝ := ∑ j ∈ Finset.range 2048, E σ M i j

/-- The row's weights. -/
def P (j : ℕ) : ℝ := E σ M i j / L σ M i

/-- An exponential is not negative. -/
theorem E_nonneg (j : ℕ) : 0 ≤ E σ M i j := by
  unfold E
  split_ifs
  · exact (Real.exp_pos _).le
  · exact le_rfl

/-- A row's sum is positive: its own place contributes. -/
theorem L_pos (hi : i < 2048) : 0 < L σ M i := by
  refine Finset.sum_pos' (fun j _ => E_nonneg σ M i j) ⟨i, Finset.mem_range.mpr hi, ?_⟩
  unfold E
  rw [if_pos le_rfl]
  exact Real.exp_pos _

/-- The exponential of a masked score. -/
theorem exp_masked (j : ℕ) : Ideal.exp ((if j ≤ i then (σ j : EReal) else ⊥) - (M : EReal)) = ((E σ M i j : ℝ) : EReal) := by
  unfold E
  split_ifs
  · rw [← EReal.coe_sub, Ideal.exp_coe]
  · rw [EReal.bot_sub, Ideal.exp_bot, EReal.coe_zero]

/-- The sum of a row's exponentials. -/
theorem sum_E : (0 : EReal) + ∑ k : Fin 2048, ((E σ M i k.val : ℝ) : EReal) = ((L σ M i : ℝ) : EReal) := by
  rw [zero_add, coe_fin_sum]
  rfl

/-- A quotient by a row's sum. -/
theorem div_L (hi : i < 2048) (x : ℝ) : Ideal.div (x : EReal) ((L σ M i : ℝ) : EReal) = ((x / L σ M i : ℝ) : EReal) := by
  rw [Ideal.div_coe (L_pos σ M i hi).ne', ← EReal.coe_mul, mul_one_div]

/-- The weight, from the score and the logarithm of the row's sum. -/
theorem exp_lse (hi : i < 2048) (j : ℕ) (hj : j ≤ i) :
    Ideal.exp ((σ j : EReal) - ((M : EReal) + Ideal.log ((L σ M i : ℝ) : EReal))) = ((P σ M i j : ℝ) : EReal) := by
  have hL := L_pos σ M i hi
  rw [Ideal.log_coe, if_neg (not_le.mpr hL), ← EReal.coe_add, ← EReal.coe_sub, Ideal.exp_coe]
  unfold P E
  rw [if_pos hj, show σ j - (M + Real.log (L σ M i)) = (σ j - M) - Real.log (L σ M i) by ring, Real.exp_sub, Real.exp_log hL]

/-- A key after the query has no weight. -/
theorem P_later (j : ℕ) (hj : ¬j ≤ i) : P σ M i j = 0 := by
  unfold P E
  rw [if_neg hj, zero_div]

/-- The gradient of a score as the gradient of the softmax gives it, and as the weights and the row's own product give it. -/
theorem grad (hi : i < 2048) (w : ℕ → ℝ) (j : ℕ) :
    (w j / L σ M i + -(∑ k ∈ Finset.range 2048, w k * (1 / (L σ M i * L σ M i)) * E σ M i k)) * E σ M i j
      = (-(rdot (P σ M i) w 2048) + w j) * P σ M i j := by
  have hL := (L_pos σ M i hi).ne'
  have e : ∑ k ∈ Finset.range 2048, w k * (1 / (L σ M i * L σ M i)) * E σ M i k = rdot (P σ M i) w 2048 / L σ M i := by
    unfold rdot
    rw [Finset.sum_div]
    refine Finset.sum_congr rfl fun k _ => ?_
    unfold P
    field_simp
  rw [e]
  unfold P
  field_simp
  ring

/-- The product of the gradient of a result and the result, by the keys. -/
theorem row_product (p : ℕ → ℝ) (g : ℕ → ℝ) (v : ℕ → ℕ → ℝ) :
    rdot g (fun t => rdot p (fun j => v j t) 2048) 64 = rdot p (fun j => rdot g (fun t => v j t) 64) 2048 := by
  unfold rdot
  simp only [Finset.mul_sum]
  rw [Finset.sum_comm]
  exact Finset.sum_congr rfl fun j _ => Finset.sum_congr rfl fun t _ => by ring

end Row

end Cert.Mla

end
-- ==== Proof.Mla.Put.lean ====
/- What a buffer holds after one trip's stores: each place of the trip's rows has its tile's entry added. -/
module

public import proofs.«01_k».proof.Proof.Mla.Spec
public import Idealize.ShloMosaic.Lib.WritesUnit

@[expose] public section

set_option maxRecDepth 16384

noncomputable section

namespace Cert.Mla

open Cert.KernelIdeal Cert.KernelIdeal.Gen Cert.Mm Idealize.ShloMosaic Idealize.ShloMosaic.TcCoe Idealize.SL.Sem

/-- A sum of two blocks of 64 columns, at an entry. -/
theorem plus64_at (x : Vec Ideal S256x64 .f32) (w : FVec Ideal S256x64 .f32) (y : S256x64.Idx) : plus64 x w y = x y + w y := by
  unfold plus64
  pointwise

/-- A sum of two blocks of 32 columns, at an entry. -/
theorem plus32_at (x : Vec Ideal S256x32 .f32) (w : FVec Ideal S256x32 .f32) (y : S256x32.Idx) : plus32 x w y = x y + w y := by
  unfold plus32
  pointwise

section Rows

variable (v : View sig .tc .vmem S2048x512 .f32) (f : v.ty.Contents (Elt Ideal)) (k : ℕ) (T : ℕ → ℕ → EReal)

/-- The places of the trip's rows left of column `64 j` have the tile's entry added. -/
def Added (j : ℕ) (L : List (View.Piece (Elt Ideal) S2048x512 .f32)) : Prop :=
  ∀ y, v.read (Elt Ideal) (v.writes (Elt Ideal) f L) y
    = v.read (Elt Ideal) f y + if 256 * k ≤ (y 0).val ∧ (y 0).val < 256 * k + 256 ∧ (y 1).val < 64 * j then T (y 0).val (y 1).val else 0

/-- Nothing stored adds nothing. -/
theorem added_nil : Added v f k T 0 [] := by
  intro y
  rw [if_neg (by omega), add_zero]
  rfl

/-- One more store, of the next 64 columns. -/
theorem added_cons {j : ℕ} {L : List (View.Piece (Elt Ideal) S2048x512 .f32)} (hL : Added v f k T j L) {off : Fin 2 → ℕ}
    (ho : off = ![256 * k, 64 * j]) (inb : ∀ a, off a + S256x64.size a ≤ S2048x512.size a) (w : FVec Ideal S256x64 .f32)
    (hw : ∀ y : S256x64.Idx, w y = T (256 * k + (y 0).val) (64 * j + (y 1).val)) :
    Added v f k T (j + 1) (⟨Rect.unit (s := S2048x512) off S256x64.size inb,
      plus64 (View.readAt (Elt Ideal) v (Rect.unit (s := S2048x512) off S256x64.size inb).toLoadRect f) w⟩ :: L) := by
  subst ho
  intro y
  rw [View.read_writes_cons_unit v f inb _ L y rfl]
  split_ifs with h h' h'
  · have h0 := h 0
    have h1 := h 1
    change 256 * k ≤ (y 0).val ∧ (y 0).val < 256 * k + 256 at h0
    change 64 * j ≤ (y 1).val ∧ (y 1).val < 64 * j + 64 at h1
    refine (plus64_at _ _ _).trans ?_
    rw [hw]
    refine congrArg₂ (· + ·) ?_ (congrArg₂ T (Nat.add_sub_cancel' h0.1) (Nat.add_sub_cancel' h1.1))
    refine congrArg (v.read (Elt Ideal) f) (funext fun a => Fin.ext ?_)
    match a with
    | ⟨0, _⟩ => show 256 * k + 1 * ((y 0).val - 256 * k) = (y 0).val; omega
    | ⟨1, _⟩ => show 64 * j + 1 * ((y 1).val - 64 * j) = (y 1).val; omega
  · exact absurd ⟨(h 0).1, (h 0).2, by have := (h 1).2; change (y 1).val < 64 * j + 64 at this; omega⟩ h'
  · rw [hL, if_pos]
    refine ⟨h'.1, h'.2.1, ?_⟩
    by_contra hc
    exact h fun a => match a with
      | ⟨0, _⟩ => ⟨h'.1, h'.2.1⟩
      | ⟨1, _⟩ => ⟨show 64 * j ≤ (y 1).val by omega, show (y 1).val < 64 * j + 64 by omega⟩
  · rw [hL, if_neg fun hc => h' ⟨hc.1, hc.2.1, by omega⟩]

end Rows

section Same

variable {sig' : RefSig} {κ : Kind} {sp : Space} {s : Shape} (v : View sig' κ sp s .f32)

/-- A load of the place stored last is the value stored. -/
theorem readCov_cons (r : Rect s) (w : r.shape.Idx → Elt Ideal .f32) (L : List (View.Piece (Elt Ideal) s .f32)) :
    v.readCov (⟨r, w⟩ :: L) r.toLoadRect = w :=
  funext fun x => View.read_writes_cons_emb v v.junk r w L x

/-- A place outside a store's rectangle keeps what the earlier stores left. -/
theorem read_cons_miss (f : v.ty.Contents (Elt Ideal)) (r : Rect s) (w : r.shape.Idx → Elt Ideal .f32)
    (L : List (View.Piece (Elt Ideal) s .f32)) {y : s.Idx} (hy : y ∉ r.set) :
    v.read (Elt Ideal) (v.writes (Elt Ideal) f (⟨r, w⟩ :: L)) y = v.read (Elt Ideal) (v.writes (Elt Ideal) f L) y :=
  View.read_writes_cons_miss v f ⟨r, w⟩ L y hy

end Same

section Turns

variable (i : grid0.Coords) (arg5 : Memref sig .tc .vmem S2048x512 .f32) (arg6 arg13 : Memref sig .tc .vmem S2048x128 .f32)
variable (v7 : BitVec 32) (qn : Fin 4 → Vec Ideal S512x64 .f32) (qr : Fin 4 → Vec Ideal S512x32 .f32) (g o : Fin 4 → Vec Ideal S512x64 .f32)
  (l : Fin 4 → FVec Ideal S512x1 .f32)
variable (X5 : BufTy.Contents (Elt Ideal) arg5.view.ty) (X6 : BufTy.Contents (Elt Ideal) arg6.view.ty) (k : Fin (k0_t1_loop i).trips)
variable (f13 : BufTy.Contents (Elt Ideal) arg13.view.ty)

/-- The last value stored over the trip's rotated keys, after head `h`. -/
def turn : ℕ → FVec Ideal S256x32 .f32
  | 0 => plus32 (View.readAt (Elt Ideal) arg13.view (placeR i k).toLoadRect f13) (cols32 (tripS i arg5 arg6 v7 qn qr g o l X5 X6 k 0) (qr 0))
  | h + 1 => plus32 (turn h) (cols32 (tripS i arg5 arg6 v7 qn qr g o l X5 X6 k (Fin.ofNat 4 (h + 1))) (qr (Fin.ofNat 4 (h + 1))))

/-- The stores are all of one place, the last of them first. -/
theorem tripKR_form (h : ℕ) : ∃ L : List (View.Piece (Elt Ideal) S2048x128 .f32),
    tripKR i arg5 arg6 arg13 v7 qn qr g o l X5 X6 k f13 h = ⟨placeR i k, turn i arg5 arg6 arg13 v7 qn qr g o l X5 X6 k f13 h⟩ :: L
      ∧ ∀ y, y ∉ (placeR i k).set → arg13.view.read (Elt Ideal) (arg13.view.writes (Elt Ideal) f13 L) y = arg13.view.read (Elt Ideal) f13 y := by
  induction h with
  | zero => exact ⟨[], rfl, fun y _ => rfl⟩
  | succ h ih =>
    obtain ⟨L, hL, hm⟩ := ih
    refine ⟨⟨placeR i k, turn i arg5 arg6 arg13 v7 qn qr g o l X5 X6 k f13 h⟩ :: L, ?_, fun y hy => ?_⟩
    · rw [tripKR, hL, readCov_cons, turn]
    · exact (read_cons_miss arg13.view f13 _ _ L hy).trans (hm y hy)

end Turns

end Cert.Mla

end
-- ==== Proof.Mla.Loop.lean ====
/- The kernel's loop over the keys: after its trips the carried arrays are the gradients of the point's queries, and the
   buffers of the keys' gradients have the point's contribution added. -/
module

public import proofs.«01_k».proof.Proof.Mla.Put
import all proofs.«01_k».proof.Proof.Gen.KernelIdeal.Frame
import all proofs.«01_k».proof.Proof.Gen.KernelIdeal.Loops

@[expose] public section

set_option maxRecDepth 16384

noncomputable section

namespace Cert.Mla

open Cert.KernelIdeal Cert.KernelIdeal.Gen Cert.Mm Idealize.ShloMosaic Idealize.ShloMosaic.TcCoe Idealize.SL.Sem

/-- What 512 queries from place `o` on add to the gradients of the keys and values, the heads' columns side by side. -/
def Att.dkv (A : Att) (o j c : ℕ) : EReal :=
  if c % 128 < 64 then A.dkn (c / 128) o j (c % 128) else A.dv (c / 128) o j (c % 128 - 64)

/-- What 512 queries of the four heads from place `o` on add to the gradient of the rotated keys. -/
def Att.dkp (A : Att) (o j t : ℕ) : EReal := ∑ h ∈ Finset.range 4, A.dkr h o j t

/-- The columns of a head's keys in the gradient of keys and values. -/
theorem Att.dkv_kn (A : Att) (o j h t : ℕ) (ht : t < 64) : A.dkv o j (64 * (2 * h) + t) = A.dkn h o j t := by
  have h1 : (64 * (2 * h) + t) % 128 = t := by omega
  have h2 : (64 * (2 * h) + t) / 128 = h := by omega
  unfold Att.dkv
  rw [h1, h2, if_pos ht]

/-- The columns of a head's values in the gradient of keys and values. -/
theorem Att.dkv_v (A : Att) (o j h t : ℕ) (ht : t < 64) : A.dkv o j (64 * (2 * h + 1) + t) = A.dv h o j t := by
  have h1 : (64 * (2 * h + 1) + t) % 128 = 64 + t := by omega
  have h2 : (64 * (2 * h + 1) + t) / 128 = h := by omega
  unfold Att.dkv
  rw [h1, h2, if_neg (by omega), Nat.add_sub_cancel_left]

/-- A head's gradient of the point's queries from the first `n` keys. -/
def Att.dqn (A : Att) (q h n : ℕ) : FVec Ideal S512x64 .f32 :=
  fun y => dot (A.s h (512 * q + (y 0).val)) (fun j => A.kn h j (y 1).val) 0 n

/-- A head's gradient of the point's rotated queries from the first `n` keys. -/
def Att.dqr (A : Att) (q h n : ℕ) : FVec Ideal S512x32 .f32 :=
  fun y => dot (A.s h (512 * q + (y 0).val)) (fun j => A.kr j (y 1).val) 0 n

section Trip

variable {i : grid0.Coords} {arg5 : Memref sig .tc .vmem S2048x512 .f32} {arg6 : Memref sig .tc .vmem S2048x128 .f32}
variable (arg12 : Memref sig .tc .vmem S2048x512 .f32) (arg13 : Memref sig .tc .vmem S2048x128 .f32)
variable {v7 : BitVec 32} {qn : Fin 4 → Vec Ideal S512x64 .f32} {qr : Fin 4 → Vec Ideal S512x32 .f32} {g o : Fin 4 → Vec Ideal S512x64 .f32}
  {l : Fin 4 → FVec Ideal S512x1 .f32}
variable {X5 : BufTy.Contents (Elt Ideal) arg5.view.ty} {X6 : BufTy.Contents (Elt Ideal) arg6.view.ty}
variable {A : Att} {q : ℕ} (H : Reads arg5 arg6 v7 qn qr g o l X5 X6 A q) (k : Fin (k0_t1_loop i).trips)
include H

/-- A head's gradient of the queries after the trip. -/
theorem dqn_succ (h : Fin 4) :
    addf (A.dqn q h.val (256 * k.val)) (rows64 (tripS i arg5 arg6 v7 qn qr g o l X5 X6 k h) (keyN i arg5 X5 k h))
      = A.dqn q h.val (256 * (k.val + 1)) := by
  funext y
  show A.dqn q h.val (256 * k.val) y + rows64 _ _ y = _
  rw [rows64_tile H k h y]
  refine Eq.trans ?_ (dot_add _ _ 0 (256 * k.val) 256)
  rw [zero_add]
  rfl

/-- A head's gradient of the rotated queries after the trip. -/
theorem dqr_succ (h : Fin 4) :
    addf (A.dqr q h.val (256 * k.val)) (rows32 (tripS i arg5 arg6 v7 qn qr g o l X5 X6 k h) (keyR i arg6 X6 k))
      = A.dqr q h.val (256 * (k.val + 1)) := by
  funext y
  show A.dqr q h.val (256 * k.val) y + rows32 _ _ y = _
  rw [rows32_tile H k h y]
  refine Eq.trans ?_ (dot_add _ _ 0 (256 * k.val) 256)
  rw [zero_add]
  rfl

/-- The stores of a head, over those of the heads before it. -/
theorem added_head (h : Fin 4) {f12 : BufTy.Contents (Elt Ideal) arg12.view.ty} {L : List (View.Piece (Elt Ideal) S2048x512 .f32)}
    (hL : Added arg12.view f12 k.val (A.dkv (512 * q)) (2 * h.val) L) {off off' : Fin 2 → ℕ} (ho : off = ![256 * k.val, 64 * (2 * h.val)])
    (ho' : off' = ![256 * k.val, 64 * (2 * h.val + 1)])
    (inb : ∀ a, off a + S256x64.size a ≤ S2048x512.size a) (inb' : ∀ a, off' a + S256x64.size a ≤ S2048x512.size a) :
    Added arg12.view f12 k.val (A.dkv (512 * q)) (2 * h.val + 1 + 1)
      (⟨Rect.unit (s := S2048x512) off' S256x64.size inb',
          plus64 (View.readAt (Elt Ideal) arg12.view (Rect.unit (s := S2048x512) off' S256x64.size inb').toLoadRect f12)
            (cols64 (tripP i arg5 arg6 v7 qn qr l X5 X6 k h) (once (g h)))⟩ ::
        ⟨Rect.unit (s := S2048x512) off S256x64.size inb,
          plus64 (View.readAt (Elt Ideal) arg12.view (Rect.unit (s := S2048x512) off S256x64.size inb).toLoadRect f12)
            (cols64 (tripS i arg5 arg6 v7 qn qr g o l X5 X6 k h) (qn h))⟩ :: L) :=
  added_cons _ _ _ _ (added_cons _ _ _ _ hL ho inb _ fun y => by rw [cols64_tileS H k h y, Att.dkv_kn _ _ _ _ _ (y 1).isLt]) ho' inb' _
    fun y => by rw [cols64_tileP H k h y, Att.dkv_v _ _ _ _ _ (y 1).isLt]

/-- The stores over the gradients of the keys and values. -/
theorem added_tripKV (f12 : BufTy.Contents (Elt Ideal) arg12.view.ty) :
    Added arg12.view f12 k.val (A.dkv (512 * q)) 8 (tripKV i arg5 arg6 arg12 v7 qn qr g o l X5 X6 k f12) :=
  added_head arg12 H k 3
    (added_head arg12 H k 2
      (added_head arg12 H k 1
        (added_head arg12 H k 0 (added_nil _ _ _ _) (k0_off2_eq i k) (k0_off3_eq i k) (k0_off2_inb i k) (k0_off3_inb i k))
        (k0_off4_eq i k) (k0_off5_eq i k) (k0_off4_inb i k) (k0_off5_inb i k))
      (k0_off6_eq i k) (k0_off7_eq i k) (k0_off6_inb i k) (k0_off7_inb i k))
    (k0_off8_eq i k) (k0_off9_eq i k) (k0_off8_inb i k) (k0_off9_inb i k)

/-- The last value stored over the trip's rotated keys: what was there, and the heads' contributions up to head `h`. -/
theorem turn_at (f13 : BufTy.Contents (Elt Ideal) arg13.view.ty) (h : ℕ) (hh : h < 4) (y : S256x32.Idx) :
    turn i arg5 arg6 arg13 v7 qn qr g o l X5 X6 k f13 h y
      = arg13.view.read (Elt Ideal) f13 ((placeR i k).emb y)
        + ∑ h' ∈ Finset.range (h + 1), A.dkr h' (512 * q) (256 * k.val + (y 0).val) (y 1).val := by
  induction h with
  | zero =>
    rw [turn, plus32_at, cols32_tile H k 0 y, Finset.sum_range_one]
    rfl
  | succ h ih =>
    rw [turn, plus32_at, cols32_tile H k _ y, ih (by omega), Finset.sum_range_succ _ (h + 1), add_assoc]
    rw [show (Fin.ofNat 4 (h + 1)).val = h + 1 from Nat.mod_eq_of_lt hh]

/-- The stores over the gradient of the rotated keys. -/
theorem read_tripKR (f13 : BufTy.Contents (Elt Ideal) arg13.view.ty) (y : S2048x128.Idx) :
    arg13.view.read (Elt Ideal) (arg13.view.writes (Elt Ideal) f13 (tripKR i arg5 arg6 arg13 v7 qn qr g o l X5 X6 k f13 3)) y
      = arg13.view.read (Elt Ideal) f13 y
        + if 256 * k.val ≤ (y 0).val ∧ (y 0).val < 256 * k.val + 256 ∧ (y 1).val < 32 then A.dkp (512 * q) (y 0).val (y 1).val else 0 := by
  obtain ⟨L, hL, hm⟩ := tripKR_form i arg5 arg6 arg13 v7 qn qr g o l X5 X6 k f13 3
  rw [hL]
  by_cases hc : 256 * k.val ≤ (y 0).val ∧ (y 0).val < 256 * k.val + 256 ∧ (y 1).val < 32
  · rw [if_pos hc]
    obtain ⟨x, hx, h0, h1⟩ : ∃ x : S256x32.Idx, (placeR i k).emb x = y ∧ 256 * k.val + (x 0).val = (y 0).val ∧ (x 1).val = (y 1).val := by
      refine ⟨ix2 ⟨(y 0).val - 256 * k.val, by omega⟩ ⟨(y 1).val, hc.2.2⟩, funext fun a => Fin.ext ?_, Nat.add_sub_cancel' hc.1, rfl⟩
      show k0_off1 i k a + 1 * _ = _
      rw [k0_off1_eq]
      match a with
      | ⟨0, _⟩ => show 256 * k.val + 1 * ((y 0).val - 256 * k.val) = (y 0).val; omega
      | ⟨1, _⟩ => show 0 + 1 * (y 1).val = (y 1).val; omega
    refine (View.read_writes_cons_hit arg13.view f13 (placeR i k) _ L x y hx).trans ?_
    rw [turn_at arg13 H k f13 3 (by decide) x, hx, h0, h1]
    rfl
  · rw [if_neg hc, add_zero]
    have hy : y ∉ (placeR i k).set := by
      rw [Rect.mem_set_unit, k0_off1_eq]
      intro h
      have h0 := h 0
      have h1 := h 1
      change 256 * k.val ≤ (y 0).val ∧ (y 0).val < 256 * k.val + 256 at h0
      change 0 ≤ (y 1).val ∧ (y 1).val < 0 + 32 at h1
      exact hc ⟨h0.1, h0.2, by omega⟩
    exact (read_cons_miss arg13.view f13 _ _ L hy).trans (hm y hy)

end Trip

section Loop

variable (𝒱 : Variants) (c : Dev nD) (bd : Option 𝒱.V) (i : grid0.Coords)
  (arg3 : Memref sig .tc .vmem S512x256 .f32) (harg3 : arg3.IsWhole)
  (arg4 : Memref sig .tc .vmem S512x128 .f32) (harg4 : arg4.IsWhole)
  (arg5 : Memref sig .tc .vmem S2048x512 .f32) (harg5 : arg5.IsWhole)
  (arg6 : Memref sig .tc .vmem S2048x128 .f32) (harg6 : arg6.IsWhole)
  (arg7 : Memref sig .tc .vmem S512x256 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S512x128 .f32) (harg11 : arg11.IsWhole)
  (arg12 : Memref sig .tc .vmem S2048x512 .f32) (harg12 : arg12.IsWhole)
  (arg13 : Memref sig .tc .vmem S2048x128 .f32) (harg13 : arg13.IsWhole)
variable (v7 v25 : BitVec 32) (qn : Fin 4 → Vec Ideal S512x64 .f32) (qr : Fin 4 → Vec Ideal S512x32 .f32) (g o : Fin 4 → Vec Ideal S512x64 .f32)
  (l : Fin 4 → FVec Ideal S512x1 .f32)
variable (X5 : BufTy.Contents (Elt Ideal) arg5.view.ty) (X6 : BufTy.Contents (Elt Ideal) arg6.view.ty)
variable (G12 : BufTy.Contents (Elt Ideal) arg12.view.ty) (G13 : BufTy.Contents (Elt Ideal) arg13.view.ty)

/-- What the loop carries after its first `n` keys: each head's gradient of the queries and of the rotated queries. -/
def Att.carried (A : Att) (q n : ℕ) : FVec Ideal S512x64 .f32 × FVec Ideal S512x32 .f32 × FVec Ideal S512x64 .f32 × FVec Ideal S512x32 .f32 ×
    FVec Ideal S512x64 .f32 × FVec Ideal S512x32 .f32 × FVec Ideal S512x64 .f32 × FVec Ideal S512x32 .f32 :=
  (A.dqn q 0 n, A.dqr q 0 n, A.dqn q 1 n, A.dqr q 1 n, A.dqn q 2 n, A.dqr q 2 n, A.dqn q 3 n, A.dqr q 3 n)

/-- The loop's state after its first `n` trips: the arrays carried, and what the two buffers hold. -/
structure Held (A : Att) (q n : ℕ)
    (S : (FVec Ideal S512x64 .f32 × FVec Ideal S512x32 .f32 × FVec Ideal S512x64 .f32 × FVec Ideal S512x32 .f32 ×
      FVec Ideal S512x64 .f32 × FVec Ideal S512x32 .f32 × FVec Ideal S512x64 .f32 × FVec Ideal S512x32 .f32) ×
      List (View.Piece (Elt Ideal) S2048x512 .f32) × List (View.Piece (Elt Ideal) S2048x128 .f32)) : Prop where
  carried_eq : S.1 = A.carried q (256 * n)
  kv : ∀ y, arg12.view.read (Elt Ideal) (arg12.view.writes (Elt Ideal) G12 S.2.1) y
    = arg12.view.read (Elt Ideal) G12 y + if (y 0).val < 256 * n then A.dkv (512 * q) (y 0).val (y 1).val else 0
  kp : ∀ y, arg13.view.read (Elt Ideal) (arg13.view.writes (Elt Ideal) G13 S.2.2) y
    = arg13.view.read (Elt Ideal) G13 y + if (y 0).val < 256 * n ∧ (y 1).val < 32 then A.dkp (512 * q) (y 0).val (y 1).val else 0

/-- The state before the first trip. -/
theorem held_zero (A : Att) (q : ℕ) : Held arg12 arg13 G12 G13 A q 0 (A.carried q 0, [], []) where
  carried_eq := rfl
  kv y := by
    rw [if_neg (by omega), add_zero]
    rfl
  kp y := by
    rw [if_neg (by omega), add_zero]
    rfl

variable {v7 qn qr g o l X5 X6 G12 G13}

/-- One more trip. -/
theorem held_succ {A : Att} {q : ℕ} (H : Reads arg5 arg6 v7 qn qr g o l X5 X6 A q) (k : Fin (k0_t1_loop i).trips) {S}
    (hS : Held arg12 arg13 G12 G13 A q k.val S) (f13 : BufTy.Contents (Elt Ideal) arg13.view.ty)
    (f12 : BufTy.Contents (Elt Ideal) arg12.view.ty) (h12 : f12 = arg12.view.writes (Elt Ideal) G12 S.2.1)
    (h13 : f13 = arg13.view.writes (Elt Ideal) G13 S.2.2) :
    Held arg12 arg13 G12 G13 A q (k.val + 1)
      (tripR_k0_t1 (F := Ideal) 𝒱 c bd i arg3 harg3 arg4 harg4 arg5 harg5 arg6 harg6 arg7 harg7 arg8 harg8 arg9 harg9 arg10 harg10 arg11 harg11 arg12 harg12 arg13 harg13 v7 v25
          (qn 0) (qn 1) (qn 2) (qn 3) (qr 0) (qr 1) (qr 2) (qr 3) (g 0) (g 1) (g 2) (g 3) (l 0) (l 1) (l 2) (l 3) (rowdot (g 0) (o 0)) (rowdot (g 1) (o 1)) (rowdot (g 2) (o 2)) (o 3)
          X5 X6 k S.1 f12 f13,
        (tripL_k0_t1 (F := Ideal) 𝒱 c bd i arg3 harg3 arg4 harg4 arg5 harg5 arg6 harg6 arg7 harg7 arg8 harg8 arg9 harg9 arg10 harg10 arg11 harg11 arg12 harg12 arg13 harg13 v7 v25
          (qn 0) (qn 1) (qn 2) (qn 3) (qr 0) (qr 1) (qr 2) (qr 3) (g 0) (g 1) (g 2) (g 3) (l 0) (l 1) (l 2) (l 3) (rowdot (g 0) (o 0)) (rowdot (g 1) (o 1)) (rowdot (g 2) (o 2)) (o 3)
          X5 X6 k S.1 f12 f13).1 ++ S.2.1,
        (tripL_k0_t1 (F := Ideal) 𝒱 c bd i arg3 harg3 arg4 harg4 arg5 harg5 arg6 harg6 arg7 harg7 arg8 harg8 arg9 harg9 arg10 harg10 arg11 harg11 arg12 harg12 arg13 harg13 v7 v25
          (qn 0) (qn 1) (qn 2) (qn 3) (qr 0) (qr 1) (qr 2) (qr 3) (g 0) (g 1) (g 2) (g 3) (l 0) (l 1) (l 2) (l 3) (rowdot (g 0) (o 0)) (rowdot (g 1) (o 1)) (rowdot (g 2) (o 2)) (o 3)
          X5 X6 k S.1 f12 f13).2 ++ S.2.2) := by
  rw [tripR_eq, tripL_eq, hS.carried_eq]
  subst h12 h13
  refine ⟨?_, fun y => ?_, fun y => ?_⟩
  · exact congrArg₂ Prod.mk (dqn_succ H k 0) (congrArg₂ Prod.mk (dqr_succ H k 0) (congrArg₂ Prod.mk (dqn_succ H k 1)
      (congrArg₂ Prod.mk (dqr_succ H k 1) (congrArg₂ Prod.mk (dqn_succ H k 2) (congrArg₂ Prod.mk (dqr_succ H k 2)
      (congrArg₂ Prod.mk (dqn_succ H k 3) (dqr_succ H k 3)))))))
  · dsimp only
    rw [View.writes_append]
    refine (added_tripKV arg12 H k _ y).trans ?_
    rw [hS.kv, add_assoc]
    have hy : (y 1).val < 512 := (y 1).isLt
    refine congrArg (_ + ·) ?_
    by_cases hc : (y 0).val < 256 * k.val
    · rw [if_pos hc, if_neg (by omega), if_pos (by omega), add_zero]
    · rw [if_neg hc, zero_add]
      exact if_congr (by omega) rfl rfl
  · dsimp only
    rw [View.writes_append]
    refine (read_tripKR arg13 H k _ y).trans ?_
    rw [hS.kp, add_assoc]
    refine congrArg (_ + ·) ?_
    by_cases hc : (y 0).val < 256 * k.val ∧ (y 1).val < 32
    · rw [if_pos hc, if_neg (by omega), if_pos (by omega), add_zero]
    · rw [if_neg hc, zero_add]
      exact if_congr (by omega) rfl rfl

/-- The state after `n` trips. -/
theorem held {A : Att} {q : ℕ} (H : Reads arg5 arg6 v7 qn qr g o l X5 X6 A q) (n : ℕ) (hn : n ≤ (k0_t1_loop i).trips) :
    Held arg12 arg13 G12 G13 A q n
      (st_k0_t1 (F := Ideal) 𝒱 c bd i arg3 harg3 arg4 harg4 arg5 harg5 arg6 harg6 arg7 harg7 arg8 harg8 arg9 harg9 arg10 harg10 arg11 harg11 arg12 harg12 arg13 harg13 v7 v25
    (qn 0) (qn 1) (qn 2) (qn 3) (qr 0) (qr 1) (qr 2) (qr 3) (g 0) (g 1) (g 2) (g 3) (l 0) (l 1) (l 2) (l 3) (rowdot (g 0) (o 0)) (rowdot (g 1) (o 1)) (rowdot (g 2) (o 2)) (o 3)
    X5 X6 G12 G13 (A.carried q 0) n) := by
  induction n with
  | zero => exact held_zero _ _ _ _ _ _
  | succ n ih =>
    have hs := st_k0_t1_succ (F := Ideal) 𝒱 c bd i arg3 harg3 arg4 harg4 arg5 harg5 arg6 harg6 arg7 harg7 arg8 harg8 arg9 harg9 arg10 harg10 arg11 harg11 arg12 harg12 arg13 harg13 v7 v25
      (qn 0) (qn 1) (qn 2) (qn 3) (qr 0) (qr 1) (qr 2) (qr 3) (g 0) (g 1) (g 2) (g 3) (l 0) (l 1) (l 2) (l 3) (rowdot (g 0) (o 0)) (rowdot (g 1) (o 1)) (rowdot (g 2) (o 2)) (o 3)
      X5 X6 G12 G13 (A.carried q 0) ⟨n, hn⟩
    dsimp only at hs
    rw [hs]
    exact held_succ 𝒱 c bd i arg3 harg3 arg4 harg4 arg5 harg5 arg6 harg6 arg7 harg7 arg8 harg8 arg9 harg9 arg10 harg10 arg11 harg11 arg12 harg12 arg13 harg13 v25 H ⟨n, hn⟩ (ih (Nat.le_of_lt hn)) _ _ rfl rfl

end Loop

end Cert.Mla

end
-- ==== Proof.Mla.Point.lean ====
/- One point of the grid: what the four result blocks hold after it, from the blocks it reads. -/
module

public import proofs.«01_k».proof.Proof.Mla.Loop
import all proofs.«01_k».proof.Proof.Gen.KernelIdeal.Frame
import all proofs.«01_k».proof.Proof.Gen.KernelIdeal.Loops
import all proofs.«01_k».proof.Proof.Gen.KernelIdeal.Frame.RunA
import all proofs.«01_k».proof.Proof.Gen.KernelIdeal.Frame.RunB
import all proofs.«01_k».proof.Proof.Gen.KernelIdeal.Frame.RunC

@[expose] public section

set_option maxRecDepth 16384

noncomputable section

namespace Cert.Mla

open Cert.KernelIdeal Cert.KernelIdeal.Gen Cert.Mm Idealize.ShloMosaic Idealize.ShloMosaic.TcCoe Idealize.SL.Sem

/-- Four heads of 64 columns. -/
def heads64 (v : View sig .tc .vmem S512x256 .f32) (f : v.ty.Contents (Elt Ideal)) : Fin 4 → Vec Ideal S512x64 .f32 :=
  ![v.readAt (Elt Ideal) (Rect.unit (s := S512x256) ![0, 0] S512x64.size inb_S512x256_S512x64_0_0).toLoadRect f,
    v.readAt (Elt Ideal) (Rect.unit (s := S512x256) ![0, 64] S512x64.size inb_S512x256_S512x64_0_64).toLoadRect f,
    v.readAt (Elt Ideal) (Rect.unit (s := S512x256) ![0, 128] S512x64.size inb_S512x256_S512x64_0_128).toLoadRect f,
    v.readAt (Elt Ideal) (Rect.unit (s := S512x256) ![0, 192] S512x64.size inb_S512x256_S512x64_0_192).toLoadRect f]

/-- Four heads of 32 columns. -/
def heads32 (v : View sig .tc .vmem S512x128 .f32) (f : v.ty.Contents (Elt Ideal)) : Fin 4 → Vec Ideal S512x32 .f32 :=
  ![v.readAt (Elt Ideal) (Rect.unit (s := S512x128) ![0, 0] S512x32.size inb_S512x128_S512x32_0_0).toLoadRect f,
    v.readAt (Elt Ideal) (Rect.unit (s := S512x128) ![0, 32] S512x32.size inb_S512x128_S512x32_0_32).toLoadRect f,
    v.readAt (Elt Ideal) (Rect.unit (s := S512x128) ![0, 64] S512x32.size inb_S512x128_S512x32_0_64).toLoadRect f,
    v.readAt (Elt Ideal) (Rect.unit (s := S512x128) ![0, 96] S512x32.size inb_S512x128_S512x32_0_96).toLoadRect f]

/-- The first column of each of four heads. -/
def headsL (v : View sig .tc .vmem S512x256 .f32) (f : v.ty.Contents (Elt Ideal)) : Fin 4 → FVec Ideal S512x1 .f32 :=
  ![k0_pay121 (v.readAt (Elt Ideal) (Rect.unit (s := S512x256) ![0, 0] S512x1.size inb_S512x256_S512x1_0_0).toLoadRect f),
    k0_pay122 (v.readAt (Elt Ideal) (Rect.unit (s := S512x256) ![0, 64] S512x1.size inb_S512x256_S512x1_0_64).toLoadRect f),
    k0_pay123 (v.readAt (Elt Ideal) (Rect.unit (s := S512x256) ![0, 128] S512x1.size inb_S512x256_S512x1_0_128).toLoadRect f),
    k0_pay124 (v.readAt (Elt Ideal) (Rect.unit (s := S512x256) ![0, 192] S512x1.size inb_S512x256_S512x1_0_192).toLoadRect f)]

/-- The columns of one of four heads of 64. -/
theorem at2_heads64 (v : View sig .tc .vmem S512x256 .f32) (f : v.ty.Contents (Elt Ideal)) (h : Fin 4) (r t : ℕ) (hr : r < 512) (ht : t < 64) :
    at2 (heads64 v f h) r t = at2 (v.read (Elt Ideal) f) r (64 * h.val + t) := by
  fin_cases h <;> exact (at2_readAt v f _ rfl hr ht).trans (by rw [zero_add]; rfl)

/-- The columns of one of four heads of 32. -/
theorem at2_heads32 (v : View sig .tc .vmem S512x128 .f32) (f : v.ty.Contents (Elt Ideal)) (h : Fin 4) (r t : ℕ) (hr : r < 512) (ht : t < 32) :
    at2 (heads32 v f h) r t = at2 (v.read (Elt Ideal) f) r (32 * h.val + t) := by
  fin_cases h <;> exact (at2_readAt v f _ rfl hr ht).trans (by rw [zero_add]; rfl)

/-- A column recast at its own shape is itself. -/
theorem cast_one (x : Vec Ideal S512x1 .f32) : k0_pay121 x = x := by
  funext y
  unfold k0_pay121
  pointwise

/-- The first column of one of four heads of 64. -/
theorem at2_headsL (v : View sig .tc .vmem S512x256 .f32) (f : v.ty.Contents (Elt Ideal)) (h : Fin 4) (r : ℕ) (hr : r < 512) :
    at2 (headsL v f h) r 0 = at2 (v.read (Elt Ideal) f) r (64 * h.val) := by
  fin_cases h <;>
    exact (congrArg (fun x => at2 x r 0) (cast_one _)).trans ((at2_readAt v f _ rfl hr Nat.one_pos).trans (by rw [zero_add]; rfl))

/-- A row's sum of products. -/
theorem at2_rowdot (g o : Vec Ideal S512x64 .f32) (r : ℕ) (hr : r < 512) : at2 (rowdot g o) r 0 = dot (at2 g r) (at2 o r) 0 64 := by
  rw [at2_of _ hr Nat.one_pos, ← sum_fin_dot]
  unfold rowdot k0_pay128
  pointwise
  refine Finset.sum_congr rfl fun t _ => ?_
  rw [at2_of _ hr t.isLt, at2_of _ hr t.isLt]

/-- The word of a point's first query. -/
theorem word_eq : ∀ i : grid0.Coords, Scalar.muli (BitVec.ofNat 32 (i 2).val) 512#32 = BitVec.ofNat 32 (512 * (i 2).val) := by
  decide +kernel

/-- The number of blocks of keys a block of queries goes over. -/
theorem trips_eq : ∀ i : grid0.Coords, (k0_t1_loop i).trips = 2 * ((i 2).val + 1) := by
  decide +kernel

/-- No block of keys is left to the second loop. -/
theorem rest_eq (i : grid0.Coords) : Scf.trips (k0_t2_loop i).lb (k0_t2_loop i).ub (k0_t2_loop i).st = 0 :=
  Nat.le_zero.mp (k0_t2_abs i).2.1

/-- What a point's blocks hold, of the attention `A`. -/
structure Blocks (x0 : Vec Ideal S512x256 .f32) (x1 : Vec Ideal S512x128 .f32) (x2 : Vec Ideal S2048x512 .f32) (x3 : Vec Ideal S2048x128 .f32)
    (x4 x5 x6 : Vec Ideal S512x256 .f32) (A : Att) (q : ℕ) : Prop where
  qn_at : ∀ h r t : ℕ, h < 4 → r < 512 → t < 64 → at2 x0 r (64 * h + t) = A.qn h (512 * q + r) t
  qr_at : ∀ h r t : ℕ, h < 4 → r < 512 → t < 32 → at2 x1 r (32 * h + t) = A.qr h (512 * q + r) t
  kn_at : ∀ h j t : ℕ, h < 4 → j < 2048 → t < 64 → at2 x2 j (128 * h + t) = A.kn h j t
  v_at : ∀ h j t : ℕ, h < 4 → j < 2048 → t < 64 → at2 x2 j (128 * h + 64 + t) = A.v h j t
  kr_at : ∀ j t : ℕ, j < 2048 → t < 32 → at2 x3 j t = A.kr j t
  l_at : ∀ h r : ℕ, h < 4 → r < 512 → at2 x5 r (64 * h) = A.l h (512 * q + r)
  g_at : ∀ h r t : ℕ, h < 4 → r < 512 → t < 64 → at2 x6 r (64 * h + t) = A.g h (512 * q + r) t
  d_at : ∀ h r : ℕ, h < 4 → r < 512 →
    dot (fun t => at2 x6 r (64 * h + t)) (fun t => at2 x4 r (64 * h + t)) 0 64 = A.d h (512 * q + r)

/-- The stores of the gradient of the queries. -/
def stores64 (S : FVec Ideal S512x64 .f32 × FVec Ideal S512x32 .f32 × FVec Ideal S512x64 .f32 × FVec Ideal S512x32 .f32 ×
    FVec Ideal S512x64 .f32 × FVec Ideal S512x32 .f32 × FVec Ideal S512x64 .f32 × FVec Ideal S512x32 .f32) :
    List (View.Piece (Elt Ideal) S512x256 .f32) :=
  [⟨Rect.unit ![0, 192] S512x64.size inb_S512x256_S512x64_0_192, S.2.2.2.2.2.2.1⟩,
    ⟨Rect.unit ![0, 128] S512x64.size inb_S512x256_S512x64_0_128, S.2.2.2.2.1⟩,
    ⟨Rect.unit ![0, 64] S512x64.size inb_S512x256_S512x64_0_64, S.2.2.1⟩,
    ⟨Rect.unit ![0, 0] S512x64.size inb_S512x256_S512x64_0_0, S.1⟩]

/-- The stores of the gradient of the rotated queries. -/
def stores32 (S : FVec Ideal S512x64 .f32 × FVec Ideal S512x32 .f32 × FVec Ideal S512x64 .f32 × FVec Ideal S512x32 .f32 ×
    FVec Ideal S512x64 .f32 × FVec Ideal S512x32 .f32 × FVec Ideal S512x64 .f32 × FVec Ideal S512x32 .f32) :
    List (View.Piece (Elt Ideal) S512x128 .f32) :=
  [⟨Rect.unit ![0, 96] S512x32.size inb_S512x128_S512x32_0_96, S.2.2.2.2.2.2.2⟩,
    ⟨Rect.unit ![0, 64] S512x32.size inb_S512x128_S512x32_0_64, S.2.2.2.2.2.1⟩,
    ⟨Rect.unit ![0, 32] S512x32.size inb_S512x128_S512x32_0_32, S.2.2.2.1⟩,
    ⟨Rect.unit ![0, 0] S512x32.size inb_S512x128_S512x32_0_0, S.2.1⟩]

/-- The store of zeros over a whole block of the gradient of the keys and values. -/
def clearKV : List (View.Piece (Elt Ideal) S2048x512 .f32) := [⟨Rect.unit ![0, 0] S2048x512.size inb_S2048x512_S2048x512_0_0, k0_pay119 (F := Ideal)⟩]

/-- The store of zeros over a whole block of the gradient of the rotated keys. -/
def clearKR : List (View.Piece (Elt Ideal) S2048x128 .f32) := [⟨Rect.unit ![0, 0] S2048x128.size inb_S2048x128_S2048x128_0_0, k0_pay120 (F := Ideal)⟩]

section Point

variable (c : Dev nD) (i : grid0.Coords)
  (arg3 : Memref sig .tc .vmem S512x256 .f32) (harg3 : arg3.IsWhole)
  (arg4 : Memref sig .tc .vmem S512x128 .f32) (harg4 : arg4.IsWhole)
  (arg5 : Memref sig .tc .vmem S2048x512 .f32) (harg5 : arg5.IsWhole)
  (arg6 : Memref sig .tc .vmem S2048x128 .f32) (harg6 : arg6.IsWhole)
  (arg7 : Memref sig .tc .vmem S512x256 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S512x128 .f32) (harg11 : arg11.IsWhole)
  (arg12 : Memref sig .tc .vmem S2048x512 .f32) (harg12 : arg12.IsWhole)
  (arg13 : Memref sig .tc .vmem S2048x128 .f32) (harg13 : arg13.IsWhole)
variable (x0 : Vec Ideal S512x256 .f32) (x1 : Vec Ideal S512x128 .f32) (x2 : Vec Ideal S2048x512 .f32) (x3 : Vec Ideal S2048x128 .f32)
  (x4 x5 x6 : Vec Ideal S512x256 .f32)

/-- The loads of a point, read as heads of the attention. -/
theorem reads {A : Att} (B : Blocks x0 x1 x2 x3 x4 x5 x6 A (i 2).val) :
    Reads arg5 arg6 (Scalar.muli (BitVec.ofNat 32 (i 2).val) 512#32) (heads64 arg3.view (harg3.unread x0)) (heads32 arg4.view (harg4.unread x1))
      (heads64 arg9.view (harg9.unread x6)) (heads64 arg7.view (harg7.unread x4)) (headsL arg8.view (harg8.unread x5)) (harg5.unread x2)
      (harg6.unread x3) A (i 2).val where
  lt_at := (i 2).isLt
  word_at := word_eq i
  qn_at h r t hr ht := by rw [at2_heads64 _ _ _ _ _ hr ht, harg3.read_unread]; exact B.qn_at _ _ _ h.isLt hr ht
  qr_at h r t hr ht := by rw [at2_heads32 _ _ _ _ _ hr ht, harg4.read_unread]; exact B.qr_at _ _ _ h.isLt hr ht
  g_at h r t hr ht := by rw [at2_heads64 _ _ _ _ _ hr ht, harg9.read_unread]; exact B.g_at _ _ _ h.isLt hr ht
  d_at h r hr := by
    rw [at2_rowdot _ _ _ hr, ← B.d_at _ _ h.isLt hr]
    refine dot_congr (fun t ht => ?_) fun t ht => ?_
    · rw [at2_heads64 _ _ _ _ _ hr ht, harg9.read_unread]
    · rw [at2_heads64 _ _ _ _ _ hr ht, harg7.read_unread]
  l_at h r hr := by rw [at2_headsL _ _ _ _ hr, harg8.read_unread]; exact B.l_at _ _ h.isLt hr
  kn_at h j t hj ht := by rw [harg5.read_unread]; exact B.kn_at _ _ _ h.isLt hj ht
  v_at h j t hj ht := by rw [harg5.read_unread]; exact B.v_at _ _ _ h.isLt hj ht
  kr_at j t hj ht := by rw [harg6.read_unread]; exact B.kr_at _ _ hj ht

variable (G12 : BufTy.Contents (Elt Ideal) arg12.view.ty) (G13 : BufTy.Contents (Elt Ideal) arg13.view.ty)

/-- The loop's last state at a point. -/
def last := st_k0_t1 (F := Ideal) Variants.none c none i arg3 harg3 arg4 harg4 arg5 harg5 arg6 harg6 arg7 harg7 arg8 harg8 arg9 harg9 arg10 harg10 arg11 harg11 arg12 harg12 arg13 harg13
  (kernelRun0_B.sl.v7 i) (kernelRun0_B.sl.v25 i)
  (heads64 arg3.view (harg3.unread x0) 0) (heads64 arg3.view (harg3.unread x0) 1) (heads64 arg3.view (harg3.unread x0) 2) (heads64 arg3.view (harg3.unread x0) 3)
  (heads32 arg4.view (harg4.unread x1) 0) (heads32 arg4.view (harg4.unread x1) 1) (heads32 arg4.view (harg4.unread x1) 2) (heads32 arg4.view (harg4.unread x1) 3)
  (heads64 arg9.view (harg9.unread x6) 0) (heads64 arg9.view (harg9.unread x6) 1) (heads64 arg9.view (harg9.unread x6) 2) (heads64 arg9.view (harg9.unread x6) 3)
  (headsL arg8.view (harg8.unread x5) 0) (headsL arg8.view (harg8.unread x5) 1) (headsL arg8.view (harg8.unread x5) 2) (headsL arg8.view (harg8.unread x5) 3)
  (rowdot (heads64 arg9.view (harg9.unread x6) 0) (heads64 arg7.view (harg7.unread x4) 0))
  (rowdot (heads64 arg9.view (harg9.unread x6) 1) (heads64 arg7.view (harg7.unread x4) 1))
  (rowdot (heads64 arg9.view (harg9.unread x6) 2) (heads64 arg7.view (harg7.unread x4) 2))
  (heads64 arg7.view (harg7.unread x4) 3) (harg5.unread x2) (harg6.unread x3) G12 G13
  (k0_pay129, k0_pay130, k0_pay131, k0_pay132, k0_pay133, k0_pay134, k0_pay135, k0_pay136) (k0_t1_loop i).trips

/-- The gradient of the queries' first part before the first block of keys is zero. -/
theorem zero64 (A : Att) (q h : ℕ) : (k0_pay129 : FVec Ideal S512x64 .f32) = A.dqn q h (256 * 0) := by
  funext y
  have e : A.dqn q h (256 * 0) y = 0 := by
    show dot _ _ 0 (256 * 0) = 0
    rw [dot, Finset.sum_range_zero]
  rw [e]
  unfold k0_pay129
  pointwise

/-- The gradient of the queries' second part before the first block of keys is zero. -/
theorem zero32 (A : Att) (q h : ℕ) : (k0_pay130 : FVec Ideal S512x32 .f32) = A.dqr q h (256 * 0) := by
  funext y
  have e : A.dqr q h (256 * 0) y = 0 := by
    show dot _ _ 0 (256 * 0) = 0
    rw [dot, Finset.sum_range_zero]
  rw [e]
  unfold k0_pay130
  pointwise

/-- What the loop is started with. -/
theorem start_eq (A : Att) (q : ℕ) :
    (k0_pay129, k0_pay130, k0_pay131, k0_pay132, k0_pay133, k0_pay134, k0_pay135, k0_pay136) = A.carried q 0 := by
  show (k0_pay129, k0_pay130, k0_pay129, k0_pay130, k0_pay129, k0_pay130, k0_pay129, k0_pay130) = A.carried q (256 * 0)
  unfold Att.carried
  rw [← zero64, ← zero64, ← zero64, ← zero64, ← zero32, ← zero32, ← zero32, ← zero32]

/-- What is held after the last block of keys. -/
theorem held_last {A : Att} (B : Blocks x0 x1 x2 x3 x4 x5 x6 A (i 2).val) :
    Held arg12 arg13 G12 G13 A (i 2).val (k0_t1_loop i).trips (last c i arg3 harg3 arg4 harg4 arg5 harg5 arg6 harg6 arg7 harg7 arg8 harg8 arg9 harg9 arg10 harg10 arg11 harg11 arg12 harg12 arg13 harg13 x0 x1 x2 x3 x4 x5 x6 G12 G13) := by
  unfold last
  rw [start_eq A (i 2).val]
  exact held Variants.none c none i arg3 harg3 arg4 harg4 arg5 harg5 arg6 harg6 arg7 harg7 arg8 harg8 arg9 harg9 arg10 harg10 arg11 harg11 arg12 harg12 arg13 harg13 _
    (reads i arg3 harg3 arg4 harg4 arg5 harg5 arg6 harg6 arg7 harg7 arg8 harg8 arg9 harg9 x0 x1 x2 x3 x4 x5 x6 B) (k0_t1_loop i).trips le_rfl

end Point

end Cert.Mla

end
-- ==== Proof.Mla.Runs.lean ====
/- The stores of a point, in its three cases, from the loop's last state. -/
module

public import proofs.«01_k».proof.Proof.Mla.Point
import all proofs.«01_k».proof.Proof.Gen.KernelIdeal.Frame
import all proofs.«01_k».proof.Proof.Gen.KernelIdeal.Loops
import all proofs.«01_k».proof.Proof.Gen.KernelIdeal.Frame.RunA
import all proofs.«01_k».proof.Proof.Gen.KernelIdeal.Frame.RunB
import all proofs.«01_k».proof.Proof.Gen.KernelIdeal.Frame.RunC

@[expose] public section

set_option maxRecDepth 16384

noncomputable section

namespace Cert.Mla

open Cert.KernelIdeal Cert.KernelIdeal.Gen Cert.Mm Idealize.ShloMosaic Idealize.ShloMosaic.TcCoe Idealize.SL.Sem

section Point
set_option pp.maxSteps 60

variable (c : Dev nD) (i : grid0.Coords)
  (arg3 : Memref sig .tc .vmem S512x256 .f32) (harg3 : arg3.IsWhole)
  (arg4 : Memref sig .tc .vmem S512x128 .f32) (harg4 : arg4.IsWhole)
  (arg5 : Memref sig .tc .vmem S2048x512 .f32) (harg5 : arg5.IsWhole)
  (arg6 : Memref sig .tc .vmem S2048x128 .f32) (harg6 : arg6.IsWhole)
  (arg7 : Memref sig .tc .vmem S512x256 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S512x128 .f32) (harg11 : arg11.IsWhole)
  (arg12 : Memref sig .tc .vmem S2048x512 .f32) (harg12 : arg12.IsWhole)
  (arg13 : Memref sig .tc .vmem S2048x128 .f32) (harg13 : arg13.IsWhole)
variable (x0 : Vec Ideal S512x256 .f32) (x1 : Vec Ideal S512x128 .f32) (x2 : Vec Ideal S2048x512 .f32) (x3 : Vec Ideal S2048x128 .f32)
  (x4 x5 x6 : Vec Ideal S512x256 .f32)

/-- The buffers after the first block of queries of the first heads. -/
theorem lastA_eq  :
    st_k0_t1 (F := Ideal) Variants.none c none i arg3 harg3 arg4 harg4 arg5 harg5 arg6 harg6 arg7 harg7 arg8 harg8 arg9 harg9 arg10 harg10 arg11 harg11 arg12 harg12 arg13 harg13
      (kernelRun0_A.sl.v7 i) (kernelRun0_A.sl.v25 i) (kernelRun0_A.sl.r (F := Ideal) c arg3 harg3 x0) (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg4 harg4 x1) (kernelRun0_A.sl.r_5 (F := Ideal) c arg4 harg4 x1) (kernelRun0_A.sl.r_6 (F := Ideal) c arg4 harg4 x1) (kernelRun0_A.sl.r_7 (F := Ideal) c arg4 harg4 x1) (kernelRun0_A.sl.r_8 (F := Ideal) c arg9 harg9 x6) (kernelRun0_A.sl.r_9 (F := Ideal) c arg9 harg9 x6) (kernelRun0_A.sl.r_10 (F := Ideal) c arg9 harg9 x6) (kernelRun0_A.sl.r_11 (F := Ideal) c arg9 harg9 x6) (kernelRun0_A.sl.r_12 (F := Ideal) c arg8 harg8 x5) (kernelRun0_A.sl.r_13 (F := Ideal) c arg8 harg8 x5) (kernelRun0_A.sl.r_14 (F := Ideal) c arg8 harg8 x5) (kernelRun0_A.sl.r_15 (F := Ideal) c arg8 harg8 x5) (kernelRun0_A.sl.r_16 (F := Ideal) c arg7 harg7 arg9 harg9 x4 x6) (kernelRun0_A.sl.r_17 (F := Ideal) c arg7 harg7 arg9 harg9 x4 x6) (kernelRun0_A.sl.r_18 (F := Ideal) c arg7 harg7 arg9 harg9 x4 x6)
      (View.readAt (Elt Ideal) arg7.view (Rect.unit (s := S512x256) ![0, 192] S512x64.size inb_S512x256_S512x64_0_192).toLoadRect (harg7.unread x4))
      (harg5.unread x2) (harg6.unread x3) (arg12.view.writes (Elt Ideal) arg12.view.junk kernelRun0_A.sl.H9_1) (arg13.view.writes (Elt Ideal) arg13.view.junk kernelRun0_A.sl.H10_1)
      (k0_pay129, k0_pay130, k0_pay131, k0_pay132, k0_pay133, k0_pay134, k0_pay135, k0_pay136) (k0_t1_loop i).trips
      = last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (arg13.view.writes (Elt Ideal) arg13.view.junk clearKR) := by
  unfold last rowdot
  simp only [heads64, heads32, headsL, Matrix.cons_val]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18
  rfl

/-- The stores of result 1 at a point where both carried blocks start from zeros. -/
theorem runA_7 (hc0 : cond0_0 i) (hc1 : cond0_1 i)  :
    (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 ).1
      = stores64 (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (arg13.view.writes (Elt Ideal) arg13.view.junk clearKR)).1 := by
  unfold kernelRun0_A
  dsimp only
  unfold kernelRun0_A.sl.r_19
  rw [rest_eq, st_k0_t2]
  have e := lastA_eq c i arg3 harg3 arg4 harg4 arg5 harg5 arg6 harg6 arg7 harg7 arg8 harg8 arg9 harg9 arg10 harg10 arg11 harg11 arg12 harg12 arg13 harg13 x0 x1 x2 x3 x4 x5 x6
  dsimp only [Scf.Loop.trips] at e ⊢
  rw [e]
  rfl

/-- The stores of result 2 at a point where both carried blocks start from zeros. -/
theorem runA_8 (hc0 : cond0_0 i) (hc1 : cond0_1 i)  :
    (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 ).2.1
      = stores32 (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (arg13.view.writes (Elt Ideal) arg13.view.junk clearKR)).1 := by
  unfold kernelRun0_A
  dsimp only
  unfold kernelRun0_A.sl.r_20
  rw [rest_eq, st_k0_t2]
  have e := lastA_eq c i arg3 harg3 arg4 harg4 arg5 harg5 arg6 harg6 arg7 harg7 arg8 harg8 arg9 harg9 arg10 harg10 arg11 harg11 arg12 harg12 arg13 harg13 x0 x1 x2 x3 x4 x5 x6
  dsimp only [Scf.Loop.trips] at e ⊢
  rw [e]
  rfl

/-- The stores of result 3 at a point where both carried blocks start from zeros. -/
theorem runA_9 (hc0 : cond0_0 i) (hc1 : cond0_1 i)  :
    (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 ).2.2.1
      = (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (arg13.view.writes (Elt Ideal) arg13.view.junk clearKR)).2.1 ++ clearKV := by
  unfold kernelRun0_A
  dsimp only
  rw [rest_eq, st_k0_t2]
  rfl

/-- The stores of result 4 at a point where both carried blocks start from zeros. -/
theorem runA_10 (hc0 : cond0_0 i) (hc1 : cond0_1 i)  :
    (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 ).2.2.2.1
      = (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (arg13.view.writes (Elt Ideal) arg13.view.junk clearKR)).2.2 ++ clearKR := by
  unfold kernelRun0_A
  dsimp only
  rw [rest_eq, st_k0_t2]
  rfl

/-- The buffers after a block of queries that is not the first of its heads. -/
theorem lastB_eq (xo9 : Vec Ideal S2048x512 .f32) (xo10 : Vec Ideal S2048x128 .f32) :
    st_k0_t1 (F := Ideal) Variants.none c none i arg3 harg3 arg4 harg4 arg5 harg5 arg6 harg6 arg7 harg7 arg8 harg8 arg9 harg9 arg10 harg10 arg11 harg11 arg12 harg12 arg13 harg13
      (kernelRun0_B.sl.v7 i) (kernelRun0_B.sl.v25 i) (kernelRun0_B.sl.r (F := Ideal) c arg3 harg3 x0) (kernelRun0_B.sl.r_1 (F := Ideal) c arg3 harg3 x0) (kernelRun0_B.sl.r_2 (F := Ideal) c arg3 harg3 x0) (kernelRun0_B.sl.r_3 (F := Ideal) c arg3 harg3 x0) (kernelRun0_B.sl.r_4 (F := Ideal) c arg4 harg4 x1) (kernelRun0_B.sl.r_5 (F := Ideal) c arg4 harg4 x1) (kernelRun0_B.sl.r_6 (F := Ideal) c arg4 harg4 x1) (kernelRun0_B.sl.r_7 (F := Ideal) c arg4 harg4 x1) (kernelRun0_B.sl.r_8 (F := Ideal) c arg9 harg9 x6) (kernelRun0_B.sl.r_9 (F := Ideal) c arg9 harg9 x6) (kernelRun0_B.sl.r_10 (F := Ideal) c arg9 harg9 x6) (kernelRun0_B.sl.r_11 (F := Ideal) c arg9 harg9 x6) (kernelRun0_B.sl.r_12 (F := Ideal) c arg8 harg8 x5) (kernelRun0_B.sl.r_13 (F := Ideal) c arg8 harg8 x5) (kernelRun0_B.sl.r_14 (F := Ideal) c arg8 harg8 x5) (kernelRun0_B.sl.r_15 (F := Ideal) c arg8 harg8 x5) (kernelRun0_B.sl.r_16 (F := Ideal) c arg7 harg7 arg9 harg9 x4 x6) (kernelRun0_B.sl.r_17 (F := Ideal) c arg7 harg7 arg9 harg9 x4 x6) (kernelRun0_B.sl.r_18 (F := Ideal) c arg7 harg7 arg9 harg9 x4 x6)
      (View.readAt (Elt Ideal) arg7.view (Rect.unit (s := S512x256) ![0, 192] S512x64.size inb_S512x256_S512x64_0_192).toLoadRect (harg7.unread x4))
      (harg5.unread x2) (harg6.unread x3) (harg12.unread xo9) (harg13.unread xo10)
      (k0_pay129, k0_pay130, k0_pay131, k0_pay132, k0_pay133, k0_pay134, k0_pay135, k0_pay136) (k0_t1_loop i).trips
      = last c i arg3 harg3 arg4 harg4 arg5 harg5 arg6 harg6 arg7 harg7 arg8 harg8 arg9 harg9 arg10 harg10 arg11 harg11 arg12 harg12 arg13 harg13 x0 x1 x2 x3 x4 x5 x6 (harg12.unread xo9) (harg13.unread xo10) := by
  unfold last rowdot
  simp only [heads64, heads32, headsL, Matrix.cons_val]
  unfold kernelRun0_B.sl.r kernelRun0_B.sl.r_1 kernelRun0_B.sl.r_2 kernelRun0_B.sl.r_3 kernelRun0_B.sl.r_4 kernelRun0_B.sl.r_5 kernelRun0_B.sl.r_6 kernelRun0_B.sl.r_7 kernelRun0_B.sl.r_8 kernelRun0_B.sl.r_9 kernelRun0_B.sl.r_10 kernelRun0_B.sl.r_11 kernelRun0_B.sl.r_12 kernelRun0_B.sl.r_13 kernelRun0_B.sl.r_14 kernelRun0_B.sl.r_15 kernelRun0_B.sl.r_16 kernelRun0_B.sl.r_17 kernelRun0_B.sl.r_18
  rfl

/-- The stores of result 1 at a point where both carried blocks go on. -/
theorem runB_7 (hc0 : ¬cond0_0 i) (hc1 : ¬cond0_1 i) (xo9 : Vec Ideal S2048x512 .f32) (xo10 : Vec Ideal S2048x128 .f32) :
    (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10).1
      = stores64 (last c i arg3 harg3 arg4 harg4 arg5 harg5 arg6 harg6 arg7 harg7 arg8 harg8 arg9 harg9 arg10 harg10 arg11 harg11 arg12 harg12 arg13 harg13 x0 x1 x2 x3 x4 x5 x6 (harg12.unread xo9) (harg13.unread xo10)).1 := by
  unfold kernelRun0_B
  dsimp only
  unfold kernelRun0_B.sl.r_19
  rw [rest_eq, st_k0_t2]
  have e := lastB_eq c i arg3 harg3 arg4 harg4 arg5 harg5 arg6 harg6 arg7 harg7 arg8 harg8 arg9 harg9 arg10 harg10 arg11 harg11 arg12 harg12 arg13 harg13 x0 x1 x2 x3 x4 x5 x6 xo9 xo10
  dsimp only [Scf.Loop.trips] at e ⊢
  rw [e]
  rfl

/-- The stores of result 2 at a point where both carried blocks go on. -/
theorem runB_8 (hc0 : ¬cond0_0 i) (hc1 : ¬cond0_1 i) (xo9 : Vec Ideal S2048x512 .f32) (xo10 : Vec Ideal S2048x128 .f32) :
    (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10).2.1
      = stores32 (last c i arg3 harg3 arg4 harg4 arg5 harg5 arg6 harg6 arg7 harg7 arg8 harg8 arg9 harg9 arg10 harg10 arg11 harg11 arg12 harg12 arg13 harg13 x0 x1 x2 x3 x4 x5 x6 (harg12.unread xo9) (harg13.unread xo10)).1 := by
  unfold kernelRun0_B
  dsimp only
  unfold kernelRun0_B.sl.r_20
  rw [rest_eq, st_k0_t2]
  have e := lastB_eq c i arg3 harg3 arg4 harg4 arg5 harg5 arg6 harg6 arg7 harg7 arg8 harg8 arg9 harg9 arg10 harg10 arg11 harg11 arg12 harg12 arg13 harg13 x0 x1 x2 x3 x4 x5 x6 xo9 xo10
  dsimp only [Scf.Loop.trips] at e ⊢
  rw [e]
  rfl

/-- The stores of result 3 at a point where both carried blocks go on. -/
theorem runB_9 (hc0 : ¬cond0_0 i) (hc1 : ¬cond0_1 i) (xo9 : Vec Ideal S2048x512 .f32) (xo10 : Vec Ideal S2048x128 .f32) :
    (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10).2.2.1
      = (last c i arg3 harg3 arg4 harg4 arg5 harg5 arg6 harg6 arg7 harg7 arg8 harg8 arg9 harg9 arg10 harg10 arg11 harg11 arg12 harg12 arg13 harg13 x0 x1 x2 x3 x4 x5 x6 (harg12.unread xo9) (harg13.unread xo10)).2.1 := by
  unfold kernelRun0_B
  dsimp only
  rw [rest_eq, st_k0_t2]
  rfl

/-- The stores of result 4 at a point where both carried blocks go on. -/
theorem runB_10 (hc0 : ¬cond0_0 i) (hc1 : ¬cond0_1 i) (xo9 : Vec Ideal S2048x512 .f32) (xo10 : Vec Ideal S2048x128 .f32) :
    (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10).2.2.2.1
      = (last c i arg3 harg3 arg4 harg4 arg5 harg5 arg6 harg6 arg7 harg7 arg8 harg8 arg9 harg9 arg10 harg10 arg11 harg11 arg12 harg12 arg13 harg13 x0 x1 x2 x3 x4 x5 x6 (harg12.unread xo9) (harg13.unread xo10)).2.2 := by
  unfold kernelRun0_B
  dsimp only
  rw [rest_eq, st_k0_t2]
  rfl

/-- The buffers after the first block of queries of the second heads. -/
theorem lastC_eq (xo10 : Vec Ideal S2048x128 .f32) :
    st_k0_t1 (F := Ideal) Variants.none c none i arg3 harg3 arg4 harg4 arg5 harg5 arg6 harg6 arg7 harg7 arg8 harg8 arg9 harg9 arg10 harg10 arg11 harg11 arg12 harg12 arg13 harg13
      (kernelRun0_C.sl.v7 i) (kernelRun0_C.sl.v25 i) (kernelRun0_C.sl.r (F := Ideal) c arg3 harg3 x0) (kernelRun0_C.sl.r_1 (F := Ideal) c arg3 harg3 x0) (kernelRun0_C.sl.r_2 (F := Ideal) c arg3 harg3 x0) (kernelRun0_C.sl.r_3 (F := Ideal) c arg3 harg3 x0) (kernelRun0_C.sl.r_4 (F := Ideal) c arg4 harg4 x1) (kernelRun0_C.sl.r_5 (F := Ideal) c arg4 harg4 x1) (kernelRun0_C.sl.r_6 (F := Ideal) c arg4 harg4 x1) (kernelRun0_C.sl.r_7 (F := Ideal) c arg4 harg4 x1) (kernelRun0_C.sl.r_8 (F := Ideal) c arg9 harg9 x6) (kernelRun0_C.sl.r_9 (F := Ideal) c arg9 harg9 x6) (kernelRun0_C.sl.r_10 (F := Ideal) c arg9 harg9 x6) (kernelRun0_C.sl.r_11 (F := Ideal) c arg9 harg9 x6) (kernelRun0_C.sl.r_12 (F := Ideal) c arg8 harg8 x5) (kernelRun0_C.sl.r_13 (F := Ideal) c arg8 harg8 x5) (kernelRun0_C.sl.r_14 (F := Ideal) c arg8 harg8 x5) (kernelRun0_C.sl.r_15 (F := Ideal) c arg8 harg8 x5) (kernelRun0_C.sl.r_16 (F := Ideal) c arg7 harg7 arg9 harg9 x4 x6) (kernelRun0_C.sl.r_17 (F := Ideal) c arg7 harg7 arg9 harg9 x4 x6) (kernelRun0_C.sl.r_18 (F := Ideal) c arg7 harg7 arg9 harg9 x4 x6)
      (View.readAt (Elt Ideal) arg7.view (Rect.unit (s := S512x256) ![0, 192] S512x64.size inb_S512x256_S512x64_0_192).toLoadRect (harg7.unread x4))
      (harg5.unread x2) (harg6.unread x3) (arg12.view.writes (Elt Ideal) arg12.view.junk kernelRun0_C.sl.H9_1) (harg13.unread xo10)
      (k0_pay129, k0_pay130, k0_pay131, k0_pay132, k0_pay133, k0_pay134, k0_pay135, k0_pay136) (k0_t1_loop i).trips
      = last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (harg13.unread xo10) := by
  unfold last rowdot
  simp only [heads64, heads32, headsL, Matrix.cons_val]
  unfold kernelRun0_C.sl.r kernelRun0_C.sl.r_1 kernelRun0_C.sl.r_2 kernelRun0_C.sl.r_3 kernelRun0_C.sl.r_4 kernelRun0_C.sl.r_5 kernelRun0_C.sl.r_6 kernelRun0_C.sl.r_7 kernelRun0_C.sl.r_8 kernelRun0_C.sl.r_9 kernelRun0_C.sl.r_10 kernelRun0_C.sl.r_11 kernelRun0_C.sl.r_12 kernelRun0_C.sl.r_13 kernelRun0_C.sl.r_14 kernelRun0_C.sl.r_15 kernelRun0_C.sl.r_16 kernelRun0_C.sl.r_17 kernelRun0_C.sl.r_18
  rfl

/-- The stores of result 1 at a point where the block of the keys and values starts from zeros. -/
theorem runC_7 (hc0 : cond0_0 i) (hc1 : ¬cond0_1 i) (xo10 : Vec Ideal S2048x128 .f32) :
    (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo10).1
      = stores64 (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (harg13.unread xo10)).1 := by
  unfold kernelRun0_C
  dsimp only
  unfold kernelRun0_C.sl.r_19
  rw [rest_eq, st_k0_t2]
  have e := lastC_eq c i arg3 harg3 arg4 harg4 arg5 harg5 arg6 harg6 arg7 harg7 arg8 harg8 arg9 harg9 arg10 harg10 arg11 harg11 arg12 harg12 arg13 harg13 x0 x1 x2 x3 x4 x5 x6 xo10
  dsimp only [Scf.Loop.trips] at e ⊢
  rw [e]
  rfl

/-- The stores of result 2 at a point where the block of the keys and values starts from zeros. -/
theorem runC_8 (hc0 : cond0_0 i) (hc1 : ¬cond0_1 i) (xo10 : Vec Ideal S2048x128 .f32) :
    (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo10).2.1
      = stores32 (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (harg13.unread xo10)).1 := by
  unfold kernelRun0_C
  dsimp only
  unfold kernelRun0_C.sl.r_20
  rw [rest_eq, st_k0_t2]
  have e := lastC_eq c i arg3 harg3 arg4 harg4 arg5 harg5 arg6 harg6 arg7 harg7 arg8 harg8 arg9 harg9 arg10 harg10 arg11 harg11 arg12 harg12 arg13 harg13 x0 x1 x2 x3 x4 x5 x6 xo10
  dsimp only [Scf.Loop.trips] at e ⊢
  rw [e]
  rfl

/-- The stores of result 3 at a point where the block of the keys and values starts from zeros. -/
theorem runC_9 (hc0 : cond0_0 i) (hc1 : ¬cond0_1 i) (xo10 : Vec Ideal S2048x128 .f32) :
    (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo10).2.2.1
      = (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (harg13.unread xo10)).2.1 ++ clearKV := by
  unfold kernelRun0_C
  dsimp only
  rw [rest_eq, st_k0_t2]
  rfl

/-- The stores of result 4 at a point where the block of the keys and values starts from zeros. -/
theorem runC_10 (hc0 : cond0_0 i) (hc1 : ¬cond0_1 i) (xo10 : Vec Ideal S2048x128 .f32) :
    (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo10).2.2.2.1
      = (last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (harg13.unread xo10)).2.2 := by
  unfold kernelRun0_C
  dsimp only
  rw [rest_eq, st_k0_t2]
  rfl

end Point

end Cert.Mla

end
-- ==== Proof.Mla.Out.lean ====
/- What a point leaves in the four result blocks. -/
module

public import proofs.«01_k».proof.Proof.Mla.Runs
public import Idealize.ShloMosaic.Lib.WritesUnit
import all proofs.«01_k».proof.Proof.Gen.KernelIdeal.Frame
import all proofs.«01_k».proof.Proof.Gen.KernelIdeal.Loops
import all proofs.«01_k».proof.Proof.Gen.KernelIdeal.Frame.RunA
import all proofs.«01_k».proof.Proof.Gen.KernelIdeal.Frame.RunB
import all proofs.«01_k».proof.Proof.Gen.KernelIdeal.Frame.RunC

@[expose] public section

set_option maxRecDepth 16384

noncomputable section

namespace Cert.Mla

open Cert.KernelIdeal Cert.KernelIdeal.Gen Cert.Mm Idealize.ShloMosaic Idealize.ShloMosaic.TcCoe Idealize.SL.Sem

namespace Att

variable (A : Att)

/-- A key after the query gets no gradient. -/
theorem s_later {h i j : ℕ} (hij : i < j) : A.s h i j = 0 := if_neg (Nat.not_le.mpr hij)

/-- A key after the query has no weight. -/
theorem p_later {h i j : ℕ} (hij : i < j) : A.p h i j = 0 := if_neg (Nat.not_le.mpr hij)

/-- The gradient of a query. -/
def gqn (h i t : ℕ) : EReal := dot (A.s h i) (fun j => A.kn h j t) 0 2048

/-- The gradient of a rotated query. -/
def gqr (h i t : ℕ) : EReal := dot (A.s h i) (fun j => A.kr j t) 0 2048

/-- A sum over the keys up to a query's is the sum over all keys. -/
theorem dot_all (h i n : ℕ) (k : ℕ → EReal) (hi : i < n) (hn : n ≤ 2048) : dot (A.s h i) k 0 n = dot (A.s h i) k 0 2048 := by
  unfold dot
  refine Finset.sum_subset (Finset.range_mono hn) fun j _ hj => ?_
  rw [Finset.mem_range] at hj
  rw [A.s_later (by omega), zero_mul]

/-- A product of which one sequence is zero on the whole range. -/
theorem dot_none (f : ℕ → EReal) (k : ℕ → EReal) (o n : ℕ) (hf : ∀ i, o ≤ i → i < o + n → f i = 0) : dot f k o n = 0 := by
  unfold dot
  refine Finset.sum_eq_zero fun j hj => ?_
  rw [Finset.mem_range] at hj
  rw [hf _ (by omega) (by omega), zero_mul]

/-- Queries add nothing to a later key or value. -/
theorem dkv_later {o j : ℕ} (c : ℕ) (hj : o + 512 ≤ j) : A.dkv o j c = 0 := by
  unfold Att.dkv Att.dkn Att.dv
  split_ifs
  · exact dot_none _ _ _ _ fun i _ hi => A.s_later (by omega)
  · exact dot_none _ _ _ _ fun i _ hi => A.p_later (by omega)

/-- A block of queries gives nothing to keys after it. -/
theorem dkp_later {o j : ℕ} (t : ℕ) (hj : o + 512 ≤ j) : A.dkp o j t = 0 := by
  unfold Att.dkp Att.dkr
  exact Finset.sum_eq_zero fun h _ => dot_none _ _ _ _ fun i _ hi => A.s_later (by omega)

end Att

section Stores

variable (S : FVec Ideal S512x64 .f32 × FVec Ideal S512x32 .f32 × FVec Ideal S512x64 .f32 × FVec Ideal S512x32 .f32 ×
    FVec Ideal S512x64 .f32 × FVec Ideal S512x32 .f32 × FVec Ideal S512x64 .f32 × FVec Ideal S512x32 .f32)

/-- Reading back four heads of 64 columns that were stored one by one. -/
theorem read_stores64 (v : View sig .tc .vmem S512x256 .f32) (f : v.ty.Contents (Elt Ideal)) (h : Fin 4) {r t : ℕ} (hr : r < 512) (ht : t < 64) :
    at2 (v.read (Elt Ideal) (v.writes (Elt Ideal) f (stores64 S))) r (64 * h.val + t)
      = (![S.1, S.2.2.1, S.2.2.2.2.1, S.2.2.2.2.2.2.1] : Fin 4 → FVec Ideal S512x64 .f32) h (ix2 ⟨r, hr⟩ ⟨t, ht⟩) := by
  have hc : 64 * h.val + t < 256 := by have := h.isLt; omega
  rw [at2_of _ hr hc]
  unfold stores64
  match h, hc with
  | ⟨0, _⟩, hc =>
    refine (View.read_writes_cons_unit_of_not_mem v f _ _ _ _ rfl 1 (Or.inl (by show 64 * 0 + t < 192; omega))).trans ?_
    refine (View.read_writes_cons_unit_of_not_mem v f _ _ _ _ rfl 1 (Or.inl (by show 64 * 0 + t < 128; omega))).trans ?_
    refine (View.read_writes_cons_unit_of_not_mem v f _ _ _ _ rfl 1 (Or.inl (by show 64 * 0 + t < 64; omega))).trans ?_
    refine (View.read_writes_cons_unit_of_mem v f _ _ _ _ (ix2 ⟨r, hr⟩ ⟨t, ht⟩) rfl fun a => ?_).trans rfl
    match a with
    | 0 => exact (zero_add r).symm
    | 1 => show 64 * 0 + t = 0 + t; omega
  | ⟨1, _⟩, hc =>
    refine (View.read_writes_cons_unit_of_not_mem v f _ _ _ _ rfl 1 (Or.inl (by show 64 * 1 + t < 192; omega))).trans ?_
    refine (View.read_writes_cons_unit_of_not_mem v f _ _ _ _ rfl 1 (Or.inl (by show 64 * 1 + t < 128; omega))).trans ?_
    refine (View.read_writes_cons_unit_of_mem v f _ _ _ _ (ix2 ⟨r, hr⟩ ⟨t, ht⟩) rfl fun a => ?_).trans rfl
    match a with
    | 0 => exact (zero_add r).symm
    | 1 => show 64 * 1 + t = 64 + t; omega
  | ⟨2, _⟩, hc =>
    refine (View.read_writes_cons_unit_of_not_mem v f _ _ _ _ rfl 1 (Or.inl (by show 64 * 2 + t < 192; omega))).trans ?_
    refine (View.read_writes_cons_unit_of_mem v f _ _ _ _ (ix2 ⟨r, hr⟩ ⟨t, ht⟩) rfl fun a => ?_).trans rfl
    match a with
    | 0 => exact (zero_add r).symm
    | 1 => show 64 * 2 + t = 128 + t; omega
  | ⟨3, _⟩, hc =>
    refine (View.read_writes_cons_unit_of_mem v f _ _ _ _ (ix2 ⟨r, hr⟩ ⟨t, ht⟩) rfl fun a => ?_).trans rfl
    match a with
    | 0 => exact (zero_add r).symm
    | 1 => show 64 * 3 + t = 192 + t; omega

/-- Reading back four heads of 32 columns that were stored one by one. -/
theorem read_stores32 (v : View sig .tc .vmem S512x128 .f32) (f : v.ty.Contents (Elt Ideal)) (h : Fin 4) {r t : ℕ} (hr : r < 512) (ht : t < 32) :
    at2 (v.read (Elt Ideal) (v.writes (Elt Ideal) f (stores32 S))) r (32 * h.val + t)
      = (![S.2.1, S.2.2.2.1, S.2.2.2.2.2.1, S.2.2.2.2.2.2.2] : Fin 4 → FVec Ideal S512x32 .f32) h (ix2 ⟨r, hr⟩ ⟨t, ht⟩) := by
  have hc : 32 * h.val + t < 128 := by have := h.isLt; omega
  rw [at2_of _ hr hc]
  unfold stores32
  match h, hc with
  | ⟨0, _⟩, hc =>
    refine (View.read_writes_cons_unit_of_not_mem v f _ _ _ _ rfl 1 (Or.inl (by show 32 * 0 + t < 96; omega))).trans ?_
    refine (View.read_writes_cons_unit_of_not_mem v f _ _ _ _ rfl 1 (Or.inl (by show 32 * 0 + t < 64; omega))).trans ?_
    refine (View.read_writes_cons_unit_of_not_mem v f _ _ _ _ rfl 1 (Or.inl (by show 32 * 0 + t < 32; omega))).trans ?_
    refine (View.read_writes_cons_unit_of_mem v f _ _ _ _ (ix2 ⟨r, hr⟩ ⟨t, ht⟩) rfl fun a => ?_).trans rfl
    match a with
    | 0 => exact (zero_add r).symm
    | 1 => show 32 * 0 + t = 0 + t; omega
  | ⟨1, _⟩, hc =>
    refine (View.read_writes_cons_unit_of_not_mem v f _ _ _ _ rfl 1 (Or.inl (by show 32 * 1 + t < 96; omega))).trans ?_
    refine (View.read_writes_cons_unit_of_not_mem v f _ _ _ _ rfl 1 (Or.inl (by show 32 * 1 + t < 64; omega))).trans ?_
    refine (View.read_writes_cons_unit_of_mem v f _ _ _ _ (ix2 ⟨r, hr⟩ ⟨t, ht⟩) rfl fun a => ?_).trans rfl
    match a with
    | 0 => exact (zero_add r).symm
    | 1 => show 32 * 1 + t = 32 + t; omega
  | ⟨2, _⟩, hc =>
    refine (View.read_writes_cons_unit_of_not_mem v f _ _ _ _ rfl 1 (Or.inl (by show 32 * 2 + t < 96; omega))).trans ?_
    refine (View.read_writes_cons_unit_of_mem v f _ _ _ _ (ix2 ⟨r, hr⟩ ⟨t, ht⟩) rfl fun a => ?_).trans rfl
    match a with
    | 0 => exact (zero_add r).symm
    | 1 => show 32 * 2 + t = 64 + t; omega
  | ⟨3, _⟩, hc =>
    refine (View.read_writes_cons_unit_of_mem v f _ _ _ _ (ix2 ⟨r, hr⟩ ⟨t, ht⟩) rfl fun a => ?_).trans rfl
    match a with
    | 0 => exact (zero_add r).symm
    | 1 => show 32 * 3 + t = 96 + t; omega

end Stores

section Clear

/-- Every entry lies in a piece that is the whole array. -/
theorem mem_whole {s : Shape} {off : Fin s.rank → ℕ} (h0 : ∀ a, off a = 0) (inb : ∀ a, off a + s.size a ≤ s.size a) (y : s.Idx) :
    y ∈ (Rect.unit (s := s) off s.size inb).set := by
  rw [Rect.mem_set_unit]
  intro a
  rw [h0 a]
  exact ⟨Nat.zero_le _, by rw [zero_add]; exact (y a).isLt⟩

/-- The last piece of a list covers what its rectangle covers. -/
theorem cover_last {s : Shape} (L : List (View.Piece (Elt Ideal) s .f32)) (r : Rect s) (w : r.shape.Idx → Elt Ideal .f32) {y : s.Idx}
    (hy : y ∈ r.set) : ∃ p ∈ L ++ [(⟨r, w⟩ : View.Piece (Elt Ideal) s .f32)], y ∈ p.1.set :=
  ⟨⟨r, w⟩, List.mem_append_right _ (List.mem_singleton.mpr rfl), hy⟩

/-- Both offsets are zero. -/
theorem zero_off : ∀ a, (![0, 0] : Fin 2 → ℕ) a = 0
  | 0 => rfl
  | 1 => rfl

/-- The keys' and values' buffer after clearing. -/
theorem read_clearKV (v : View sig .tc .vmem S2048x512 .f32) (f : v.ty.Contents (Elt Ideal)) (y : S2048x512.Idx) :
    v.read (Elt Ideal) (v.writes (Elt Ideal) f clearKV) y = 0 := by
  refine (View.read_writes_cons_unit_of_mem v f _ _ _ y y rfl fun a => ?_).trans ?_
  · match a with
    | 0 => exact (zero_add _).symm
    | 1 => exact (zero_add _).symm
  · unfold k0_pay119
    pointwise

/-- The keys' second buffer after clearing. -/
theorem read_clearKR (v : View sig .tc .vmem S2048x128 .f32) (f : v.ty.Contents (Elt Ideal)) (y : S2048x128.Idx) :
    v.read (Elt Ideal) (v.writes (Elt Ideal) f clearKR) y = 0 := by
  refine (View.read_writes_cons_unit_of_mem v f _ _ _ y y rfl fun a => ?_).trans ?_
  · match a with
    | 0 => exact (zero_add _).symm
    | 1 => exact (zero_add _).symm
  · unfold k0_pay120
    pointwise

/-- Stores over a cleared block read the same in any buffer. -/
theorem read_cleared (v : View sig .tc .vmem S2048x512 .f32) (L : List (View.Piece (Elt Ideal) S2048x512 .f32)) (y : S2048x512.Idx) :
    VO0_9.read (Elt Ideal) (VO0_9.writes (Elt Ideal) VO0_9.junk (L ++ clearKV)) y
      = v.read (Elt Ideal) (v.writes (Elt Ideal) (v.writes (Elt Ideal) v.junk clearKV) L) y := by
  refine (View.read_writes_apply_eq VO0_9 _ v v.junk y _ ?_).trans (by rw [View.writes_append])
  exact cover_last L _ _ (mem_whole (s := S2048x512) zero_off inb_S2048x512_S2048x512_0_0 y)

/-- The keys' second buffer after clearing and stores. -/
theorem read_clearedR (v : View sig .tc .vmem S2048x128 .f32) (L : List (View.Piece (Elt Ideal) S2048x128 .f32)) (y : S2048x128.Idx) :
    VO0_10.read (Elt Ideal) (VO0_10.writes (Elt Ideal) VO0_10.junk (L ++ clearKR)) y
      = v.read (Elt Ideal) (v.writes (Elt Ideal) (v.writes (Elt Ideal) v.junk clearKR) L) y := by
  refine (View.read_writes_apply_eq VO0_10 _ v v.junk y _ ?_).trans (by rw [View.writes_append])
  exact cover_last L _ _ (mem_whole (s := S2048x128) zero_off inb_S2048x128_S2048x128_0_0 y)

end Clear

/-- What a point leaves: its rows of the gradients of the queries, and its queries' contributions over what the carried blocks held. -/
structure Left (A : Att) (q : ℕ) (O : Vec Ideal S512x256 .f32 × Vec Ideal S512x128 .f32 × Vec Ideal S2048x512 .f32 × Vec Ideal S2048x128 .f32)
    (b9 : S2048x512.Idx → EReal) (b10 : S2048x128.Idx → EReal) : Prop where
  qn_at : ∀ h r t : ℕ, h < 4 → r < 512 → t < 64 → at2 O.1 r (64 * h + t) = A.gqn h (512 * q + r) t
  qr_at : ∀ h r t : ℕ, h < 4 → r < 512 → t < 32 → at2 O.2.1 r (32 * h + t) = A.gqr h (512 * q + r) t
  kv_at : ∀ y, O.2.2.1 y = b9 y + A.dkv (512 * q) (y 0).val (y 1).val
  kp_at : ∀ y, O.2.2.2 y = b10 y + if (y 1).val < 32 then A.dkp (512 * q) (y 0).val (y 1).val else 0

/-- What is left depends on the four arrays only. -/
theorem Left.congr {A : Att} {q : ℕ} {o7 o7' : Vec Ideal S512x256 .f32} {o8 o8' : Vec Ideal S512x128 .f32} {o9 o9' : Vec Ideal S2048x512 .f32}
    {o10 o10' : Vec Ideal S2048x128 .f32} {b9 b9' : S2048x512.Idx → EReal} {b10 b10' : S2048x128.Idx → EReal} (h7 : o7' = o7) (h8 : o8' = o8)
    (h9 : ∀ y, o9' y = o9 y) (h10 : ∀ y, o10' y = o10 y) (h9b : ∀ y, b9 y = b9' y) (h10b : ∀ y, b10 y = b10' y)
    (L : Left A q (o7, o8, o9, o10) b9 b10) : Left A q (o7', o8', o9', o10') b9' b10' := by
  subst h7 h8
  exact ⟨L.qn_at, L.qr_at, fun y => (h9 y).trans ((L.kv_at y).trans (by rw [h9b])), fun y => (h10 y).trans ((L.kp_at y).trans (by rw [h10b]))⟩

/-- What the point's run leaves, from what its loop holds at the end. -/
theorem left_of {A : Att} {q n : ℕ} (hq : q < 4) (hn : n = 2 * (q + 1)) {arg12 : Memref sig .tc .vmem S2048x512 .f32}
    {arg13 : Memref sig .tc .vmem S2048x128 .f32} {G12 : BufTy.Contents (Elt Ideal) arg12.view.ty} {G13 : BufTy.Contents (Elt Ideal) arg13.view.ty}
    {S : (FVec Ideal S512x64 .f32 × FVec Ideal S512x32 .f32 × FVec Ideal S512x64 .f32 × FVec Ideal S512x32 .f32 ×
    FVec Ideal S512x64 .f32 × FVec Ideal S512x32 .f32 × FVec Ideal S512x64 .f32 × FVec Ideal S512x32 .f32) ×
      List (View.Piece (Elt Ideal) S2048x512 .f32) × List (View.Piece (Elt Ideal) S2048x128 .f32)} (H : Held arg12 arg13 G12 G13 A q n S)
    (v : View sig .tc .vmem S512x256 .f32) (f : v.ty.Contents (Elt Ideal)) (w : View sig .tc .vmem S512x128 .f32) (g : w.ty.Contents (Elt Ideal)) :
    Left A q
      (v.read (Elt Ideal) (v.writes (Elt Ideal) f (stores64 S.1)), w.read (Elt Ideal) (w.writes (Elt Ideal) g (stores32 S.1)),
        arg12.view.read (Elt Ideal) (arg12.view.writes (Elt Ideal) G12 S.2.1), arg13.view.read (Elt Ideal) (arg13.view.writes (Elt Ideal) G13 S.2.2))
      (arg12.view.read (Elt Ideal) G12) (arg13.view.read (Elt Ideal) G13) where
  qn_at h r t hh hr ht := by
    refine (read_stores64 S.1 v f ⟨h, hh⟩ hr ht).trans ?_
    rw [H.carried_eq]
    refine Eq.trans ?_ (A.dot_all h (512 * q + r) (256 * n) (fun j => A.kn h j t) (by omega) (by omega))
    match h, hh with
    | 0, _ => rfl
    | 1, _ => rfl
    | 2, _ => rfl
    | 3, _ => rfl
  qr_at h r t hh hr ht := by
    refine (read_stores32 S.1 w g ⟨h, hh⟩ hr ht).trans ?_
    rw [H.carried_eq]
    refine Eq.trans ?_ (A.dot_all h (512 * q + r) (256 * n) (fun j => A.kr j t) (by omega) (by omega))
    match h, hh with
    | 0, _ => rfl
    | 1, _ => rfl
    | 2, _ => rfl
    | 3, _ => rfl
  kv_at y := by
    refine (H.kv y).trans ?_
    split_ifs with h
    · rfl
    · rw [A.dkv_later _ (by omega)]
  kp_at y := by
    refine (H.kp y).trans ?_
    by_cases h : (y 1).val < 32
    · by_cases h' : (y 0).val < 256 * n
      · rw [if_pos ⟨h', h⟩, if_pos h]
      · rw [if_neg fun hc => h' hc.1, if_pos h, A.dkp_later _ (by omega)]
    · rw [if_neg fun hc => h hc.2, if_neg h]

section Point

variable (c : Dev nD) (i : grid0.Coords)
  (arg3 : Memref sig .tc .vmem S512x256 .f32) (harg3 : arg3.IsWhole)
  (arg4 : Memref sig .tc .vmem S512x128 .f32) (harg4 : arg4.IsWhole)
  (arg5 : Memref sig .tc .vmem S2048x512 .f32) (harg5 : arg5.IsWhole)
  (arg6 : Memref sig .tc .vmem S2048x128 .f32) (harg6 : arg6.IsWhole)
  (arg7 : Memref sig .tc .vmem S512x256 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S512x128 .f32) (harg11 : arg11.IsWhole)
  (arg12 : Memref sig .tc .vmem S2048x512 .f32) (harg12 : arg12.IsWhole)
  (arg13 : Memref sig .tc .vmem S2048x128 .f32) (harg13 : arg13.IsWhole)
variable (x0 : Vec Ideal S512x256 .f32) (x1 : Vec Ideal S512x128 .f32) (x2 : Vec Ideal S2048x512 .f32) (x3 : Vec Ideal S2048x128 .f32)
  (x4 x5 x6 : Vec Ideal S512x256 .f32)

/-- A point where both carried blocks start from zeros. -/
theorem leftA (hc0 : cond0_0 i) (hc1 : cond0_1 i)  {A : Att} (B : Blocks x0 x1 x2 x3 x4 x5 x6 A (i 2).val) :
    Left A (i 2).val
      (out0_A_7 c i arg3 harg3 arg4 harg4 arg5 harg5 arg6 harg6 arg7 harg7 arg8 harg8 arg9 harg9 arg10 harg10 arg11 harg11 arg12 harg12 arg13 harg13 hc0 hc1 x0 x1 x2 x3 x4 x5 x6 ,
        out0_A_8 c i arg3 harg3 arg4 harg4 arg5 harg5 arg6 harg6 arg7 harg7 arg8 harg8 arg9 harg9 arg10 harg10 arg11 harg11 arg12 harg12 arg13 harg13 hc0 hc1 x0 x1 x2 x3 x4 x5 x6 ,
        out0_A_9 c i arg3 harg3 arg4 harg4 arg5 harg5 arg6 harg6 arg7 harg7 arg8 harg8 arg9 harg9 arg10 harg10 arg11 harg11 arg12 harg12 arg13 harg13 hc0 hc1 x0 x1 x2 x3 x4 x5 x6 ,
        out0_A_10 c i arg3 harg3 arg4 harg4 arg5 harg5 arg6 harg6 arg7 harg7 arg8 harg8 arg9 harg9 arg10 harg10 arg11 harg11 arg12 harg12 arg13 harg13 hc0 hc1 x0 x1 x2 x3 x4 x5 x6 )
      (fun _ => 0) (fun _ => 0) := by
  have L := left_of (i 2).isLt (trips_eq i)
    (held_last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (arg13.view.writes (Elt Ideal) arg13.view.junk clearKR) B)
    VO0_7 VO0_7.junk VO0_8 VO0_8.junk
  exact L.congr (congrArg (fun L => VO0_7.read (Elt Ideal) (VO0_7.writes (Elt Ideal) VO0_7.junk L)) (runA_7 c i arg3 harg3 arg4 harg4 arg5 harg5 arg6 harg6 arg7 harg7 arg8 harg8 arg9 harg9 arg10 harg10 arg11 harg11 arg12 harg12 arg13 harg13 x0 x1 x2 x3 x4 x5 x6 hc0 hc1 ))
    (congrArg (fun L => VO0_8.read (Elt Ideal) (VO0_8.writes (Elt Ideal) VO0_8.junk L)) (runA_8 c i arg3 harg3 arg4 harg4 arg5 harg5 arg6 harg6 arg7 harg7 arg8 harg8 arg9 harg9 arg10 harg10 arg11 harg11 arg12 harg12 arg13 harg13 x0 x1 x2 x3 x4 x5 x6 hc0 hc1 ))
    (fun y => (congrFun (congrArg (fun L => VO0_9.read (Elt Ideal) (VO0_9.writes (Elt Ideal) VO0_9.junk L)) (runA_9 c i arg3 harg3 arg4 harg4 arg5 harg5 arg6 harg6 arg7 harg7 arg8 harg8 arg9 harg9 arg10 harg10 arg11 harg11 arg12 harg12 arg13 harg13 x0 x1 x2 x3 x4 x5 x6 hc0 hc1 )) y).trans (read_cleared arg12.view _ y))
    (fun y => (congrFun (congrArg (fun L => VO0_10.read (Elt Ideal) (VO0_10.writes (Elt Ideal) VO0_10.junk L)) (runA_10 c i arg3 harg3 arg4 harg4 arg5 harg5 arg6 harg6 arg7 harg7 arg8 harg8 arg9 harg9 arg10 harg10 arg11 harg11 arg12 harg12 arg13 harg13 x0 x1 x2 x3 x4 x5 x6 hc0 hc1 )) y).trans (read_clearedR arg13.view _ y))
    (fun y => read_clearKV _ _ y) (fun y => read_clearKR _ _ y)

/-- A point where both carried blocks go on. -/
theorem leftB (hc0 : ¬cond0_0 i) (hc1 : ¬cond0_1 i) (xo9 : Vec Ideal S2048x512 .f32) (xo10 : Vec Ideal S2048x128 .f32) {A : Att} (B : Blocks x0 x1 x2 x3 x4 x5 x6 A (i 2).val) :
    Left A (i 2).val
      (out0_B_7 c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10,
        out0_B_8 c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10,
        out0_B_9 c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10,
        out0_B_10 c i arg3 harg3 arg4 harg4 arg5 harg5 arg6 harg6 arg7 harg7 arg8 harg8 arg9 harg9 arg10 harg10 arg11 harg11 arg12 harg12 arg13 harg13 hc0 hc1 x0 x1 x2 x3 x4 x5 x6 xo9 xo10)
      (xo9) (xo10) := by
  have L := left_of (i 2).isLt (trips_eq i)
    (held_last c i arg3 harg3 arg4 harg4 arg5 harg5 arg6 harg6 arg7 harg7 arg8 harg8 arg9 harg9 arg10 harg10 arg11 harg11 arg12 harg12 arg13 harg13 x0 x1 x2 x3 x4 x5 x6 (harg12.unread xo9) (harg13.unread xo10) B)
    VO0_7 VO0_7.junk VO0_8 VO0_8.junk
  exact L.congr (congrArg (fun L => VO0_7.read (Elt Ideal) (VO0_7.writes (Elt Ideal) VO0_7.junk L)) (runB_7 c i arg3 harg3 arg4 harg4 arg5 harg5 arg6 harg6 arg7 harg7 arg8 harg8 arg9 harg9 arg10 harg10 arg11 harg11 arg12 harg12 arg13 harg13 x0 x1 x2 x3 x4 x5 x6 hc0 hc1 xo9 xo10))
    (congrArg (fun L => VO0_8.read (Elt Ideal) (VO0_8.writes (Elt Ideal) VO0_8.junk L)) (runB_8 c i arg3 harg3 arg4 harg4 arg5 harg5 arg6 harg6 arg7 harg7 arg8 harg8 arg9 harg9 arg10 harg10 arg11 harg11 arg12 harg12 arg13 harg13 x0 x1 x2 x3 x4 x5 x6 hc0 hc1 xo9 xo10))
    (fun y => congrFun (congrArg (fun L => arg12.view.read (Elt Ideal) (arg12.view.writes (Elt Ideal) (harg12.unread xo9) L)) (runB_9 c i arg3 harg3 arg4 harg4 arg5 harg5 arg6 harg6 arg7 harg7 arg8 harg8 arg9 harg9 arg10 harg10 arg11 harg11 arg12 harg12 arg13 harg13 x0 x1 x2 x3 x4 x5 x6 hc0 hc1 xo9 xo10)) y)
    (fun y => congrFun (congrArg (fun L => arg13.view.read (Elt Ideal) (arg13.view.writes (Elt Ideal) (harg13.unread xo10) L)) (runB_10 c i arg3 harg3 arg4 harg4 arg5 harg5 arg6 harg6 arg7 harg7 arg8 harg8 arg9 harg9 arg10 harg10 arg11 harg11 arg12 harg12 arg13 harg13 x0 x1 x2 x3 x4 x5 x6 hc0 hc1 xo9 xo10)) y)
    (fun y => congrFun (harg12.read_unread _) y) (fun y => congrFun (harg13.read_unread _) y)

/-- A point where the block of the keys and values starts from zeros. -/
theorem leftC (hc0 : cond0_0 i) (hc1 : ¬cond0_1 i) (xo10 : Vec Ideal S2048x128 .f32) {A : Att} (B : Blocks x0 x1 x2 x3 x4 x5 x6 A (i 2).val) :
    Left A (i 2).val
      (out0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xo10,
        out0_C_8 c i arg3 harg3 arg4 harg4 arg5 harg5 arg6 harg6 arg7 harg7 arg8 harg8 arg9 harg9 arg10 harg10 arg11 harg11 arg12 harg12 arg13 harg13 hc0 hc1 x0 x1 x2 x3 x4 x5 x6 xo10,
        out0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 xo10,
        out0_C_10 c i arg3 harg3 arg4 harg4 arg5 harg5 arg6 harg6 arg7 harg7 arg8 harg8 arg9 harg9 arg10 harg10 arg11 harg11 arg12 harg12 arg13 harg13 hc0 hc1 x0 x1 x2 x3 x4 x5 x6 xo10)
      (fun _ => 0) (xo10) := by
  have L := left_of (i 2).isLt (trips_eq i)
    (held_last c i arg3 harg3 arg4 harg4 arg5 harg5 arg6 harg6 arg7 harg7 arg8 harg8 arg9 harg9 arg10 harg10 arg11 harg11 arg12 harg12 arg13 harg13 x0 x1 x2 x3 x4 x5 x6 (arg12.view.writes (Elt Ideal) arg12.view.junk clearKV) (harg13.unread xo10) B)
    VO0_7 VO0_7.junk VO0_8 VO0_8.junk
  exact L.congr (congrArg (fun L => VO0_7.read (Elt Ideal) (VO0_7.writes (Elt Ideal) VO0_7.junk L)) (runC_7 c i arg3 harg3 arg4 harg4 arg5 harg5 arg6 harg6 arg7 harg7 arg8 harg8 arg9 harg9 arg10 harg10 arg11 harg11 arg12 harg12 arg13 harg13 x0 x1 x2 x3 x4 x5 x6 hc0 hc1 xo10))
    (congrArg (fun L => VO0_8.read (Elt Ideal) (VO0_8.writes (Elt Ideal) VO0_8.junk L)) (runC_8 c i arg3 harg3 arg4 harg4 arg5 harg5 arg6 harg6 arg7 harg7 arg8 harg8 arg9 harg9 arg10 harg10 arg11 harg11 arg12 harg12 arg13 harg13 x0 x1 x2 x3 x4 x5 x6 hc0 hc1 xo10))
    (fun y => (congrFun (congrArg (fun L => VO0_9.read (Elt Ideal) (VO0_9.writes (Elt Ideal) VO0_9.junk L)) (runC_9 c i arg3 harg3 arg4 harg4 arg5 harg5 arg6 harg6 arg7 harg7 arg8 harg8 arg9 harg9 arg10 harg10 arg11 harg11 arg12 harg12 arg13 harg13 x0 x1 x2 x3 x4 x5 x6 hc0 hc1 xo10)) y).trans (read_cleared arg12.view _ y))
    (fun y => congrFun (congrArg (fun L => arg13.view.read (Elt Ideal) (arg13.view.writes (Elt Ideal) (harg13.unread xo10) L)) (runC_10 c i arg3 harg3 arg4 harg4 arg5 harg5 arg6 harg6 arg7 harg7 arg8 harg8 arg9 harg9 arg10 harg10 arg11 harg11 arg12 harg12 arg13 harg13 x0 x1 x2 x3 x4 x5 x6 hc0 hc1 xo10)) y)
    (fun y => read_clearKV _ _ y) (fun y => congrFun (harg13.read_unread _) y)

end Point

end Cert.Mla

end
-- ==== Proof.Mla.Grid.lean ====
/- The arrays the kernel leaves: each point's rows of the gradients of the queries, and the sums over a batch's points of the others. -/
module

public import proofs.«01_k».proof.Proof.Mla.Out
import all proofs.«01_k».proof.Proof.Gen.KernelIdeal.Frame

@[expose] public section

set_option maxRecDepth 16384

noncomputable section

namespace Cert.Mla

open Cert.KernelIdeal Cert.KernelIdeal.Gen Cert.Mm Idealize.ShloMosaic Idealize.ShloMosaic.TcCoe Idealize.SL.Sem

namespace Att

variable (A : Att)

/-- The gradient of a key: the sum over all queries. -/
def gkn (h j t : ℕ) : EReal := dot (fun i => A.s h i j) (fun i => A.qn h i t) 0 2048

/-- The gradient of a value. -/
def gv (h j t : ℕ) : EReal := dot (fun i => A.p h i j) (fun i => A.g h i t) 0 2048

/-- A head's part of the gradient of a rotated key. -/
def gkr (h j t : ℕ) : EReal := dot (fun i => A.s h i j) (fun i => A.qr h i t) 0 2048

/-- The gradients of the keys and values, one array: each head's 64 columns of keys, then its 64 of values. -/
def gkv (j c : ℕ) : EReal := if c % 128 < 64 then A.gkn (c / 128) j (c % 128) else A.gv (c / 128) j (c % 128 - 64)

/-- The gradient of a rotated key: the sum over the heads. -/
def gkp (j t : ℕ) : EReal := ∑ h ∈ Finset.range 8, A.gkr h j t

/-- A product over four stretches of one length is the product over all. -/
theorem dot_four (f g : ℕ → EReal) (n : ℕ) {a b c N : ℕ} (ha : a = n) (hb : b = n + n) (hc : c = n + n + n) (hN : N = n + n + n + n) :
    dot f g 0 n + dot f g a n + dot f g b n + dot f g c n = dot f g 0 N := by
  subst ha hb hc hN
  have h1 := dot_add f g 0 a a
  have h2 := dot_add f g 0 (a + a) a
  have h3 := dot_add f g 0 (a + a + a) a
  rw [zero_add] at h1 h2 h3
  rw [h1, h2, h3]

/-- A sum over the 2048 queries, by the four points' 512. -/
theorem sum_four (f g : ℕ → EReal) : ∑ q ∈ Finset.range 4, dot f g (512 * q) 512 = dot f g 0 2048 := by
  simp only [Finset.sum_range_succ, Finset.sum_range_zero, zero_add, Nat.mul_zero]
  exact dot_four f g 512 (by norm_num) (by norm_num) (by norm_num) (by norm_num)

/-- The four blocks of queries together give the gradient of keys and values. -/
theorem sum_dkv (j c : ℕ) : ∑ q ∈ Finset.range 4, A.dkv (512 * q) j c = A.gkv j c := by
  unfold Att.dkv gkv
  split_ifs
  · exact sum_four _ _
  · exact sum_four _ _

/-- The columns of a group of four heads. -/
theorem from_gkv (g j c : ℕ) (_ : c < 512) : (A.from_ (4 * g)).gkv j c = A.gkv j (512 * g + c) := by
  unfold gkv
  rw [show (512 * g + c) % 128 = c % 128 by omega, show (512 * g + c) / 128 = 4 * g + c / 128 by omega]
  rfl

/-- All blocks of queries and both groups of heads give the gradient of the keys' second part. -/
theorem sum_dkp (j t : ℕ) : ∑ s ∈ Finset.range 8, (A.from_ (4 * (s / 4))).dkp (512 * (s % 4)) j t = A.gkp j t := by
  have e : ∀ n, ∑ q ∈ Finset.range 4, (A.from_ n).dkp (512 * q) j t = ∑ h ∈ Finset.range 4, A.gkr (n + h) j t := fun n => by
    unfold Att.dkp
    rw [Finset.sum_comm]
    exact Finset.sum_congr rfl fun h _ => sum_four _ _
  have e8 : ∀ f : ℕ → EReal, ∑ s ∈ Finset.range 8, f s = ∑ s ∈ Finset.range 4, f s + ∑ s ∈ Finset.range 4, f (4 + s) := fun f =>
    Finset.sum_range_add f 4 4
  rw [gkp, e8, e8, ← e 4, show ∑ h ∈ Finset.range 4, A.gkr h j t = ∑ h ∈ Finset.range 4, A.gkr (0 + h) j t by simp only [zero_add], ← e 0]
  refine congrArg₂ (· + ·) ?_ ?_
  · refine Finset.sum_congr rfl fun q hq => ?_
    have := Finset.mem_range.mp hq
    rw [show q / 4 = 0 by omega, show q % 4 = q by omega]
  · refine Finset.sum_congr rfl fun q hq => ?_
    have := Finset.mem_range.mp hq
    rw [show (4 + q) / 4 = 1 by omega, show (4 + q) % 4 = q by omega]

end Att

variable (m : (ℓ : Loc nD τ sig) → Buf (Elt Ideal) ℓ) (c : Dev nD)

/-- The first part of the queries. -/
abbrev aQn : S4096x512.Idx → EReal := m ((c : Thread nD τ).loc main_arg0)
/-- The second part of the queries. -/
abbrev aQr : S4096x256.Idx → EReal := m ((c : Thread nD τ).loc main_arg1)
/-- The keys' first part and the values. -/
abbrev aKv : S4096x1024.Idx → EReal := m ((c : Thread nD τ).loc main_arg2)
/-- The second part of the keys. -/
abbrev aKp : S4096x128.Idx → EReal := m ((c : Thread nD τ).loc main_arg3)
/-- The gradient of the output. -/
abbrev aG : S4096x512.Idx → EReal := m ((c : Thread nD τ).loc main_arg4)
/-- The result of the forward pass, as the host computes it. -/
def aO : S4096x512.Idx → EReal := V m c main_v36

/-- The output the call is given, named. -/
theorem aO_eq : V m c main_v36 = aO m c := by unfold aO; exact Eq.refl _

/-- The logarithms of the rows' sums, as the host computes them. -/
def aL : S4096x512.Idx → EReal := V m c main_v41

/-- The logarithms the call is given, named. -/
theorem aL_eq : V m c main_v41 = aL m c := by unfold aL; exact Eq.refl _

/-- The attention of batch `b`. -/
def att (b : ℕ) : Att where
  kn h j t := at2 (aKv m c) (2048 * b + j) (128 * h + t)
  v h j t := at2 (aKv m c) (2048 * b + j) (128 * h + 64 + t)
  kr j t := at2 (aKp m c) (2048 * b + j) t
  qn h i t := at2 (aQn m c) (2048 * b + i) (64 * h + t)
  qr h i t := at2 (aQr m c) (2048 * b + i) (32 * h + t)
  g h i t := at2 (aG m c) (2048 * b + i) (64 * h + t)
  d h i := dot (fun t => at2 (aG m c) (2048 * b + i) (64 * h + t)) (fun t => at2 (aO m c) (2048 * b + i) (64 * h + t)) 0 64
  l h i := at2 (aL m c) (2048 * b + i) (64 * h)

/-- The attention a point works on: four heads of a batch. -/
abbrev attAt (t : ℕ) : Att := (att m c (t / 8)).from_ (4 * (t % 8 / 4))

/-- The blocks of the queries' arrays at a point of the grid. -/
theorem idxQ (t : Fin cfg0.N) : win0_0.index t = ![4 * (t.val / 8) + t.val % 4, t.val % 8 / 4] ∧ win0_1.index t = win0_0.index t ∧
    win0_4.index t = win0_0.index t ∧ win0_5.index t = win0_0.index t ∧ win0_6.index t = win0_0.index t ∧ win0_7.index t = win0_0.index t ∧
    win0_8.index t = win0_0.index t :=
  (by decide +kernel : ∀ t : Fin grid0.N, win0_0.index t = ![4 * (t.val / 8) + t.val % 4, t.val % 8 / 4] ∧ win0_1.index t = win0_0.index t ∧
    win0_4.index t = win0_0.index t ∧ win0_5.index t = win0_0.index t ∧ win0_6.index t = win0_0.index t ∧ win0_7.index t = win0_0.index t ∧
    win0_8.index t = win0_0.index t) t

/-- The blocks of the keys' arrays at a point of the grid. -/
theorem idxK (t : Fin cfg0.N) : win0_2.index t = ![t.val / 8, t.val % 8 / 4] ∧ win0_9.index t = ![t.val / 8, t.val % 8 / 4] ∧
    win0_3.index t = ![t.val / 8, 0] ∧ win0_10.index t = ![t.val / 8, 0] ∧ ((grid0.coords t) 2).val = t.val % 4 :=
  (by decide +kernel : ∀ t : Fin grid0.N, win0_2.index t = ![t.val / 8, t.val % 8 / 4] ∧ win0_9.index t = ![t.val / 8, t.val % 8 / 4] ∧
    win0_3.index t = ![t.val / 8, 0] ∧ win0_10.index t = ![t.val / 8, 0] ∧ ((grid0.coords t) 2).val = t.val % 4) t

/-- The block of the queries' first part at a point. -/
theorem block_qn (t : Fin cfg0.N) : IsBlock (iblk m c 0 t) (aQn m c) (win0_0.index t 0 * 512) (win0_0.index t 1 * 256) :=
  isBlock_of _ _ _ _ ((cfg0.win 0).blk t).view.emb (fun y => by
    show V m c main_arg0 _ = _
    rw [V_main_arg0])
    (fun _ => rfl) (fun _ => rfl)

/-- The block of the queries' second part at a point. -/
theorem block_qr (t : Fin cfg0.N) : IsBlock (iblk m c 1 t) (aQr m c) (win0_1.index t 0 * 512) (win0_1.index t 1 * 128) :=
  isBlock_of _ _ _ _ ((cfg0.win 1).blk t).view.emb (fun y => by
    show V m c main_arg1 _ = _
    rw [V_main_arg1])
    (fun _ => rfl) (fun _ => rfl)

/-- The block of keys and values at a point. -/
theorem block_kv (t : Fin cfg0.N) : IsBlock (iblk m c 2 t) (aKv m c) (win0_2.index t 0 * 2048) (win0_2.index t 1 * 512) :=
  isBlock_of _ _ _ _ ((cfg0.win 2).blk t).view.emb (fun y => by
    show V m c main_arg2 _ = _
    rw [V_main_arg2])
    (fun _ => rfl) (fun _ => rfl)

/-- The block of the keys' second part at a point. -/
theorem block_kp (t : Fin cfg0.N) : IsBlock (iblk m c 3 t) (aKp m c) (win0_3.index t 0 * 2048) (win0_3.index t 1 * 128) :=
  isBlock_of _ _ _ _ ((cfg0.win 3).blk t).view.emb (fun y => by
    show V m c main_arg3 _ = _
    rw [V_main_arg3])
    (fun _ => rfl) (fun _ => rfl)

/-- The block of the output at a point. -/
theorem block_o (t : Fin cfg0.N) : IsBlock (iblk m c 4 t) (aO m c) (win0_4.index t 0 * 512) (win0_4.index t 1 * 256) :=
  isBlock_of _ _ _ _ ((cfg0.win 4).blk t).view.emb (fun y => by
    show V m c main_v36 _ = _
    rw [aO_eq])
    (fun _ => rfl) (fun _ => rfl)

/-- A block of window 5 is a stretch of its array, whatever the arrays hold. -/
theorem read_l (W : (b : Ref sig .tc) → Buf (Elt Ideal) ((c : Thread nD τ).loc b)) (t : Fin cfg0.N) (y : S512x256.Idx) :
    (((cfg0.win 5).blk t).view.read (Elt Ideal) (W (Pipeline.arrRef spec0 5)) : S512x256.Idx → EReal) y
      = (W main_v41 : S4096x512.Idx → EReal) (((cfg0.win 5).blk t).view.emb y) := rfl

/-- An entry of the logarithms' block at a point. -/
theorem at_l0 (t : Fin cfg0.N) (y : S512x256.Idx) : (iblk m c 5 t : S512x256.Idx → EReal) y = aL m c (((cfg0.win 5).blk t).view.emb y) :=
  (read_l c (V m c) t y).trans (congrFun (aL_eq m c) _)

/-- The row of that entry in the whole array. -/
theorem emb_l0 (t : Fin cfg0.N) (y : S512x256.Idx) : (((cfg0.win 5).blk t).view.emb y 0).val = win0_5.index t 0 * 512 + 1 * (y 0).val := rfl

/-- The column of that entry in the whole array. -/
theorem emb_l1 (t : Fin cfg0.N) (y : S512x256.Idx) : (((cfg0.win 5).blk t).view.emb y 1).val = win0_5.index t 1 * 256 + 1 * (y 1).val := rfl

/-- The block of the logarithms at a point. -/
theorem block_l (t : Fin cfg0.N) : IsBlock (iblk m c 5 t) (aL m c) (win0_5.index t 0 * 512) (win0_5.index t 1 * 256) :=
  isBlock_of _ _ _ _ ((cfg0.win 5).blk t).view.emb (at_l0 m c t) (emb_l0 t) (emb_l1 t)

/-- The block of the output's gradient at a point. -/
theorem block_g (t : Fin cfg0.N) : IsBlock (iblk m c 6 t) (aG m c) (win0_6.index t 0 * 512) (win0_6.index t 1 * 256) :=
  isBlock_of _ _ _ _ ((cfg0.win 6).blk t).view.emb (fun y => by
    show V m c main_arg4 _ = _
    rw [V_main_arg4])
    (fun _ => rfl) (fun _ => rfl)

/-- An entry of a block of the key side. -/
theorem at_k {M N n k : ℕ} {x : (⟨2, ![M, N]⟩ : Shape).Idx → EReal} {X : (⟨2, ![n, k]⟩ : Shape).Idx → EReal} {f : Fin 2 → ℕ} {a b : ℕ}
    (hx : IsBlock x X (f 0 * M) (f 1 * N)) (hf : f = ![a, b]) {j w r c : ℕ} (hj : j < M) (hw : w < N) (hr : r = a * M + j) (hc : c = b * N + w) :
    at2 x j w = at2 X r c := by
  subst hf hr hc
  exact hx j w hj hw

/-- A point's keys, first part. -/
theorem at_kn (t : Fin cfg0.N) (h j k : ℕ) (hh : h < 4) (hj : j < 2048) (hk : k < 64) :
    at2 (iblk m c 2 t : S2048x512.Idx → EReal) j (128 * h + k) = (attAt m c t.val).kn h j k :=
  at_k (block_kv m c t) (idxK t).1 hj (by omega) (by omega) (by omega)

/-- A point's values. -/
theorem at_v (t : Fin cfg0.N) (h j k : ℕ) (hh : h < 4) (hj : j < 2048) (hk : k < 64) :
    at2 (iblk m c 2 t : S2048x512.Idx → EReal) j (128 * h + 64 + k) = (attAt m c t.val).v h j k :=
  at_k (block_kv m c t) (idxK t).1 hj (by omega) (by omega) (by omega)

/-- A point's keys, second part. -/
theorem at_kr (t : Fin cfg0.N) (j k : ℕ) (hj : j < 2048) (hk : k < 32) :
    at2 (iblk m c 3 t : S2048x128.Idx → EReal) j k = (attAt m c t.val).kr j k :=
  at_k (block_kp m c t) (idxK t).2.2.1 hj (by omega) (by omega) (by omega)

/-- A point's queries, first part. -/
theorem at_qn (t : Fin cfg0.N) (h r k : ℕ) (hh : h < 4) (hr : r < 512) (hk : k < 64) :
    at2 (iblk m c 0 t : S512x256.Idx → EReal) r (64 * h + k) = (attAt m c t.val).qn h (512 * (t.val % 4) + r) k :=
  at_k (block_qn m c t) (idxQ t).1 hr (by omega) (by omega) (by omega)

/-- A point's queries, second part. -/
theorem at_qr (t : Fin cfg0.N) (h r k : ℕ) (hh : h < 4) (hr : r < 512) (hk : k < 32) :
    at2 (iblk m c 1 t : S512x128.Idx → EReal) r (32 * h + k) = (attAt m c t.val).qr h (512 * (t.val % 4) + r) k :=
  at_k (block_qr m c t) ((idxQ t).2.1.trans (idxQ t).1) hr (by omega) (by omega) (by omega)

/-- A point's gradient of the output. -/
theorem at_g (t : Fin cfg0.N) (h r k : ℕ) (hh : h < 4) (hr : r < 512) (hk : k < 64) :
    at2 (iblk m c 6 t : S512x256.Idx → EReal) r (64 * h + k) = (attAt m c t.val).g h (512 * (t.val % 4) + r) k :=
  at_k (block_g m c t) ((idxQ t).2.2.2.2.1.trans (idxQ t).1) hr (by omega) (by omega) (by omega)

/-- A point's logarithms. -/
theorem at_l (t : Fin cfg0.N) (h r : ℕ) (hh : h < 4) (hr : r < 512) :
    at2 (iblk m c 5 t : S512x256.Idx → EReal) r (64 * h) = (attAt m c t.val).l h (512 * (t.val % 4) + r) :=
  at_k (block_l m c t) ((idxQ t).2.2.2.1.trans (idxQ t).1) hr (by omega) (by omega) (by omega)

/-- A point's output. -/
theorem at_o (t : Fin cfg0.N) (h r k : ℕ) (hh : h < 4) (hr : r < 512) (hk : k < 64) :
    at2 (iblk m c 4 t : S512x256.Idx → EReal) r (64 * h + k)
      = at2 (aO m c) (2048 * (t.val / 8) + (512 * (t.val % 4) + r)) (64 * (4 * (t.val % 8 / 4) + h) + k) :=
  at_k (block_o m c t) ((idxQ t).2.2.1.trans (idxQ t).1) hr (by omega) (by omega) (by omega)

/-- The blocks of a point are its attention's. -/
theorem blocks (t : Fin cfg0.N) :
    Blocks (iblk m c 0 t) (iblk m c 1 t) (iblk m c 2 t) (iblk m c 3 t) (iblk m c 4 t) (iblk m c 5 t) (iblk m c 6 t) (attAt m c t.val)
      ((grid0.coords t) 2).val := by
  rw [(idxK t).2.2.2.2]
  exact {
    qn_at := at_qn m c t
    qr_at := at_qr m c t
    g_at := at_g m c t
    l_at := at_l m c t
    d_at := fun h r hh hr => dot_congr (fun k hk => at_g m c t h r k hh hr hk) fun k hk => at_o m c t h r k hh hr hk
    kn_at := at_kn m c t
    v_at := at_v m c t
    kr_at := at_kr m c t }

/-- What is left, under equal numbers and equal outputs. -/
theorem Left.of_eq {A : Att} {q q' : ℕ} {O O' b9 b10} (hq : q = q') (hO : O' = O) (L : Left A q O b9 b10) : Left A q' O' b9 b10 := by
  subst hq hO
  exact L

/-- What the first point of a sequence leaves. -/
theorem leftAt_A (t : Fin cfg0.N) (h : t.val % 8 = 0) :
    Left (attAt m c t.val) (t.val % 4) (outsAt0 m c t.val t.isLt) (fun _ => 0) (fun _ => 0) :=
  Left.of_eq (idxK t).2.2.2.2 (outsAt0_A m c t (by omega) h)
    (leftA _ _ _ _ _ _ _ _ _ _ _ _ _ _ _ _ _ _ _ _ _ _ _ _ _ _ _ _ _ _ _ _ _ (blocks m c t))

/-- What a point leaves that adds to the same heads' gradient. -/
theorem leftAt_B (t : Fin cfg0.N) (h : ¬t.val % 4 = 0) (h' : t.val - 1 < cfg0.N) :
    Left (attAt m c t.val) (t.val % 4) (outsAt0 m c t.val t.isLt) (outsAt0 m c (t.val - 1) h').2.2.1 (outsAt0 m c (t.val - 1) h').2.2.2 :=
  Left.of_eq (idxK t).2.2.2.2 (outsAt0_B m c t h (by omega))
    (leftB _ _ _ _ _ _ _ _ _ _ _ _ _ _ _ _ _ _ _ _ _ _ _ _ _ _ _ _ _ _ _ _ _ _ _ (blocks m c t))

/-- What the first point of the second heads leaves. -/
theorem leftAt_C (t : Fin cfg0.N) (h : t.val % 4 = 0) (h8 : ¬t.val % 8 = 0) (h' : t.val - 1 < cfg0.N) :
    Left (attAt m c t.val) (t.val % 4) (outsAt0 m c t.val t.isLt) (fun _ => 0) (outsAt0 m c (t.val - 1) h').2.2.2 :=
  Left.of_eq (idxK t).2.2.2.2 (outsAt0_C m c t h h8)
    (leftC _ _ _ _ _ _ _ _ _ _ _ _ _ _ _ _ _ _ _ _ _ _ _ _ _ _ _ _ _ _ _ _ _ _ (blocks m c t))

/-- At every point, its rows of the gradients of the queries. -/
theorem left_some (t : Fin cfg0.N) : ∃ b9 b10, Left (attAt m c t.val) (t.val % 4) (outsAt0 m c t.val t.isLt) b9 b10 := by
  have h' : t.val - 1 < cfg0.N := Nat.lt_of_le_of_lt (Nat.sub_le _ _) t.isLt
  by_cases h4 : t.val % 4 = 0
  · by_cases h8 : t.val % 8 = 0
    · exact ⟨_, _, leftAt_A m c t h8⟩
    · exact ⟨_, _, leftAt_C m c t h4 h8 h'⟩
  · exact ⟨_, _, leftAt_B m c t h4 h'⟩

/-- The sum over the points of a block of the keys and values so far. -/
theorem kv_sum (n : ℕ) (hn : n < cfg0.N) (y : S2048x512.Idx) :
    (outsAt0 m c n hn).2.2.1 y = ∑ q ∈ Finset.range (n % 4 + 1), (attAt m c n).dkv (512 * q) (y 0).val (y 1).val := by
  induction n with
  | zero =>
    rw [(leftAt_A m c ⟨0, hn⟩ rfl).kv_at y]
    rw [zero_add, Finset.sum_range_one]
    show (attAt m c 0).dkv (512 * (0 % 4)) _ _ = _
    rw [Nat.zero_mod]
  | succ n ih =>
    by_cases h4 : (n + 1) % 4 = 0
    · rw [h4, Finset.sum_range_one]
      by_cases h8 : (n + 1) % 8 = 0
      · refine ((leftAt_A m c ⟨n + 1, hn⟩ h8).kv_at y).trans ?_
        rw [zero_add]
        show (attAt m c (n + 1)).dkv (512 * ((n + 1) % 4)) _ _ = _
        rw [h4]
      · refine ((leftAt_C m c ⟨n + 1, hn⟩ h4 h8 (by show n < _; omega)).kv_at y).trans ?_
        rw [zero_add]
        show (attAt m c (n + 1)).dkv (512 * ((n + 1) % 4)) _ _ = _
        rw [h4]
    · refine ((leftAt_B m c ⟨n + 1, hn⟩ h4 (by show n < _; omega)).kv_at y).trans ?_
      rw [Finset.sum_range_succ]
      refine congrArg₂ (· + ·) ?_ rfl
      refine (ih (by omega)).trans ?_
      rw [show n % 4 + 1 = (n + 1) % 4 by omega]
      unfold attAt
      rw [show n / 8 = (n + 1) / 8 by omega, show n % 8 / 4 = (n + 1) % 8 / 4 by omega]

/-- The sum over the points of a batch so far. -/
theorem kp_sum (n : ℕ) (hn : n < cfg0.N) (y : S2048x128.Idx) :
    (outsAt0 m c n hn).2.2.2 y = if (y 1).val < 32 then
      ∑ s ∈ Finset.range (n % 8 + 1), ((att m c (n / 8)).from_ (4 * (s / 4))).dkp (512 * (s % 4)) (y 0).val (y 1).val else 0 := by
  induction n with
  | zero =>
    rw [(leftAt_A m c ⟨0, hn⟩ rfl).kp_at y]
    rw [zero_add, Finset.sum_range_one]
    show (if _ then (attAt m c 0).dkp (512 * (0 % 4)) _ _ else 0) = _
    unfold attAt
    rw [Nat.zero_mod, Nat.zero_div]
  | succ n ih =>
    by_cases h8 : (n + 1) % 8 = 0
    · rw [h8, Finset.sum_range_one]
      refine ((leftAt_A m c ⟨n + 1, hn⟩ h8).kp_at y).trans ?_
      rw [zero_add]
      show (if (y 1).val < 32 then (attAt m c (n + 1)).dkp (512 * ((n + 1) % 4)) _ _ else 0) = _
      unfold attAt
      rw [h8, show (n + 1) % 4 = 0 by omega]
    · have e : (outsAt0 m c (n + 1) hn).2.2.2 y = (outsAt0 m c n (by omega)).2.2.2 y
          + if (y 1).val < 32 then (attAt m c (n + 1)).dkp (512 * ((n + 1) % 4)) (y 0).val (y 1).val else 0 := by
        by_cases h4 : (n + 1) % 4 = 0
        · exact (leftAt_C m c ⟨n + 1, hn⟩ h4 h8 (by show n < _; omega)).kp_at y
        · exact (leftAt_B m c ⟨n + 1, hn⟩ h4 (by show n < _; omega)).kp_at y
      rw [e, ih (by omega)]
      by_cases h : (y 1).val < 32
      · rw [if_pos h, if_pos h, if_pos h, Finset.sum_range_succ _ ((n + 1) % 8), show n % 8 + 1 = (n + 1) % 8 by omega,
          show n / 8 = (n + 1) / 8 by omega]
        unfold attAt
        rw [show (n + 1) % 8 % 4 = (n + 1) % 4 by omega]
      · rw [if_neg h, if_neg h, if_neg h, zero_add]

end Cert.Mla

end
-- ==== Proof.Mla.Finite.lean ====
/- Arrays that are all finite, and what the precondition says of the arguments. -/
module

public import proofs.«01_k».proof.Proof.Mla.Grid
public import proofs.«01_k».proof.Defs
public import Idealize.ShloMosaic.Lib.ReduceAll
import all proofs.«01_k».proof.Pre_finite

@[expose] public section

set_option maxRecDepth 16384

noncomputable section

namespace Cert.Mla

open Cert.Mm Idealize.ShloMosaic Idealize.ShloMosaic.TcCoe Idealize.SL.Sem

/-- Every entry is a real number. -/
def AllReal {s : Shape} (x : s.Idx → EReal) : Prop := ∀ i, ∃ r : ℝ, x i = (r : EReal)

/-- An element whose absolute value is below infinity is a real number. -/
theorem real_of_lt {a : EReal} (h : Ideal.cmp .olt (max a (-a)) ⊤ = 1#1) : ∃ r : ℝ, a = (r : EReal) := by
  induction a with
  | bot => exact absurd h (by simp [Ideal.cmp])
  | coe r => exact ⟨r, rfl⟩
  | top => exact absurd h (by simp [Ideal.cmp])

/-- The word of infinity is the greatest element. -/
theorem inf_eq : Ideal.ofBits .f32 0x7F800000#32 = ⊤ := by simp [Ideal.ofBits, Ideal.ieee]

/-- An array found finite by the test holds real numbers only. -/
theorem allReal_of {s : Shape} {axes : List (Fin s.rank)} (x : FVec Ideal s .f32)
    (hb : (⟨0, ![]⟩ : Shape).BroadcastsInDim s (![] : Fin 0 → Fin s.rank)) (h : s.ReducesTo axes (⟨0, ![]⟩ : Shape)) (hu : 0 < (⟨0, ![]⟩ : Shape).numel)
    (j : (⟨0, ![]⟩ : Shape).Idx)
    (e : Host.reduce IntOp.andi (cmpf .olt (Host.absf x) (broadcastInDim s ![] hb (constant (F := Ideal) (⟨0, ![]⟩ : Shape) .f32 0x7F800000#32)))
      (constantI (⟨0, ![]⟩ : Shape) 1 1#1) h hu j = 1#1) : AllReal x := by
  haveI : Subsingleton (⟨0, ![]⟩ : Shape).Idx := ⟨fun a b => funext fun k => k.elim0⟩
  intro i
  have h1 := Host.reduce_andi_all _ _ _ _ j e i
  refine real_of_lt ?_
  rw [← inf_eq]
  exact h1

section
open Cert.KernelIdeal Cert.KernelIdeal.Gen

variable [Cert.Pre_finite.Facts] (m : (ℓ : Loc nD τ sig) → Buf (Elt Ideal) ℓ) (c : Dev nD)

/-- The precondition: the five arguments hold real numbers only. -/
theorem args_real (h : Cert.Pre_KernelIdeal_finite m) :
    AllReal (s := S4096x512) (aQn m c) ∧ AllReal (s := S4096x256) (aQr m c) ∧ AllReal (s := S4096x1024) (aKv m c) ∧ AllReal (s := S4096x128) (aKp m c)
      ∧ AllReal (s := S4096x512) (aG m c) := by
  have e := congrFun (h c) (Shape.Idx.first Cert.Pre_finite.Facts.h_S_)
  unfold Cert.Pre_finite.fn Cert.Pre_finite.fn_part1 at e
  obtain ⟨e1, e5⟩ := IntOp.andi_eq_one.1 e
  obtain ⟨e2, e4⟩ := IntOp.andi_eq_one.1 e1
  obtain ⟨e3, e6⟩ := IntOp.andi_eq_one.1 e2
  obtain ⟨e7, e8⟩ := IntOp.andi_eq_one.1 e3
  exact ⟨allReal_of _ _ _ _ _ e7, allReal_of _ _ _ _ _ e8, allReal_of _ _ _ _ _ e6, allReal_of _ _ _ _ _ e4, allReal_of _ _ _ _ _ e5⟩

end

end Cert.Mla

end
-- ==== Proof.Mla.Softmax.lean ====
/- The reference's softmax and the gradient of its scores, over finite arguments. -/
module

public import proofs.«01_k».proof.Proof.Mla.Scores
public import proofs.«01_k».proof.Proof.Mla.Row
public import proofs.«01_k».proof.Proof.Mla.Finite

@[expose] public section

set_option maxRecDepth 16384

noncomputable section

namespace Cert.Mla

open Cert.ReferenceIdeal Cert.ReferenceIdeal.Read Cert.Mm Idealize.ShloMosaic Idealize.ShloMosaic.TcCoe

/-- An entry of a rank-3 array by natural coordinates. -/
def at3 {M N K : ℕ} (A : (⟨3, ![M, N, K]⟩ : Shape).Idx → EReal) (i j k : ℕ) : EReal :=
  if h : i < M ∧ j < N ∧ k < K then A (ix3 ⟨i, h.1⟩ ⟨j, h.2.1⟩ ⟨k, h.2.2⟩) else 0

/-- An entry is the one at its own coordinates. -/
theorem at3_coords {M N K : ℕ} (A : (⟨3, ![M, N, K]⟩ : Shape).Idx → EReal) (y : (⟨3, ![M, N, K]⟩ : Shape).Idx) :
    A y = at3 A (y 0).val (y 1).val (y 2).val := by
  have h : (y 0).val < M ∧ (y 1).val < N ∧ (y 2).val < K := ⟨(y 0).isLt, (y 1).isLt, (y 2).isLt⟩
  unfold at3
  rw [dif_pos h]
  exact congrArg A (funext fun a => by fin_cases a <;> rfl)

/-- An entry's real value. -/
def re {M N : ℕ} (A : (⟨2, ![M, N]⟩ : Shape).Idx → EReal) (i j : ℕ) : ℝ := (at2 A i j).toReal

/-- An entry of a finite array is its real value. -/
theorem re_eq {M N : ℕ} {A : (⟨2, ![M, N]⟩ : Shape).Idx → EReal} (h : AllReal A) (i j : ℕ) : at2 A i j = ((re A i j : ℝ) : EReal) := by
  unfold re at2
  split_ifs with hij
  · obtain ⟨r, hr⟩ := h (ix2 ⟨i, hij.1⟩ ⟨j, hij.2⟩)
    rw [hr, EReal.toReal_coe]
  · rfl

/-- The factor of the scores is a real number. -/
theorem factor_real : ∃ r : ℝ, factor = (r : EReal) := by
  simp only [factor, Ideal.ofBits, Ideal.ieee]
  norm_num
  exact ⟨_, (EReal.coe_mul _ _).symm⟩

variable {x0 : S4096x512.Idx → EReal} {x1 : S4096x256.Idx → EReal} {x2 : S4096x1024.Idx → EReal} {x3 : S4096x128.Idx → EReal}
  {x4 : S4096x512.Idx → EReal}

/-- The arguments the scores are of are all finite. -/
structure Reals (x0 : S4096x512.Idx → EReal) (x1 : S4096x256.Idx → EReal) (x2 : S4096x1024.Idx → EReal) (x3 : S4096x128.Idx → EReal) : Prop where
  h0 : AllReal x0
  h1 : AllReal x1
  h2 : AllReal x2
  h3 : AllReal x3

/-- The real value of a score. -/
def rscore (x0 : S4096x512.Idx → EReal) (x1 : S4096x256.Idx → EReal) (x2 : S4096x1024.Idx → EReal) (x3 : S4096x128.Idx → EReal) (b h i j : ℕ) : ℝ :=
  (score x0 x1 x2 x3 b h i j).toReal

/-- Over finite arguments a score is its real value. -/
theorem score_eq (H : Reals x0 x1 x2 x3) (b h i j : ℕ) : score x0 x1 x2 x3 b h i j = ((rscore x0 x1 x2 x3 b h i j : ℝ) : EReal) := by
  unfold rscore score
  obtain ⟨f, hf⟩ := factor_real
  rw [coe_dot (fun t => re_eq H.h0 _ _) (fun t => re_eq H.h2 _ _), coe_dot (fun t => re_eq H.h1 _ _) (fun t => re_eq H.h3 _ _), hf,
    ← EReal.coe_add, ← EReal.coe_mul, EReal.toReal_coe]

/-- The real value of a row's greatest masked score. -/
def rtop (x0 : S4096x512.Idx → EReal) (x1 : S4096x256.Idx → EReal) (x2 : S4096x1024.Idx → EReal) (x3 : S4096x128.Idx → EReal) (b h i : ℕ) : ℝ :=
  (at3 (M := 2) (N := 8) (K := 2048) (val_main_v22 (F := Ideal) x0 x1 x2 x3) b h i).toReal

/-- A row's greatest masked score is the maximum over the entries of that row. -/
theorem v22_fold (r : S2x8x2048.Idx) : val_main_v22 (F := Ideal) x0 x1 x2 x3 r
    = (Finset.univ.filter fun i => Gen.reducesTo_S2x8x2048x2048_S2x8x2048_d3.drop i = r).fold (max : EReal → EReal → EReal) ⊥
      (val_main_v21_0 (F := Ideal) x0 x1 x2 x3) := by
  refine (Host.reduce_eq_fold (max : EReal → EReal → EReal) (val_main_v21_0 (F := Ideal) x0 x1 x2 x3) (val_main_cst_1 (F := Ideal))
    Gen.reducesTo_S2x8x2048x2048_S2x8x2048_d3 Gen.h_S_ r).trans ?_
  rw [val_main_cst_1_apply, ninf_eq]

/-- A row's greatest masked score is a real number: its first key is one the query sees. -/
theorem v22_at (H : Reals x0 x1 x2 x3) (r : S2x8x2048.Idx) : val_main_v22 (F := Ideal) x0 x1 x2 x3 r
    = ((rtop x0 x1 x2 x3 (r 0).val (r 1).val (r 2).val : ℝ) : EReal) := by
  unfold rtop
  rw [← at3_coords]
  refine (EReal.coe_toReal (ne_of_lt ?_) (ne_of_gt ?_)).symm
  all_goals rw [v22_fold]
  · refine Finset.fold_max_lt _ |>.mpr ⟨bot_lt_top, fun y _ => ?_⟩
    rw [v21_at, score_eq H]
    split_ifs
    · exact EReal.coe_lt_top _
    · exact bot_lt_top
  · refine Finset.lt_fold_max _ |>.mpr (Or.inr ⟨ix4 (r 0) (r 1) (r 2) 0, ?_, ?_⟩)
    · refine Finset.mem_filter.mpr ⟨Finset.mem_univ _, funext fun a => Fin.ext ?_⟩
      fin_cases a
      · exact Shape.ReducesTo.drop_apply_val_of_eq Gen.reducesTo_S2x8x2048x2048_S2x8x2048_d3 (ix4 (r 0) (r 1) (r 2) 0) 0 0
      · exact Shape.ReducesTo.drop_apply_val_of_eq Gen.reducesTo_S2x8x2048x2048_S2x8x2048_d3 (ix4 (r 0) (r 1) (r 2) 0) 1 1
      · exact Shape.ReducesTo.drop_apply_val_of_eq Gen.reducesTo_S2x8x2048x2048_S2x8x2048_d3 (ix4 (r 0) (r 1) (r 2) 0) 2 2
    · rw [v21_at, score_eq H]
      exact lt_of_lt_of_eq (EReal.bot_lt_coe _) (if_pos (Nat.zero_le _)).symm

/-- The greatest score is unchanged by a maximum with minus infinity. -/
theorem v29_at (H : Reals x0 x1 x2 x3) (r : S2x8x2048.Idx) : val_main_v29 (F := Ideal) x0 x1 x2 x3 r
    = ((rtop x0 x1 x2 x3 (r 0).val (r 1).val (r 2).val : ℝ) : EReal) := by
  rw [val_main_v29_apply, val_main_v28_apply, val_main_cst_3_apply, ninf_eq, v22_at H]
  exact max_eq_right bot_le

/-- The exponentials of the row an entry is on. -/
abbrev rE (x0 : S4096x512.Idx → EReal) (x1 : S4096x256.Idx → EReal) (x2 : S4096x1024.Idx → EReal) (x3 : S4096x128.Idx → EReal) (b h i : ℕ) : ℕ → ℝ :=
  Row.E (rscore x0 x1 x2 x3 b h i) (rtop x0 x1 x2 x3 b h i) i

/-- The row's sum. -/
abbrev rL (x0 : S4096x512.Idx → EReal) (x1 : S4096x256.Idx → EReal) (x2 : S4096x1024.Idx → EReal) (x3 : S4096x128.Idx → EReal) (b h i : ℕ) : ℝ :=
  Row.L (rscore x0 x1 x2 x3 b h i) (rtop x0 x1 x2 x3 b h i) i

/-- The row's weights. -/
abbrev rP (x0 : S4096x512.Idx → EReal) (x1 : S4096x256.Idx → EReal) (x2 : S4096x1024.Idx → EReal) (x3 : S4096x128.Idx → EReal) (b h i : ℕ) : ℕ → ℝ :=
  Row.P (rscore x0 x1 x2 x3 b h i) (rtop x0 x1 x2 x3 b h i) i

/-- The reference's exponentials. -/
theorem v42_at (H : Reals x0 x1 x2 x3) (y : S2x8x2048x2048.Idx) : val_main_v42 (F := Ideal) x0 x1 x2 x3 y
    = ((rE x0 x1 x2 x3 (y 0).val (y 1).val (y 2).val (y 3).val : ℝ) : EReal) := by
  rw [val_main_v42_apply, val_main_v41_apply, val_main_v40_apply, val_main_v39_apply, v29_at H, v21_at, score_eq H]
  exact Row.exp_masked (rscore x0 x1 x2 x3 (y 0).val (y 1).val (y 2).val) _ _ _

/-- The word of zero is zero. -/
theorem zero_eq : (FloatOps.ofBits .f32 0x00000000#32 : Ideal .f32) = (0 : EReal) := by
  show Ideal.ofBits .f32 0x00000000#32 = 0
  simp [Ideal.ofBits, Ideal.ieee]

/-- The word of one is one. -/
theorem one_eq' : (FloatOps.ofBits .f32 0x3F800000#32 : Ideal .f32) = ((1 : ℝ) : EReal) := by
  show Ideal.ofBits .f32 0x3F800000#32 = ((1 : ℝ) : EReal)
  simp [Ideal.ofBits, Ideal.ieee]
  rw [← EReal.coe_mul]
  norm_num

/-- The reference's row sums. -/
theorem v43_at (H : Reals x0 x1 x2 x3) (r : S2x8x2048.Idx) : val_main_v43 (F := Ideal) x0 x1 x2 x3 r
    = ((rL x0 x1 x2 x3 (r 0).val (r 1).val (r 2).val : ℝ) : EReal) := by
  rw [val_main_v43_apply, val_main_cst_9_apply, zero_eq]
  refine Eq.trans ?_ (Row.sum_E (rscore x0 x1 x2 x3 (r 0).val (r 1).val (r 2).val) (rtop x0 x1 x2 x3 (r 0).val (r 1).val (r 2).val) (r 2).val)
  exact congrArg (fun t : EReal => 0 + t) (Finset.sum_congr rfl fun k _ => v42_at H _)

/-- The row sums with an axis of one column. -/
theorem v44_at (H : Reals x0 x1 x2 x3) (r : S2x8x2048x1.Idx) : val_main_v44 (F := Ideal) x0 x1 x2 x3 r
    = ((rL x0 x1 x2 x3 (r 0).val (r 1).val (r 2).val : ℝ) : EReal) := by
  rw [val_main_v44_apply, v43_at H]

/-- The reference's weights. -/
theorem v46_at (H : Reals x0 x1 x2 x3) (y : S2x8x2048x2048.Idx) : val_main_v46 (F := Ideal) x0 x1 x2 x3 y
    = ((rP x0 x1 x2 x3 (y 0).val (y 1).val (y 2).val (y 3).val : ℝ) : EReal) := by
  rw [val_main_v46_apply, v42_at H, val_main_v45_apply, v44_at H]
  exact Row.div_L _ _ _ (y 2).isLt _

/-- The gradient of a weight. -/
def rw' (x2 : S4096x1024.Idx → EReal) (x4 : S4096x512.Idx → EReal) (b h i j : ℕ) : ℝ :=
  rdot (fun t => re x4 (2048 * b + i) (64 * h + t)) (fun t => re x2 (2048 * b + j) (128 * h + 64 + t)) 64

/-- The reference's gradients of the weights. -/
theorem v60_at (h2 : AllReal x2) (h4 : AllReal x4) (y : S2x8x2048x2048.Idx) : val_main_v60 (F := Ideal) x2 x4 y
    = ((rw' x2 x4 (y 0).val (y 1).val (y 2).val (y 3).val : ℝ) : EReal) := by
  rw [val_main_v60_apply]
  unfold rw'
  rw [← coe_dot (f := fun t => at2 x4 (2048 * (y 0).val + (y 2).val) (64 * (y 1).val + t))
    (g := fun t => at2 x2 (2048 * (y 0).val + (y 3).val) (128 * (y 1).val + 64 + t)) (fun t => re_eq h4 _ _) (fun t => re_eq h2 _ _), ← sum_fin_dot]
  exact Finset.sum_congr rfl fun k _ => by rw [v57_at, v52_at]

/-- The reciprocal of the square of a row's sum. -/
theorem v49_at (H : Reals x0 x1 x2 x3) (r : S2x8x2048x1.Idx) : val_main_v49 (F := Ideal) x0 x1 x2 x3 r
    = ((1 / (rL x0 x1 x2 x3 (r 0).val (r 1).val (r 2).val * rL x0 x1 x2 x3 (r 0).val (r 1).val (r 2).val) : ℝ) : EReal) := by
  have hL : rL x0 x1 x2 x3 (r 0).val (r 1).val (r 2).val ≠ 0 := (Row.L_pos _ _ _ (r 2).isLt).ne'
  rw [val_main_v49_apply, val_main_v48_apply, val_main_cst_10_apply, one_eq', val_main_v47_apply, v44_at H]
  show Ideal.div ((1 : ℝ) : EReal) (((_ : ℝ) : EReal) * ((_ : ℝ) : EReal)) = _
  rw [← EReal.coe_mul, Ideal.div_coe (mul_ne_zero hL hL), ← EReal.coe_mul, one_mul]

/-- The term of one key in the gradient of the row's sum. -/
theorem v66_at (H : Reals x0 x1 x2 x3) (h4 : AllReal x4) (y : S2x8x2048x2048.Idx) : val_main_v66 (F := Ideal) x0 x1 x2 x3 x4 y
    = ((rw' x2 x4 (y 0).val (y 1).val (y 2).val (y 3).val
        * (1 / (rL x0 x1 x2 x3 (y 0).val (y 1).val (y 2).val * rL x0 x1 x2 x3 (y 0).val (y 1).val (y 2).val))
        * rE x0 x1 x2 x3 (y 0).val (y 1).val (y 2).val (y 3).val : ℝ) : EReal) := by
  rw [val_main_v66_apply, val_main_v65_apply, v60_at H.h2 h4, val_main_v64_apply, v49_at H, v42_at H, EReal.coe_mul, EReal.coe_mul]
  rfl

/-- The row's sum of the products of the exponentials and the weights' gradients, over the square of the row's sum. -/
def rS (x0 : S4096x512.Idx → EReal) (x1 : S4096x256.Idx → EReal) (x2 : S4096x1024.Idx → EReal) (x3 : S4096x128.Idx → EReal)
    (x4 : S4096x512.Idx → EReal) (b h i : ℕ) : ℝ :=
  ∑ j ∈ Finset.range 2048, rw' x2 x4 b h i j * (1 / (rL x0 x1 x2 x3 b h i * rL x0 x1 x2 x3 b h i)) * rE x0 x1 x2 x3 b h i j

/-- The gradient of the row's sum, up to sign. -/
theorem v67_at (H : Reals x0 x1 x2 x3) (h4 : AllReal x4) (r : S2x8x2048.Idx) : val_main_v67 (F := Ideal) x0 x1 x2 x3 x4 r
    = ((rS x0 x1 x2 x3 x4 (r 0).val (r 1).val (r 2).val : ℝ) : EReal) := by
  unfold rS
  rw [val_main_v67_apply, val_main_cst_12_apply, zero_eq, zero_add, ← coe_fin_sum]
  exact Finset.sum_congr rfl fun k _ => v66_at H h4 _

/-- The same with an axis of one column. -/
theorem v68_at (H : Reals x0 x1 x2 x3) (h4 : AllReal x4) (r : S2x8x2048x1.Idx) : val_main_v68 (F := Ideal) x0 x1 x2 x3 x4 r
    = ((rS x0 x1 x2 x3 x4 (r 0).val (r 1).val (r 2).val : ℝ) : EReal) := by
  have h0 : (r 0).val < 2 := (r 0).isLt
  have h1 : (r 1).val < 8 := (r 1).isLt
  have h2 : (r 2).val < 2048 := (r 2).isLt
  have h3 : (r 3).val < 1 := (r 3).isLt
  rw [val_main_v68_apply, v67_at H h4]
  have e0 : (idx_main_v68 r 0).val = (r 0).val := by
    show ((((r 0).val * 8 + (r 1).val) * 2048 + (r 2).val) * 1 + (r 3).val) / 16384 = _
    omega
  have e1 : (idx_main_v68 r 1).val = (r 1).val := by
    show ((((r 0).val * 8 + (r 1).val) * 2048 + (r 2).val) * 1 + (r 3).val) / 2048 % 8 = _
    omega
  have e2 : (idx_main_v68 r 2).val = (r 2).val := by
    show ((((r 0).val * 8 + (r 1).val) * 2048 + (r 2).val) * 1 + (r 3).val) % 2048 = _
    omega
  rw [e0, e1, e2]

/-- The gradient of the row's sum. -/
theorem v72_at (H : Reals x0 x1 x2 x3) (h4 : AllReal x4) (r : S2x8x2048.Idx) : val_main_v72 (F := Ideal) x0 x1 x2 x3 x4 r
    = ((-rS x0 x1 x2 x3 x4 (r 0).val (r 1).val (r 2).val : ℝ) : EReal) := by
  rw [val_main_v72_apply, val_main_cst_13_apply, zero_eq, zero_add, Fin.sum_univ_one, val_main_v69_apply, Ideal.hostNegf_def, Ideal.negf_def,
    v68_at H h4, EReal.coe_neg]

/-- The reference's gradient of a score. -/
theorem v78_at (H : Reals x0 x1 x2 x3) (h4 : AllReal x4) (y : S2x8x2048x2048.Idx) : val_main_v78 (F := Ideal) x0 x1 x2 x3 x4 y
    = (if (y 3).val ≤ (y 2).val then
        (((-(rdot (rP x0 x1 x2 x3 (y 0).val (y 1).val (y 2).val) (rw' x2 x4 (y 0).val (y 1).val (y 2).val) 2048)
          + rw' x2 x4 (y 0).val (y 1).val (y 2).val (y 3).val) * rP x0 x1 x2 x3 (y 0).val (y 1).val (y 2).val (y 3).val : ℝ) : EReal) else 0)
      * factor := by
  rw [val_main_v78_apply, val_main_v76_apply, val_main_v75_apply, val_main_v74_apply, val_main_v71_apply, val_main_v70_apply, val_main_v73_apply,
    v60_at H.h2 h4, v44_at H, v72_at H h4, v42_at H, val_main_call1_v0_apply, val_main_call1_cst_apply, zero_eq, select_mask, val_main_v77_apply,
    val_main_cst_14_apply]
  rw [← Row.grad _ _ _ (y 2).isLt, EReal.coe_mul, EReal.coe_add, ← Row.div_L _ _ _ (y 2).isLt]
  rfl

end Cert.Mla

end
-- ==== Proof.Mla.Host.lean ====
/- The host's softmax, and the output and the logarithms of the row sums it hands to the kernel. -/
module

public import proofs.«01_k».proof.Proof.Mla.Softmax
public import Idealize.ShloMosaic.Lib.StableHlo.RunRead

@[expose] public section

set_option maxRecDepth 16384

noncomputable section

namespace Cert.Mla

open Cert.KernelIdeal Cert.KernelIdeal.Gen Cert.Mm Idealize.ShloMosaic Idealize.ShloMosaic.TcCoe Idealize.SL.Sem

/-- Each row's greatest score. -/
def hostTop (s : FVec Ideal S2x8x2048x2048 .f32) : FVec Ideal S2x8x2048x1 .f32 :=
  broadcastInDim S2x8x2048x1 ![0, 1, 2] bcast_S2x8x2048_S2x8x2048x1_0_1_2
    (Host.reduce FloatOps.maximumf s (constant (F := Ideal) S_ .f32 0xFF800000#32) reducesTo_S2x8x2048x2048_S2x8x2048_d3 h_S_)

/-- The scores' exponentials, less their row's greatest. -/
def hostExp (s : FVec Ideal S2x8x2048x2048 .f32) : FVec Ideal S2x8x2048x2048 .f32 :=
  Host.exp (subf s (broadcastInDim S2x8x2048x2048 ![0, 1, 2, 3] bcast_S2x8x2048x1_S2x8x2048x2048_0_1_2_3 (hostTop s)))

/-- Each row's sum. -/
def hostSum (s : FVec Ideal S2x8x2048x2048 .f32) : FVec Ideal S2x8x2048x1 .f32 :=
  broadcastInDim S2x8x2048x1 ![0, 1, 2] bcast_S2x8x2048_S2x8x2048x1_0_1_2
    (Host.reduceAdd (hostExp s) (constant (F := Ideal) S_ .f32 0x00000000#32) reducesTo_S2x8x2048x2048_S2x8x2048_d3 h_S_)

/-- The weights. -/
def hostWeights (s : FVec Ideal S2x8x2048x2048 .f32) : FVec Ideal S2x8x2048x2048 .f32 :=
  Host.divf (hostExp s) (broadcastInDim S2x8x2048x2048 ![0, 1, 2, 3] bcast_S2x8x2048x1_S2x8x2048x2048_0_1_2_3 (hostSum s))

/-- The weighted values of each head. -/
def hostHeads (s : FVec Ideal S2x8x2048x2048 .f32) (v : FVec Ideal S2x8x2048x64 .f32) : FVec Ideal S2x8x2048x64 .f32 :=
  Host.dotGeneral dot_S2x8x2048x2048_S2x8x2048x64_S2x8x2048x64_3_2_2_3_01_01 none (hostWeights s) v

/-- Heads beside one another in the rows of tokens. -/
def hostRows (x : FVec Ideal S2x8x2048x64 .f32) : FVec Ideal S4096x512 .f32 :=
  shapeCast S4096x512 (transpose S2x2048x8x64 [0, 2, 1, 3] x transposes_S2x8x2048x64_S2x2048x8x64_0_2_1_3) shapeCasts_S2x2048x8x64_S4096x512

/-- Each row's logarithm of the sum of its scores' exponentials, over its head's columns. -/
def hostLse (s : FVec Ideal S2x8x2048x2048 .f32) : FVec Ideal S2x8x2048x64 .f32 :=
  broadcastInDim S2x8x2048x64 ![0, 1, 2, 3] bcast_S2x8x2048x1_S2x8x2048x64_0_1_2_3 (addf (hostTop s) (Host.log (hostSum s)))

variable (m : (ℓ : Loc nD τ sig) → Buf (Elt Ideal) ℓ) (c : Dev nD)

/-- The masked scores of the arguments. -/
def scoresOf : FVec Ideal S2x8x2048x2048 .f32 := ReferenceIdeal.Read.val_main_v21_0 (F := Ideal) (aQn m c) (aQr m c) (aKv m c) (aKp m c)

/-- The host's operations before the softmax, in order. -/
abbrev opsScores : List (HloOp τ sig (Elt Ideal)) := hostOps0 ++ hostOps0_1

/-- Running one list of operations after another is running both in order. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What the call finds in a buffer: the last operations run after those that make the scores. -/
theorem V_eq (b : Ref sig .tc) : V m c b = StableHlo.after hostOps0_2 (StableHlo.after opsScores fun b => m (c, b)) b := by
  rw [← after_two]
  unfold V
  simp only [List.flatten_cons, List.flatten_nil, List.append_nil, opsScores, List.append_assoc]

/-- The logarithms of the row sums, from any values the scores' buffer holds. -/
theorem late_lse (W : Valuation τ sig (Elt Ideal)) :
    (StableHlo.after hostOps0_2 W main_v41 : S4096x512.Idx → EReal) = hostRows (hostLse (W main_v21 : FVec Ideal S2x8x2048x2048 .f32)) := by
  after_reads_simp
  rfl

/-- The output, from any values the buffers of the scores and of the keys and values hold. -/
theorem late_out (W : Valuation τ sig (Elt Ideal)) :
    (StableHlo.after hostOps0_2 W main_v36 : S4096x512.Idx → EReal)
      = hostRows (hostHeads (W main_v21 : FVec Ideal S2x8x2048x2048 .f32)
        (ReferenceIdeal.Read.val_main_v52 (F := Ideal) (W main_arg2 : S4096x1024.Idx → EReal))) := by
  after_reads_simp
  rfl

/-- The operations that make the scores leave the argument with the values as it is. -/
theorem read_values : (StableHlo.after opsScores (fun b => m (c, b)) main_arg2 : S4096x1024.Idx → EReal) = aKv m c := by
  unfold opsScores
  simp only [hostOps0, hostOps0_1, List.cons_append, List.nil_append]
  after_reads_simp

/-- The operations that make the scores leave the reference's masked scores. -/
theorem read_scores : (StableHlo.after opsScores (fun b => m (c, b)) main_v21 : FVec Ideal S2x8x2048x2048 .f32) = scoresOf m c := by
  unfold opsScores
  simp only [hostOps0, hostOps0_1, List.cons_append, List.nil_append]
  after_reads_simp
  rfl

/-- The logarithms of the row sums that the call is given. -/
theorem read_lse : (V m c main_v41 : S4096x512.Idx → EReal) = hostRows (hostLse (scoresOf m c)) := by
  rw [V_eq, late_lse, read_scores]

/-- The output that the call is given. -/
theorem read_out : (V m c main_v36 : S4096x512.Idx → EReal)
    = hostRows (hostHeads (scoresOf m c) (ReferenceIdeal.Read.val_main_v52 (F := Ideal) (aKv m c))) := by
  rw [V_eq, late_out, read_scores, read_values]

end Cert.Mla

end
-- ==== Proof.Mla.HostAt.lean ====
/- The host's softmax entry by entry, over finite arguments: the weights, the output and the logarithms of the row sums. -/
module

public import proofs.«01_k».proof.Proof.Mla.Host

@[expose] public section

set_option maxRecDepth 16384

noncomputable section

namespace Cert.Mla

open Cert.KernelIdeal Cert.KernelIdeal.Gen Cert.Mm Idealize.ShloMosaic Idealize.ShloMosaic.TcCoe Idealize.SL.Sem
open Cert.ReferenceIdeal.Read

variable (m : (ℓ : Loc nD τ sig) → Buf (Elt Ideal) ℓ) (c : Dev nD)

/-- A row's value laid into an axis of one column. -/
theorem bcast_row (x : FVec Ideal S2x8x2048 .f32) (y : S2x8x2048x1.Idx) :
    broadcastInDim S2x8x2048x1 ![0, 1, 2] bcast_S2x8x2048_S2x8x2048x1_0_1_2 x y = x (idx_main_v44 y) :=
  broadcastInDim_apply _ bcast_S2x8x2048_S2x8x2048x1_0_1_2 x y (idx_main_v44 y) (fun a => match a with
    | ⟨0, _⟩ => by show (y 0).val = if (2 : Nat) = 1 then 0 else (y 0).val; rw [if_neg (by decide)]
    | ⟨1, _⟩ => by show (y 1).val = if (8 : Nat) = 1 then 0 else (y 1).val; rw [if_neg (by decide)]
    | ⟨2, _⟩ => by show (y 2).val = if (2048 : Nat) = 1 then 0 else (y 2).val; rw [if_neg (by decide)])

/-- A row's one column repeated over the keys. -/
theorem bcast_keys (x : FVec Ideal S2x8x2048x1 .f32) (y : S2x8x2048x2048.Idx) :
    broadcastInDim S2x8x2048x2048 ![0, 1, 2, 3] bcast_S2x8x2048x1_S2x8x2048x2048_0_1_2_3 x y = x (idx_main_v45 y) :=
  broadcastInDim_apply _ bcast_S2x8x2048x1_S2x8x2048x2048_0_1_2_3 x y (idx_main_v45 y) (fun a => match a with
    | ⟨0, _⟩ => by show (y 0).val = if (2 : Nat) = 1 then 0 else (y 0).val; rw [if_neg (by decide)]
    | ⟨1, _⟩ => by show (y 1).val = if (8 : Nat) = 1 then 0 else (y 1).val; rw [if_neg (by decide)]
    | ⟨2, _⟩ => by show (y 2).val = if (2048 : Nat) = 1 then 0 else (y 2).val; rw [if_neg (by decide)]
    | ⟨3, _⟩ => by show 0 = if (1 : Nat) = 1 then 0 else (y 3).val; rw [if_pos rfl])

/-- The place of a head's column in a row's one column. -/
abbrev oneCol (y : S2x8x2048x64.Idx) : S2x8x2048x1.Idx := fun a => match a with
  | ⟨0, _⟩ => ⟨(y 0).val, (y 0).isLt⟩
  | ⟨1, _⟩ => ⟨(y 1).val, (y 1).isLt⟩
  | ⟨2, _⟩ => ⟨(y 2).val, (y 2).isLt⟩
  | ⟨3, _⟩ => ⟨0, Nat.one_pos⟩

/-- A row's one column repeated over a head's columns. -/
theorem bcast_cols (x : FVec Ideal S2x8x2048x1 .f32) (y : S2x8x2048x64.Idx) :
    broadcastInDim S2x8x2048x64 ![0, 1, 2, 3] bcast_S2x8x2048x1_S2x8x2048x64_0_1_2_3 x y = x (oneCol y) :=
  broadcastInDim_apply _ bcast_S2x8x2048x1_S2x8x2048x64_0_1_2_3 x y (oneCol y) (fun a => match a with
    | ⟨0, _⟩ => by show (y 0).val = if (2 : Nat) = 1 then 0 else (y 0).val; rw [if_neg (by decide)]
    | ⟨1, _⟩ => by show (y 1).val = if (8 : Nat) = 1 then 0 else (y 1).val; rw [if_neg (by decide)]
    | ⟨2, _⟩ => by show (y 2).val = if (2048 : Nat) = 1 then 0 else (y 2).val; rw [if_neg (by decide)]
    | ⟨3, _⟩ => by show 0 = if (1 : Nat) = 1 then 0 else (y 3).val; rw [if_pos rfl])

/-- The place in the heads' layout of an entry of a row of tokens. -/
abbrev headsOf (i : S4096x512.Idx) : S2x8x2048x64.Idx :=
  ix4 ⟨(i 0).val / 2048, by have h : (i 0).val < 4096 := (i 0).isLt; omega⟩ ⟨(i 1).val / 64, by have h : (i 1).val < 512 := (i 1).isLt; omega⟩
    ⟨(i 0).val % 2048, by omega⟩ ⟨(i 1).val % 64, by omega⟩

/-- An entry of the rows of tokens is that of the head it belongs to. -/
theorem rows_at (x : FVec Ideal S2x8x2048x64 .f32) (i : S4096x512.Idx) : hostRows x i = x (headsOf i) := by
  have h0 : (i 0).val < 4096 := (i 0).isLt
  have h1 : (i 1).val < 512 := (i 1).isLt
  unfold hostRows
  rw [shapeCast_apply _ shapeCasts_S2x2048x8x64_S4096x512 i
    (ix4 ⟨(i 0).val / 2048, by omega⟩ ⟨(i 0).val % 2048, by omega⟩ ⟨(i 1).val / 64, by omega⟩ ⟨(i 1).val % 64, by omega⟩ : S2x2048x8x64.Idx)
    (by
      rewrite [Shape.rowMajor_val_four, Shape.rowMajor_val_two]
      show (((i 0).val / 2048 * 2048 + (i 0).val % 2048) * 8 + (i 1).val / 64) * 64 + (i 1).val % 64 = (i 0).val * 512 + (i 1).val
      omega)]
  pointwise

/-- The product of a head's weights and values as a sum over the keys. -/
theorem heads_sum (w : FVec Ideal S2x8x2048x2048 .f32) (v : FVec Ideal S2x8x2048x64 .f32) (i : S2x8x2048x64.Idx) :
    Host.dotGeneral dot_S2x8x2048x2048_S2x8x2048x64_S2x8x2048x64_3_2_2_3_01_01 none w v i
      = ∑ k : Fin 2048, w (lidx_main_v84 i k) * v (ridx_main_v84 i k) := by
  simp only [Host.dotGeneral]
  rw [Ideal.dotGeneral_apply,
    ← Equiv.sum_comp (ValueIdx.contrEquiv1 dot_S2x8x2048x2048_S2x8x2048x64_S2x8x2048x64_3_2_2_3_01_01 2048 rfl rfl).symm]
  refine Finset.sum_congr rfl fun k _ => ?_
  have hk := ValueIdx.contrEquiv1_symm_val dot_S2x8x2048x2048_S2x8x2048x64_S2x8x2048x64_3_2_2_3_01_01 2048 rfl rfl k
  refine congrArg₂ (· * ·) (congrArg w (funext fun a => Fin.ext ?_)) (congrArg v (funext fun a => Fin.ext ?_))
  · match a with
    | ⟨0, _⟩ => exact lhs_main_v84_0 _ _
    | ⟨1, _⟩ => exact lhs_main_v84_1 _ _
    | ⟨2, _⟩ => exact lhs_main_v84_2 _ _
    | ⟨3, _⟩ => exact (lhs_main_v84_3 _ _).trans hk
  · match a with
    | ⟨0, _⟩ => exact rhs_main_v84_0 _ _
    | ⟨1, _⟩ => exact rhs_main_v84_1 _ _
    | ⟨2, _⟩ => exact (rhs_main_v84_2 _ _).trans hk
    | ⟨3, _⟩ => exact rhs_main_v84_3 _ _

section

variable {x0 : S4096x512.Idx → EReal} {x1 : S4096x256.Idx → EReal} {x2 : S4096x1024.Idx → EReal} {x3 : S4096x128.Idx → EReal}

/-- The host's maximum over a row is the reference's. -/
theorem reduce_top : Host.reduce FloatOps.maximumf (val_main_v21_0 (F := Ideal) x0 x1 x2 x3) (constant (F := Ideal) S_ .f32 0xFF800000#32)
    reducesTo_S2x8x2048x2048_S2x8x2048_d3 h_S_ = val_main_v22 (F := Ideal) x0 x1 x2 x3 := by
  unfold val_main_v22 val_main_cst_1
  exact Eq.refl _

/-- The greatest score of a row. -/
theorem top_at (H : Reals x0 x1 x2 x3) (y : S2x8x2048x1.Idx) :
    hostTop (val_main_v21_0 (F := Ideal) x0 x1 x2 x3) y = ((rtop x0 x1 x2 x3 (y 0).val (y 1).val (y 2).val : ℝ) : EReal) := by
  unfold hostTop
  rw [bcast_row, reduce_top]
  exact v22_at H _

/-- The greatest score of a row by coordinates equal to its own. -/
theorem top_entry (H : Reals x0 x1 x2 x3) (y : S2x8x2048x1.Idx) {b h i : ℕ} (e0 : (y 0).val = b) (e1 : (y 1).val = h) (e2 : (y 2).val = i) :
    hostTop (val_main_v21_0 (F := Ideal) x0 x1 x2 x3) y = ((rtop x0 x1 x2 x3 b h i : ℝ) : EReal) := by
  subst e0 e1 e2
  exact top_at H y

/-- The exponential of a difference, at an entry. -/
theorem exp_sub (a b : FVec Ideal S2x8x2048x2048 .f32) (y : S2x8x2048x2048.Idx) : Host.exp (subf a b) y = Ideal.exp (a y - b y) := rfl

/-- A quotient, at an entry. -/
theorem div_entry (a b : FVec Ideal S2x8x2048x2048 .f32) (y : S2x8x2048x2048.Idx) : Host.divf a b y = Ideal.div (a y) (b y) := rfl

/-- A sum with a logarithm, at an entry. -/
theorem add_log (a b : FVec Ideal S2x8x2048x1 .f32) (y : S2x8x2048x1.Idx) : addf a (Host.log b) y = a y + Ideal.log (b y) := rfl

/-- The exponentials of the scores. -/
theorem exp_at (H : Reals x0 x1 x2 x3) (y : S2x8x2048x2048.Idx) :
    hostExp (val_main_v21_0 (F := Ideal) x0 x1 x2 x3) y = ((rE x0 x1 x2 x3 (y 0).val (y 1).val (y 2).val (y 3).val : ℝ) : EReal) := by
  unfold hostExp
  rw [exp_sub, bcast_keys, top_entry H _ (b := (y 0).val) (h := (y 1).val) (i := (y 2).val) rfl rfl rfl, v21_at, score_eq H]
  exact Row.exp_masked (rscore x0 x1 x2 x3 (y 0).val (y 1).val (y 2).val) _ _ _

/-- The sum of a row's exponentials. -/
theorem sum_at (H : Reals x0 x1 x2 x3) (y : S2x8x2048x1.Idx) :
    hostSum (val_main_v21_0 (F := Ideal) x0 x1 x2 x3) y = ((rL x0 x1 x2 x3 (y 0).val (y 1).val (y 2).val : ℝ) : EReal) := by
  unfold hostSum
  rw [bcast_row]
  simp only [Host.reduceAdd, Ideal.hostReduceAdd_def]
  rw [Ideal.hostReduceAdd_single reducesTo_S2x8x2048x2048_S2x8x2048_d3 (by decide)]
  refine Eq.trans ?_ (Row.sum_E (rscore x0 x1 x2 x3 (y 0).val (y 1).val (y 2).val) (rtop x0 x1 x2 x3 (y 0).val (y 1).val (y 2).val) (y 2).val)
  exact congrArg₂ (· + ·) zero_eq (Finset.sum_congr rfl fun k _ => exp_at H _)

/-- The sum of a row's exponentials by coordinates equal to its own. -/
theorem sum_entry (H : Reals x0 x1 x2 x3) (y : S2x8x2048x1.Idx) {b h i : ℕ} (e0 : (y 0).val = b) (e1 : (y 1).val = h) (e2 : (y 2).val = i) :
    hostSum (val_main_v21_0 (F := Ideal) x0 x1 x2 x3) y = ((rL x0 x1 x2 x3 b h i : ℝ) : EReal) := by
  subst e0 e1 e2
  exact sum_at H y

/-- The weights are the reference's. -/
theorem weight_at (H : Reals x0 x1 x2 x3) (y : S2x8x2048x2048.Idx) :
    hostWeights (val_main_v21_0 (F := Ideal) x0 x1 x2 x3) y = ((rP x0 x1 x2 x3 (y 0).val (y 1).val (y 2).val (y 3).val : ℝ) : EReal) := by
  unfold hostWeights
  rw [div_entry, bcast_keys, sum_entry H _ (b := (y 0).val) (h := (y 1).val) (i := (y 2).val) rfl rfl rfl, exp_at H]
  exact Row.div_L _ _ _ (y 2).isLt _

/-- A weight by coordinates equal to its own. -/
theorem weight_entry (H : Reals x0 x1 x2 x3) (y : S2x8x2048x2048.Idx) {b h i j : ℕ} (e0 : (y 0).val = b) (e1 : (y 1).val = h)
    (e2 : (y 2).val = i) (e3 : (y 3).val = j) :
    hostWeights (val_main_v21_0 (F := Ideal) x0 x1 x2 x3) y = ((rP x0 x1 x2 x3 b h i j : ℝ) : EReal) := by
  subst e0 e1 e2 e3
  exact weight_at H y

/-- A value by coordinates equal to its own. -/
theorem value_entry (y : S2x8x2048x64.Idx) {b h j t : ℕ} (e0 : (y 0).val = b) (e1 : (y 1).val = h) (e2 : (y 2).val = j) (e3 : (y 3).val = t) :
    val_main_v52 (F := Ideal) x2 y = at2 x2 (2048 * b + j) (128 * h + 64 + t) := by
  subst e0 e1 e2 e3
  exact v52_at x2 y

/-- The output of a head: its weights times its values. -/
theorem heads_at (H : Reals x0 x1 x2 x3) (y : S2x8x2048x64.Idx) :
    hostHeads (val_main_v21_0 (F := Ideal) x0 x1 x2 x3) (val_main_v52 (F := Ideal) x2) y
      = ((rdot (rP x0 x1 x2 x3 (y 0).val (y 1).val (y 2).val)
        (fun j => re x2 (2048 * (y 0).val + j) (128 * (y 1).val + 64 + (y 3).val)) 2048 : ℝ) : EReal) := by
  unfold hostHeads
  rw [heads_sum, ← coe_dot (f := fun j => ((rP x0 x1 x2 x3 (y 0).val (y 1).val (y 2).val j : ℝ) : EReal))
    (g := fun j => at2 x2 (2048 * (y 0).val + j) (128 * (y 1).val + 64 + (y 3).val)) (fun _ => rfl) (fun _ => re_eq H.h2 _ _), ← sum_fin_dot]
  exact Finset.sum_congr rfl fun k _ => congrArg₂ (· * ·)
    (weight_entry H _ rfl rfl rfl rfl) (value_entry _ rfl rfl rfl rfl)

/-- The logarithm of a row's sum of exponentials of unshifted scores, in every column of the head. -/
theorem lse_at (H : Reals x0 x1 x2 x3) (y : S2x8x2048x64.Idx) : hostLse (val_main_v21_0 (F := Ideal) x0 x1 x2 x3) y
    = ((rtop x0 x1 x2 x3 (y 0).val (y 1).val (y 2).val : ℝ) : EReal)
      + Ideal.log ((rL x0 x1 x2 x3 (y 0).val (y 1).val (y 2).val : ℝ) : EReal) := by
  unfold hostLse
  rw [bcast_cols, add_log, top_entry H (oneCol y) (b := (y 0).val) (h := (y 1).val) (i := (y 2).val) rfl rfl rfl,
    sum_entry H (oneCol y) (b := (y 0).val) (h := (y 1).val) (i := (y 2).val) rfl rfl rfl]

end

/-- The output's entry on the token `i` of the sequence `b`, in the column `t` of the head `h`. -/
theorem aO_at (H : Reals (aQn m c) (aQr m c) (aKv m c) (aKp m c)) {b h i t : ℕ} (hb : b < 2) (hh : h < 8) (hi : i < 2048) (ht : t < 64) :
    at2 (aO m c) (2048 * b + i) (64 * h + t)
      = ((rdot (rP (aQn m c) (aQr m c) (aKv m c) (aKp m c) b h i) (fun j => re (aKv m c) (2048 * b + j) (128 * h + 64 + t)) 2048 : ℝ) : EReal) := by
  have e0 : (2048 * b + i) / 2048 = b := by omega
  have e1 : (64 * h + t) / 64 = h := by omega
  have e2 : (2048 * b + i) % 2048 = i := by omega
  have e3 : (64 * h + t) % 64 = t := by omega
  rw [at2_of (aO m c) (show 2048 * b + i < 4096 by omega) (show 64 * h + t < 512 by omega), ← aO_eq]
  refine (congrFun (read_out m c) _).trans ?_
  rw [rows_at, scoresOf, heads_at H]
  show ((rdot (rP _ _ _ _ ((2048 * b + i) / 2048) ((64 * h + t) / 64) ((2048 * b + i) % 2048))
    (fun j => re (aKv m c) (2048 * ((2048 * b + i) / 2048) + j) (128 * ((64 * h + t) / 64) + 64 + (64 * h + t) % 64)) 2048 : ℝ) : EReal) = _
  rw [e0, e1, e2, e3]

/-- The logarithm of a row's sum of exponentials. -/
theorem aL_at (H : Reals (aQn m c) (aQr m c) (aKv m c) (aKp m c)) {b h i : ℕ} (hb : b < 2) (hh : h < 8) (hi : i < 2048) :
    at2 (aL m c) (2048 * b + i) (64 * h)
      = ((rtop (aQn m c) (aQr m c) (aKv m c) (aKp m c) b h i : ℝ) : EReal)
        + Ideal.log ((rL (aQn m c) (aQr m c) (aKv m c) (aKp m c) b h i : ℝ) : EReal) := by
  have e0 : (2048 * b + i) / 2048 = b := by omega
  have e1 : 64 * h / 64 = h := by omega
  have e2 : (2048 * b + i) % 2048 = i := by omega
  rw [at2_of (aL m c) (show 2048 * b + i < 4096 by omega) (show 64 * h < 512 by omega), ← aL_eq]
  refine (congrFun (read_lse m c) _).trans ?_
  rw [rows_at, scoresOf, lse_at H]
  show ((rtop _ _ _ _ ((2048 * b + i) / 2048) (64 * h / 64) ((2048 * b + i) % 2048) : ℝ) : EReal)
    + Ideal.log ((rL _ _ _ _ ((2048 * b + i) / 2048) (64 * h / 64) ((2048 * b + i) % 2048) : ℝ) : EReal) = _
  rw [e0, e1, e2]

end Cert.Mla

end
-- ==== Proof.Mla.Weights.lean ====
/- Over finite arguments, the kernel's probabilities and score gradients are the reference's. -/
module

public import proofs.«01_k».proof.Proof.Mla.HostAt

@[expose] public section

set_option maxRecDepth 16384

noncomputable section

namespace Cert.Mla

open Cert.KernelIdeal Cert.KernelIdeal.Gen Cert.Mm Idealize.ShloMosaic Idealize.ShloMosaic.TcCoe Idealize.SL.Sem
open Cert.ReferenceIdeal.Read

variable (m : (ℓ : Loc nD τ sig) → Buf (Elt Ideal) ℓ) (c : Dev nD)

/-- The weights of the kernel's arguments. -/
abbrev kP (b h i : ℕ) : ℕ → ℝ := rP (aQn m c) (aQr m c) (aKv m c) (aKp m c) b h i

/-- The gradients of the weights of the kernel's arguments. -/
abbrev kW (b h i : ℕ) : ℕ → ℝ := rw' (aKv m c) (aG m c) b h i

/-- The product of an output row and its gradient is the product of the weights and their gradients. -/
theorem d_at (H : Reals (aQn m c) (aQr m c) (aKv m c) (aKp m c)) (h4 : AllReal (aG m c)) {b h i : ℕ} (hb : b < 2) (hh : h < 8) (hi : i < 2048) :
    (att m c b).d h i = ((rdot (kP m c b h i) (kW m c b h i) 2048 : ℝ) : EReal) := by
  show dot (fun t => at2 (aG m c) (2048 * b + i) (64 * h + t)) (fun t => at2 (aO m c) (2048 * b + i) (64 * h + t)) 0 64 = _
  rw [dot_congr (fun t _ => rfl) (fun t ht => aO_at m c H hb hh hi ht), coe_dot (fun t => re_eq h4 _ _) (fun t => rfl)]
  exact congrArg _ (Row.row_product _ (fun t => re (aG m c) (2048 * b + i) (64 * h + t)) (fun j t => re (aKv m c) (2048 * b + j) (128 * h + 64 + t)))

/-- The gradient of a weight, as the kernel computes it. -/
theorem w_at (H : Reals (aQn m c) (aQr m c) (aKv m c) (aKp m c)) (h4 : AllReal (aG m c)) (b h i j : ℕ) :
    dot ((att m c b).g h i) ((att m c b).v h j) 0 64 = ((kW m c b h i j : ℝ) : EReal) :=
  coe_dot (fun t => re_eq h4 _ _) (fun t => re_eq H.h2 _ _) 64

/-- The exponential of a score less the logarithm of its row's sum is the weight. -/
theorem e_at (H : Reals (aQn m c) (aQr m c) (aKv m c) (aKp m c)) {b h i j : ℕ} (hb : b < 2) (hh : h < 8) (hi : i < 2048) (hj : j ≤ i) :
    (att m c b).e h i j = ((kP m c b h i j : ℝ) : EReal) := by
  refine Eq.trans ?_ (Row.exp_lse (rscore (aQn m c) (aQr m c) (aKv m c) (aKp m c) b h i) (rtop (aQn m c) (aQr m c) (aKv m c) (aKp m c) b h i) i hi j hj)
  rw [← aL_at m c H hb hh hi, ← score_eq H]
  exact Eq.refl _

/-- The kernel's weights are the reference's. -/
theorem p_at (H : Reals (aQn m c) (aQr m c) (aKv m c) (aKp m c)) {b h i : ℕ} (hb : b < 2) (hh : h < 8) (hi : i < 2048) (j : ℕ) :
    (att m c b).p h i j = ((kP m c b h i j : ℝ) : EReal) := by
  unfold Att.p
  split_ifs with hj
  · exact e_at m c H hb hh hi hj
  · rw [kP, rP, Row.P_later _ _ i j hj, EReal.coe_zero]

/-- The gradient of a score. -/
theorem s_at (H : Reals (aQn m c) (aQr m c) (aKv m c) (aKp m c)) (h4 : AllReal (aG m c)) {b h i : ℕ} (hb : b < 2) (hh : h < 8) (hi : i < 2048) (j : ℕ) :
    (att m c b).s h i j = (if j ≤ i then
      (((-(rdot (kP m c b h i) (kW m c b h i) 2048) + kW m c b h i j) * kP m c b h i j : ℝ) : EReal) else 0) * factor := by
  unfold Att.s
  split_ifs with hj
  · rw [d_at m c H h4 hb hh hi, w_at m c H h4, e_at m c H hb hh hi hj, EReal.coe_mul, EReal.coe_add, EReal.coe_neg]
  · rw [zero_mul]

/-- The reference's weights by coordinates. -/
theorem ref_p (H : Reals (aQn m c) (aQr m c) (aKv m c) (aKp m c)) (y : S2x8x2048x2048.Idx) {b h i j : ℕ} (e0 : (y 0).val = b) (e1 : (y 1).val = h)
    (e2 : (y 2).val = i) (e3 : (y 3).val = j) :
    val_main_v46 (F := Ideal) (aQn m c) (aQr m c) (aKv m c) (aKp m c) y = (att m c b).p h i j := by
  have hb : b < 2 := by rw [← e0]; exact (y 0).isLt
  have hh : h < 8 := by rw [← e1]; exact (y 1).isLt
  have hi : i < 2048 := by rw [← e2]; exact (y 2).isLt
  rw [p_at m c H hb hh hi j]
  subst e0 e1 e2 e3
  exact v46_at H y

/-- The reference's gradients of the scores by coordinates. -/
theorem ref_s (H : Reals (aQn m c) (aQr m c) (aKv m c) (aKp m c)) (h4 : AllReal (aG m c)) (y : S2x8x2048x2048.Idx) {b h i j : ℕ} (e0 : (y 0).val = b)
    (e1 : (y 1).val = h) (e2 : (y 2).val = i) (e3 : (y 3).val = j) :
    val_main_v78 (F := Ideal) (aQn m c) (aQr m c) (aKv m c) (aKp m c) (aG m c) y = (att m c b).s h i j := by
  have hb : b < 2 := by rw [← e0]; exact (y 0).isLt
  have hh : h < 8 := by rw [← e1]; exact (y 1).isLt
  have hi : i < 2048 := by rw [← e2]; exact (y 2).isLt
  rw [s_at m c H h4 hb hh hi j]
  subst e0 e1 e2 e3
  exact v78_at H h4 y

end Cert.Mla

end
-- ==== Proof.Mla.Sums.lean ====
/- The reference's products, by coordinates, are the gradients the kernel's tiles add up to. -/
module

public import proofs.«01_k».proof.Proof.Mla.Weights
public import Idealize.ShloMosaic.Lib.TwoAxisContraction

@[expose] public section

set_option maxRecDepth 16384

noncomputable section

namespace Cert.Mla

open Cert.ReferenceIdeal Cert.ReferenceIdeal.Gen Cert.Mm Idealize.ShloMosaic Idealize.ShloMosaic.TcCoe Idealize.SL.Sem
open Cert.ReferenceIdeal.Read

variable (m : (ℓ : Loc KernelIdeal.nD KernelIdeal.τ KernelIdeal.sig) → Buf (Elt Ideal) ℓ) (c : Dev KernelIdeal.nD)

section

variable (x0 : S4096x512.Idx → EReal) (x1 : S4096x256.Idx → EReal) (x2 : S4096x1024.Idx → EReal) (x3 : S4096x128.Idx → EReal)
  (x4 : S4096x512.Idx → EReal)

/-- The first part of the queries, by coordinates equal to its own. -/
theorem v6_entry (y : S2x8x2048x64.Idx) {b h i t : ℕ} (e0 : (y 0).val = b) (e1 : (y 1).val = h) (e2 : (y 2).val = i) (e3 : (y 3).val = t) :
    val_main_v6 (F := Ideal) x0 y = at2 x0 (2048 * b + i) (64 * h + t) := by
  subst e0 e1 e2 e3
  exact v6_at x0 y

/-- The gradient of the output, by coordinates equal to its own. -/
theorem v57_entry (y : S2x8x2048x64.Idx) {b h i t : ℕ} (e0 : (y 0).val = b) (e1 : (y 1).val = h) (e2 : (y 2).val = i) (e3 : (y 3).val = t) :
    val_main_v57 (F := Ideal) x4 y = at2 x4 (2048 * b + i) (64 * h + t) := by
  subst e0 e1 e2 e3
  exact v57_at x4 y

/-- The second part of the queries, by coordinates equal to its own. -/
theorem v9_entry (y : S2x8x2048x32.Idx) {b h i t : ℕ} (e0 : (y 0).val = b) (e1 : (y 1).val = h) (e2 : (y 2).val = i) (e3 : (y 3).val = t) :
    val_main_v9 (F := Ideal) x1 y = at2 x1 (2048 * b + i) (32 * h + t) := by
  subst e0 e1 e2 e3
  exact v9_at x1 y

/-- The first part of the keys, by coordinates equal to its own. -/
theorem v2_entry (y : S2x8x2048x64.Idx) {b h j t : ℕ} (e0 : (y 0).val = b) (e1 : (y 1).val = h) (e2 : (y 2).val = j) (e3 : (y 3).val = t) :
    val_main_v2 (F := Ideal) x2 y = at2 x2 (2048 * b + j) (128 * h + t) := by
  subst e0 e1 e2 e3
  exact v2_at x2 y

/-- The second part of the keys, by coordinates equal to its own. -/
theorem v4_entry (y : S2x2048x32.Idx) {b j t : ℕ} (e0 : (y 0).val = b) (e1 : (y 1).val = j) (e2 : (y 2).val = t) :
    val_main_v4 (F := Ideal) x3 y = at2 x3 (2048 * b + j) t := by
  subst e0 e1 e2
  exact v4_at x3 y

/-- The two-axis product, at an index. -/
theorem pair_sum (w : FVec Ideal S2x8x2048x2048 .f32) (q : FVec Ideal S2x8x2048x32 .f32) (b : Fin 2) (j : Fin 2048) (t : Fin 32) :
    Host.dotGeneral dot_S2x8x2048x2048_S2x8x2048x32_S2x2048x32_12_12_3_3_0_0 none w q (ix3 b j t)
      = ∑ h : Fin 8, ∑ i : Fin 2048, w (ix4 b h i j) * q (ix4 b h i t) := by
  pointwise

end

variable (H : Reals (aQn m c) (aQr m c) (aKv m c) (aKp m c)) (h4 : AllReal (aG m c))

include H h4

/-- The gradient of the queries' first part. -/
theorem v84_entry (y : S2x8x2048x64.Idx) {b h i t : ℕ} (e0 : (y 0).val = b) (e1 : (y 1).val = h) (e2 : (y 2).val = i) (e3 : (y 3).val = t) :
    val_main_v84 (F := Ideal) (aQn m c) (aQr m c) (aKv m c) (aKp m c) (aG m c) y = (att m c b).gqn h i t := by
  rw [val_main_v84_apply]
  unfold Att.gqn
  rw [← sum_fin_dot]
  exact Finset.sum_congr rfl fun k _ => congrArg₂ (· * ·) (ref_s m c H h4 _ e0 e1 e2 rfl)
    (v2_entry (aKv m c) (ridx_main_v84 y k) e0 e1 rfl e3)

/-- The gradient of the queries' second part. -/
theorem v80_entry (y : S2x8x2048x32.Idx) {b h i t : ℕ} (e0 : (y 0).val = b) (e1 : (y 1).val = h) (e2 : (y 2).val = i) (e3 : (y 3).val = t) :
    val_main_v80 (F := Ideal) (aQn m c) (aQr m c) (aKv m c) (aKp m c) (aG m c) y = (att m c b).gqr h i t := by
  rw [val_main_v80_apply]
  exact (Finset.sum_congr rfl fun k _ => congrArg₂ (· * ·) (ref_s m c H h4 _ e0 e1 e2 rfl) (v4_entry _ _ e0 rfl e3)).trans
    (sum_fin_dot ((att m c b).s h i) (fun j => (att m c b).kr j t) 2048)

/-- The gradient of the keys' first part. -/
theorem v83_entry (y : S2x8x2048x64.Idx) {b h j t : ℕ} (e0 : (y 0).val = b) (e1 : (y 1).val = h) (e2 : (y 2).val = j) (e3 : (y 3).val = t) :
    val_main_v83 (F := Ideal) (aQn m c) (aQr m c) (aKv m c) (aKp m c) (aG m c) y = (att m c b).gkn h j t := by
  rw [val_main_v83_apply]
  unfold Att.gkn
  rw [← sum_fin_dot]
  exact Finset.sum_congr rfl fun k _ => congrArg₂ (· * ·) (ref_s m c H h4 _ e0 e1 rfl e2)
    (v6_entry (aQn m c) (ridx_main_v83 y k) e0 e1 rfl e3)

omit h4 in
/-- The gradient of the values. -/
theorem v58_entry (y : S2x8x64x2048.Idx) {b h j t : ℕ} (e0 : (y 0).val = b) (e1 : (y 1).val = h) (e2 : (y 2).val = t) (e3 : (y 3).val = j) :
    val_main_v58 (F := Ideal) (aQn m c) (aQr m c) (aKv m c) (aKp m c) (aG m c) y = (att m c b).gv h j t := by
  rw [val_main_v58_apply]
  exact (Finset.sum_congr rfl fun k _ => (mul_comm _ _).trans
      (congrArg₂ (· * ·) (ref_p m c H _ e0 e1 rfl e3) (v57_entry _ _ e0 e1 rfl e2))).trans
    (sum_fin_dot (fun i => (att m c b).p h i j) (fun i => (att m c b).g h i t) 2048)

/-- The gradient of the keys' shared part. -/
theorem v79_entry (b : Fin 2) (j : Fin 2048) (t : Fin 32) :
    val_main_v79 (F := Ideal) (aQn m c) (aQr m c) (aKv m c) (aKp m c) (aG m c) (ix3 b j t) = (att m c b.val).gkp j.val t.val := by
  unfold val_main_v79
  rw [pair_sum]
  refine (Finset.sum_congr rfl fun k _ => ?_).trans (Finset.sum_range (fun h => (att m c b.val).gkr h j.val t.val)).symm
  exact (Finset.sum_congr rfl fun i _ => congrArg₂ (· * ·) (ref_s m c H h4 _ rfl rfl rfl rfl) (v9_entry _ _ rfl rfl rfl rfl)).trans
    (sum_fin_dot (fun i => (att m c b.val).s k.val i j.val) (fun i => (att m c b.val).qr k.val i t.val) 2048)

end Cert.Mla

end
-- ==== Proof.Mla.Ends.lean ====
/- The four arrays the kernel leaves, entry by entry. -/
module

public import proofs.«01_k».proof.Proof.Mla.Grid
public import proofs.«01_k».proof.Proof.Gen.KernelIdeal.Value
import all proofs.«01_k».proof.Proof.Gen.KernelIdeal.Frame

@[expose] public section

set_option maxRecDepth 16384

noncomputable section

namespace Cert.Mla

open Cert.KernelIdeal Cert.KernelIdeal.Gen Cert.Mm Idealize.ShloMosaic Idealize.ShloMosaic.TcCoe Idealize.SL.Sem

variable (m : (ℓ : Loc nD τ sig) → Buf (Elt Ideal) ℓ) (c : Dev nD)

/-- The gradient of the queries: row `r` is query `r % 2048` of batch `r / 2048`, a head's 64 columns side by side. -/
def outQn (r k : ℕ) : EReal := (att m c (r / 2048)).gqn (k / 64) (r % 2048) (k % 64)

/-- The gradient of the rotated queries, a head's 32 columns side by side. -/
def outQr (r k : ℕ) : EReal := (att m c (r / 2048)).gqr (k / 32) (r % 2048) (k % 32)

/-- The gradient of the keys and values. -/
def outKv (r k : ℕ) : EReal := (att m c (r / 2048)).gkv (r % 2048) k

/-- The gradient of the rotated keys, and zeros in the columns after them. -/
def outKp (r k : ℕ) : EReal := if k < 32 then (att m c (r / 2048)).gkp (r % 2048) k else 0

/-- The point of a batch, a group of heads and a stretch of queries. -/
def point (b g q : ℕ) (hb : b < 2) (hg : g < 2) (hq : q < 4) : Fin cfg0.N :=
  ⟨8 * b + 4 * g + q, lt_of_lt_of_eq (by omega : 8 * b + 4 * g + q < 16) N_0.symm⟩

/-- There are sixteen points. -/
theorem lt_N (t : Fin cfg0.N) : t.val < 16 := lt_of_lt_of_eq t.isLt N_0

/-- The block of the gradient of the queries' first part that a point leaves. -/
theorem leftQn (t : Fin cfg0.N) (r k : ℕ) (hr : r < 512) (hk : k < 256) :
    at2 (outsAt0 m c t.val t.isLt).1 r k = outQn m c ((4 * (t.val / 8) + t.val % 4) * 512 + r) (t.val % 8 / 4 * 256 + k) := by
  obtain ⟨b9, b10, L⟩ := left_some m c t
  have h := L.qn_at (k / 64) r (k % 64) (by omega) hr (by omega)
  rw [Nat.div_add_mod] at h
  refine h.trans ?_
  have ht := lt_N t
  show (att m c (t.val / 8)).gqn (4 * (t.val % 8 / 4) + k / 64) (512 * (t.val % 4) + r) (k % 64) = _
  unfold outQn
  rw [show ((4 * (t.val / 8) + t.val % 4) * 512 + r) / 2048 = t.val / 8 by omega,
    show ((4 * (t.val / 8) + t.val % 4) * 512 + r) % 2048 = 512 * (t.val % 4) + r by omega,
    show (t.val % 8 / 4 * 256 + k) / 64 = 4 * (t.val % 8 / 4) + k / 64 by omega,
    show (t.val % 8 / 4 * 256 + k) % 64 = k % 64 by omega]

/-- The place of that block. -/
theorem idxQn (t : Fin cfg0.N) : win0_7.index t = ![4 * (t.val / 8) + t.val % 4, t.val % 8 / 4] :=
  (idxQ t).2.2.2.2.2.1.trans (idxQ t).1

/-- The array of result 0. -/
theorem finalQn : (dats m 0 c).arrAt 7 cfg0.N = fun i => outQn m c (i 0).val (i 1).val := by
  refine (dats m 0 c).arrAt_eq_of_cover 7 _ (fun t ht => ?_) (fun (i : S4096x512.Idx) => ?_)
  · rw [Value.flushed7 m c t]
    funext y
    have h0 : (y 0).val < 512 := (y 0).isLt
    have h1 : (y 1).val < 256 := (y 1).isLt
    have h := leftQn m c t (y 0).val (y 1).val h0 h1
    rw [← at2_coords] at h
    show _ = outQn m c (win0_7.index t 0 * 512 + 1 * (y 0).val) (win0_7.index t 1 * 256 + 1 * (y 1).val)
    rw [one_mul, one_mul, idxQn]
    exact h
  · have hi0 : (i 0).val < 4096 := (i 0).isLt
    have hi1 : (i 1).val < 512 := (i 1).isLt
    obtain ⟨t, hv⟩ : ∃ t : Fin cfg0.N, t.val = 8 * ((i 0).val / 2048) + 4 * ((i 1).val / 256) + (i 0).val / 512 % 4 :=
      ⟨point ((i 0).val / 2048) ((i 1).val / 256) ((i 0).val / 512 % 4) (by omega) (by omega) (by omega), rfl⟩
    have ht := idxQn t
    refine ⟨t, flush0_7 _, ?_⟩
    show i ∈ ((View.whole main_v42_0).slice (win0_7.rect t)).set
    rw [View.set_slice_whole]
    refine mem_block _ i (by decide) (by decide) ((congrArg (fun f => f 0 * 512) ht).trans ?_) ((congrArg (fun f => f 1 * 256) ht).trans ?_)
    · show (4 * (t.val / 8) + t.val % 4) * 512 = _
      omega
    · show t.val % 8 / 4 * 256 = _
      omega

/-- The block of the gradient of the queries' second part that a point leaves. -/
theorem leftQr (t : Fin cfg0.N) (r k : ℕ) (hr : r < 512) (hk : k < 128) :
    at2 (outsAt0 m c t.val t.isLt).2.1 r k = outQr m c ((4 * (t.val / 8) + t.val % 4) * 512 + r) (t.val % 8 / 4 * 128 + k) := by
  obtain ⟨b9, b10, L⟩ := left_some m c t
  have h := L.qr_at (k / 32) r (k % 32) (by omega) hr (by omega)
  rw [Nat.div_add_mod] at h
  refine h.trans ?_
  have ht := lt_N t
  show (att m c (t.val / 8)).gqr (4 * (t.val % 8 / 4) + k / 32) (512 * (t.val % 4) + r) (k % 32) = _
  unfold outQr
  rw [show ((4 * (t.val / 8) + t.val % 4) * 512 + r) / 2048 = t.val / 8 by omega,
    show ((4 * (t.val / 8) + t.val % 4) * 512 + r) % 2048 = 512 * (t.val % 4) + r by omega,
    show (t.val % 8 / 4 * 128 + k) / 32 = 4 * (t.val % 8 / 4) + k / 32 by omega,
    show (t.val % 8 / 4 * 128 + k) % 32 = k % 32 by omega]

/-- The place of that block. -/
theorem idxQr (t : Fin cfg0.N) : win0_8.index t = ![4 * (t.val / 8) + t.val % 4, t.val % 8 / 4] :=
  (idxQ t).2.2.2.2.2.2.trans (idxQ t).1

/-- The array of result 1. -/
theorem finalQr : (dats m 0 c).arrAt 8 cfg0.N = fun i => outQr m c (i 0).val (i 1).val := by
  refine (dats m 0 c).arrAt_eq_of_cover 8 _ (fun t ht => ?_) (fun (i : S4096x256.Idx) => ?_)
  · rw [Value.flushed8 m c t]
    funext y
    have h0 : (y 0).val < 512 := (y 0).isLt
    have h1 : (y 1).val < 128 := (y 1).isLt
    have h := leftQr m c t (y 0).val (y 1).val h0 h1
    rw [← at2_coords] at h
    show _ = outQr m c (win0_8.index t 0 * 512 + 1 * (y 0).val) (win0_8.index t 1 * 128 + 1 * (y 1).val)
    rw [one_mul, one_mul, idxQr]
    exact h
  · have hi0 : (i 0).val < 4096 := (i 0).isLt
    have hi1 : (i 1).val < 256 := (i 1).isLt
    obtain ⟨t, hv⟩ : ∃ t : Fin cfg0.N, t.val = 8 * ((i 0).val / 2048) + 4 * ((i 1).val / 128) + (i 0).val / 512 % 4 :=
      ⟨point ((i 0).val / 2048) ((i 1).val / 128) ((i 0).val / 512 % 4) (by omega) (by omega) (by omega), rfl⟩
    have ht := idxQr t
    refine ⟨t, flush0_8 _, ?_⟩
    show i ∈ ((View.whole main_v42_1).slice (win0_8.rect t)).set
    rw [View.set_slice_whole]
    refine mem_block _ i (by decide) (by decide) ((congrArg (fun f => f 0 * 512) ht).trans ?_) ((congrArg (fun f => f 1 * 128) ht).trans ?_)
    · show (4 * (t.val / 8) + t.val % 4) * 512 = _
      omega
    · show t.val % 8 / 4 * 128 = _
      omega

/-- The block of the gradient of keys and values that the last point of a group of heads leaves. -/
theorem leftKv (t : Fin cfg0.N) (ht : t.val % 4 = 3) (y : S2048x512.Idx) :
    (outsAt0 m c t.val t.isLt).2.2.1 y = outKv m c (t.val / 8 * 2048 + (y 0).val) (t.val % 8 / 4 * 512 + (y 1).val) := by
  have h0 : (y 0).val < 2048 := (y 0).isLt
  have h1 : (y 1).val < 512 := (y 1).isLt
  have hN := lt_N t
  rw [kv_sum m c t.val t.isLt y, ht]
  unfold outKv
  rw [show (t.val / 8 * 2048 + (y 0).val) / 2048 = t.val / 8 by omega, show (t.val / 8 * 2048 + (y 0).val) % 2048 = (y 0).val by omega]
  rw [show 3 + 1 = 4 from rfl, Att.sum_dkv, Att.from_gkv _ _ _ _ h1, Nat.mul_comm 512]

/-- The place of that block. -/
theorem idxKv (t : Fin cfg0.N) : win0_9.index t = ![t.val / 8, t.val % 8 / 4] :=
  (idxK t).2.1

/-- The array of result 2. -/
theorem finalKv : (dats m 0 c).arrAt 9 cfg0.N = fun i => outKv m c (i 0).val (i 1).val := by
  refine (dats m 0 c).arrAt_eq_of_cover 9 _ (fun t ht => ?_) (fun (i : S4096x1024.Idx) => ?_)
  · rw [Value.flushed9 m c t]
    funext y
    have h := leftKv m c t ((flush0_9 t).mp ht) y
    show _ = outKv m c (win0_9.index t 0 * 2048 + 1 * (y 0).val) (win0_9.index t 1 * 512 + 1 * (y 1).val)
    rw [one_mul, one_mul, idxKv]
    refine Eq.trans h ?_
    show _ = outKv m c (t.val / 8 * 2048 + (y 0).val) (t.val % 8 / 4 * 512 + (y 1).val)
    rfl
  · have hi0 : (i 0).val < 4096 := (i 0).isLt
    have hi1 : (i 1).val < 1024 := (i 1).isLt
    obtain ⟨t, hv⟩ : ∃ t : Fin cfg0.N, t.val = 8 * ((i 0).val / 2048) + 4 * ((i 1).val / 512) + 3 := ⟨point ((i 0).val / 2048) ((i 1).val / 512) 3 (by omega) (by omega) (by omega), rfl⟩
    have ht := idxKv t
    refine ⟨t, (flush0_9 t).mpr (by omega), ?_⟩
    show i ∈ ((View.whole main_v42_2).slice (win0_9.rect t)).set
    rw [View.set_slice_whole]
    refine mem_block _ i (by decide) (by decide) ((congrArg (fun f => f 0 * 2048) ht).trans ?_) ((congrArg (fun f => f 1 * 512) ht).trans ?_)
    · show t.val / 8 * 2048 = _
      omega
    · show t.val % 8 / 4 * 512 = _
      omega

/-- The block of the gradient of the keys' second part that the last point of a sequence leaves. -/
theorem leftKp (t : Fin cfg0.N) (ht : t.val % 8 = 7) (y : S2048x128.Idx) :
    (outsAt0 m c t.val t.isLt).2.2.2 y = outKp m c (t.val / 8 * 2048 + (y 0).val) ((y 1).val) := by
  have h0 : (y 0).val < 2048 := (y 0).isLt
  have h1 : (y 1).val < 128 := (y 1).isLt
  have hN := lt_N t
  rw [kp_sum m c t.val t.isLt y, ht]
  unfold outKp
  rw [show (t.val / 8 * 2048 + (y 0).val) / 2048 = t.val / 8 by omega, show (t.val / 8 * 2048 + (y 0).val) % 2048 = (y 0).val by omega]
  rw [show 7 + 1 = 8 from rfl, Att.sum_dkp]

/-- The place of that block. -/
theorem idxKp (t : Fin cfg0.N) : win0_10.index t = ![t.val / 8, 0] :=
  (idxK t).2.2.2.1

/-- The array of result 3. -/
theorem finalKp : (dats m 0 c).arrAt 10 cfg0.N = fun i => outKp m c (i 0).val (i 1).val := by
  refine (dats m 0 c).arrAt_eq_of_cover 10 _ (fun t ht => ?_) (fun (i : S4096x128.Idx) => ?_)
  · rw [Value.flushed10 m c t]
    funext y
    have h := leftKp m c t ((flush0_10 t).mp ht) y
    show _ = outKp m c (win0_10.index t 0 * 2048 + 1 * (y 0).val) (win0_10.index t 1 * 128 + 1 * (y 1).val)
    rw [one_mul, one_mul, idxKp]
    refine Eq.trans h ?_
    show _ = outKp m c (t.val / 8 * 2048 + (y 0).val) (0 * 128 + (y 1).val)
    rw [Nat.zero_mul, Nat.zero_add]
  · have hi0 : (i 0).val < 4096 := (i 0).isLt
    have hi1 : (i 1).val < 128 := (i 1).isLt
    obtain ⟨t, hv⟩ : ∃ t : Fin cfg0.N, t.val = 8 * ((i 0).val / 2048) + 4 * 1 + 3 := ⟨point ((i 0).val / 2048) 1 3 (by omega) (by omega) (by omega), rfl⟩
    have ht := idxKp t
    refine ⟨t, (flush0_10 t).mpr (by omega), ?_⟩
    show i ∈ ((View.whole main_v42_3).slice (win0_10.rect t)).set
    rw [View.set_slice_whole]
    refine mem_block _ i (by decide) (by decide) ((congrArg (fun f => f 0 * 2048) ht).trans ?_) ((congrArg (fun f => f 1 * 128) ht).trans ?_)
    · show t.val / 8 * 2048 = _
      omega
    · show 0 * 128 = _
      omega

end Cert.Mla

end
-- ==== Proof.Mla.Results.lean ====
/- The reference's four results, entry by entry, are what the kernel's windows hold at the end. -/
module

public import proofs.«01_k».proof.Proof.Mla.Sums
public import proofs.«01_k».proof.Proof.Mla.Ends
public import Idealize.ShloMosaic.Lib.KernelVsHost

@[expose] public section

set_option maxRecDepth 16384

noncomputable section

namespace Cert.Mla

open Cert.ReferenceIdeal Cert.ReferenceIdeal.Gen Cert.Mm Idealize.ShloMosaic Idealize.ShloMosaic.TcCoe Idealize.SL.Sem
open Cert.ReferenceIdeal.Read

variable (m : (ℓ : Loc KernelIdeal.nD KernelIdeal.τ KernelIdeal.sig) → Buf (Elt Ideal) ℓ) (c : Dev KernelIdeal.nD)
variable (H : Reals (aQn m c) (aQr m c) (aKv m c) (aKp m c)) (h4 : AllReal (aG m c))

include H h4

/-- The reference's gradient of the queries' first part is the kernel's. -/
theorem ref_qn (i : S4096x512.Idx) :
    val_main_v86 (F := Ideal) (aQn m c) (aQr m c) (aKv m c) (aKp m c) (aG m c) i = outQn m c (i 0).val (i 1).val := by
  have h0 : (i 0).val < 4096 := (i 0).isLt
  have h1 : (i 1).val < 512 := (i 1).isLt
  rw [val_main_v86_apply, val_main_v85_apply]
  exact v84_entry m c H h4 _ (show ((i 0).val * 512 + (i 1).val) / 1048576 = (i 0).val / 2048 by omega)
    (show ((i 0).val * 512 + (i 1).val) / 64 % 8 = (i 1).val / 64 by omega)
    (show ((i 0).val * 512 + (i 1).val) / 512 % 2048 = (i 0).val % 2048 by omega)
    (show ((i 0).val * 512 + (i 1).val) % 64 = (i 1).val % 64 by omega)

/-- The reference's gradient of the queries' second part is the kernel's. -/
theorem ref_qr (i : S4096x256.Idx) :
    val_main_v82 (F := Ideal) (aQn m c) (aQr m c) (aKv m c) (aKp m c) (aG m c) i = outQr m c (i 0).val (i 1).val := by
  have h0 : (i 0).val < 4096 := (i 0).isLt
  have h1 : (i 1).val < 256 := (i 1).isLt
  rw [val_main_v82_apply, val_main_v81_apply]
  exact v80_entry m c H h4 _ (show ((i 0).val * 256 + (i 1).val) / 524288 = (i 0).val / 2048 by omega)
    (show ((i 0).val * 256 + (i 1).val) / 32 % 8 = (i 1).val / 32 by omega)
    (show ((i 0).val * 256 + (i 1).val) / 256 % 2048 = (i 0).val % 2048 by omega)
    (show ((i 0).val * 256 + (i 1).val) % 32 = (i 1).val % 32 by omega)

/-- The keys' half of a head's gradient: nothing over the values' columns. -/
theorem v89_entry (y : S2x8x2048x128.Idx) {b h j k : ℕ} (e0 : (y 0).val = b) (e1 : (y 1).val = h) (e2 : (y 2).val = j) (e3 : (y 3).val = k) :
    val_main_v89 (F := Ideal) (aQn m c) (aQr m c) (aKv m c) (aKp m c) (aG m c) y = if k < 64 then (att m c b).gkn h j k else 0 := by
  unfold val_main_v89
  split_ifs with hk
  · rw [pad_apply_of_inside _ _ _ _ _ pads_S2x8x2048x64_S2x8x2048x128_000_000_000_0640 h_S_ y
      (ix4 (y 0) (y 1) (y 2) ⟨(y 3).val, by omega⟩ : S2x8x2048x64.Idx) (fun a => match a with
        | ⟨0, _⟩ => (show (y 0).val = 0 + (y 0).val * 1 by omega)
        | ⟨1, _⟩ => (show (y 1).val = 0 + (y 1).val * 1 by omega)
        | ⟨2, _⟩ => (show (y 2).val = 0 + (y 2).val * 1 by omega)
        | ⟨3, _⟩ => (show (y 3).val = 0 + (y 3).val * 1 by omega))]
    exact v83_entry m c H h4 _ e0 e1 e2 e3
  · rw [pad_apply_of_not_inside _ _ _ _ _ pads_S2x8x2048x64_S2x8x2048x128_000_000_000_0640 h_S_ y 3
      (fun hin => absurd hin.2.2 (show ¬((y 3).val - 0) / 1 < 64 by omega)), val_main_cst_16_apply, zero_eq]

omit h4 in
/-- The values' half: nothing over the keys' columns. -/
theorem v61_entry (y : S2x8x2048x128.Idx) {b h j k : ℕ} (e0 : (y 0).val = b) (e1 : (y 1).val = h) (e2 : (y 2).val = j) (e3 : (y 3).val = k) :
    val_main_v61 (F := Ideal) (aQn m c) (aQr m c) (aKv m c) (aKp m c) (aG m c) y = if k < 64 then 0 else (att m c b).gv h j (k - 64) := by
  have h3 : (y 3).val < 128 := (y 3).isLt
  unfold val_main_v61
  split_ifs with hk
  · rw [pad_apply_of_not_inside _ _ _ _ _ pads_S2x8x2048x64_S2x8x2048x128_000_000_000_6400 h_S_ y 3
      (fun hin => absurd hin.1 (show ¬64 ≤ (y 3).val by omega)), val_main_cst_11_apply, zero_eq]
  · rw [pad_apply_of_inside _ _ _ _ _ pads_S2x8x2048x64_S2x8x2048x128_000_000_000_6400 h_S_ y
      (ix4 (y 0) (y 1) (y 2) ⟨(y 3).val - 64, by omega⟩ : S2x8x2048x64.Idx) (fun a => match a with
        | ⟨0, _⟩ => (show (y 0).val = 0 + (y 0).val * 1 by omega)
        | ⟨1, _⟩ => (show (y 1).val = 0 + (y 1).val * 1 by omega)
        | ⟨2, _⟩ => (show (y 2).val = 0 + (y 2).val * 1 by omega)
        | ⟨3, _⟩ => (show (y 3).val = 64 + ((y 3).val - 64) * 1 by omega)), val_main_v59_apply]
    exact v58_entry m c H _ e0 e1 (show (y 3).val - 64 = k - 64 by omega) e2

/-- The reference's gradient of the keys and values is the kernel's. -/
theorem ref_kv (i : S4096x1024.Idx) :
    val_main_v92 (F := Ideal) (aQn m c) (aQr m c) (aKv m c) (aKp m c) (aG m c) i = outKv m c (i 0).val (i 1).val := by
  have h0 : (i 0).val < 4096 := (i 0).isLt
  have h1 : (i 1).val < 1024 := (i 1).isLt
  have e0 : ((i 0).val * 1024 + (i 1).val) / 2097152 = (i 0).val / 2048 := by omega
  have e1 : ((i 0).val * 1024 + (i 1).val) / 128 % 8 = (i 1).val / 128 := by omega
  have e2 : ((i 0).val * 1024 + (i 1).val) / 1024 % 2048 = (i 0).val % 2048 := by omega
  have e3 : ((i 0).val * 1024 + (i 1).val) % 128 = (i 1).val % 128 := by omega
  rw [val_main_v92_apply, val_main_v63_apply, val_main_v62_apply, val_main_v91_apply, val_main_v90_apply,
    v61_entry m c H (idx_main_v62 (idx_main_v63 i)) e0 e1 e2 e3, v89_entry m c H h4 (idx_main_v90 (idx_main_v91 i)) e0 e1 e2 e3]
  unfold outKv Att.gkv
  split_ifs
  · exact zero_add _
  · exact add_zero _

/-- The reference's gradient of the keys' second part is the kernel's. -/
theorem ref_kp (i : S4096x128.Idx) :
    val_main_v88 (F := Ideal) (aQn m c) (aQr m c) (aKv m c) (aKp m c) (aG m c) i = outKp m c (i 0).val (i 1).val := by
  have h0 : (i 0).val < 4096 := (i 0).isLt
  have h1 : (i 1).val < 128 := (i 1).isLt
  have e0 : ((i 0).val * 128 + (i 1).val) / 262144 = (i 0).val / 2048 := by omega
  have e1 : ((i 0).val * 128 + (i 1).val) / 128 % 2048 = (i 0).val % 2048 := by omega
  have e2 : ((i 0).val * 128 + (i 1).val) % 128 = (i 1).val := by omega
  rw [val_main_v88_apply]
  unfold val_main_v87 outKp
  split_ifs with hk
  · rw [pad_apply_of_inside _ _ _ _ _ pads_S2x2048x32_S2x2048x128_000_000_0960 h_S_ (idx_main_v88 i)
      (ix3 ⟨(i 0).val / 2048, by omega⟩ ⟨(i 0).val % 2048, by omega⟩ ⟨(i 1).val, hk⟩ : S2x2048x32.Idx) (fun a => match a with
        | ⟨0, _⟩ => (show ((i 0).val * 128 + (i 1).val) / 262144 = 0 + (i 0).val / 2048 * 1 by omega)
        | ⟨1, _⟩ => (show ((i 0).val * 128 + (i 1).val) / 128 % 2048 = 0 + (i 0).val % 2048 * 1 by omega)
        | ⟨2, _⟩ => (show ((i 0).val * 128 + (i 1).val) % 128 = 0 + (i 1).val * 1 by omega))]
    exact v79_entry m c H h4 _ _ _
  · rw [pad_apply_of_not_inside _ _ _ _ _ pads_S2x2048x32_S2x2048x128_000_000_0960 h_S_ (idx_main_v88 i) 2
      (fun hin => absurd hin.2.2 (show ¬(((i 0).val * 128 + (i 1).val) % 128 - 0) / 1 < 32 by omega)), val_main_cst_15_apply, zero_eq]

end Cert.Mla

end
-- ==== Proof.Mla.Final.lean ====
/- The gradient of the latent attention: over finite arguments the kernel ends with the reference's four arrays. -/
module

public import proofs.«01_k».proof.Proof.Mla.Results
public import proofs.«01_k».proof.Proof.Gen.ReferenceIdeal.Run

@[expose] public section

set_option maxRecDepth 16384

noncomputable section

namespace Cert.Mla

open Cert.KernelIdeal Cert.KernelIdeal.Gen Cert.Mm Idealize.ShloMosaic Idealize.ShloMosaic.TcCoe Idealize.SL.Sem

/-- A function of five arguments equal to five others. -/
theorem of_five {α β γ δ ε ζ : Type} (f : α → β → γ → δ → ε → ζ) {a a' : α} {b b' : β} {c c' : γ} {d d' : δ} {e e' : ε} (ha : a = a') (hb : b = b')
    (hc : c = c') (hd : d = d') (he : e = e') : f a b c d e = f a' b' c' d' e' := by
  subst ha hb hc hd he
  rfl

variable (m : (ℓ : Loc nD τ sig) → Buf (Elt Ideal) ℓ)
  (m' : (ℓ : Loc ReferenceIdeal.nD ReferenceIdeal.τ ReferenceIdeal.sig) → Buf (Elt Ideal) ℓ) (c : Dev nD)

/-- The reference starts from the kernel's arguments. -/
structure Same : Prop where
  a0 : (m' ((c.tc : Thread ReferenceIdeal.nD ReferenceIdeal.τ).loc ReferenceIdeal.main_arg0) : S4096x512.Idx → EReal) = aQn m c
  a1 : (m' ((c.tc : Thread ReferenceIdeal.nD ReferenceIdeal.τ).loc ReferenceIdeal.main_arg1) : S4096x256.Idx → EReal) = aQr m c
  a2 : (m' ((c.tc : Thread ReferenceIdeal.nD ReferenceIdeal.τ).loc ReferenceIdeal.main_arg2) : S4096x1024.Idx → EReal) = aKv m c
  a3 : (m' ((c.tc : Thread ReferenceIdeal.nD ReferenceIdeal.τ).loc ReferenceIdeal.main_arg3) : S4096x128.Idx → EReal) = aKp m c
  a4 : (m' ((c.tc : Thread ReferenceIdeal.nD ReferenceIdeal.τ).loc ReferenceIdeal.main_arg4) : S4096x512.Idx → EReal) = aG m c

variable {m m' c}

/-- The reference's gradient of the queries' first part. -/
theorem res_qn (h : Same m m' c) (H : Reals (aQn m c) (aQr m c) (aKv m c) (aKp m c)) (h4 : AllReal (aG m c)) :
    (ReferenceIdeal.Value.res_main_v86 m' c : S4096x512.Idx → EReal) = fun i => outQn m c (i 0).val (i 1).val :=
  (ReferenceIdeal.Read.val_main_v86_eq m' c).trans
    ((of_five (ReferenceIdeal.Read.val_main_v86 (F := Ideal)) h.a0 h.a1 h.a2 h.a3 h.a4).trans (funext fun i => ref_qn m c H h4 i))

/-- The reference's gradient of the queries' rotated part. -/
theorem res_qr (h : Same m m' c) (H : Reals (aQn m c) (aQr m c) (aKv m c) (aKp m c)) (h4 : AllReal (aG m c)) :
    (ReferenceIdeal.Value.res_main_v82 m' c : S4096x256.Idx → EReal) = fun i => outQr m c (i 0).val (i 1).val :=
  (ReferenceIdeal.Read.val_main_v82_eq m' c).trans
    ((of_five (ReferenceIdeal.Read.val_main_v82 (F := Ideal)) h.a0 h.a1 h.a2 h.a3 h.a4).trans (funext fun i => ref_qr m c H h4 i))

/-- The reference's gradient of the keys and values. -/
theorem res_kv (h : Same m m' c) (H : Reals (aQn m c) (aQr m c) (aKv m c) (aKp m c)) (h4 : AllReal (aG m c)) :
    (ReferenceIdeal.Value.res_main_v92 m' c : S4096x1024.Idx → EReal) = fun i => outKv m c (i 0).val (i 1).val :=
  (ReferenceIdeal.Read.val_main_v92_eq m' c).trans
    ((of_five (ReferenceIdeal.Read.val_main_v92 (F := Ideal)) h.a0 h.a1 h.a2 h.a3 h.a4).trans (funext fun i => ref_kv m c H h4 i))

/-- The reference's gradient of the rotated keys. -/
theorem res_kp (h : Same m m' c) (H : Reals (aQn m c) (aQr m c) (aKv m c) (aKp m c)) (h4 : AllReal (aG m c)) :
    (ReferenceIdeal.Value.res_main_v88 m' c : S4096x128.Idx → EReal) = fun i => outKp m c (i 0).val (i 1).val :=
  (ReferenceIdeal.Read.val_main_v88_eq m' c).trans
    ((of_five (ReferenceIdeal.Read.val_main_v88 (F := Ideal)) h.a0 h.a1 h.a2 h.a3 h.a4).trans (funext fun i => ref_kp m c H h4 i))

/-- Whenever the five arguments are finite, the kernel's gradients of the queries (both parts), of the keys and values
    and of the rotated keys are the reference's. -/
theorem algebraic [Cert.Pre_finite.Facts] : Cert.algebraic_KernelIdeal_ReferenceIdeal_pre_finite := by
  intro m g m' g' hpre h
  refine ⟨fun c => (dats m 0 c).arrAt 7 cfg0.N, fun c => (dats m 0 c).arrAt 8 cfg0.N, fun c => (dats m 0 c).arrAt 9 cfg0.N,
    fun c => (dats m 0 c).arrAt 10 cfg0.N, Value.run_blocks m g, ?_⟩
  refine (θ_run _ _ _).mono (fun r hr c => ?_) (ReferenceIdeal.Value.run m' g')
  obtain ⟨f0, f1, f2, f3, f4⟩ := args_real m c hpre
  have H : Reals (aQn m c) (aQr m c) (aKv m c) (aKp m c) := ⟨f0, f1, f2, f3⟩
  have S : Same m m' c := ⟨(h c).1, (h c).2.1, (h c).2.2.1, (h c).2.2.2.1, (h c).2.2.2.2⟩
  exact ⟨(hr c).1.trans ((res_qn S H f4).trans (finalQn m c).symm), (hr c).2.1.trans ((res_qr S H f4).trans (finalQr m c).symm),
    (hr c).2.2.1.trans ((res_kv S H f4).trans (finalKv m c).symm), (hr c).2.2.2.1.trans ((res_kp S H f4).trans (finalKp m c).symm),
    (hr c).2.2.2.2⟩

end Cert.Mla

end
-- ==== Proof.Step.Chip.lean ====
/- What the sums of the four chips' parts share, at whatever shape: an array's entry at plain numbers, the sum of the
   parts, and what the precondition and the mask say of the core's number. -/
module

public import Idealize.ShloMosaic.Lib.Pipeline.Value
public import Idealize.ShloMosaic.Lib.Pointwise
public import Idealize.ShloMosaic.Lib.VecWindow

@[expose] public section

noncomputable section

namespace Cert.Step.Chip

open Idealize.ShloMosaic

/-- An array's entry at three plain numbers. -/
def at3 {n a b : ℕ} (f : (⟨3, ![n, a, b]⟩ : Shape).Idx → EReal) (k r s : ℕ) : EReal :=
  if h : k < n ∧ r < a ∧ s < b then f (fun | ⟨0, _⟩ => ⟨k, h.1⟩ | ⟨1, _⟩ => ⟨r, h.2.1⟩ | ⟨2, _⟩ => ⟨s, h.2.2⟩) else 0

/-- An entry is the entry at its coordinates. -/
theorem at3_val {n a b : ℕ} (f : (⟨3, ![n, a, b]⟩ : Shape).Idx → EReal) (i : (⟨3, ![n, a, b]⟩ : Shape).Idx) (k r s : ℕ)
    (h0 : (i 0).val = k) (h1 : (i 1).val = r) (h2 : (i 2).val = s) : f i = at3 f k r s := by
  subst h0 h1 h2
  unfold at3
  rw [dif_pos ⟨(i 0).isLt, (i 1).isLt, (i 2).isLt⟩]
  congr 1
  funext a
  match a with
  | ⟨0, _⟩ => rfl
  | ⟨1, _⟩ => rfl
  | ⟨2, _⟩ => rfl

/-- The sum of the four parts at a row and a column, in the kernel's order. -/
def total {a b : ℕ} (f : (⟨3, ![4, a, b]⟩ : Shape).Idx → EReal) (r s : ℕ) : EReal :=
  at3 f 0 r s + at3 f 1 r s + at3 f 2 r s + at3 f 3 r s

/-- The same as one sum over the parts, begun at zero. -/
theorem sum_eq {a b : ℕ} (f : (⟨3, ![4, a, b]⟩ : Shape).Idx → EReal) (r s : ℕ) (z : EReal) (hz : z = 0) (g : Fin 4 → EReal)
    (hg : ∀ k : Fin 4, g k = at3 f k.val r s) : z + ∑ k : Fin 4, g k = total f r s := by
  rw [hz, zero_add, Fin.sum_univ_four, hg, hg, hg, hg]
  rfl

/-- A block at row `t` of the half `w` lies inside the array of both halves. -/
theorem inside {w t a b c : ℕ} (hw : w < 2) (ht : (t + 1) * b ≤ a) (k : Fin 3) :
    ((![w, t, 0] : Fin 3 → ℕ) k + 1) * (![1, b, c] : Fin 3 → ℕ) k ≤ (![2, a, c] : Fin 3 → ℕ) k := by
  match k with
  | ⟨0, _⟩ => show (w + 1) * 1 ≤ 2; omega
  | ⟨1, _⟩ => exact ht
  | ⟨2, _⟩ => show (0 + 1) * c ≤ c; omega

/-- An entry of the half `w` lies in the block its row is in. -/
theorem held {w t a b c : ℕ} (p : Fin 3 → ℕ) (hp : p = ![w, t, 0]) (i : (⟨3, ![2, a, c]⟩ : Shape).Idx) (h0 : (i 0).val = w)
    (h1 : t * b ≤ (i 1).val ∧ (i 1).val < t * b + b) (k : Fin 3) :
    p k * (![1, b, c] : Fin 3 → ℕ) k ≤ (i k).val ∧ (i k).val < p k * (![1, b, c] : Fin 3 → ℕ) k + (![1, b, c] : Fin 3 → ℕ) k := by
  subst hp
  match k with
  | ⟨0, _⟩ => show w * 1 ≤ (i 0).val ∧ (i 0).val < w * 1 + 1; omega
  | ⟨1, _⟩ => exact h1
  | ⟨2, _⟩ =>
    have h2 : (i 2).val < c := (i 2).isLt
    show 0 * c ≤ (i 2).val ∧ (i 2).val < 0 * c + c
    omega

/-- An array of one word has one entry. -/
theorem only (f : (⟨1, ![1]⟩ : Shape).Idx → BitVec 32) (i j : (⟨1, ![1]⟩ : Shape).Idx) : f i = f j := by
  refine congrArg f (funext fun a => ?_)
  match a with
  | ⟨0, _⟩ =>
    have hi : (i 0).val < 1 := (i 0).isLt
    have hj : (j 0).val < 1 := (j 0).isLt
    exact Fin.ext ((Nat.lt_one_iff.mp hi).trans (Nat.lt_one_iff.mp hj).symm)

/-- The precondition on a word: the core's number is zero or one. -/
theorem core_lt (w : BitVec 32) (h : IntOp.andi (IntOp.cmpi .sge w 0#32) (IntOp.cmpi .slt w 2#32) = 1#1) : w.toNat < 2 := by
  have both : ∀ p q : Bool, BitVec.ofBool p &&& BitVec.ofBool q = 1#1 → p = true ∧ q = true := by decide
  obtain ⟨a, b⟩ := both ((0#32).sle w) (w.slt 2#32) h
  rw [BitVec.sle_iff_toInt_le, (by decide : (0#32).toInt = 0)] at a
  rw [BitVec.slt_iff_toInt_lt, (by decide : (2#32).toInt = 2)] at b
  rw [BitVec.toInt_eq_toNat_cond] at a b
  split at a <;> omega

/-- The mask at an entry: its half is the core's number. -/
theorem half_eq (n : ℕ) (hn : n < 2) (w : BitVec 32) (h : IntOp.cmpi .eq (BitVec.ofNat 32 n) w = 1#1) : n = w.toNat := by
  have one : ∀ p : Bool, BitVec.ofBool p = 1#1 → p = true := by decide
  have e : BitVec.ofNat 32 n = w := eq_of_beq (one _ h)
  rw [← e, BitVec.toNat_ofNat]
  omega

end Cert.Step.Chip

end
-- ==== Proof.Step.ChipL0In.lean ====
/- The sum of the four chips' parts of a shard of l0_w_in, at the half of one core. -/
module

public import proofs.«01_k».proof.Proof.Gen.ChipL0In.Frame
public import proofs.«01_k».proof.Proof.Gen.ChipL0InIdeal.Frame
public import proofs.«01_k».proof.Proof.Gen.ChipL0InRefIdeal.Run
public import proofs.«01_k».proof.Proof.Gen.ChipL0InRefIdeal.Read
public import proofs.«01_k».proof.Proof.Gen.On_own_half_ChipL0InIdeal
public import proofs.«01_k».proof.Proof.Step.Chip
public import proofs.«01_k».proof.Defs
import all proofs.«01_k».proof.Proof.Gen.ChipL0InIdeal.Frame

@[expose] public section

set_option maxRecDepth 16384

noncomputable section

namespace Cert.Step.ChipL0In

open Idealize.ShloMosaic Idealize.ShloMosaic.TcCoe Idealize.SL.Sem Cert.Step.Chip

/-- The precondition gives the kernel's side condition: the block a core writes is one of the two halves'. -/
theorem fits [Cert.Pre_a_core_ChipL0In.Facts] (m : (ℓ : Loc ChipL0In.nD ChipL0In.τ ChipL0In.sig) → Buf (Elt Bits) ℓ) (h : Pre_ChipL0In m) : ChipL0In.Gen.Ok m := by
  intro i
  have hw : ((ChipL0In.Gen.tbl m).at 0 (Rect.unit (s := ChipL0In.S1) ![0] ChipL0In.S1.size ChipL0In.Gen.inb_S1_S1_0) ChipL0In.Gen.numel1_S1).toNat < 2 :=
    lt_of_eq_of_lt (congrArg BitVec.toNat (only (m (((0 : Dev ChipL0In.nD) : Thread ChipL0In.nD ChipL0In.τ).loc ChipL0In.main_arg1)) _ _)) (core_lt _ (congrFun (h 0) fun a => a.elim0))
  have hi : (i 0).val < 2 := (i 0).isLt
  have e : (BitVec.ofNat 32 (i 0).val).toNat = (i 0).val := by
    rw [BitVec.toNat_ofNat]
    omega
  refine ⟨fun k => ?_, .inl rfl⟩
  show (![_, (BitVec.ofNat 32 (i 0).val).toNat, 0] k + 1) * _ ≤ _
  rw [e]
  exact inside (a := 512) (b := 256) (c := 834) hw (by omega) k

open Cert.ChipL0InIdeal Cert.ChipL0InIdeal.Gen

variable (m : (ℓ : Loc nD τ sig) → Buf (Elt Ideal) ℓ) (c : Dev nD)

/-- The parts of the four chips. -/
abbrev parts : S4x512x834.Idx → EReal := m ((c : Thread nD τ).loc main_arg0)

/-- The core's number. -/
abbrev core : ℕ := ((tbl m).at 0 (Rect.unit (s := S1) ![0] S1.size inb_S1_S1_0) numel1_S1).toNat

theorem core_two [Cert.Pre_a_core_ChipL0In.Facts] (h : Pre_ChipL0InIdeal m) : core m < 2 :=
  lt_of_eq_of_lt (congrArg BitVec.toNat (only (m (((0 : Dev nD) : Thread nD τ).loc main_arg1)) _ _)) (core_lt _ (congrFun (h 0) fun a => a.elim0))

/-- An entry the mask selects is of the core's half. -/
theorem selected (i : S2x512x834.Idx) (h : Cert.On_own_half_ChipL0InIdeal.fn (F := Ideal) (m ((c : Thread nD τ).loc main_arg0)) (m ((c : Thread nD τ).loc main_arg1)) i = 1#1) :
    (i 0).val = core m := by
  obtain rfl : c = 0 := Subsingleton.elim _ _
  exact (half_eq (i 0).val (i 0).isLt _ h).trans (congrArg BitVec.toNat (only (m (((0 : Dev nD) : Thread nD τ).loc main_arg1)) _ _))

/-- The block a point of the grid writes. -/
theorem idx (i : grid0.Coords) : cc0_transform_1 inb_S1_S1_0 numel1_S1 (tbl m) i = ![core m, (i 0).val, 0] := by
  have hi : (i 0).val < 2 := (i 0).isLt
  have e : (BitVec.ofNat 32 (i 0).val).toNat = (i 0).val := by
    rw [BitVec.toNat_ofNat]
    omega
  unfold cc0_transform_1
  dsimp only
  rw [e]
  rfl

theorem ok (hw : core m < 2) : Ok m := by
  intro i
  have hi : (i 0).val < 2 := (i 0).isLt
  refine ⟨fun k => ?_, .inl rfl⟩
  rw [idx]
  exact inside (a := 512) (b := 256) (c := 834) hw (by omega) k

variable (hO : Ok m)

theorem place (t : Fin (cfgM m hO).N) : ((cfgM m hO).win 1).index t = ![core m, t.val, 0] := by
  refine (idx m (grid0.coords t)).trans ?_
  rw [(by decide +kernel : ∀ t : Fin grid0.N, (grid0.coords t 0).val = t.val) t]

/-- Every point's block is written back: the next point's is another one. -/
theorem flushes (t : Fin (cfgM m hO).N) : ((cfgM m hO).win 1).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have := congrFun e 1
    simp at this

theorem pay (v0 v1 v2 v3 : S1x256x834.Idx → EReal) (y : S1x256x834.Idx) : k0_pay1 (F := Ideal) v0 v1 v2 v3 y = v0 y + v1 y + v2 y + v3 y := by
  unfold k0_pay1
  pointwise

/-- The parts' block at a point, at an entry. -/
theorem block (t : Fin (cfgM m hO).N) (k r s : ℕ) (i : S4x256x834.Idx) (h0 : (i 0).val = k) (h1 : (i 1).val = r) (h2 : (i 2).val = s) :
    iblk m hO c 0 t i = at3 (parts m c) k (t.val * 256 + r) s := by
  show V m c main_arg0 _ = _
  have e : cc0_transform_0 (grid0.coords t) = ![0, t.val, 0] :=
    (by decide +kernel : ∀ t : Fin grid0.N, cc0_transform_0 (grid0.coords t) = ![0, t.val, 0]) t
  refine at3_val (parts m c) _ _ _ _ ?_ ?_ ?_
  · show cc0_transform_0 (grid0.coords t) 0 * 4 + 1 * (i 0).val = k
    rw [e]; simp [h0]
  · show cc0_transform_0 (grid0.coords t) 1 * 256 + 1 * (i 1).val = _
    rw [e]; simp [h1]
  · show cc0_transform_0 (grid0.coords t) 2 * 834 + 1 * (i 2).val = _
    rw [e]; simp [h2]

/-- The sum of the parts as an array of two halves. -/
abbrev sums : S2x512x834.Idx → EReal := fun i => total (parts m c) (i 1).val (i 2).val

/-- What a point writes back: its block of the sum. -/
theorem written (t : Fin (cfgM m hO).N) :
    (dats m hO 0 c).flushed 1 t = (((cfgM m hO).win 1).blk t).view.read (Elt Ideal) (sums m c) := by
  show (((cfgM m hO).win 1).cut (grid0.coords t) ((dats m hO 0 c).after 1 t)) = _
  rw [after0_1]
  unfold outsAt0 out0_A_1 kernelRun0_A
  dsimp only
  refine (View.read_writes_full VO0_1 _ inb_S1x256x834_S1x256x834_0_0_0 _ _).trans ?_
  sl_unfold_words
  funext y
  have y0 : (y 0).val = 0 := Nat.lt_one_iff.mp (y 0).isLt
  have hR : ∀ p : Fin 3 → ℕ, p = ![core m, t.val, 0] →
      total (parts m c) (p 1 * 256 + 1 * (y 1).val) (p 2 * 834 + 1 * (y 2).val) = total (parts m c) (t.val * 256 + (y 1).val) (y 2).val := by
    rintro p rfl
    simp
  refine Eq.trans ?_ (hR _ (place m hO t)).symm
  refine (pay _ _ _ _ y).trans ?_
  unfold total
  refine congrArg₂ (· + ·) (congrArg₂ (· + ·) (congrArg₂ (· + ·) ?_ ?_) ?_) ?_
  all_goals
    refine (congrFun (Memref.IsWhole.read_unread _ _) _).trans ?_
    refine block m c hO t _ (y 1).val (y 2).val _ ?_ (by show 0 + 1 * (y 1).val = _; omega) (by show 0 + 1 * (y 2).val = _; omega)
  · show 0 + 1 * (y 0).val = _; omega
  · show 1 + 1 * (y 0).val = _; omega
  · show 2 + 1 * (y 0).val = _; omega
  · show 3 + 1 * (y 0).val = _; omega

/-- The core's half of the kernel's array holds the sum. -/
theorem final (i : S2x512x834.Idx) (h0 : (i 0).val = core m) : (dats m hO 0 c).arrAt 1 (cfgM m hO).N i = sums m c i := by
  have hi1 : (i 1).val < 512 := (i 1).isLt
  have hN : (cfgM m hO).N = 2 := by show grid0.N = 2; decide
  have ht : (i 1).val / 256 < (cfgM m hO).N := by rw [hN]; omega
  refine (dats m hO 0 c).arrAt_apply_of_mem 1 (sums m c) (fun t _ => written m c hO t) (cfgM m hO).N ⟨(i 1).val / 256, ht⟩ i ht (flushes m hO _) ?_
  refine Eq.mpr (congrArg (i ∈ ·) (View.set_slice_whole main_v0 _)) ?_
  exact Rect.mem_set_unit.mpr fun k => held (t := (i 1).val / 256) (b := 256) _ (place m hO ⟨(i 1).val / 256, ht⟩) i h0 (by omega) k

/-- The reference's array holds it in both halves. -/
theorem reference (i : S2x512x834.Idx) : ChipL0InRefIdeal.Read.val_main_v2 (F := Ideal) (parts m c) i = sums m c i := by
  rw [ChipL0InRefIdeal.Read.val_main_v2_apply, ChipL0InRefIdeal.Read.val_main_v1_apply]
  exact sum_eq (parts m c) _ _ _ (Ideal.ofBits_zero .f32) _ fun k => at3_val (parts m c) _ _ _ _ rfl rfl rfl

/-- On the core's half the kernel ends with the reference's array. -/
theorem algebraic [Cert.Pre_a_core_ChipL0In.Facts] : Cert.algebraic_ChipL0InIdeal_ChipL0InRefIdeal_on_own_half_ChipL0InIdeal := by
  intro m g m' g' hp h
  have hO := ok m (core_two m hp)
  refine ⟨fun c => (dats m hO 0 c).arrAt 1 (cfgM m hO).N, ?_, ?_⟩
  · exact (θ_run _ _ _).mono (fun r hr c => ⟨fun i _ => congrFun ((hr.1 c).1 1) i, hr.2 c⟩) (θ_run_and (run_main m g hO) (unchanged m g hO))
  · refine (θ_run _ _ _).mono (fun r hr c => ⟨fun i hi => ?_, (hr c).2⟩) (ChipL0InRefIdeal.Value.run m' g')
    refine Eq.trans ?_ (final m c hO i (selected m c i hi)).symm
    rw [(hr c).1, ChipL0InRefIdeal.Read.val_main_v2_eq, (h c).1]
    exact reference m c i

end Cert.Step.ChipL0In

end
-- ==== Proof.Step.ChipL1In.lean ====
/- The sum of the four chips' parts of a shard of l1_w_in, at the half of one core. -/
module

public import proofs.«01_k».proof.Proof.Gen.ChipL1In.Frame
public import proofs.«01_k».proof.Proof.Gen.ChipL1InIdeal.Frame
public import proofs.«01_k».proof.Proof.Gen.ChipL1InRefIdeal.Run
public import proofs.«01_k».proof.Proof.Gen.ChipL1InRefIdeal.Read
public import proofs.«01_k».proof.Proof.Gen.On_own_half_ChipL1InIdeal
public import proofs.«01_k».proof.Proof.Step.Chip
public import proofs.«01_k».proof.Defs
import all proofs.«01_k».proof.Proof.Gen.ChipL1InIdeal.Frame

@[expose] public section

set_option maxRecDepth 16384

noncomputable section

namespace Cert.Step.ChipL1In

open Idealize.ShloMosaic Idealize.ShloMosaic.TcCoe Idealize.SL.Sem Cert.Step.Chip

/-- The precondition gives the kernel's side condition: the block a core writes is one of the two halves'. -/
theorem fits [Cert.Pre_a_core_ChipL1In.Facts] (m : (ℓ : Loc ChipL1In.nD ChipL1In.τ ChipL1In.sig) → Buf (Elt Bits) ℓ) (h : Pre_ChipL1In m) : ChipL1In.Gen.Ok m := by
  intro i
  have hw : ((ChipL1In.Gen.tbl m).at 0 (Rect.unit (s := ChipL1In.S1) ![0] ChipL1In.S1.size ChipL1In.Gen.inb_S1_S1_0) ChipL1In.Gen.numel1_S1).toNat < 2 :=
    lt_of_eq_of_lt (congrArg BitVec.toNat (only (m (((0 : Dev ChipL1In.nD) : Thread ChipL1In.nD ChipL1In.τ).loc ChipL1In.main_arg1)) _ _)) (core_lt _ (congrFun (h 0) fun a => a.elim0))
  have hi : (i 0).val < 1 := (i 0).isLt
  have e : (BitVec.ofNat 32 (i 0).val).toNat = (i 0).val := by
    rw [BitVec.toNat_ofNat]
    omega
  refine ⟨fun k => ?_, .inl rfl⟩
  show (![_, (BitVec.ofNat 32 (i 0).val).toNat, 0] k + 1) * _ ≤ _
  rw [e]
  exact inside (a := 512) (b := 512) (c := 488) hw (by omega) k

open Cert.ChipL1InIdeal Cert.ChipL1InIdeal.Gen

variable (m : (ℓ : Loc nD τ sig) → Buf (Elt Ideal) ℓ) (c : Dev nD)

/-- The parts of the four chips. -/
abbrev parts : S4x512x488.Idx → EReal := m ((c : Thread nD τ).loc main_arg0)

/-- The core's number. -/
abbrev core : ℕ := ((tbl m).at 0 (Rect.unit (s := S1) ![0] S1.size inb_S1_S1_0) numel1_S1).toNat

theorem core_two [Cert.Pre_a_core_ChipL1In.Facts] (h : Pre_ChipL1InIdeal m) : core m < 2 :=
  lt_of_eq_of_lt (congrArg BitVec.toNat (only (m (((0 : Dev nD) : Thread nD τ).loc main_arg1)) _ _)) (core_lt _ (congrFun (h 0) fun a => a.elim0))

/-- An entry the mask selects is of the core's half. -/
theorem selected (i : S2x512x488.Idx) (h : Cert.On_own_half_ChipL1InIdeal.fn (F := Ideal) (m ((c : Thread nD τ).loc main_arg0)) (m ((c : Thread nD τ).loc main_arg1)) i = 1#1) :
    (i 0).val = core m := by
  obtain rfl : c = 0 := Subsingleton.elim _ _
  exact (half_eq (i 0).val (i 0).isLt _ h).trans (congrArg BitVec.toNat (only (m (((0 : Dev nD) : Thread nD τ).loc main_arg1)) _ _))

/-- The block a point of the grid writes. -/
theorem idx (i : grid0.Coords) : cc0_transform_1 inb_S1_S1_0 numel1_S1 (tbl m) i = ![core m, (i 0).val, 0] := by
  have hi : (i 0).val < 1 := (i 0).isLt
  have e : (BitVec.ofNat 32 (i 0).val).toNat = (i 0).val := by
    rw [BitVec.toNat_ofNat]
    omega
  unfold cc0_transform_1
  dsimp only
  rw [e]
  rfl

theorem ok (hw : core m < 2) : Ok m := by
  intro i
  have hi : (i 0).val < 1 := (i 0).isLt
  refine ⟨fun k => ?_, .inl rfl⟩
  rw [idx]
  exact inside (a := 512) (b := 512) (c := 488) hw (by omega) k

variable (hO : Ok m)

theorem place (t : Fin (cfgM m hO).N) : ((cfgM m hO).win 1).index t = ![core m, t.val, 0] := by
  refine (idx m (grid0.coords t)).trans ?_
  rw [(by decide +kernel : ∀ t : Fin grid0.N, (grid0.coords t 0).val = t.val) t]

/-- Every point's block is written back: the next point's is another one. -/
theorem flushes (t : Fin (cfgM m hO).N) : ((cfgM m hO).win 1).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have := congrFun e 1
    simp at this

theorem pay (v0 v1 v2 v3 : S1x512x488.Idx → EReal) (y : S1x512x488.Idx) : k0_pay1 (F := Ideal) v0 v1 v2 v3 y = v0 y + v1 y + v2 y + v3 y := by
  unfold k0_pay1
  pointwise

/-- The parts' block at a point, at an entry. -/
theorem block (t : Fin (cfgM m hO).N) (k r s : ℕ) (i : S4x512x488.Idx) (h0 : (i 0).val = k) (h1 : (i 1).val = r) (h2 : (i 2).val = s) :
    iblk m hO c 0 t i = at3 (parts m c) k (t.val * 512 + r) s := by
  show V m c main_arg0 _ = _
  have e : cc0_transform_0 (grid0.coords t) = ![0, t.val, 0] :=
    (by decide +kernel : ∀ t : Fin grid0.N, cc0_transform_0 (grid0.coords t) = ![0, t.val, 0]) t
  refine at3_val (parts m c) _ _ _ _ ?_ ?_ ?_
  · show cc0_transform_0 (grid0.coords t) 0 * 4 + 1 * (i 0).val = k
    rw [e]; simp [h0]
  · show cc0_transform_0 (grid0.coords t) 1 * 512 + 1 * (i 1).val = _
    rw [e]; simp [h1]
  · show cc0_transform_0 (grid0.coords t) 2 * 488 + 1 * (i 2).val = _
    rw [e]; simp [h2]

/-- The sum of the parts as an array of two halves. -/
abbrev sums : S2x512x488.Idx → EReal := fun i => total (parts m c) (i 1).val (i 2).val

/-- What a point writes back: its block of the sum. -/
theorem written (t : Fin (cfgM m hO).N) :
    (dats m hO 0 c).flushed 1 t = (((cfgM m hO).win 1).blk t).view.read (Elt Ideal) (sums m c) := by
  show (((cfgM m hO).win 1).cut (grid0.coords t) ((dats m hO 0 c).after 1 t)) = _
  rw [after0_1]
  unfold outsAt0 out0_A_1 kernelRun0_A
  dsimp only
  refine (View.read_writes_full VO0_1 _ inb_S1x512x488_S1x512x488_0_0_0 _ _).trans ?_
  sl_unfold_words
  funext y
  have y0 : (y 0).val = 0 := Nat.lt_one_iff.mp (y 0).isLt
  have hR : ∀ p : Fin 3 → ℕ, p = ![core m, t.val, 0] →
      total (parts m c) (p 1 * 512 + 1 * (y 1).val) (p 2 * 488 + 1 * (y 2).val) = total (parts m c) (t.val * 512 + (y 1).val) (y 2).val := by
    rintro p rfl
    simp
  refine Eq.trans ?_ (hR _ (place m hO t)).symm
  refine (pay _ _ _ _ y).trans ?_
  unfold total
  refine congrArg₂ (· + ·) (congrArg₂ (· + ·) (congrArg₂ (· + ·) ?_ ?_) ?_) ?_
  all_goals
    refine (congrFun (Memref.IsWhole.read_unread _ _) _).trans ?_
    refine block m c hO t _ (y 1).val (y 2).val _ ?_ (by show 0 + 1 * (y 1).val = _; omega) (by show 0 + 1 * (y 2).val = _; omega)
  · show 0 + 1 * (y 0).val = _; omega
  · show 1 + 1 * (y 0).val = _; omega
  · show 2 + 1 * (y 0).val = _; omega
  · show 3 + 1 * (y 0).val = _; omega

/-- The core's half of the kernel's array holds the sum. -/
theorem final (i : S2x512x488.Idx) (h0 : (i 0).val = core m) : (dats m hO 0 c).arrAt 1 (cfgM m hO).N i = sums m c i := by
  have hi1 : (i 1).val < 512 := (i 1).isLt
  have hN : (cfgM m hO).N = 1 := by show grid0.N = 1; decide
  have ht : (i 1).val / 512 < (cfgM m hO).N := by rw [hN]; omega
  refine (dats m hO 0 c).arrAt_apply_of_mem 1 (sums m c) (fun t _ => written m c hO t) (cfgM m hO).N ⟨(i 1).val / 512, ht⟩ i ht (flushes m hO _) ?_
  refine Eq.mpr (congrArg (i ∈ ·) (View.set_slice_whole main_v0 _)) ?_
  exact Rect.mem_set_unit.mpr fun k => held (t := (i 1).val / 512) (b := 512) _ (place m hO ⟨(i 1).val / 512, ht⟩) i h0 (by omega) k

/-- The reference's array holds it in both halves. -/
theorem reference (i : S2x512x488.Idx) : ChipL1InRefIdeal.Read.val_main_v2 (F := Ideal) (parts m c) i = sums m c i := by
  rw [ChipL1InRefIdeal.Read.val_main_v2_apply, ChipL1InRefIdeal.Read.val_main_v1_apply]
  exact sum_eq (parts m c) _ _ _ (Ideal.ofBits_zero .f32) _ fun k => at3_val (parts m c) _ _ _ _ rfl rfl rfl

/-- On the core's half the kernel ends with the reference's array. -/
theorem algebraic [Cert.Pre_a_core_ChipL1In.Facts] : Cert.algebraic_ChipL1InIdeal_ChipL1InRefIdeal_on_own_half_ChipL1InIdeal := by
  intro m g m' g' hp h
  have hO := ok m (core_two m hp)
  refine ⟨fun c => (dats m hO 0 c).arrAt 1 (cfgM m hO).N, ?_, ?_⟩
  · exact (θ_run _ _ _).mono (fun r hr c => ⟨fun i _ => congrFun ((hr.1 c).1 1) i, hr.2 c⟩) (θ_run_and (run_main m g hO) (unchanged m g hO))
  · refine (θ_run _ _ _).mono (fun r hr c => ⟨fun i hi => ?_, (hr c).2⟩) (ChipL1InRefIdeal.Value.run m' g')
    refine Eq.trans ?_ (final m c hO i (selected m c i hi)).symm
    rw [(hr c).1, ChipL1InRefIdeal.Read.val_main_v2_eq, (h c).1]
    exact reference m c i

end Cert.Step.ChipL1In

end
-- ==== Proof.Step.ChipUp.lean ====
/- The sum of the four chips' parts of a shard of a channel mixer's first weight, at the half of one core. -/
module

public import proofs.«01_k».proof.Proof.Gen.ChipUp.Frame
public import proofs.«01_k».proof.Proof.Gen.ChipUpIdeal.Frame
public import proofs.«01_k».proof.Proof.Gen.ChipUpRefIdeal.Run
public import proofs.«01_k».proof.Proof.Gen.ChipUpRefIdeal.Read
public import proofs.«01_k».proof.Proof.Gen.On_own_half_ChipUpIdeal
public import proofs.«01_k».proof.Proof.Step.Chip
public import proofs.«01_k».proof.Defs
import all proofs.«01_k».proof.Proof.Gen.ChipUpIdeal.Frame

@[expose] public section

set_option maxRecDepth 16384

noncomputable section

namespace Cert.Step.ChipUp

open Idealize.ShloMosaic Idealize.ShloMosaic.TcCoe Idealize.SL.Sem Cert.Step.Chip

/-- The precondition gives the kernel's side condition: the block a core writes is one of the two halves'. -/
theorem fits [Cert.Pre_a_core_ChipUp.Facts] (m : (ℓ : Loc ChipUp.nD ChipUp.τ ChipUp.sig) → Buf (Elt Bits) ℓ) (h : Pre_ChipUp m) : ChipUp.Gen.Ok m := by
  intro i
  have hw : ((ChipUp.Gen.tbl m).at 0 (Rect.unit (s := ChipUp.S1) ![0] ChipUp.S1.size ChipUp.Gen.inb_S1_S1_0) ChipUp.Gen.numel1_S1).toNat < 2 :=
    lt_of_eq_of_lt (congrArg BitVec.toNat (only (m (((0 : Dev ChipUp.nD) : Thread ChipUp.nD ChipUp.τ).loc ChipUp.main_arg1)) _ _)) (core_lt _ (congrFun (h 0) fun a => a.elim0))
  have hi : (i 0).val < 4 := (i 0).isLt
  have e : (BitVec.ofNat 32 (i 0).val).toNat = (i 0).val := by
    rw [BitVec.toNat_ofNat]
    omega
  refine ⟨fun k => ?_, .inl rfl⟩
  show (![_, (BitVec.ofNat 32 (i 0).val).toNat, 0] k + 1) * _ ≤ _
  rw [e]
  exact inside (a := 512) (b := 128) (c := 1408) hw (by omega) k

open Cert.ChipUpIdeal Cert.ChipUpIdeal.Gen

variable (m : (ℓ : Loc nD τ sig) → Buf (Elt Ideal) ℓ) (c : Dev nD)

/-- The parts of the four chips. -/
abbrev parts : S4x512x1408.Idx → EReal := m ((c : Thread nD τ).loc main_arg0)

/-- The core's number. -/
abbrev core : ℕ := ((tbl m).at 0 (Rect.unit (s := S1) ![0] S1.size inb_S1_S1_0) numel1_S1).toNat

theorem core_two [Cert.Pre_a_core_ChipUp.Facts] (h : Pre_ChipUpIdeal m) : core m < 2 :=
  lt_of_eq_of_lt (congrArg BitVec.toNat (only (m (((0 : Dev nD) : Thread nD τ).loc main_arg1)) _ _)) (core_lt _ (congrFun (h 0) fun a => a.elim0))

/-- An entry the mask selects is of the core's half. -/
theorem selected (i : S2x512x1408.Idx) (h : Cert.On_own_half_ChipUpIdeal.fn (F := Ideal) (m ((c : Thread nD τ).loc main_arg0)) (m ((c : Thread nD τ).loc main_arg1)) i = 1#1) :
    (i 0).val = core m := by
  obtain rfl : c = 0 := Subsingleton.elim _ _
  exact (half_eq (i 0).val (i 0).isLt _ h).trans (congrArg BitVec.toNat (only (m (((0 : Dev nD) : Thread nD τ).loc main_arg1)) _ _))

/-- The block a point of the grid writes. -/
theorem idx (i : grid0.Coords) : cc0_transform_1 inb_S1_S1_0 numel1_S1 (tbl m) i = ![core m, (i 0).val, 0] := by
  have hi : (i 0).val < 4 := (i 0).isLt
  have e : (BitVec.ofNat 32 (i 0).val).toNat = (i 0).val := by
    rw [BitVec.toNat_ofNat]
    omega
  unfold cc0_transform_1
  dsimp only
  rw [e]
  rfl

theorem ok (hw : core m < 2) : Ok m := by
  intro i
  have hi : (i 0).val < 4 := (i 0).isLt
  refine ⟨fun k => ?_, .inl rfl⟩
  rw [idx]
  exact inside (a := 512) (b := 128) (c := 1408) hw (by omega) k

variable (hO : Ok m)

theorem place (t : Fin (cfgM m hO).N) : ((cfgM m hO).win 1).index t = ![core m, t.val, 0] := by
  refine (idx m (grid0.coords t)).trans ?_
  rw [(by decide +kernel : ∀ t : Fin grid0.N, (grid0.coords t 0).val = t.val) t]

/-- Every point's block is written back: the next point's is another one. -/
theorem flushes (t : Fin (cfgM m hO).N) : ((cfgM m hO).win 1).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have := congrFun e 1
    simp at this

theorem pay (v0 v1 v2 v3 : S1x128x1408.Idx → EReal) (y : S1x128x1408.Idx) : k0_pay1 (F := Ideal) v0 v1 v2 v3 y = v0 y + v1 y + v2 y + v3 y := by
  unfold k0_pay1
  pointwise

/-- The parts' block at a point, at an entry. -/
theorem block (t : Fin (cfgM m hO).N) (k r s : ℕ) (i : S4x128x1408.Idx) (h0 : (i 0).val = k) (h1 : (i 1).val = r) (h2 : (i 2).val = s) :
    iblk m hO c 0 t i = at3 (parts m c) k (t.val * 128 + r) s := by
  show V m c main_arg0 _ = _
  have e : cc0_transform_0 (grid0.coords t) = ![0, t.val, 0] :=
    (by decide +kernel : ∀ t : Fin grid0.N, cc0_transform_0 (grid0.coords t) = ![0, t.val, 0]) t
  refine at3_val (parts m c) _ _ _ _ ?_ ?_ ?_
  · show cc0_transform_0 (grid0.coords t) 0 * 4 + 1 * (i 0).val = k
    rw [e]; simp [h0]
  · show cc0_transform_0 (grid0.coords t) 1 * 128 + 1 * (i 1).val = _
    rw [e]; simp [h1]
  · show cc0_transform_0 (grid0.coords t) 2 * 1408 + 1 * (i 2).val = _
    rw [e]; simp [h2]

/-- The sum of the parts as an array of two halves. -/
abbrev sums : S2x512x1408.Idx → EReal := fun i => total (parts m c) (i 1).val (i 2).val

/-- What a point writes back: its block of the sum. -/
theorem written (t : Fin (cfgM m hO).N) :
    (dats m hO 0 c).flushed 1 t = (((cfgM m hO).win 1).blk t).view.read (Elt Ideal) (sums m c) := by
  show (((cfgM m hO).win 1).cut (grid0.coords t) ((dats m hO 0 c).after 1 t)) = _
  rw [after0_1]
  unfold outsAt0 out0_A_1 kernelRun0_A
  dsimp only
  refine (View.read_writes_full VO0_1 _ inb_S1x128x1408_S1x128x1408_0_0_0 _ _).trans ?_
  sl_unfold_words
  funext y
  have y0 : (y 0).val = 0 := Nat.lt_one_iff.mp (y 0).isLt
  have hR : ∀ p : Fin 3 → ℕ, p = ![core m, t.val, 0] →
      total (parts m c) (p 1 * 128 + 1 * (y 1).val) (p 2 * 1408 + 1 * (y 2).val) = total (parts m c) (t.val * 128 + (y 1).val) (y 2).val := by
    rintro p rfl
    simp
  refine Eq.trans ?_ (hR _ (place m hO t)).symm
  refine (pay _ _ _ _ y).trans ?_
  unfold total
  refine congrArg₂ (· + ·) (congrArg₂ (· + ·) (congrArg₂ (· + ·) ?_ ?_) ?_) ?_
  all_goals
    refine (congrFun (Memref.IsWhole.read_unread _ _) _).trans ?_
    refine block m c hO t _ (y 1).val (y 2).val _ ?_ (by show 0 + 1 * (y 1).val = _; omega) (by show 0 + 1 * (y 2).val = _; omega)
  · show 0 + 1 * (y 0).val = _; omega
  · show 1 + 1 * (y 0).val = _; omega
  · show 2 + 1 * (y 0).val = _; omega
  · show 3 + 1 * (y 0).val = _; omega

/-- The core's half of the kernel's array holds the sum. -/
theorem final (i : S2x512x1408.Idx) (h0 : (i 0).val = core m) : (dats m hO 0 c).arrAt 1 (cfgM m hO).N i = sums m c i := by
  have hi1 : (i 1).val < 512 := (i 1).isLt
  have hN : (cfgM m hO).N = 4 := by show grid0.N = 4; decide
  have ht : (i 1).val / 128 < (cfgM m hO).N := by rw [hN]; omega
  refine (dats m hO 0 c).arrAt_apply_of_mem 1 (sums m c) (fun t _ => written m c hO t) (cfgM m hO).N ⟨(i 1).val / 128, ht⟩ i ht (flushes m hO _) ?_
  refine Eq.mpr (congrArg (i ∈ ·) (View.set_slice_whole main_v0 _)) ?_
  exact Rect.mem_set_unit.mpr fun k => held (t := (i 1).val / 128) (b := 128) _ (place m hO ⟨(i 1).val / 128, ht⟩) i h0 (by omega) k

/-- The reference's array holds it in both halves. -/
theorem reference (i : S2x512x1408.Idx) : ChipUpRefIdeal.Read.val_main_v2 (F := Ideal) (parts m c) i = sums m c i := by
  rw [ChipUpRefIdeal.Read.val_main_v2_apply, ChipUpRefIdeal.Read.val_main_v1_apply]
  exact sum_eq (parts m c) _ _ _ (Ideal.ofBits_zero .f32) _ fun k => at3_val (parts m c) _ _ _ _ rfl rfl rfl

/-- On the core's half the kernel ends with the reference's array. -/
theorem algebraic [Cert.Pre_a_core_ChipUp.Facts] : Cert.algebraic_ChipUpIdeal_ChipUpRefIdeal_on_own_half_ChipUpIdeal := by
  intro m g m' g' hp h
  have hO := ok m (core_two m hp)
  refine ⟨fun c => (dats m hO 0 c).arrAt 1 (cfgM m hO).N, ?_, ?_⟩
  · exact (θ_run _ _ _).mono (fun r hr c => ⟨fun i _ => congrFun ((hr.1 c).1 1) i, hr.2 c⟩) (θ_run_and (run_main m g hO) (unchanged m g hO))
  · refine (θ_run _ _ _).mono (fun r hr c => ⟨fun i hi => ?_, (hr c).2⟩) (ChipUpRefIdeal.Value.run m' g')
    refine Eq.trans ?_ (final m c hO i (selected m c i hi)).symm
    rw [(hr c).1, ChipUpRefIdeal.Read.val_main_v2_eq, (h c).1]
    exact reference m c i

end Cert.Step.ChipUp

end
-- ==== Proof.Step.ChipDown.lean ====
/- The sum of the four chips' parts of a shard of a channel mixer's second weight, at the half of one core. -/
module

public import proofs.«01_k».proof.Proof.Gen.ChipDown.Frame
public import proofs.«01_k».proof.Proof.Gen.ChipDownIdeal.Frame
public import proofs.«01_k».proof.Proof.Gen.ChipDownRefIdeal.Run
public import proofs.«01_k».proof.Proof.Gen.ChipDownRefIdeal.Read
public import proofs.«01_k».proof.Proof.Gen.On_own_half_ChipDownIdeal
public import proofs.«01_k».proof.Proof.Step.Chip
public import proofs.«01_k».proof.Defs
import all proofs.«01_k».proof.Proof.Gen.ChipDownIdeal.Frame

@[expose] public section

set_option maxRecDepth 16384

noncomputable section

namespace Cert.Step.ChipDown

open Idealize.ShloMosaic Idealize.ShloMosaic.TcCoe Idealize.SL.Sem Cert.Step.Chip

/-- The precondition gives the kernel's side condition: the block a core writes is one of the two halves'. -/
theorem fits [Cert.Pre_a_core_ChipDown.Facts] (m : (ℓ : Loc ChipDown.nD ChipDown.τ ChipDown.sig) → Buf (Elt Bits) ℓ) (h : Pre_ChipDown m) : ChipDown.Gen.Ok m := by
  intro i
  have hw : ((ChipDown.Gen.tbl m).at 0 (Rect.unit (s := ChipDown.S1) ![0] ChipDown.S1.size ChipDown.Gen.inb_S1_S1_0) ChipDown.Gen.numel1_S1).toNat < 2 :=
    lt_of_eq_of_lt (congrArg BitVec.toNat (only (m (((0 : Dev ChipDown.nD) : Thread ChipDown.nD ChipDown.τ).loc ChipDown.main_arg1)) _ _)) (core_lt _ (congrFun (h 0) fun a => a.elim0))
  have hi : (i 0).val < 2 := (i 0).isLt
  have e : (BitVec.ofNat 32 (i 0).val).toNat = (i 0).val := by
    rw [BitVec.toNat_ofNat]
    omega
  refine ⟨fun k => ?_, .inl rfl⟩
  show (![_, (BitVec.ofNat 32 (i 0).val).toNat, 0] k + 1) * _ ≤ _
  rw [e]
  exact inside (a := 352) (b := 176) (c := 1024) hw (by omega) k

open Cert.ChipDownIdeal Cert.ChipDownIdeal.Gen

variable (m : (ℓ : Loc nD τ sig) → Buf (Elt Ideal) ℓ) (c : Dev nD)

/-- The parts of the four chips. -/
abbrev parts : S4x352x1024.Idx → EReal := m ((c : Thread nD τ).loc main_arg0)

/-- The core's number. -/
abbrev core : ℕ := ((tbl m).at 0 (Rect.unit (s := S1) ![0] S1.size inb_S1_S1_0) numel1_S1).toNat

theorem core_two [Cert.Pre_a_core_ChipDown.Facts] (h : Pre_ChipDownIdeal m) : core m < 2 :=
  lt_of_eq_of_lt (congrArg BitVec.toNat (only (m (((0 : Dev nD) : Thread nD τ).loc main_arg1)) _ _)) (core_lt _ (congrFun (h 0) fun a => a.elim0))

/-- An entry the mask selects is of the core's half. -/
theorem selected (i : S2x352x1024.Idx) (h : Cert.On_own_half_ChipDownIdeal.fn (F := Ideal) (m ((c : Thread nD τ).loc main_arg0)) (m ((c : Thread nD τ).loc main_arg1)) i = 1#1) :
    (i 0).val = core m := by
  obtain rfl : c = 0 := Subsingleton.elim _ _
  exact (half_eq (i 0).val (i 0).isLt _ h).trans (congrArg BitVec.toNat (only (m (((0 : Dev nD) : Thread nD τ).loc main_arg1)) _ _))

/-- The block a point of the grid writes. -/
theorem idx (i : grid0.Coords) : cc0_transform_1 inb_S1_S1_0 numel1_S1 (tbl m) i = ![core m, (i 0).val, 0] := by
  have hi : (i 0).val < 2 := (i 0).isLt
  have e : (BitVec.ofNat 32 (i 0).val).toNat = (i 0).val := by
    rw [BitVec.toNat_ofNat]
    omega
  unfold cc0_transform_1
  dsimp only
  rw [e]
  rfl

theorem ok (hw : core m < 2) : Ok m := by
  intro i
  have hi : (i 0).val < 2 := (i 0).isLt
  refine ⟨fun k => ?_, .inl rfl⟩
  rw [idx]
  exact inside (a := 352) (b := 176) (c := 1024) hw (by omega) k

variable (hO : Ok m)

theorem place (t : Fin (cfgM m hO).N) : ((cfgM m hO).win 1).index t = ![core m, t.val, 0] := by
  refine (idx m (grid0.coords t)).trans ?_
  rw [(by decide +kernel : ∀ t : Fin grid0.N, (grid0.coords t 0).val = t.val) t]

/-- Every point's block is written back: the next point's is another one. -/
theorem flushes (t : Fin (cfgM m hO).N) : ((cfgM m hO).win 1).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have := congrFun e 1
    simp at this

theorem pay (v0 v1 v2 v3 : S1x176x1024.Idx → EReal) (y : S1x176x1024.Idx) : k0_pay1 (F := Ideal) v0 v1 v2 v3 y = v0 y + v1 y + v2 y + v3 y := by
  unfold k0_pay1
  pointwise

/-- The parts' block at a point, at an entry. -/
theorem block (t : Fin (cfgM m hO).N) (k r s : ℕ) (i : S4x176x1024.Idx) (h0 : (i 0).val = k) (h1 : (i 1).val = r) (h2 : (i 2).val = s) :
    iblk m hO c 0 t i = at3 (parts m c) k (t.val * 176 + r) s := by
  show V m c main_arg0 _ = _
  have e : cc0_transform_0 (grid0.coords t) = ![0, t.val, 0] :=
    (by decide +kernel : ∀ t : Fin grid0.N, cc0_transform_0 (grid0.coords t) = ![0, t.val, 0]) t
  refine at3_val (parts m c) _ _ _ _ ?_ ?_ ?_
  · show cc0_transform_0 (grid0.coords t) 0 * 4 + 1 * (i 0).val = k
    rw [e]; simp [h0]
  · show cc0_transform_0 (grid0.coords t) 1 * 176 + 1 * (i 1).val = _
    rw [e]; simp [h1]
  · show cc0_transform_0 (grid0.coords t) 2 * 1024 + 1 * (i 2).val = _
    rw [e]; simp [h2]

/-- The sum of the parts as an array of two halves. -/
abbrev sums : S2x352x1024.Idx → EReal := fun i => total (parts m c) (i 1).val (i 2).val

/-- What a point writes back: its block of the sum. -/
theorem written (t : Fin (cfgM m hO).N) :
    (dats m hO 0 c).flushed 1 t = (((cfgM m hO).win 1).blk t).view.read (Elt Ideal) (sums m c) := by
  show (((cfgM m hO).win 1).cut (grid0.coords t) ((dats m hO 0 c).after 1 t)) = _
  rw [after0_1]
  unfold outsAt0 out0_A_1 kernelRun0_A
  dsimp only
  refine (View.read_writes_full VO0_1 _ inb_S1x176x1024_S1x176x1024_0_0_0 _ _).trans ?_
  sl_unfold_words
  funext y
  have y0 : (y 0).val = 0 := Nat.lt_one_iff.mp (y 0).isLt
  have hR : ∀ p : Fin 3 → ℕ, p = ![core m, t.val, 0] →
      total (parts m c) (p 1 * 176 + 1 * (y 1).val) (p 2 * 1024 + 1 * (y 2).val) = total (parts m c) (t.val * 176 + (y 1).val) (y 2).val := by
    rintro p rfl
    simp
  refine Eq.trans ?_ (hR _ (place m hO t)).symm
  refine (pay _ _ _ _ y).trans ?_
  unfold total
  refine congrArg₂ (· + ·) (congrArg₂ (· + ·) (congrArg₂ (· + ·) ?_ ?_) ?_) ?_
  all_goals
    refine (congrFun (Memref.IsWhole.read_unread _ _) _).trans ?_
    refine block m c hO t _ (y 1).val (y 2).val _ ?_ (by show 0 + 1 * (y 1).val = _; omega) (by show 0 + 1 * (y 2).val = _; omega)
  · show 0 + 1 * (y 0).val = _; omega
  · show 1 + 1 * (y 0).val = _; omega
  · show 2 + 1 * (y 0).val = _; omega
  · show 3 + 1 * (y 0).val = _; omega

/-- The core's half of the kernel's array holds the sum. -/
theorem final (i : S2x352x1024.Idx) (h0 : (i 0).val = core m) : (dats m hO 0 c).arrAt 1 (cfgM m hO).N i = sums m c i := by
  have hi1 : (i 1).val < 352 := (i 1).isLt
  have hN : (cfgM m hO).N = 2 := by show grid0.N = 2; decide
  have ht : (i 1).val / 176 < (cfgM m hO).N := by rw [hN]; omega
  refine (dats m hO 0 c).arrAt_apply_of_mem 1 (sums m c) (fun t _ => written m c hO t) (cfgM m hO).N ⟨(i 1).val / 176, ht⟩ i ht (flushes m hO _) ?_
  refine Eq.mpr (congrArg (i ∈ ·) (View.set_slice_whole main_v0 _)) ?_
  exact Rect.mem_set_unit.mpr fun k => held (t := (i 1).val / 176) (b := 176) _ (place m hO ⟨(i 1).val / 176, ht⟩) i h0 (by omega) k

/-- The reference's array holds it in both halves. -/
theorem reference (i : S2x352x1024.Idx) : ChipDownRefIdeal.Read.val_main_v2 (F := Ideal) (parts m c) i = sums m c i := by
  rw [ChipDownRefIdeal.Read.val_main_v2_apply, ChipDownRefIdeal.Read.val_main_v1_apply]
  exact sum_eq (parts m c) _ _ _ (Ideal.ofBits_zero .f32) _ fun k => at3_val (parts m c) _ _ _ _ rfl rfl rfl

/-- On the core's half the kernel ends with the reference's array. -/
theorem algebraic [Cert.Pre_a_core_ChipDown.Facts] : Cert.algebraic_ChipDownIdeal_ChipDownRefIdeal_on_own_half_ChipDownIdeal := by
  intro m g m' g' hp h
  have hO := ok m (core_two m hp)
  refine ⟨fun c => (dats m hO 0 c).arrAt 1 (cfgM m hO).N, ?_, ?_⟩
  · exact (θ_run _ _ _).mono (fun r hr c => ⟨fun i _ => congrFun ((hr.1 c).1 1) i, hr.2 c⟩) (θ_run_and (run_main m g hO) (unchanged m g hO))
  · refine (θ_run _ _ _).mono (fun r hr c => ⟨fun i hi => ?_, (hr c).2⟩) (ChipDownRefIdeal.Value.run m' g')
    refine Eq.trans ?_ (final m c hO i (selected m c i hi)).symm
    rw [(hr c).1, ChipDownRefIdeal.Read.val_main_v2_eq, (h c).1]
    exact reference m c i

end Cert.Step.ChipDown

end
-- ==== Proof.Step.ChipOut.lean ====
/- The sum of the four chips' parts of a shard of an output projection's weight, at the half of one core. -/
module

public import proofs.«01_k».proof.Proof.Gen.ChipOut.Frame
public import proofs.«01_k».proof.Proof.Gen.ChipOutIdeal.Frame
public import proofs.«01_k».proof.Proof.Gen.ChipOutRefIdeal.Run
public import proofs.«01_k».proof.Proof.Gen.ChipOutRefIdeal.Read
public import proofs.«01_k».proof.Proof.Gen.On_own_half_ChipOutIdeal
public import proofs.«01_k».proof.Proof.Step.Chip
public import proofs.«01_k».proof.Defs
import all proofs.«01_k».proof.Proof.Gen.ChipOutIdeal.Frame

@[expose] public section

set_option maxRecDepth 16384

noncomputable section

namespace Cert.Step.ChipOut

open Idealize.ShloMosaic Idealize.ShloMosaic.TcCoe Idealize.SL.Sem Cert.Step.Chip

/-- The precondition gives the kernel's side condition: the block a core writes is one of the two halves'. -/
theorem fits [Cert.Pre_a_core_ChipOut.Facts] (m : (ℓ : Loc ChipOut.nD ChipOut.τ ChipOut.sig) → Buf (Elt Bits) ℓ) (h : Pre_ChipOut m) : ChipOut.Gen.Ok m := by
  intro i
  have hw : ((ChipOut.Gen.tbl m).at 0 (Rect.unit (s := ChipOut.S1) ![0] ChipOut.S1.size ChipOut.Gen.inb_S1_S1_0) ChipOut.Gen.numel1_S1).toNat < 2 :=
    lt_of_eq_of_lt (congrArg BitVec.toNat (only (m (((0 : Dev ChipOut.nD) : Thread ChipOut.nD ChipOut.τ).loc ChipOut.main_arg1)) _ _)) (core_lt _ (congrFun (h 0) fun a => a.elim0))
  have hi : (i 0).val < 1 := (i 0).isLt
  have e : (BitVec.ofNat 32 (i 0).val).toNat = (i 0).val := by
    rw [BitVec.toNat_ofNat]
    omega
  refine ⟨fun k => ?_, .inl rfl⟩
  show (![_, (BitVec.ofNat 32 (i 0).val).toNat, 0] k + 1) * _ ≤ _
  rw [e]
  exact inside (a := 128) (b := 128) (c := 1024) hw (by omega) k

open Cert.ChipOutIdeal Cert.ChipOutIdeal.Gen

variable (m : (ℓ : Loc nD τ sig) → Buf (Elt Ideal) ℓ) (c : Dev nD)

/-- The parts of the four chips. -/
abbrev parts : S4x128x1024.Idx → EReal := m ((c : Thread nD τ).loc main_arg0)

/-- The core's number. -/
abbrev core : ℕ := ((tbl m).at 0 (Rect.unit (s := S1) ![0] S1.size inb_S1_S1_0) numel1_S1).toNat

theorem core_two [Cert.Pre_a_core_ChipOut.Facts] (h : Pre_ChipOutIdeal m) : core m < 2 :=
  lt_of_eq_of_lt (congrArg BitVec.toNat (only (m (((0 : Dev nD) : Thread nD τ).loc main_arg1)) _ _)) (core_lt _ (congrFun (h 0) fun a => a.elim0))

/-- An entry the mask selects is of the core's half. -/
theorem selected (i : S2x128x1024.Idx) (h : Cert.On_own_half_ChipOutIdeal.fn (F := Ideal) (m ((c : Thread nD τ).loc main_arg0)) (m ((c : Thread nD τ).loc main_arg1)) i = 1#1) :
    (i 0).val = core m := by
  obtain rfl : c = 0 := Subsingleton.elim _ _
  exact (half_eq (i 0).val (i 0).isLt _ h).trans (congrArg BitVec.toNat (only (m (((0 : Dev nD) : Thread nD τ).loc main_arg1)) _ _))

/-- The block a point of the grid writes. -/
theorem idx (i : grid0.Coords) : cc0_transform_1 inb_S1_S1_0 numel1_S1 (tbl m) i = ![core m, (i 0).val, 0] := by
  have hi : (i 0).val < 1 := (i 0).isLt
  have e : (BitVec.ofNat 32 (i 0).val).toNat = (i 0).val := by
    rw [BitVec.toNat_ofNat]
    omega
  unfold cc0_transform_1
  dsimp only
  rw [e]
  rfl

theorem ok (hw : core m < 2) : Ok m := by
  intro i
  have hi : (i 0).val < 1 := (i 0).isLt
  refine ⟨fun k => ?_, .inl rfl⟩
  rw [idx]
  exact inside (a := 128) (b := 128) (c := 1024) hw (by omega) k

variable (hO : Ok m)

theorem place (t : Fin (cfgM m hO).N) : ((cfgM m hO).win 1).index t = ![core m, t.val, 0] := by
  refine (idx m (grid0.coords t)).trans ?_
  rw [(by decide +kernel : ∀ t : Fin grid0.N, (grid0.coords t 0).val = t.val) t]

/-- Every point's block is written back: the next point's is another one. -/
theorem flushes (t : Fin (cfgM m hO).N) : ((cfgM m hO).win 1).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have := congrFun e 1
    simp at this

theorem pay (v0 v1 v2 v3 : S1x128x1024.Idx → EReal) (y : S1x128x1024.Idx) : k0_pay1 (F := Ideal) v0 v1 v2 v3 y = v0 y + v1 y + v2 y + v3 y := by
  unfold k0_pay1
  pointwise

/-- The parts' block at a point, at an entry. -/
theorem block (t : Fin (cfgM m hO).N) (k r s : ℕ) (i : S4x128x1024.Idx) (h0 : (i 0).val = k) (h1 : (i 1).val = r) (h2 : (i 2).val = s) :
    iblk m hO c 0 t i = at3 (parts m c) k (t.val * 128 + r) s := by
  show V m c main_arg0 _ = _
  have e : cc0_transform_0 (grid0.coords t) = ![0, t.val, 0] :=
    (by decide +kernel : ∀ t : Fin grid0.N, cc0_transform_0 (grid0.coords t) = ![0, t.val, 0]) t
  refine at3_val (parts m c) _ _ _ _ ?_ ?_ ?_
  · show cc0_transform_0 (grid0.coords t) 0 * 4 + 1 * (i 0).val = k
    rw [e]; simp [h0]
  · show cc0_transform_0 (grid0.coords t) 1 * 128 + 1 * (i 1).val = _
    rw [e]; simp [h1]
  · show cc0_transform_0 (grid0.coords t) 2 * 1024 + 1 * (i 2).val = _
    rw [e]; simp [h2]

/-- The sum of the parts as an array of two halves. -/
abbrev sums : S2x128x1024.Idx → EReal := fun i => total (parts m c) (i 1).val (i 2).val

/-- What a point writes back: its block of the sum. -/
theorem written (t : Fin (cfgM m hO).N) :
    (dats m hO 0 c).flushed 1 t = (((cfgM m hO).win 1).blk t).view.read (Elt Ideal) (sums m c) := by
  show (((cfgM m hO).win 1).cut (grid0.coords t) ((dats m hO 0 c).after 1 t)) = _
  rw [after0_1]
  unfold outsAt0 out0_A_1 kernelRun0_A
  dsimp only
  refine (View.read_writes_full VO0_1 _ inb_S1x128x1024_S1x128x1024_0_0_0 _ _).trans ?_
  sl_unfold_words
  funext y
  have y0 : (y 0).val = 0 := Nat.lt_one_iff.mp (y 0).isLt
  have hR : ∀ p : Fin 3 → ℕ, p = ![core m, t.val, 0] →
      total (parts m c) (p 1 * 128 + 1 * (y 1).val) (p 2 * 1024 + 1 * (y 2).val) = total (parts m c) (t.val * 128 + (y 1).val) (y 2).val := by
    rintro p rfl
    simp
  refine Eq.trans ?_ (hR _ (place m hO t)).symm
  refine (pay _ _ _ _ y).trans ?_
  unfold total
  refine congrArg₂ (· + ·) (congrArg₂ (· + ·) (congrArg₂ (· + ·) ?_ ?_) ?_) ?_
  all_goals
    refine (congrFun (Memref.IsWhole.read_unread _ _) _).trans ?_
    refine block m c hO t _ (y 1).val (y 2).val _ ?_ (by show 0 + 1 * (y 1).val = _; omega) (by show 0 + 1 * (y 2).val = _; omega)
  · show 0 + 1 * (y 0).val = _; omega
  · show 1 + 1 * (y 0).val = _; omega
  · show 2 + 1 * (y 0).val = _; omega
  · show 3 + 1 * (y 0).val = _; omega

/-- The core's half of the kernel's array holds the sum. -/
theorem final (i : S2x128x1024.Idx) (h0 : (i 0).val = core m) : (dats m hO 0 c).arrAt 1 (cfgM m hO).N i = sums m c i := by
  have hi1 : (i 1).val < 128 := (i 1).isLt
  have hN : (cfgM m hO).N = 1 := by show grid0.N = 1; decide
  have ht : (i 1).val / 128 < (cfgM m hO).N := by rw [hN]; omega
  refine (dats m hO 0 c).arrAt_apply_of_mem 1 (sums m c) (fun t _ => written m c hO t) (cfgM m hO).N ⟨(i 1).val / 128, ht⟩ i ht (flushes m hO _) ?_
  refine Eq.mpr (congrArg (i ∈ ·) (View.set_slice_whole main_v0 _)) ?_
  exact Rect.mem_set_unit.mpr fun k => held (t := (i 1).val / 128) (b := 128) _ (place m hO ⟨(i 1).val / 128, ht⟩) i h0 (by omega) k

/-- The reference's array holds it in both halves. -/
theorem reference (i : S2x128x1024.Idx) : ChipOutRefIdeal.Read.val_main_v2 (F := Ideal) (parts m c) i = sums m c i := by
  rw [ChipOutRefIdeal.Read.val_main_v2_apply, ChipOutRefIdeal.Read.val_main_v1_apply]
  exact sum_eq (parts m c) _ _ _ (Ideal.ofBits_zero .f32) _ fun k => at3_val (parts m c) _ _ _ _ rfl rfl rfl

/-- On the core's half the kernel ends with the reference's array. -/
theorem algebraic [Cert.Pre_a_core_ChipOut.Facts] : Cert.algebraic_ChipOutIdeal_ChipOutRefIdeal_on_own_half_ChipOutIdeal := by
  intro m g m' g' hp h
  have hO := ok m (core_two m hp)
  refine ⟨fun c => (dats m hO 0 c).arrAt 1 (cfgM m hO).N, ?_, ?_⟩
  · exact (θ_run _ _ _).mono (fun r hr c => ⟨fun i _ => congrFun ((hr.1 c).1 1) i, hr.2 c⟩) (θ_run_and (run_main m g hO) (unchanged m g hO))
  · refine (θ_run _ _ _).mono (fun r hr c => ⟨fun i hi => ?_, (hr c).2⟩) (ChipOutRefIdeal.Value.run m' g')
    refine Eq.trans ?_ (final m c hO i (selected m c i hi)).symm
    rw [(hr c).1, ChipOutRefIdeal.Read.val_main_v2_eq, (h c).1]
    exact reference m c i

end Cert.Step.ChipOut

end
-- ==== Proof.Step.ChipSmall.lean ====
/- The sum of the four chips' parts of the packed small weights' gradients, at the half of one core. -/
module

public import proofs.«01_k».proof.Proof.Gen.ChipSmall.Frame
public import proofs.«01_k».proof.Proof.Gen.ChipSmallIdeal.Frame
public import proofs.«01_k».proof.Proof.Gen.ChipSmallRefIdeal.Run
public import proofs.«01_k».proof.Proof.Gen.ChipSmallRefIdeal.Read
public import proofs.«01_k».proof.Proof.Gen.On_own_half_ChipSmallIdeal
public import proofs.«01_k».proof.Proof.Step.Chip
public import proofs.«01_k».proof.Defs
import all proofs.«01_k».proof.Proof.Gen.ChipSmallIdeal.Frame

@[expose] public section

set_option maxRecDepth 16384

noncomputable section

namespace Cert.Step.ChipSmall

open Idealize.ShloMosaic Idealize.ShloMosaic.TcCoe Idealize.SL.Sem Cert.Step.Chip

/-- The precondition gives the kernel's side condition: the block a core writes is one of the two halves'. -/
theorem fits [Cert.Pre_a_core_ChipSmall.Facts] (m : (ℓ : Loc ChipSmall.nD ChipSmall.τ ChipSmall.sig) → Buf (Elt Bits) ℓ) (h : Pre_ChipSmall m) : ChipSmall.Gen.Ok m := by
  intro i
  have hw : ((ChipSmall.Gen.tbl m).at 0 (Rect.unit (s := ChipSmall.S1) ![0] ChipSmall.S1.size ChipSmall.Gen.inb_S1_S1_0) ChipSmall.Gen.numel1_S1).toNat < 2 :=
    lt_of_eq_of_lt (congrArg BitVec.toNat (only (m (((0 : Dev ChipSmall.nD) : Thread ChipSmall.nD ChipSmall.τ).loc ChipSmall.main_arg1)) _ _)) (core_lt _ (congrFun (h 0) fun a => a.elim0))
  have hi : (i 0).val < 1 := (i 0).isLt
  have e : (BitVec.ofNat 32 (i 0).val).toNat = (i 0).val := by
    rw [BitVec.toNat_ofNat]
    omega
  refine ⟨fun k => ?_, .inl rfl⟩
  show (![_, (BitVec.ofNat 32 (i 0).val).toNat, 0] k + 1) * _ ≤ _
  rw [e]
  exact inside (a := 552) (b := 552) (c := 128) hw (by omega) k

open Cert.ChipSmallIdeal Cert.ChipSmallIdeal.Gen

variable (m : (ℓ : Loc nD τ sig) → Buf (Elt Ideal) ℓ) (c : Dev nD)

/-- The parts of the four chips. -/
abbrev parts : S4x552x128.Idx → EReal := m ((c : Thread nD τ).loc main_arg0)

/-- The core's number. -/
abbrev core : ℕ := ((tbl m).at 0 (Rect.unit (s := S1) ![0] S1.size inb_S1_S1_0) numel1_S1).toNat

theorem core_two [Cert.Pre_a_core_ChipSmall.Facts] (h : Pre_ChipSmallIdeal m) : core m < 2 :=
  lt_of_eq_of_lt (congrArg BitVec.toNat (only (m (((0 : Dev nD) : Thread nD τ).loc main_arg1)) _ _)) (core_lt _ (congrFun (h 0) fun a => a.elim0))

/-- An entry the mask selects is of the core's half. -/
theorem selected (i : S2x552x128.Idx) (h : Cert.On_own_half_ChipSmallIdeal.fn (F := Ideal) (m ((c : Thread nD τ).loc main_arg0)) (m ((c : Thread nD τ).loc main_arg1)) i = 1#1) :
    (i 0).val = core m := by
  obtain rfl : c = 0 := Subsingleton.elim _ _
  exact (half_eq (i 0).val (i 0).isLt _ h).trans (congrArg BitVec.toNat (only (m (((0 : Dev nD) : Thread nD τ).loc main_arg1)) _ _))

/-- The block a point of the grid writes. -/
theorem idx (i : grid0.Coords) : cc0_transform_1 inb_S1_S1_0 numel1_S1 (tbl m) i = ![core m, (i 0).val, 0] := by
  have hi : (i 0).val < 1 := (i 0).isLt
  have e : (BitVec.ofNat 32 (i 0).val).toNat = (i 0).val := by
    rw [BitVec.toNat_ofNat]
    omega
  unfold cc0_transform_1
  dsimp only
  rw [e]
  rfl

theorem ok (hw : core m < 2) : Ok m := by
  intro i
  have hi : (i 0).val < 1 := (i 0).isLt
  refine ⟨fun k => ?_, .inl rfl⟩
  rw [idx]
  exact inside (a := 552) (b := 552) (c := 128) hw (by omega) k

variable (hO : Ok m)

theorem place (t : Fin (cfgM m hO).N) : ((cfgM m hO).win 1).index t = ![core m, t.val, 0] := by
  refine (idx m (grid0.coords t)).trans ?_
  rw [(by decide +kernel : ∀ t : Fin grid0.N, (grid0.coords t 0).val = t.val) t]

/-- Every point's block is written back: the next point's is another one. -/
theorem flushes (t : Fin (cfgM m hO).N) : ((cfgM m hO).win 1).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have := congrFun e 1
    simp at this

theorem pay (v0 v1 v2 v3 : S1x552x128.Idx → EReal) (y : S1x552x128.Idx) : k0_pay1 (F := Ideal) v0 v1 v2 v3 y = v0 y + v1 y + v2 y + v3 y := by
  unfold k0_pay1
  pointwise

/-- The parts' block at a point, at an entry. -/
theorem block (t : Fin (cfgM m hO).N) (k r s : ℕ) (i : S4x552x128.Idx) (h0 : (i 0).val = k) (h1 : (i 1).val = r) (h2 : (i 2).val = s) :
    iblk m hO c 0 t i = at3 (parts m c) k (t.val * 552 + r) s := by
  show V m c main_arg0 _ = _
  have e : cc0_transform_0 (grid0.coords t) = ![0, t.val, 0] :=
    (by decide +kernel : ∀ t : Fin grid0.N, cc0_transform_0 (grid0.coords t) = ![0, t.val, 0]) t
  refine at3_val (parts m c) _ _ _ _ ?_ ?_ ?_
  · show cc0_transform_0 (grid0.coords t) 0 * 4 + 1 * (i 0).val = k
    rw [e]; simp [h0]
  · show cc0_transform_0 (grid0.coords t) 1 * 552 + 1 * (i 1).val = _
    rw [e]; simp [h1]
  · show cc0_transform_0 (grid0.coords t) 2 * 128 + 1 * (i 2).val = _
    rw [e]; simp [h2]

/-- The sum of the parts as an array of two halves. -/
abbrev sums : S2x552x128.Idx → EReal := fun i => total (parts m c) (i 1).val (i 2).val

/-- What a point writes back: its block of the sum. -/
theorem written (t : Fin (cfgM m hO).N) :
    (dats m hO 0 c).flushed 1 t = (((cfgM m hO).win 1).blk t).view.read (Elt Ideal) (sums m c) := by
  show (((cfgM m hO).win 1).cut (grid0.coords t) ((dats m hO 0 c).after 1 t)) = _
  rw [after0_1]
  unfold outsAt0 out0_A_1 kernelRun0_A
  dsimp only
  refine (View.read_writes_full VO0_1 _ inb_S1x552x128_S1x552x128_0_0_0 _ _).trans ?_
  sl_unfold_words
  funext y
  have y0 : (y 0).val = 0 := Nat.lt_one_iff.mp (y 0).isLt
  have hR : ∀ p : Fin 3 → ℕ, p = ![core m, t.val, 0] →
      total (parts m c) (p 1 * 552 + 1 * (y 1).val) (p 2 * 128 + 1 * (y 2).val) = total (parts m c) (t.val * 552 + (y 1).val) (y 2).val := by
    rintro p rfl
    simp
  refine Eq.trans ?_ (hR _ (place m hO t)).symm
  refine (pay _ _ _ _ y).trans ?_
  unfold total
  refine congrArg₂ (· + ·) (congrArg₂ (· + ·) (congrArg₂ (· + ·) ?_ ?_) ?_) ?_
  all_goals
    refine (congrFun (Memref.IsWhole.read_unread _ _) _).trans ?_
    refine block m c hO t _ (y 1).val (y 2).val _ ?_ (by show 0 + 1 * (y 1).val = _; omega) (by show 0 + 1 * (y 2).val = _; omega)
  · show 0 + 1 * (y 0).val = _; omega
  · show 1 + 1 * (y 0).val = _; omega
  · show 2 + 1 * (y 0).val = _; omega
  · show 3 + 1 * (y 0).val = _; omega

/-- The core's half of the kernel's array holds the sum. -/
theorem final (i : S2x552x128.Idx) (h0 : (i 0).val = core m) : (dats m hO 0 c).arrAt 1 (cfgM m hO).N i = sums m c i := by
  have hi1 : (i 1).val < 552 := (i 1).isLt
  have hN : (cfgM m hO).N = 1 := by show grid0.N = 1; decide
  have ht : (i 1).val / 552 < (cfgM m hO).N := by rw [hN]; omega
  refine (dats m hO 0 c).arrAt_apply_of_mem 1 (sums m c) (fun t _ => written m c hO t) (cfgM m hO).N ⟨(i 1).val / 552, ht⟩ i ht (flushes m hO _) ?_
  refine Eq.mpr (congrArg (i ∈ ·) (View.set_slice_whole main_v0 _)) ?_
  exact Rect.mem_set_unit.mpr fun k => held (t := (i 1).val / 552) (b := 552) _ (place m hO ⟨(i 1).val / 552, ht⟩) i h0 (by omega) k

/-- The reference's array holds it in both halves. -/
theorem reference (i : S2x552x128.Idx) : ChipSmallRefIdeal.Read.val_main_v1 (F := Ideal) (parts m c) i = sums m c i := by
  rw [ChipSmallRefIdeal.Read.val_main_v1_apply, ChipSmallRefIdeal.Read.val_main_v0_apply]
  exact sum_eq (parts m c) _ _ _ (Ideal.ofBits_zero .f32) _ fun k => at3_val (parts m c) _ _ _ _ rfl rfl rfl

/-- On the core's half the kernel ends with the reference's array. -/
theorem algebraic [Cert.Pre_a_core_ChipSmall.Facts] : Cert.algebraic_ChipSmallIdeal_ChipSmallRefIdeal_on_own_half_ChipSmallIdeal := by
  intro m g m' g' hp h
  have hO := ok m (core_two m hp)
  refine ⟨fun c => (dats m hO 0 c).arrAt 1 (cfgM m hO).N, ?_, ?_⟩
  · exact (θ_run _ _ _).mono (fun r hr c => ⟨fun i _ => congrFun ((hr.1 c).1 1) i, hr.2 c⟩) (θ_run_and (run_main m g hO) (unchanged m g hO))
  · refine (θ_run _ _ _).mono (fun r hr c => ⟨fun i hi => ?_, (hr c).2⟩) (ChipSmallRefIdeal.Value.run m' g')
    refine Eq.trans ?_ (final m c hO i (selected m c i hi)).symm
    rw [(hr c).1, ChipSmallRefIdeal.Read.val_main_v1_eq, (h c).1]
    exact reference m c i

end Cert.Step.ChipSmall

end
-- ==== Proof.Step.Pair.lean ====
/- What the sums of a chip's two cores share, at whatever shape: an entry of the array of halves at plain numbers, the sum
   of the two parts, the blocks, and the choice of the core's half. -/
module

public import proofs.«01_k».proof.Proof.Step.Chip

@[expose] public section

noncomputable section

namespace Cert.Step.Pair

open Idealize.ShloMosaic Cert.Step.Chip

/-- An array's entry at four plain numbers. -/
def at4 {n h a b : ℕ} (f : (⟨4, ![n, h, a, b]⟩ : Shape).Idx → EReal) (k l r s : ℕ) : EReal :=
  if e : k < n ∧ l < h ∧ r < a ∧ s < b then
    f (fun | ⟨0, _⟩ => ⟨k, e.1⟩ | ⟨1, _⟩ => ⟨l, e.2.1⟩ | ⟨2, _⟩ => ⟨r, e.2.2.1⟩ | ⟨3, _⟩ => ⟨s, e.2.2.2⟩) else 0

/-- An entry is the entry at its coordinates. -/
theorem at4_val {n h a b : ℕ} (f : (⟨4, ![n, h, a, b]⟩ : Shape).Idx → EReal) (i : (⟨4, ![n, h, a, b]⟩ : Shape).Idx) (k l r s : ℕ)
    (h0 : (i 0).val = k) (h1 : (i 1).val = l) (h2 : (i 2).val = r) (h3 : (i 3).val = s) : f i = at4 f k l r s := by
  subst h0 h1 h2 h3
  unfold at4
  rw [dif_pos ⟨(i 0).isLt, (i 1).isLt, (i 2).isLt, (i 3).isLt⟩]
  congr 1
  funext a
  match a with
  | ⟨0, _⟩ => rfl
  | ⟨1, _⟩ => rfl
  | ⟨2, _⟩ => rfl
  | ⟨3, _⟩ => rfl

/-- The core's own half of its part and the other core's part of that half, added. -/
def both {a b : ℕ} (f : (⟨4, ![4, 2, a, b]⟩ : Shape).Idx → EReal) (g : (⟨3, ![4, a, b]⟩ : Shape).Idx → EReal) (w p r s : ℕ) : EReal :=
  at4 f p w r s + at3 g p r s

/-- A block of the half `w` lies inside the array of both halves. -/
theorem inside {p w t a b c : ℕ} (hp : p < 4) (hw : w < 2) (ht : (t + 1) * b ≤ a) (k : Fin 4) :
    ((![p, w, t, 0] : Fin 4 → ℕ) k + 1) * (![1, 1, b, c] : Fin 4 → ℕ) k ≤ (![4, 2, a, c] : Fin 4 → ℕ) k := by
  match k with
  | ⟨0, _⟩ => show (p + 1) * 1 ≤ 4; omega
  | ⟨1, _⟩ => show (w + 1) * 1 ≤ 2; omega
  | ⟨2, _⟩ => exact ht
  | ⟨3, _⟩ => show (0 + 1) * c ≤ c; omega

/-- An entry lies in the block its first coordinate and its row are in. -/
theorem held {p t a b c : ℕ} (q : Fin 3 → ℕ) (hq : q = ![p, t, 0]) (i : (⟨3, ![4, a, c]⟩ : Shape).Idx) (h0 : (i 0).val = p)
    (h1 : t * b ≤ (i 1).val ∧ (i 1).val < t * b + b) (k : Fin 3) :
    q k * (![1, b, c] : Fin 3 → ℕ) k ≤ (i k).val ∧ (i k).val < q k * (![1, b, c] : Fin 3 → ℕ) k + (![1, b, c] : Fin 3 → ℕ) k := by
  subst hq
  match k with
  | ⟨0, _⟩ => show p * 1 ≤ (i 0).val ∧ (i 0).val < p * 1 + 1; omega
  | ⟨1, _⟩ => exact h1
  | ⟨2, _⟩ =>
    have h2 : (i 2).val < c := (i 2).isLt
    show 0 * c ≤ (i 2).val ∧ (i 2).val < 0 * c + c
    omega

/-- A choice by the core's number is the entry of that half. -/
theorem pick {a b : ℕ} (f : (⟨4, ![4, 2, a, b]⟩ : Shape).Idx → EReal) (w : BitVec 32) (hw : w.toNat < 2) (p r s : ℕ) :
    Scalar.select (IntOp.cmpi .eq w 0#32) (at4 f p 0 r s) (at4 f p 1 r s) = at4 f p w.toNat r s := by
  have h : w = 0#32 ∨ w = 1#32 := by
    rcases Nat.lt_succ_iff.mp hw |>.lt_or_eq with h | h
    · exact .inl (BitVec.eq_of_toNat_eq (Nat.lt_one_iff.mp h))
    · exact .inr (BitVec.eq_of_toNat_eq h)
  unfold Scalar.select
  rcases h with rfl | rfl
  · rw [if_pos (by decide)]
    rfl
  · rw [if_neg (by decide)]
    rfl

end Cert.Step.Pair

end
-- ==== Proof.Step.PairL0In.lean ====
/- The sum of the two cores' parts of a shard of l0_w_in, at the half of one core. -/
module

public import proofs.«01_k».proof.Proof.Gen.PairL0In.Frame
public import proofs.«01_k».proof.Proof.Gen.PairL0InIdeal.Frame
public import proofs.«01_k».proof.Proof.Gen.PairL0InRefIdeal.Run
public import proofs.«01_k».proof.Proof.Gen.PairL0InRefIdeal.Read
public import proofs.«01_k».proof.Proof.Step.Pair
public import proofs.«01_k».proof.Defs
import all proofs.«01_k».proof.Proof.Gen.PairL0InIdeal.Frame

@[expose] public section

set_option maxRecDepth 16384

noncomputable section

namespace Cert.Step.PairL0In

open Idealize.ShloMosaic Idealize.ShloMosaic.TcCoe Idealize.SL.Sem Cert.Step.Chip Cert.Step.Pair

/-- The precondition gives the kernel's side condition: the blocks a core reads are of one of the two halves. -/
theorem fits [Cert.Pre_a_core_PairL0In.Facts] (m : (ℓ : Loc PairL0In.nD PairL0In.τ PairL0In.sig) → Buf (Elt Bits) ℓ) (h : Pre_PairL0In m) : PairL0In.Gen.Ok m := by
  intro i
  have hw : ((PairL0In.Gen.tbl m).at 0 (Rect.unit (s := PairL0In.S1) ![0] PairL0In.S1.size PairL0In.Gen.inb_S1_S1_0) PairL0In.Gen.numel1_S1).toNat < 2 :=
    lt_of_eq_of_lt (congrArg BitVec.toNat (only (m (((0 : Dev PairL0In.nD) : Thread PairL0In.nD PairL0In.τ).loc PairL0In.main_arg2)) _ _)) (core_lt _ (congrFun (h 0) fun a => a.elim0))
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨fun k => ?_, .inl rfl⟩
  show (![(BitVec.ofNat 32 (i 0).val).toNat, _, (BitVec.ofNat 32 (i 1).val).toNat, 0] k + 1) * _ ≤ _
  rw [e0, e1]
  exact inside (a := 512) (b := 512) (c := 834) h0 hw (by omega) k

open Cert.PairL0InIdeal Cert.PairL0InIdeal.Gen

variable (m : (ℓ : Loc nD τ sig) → Buf (Elt Ideal) ℓ) (c : Dev nD)

/-- The core's part, in two halves. -/
abbrev piece : S4x2x512x834.Idx → EReal := m ((c : Thread nD τ).loc main_arg0)

/-- The other core's part of the core's half. -/
abbrev received : S4x512x834.Idx → EReal := m ((c : Thread nD τ).loc main_arg1)

/-- The core's number. -/
abbrev core : ℕ := ((tbl m).at 0 (Rect.unit (s := S1) ![0] S1.size inb_S1_S1_0) numel1_S1).toNat

theorem core_two [Cert.Pre_a_core_PairL0In.Facts] (h : Pre_PairL0InIdeal m) : core m < 2 :=
  lt_of_eq_of_lt (congrArg BitVec.toNat (only (m (((0 : Dev nD) : Thread nD τ).loc main_arg2)) _ _)) (core_lt _ (congrFun (h 0) fun a => a.elim0))

/-- The block of its part a point of the grid reads. -/
theorem idx (i : grid0.Coords) : cc0_transform_0 inb_S1_S1_0 numel1_S1 (tbl m) i = ![(i 0).val, core m, (i 1).val, 0] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_0
  dsimp only
  rw [e0, e1]
  rfl

theorem ok (hw : core m < 2) : Ok m := by
  intro i
  have h1 : (i 1).val < 1 := (i 1).isLt
  refine ⟨fun k => ?_, .inl rfl⟩
  rw [idx]
  exact inside (a := 512) (b := 512) (c := 834) (i 0).isLt hw (by omega) k

variable (hO : Ok m)

theorem place (t : Fin (cfgM m hO).N) : ((cfgM m hO).win 2).index t = ![t.val / 1, t.val % 1, 0] :=
  (by decide +kernel : ∀ t : Fin grid0.N, cc0_transform_2 (grid0.coords t) = ![t.val / 1, t.val % 1, 0]) t

/-- Every point's block is written back: the next point's is another one. -/
theorem flushes (t : Fin (cfgM m hO).N) : ((cfgM m hO).win 2).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have e0 : (t.val + 1) / 1 = t.val / 1 := congrFun e 0
    have e1 : (t.val + 1) % 1 = t.val % 1 := congrFun e 1
    omega

theorem pay (v0 : S1x1x512x834.Idx → EReal) (v2 : S1x512x834.Idx → EReal) (y : S1x512x834.Idx) :
    k0_pay1 (F := Ideal) v0 v2 y = at4 v0 0 0 (y 1).val (y 2).val + v2 y := by
  have y0 : (y 0).val = 0 := Nat.lt_one_iff.mp (y 0).isLt
  unfold k0_pay1
  refine congrArg (· + v2 y) ((shapeCast_apply v0 shapeCasts_S1x1x512x834_S1x512x834 y
    (fun | ⟨0, _⟩ => ⟨0, Nat.one_pos⟩ | ⟨1, _⟩ => y 0 | ⟨2, _⟩ => y 1 | ⟨3, _⟩ => y 2) ?_).trans (at4_val v0 _ _ _ _ _ rfl y0 rfl rfl))
  rewrite [Shape.rowMajor_val_four, Shape.rowMajor_val_three]
  show ((0 * 1 + (y 0).val) * 512 + (y 1).val) * 834 + (y 2).val = _
  rw [Nat.zero_mul, Nat.zero_add]
  rfl

/-- The block of the core's part at a point, at an entry. -/
theorem block0 (t : Fin (cfgM m hO).N) (r s : ℕ) (hr : r < 512) (hs : s < 834) :
    at4 (iblk m hO c 0 t : S1x1x512x834.Idx → EReal) 0 0 r s = at4 (piece m c) (t.val / 1) (core m) (t.val % 1 * 512 + r) s := by
  refine (at4_val (iblk m hO c 0 t : S1x1x512x834.Idx → EReal)
    (fun | ⟨0, _⟩ => ⟨0, Nat.one_pos⟩ | ⟨1, _⟩ => ⟨0, Nat.one_pos⟩ | ⟨2, _⟩ => ⟨r, hr⟩ | ⟨3, _⟩ => ⟨s, hs⟩) _ _ _ _ rfl rfl rfl rfl).symm.trans ?_
  show V m c main_arg0 _ = _
  have e : cc0_transform_0 inb_S1_S1_0 numel1_S1 (tbl m) (grid0.coords t) = ![t.val / 1, core m, t.val % 1, 0] := by
    rw [idx, (by decide +kernel : ∀ t : Fin grid0.N, (grid0.coords t 0).val = t.val / 1) t, (by decide +kernel : ∀ t : Fin grid0.N, (grid0.coords t 1).val = t.val % 1) t]
  refine at4_val (piece m c) _ _ _ _ _ ?_ ?_ ?_ ?_
  · show cc0_transform_0 inb_S1_S1_0 numel1_S1 (tbl m) (grid0.coords t) 0 * 1 + 1 * 0 = _
    rw [e]; simp
  · show cc0_transform_0 inb_S1_S1_0 numel1_S1 (tbl m) (grid0.coords t) 1 * 1 + 1 * 0 = _
    rw [e]; simp
  · show cc0_transform_0 inb_S1_S1_0 numel1_S1 (tbl m) (grid0.coords t) 2 * 512 + 1 * r = _
    rw [e]; simp
  · show cc0_transform_0 inb_S1_S1_0 numel1_S1 (tbl m) (grid0.coords t) 3 * 834 + 1 * s = _
    rw [e]; simp

/-- The block of the other core's part at a point, at an entry. -/
theorem block1 (t : Fin (cfgM m hO).N) (y : S1x512x834.Idx) :
    iblk m hO c 1 t y = at3 (received m c) (t.val / 1) (t.val % 1 * 512 + (y 1).val) (y 2).val := by
  have y0 : (y 0).val = 0 := Nat.lt_one_iff.mp (y 0).isLt
  show V m c main_arg1 _ = _
  have e : cc0_transform_1 (grid0.coords t) = ![t.val / 1, t.val % 1, 0] :=
    (by decide +kernel : ∀ t : Fin grid0.N, cc0_transform_1 (grid0.coords t) = ![t.val / 1, t.val % 1, 0]) t
  refine at3_val (received m c) _ _ _ _ ?_ ?_ ?_
  · show cc0_transform_1 (grid0.coords t) 0 * 1 + 1 * (y 0).val = _
    rw [e]; simp [y0]
  · show cc0_transform_1 (grid0.coords t) 1 * 512 + 1 * (y 1).val = _
    rw [e]; simp
  · show cc0_transform_1 (grid0.coords t) 2 * 834 + 1 * (y 2).val = _
    rw [e]; simp

/-- The sum of the two parts. -/
abbrev sums : S4x512x834.Idx → EReal := fun i => both (piece m c) (received m c) (core m) (i 0).val (i 1).val (i 2).val

/-- What a point writes back: its block of the sum. -/
theorem written (t : Fin (cfgM m hO).N) :
    (dats m hO 0 c).flushed 2 t = (((cfgM m hO).win 2).blk t).view.read (Elt Ideal) (sums m c) := by
  show (((cfgM m hO).win 2).cut (grid0.coords t) ((dats m hO 0 c).after 2 t)) = _
  rw [after0_2]
  unfold outsAt0 out0_A_2 kernelRun0_A
  dsimp only
  refine (View.read_writes_full VO0_2 _ inb_S1x512x834_S1x512x834_0_0_0 _ _).trans ?_
  sl_unfold_words
  funext y
  have y0 : (y 0).val = 0 := Nat.lt_one_iff.mp (y 0).isLt
  have hR : ∀ p : Fin 3 → ℕ, p = ![t.val / 1, t.val % 1, 0] →
      both (piece m c) (received m c) (core m) (p 0 * 1 + 1 * (y 0).val) (p 1 * 512 + 1 * (y 1).val) (p 2 * 834 + 1 * (y 2).val)
        = both (piece m c) (received m c) (core m) (t.val / 1) (t.val % 1 * 512 + (y 1).val) (y 2).val := by
    rintro p rfl
    simp [y0]
  refine Eq.trans ?_ (hR _ (place m hO t)).symm
  refine (pay _ _ y).trans ?_
  refine congrArg₂ (· + ·) ?_ ?_
  · refine Eq.trans (congrArg (fun f : S1x1x512x834.Idx → EReal => at4 f 0 0 (y 1).val (y 2).val) ?_) (block0 m c hO t _ _ (y 1).isLt (y 2).isLt)
    funext j
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · refine Eq.trans ?_ (block1 m c hO t y)
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)

/-- The kernel's array holds the sum. -/
theorem final (i : S4x512x834.Idx) : (dats m hO 0 c).arrAt 2 (cfgM m hO).N i = sums m c i := by
  have hi0 : (i 0).val < 4 := (i 0).isLt
  have hi1 : (i 1).val < 512 := (i 1).isLt
  have hN : (cfgM m hO).N = 4 * 1 := by show grid0.N = 4 * 1; decide
  have ht : (i 0).val * 1 + (i 1).val / 512 < (cfgM m hO).N := by rw [hN]; omega
  refine (dats m hO 0 c).arrAt_apply_of_mem 2 (sums m c) (fun t _ => written m c hO t) (cfgM m hO).N ⟨(i 0).val * 1 + (i 1).val / 512, ht⟩ i ht (flushes m hO _) ?_
  refine Eq.mpr (congrArg (i ∈ ·) (View.set_slice_whole main_v0 _)) ?_
  exact Rect.mem_set_unit.mpr fun k => held (p := ((i 0).val * 1 + (i 1).val / 512) / 1) (t := ((i 0).val * 1 + (i 1).val / 512) % 1) (b := 512) _
    (place m hO ⟨(i 0).val * 1 + (i 1).val / 512, ht⟩) i (by omega) (by omega) k

/-- So does the reference's. -/
theorem reference (hw : core m < 2) (i : S4x512x834.Idx) :
    PairL0InRefIdeal.Read.val_main_v9 (F := Ideal) (piece m 0) (received m 0) (m (((0 : Dev nD) : Thread nD τ).loc main_arg2)) i = sums m 0 i := by
  have hi0 : (i 0).val < 4 := (i 0).isLt
  have hi1 : (i 1).val < 512 := (i 1).isLt
  have hi2 : (i 2).val < 834 := (i 2).isLt
  have e : PairL0InRefIdeal.Read.val_main_v7 (F := Ideal) (piece m 0) (m (((0 : Dev nD) : Thread nD τ).loc main_arg2)) i
      = at4 (piece m 0) (i 0).val (core m) (i 1).val (i 2).val := by
    rw [PairL0InRefIdeal.Read.val_main_v7_apply, PairL0InRefIdeal.Read.val_main_v2_apply, PairL0InRefIdeal.Read.val_main_v1_apply, PairL0InRefIdeal.Read.val_main_v4_apply,
      PairL0InRefIdeal.Read.val_main_v3_apply, PairL0InRefIdeal.Read.val_main_v6_apply, PairL0InRefIdeal.Read.val_main_v5_apply,
      at4_val (piece m 0) (PairL0InRefIdeal.Read.idx_main_v3 _) (i 0).val 0 (i 1).val (i 2).val ?a ?b ?c ?d,
      at4_val (piece m 0) (PairL0InRefIdeal.Read.idx_main_v5 _) (i 0).val 1 (i 1).val (i 2).val ?a' ?b' ?c' ?d']
    · have hword := only (m (((0 : Dev nD) : Thread nD τ).loc main_arg2))
      refine Eq.trans (congrArg (fun w => Scalar.select (IntOp.cmpi .eq w 0#32) _ _) (hword _ _)) (pick (piece m 0) _ hw (i 0).val (i 1).val (i 2).val)
    case a => show (((i 0).val * 512 + (i 1).val) * 834 + (i 2).val) / (512 * 834) = _; omega
    case a' => show (((i 0).val * 512 + (i 1).val) * 834 + (i 2).val) / (512 * 834) = _; omega
    case b => rfl
    case b' => rfl
    case c => show (((i 0).val * 512 + (i 1).val) * 834 + (i 2).val) / 834 % 512 = _; omega
    case c' => show (((i 0).val * 512 + (i 1).val) * 834 + (i 2).val) / 834 % 512 = _; omega
    case d => show (((i 0).val * 512 + (i 1).val) * 834 + (i 2).val) % 834 = _; omega
    case d' => show (((i 0).val * 512 + (i 1).val) * 834 + (i 2).val) % 834 = _; omega
  exact congrArg₂ (· + ·) e (at3_val (received m 0) i _ _ _ rfl rfl rfl)

/-- The kernel ends with the reference's array. -/
theorem algebraic [Cert.Pre_a_core_PairL0In.Facts] : Cert.algebraic_PairL0InIdeal_PairL0InRefIdeal := by
  intro m g m' g' hp h
  have hw := core_two m hp
  have hO := ok m hw
  refine ⟨fun c => (dats m hO 0 c).arrAt 2 (cfgM m hO).N, ?_, ?_⟩
  · exact (θ_run _ _ _).mono (fun r hr c => ⟨(hr.1 c).1 2, hr.2 c⟩) (θ_run_and (run_main m g hO) (unchanged m g hO))
  · refine (θ_run _ _ _).mono (fun r hr c => ⟨?_, (hr c).2⟩) (PairL0InRefIdeal.Value.run m' g')
    obtain rfl : c = 0 := Subsingleton.elim _ _
    funext i
    refine Eq.trans ?_ (final m 0 hO i).symm
    rw [(hr 0).1, PairL0InRefIdeal.Read.val_main_v9_eq, (h 0).1, (h 0).2.1, (h 0).2.2]
    exact reference m hw i

end Cert.Step.PairL0In

end
-- ==== Proof.Step.PairL1In.lean ====
/- The sum of the two cores' parts of a shard of l1_w_in, at the half of one core. -/
module

public import proofs.«01_k».proof.Proof.Gen.PairL1In.Frame
public import proofs.«01_k».proof.Proof.Gen.PairL1InIdeal.Frame
public import proofs.«01_k».proof.Proof.Gen.PairL1InRefIdeal.Run
public import proofs.«01_k».proof.Proof.Gen.PairL1InRefIdeal.Read
public import proofs.«01_k».proof.Proof.Step.Pair
public import proofs.«01_k».proof.Defs
import all proofs.«01_k».proof.Proof.Gen.PairL1InIdeal.Frame

@[expose] public section

set_option maxRecDepth 16384

noncomputable section

namespace Cert.Step.PairL1In

open Idealize.ShloMosaic Idealize.ShloMosaic.TcCoe Idealize.SL.Sem Cert.Step.Chip Cert.Step.Pair

/-- The precondition gives the kernel's side condition: the blocks a core reads are of one of the two halves. -/
theorem fits [Cert.Pre_a_core_PairL1In.Facts] (m : (ℓ : Loc PairL1In.nD PairL1In.τ PairL1In.sig) → Buf (Elt Bits) ℓ) (h : Pre_PairL1In m) : PairL1In.Gen.Ok m := by
  intro i
  have hw : ((PairL1In.Gen.tbl m).at 0 (Rect.unit (s := PairL1In.S1) ![0] PairL1In.S1.size PairL1In.Gen.inb_S1_S1_0) PairL1In.Gen.numel1_S1).toNat < 2 :=
    lt_of_eq_of_lt (congrArg BitVec.toNat (only (m (((0 : Dev PairL1In.nD) : Thread PairL1In.nD PairL1In.τ).loc PairL1In.main_arg2)) _ _)) (core_lt _ (congrFun (h 0) fun a => a.elim0))
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨fun k => ?_, .inl rfl⟩
  show (![(BitVec.ofNat 32 (i 0).val).toNat, _, (BitVec.ofNat 32 (i 1).val).toNat, 0] k + 1) * _ ≤ _
  rw [e0, e1]
  exact inside (a := 512) (b := 512) (c := 488) h0 hw (by omega) k

open Cert.PairL1InIdeal Cert.PairL1InIdeal.Gen

variable (m : (ℓ : Loc nD τ sig) → Buf (Elt Ideal) ℓ) (c : Dev nD)

/-- The core's part, in two halves. -/
abbrev piece : S4x2x512x488.Idx → EReal := m ((c : Thread nD τ).loc main_arg0)

/-- The other core's part of the core's half. -/
abbrev received : S4x512x488.Idx → EReal := m ((c : Thread nD τ).loc main_arg1)

/-- The core's number. -/
abbrev core : ℕ := ((tbl m).at 0 (Rect.unit (s := S1) ![0] S1.size inb_S1_S1_0) numel1_S1).toNat

theorem core_two [Cert.Pre_a_core_PairL1In.Facts] (h : Pre_PairL1InIdeal m) : core m < 2 :=
  lt_of_eq_of_lt (congrArg BitVec.toNat (only (m (((0 : Dev nD) : Thread nD τ).loc main_arg2)) _ _)) (core_lt _ (congrFun (h 0) fun a => a.elim0))

/-- The block of its part a point of the grid reads. -/
theorem idx (i : grid0.Coords) : cc0_transform_0 inb_S1_S1_0 numel1_S1 (tbl m) i = ![(i 0).val, core m, (i 1).val, 0] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_0
  dsimp only
  rw [e0, e1]
  rfl

theorem ok (hw : core m < 2) : Ok m := by
  intro i
  have h1 : (i 1).val < 1 := (i 1).isLt
  refine ⟨fun k => ?_, .inl rfl⟩
  rw [idx]
  exact inside (a := 512) (b := 512) (c := 488) (i 0).isLt hw (by omega) k

variable (hO : Ok m)

theorem place (t : Fin (cfgM m hO).N) : ((cfgM m hO).win 2).index t = ![t.val / 1, t.val % 1, 0] :=
  (by decide +kernel : ∀ t : Fin grid0.N, cc0_transform_2 (grid0.coords t) = ![t.val / 1, t.val % 1, 0]) t

/-- Every point's block is written back: the next point's is another one. -/
theorem flushes (t : Fin (cfgM m hO).N) : ((cfgM m hO).win 2).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have e0 : (t.val + 1) / 1 = t.val / 1 := congrFun e 0
    have e1 : (t.val + 1) % 1 = t.val % 1 := congrFun e 1
    omega

theorem pay (v0 : S1x1x512x488.Idx → EReal) (v2 : S1x512x488.Idx → EReal) (y : S1x512x488.Idx) :
    k0_pay1 (F := Ideal) v0 v2 y = at4 v0 0 0 (y 1).val (y 2).val + v2 y := by
  have y0 : (y 0).val = 0 := Nat.lt_one_iff.mp (y 0).isLt
  unfold k0_pay1
  refine congrArg (· + v2 y) ((shapeCast_apply v0 shapeCasts_S1x1x512x488_S1x512x488 y
    (fun | ⟨0, _⟩ => ⟨0, Nat.one_pos⟩ | ⟨1, _⟩ => y 0 | ⟨2, _⟩ => y 1 | ⟨3, _⟩ => y 2) ?_).trans (at4_val v0 _ _ _ _ _ rfl y0 rfl rfl))
  rewrite [Shape.rowMajor_val_four, Shape.rowMajor_val_three]
  show ((0 * 1 + (y 0).val) * 512 + (y 1).val) * 488 + (y 2).val = _
  rw [Nat.zero_mul, Nat.zero_add]
  rfl

/-- The block of the core's part at a point, at an entry. -/
theorem block0 (t : Fin (cfgM m hO).N) (r s : ℕ) (hr : r < 512) (hs : s < 488) :
    at4 (iblk m hO c 0 t : S1x1x512x488.Idx → EReal) 0 0 r s = at4 (piece m c) (t.val / 1) (core m) (t.val % 1 * 512 + r) s := by
  refine (at4_val (iblk m hO c 0 t : S1x1x512x488.Idx → EReal)
    (fun | ⟨0, _⟩ => ⟨0, Nat.one_pos⟩ | ⟨1, _⟩ => ⟨0, Nat.one_pos⟩ | ⟨2, _⟩ => ⟨r, hr⟩ | ⟨3, _⟩ => ⟨s, hs⟩) _ _ _ _ rfl rfl rfl rfl).symm.trans ?_
  show V m c main_arg0 _ = _
  have e : cc0_transform_0 inb_S1_S1_0 numel1_S1 (tbl m) (grid0.coords t) = ![t.val / 1, core m, t.val % 1, 0] := by
    rw [idx, (by decide +kernel : ∀ t : Fin grid0.N, (grid0.coords t 0).val = t.val / 1) t, (by decide +kernel : ∀ t : Fin grid0.N, (grid0.coords t 1).val = t.val % 1) t]
  refine at4_val (piece m c) _ _ _ _ _ ?_ ?_ ?_ ?_
  · show cc0_transform_0 inb_S1_S1_0 numel1_S1 (tbl m) (grid0.coords t) 0 * 1 + 1 * 0 = _
    rw [e]; simp
  · show cc0_transform_0 inb_S1_S1_0 numel1_S1 (tbl m) (grid0.coords t) 1 * 1 + 1 * 0 = _
    rw [e]; simp
  · show cc0_transform_0 inb_S1_S1_0 numel1_S1 (tbl m) (grid0.coords t) 2 * 512 + 1 * r = _
    rw [e]; simp
  · show cc0_transform_0 inb_S1_S1_0 numel1_S1 (tbl m) (grid0.coords t) 3 * 488 + 1 * s = _
    rw [e]; simp

/-- The block of the other core's part at a point, at an entry. -/
theorem block1 (t : Fin (cfgM m hO).N) (y : S1x512x488.Idx) :
    iblk m hO c 1 t y = at3 (received m c) (t.val / 1) (t.val % 1 * 512 + (y 1).val) (y 2).val := by
  have y0 : (y 0).val = 0 := Nat.lt_one_iff.mp (y 0).isLt
  show V m c main_arg1 _ = _
  have e : cc0_transform_1 (grid0.coords t) = ![t.val / 1, t.val % 1, 0] :=
    (by decide +kernel : ∀ t : Fin grid0.N, cc0_transform_1 (grid0.coords t) = ![t.val / 1, t.val % 1, 0]) t
  refine at3_val (received m c) _ _ _ _ ?_ ?_ ?_
  · show cc0_transform_1 (grid0.coords t) 0 * 1 + 1 * (y 0).val = _
    rw [e]; simp [y0]
  · show cc0_transform_1 (grid0.coords t) 1 * 512 + 1 * (y 1).val = _
    rw [e]; simp
  · show cc0_transform_1 (grid0.coords t) 2 * 488 + 1 * (y 2).val = _
    rw [e]; simp

/-- The sum of the two parts. -/
abbrev sums : S4x512x488.Idx → EReal := fun i => both (piece m c) (received m c) (core m) (i 0).val (i 1).val (i 2).val

/-- What a point writes back: its block of the sum. -/
theorem written (t : Fin (cfgM m hO).N) :
    (dats m hO 0 c).flushed 2 t = (((cfgM m hO).win 2).blk t).view.read (Elt Ideal) (sums m c) := by
  show (((cfgM m hO).win 2).cut (grid0.coords t) ((dats m hO 0 c).after 2 t)) = _
  rw [after0_2]
  unfold outsAt0 out0_A_2 kernelRun0_A
  dsimp only
  refine (View.read_writes_full VO0_2 _ inb_S1x512x488_S1x512x488_0_0_0 _ _).trans ?_
  sl_unfold_words
  funext y
  have y0 : (y 0).val = 0 := Nat.lt_one_iff.mp (y 0).isLt
  have hR : ∀ p : Fin 3 → ℕ, p = ![t.val / 1, t.val % 1, 0] →
      both (piece m c) (received m c) (core m) (p 0 * 1 + 1 * (y 0).val) (p 1 * 512 + 1 * (y 1).val) (p 2 * 488 + 1 * (y 2).val)
        = both (piece m c) (received m c) (core m) (t.val / 1) (t.val % 1 * 512 + (y 1).val) (y 2).val := by
    rintro p rfl
    simp [y0]
  refine Eq.trans ?_ (hR _ (place m hO t)).symm
  refine (pay _ _ y).trans ?_
  refine congrArg₂ (· + ·) ?_ ?_
  · refine Eq.trans (congrArg (fun f : S1x1x512x488.Idx → EReal => at4 f 0 0 (y 1).val (y 2).val) ?_) (block0 m c hO t _ _ (y 1).isLt (y 2).isLt)
    funext j
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · refine Eq.trans ?_ (block1 m c hO t y)
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)

/-- The kernel's array holds the sum. -/
theorem final (i : S4x512x488.Idx) : (dats m hO 0 c).arrAt 2 (cfgM m hO).N i = sums m c i := by
  have hi0 : (i 0).val < 4 := (i 0).isLt
  have hi1 : (i 1).val < 512 := (i 1).isLt
  have hN : (cfgM m hO).N = 4 * 1 := by show grid0.N = 4 * 1; decide
  have ht : (i 0).val * 1 + (i 1).val / 512 < (cfgM m hO).N := by rw [hN]; omega
  refine (dats m hO 0 c).arrAt_apply_of_mem 2 (sums m c) (fun t _ => written m c hO t) (cfgM m hO).N ⟨(i 0).val * 1 + (i 1).val / 512, ht⟩ i ht (flushes m hO _) ?_
  refine Eq.mpr (congrArg (i ∈ ·) (View.set_slice_whole main_v0 _)) ?_
  exact Rect.mem_set_unit.mpr fun k => held (p := ((i 0).val * 1 + (i 1).val / 512) / 1) (t := ((i 0).val * 1 + (i 1).val / 512) % 1) (b := 512) _
    (place m hO ⟨(i 0).val * 1 + (i 1).val / 512, ht⟩) i (by omega) (by omega) k

/-- So does the reference's. -/
theorem reference (hw : core m < 2) (i : S4x512x488.Idx) :
    PairL1InRefIdeal.Read.val_main_v9 (F := Ideal) (piece m 0) (received m 0) (m (((0 : Dev nD) : Thread nD τ).loc main_arg2)) i = sums m 0 i := by
  have hi0 : (i 0).val < 4 := (i 0).isLt
  have hi1 : (i 1).val < 512 := (i 1).isLt
  have hi2 : (i 2).val < 488 := (i 2).isLt
  have e : PairL1InRefIdeal.Read.val_main_v7 (F := Ideal) (piece m 0) (m (((0 : Dev nD) : Thread nD τ).loc main_arg2)) i
      = at4 (piece m 0) (i 0).val (core m) (i 1).val (i 2).val := by
    rw [PairL1InRefIdeal.Read.val_main_v7_apply, PairL1InRefIdeal.Read.val_main_v2_apply, PairL1InRefIdeal.Read.val_main_v1_apply, PairL1InRefIdeal.Read.val_main_v4_apply,
      PairL1InRefIdeal.Read.val_main_v3_apply, PairL1InRefIdeal.Read.val_main_v6_apply, PairL1InRefIdeal.Read.val_main_v5_apply,
      at4_val (piece m 0) (PairL1InRefIdeal.Read.idx_main_v3 _) (i 0).val 0 (i 1).val (i 2).val ?a ?b ?c ?d,
      at4_val (piece m 0) (PairL1InRefIdeal.Read.idx_main_v5 _) (i 0).val 1 (i 1).val (i 2).val ?a' ?b' ?c' ?d']
    · have hword := only (m (((0 : Dev nD) : Thread nD τ).loc main_arg2))
      refine Eq.trans (congrArg (fun w => Scalar.select (IntOp.cmpi .eq w 0#32) _ _) (hword _ _)) (pick (piece m 0) _ hw (i 0).val (i 1).val (i 2).val)
    case a => show (((i 0).val * 512 + (i 1).val) * 488 + (i 2).val) / (512 * 488) = _; omega
    case a' => show (((i 0).val * 512 + (i 1).val) * 488 + (i 2).val) / (512 * 488) = _; omega
    case b => rfl
    case b' => rfl
    case c => show (((i 0).val * 512 + (i 1).val) * 488 + (i 2).val) / 488 % 512 = _; omega
    case c' => show (((i 0).val * 512 + (i 1).val) * 488 + (i 2).val) / 488 % 512 = _; omega
    case d => show (((i 0).val * 512 + (i 1).val) * 488 + (i 2).val) % 488 = _; omega
    case d' => show (((i 0).val * 512 + (i 1).val) * 488 + (i 2).val) % 488 = _; omega
  exact congrArg₂ (· + ·) e (at3_val (received m 0) i _ _ _ rfl rfl rfl)

/-- The kernel ends with the reference's array. -/
theorem algebraic [Cert.Pre_a_core_PairL1In.Facts] : Cert.algebraic_PairL1InIdeal_PairL1InRefIdeal := by
  intro m g m' g' hp h
  have hw := core_two m hp
  have hO := ok m hw
  refine ⟨fun c => (dats m hO 0 c).arrAt 2 (cfgM m hO).N, ?_, ?_⟩
  · exact (θ_run _ _ _).mono (fun r hr c => ⟨(hr.1 c).1 2, hr.2 c⟩) (θ_run_and (run_main m g hO) (unchanged m g hO))
  · refine (θ_run _ _ _).mono (fun r hr c => ⟨?_, (hr c).2⟩) (PairL1InRefIdeal.Value.run m' g')
    obtain rfl : c = 0 := Subsingleton.elim _ _
    funext i
    refine Eq.trans ?_ (final m 0 hO i).symm
    rw [(hr 0).1, PairL1InRefIdeal.Read.val_main_v9_eq, (h 0).1, (h 0).2.1, (h 0).2.2]
    exact reference m hw i

end Cert.Step.PairL1In

end
-- ==== Proof.Step.PairUp.lean ====
/- The sum of the two cores' parts of a shard of a channel mixer's first weight, at the half of one core. -/
module

public import proofs.«01_k».proof.Proof.Gen.PairUp.Frame
public import proofs.«01_k».proof.Proof.Gen.PairUpIdeal.Frame
public import proofs.«01_k».proof.Proof.Gen.PairUpRefIdeal.Run
public import proofs.«01_k».proof.Proof.Gen.PairUpRefIdeal.Read
public import proofs.«01_k».proof.Proof.Step.Pair
public import proofs.«01_k».proof.Defs
import all proofs.«01_k».proof.Proof.Gen.PairUpIdeal.Frame

@[expose] public section

set_option maxRecDepth 16384

noncomputable section

namespace Cert.Step.PairUp

open Idealize.ShloMosaic Idealize.ShloMosaic.TcCoe Idealize.SL.Sem Cert.Step.Chip Cert.Step.Pair

/-- The precondition gives the kernel's side condition: the blocks a core reads are of one of the two halves. -/
theorem fits [Cert.Pre_a_core_PairUp.Facts] (m : (ℓ : Loc PairUp.nD PairUp.τ PairUp.sig) → Buf (Elt Bits) ℓ) (h : Pre_PairUp m) : PairUp.Gen.Ok m := by
  intro i
  have hw : ((PairUp.Gen.tbl m).at 0 (Rect.unit (s := PairUp.S1) ![0] PairUp.S1.size PairUp.Gen.inb_S1_S1_0) PairUp.Gen.numel1_S1).toNat < 2 :=
    lt_of_eq_of_lt (congrArg BitVec.toNat (only (m (((0 : Dev PairUp.nD) : Thread PairUp.nD PairUp.τ).loc PairUp.main_arg2)) _ _)) (core_lt _ (congrFun (h 0) fun a => a.elim0))
  have h0 : (i 0).val < 4 := (i 0).isLt
  have h1 : (i 1).val < 2 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨fun k => ?_, .inl rfl⟩
  show (![(BitVec.ofNat 32 (i 0).val).toNat, _, (BitVec.ofNat 32 (i 1).val).toNat, 0] k + 1) * _ ≤ _
  rw [e0, e1]
  exact inside (a := 512) (b := 256) (c := 1408) h0 hw (by omega) k

open Cert.PairUpIdeal Cert.PairUpIdeal.Gen

variable (m : (ℓ : Loc nD τ sig) → Buf (Elt Ideal) ℓ) (c : Dev nD)

/-- The core's part, in two halves. -/
abbrev piece : S4x2x512x1408.Idx → EReal := m ((c : Thread nD τ).loc main_arg0)

/-- The other core's part of the core's half. -/
abbrev received : S4x512x1408.Idx → EReal := m ((c : Thread nD τ).loc main_arg1)

/-- The core's number. -/
abbrev core : ℕ := ((tbl m).at 0 (Rect.unit (s := S1) ![0] S1.size inb_S1_S1_0) numel1_S1).toNat

theorem core_two [Cert.Pre_a_core_PairUp.Facts] (h : Pre_PairUpIdeal m) : core m < 2 :=
  lt_of_eq_of_lt (congrArg BitVec.toNat (only (m (((0 : Dev nD) : Thread nD τ).loc main_arg2)) _ _)) (core_lt _ (congrFun (h 0) fun a => a.elim0))

/-- The block of its part a point of the grid reads. -/
theorem idx (i : grid0.Coords) : cc0_transform_0 inb_S1_S1_0 numel1_S1 (tbl m) i = ![(i 0).val, core m, (i 1).val, 0] := by
  have h0 : (i 0).val < 4 := (i 0).isLt
  have h1 : (i 1).val < 2 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_0
  dsimp only
  rw [e0, e1]
  rfl

theorem ok (hw : core m < 2) : Ok m := by
  intro i
  have h1 : (i 1).val < 2 := (i 1).isLt
  refine ⟨fun k => ?_, .inl rfl⟩
  rw [idx]
  exact inside (a := 512) (b := 256) (c := 1408) (i 0).isLt hw (by omega) k

variable (hO : Ok m)

theorem place (t : Fin (cfgM m hO).N) : ((cfgM m hO).win 2).index t = ![t.val / 2, t.val % 2, 0] :=
  (by decide +kernel : ∀ t : Fin grid0.N, cc0_transform_2 (grid0.coords t) = ![t.val / 2, t.val % 2, 0]) t

/-- Every point's block is written back: the next point's is another one. -/
theorem flushes (t : Fin (cfgM m hO).N) : ((cfgM m hO).win 2).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have e0 : (t.val + 1) / 2 = t.val / 2 := congrFun e 0
    have e1 : (t.val + 1) % 2 = t.val % 2 := congrFun e 1
    omega

theorem pay (v0 : S1x1x256x1408.Idx → EReal) (v2 : S1x256x1408.Idx → EReal) (y : S1x256x1408.Idx) :
    k0_pay1 (F := Ideal) v0 v2 y = at4 v0 0 0 (y 1).val (y 2).val + v2 y := by
  have y0 : (y 0).val = 0 := Nat.lt_one_iff.mp (y 0).isLt
  unfold k0_pay1
  refine congrArg (· + v2 y) ((shapeCast_apply v0 shapeCasts_S1x1x256x1408_S1x256x1408 y
    (fun | ⟨0, _⟩ => ⟨0, Nat.one_pos⟩ | ⟨1, _⟩ => y 0 | ⟨2, _⟩ => y 1 | ⟨3, _⟩ => y 2) ?_).trans (at4_val v0 _ _ _ _ _ rfl y0 rfl rfl))
  rewrite [Shape.rowMajor_val_four, Shape.rowMajor_val_three]
  show ((0 * 1 + (y 0).val) * 256 + (y 1).val) * 1408 + (y 2).val = _
  rw [Nat.zero_mul, Nat.zero_add]
  rfl

/-- The block of the core's part at a point, at an entry. -/
theorem block0 (t : Fin (cfgM m hO).N) (r s : ℕ) (hr : r < 256) (hs : s < 1408) :
    at4 (iblk m hO c 0 t : S1x1x256x1408.Idx → EReal) 0 0 r s = at4 (piece m c) (t.val / 2) (core m) (t.val % 2 * 256 + r) s := by
  refine (at4_val (iblk m hO c 0 t : S1x1x256x1408.Idx → EReal)
    (fun | ⟨0, _⟩ => ⟨0, Nat.one_pos⟩ | ⟨1, _⟩ => ⟨0, Nat.one_pos⟩ | ⟨2, _⟩ => ⟨r, hr⟩ | ⟨3, _⟩ => ⟨s, hs⟩) _ _ _ _ rfl rfl rfl rfl).symm.trans ?_
  show V m c main_arg0 _ = _
  have e : cc0_transform_0 inb_S1_S1_0 numel1_S1 (tbl m) (grid0.coords t) = ![t.val / 2, core m, t.val % 2, 0] := by
    rw [idx, (by decide +kernel : ∀ t : Fin grid0.N, (grid0.coords t 0).val = t.val / 2) t, (by decide +kernel : ∀ t : Fin grid0.N, (grid0.coords t 1).val = t.val % 2) t]
  refine at4_val (piece m c) _ _ _ _ _ ?_ ?_ ?_ ?_
  · show cc0_transform_0 inb_S1_S1_0 numel1_S1 (tbl m) (grid0.coords t) 0 * 1 + 1 * 0 = _
    rw [e]; simp
  · show cc0_transform_0 inb_S1_S1_0 numel1_S1 (tbl m) (grid0.coords t) 1 * 1 + 1 * 0 = _
    rw [e]; simp
  · show cc0_transform_0 inb_S1_S1_0 numel1_S1 (tbl m) (grid0.coords t) 2 * 256 + 1 * r = _
    rw [e]; simp
  · show cc0_transform_0 inb_S1_S1_0 numel1_S1 (tbl m) (grid0.coords t) 3 * 1408 + 1 * s = _
    rw [e]; simp

/-- The block of the other core's part at a point, at an entry. -/
theorem block1 (t : Fin (cfgM m hO).N) (y : S1x256x1408.Idx) :
    iblk m hO c 1 t y = at3 (received m c) (t.val / 2) (t.val % 2 * 256 + (y 1).val) (y 2).val := by
  have y0 : (y 0).val = 0 := Nat.lt_one_iff.mp (y 0).isLt
  show V m c main_arg1 _ = _
  have e : cc0_transform_1 (grid0.coords t) = ![t.val / 2, t.val % 2, 0] :=
    (by decide +kernel : ∀ t : Fin grid0.N, cc0_transform_1 (grid0.coords t) = ![t.val / 2, t.val % 2, 0]) t
  refine at3_val (received m c) _ _ _ _ ?_ ?_ ?_
  · show cc0_transform_1 (grid0.coords t) 0 * 1 + 1 * (y 0).val = _
    rw [e]; simp [y0]
  · show cc0_transform_1 (grid0.coords t) 1 * 256 + 1 * (y 1).val = _
    rw [e]; simp
  · show cc0_transform_1 (grid0.coords t) 2 * 1408 + 1 * (y 2).val = _
    rw [e]; simp

/-- The sum of the two parts. -/
abbrev sums : S4x512x1408.Idx → EReal := fun i => both (piece m c) (received m c) (core m) (i 0).val (i 1).val (i 2).val

/-- What a point writes back: its block of the sum. -/
theorem written (t : Fin (cfgM m hO).N) :
    (dats m hO 0 c).flushed 2 t = (((cfgM m hO).win 2).blk t).view.read (Elt Ideal) (sums m c) := by
  show (((cfgM m hO).win 2).cut (grid0.coords t) ((dats m hO 0 c).after 2 t)) = _
  rw [after0_2]
  unfold outsAt0 out0_A_2 kernelRun0_A
  dsimp only
  refine (View.read_writes_full VO0_2 _ inb_S1x256x1408_S1x256x1408_0_0_0 _ _).trans ?_
  sl_unfold_words
  funext y
  have y0 : (y 0).val = 0 := Nat.lt_one_iff.mp (y 0).isLt
  have hR : ∀ p : Fin 3 → ℕ, p = ![t.val / 2, t.val % 2, 0] →
      both (piece m c) (received m c) (core m) (p 0 * 1 + 1 * (y 0).val) (p 1 * 256 + 1 * (y 1).val) (p 2 * 1408 + 1 * (y 2).val)
        = both (piece m c) (received m c) (core m) (t.val / 2) (t.val % 2 * 256 + (y 1).val) (y 2).val := by
    rintro p rfl
    simp [y0]
  refine Eq.trans ?_ (hR _ (place m hO t)).symm
  refine (pay _ _ y).trans ?_
  refine congrArg₂ (· + ·) ?_ ?_
  · refine Eq.trans (congrArg (fun f : S1x1x256x1408.Idx → EReal => at4 f 0 0 (y 1).val (y 2).val) ?_) (block0 m c hO t _ _ (y 1).isLt (y 2).isLt)
    funext j
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · refine Eq.trans ?_ (block1 m c hO t y)
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)

/-- The kernel's array holds the sum. -/
theorem final (i : S4x512x1408.Idx) : (dats m hO 0 c).arrAt 2 (cfgM m hO).N i = sums m c i := by
  have hi0 : (i 0).val < 4 := (i 0).isLt
  have hi1 : (i 1).val < 512 := (i 1).isLt
  have hN : (cfgM m hO).N = 4 * 2 := by show grid0.N = 4 * 2; decide
  have ht : (i 0).val * 2 + (i 1).val / 256 < (cfgM m hO).N := by rw [hN]; omega
  refine (dats m hO 0 c).arrAt_apply_of_mem 2 (sums m c) (fun t _ => written m c hO t) (cfgM m hO).N ⟨(i 0).val * 2 + (i 1).val / 256, ht⟩ i ht (flushes m hO _) ?_
  refine Eq.mpr (congrArg (i ∈ ·) (View.set_slice_whole main_v0 _)) ?_
  exact Rect.mem_set_unit.mpr fun k => held (p := ((i 0).val * 2 + (i 1).val / 256) / 2) (t := ((i 0).val * 2 + (i 1).val / 256) % 2) (b := 256) _
    (place m hO ⟨(i 0).val * 2 + (i 1).val / 256, ht⟩) i (by omega) (by omega) k

/-- So does the reference's. -/
theorem reference (hw : core m < 2) (i : S4x512x1408.Idx) :
    PairUpRefIdeal.Read.val_main_v9 (F := Ideal) (piece m 0) (received m 0) (m (((0 : Dev nD) : Thread nD τ).loc main_arg2)) i = sums m 0 i := by
  have hi0 : (i 0).val < 4 := (i 0).isLt
  have hi1 : (i 1).val < 512 := (i 1).isLt
  have hi2 : (i 2).val < 1408 := (i 2).isLt
  have e : PairUpRefIdeal.Read.val_main_v7 (F := Ideal) (piece m 0) (m (((0 : Dev nD) : Thread nD τ).loc main_arg2)) i
      = at4 (piece m 0) (i 0).val (core m) (i 1).val (i 2).val := by
    rw [PairUpRefIdeal.Read.val_main_v7_apply, PairUpRefIdeal.Read.val_main_v2_apply, PairUpRefIdeal.Read.val_main_v1_apply, PairUpRefIdeal.Read.val_main_v4_apply,
      PairUpRefIdeal.Read.val_main_v3_apply, PairUpRefIdeal.Read.val_main_v6_apply, PairUpRefIdeal.Read.val_main_v5_apply,
      at4_val (piece m 0) (PairUpRefIdeal.Read.idx_main_v3 _) (i 0).val 0 (i 1).val (i 2).val ?a ?b ?c ?d,
      at4_val (piece m 0) (PairUpRefIdeal.Read.idx_main_v5 _) (i 0).val 1 (i 1).val (i 2).val ?a' ?b' ?c' ?d']
    · have hword := only (m (((0 : Dev nD) : Thread nD τ).loc main_arg2))
      refine Eq.trans (congrArg (fun w => Scalar.select (IntOp.cmpi .eq w 0#32) _ _) (hword _ _)) (pick (piece m 0) _ hw (i 0).val (i 1).val (i 2).val)
    case a => show (((i 0).val * 512 + (i 1).val) * 1408 + (i 2).val) / (512 * 1408) = _; omega
    case a' => show (((i 0).val * 512 + (i 1).val) * 1408 + (i 2).val) / (512 * 1408) = _; omega
    case b => rfl
    case b' => rfl
    case c => show (((i 0).val * 512 + (i 1).val) * 1408 + (i 2).val) / 1408 % 512 = _; omega
    case c' => show (((i 0).val * 512 + (i 1).val) * 1408 + (i 2).val) / 1408 % 512 = _; omega
    case d => show (((i 0).val * 512 + (i 1).val) * 1408 + (i 2).val) % 1408 = _; omega
    case d' => show (((i 0).val * 512 + (i 1).val) * 1408 + (i 2).val) % 1408 = _; omega
  exact congrArg₂ (· + ·) e (at3_val (received m 0) i _ _ _ rfl rfl rfl)

/-- The kernel ends with the reference's array. -/
theorem algebraic [Cert.Pre_a_core_PairUp.Facts] : Cert.algebraic_PairUpIdeal_PairUpRefIdeal := by
  intro m g m' g' hp h
  have hw := core_two m hp
  have hO := ok m hw
  refine ⟨fun c => (dats m hO 0 c).arrAt 2 (cfgM m hO).N, ?_, ?_⟩
  · exact (θ_run _ _ _).mono (fun r hr c => ⟨(hr.1 c).1 2, hr.2 c⟩) (θ_run_and (run_main m g hO) (unchanged m g hO))
  · refine (θ_run _ _ _).mono (fun r hr c => ⟨?_, (hr c).2⟩) (PairUpRefIdeal.Value.run m' g')
    obtain rfl : c = 0 := Subsingleton.elim _ _
    funext i
    refine Eq.trans ?_ (final m 0 hO i).symm
    rw [(hr 0).1, PairUpRefIdeal.Read.val_main_v9_eq, (h 0).1, (h 0).2.1, (h 0).2.2]
    exact reference m hw i

end Cert.Step.PairUp

end
-- ==== Proof.Step.PairDown.lean ====
/- The sum of the two cores' parts of a shard of a channel mixer's second weight, at the half of one core. -/
module

public import proofs.«01_k».proof.Proof.Gen.PairDown.Frame
public import proofs.«01_k».proof.Proof.Gen.PairDownIdeal.Frame
public import proofs.«01_k».proof.Proof.Gen.PairDownRefIdeal.Run
public import proofs.«01_k».proof.Proof.Gen.PairDownRefIdeal.Read
public import proofs.«01_k».proof.Proof.Step.Pair
public import proofs.«01_k».proof.Defs
import all proofs.«01_k».proof.Proof.Gen.PairDownIdeal.Frame

@[expose] public section

set_option maxRecDepth 16384

noncomputable section

namespace Cert.Step.PairDown

open Idealize.ShloMosaic Idealize.ShloMosaic.TcCoe Idealize.SL.Sem Cert.Step.Chip Cert.Step.Pair

/-- The precondition gives the kernel's side condition: the blocks a core reads are of one of the two halves. -/
theorem fits [Cert.Pre_a_core_PairDown.Facts] (m : (ℓ : Loc PairDown.nD PairDown.τ PairDown.sig) → Buf (Elt Bits) ℓ) (h : Pre_PairDown m) : PairDown.Gen.Ok m := by
  intro i
  have hw : ((PairDown.Gen.tbl m).at 0 (Rect.unit (s := PairDown.S1) ![0] PairDown.S1.size PairDown.Gen.inb_S1_S1_0) PairDown.Gen.numel1_S1).toNat < 2 :=
    lt_of_eq_of_lt (congrArg BitVec.toNat (only (m (((0 : Dev PairDown.nD) : Thread PairDown.nD PairDown.τ).loc PairDown.main_arg2)) _ _)) (core_lt _ (congrFun (h 0) fun a => a.elim0))
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨fun k => ?_, .inl rfl⟩
  show (![(BitVec.ofNat 32 (i 0).val).toNat, _, (BitVec.ofNat 32 (i 1).val).toNat, 0] k + 1) * _ ≤ _
  rw [e0, e1]
  exact inside (a := 352) (b := 352) (c := 1024) h0 hw (by omega) k

open Cert.PairDownIdeal Cert.PairDownIdeal.Gen

variable (m : (ℓ : Loc nD τ sig) → Buf (Elt Ideal) ℓ) (c : Dev nD)

/-- The core's part, in two halves. -/
abbrev piece : S4x2x352x1024.Idx → EReal := m ((c : Thread nD τ).loc main_arg0)

/-- The other core's part of the core's half. -/
abbrev received : S4x352x1024.Idx → EReal := m ((c : Thread nD τ).loc main_arg1)

/-- The core's number. -/
abbrev core : ℕ := ((tbl m).at 0 (Rect.unit (s := S1) ![0] S1.size inb_S1_S1_0) numel1_S1).toNat

theorem core_two [Cert.Pre_a_core_PairDown.Facts] (h : Pre_PairDownIdeal m) : core m < 2 :=
  lt_of_eq_of_lt (congrArg BitVec.toNat (only (m (((0 : Dev nD) : Thread nD τ).loc main_arg2)) _ _)) (core_lt _ (congrFun (h 0) fun a => a.elim0))

/-- The block of its part a point of the grid reads. -/
theorem idx (i : grid0.Coords) : cc0_transform_0 inb_S1_S1_0 numel1_S1 (tbl m) i = ![(i 0).val, core m, (i 1).val, 0] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_0
  dsimp only
  rw [e0, e1]
  rfl

theorem ok (hw : core m < 2) : Ok m := by
  intro i
  have h1 : (i 1).val < 1 := (i 1).isLt
  refine ⟨fun k => ?_, .inl rfl⟩
  rw [idx]
  exact inside (a := 352) (b := 352) (c := 1024) (i 0).isLt hw (by omega) k

variable (hO : Ok m)

theorem place (t : Fin (cfgM m hO).N) : ((cfgM m hO).win 2).index t = ![t.val / 1, t.val % 1, 0] :=
  (by decide +kernel : ∀ t : Fin grid0.N, cc0_transform_2 (grid0.coords t) = ![t.val / 1, t.val % 1, 0]) t

/-- Every point's block is written back: the next point's is another one. -/
theorem flushes (t : Fin (cfgM m hO).N) : ((cfgM m hO).win 2).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have e0 : (t.val + 1) / 1 = t.val / 1 := congrFun e 0
    have e1 : (t.val + 1) % 1 = t.val % 1 := congrFun e 1
    omega

theorem pay (v0 : S1x1x352x1024.Idx → EReal) (v2 : S1x352x1024.Idx → EReal) (y : S1x352x1024.Idx) :
    k0_pay1 (F := Ideal) v0 v2 y = at4 v0 0 0 (y 1).val (y 2).val + v2 y := by
  have y0 : (y 0).val = 0 := Nat.lt_one_iff.mp (y 0).isLt
  unfold k0_pay1
  refine congrArg (· + v2 y) ((shapeCast_apply v0 shapeCasts_S1x1x352x1024_S1x352x1024 y
    (fun | ⟨0, _⟩ => ⟨0, Nat.one_pos⟩ | ⟨1, _⟩ => y 0 | ⟨2, _⟩ => y 1 | ⟨3, _⟩ => y 2) ?_).trans (at4_val v0 _ _ _ _ _ rfl y0 rfl rfl))
  rewrite [Shape.rowMajor_val_four, Shape.rowMajor_val_three]
  show ((0 * 1 + (y 0).val) * 352 + (y 1).val) * 1024 + (y 2).val = _
  rw [Nat.zero_mul, Nat.zero_add]
  rfl

/-- The block of the core's part at a point, at an entry. -/
theorem block0 (t : Fin (cfgM m hO).N) (r s : ℕ) (hr : r < 352) (hs : s < 1024) :
    at4 (iblk m hO c 0 t : S1x1x352x1024.Idx → EReal) 0 0 r s = at4 (piece m c) (t.val / 1) (core m) (t.val % 1 * 352 + r) s := by
  refine (at4_val (iblk m hO c 0 t : S1x1x352x1024.Idx → EReal)
    (fun | ⟨0, _⟩ => ⟨0, Nat.one_pos⟩ | ⟨1, _⟩ => ⟨0, Nat.one_pos⟩ | ⟨2, _⟩ => ⟨r, hr⟩ | ⟨3, _⟩ => ⟨s, hs⟩) _ _ _ _ rfl rfl rfl rfl).symm.trans ?_
  show V m c main_arg0 _ = _
  have e : cc0_transform_0 inb_S1_S1_0 numel1_S1 (tbl m) (grid0.coords t) = ![t.val / 1, core m, t.val % 1, 0] := by
    rw [idx, (by decide +kernel : ∀ t : Fin grid0.N, (grid0.coords t 0).val = t.val / 1) t, (by decide +kernel : ∀ t : Fin grid0.N, (grid0.coords t 1).val = t.val % 1) t]
  refine at4_val (piece m c) _ _ _ _ _ ?_ ?_ ?_ ?_
  · show cc0_transform_0 inb_S1_S1_0 numel1_S1 (tbl m) (grid0.coords t) 0 * 1 + 1 * 0 = _
    rw [e]; simp
  · show cc0_transform_0 inb_S1_S1_0 numel1_S1 (tbl m) (grid0.coords t) 1 * 1 + 1 * 0 = _
    rw [e]; simp
  · show cc0_transform_0 inb_S1_S1_0 numel1_S1 (tbl m) (grid0.coords t) 2 * 352 + 1 * r = _
    rw [e]; simp
  · show cc0_transform_0 inb_S1_S1_0 numel1_S1 (tbl m) (grid0.coords t) 3 * 1024 + 1 * s = _
    rw [e]; simp

/-- The block of the other core's part at a point, at an entry. -/
theorem block1 (t : Fin (cfgM m hO).N) (y : S1x352x1024.Idx) :
    iblk m hO c 1 t y = at3 (received m c) (t.val / 1) (t.val % 1 * 352 + (y 1).val) (y 2).val := by
  have y0 : (y 0).val = 0 := Nat.lt_one_iff.mp (y 0).isLt
  show V m c main_arg1 _ = _
  have e : cc0_transform_1 (grid0.coords t) = ![t.val / 1, t.val % 1, 0] :=
    (by decide +kernel : ∀ t : Fin grid0.N, cc0_transform_1 (grid0.coords t) = ![t.val / 1, t.val % 1, 0]) t
  refine at3_val (received m c) _ _ _ _ ?_ ?_ ?_
  · show cc0_transform_1 (grid0.coords t) 0 * 1 + 1 * (y 0).val = _
    rw [e]; simp [y0]
  · show cc0_transform_1 (grid0.coords t) 1 * 352 + 1 * (y 1).val = _
    rw [e]; simp
  · show cc0_transform_1 (grid0.coords t) 2 * 1024 + 1 * (y 2).val = _
    rw [e]; simp

/-- The sum of the two parts. -/
abbrev sums : S4x352x1024.Idx → EReal := fun i => both (piece m c) (received m c) (core m) (i 0).val (i 1).val (i 2).val

/-- What a point writes back: its block of the sum. -/
theorem written (t : Fin (cfgM m hO).N) :
    (dats m hO 0 c).flushed 2 t = (((cfgM m hO).win 2).blk t).view.read (Elt Ideal) (sums m c) := by
  show (((cfgM m hO).win 2).cut (grid0.coords t) ((dats m hO 0 c).after 2 t)) = _
  rw [after0_2]
  unfold outsAt0 out0_A_2 kernelRun0_A
  dsimp only
  refine (View.read_writes_full VO0_2 _ inb_S1x352x1024_S1x352x1024_0_0_0 _ _).trans ?_
  sl_unfold_words
  funext y
  have y0 : (y 0).val = 0 := Nat.lt_one_iff.mp (y 0).isLt
  have hR : ∀ p : Fin 3 → ℕ, p = ![t.val / 1, t.val % 1, 0] →
      both (piece m c) (received m c) (core m) (p 0 * 1 + 1 * (y 0).val) (p 1 * 352 + 1 * (y 1).val) (p 2 * 1024 + 1 * (y 2).val)
        = both (piece m c) (received m c) (core m) (t.val / 1) (t.val % 1 * 352 + (y 1).val) (y 2).val := by
    rintro p rfl
    simp [y0]
  refine Eq.trans ?_ (hR _ (place m hO t)).symm
  refine (pay _ _ y).trans ?_
  refine congrArg₂ (· + ·) ?_ ?_
  · refine Eq.trans (congrArg (fun f : S1x1x352x1024.Idx → EReal => at4 f 0 0 (y 1).val (y 2).val) ?_) (block0 m c hO t _ _ (y 1).isLt (y 2).isLt)
    funext j
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · refine Eq.trans ?_ (block1 m c hO t y)
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)

/-- The kernel's array holds the sum. -/
theorem final (i : S4x352x1024.Idx) : (dats m hO 0 c).arrAt 2 (cfgM m hO).N i = sums m c i := by
  have hi0 : (i 0).val < 4 := (i 0).isLt
  have hi1 : (i 1).val < 352 := (i 1).isLt
  have hN : (cfgM m hO).N = 4 * 1 := by show grid0.N = 4 * 1; decide
  have ht : (i 0).val * 1 + (i 1).val / 352 < (cfgM m hO).N := by rw [hN]; omega
  refine (dats m hO 0 c).arrAt_apply_of_mem 2 (sums m c) (fun t _ => written m c hO t) (cfgM m hO).N ⟨(i 0).val * 1 + (i 1).val / 352, ht⟩ i ht (flushes m hO _) ?_
  refine Eq.mpr (congrArg (i ∈ ·) (View.set_slice_whole main_v0 _)) ?_
  exact Rect.mem_set_unit.mpr fun k => held (p := ((i 0).val * 1 + (i 1).val / 352) / 1) (t := ((i 0).val * 1 + (i 1).val / 352) % 1) (b := 352) _
    (place m hO ⟨(i 0).val * 1 + (i 1).val / 352, ht⟩) i (by omega) (by omega) k

/-- So does the reference's. -/
theorem reference (hw : core m < 2) (i : S4x352x1024.Idx) :
    PairDownRefIdeal.Read.val_main_v9 (F := Ideal) (piece m 0) (received m 0) (m (((0 : Dev nD) : Thread nD τ).loc main_arg2)) i = sums m 0 i := by
  have hi0 : (i 0).val < 4 := (i 0).isLt
  have hi1 : (i 1).val < 352 := (i 1).isLt
  have hi2 : (i 2).val < 1024 := (i 2).isLt
  have e : PairDownRefIdeal.Read.val_main_v7 (F := Ideal) (piece m 0) (m (((0 : Dev nD) : Thread nD τ).loc main_arg2)) i
      = at4 (piece m 0) (i 0).val (core m) (i 1).val (i 2).val := by
    rw [PairDownRefIdeal.Read.val_main_v7_apply, PairDownRefIdeal.Read.val_main_v2_apply, PairDownRefIdeal.Read.val_main_v1_apply, PairDownRefIdeal.Read.val_main_v4_apply,
      PairDownRefIdeal.Read.val_main_v3_apply, PairDownRefIdeal.Read.val_main_v6_apply, PairDownRefIdeal.Read.val_main_v5_apply,
      at4_val (piece m 0) (PairDownRefIdeal.Read.idx_main_v3 _) (i 0).val 0 (i 1).val (i 2).val ?a ?b ?c ?d,
      at4_val (piece m 0) (PairDownRefIdeal.Read.idx_main_v5 _) (i 0).val 1 (i 1).val (i 2).val ?a' ?b' ?c' ?d']
    · have hword := only (m (((0 : Dev nD) : Thread nD τ).loc main_arg2))
      refine Eq.trans (congrArg (fun w => Scalar.select (IntOp.cmpi .eq w 0#32) _ _) (hword _ _)) (pick (piece m 0) _ hw (i 0).val (i 1).val (i 2).val)
    case a => show (((i 0).val * 352 + (i 1).val) * 1024 + (i 2).val) / (352 * 1024) = _; omega
    case a' => show (((i 0).val * 352 + (i 1).val) * 1024 + (i 2).val) / (352 * 1024) = _; omega
    case b => rfl
    case b' => rfl
    case c => show (((i 0).val * 352 + (i 1).val) * 1024 + (i 2).val) / 1024 % 352 = _; omega
    case c' => show (((i 0).val * 352 + (i 1).val) * 1024 + (i 2).val) / 1024 % 352 = _; omega
    case d => show (((i 0).val * 352 + (i 1).val) * 1024 + (i 2).val) % 1024 = _; omega
    case d' => show (((i 0).val * 352 + (i 1).val) * 1024 + (i 2).val) % 1024 = _; omega
  exact congrArg₂ (· + ·) e (at3_val (received m 0) i _ _ _ rfl rfl rfl)

/-- The kernel ends with the reference's array. -/
theorem algebraic [Cert.Pre_a_core_PairDown.Facts] : Cert.algebraic_PairDownIdeal_PairDownRefIdeal := by
  intro m g m' g' hp h
  have hw := core_two m hp
  have hO := ok m hw
  refine ⟨fun c => (dats m hO 0 c).arrAt 2 (cfgM m hO).N, ?_, ?_⟩
  · exact (θ_run _ _ _).mono (fun r hr c => ⟨(hr.1 c).1 2, hr.2 c⟩) (θ_run_and (run_main m g hO) (unchanged m g hO))
  · refine (θ_run _ _ _).mono (fun r hr c => ⟨?_, (hr c).2⟩) (PairDownRefIdeal.Value.run m' g')
    obtain rfl : c = 0 := Subsingleton.elim _ _
    funext i
    refine Eq.trans ?_ (final m 0 hO i).symm
    rw [(hr 0).1, PairDownRefIdeal.Read.val_main_v9_eq, (h 0).1, (h 0).2.1, (h 0).2.2]
    exact reference m hw i

end Cert.Step.PairDown

end
-- ==== Proof.Step.PairOut.lean ====
/- The sum of the two cores' parts of a shard of an output projection's weight, at the half of one core. -/
module

public import proofs.«01_k».proof.Proof.Gen.PairOut.Frame
public import proofs.«01_k».proof.Proof.Gen.PairOutIdeal.Frame
public import proofs.«01_k».proof.Proof.Gen.PairOutRefIdeal.Run
public import proofs.«01_k».proof.Proof.Gen.PairOutRefIdeal.Read
public import proofs.«01_k».proof.Proof.Step.Pair
public import proofs.«01_k».proof.Defs
import all proofs.«01_k».proof.Proof.Gen.PairOutIdeal.Frame

@[expose] public section

set_option maxRecDepth 16384

noncomputable section

namespace Cert.Step.PairOut

open Idealize.ShloMosaic Idealize.ShloMosaic.TcCoe Idealize.SL.Sem Cert.Step.Chip Cert.Step.Pair

/-- The precondition gives the kernel's side condition: the blocks a core reads are of one of the two halves. -/
theorem fits [Cert.Pre_a_core_PairOut.Facts] (m : (ℓ : Loc PairOut.nD PairOut.τ PairOut.sig) → Buf (Elt Bits) ℓ) (h : Pre_PairOut m) : PairOut.Gen.Ok m := by
  intro i
  have hw : ((PairOut.Gen.tbl m).at 0 (Rect.unit (s := PairOut.S1) ![0] PairOut.S1.size PairOut.Gen.inb_S1_S1_0) PairOut.Gen.numel1_S1).toNat < 2 :=
    lt_of_eq_of_lt (congrArg BitVec.toNat (only (m (((0 : Dev PairOut.nD) : Thread PairOut.nD PairOut.τ).loc PairOut.main_arg2)) _ _)) (core_lt _ (congrFun (h 0) fun a => a.elim0))
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨fun k => ?_, .inl rfl⟩
  show (![(BitVec.ofNat 32 (i 0).val).toNat, _, (BitVec.ofNat 32 (i 1).val).toNat, 0] k + 1) * _ ≤ _
  rw [e0, e1]
  exact inside (a := 128) (b := 128) (c := 1024) h0 hw (by omega) k

open Cert.PairOutIdeal Cert.PairOutIdeal.Gen

variable (m : (ℓ : Loc nD τ sig) → Buf (Elt Ideal) ℓ) (c : Dev nD)

/-- The core's part, in two halves. -/
abbrev piece : S4x2x128x1024.Idx → EReal := m ((c : Thread nD τ).loc main_arg0)

/-- The other core's part of the core's half. -/
abbrev received : S4x128x1024.Idx → EReal := m ((c : Thread nD τ).loc main_arg1)

/-- The core's number. -/
abbrev core : ℕ := ((tbl m).at 0 (Rect.unit (s := S1) ![0] S1.size inb_S1_S1_0) numel1_S1).toNat

theorem core_two [Cert.Pre_a_core_PairOut.Facts] (h : Pre_PairOutIdeal m) : core m < 2 :=
  lt_of_eq_of_lt (congrArg BitVec.toNat (only (m (((0 : Dev nD) : Thread nD τ).loc main_arg2)) _ _)) (core_lt _ (congrFun (h 0) fun a => a.elim0))

/-- The block of its part a point of the grid reads. -/
theorem idx (i : grid0.Coords) : cc0_transform_0 inb_S1_S1_0 numel1_S1 (tbl m) i = ![(i 0).val, core m, (i 1).val, 0] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_0
  dsimp only
  rw [e0, e1]
  rfl

theorem ok (hw : core m < 2) : Ok m := by
  intro i
  have h1 : (i 1).val < 1 := (i 1).isLt
  refine ⟨fun k => ?_, .inl rfl⟩
  rw [idx]
  exact inside (a := 128) (b := 128) (c := 1024) (i 0).isLt hw (by omega) k

variable (hO : Ok m)

theorem place (t : Fin (cfgM m hO).N) : ((cfgM m hO).win 2).index t = ![t.val / 1, t.val % 1, 0] :=
  (by decide +kernel : ∀ t : Fin grid0.N, cc0_transform_2 (grid0.coords t) = ![t.val / 1, t.val % 1, 0]) t

/-- Every point's block is written back: the next point's is another one. -/
theorem flushes (t : Fin (cfgM m hO).N) : ((cfgM m hO).win 2).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have e0 : (t.val + 1) / 1 = t.val / 1 := congrFun e 0
    have e1 : (t.val + 1) % 1 = t.val % 1 := congrFun e 1
    omega

theorem pay (v0 : S1x1x128x1024.Idx → EReal) (v2 : S1x128x1024.Idx → EReal) (y : S1x128x1024.Idx) :
    k0_pay1 (F := Ideal) v0 v2 y = at4 v0 0 0 (y 1).val (y 2).val + v2 y := by
  have y0 : (y 0).val = 0 := Nat.lt_one_iff.mp (y 0).isLt
  unfold k0_pay1
  refine congrArg (· + v2 y) ((shapeCast_apply v0 shapeCasts_S1x1x128x1024_S1x128x1024 y
    (fun | ⟨0, _⟩ => ⟨0, Nat.one_pos⟩ | ⟨1, _⟩ => y 0 | ⟨2, _⟩ => y 1 | ⟨3, _⟩ => y 2) ?_).trans (at4_val v0 _ _ _ _ _ rfl y0 rfl rfl))
  rewrite [Shape.rowMajor_val_four, Shape.rowMajor_val_three]
  show ((0 * 1 + (y 0).val) * 128 + (y 1).val) * 1024 + (y 2).val = _
  rw [Nat.zero_mul, Nat.zero_add]
  rfl

/-- The block of the core's part at a point, at an entry. -/
theorem block0 (t : Fin (cfgM m hO).N) (r s : ℕ) (hr : r < 128) (hs : s < 1024) :
    at4 (iblk m hO c 0 t : S1x1x128x1024.Idx → EReal) 0 0 r s = at4 (piece m c) (t.val / 1) (core m) (t.val % 1 * 128 + r) s := by
  refine (at4_val (iblk m hO c 0 t : S1x1x128x1024.Idx → EReal)
    (fun | ⟨0, _⟩ => ⟨0, Nat.one_pos⟩ | ⟨1, _⟩ => ⟨0, Nat.one_pos⟩ | ⟨2, _⟩ => ⟨r, hr⟩ | ⟨3, _⟩ => ⟨s, hs⟩) _ _ _ _ rfl rfl rfl rfl).symm.trans ?_
  show V m c main_arg0 _ = _
  have e : cc0_transform_0 inb_S1_S1_0 numel1_S1 (tbl m) (grid0.coords t) = ![t.val / 1, core m, t.val % 1, 0] := by
    rw [idx, (by decide +kernel : ∀ t : Fin grid0.N, (grid0.coords t 0).val = t.val / 1) t, (by decide +kernel : ∀ t : Fin grid0.N, (grid0.coords t 1).val = t.val % 1) t]
  refine at4_val (piece m c) _ _ _ _ _ ?_ ?_ ?_ ?_
  · show cc0_transform_0 inb_S1_S1_0 numel1_S1 (tbl m) (grid0.coords t) 0 * 1 + 1 * 0 = _
    rw [e]; simp
  · show cc0_transform_0 inb_S1_S1_0 numel1_S1 (tbl m) (grid0.coords t) 1 * 1 + 1 * 0 = _
    rw [e]; simp
  · show cc0_transform_0 inb_S1_S1_0 numel1_S1 (tbl m) (grid0.coords t) 2 * 128 + 1 * r = _
    rw [e]; simp
  · show cc0_transform_0 inb_S1_S1_0 numel1_S1 (tbl m) (grid0.coords t) 3 * 1024 + 1 * s = _
    rw [e]; simp

/-- The block of the other core's part at a point, at an entry. -/
theorem block1 (t : Fin (cfgM m hO).N) (y : S1x128x1024.Idx) :
    iblk m hO c 1 t y = at3 (received m c) (t.val / 1) (t.val % 1 * 128 + (y 1).val) (y 2).val := by
  have y0 : (y 0).val = 0 := Nat.lt_one_iff.mp (y 0).isLt
  show V m c main_arg1 _ = _
  have e : cc0_transform_1 (grid0.coords t) = ![t.val / 1, t.val % 1, 0] :=
    (by decide +kernel : ∀ t : Fin grid0.N, cc0_transform_1 (grid0.coords t) = ![t.val / 1, t.val % 1, 0]) t
  refine at3_val (received m c) _ _ _ _ ?_ ?_ ?_
  · show cc0_transform_1 (grid0.coords t) 0 * 1 + 1 * (y 0).val = _
    rw [e]; simp [y0]
  · show cc0_transform_1 (grid0.coords t) 1 * 128 + 1 * (y 1).val = _
    rw [e]; simp
  · show cc0_transform_1 (grid0.coords t) 2 * 1024 + 1 * (y 2).val = _
    rw [e]; simp

/-- The sum of the two parts. -/
abbrev sums : S4x128x1024.Idx → EReal := fun i => both (piece m c) (received m c) (core m) (i 0).val (i 1).val (i 2).val

/-- What a point writes back: its block of the sum. -/
theorem written (t : Fin (cfgM m hO).N) :
    (dats m hO 0 c).flushed 2 t = (((cfgM m hO).win 2).blk t).view.read (Elt Ideal) (sums m c) := by
  show (((cfgM m hO).win 2).cut (grid0.coords t) ((dats m hO 0 c).after 2 t)) = _
  rw [after0_2]
  unfold outsAt0 out0_A_2 kernelRun0_A
  dsimp only
  refine (View.read_writes_full VO0_2 _ inb_S1x128x1024_S1x128x1024_0_0_0 _ _).trans ?_
  sl_unfold_words
  funext y
  have y0 : (y 0).val = 0 := Nat.lt_one_iff.mp (y 0).isLt
  have hR : ∀ p : Fin 3 → ℕ, p = ![t.val / 1, t.val % 1, 0] →
      both (piece m c) (received m c) (core m) (p 0 * 1 + 1 * (y 0).val) (p 1 * 128 + 1 * (y 1).val) (p 2 * 1024 + 1 * (y 2).val)
        = both (piece m c) (received m c) (core m) (t.val / 1) (t.val % 1 * 128 + (y 1).val) (y 2).val := by
    rintro p rfl
    simp [y0]
  refine Eq.trans ?_ (hR _ (place m hO t)).symm
  refine (pay _ _ y).trans ?_
  refine congrArg₂ (· + ·) ?_ ?_
  · refine Eq.trans (congrArg (fun f : S1x1x128x1024.Idx → EReal => at4 f 0 0 (y 1).val (y 2).val) ?_) (block0 m c hO t _ _ (y 1).isLt (y 2).isLt)
    funext j
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · refine Eq.trans ?_ (block1 m c hO t y)
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)

/-- The kernel's array holds the sum. -/
theorem final (i : S4x128x1024.Idx) : (dats m hO 0 c).arrAt 2 (cfgM m hO).N i = sums m c i := by
  have hi0 : (i 0).val < 4 := (i 0).isLt
  have hi1 : (i 1).val < 128 := (i 1).isLt
  have hN : (cfgM m hO).N = 4 * 1 := by show grid0.N = 4 * 1; decide
  have ht : (i 0).val * 1 + (i 1).val / 128 < (cfgM m hO).N := by rw [hN]; omega
  refine (dats m hO 0 c).arrAt_apply_of_mem 2 (sums m c) (fun t _ => written m c hO t) (cfgM m hO).N ⟨(i 0).val * 1 + (i 1).val / 128, ht⟩ i ht (flushes m hO _) ?_
  refine Eq.mpr (congrArg (i ∈ ·) (View.set_slice_whole main_v0 _)) ?_
  exact Rect.mem_set_unit.mpr fun k => held (p := ((i 0).val * 1 + (i 1).val / 128) / 1) (t := ((i 0).val * 1 + (i 1).val / 128) % 1) (b := 128) _
    (place m hO ⟨(i 0).val * 1 + (i 1).val / 128, ht⟩) i (by omega) (by omega) k

/-- So does the reference's. -/
theorem reference (hw : core m < 2) (i : S4x128x1024.Idx) :
    PairOutRefIdeal.Read.val_main_v9 (F := Ideal) (piece m 0) (received m 0) (m (((0 : Dev nD) : Thread nD τ).loc main_arg2)) i = sums m 0 i := by
  have hi0 : (i 0).val < 4 := (i 0).isLt
  have hi1 : (i 1).val < 128 := (i 1).isLt
  have hi2 : (i 2).val < 1024 := (i 2).isLt
  have e : PairOutRefIdeal.Read.val_main_v7 (F := Ideal) (piece m 0) (m (((0 : Dev nD) : Thread nD τ).loc main_arg2)) i
      = at4 (piece m 0) (i 0).val (core m) (i 1).val (i 2).val := by
    rw [PairOutRefIdeal.Read.val_main_v7_apply, PairOutRefIdeal.Read.val_main_v2_apply, PairOutRefIdeal.Read.val_main_v1_apply, PairOutRefIdeal.Read.val_main_v4_apply,
      PairOutRefIdeal.Read.val_main_v3_apply, PairOutRefIdeal.Read.val_main_v6_apply, PairOutRefIdeal.Read.val_main_v5_apply,
      at4_val (piece m 0) (PairOutRefIdeal.Read.idx_main_v3 _) (i 0).val 0 (i 1).val (i 2).val ?a ?b ?c ?d,
      at4_val (piece m 0) (PairOutRefIdeal.Read.idx_main_v5 _) (i 0).val 1 (i 1).val (i 2).val ?a' ?b' ?c' ?d']
    · have hword := only (m (((0 : Dev nD) : Thread nD τ).loc main_arg2))
      refine Eq.trans (congrArg (fun w => Scalar.select (IntOp.cmpi .eq w 0#32) _ _) (hword _ _)) (pick (piece m 0) _ hw (i 0).val (i 1).val (i 2).val)
    case a => show (((i 0).val * 128 + (i 1).val) * 1024 + (i 2).val) / (128 * 1024) = _; omega
    case a' => show (((i 0).val * 128 + (i 1).val) * 1024 + (i 2).val) / (128 * 1024) = _; omega
    case b => rfl
    case b' => rfl
    case c => show (((i 0).val * 128 + (i 1).val) * 1024 + (i 2).val) / 1024 % 128 = _; omega
    case c' => show (((i 0).val * 128 + (i 1).val) * 1024 + (i 2).val) / 1024 % 128 = _; omega
    case d => show (((i 0).val * 128 + (i 1).val) * 1024 + (i 2).val) % 1024 = _; omega
    case d' => show (((i 0).val * 128 + (i 1).val) * 1024 + (i 2).val) % 1024 = _; omega
  exact congrArg₂ (· + ·) e (at3_val (received m 0) i _ _ _ rfl rfl rfl)

/-- The kernel ends with the reference's array. -/
theorem algebraic [Cert.Pre_a_core_PairOut.Facts] : Cert.algebraic_PairOutIdeal_PairOutRefIdeal := by
  intro m g m' g' hp h
  have hw := core_two m hp
  have hO := ok m hw
  refine ⟨fun c => (dats m hO 0 c).arrAt 2 (cfgM m hO).N, ?_, ?_⟩
  · exact (θ_run _ _ _).mono (fun r hr c => ⟨(hr.1 c).1 2, hr.2 c⟩) (θ_run_and (run_main m g hO) (unchanged m g hO))
  · refine (θ_run _ _ _).mono (fun r hr c => ⟨?_, (hr c).2⟩) (PairOutRefIdeal.Value.run m' g')
    obtain rfl : c = 0 := Subsingleton.elim _ _
    funext i
    refine Eq.trans ?_ (final m 0 hO i).symm
    rw [(hr 0).1, PairOutRefIdeal.Read.val_main_v9_eq, (h 0).1, (h 0).2.1, (h 0).2.2]
    exact reference m hw i

end Cert.Step.PairOut

end
-- ==== Proof.Step.PairSmall.lean ====
/- The sum of the two cores' parts of the packed small weights' gradients, at the half of one core. -/
module

public import proofs.«01_k».proof.Proof.Gen.PairSmall.Frame
public import proofs.«01_k».proof.Proof.Gen.PairSmallIdeal.Frame
public import proofs.«01_k».proof.Proof.Gen.PairSmallRefIdeal.Run
public import proofs.«01_k».proof.Proof.Gen.PairSmallRefIdeal.Read
public import proofs.«01_k».proof.Proof.Step.Pair
public import proofs.«01_k».proof.Defs
import all proofs.«01_k».proof.Proof.Gen.PairSmallIdeal.Frame

@[expose] public section

set_option maxRecDepth 16384

noncomputable section

namespace Cert.Step.PairSmall

open Idealize.ShloMosaic Idealize.ShloMosaic.TcCoe Idealize.SL.Sem Cert.Step.Chip Cert.Step.Pair

/-- The precondition gives the kernel's side condition: the blocks a core reads are of one of the two halves. -/
theorem fits [Cert.Pre_a_core_PairSmall.Facts] (m : (ℓ : Loc PairSmall.nD PairSmall.τ PairSmall.sig) → Buf (Elt Bits) ℓ) (h : Pre_PairSmall m) : PairSmall.Gen.Ok m := by
  intro i
  have hw : ((PairSmall.Gen.tbl m).at 0 (Rect.unit (s := PairSmall.S1) ![0] PairSmall.S1.size PairSmall.Gen.inb_S1_S1_0) PairSmall.Gen.numel1_S1).toNat < 2 :=
    lt_of_eq_of_lt (congrArg BitVec.toNat (only (m (((0 : Dev PairSmall.nD) : Thread PairSmall.nD PairSmall.τ).loc PairSmall.main_arg2)) _ _)) (core_lt _ (congrFun (h 0) fun a => a.elim0))
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  refine ⟨fun k => ?_, .inl rfl⟩
  show (![(BitVec.ofNat 32 (i 0).val).toNat, _, (BitVec.ofNat 32 (i 1).val).toNat, 0] k + 1) * _ ≤ _
  rw [e0, e1]
  exact inside (a := 552) (b := 552) (c := 128) h0 hw (by omega) k

open Cert.PairSmallIdeal Cert.PairSmallIdeal.Gen

variable (m : (ℓ : Loc nD τ sig) → Buf (Elt Ideal) ℓ) (c : Dev nD)

/-- The core's part, in two halves. -/
abbrev piece : S4x2x552x128.Idx → EReal := m ((c : Thread nD τ).loc main_arg0)

/-- The other core's part of the core's half. -/
abbrev received : S4x552x128.Idx → EReal := m ((c : Thread nD τ).loc main_arg1)

/-- The core's number. -/
abbrev core : ℕ := ((tbl m).at 0 (Rect.unit (s := S1) ![0] S1.size inb_S1_S1_0) numel1_S1).toNat

theorem core_two [Cert.Pre_a_core_PairSmall.Facts] (h : Pre_PairSmallIdeal m) : core m < 2 :=
  lt_of_eq_of_lt (congrArg BitVec.toNat (only (m (((0 : Dev nD) : Thread nD τ).loc main_arg2)) _ _)) (core_lt _ (congrFun (h 0) fun a => a.elim0))

/-- The block of its part a point of the grid reads. -/
theorem idx (i : grid0.Coords) : cc0_transform_0 inb_S1_S1_0 numel1_S1 (tbl m) i = ![(i 0).val, core m, (i 1).val, 0] := by
  have h0 : (i 0).val < 4 := (i 0).isLt
  have h1 : (i 1).val < 1 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_0
  dsimp only
  rw [e0, e1]
  rfl

theorem ok (hw : core m < 2) : Ok m := by
  intro i
  have h1 : (i 1).val < 1 := (i 1).isLt
  refine ⟨fun k => ?_, .inl rfl⟩
  rw [idx]
  exact inside (a := 552) (b := 552) (c := 128) (i 0).isLt hw (by omega) k

variable (hO : Ok m)

theorem place (t : Fin (cfgM m hO).N) : ((cfgM m hO).win 2).index t = ![t.val / 1, t.val % 1, 0] :=
  (by decide +kernel : ∀ t : Fin grid0.N, cc0_transform_2 (grid0.coords t) = ![t.val / 1, t.val % 1, 0]) t

/-- Every point's block is written back: the next point's is another one. -/
theorem flushes (t : Fin (cfgM m hO).N) : ((cfgM m hO).win 2).flush t = true := by
  unfold Pipeline.Window.flush
  show (true && _) = true
  rw [Bool.true_and, Bool.or_eq_true, decide_eq_true_iff, decide_eq_true_iff]
  by_cases h : t.val + 1 = grid0.N
  · exact .inl h
  · refine .inr ⟨Nat.lt_of_le_of_ne (Nat.succ_le_of_lt t.isLt) h, ?_⟩
    rw [place, place]
    intro e
    have e0 : (t.val + 1) / 1 = t.val / 1 := congrFun e 0
    have e1 : (t.val + 1) % 1 = t.val % 1 := congrFun e 1
    omega

theorem pay (v0 : S1x1x552x128.Idx → EReal) (v2 : S1x552x128.Idx → EReal) (y : S1x552x128.Idx) :
    k0_pay1 (F := Ideal) v0 v2 y = at4 v0 0 0 (y 1).val (y 2).val + v2 y := by
  have y0 : (y 0).val = 0 := Nat.lt_one_iff.mp (y 0).isLt
  unfold k0_pay1
  refine congrArg (· + v2 y) ((shapeCast_apply v0 shapeCasts_S1x1x552x128_S1x552x128 y
    (fun | ⟨0, _⟩ => ⟨0, Nat.one_pos⟩ | ⟨1, _⟩ => y 0 | ⟨2, _⟩ => y 1 | ⟨3, _⟩ => y 2) ?_).trans (at4_val v0 _ _ _ _ _ rfl y0 rfl rfl))
  rewrite [Shape.rowMajor_val_four, Shape.rowMajor_val_three]
  show ((0 * 1 + (y 0).val) * 552 + (y 1).val) * 128 + (y 2).val = _
  rw [Nat.zero_mul, Nat.zero_add]
  rfl

/-- The block of the core's part at a point, at an entry. -/
theorem block0 (t : Fin (cfgM m hO).N) (r s : ℕ) (hr : r < 552) (hs : s < 128) :
    at4 (iblk m hO c 0 t : S1x1x552x128.Idx → EReal) 0 0 r s = at4 (piece m c) (t.val / 1) (core m) (t.val % 1 * 552 + r) s := by
  refine (at4_val (iblk m hO c 0 t : S1x1x552x128.Idx → EReal)
    (fun | ⟨0, _⟩ => ⟨0, Nat.one_pos⟩ | ⟨1, _⟩ => ⟨0, Nat.one_pos⟩ | ⟨2, _⟩ => ⟨r, hr⟩ | ⟨3, _⟩ => ⟨s, hs⟩) _ _ _ _ rfl rfl rfl rfl).symm.trans ?_
  show V m c main_arg0 _ = _
  have e : cc0_transform_0 inb_S1_S1_0 numel1_S1 (tbl m) (grid0.coords t) = ![t.val / 1, core m, t.val % 1, 0] := by
    rw [idx, (by decide +kernel : ∀ t : Fin grid0.N, (grid0.coords t 0).val = t.val / 1) t, (by decide +kernel : ∀ t : Fin grid0.N, (grid0.coords t 1).val = t.val % 1) t]
  refine at4_val (piece m c) _ _ _ _ _ ?_ ?_ ?_ ?_
  · show cc0_transform_0 inb_S1_S1_0 numel1_S1 (tbl m) (grid0.coords t) 0 * 1 + 1 * 0 = _
    rw [e]; simp
  · show cc0_transform_0 inb_S1_S1_0 numel1_S1 (tbl m) (grid0.coords t) 1 * 1 + 1 * 0 = _
    rw [e]; simp
  · show cc0_transform_0 inb_S1_S1_0 numel1_S1 (tbl m) (grid0.coords t) 2 * 552 + 1 * r = _
    rw [e]; simp
  · show cc0_transform_0 inb_S1_S1_0 numel1_S1 (tbl m) (grid0.coords t) 3 * 128 + 1 * s = _
    rw [e]; simp

/-- The block of the other core's part at a point, at an entry. -/
theorem block1 (t : Fin (cfgM m hO).N) (y : S1x552x128.Idx) :
    iblk m hO c 1 t y = at3 (received m c) (t.val / 1) (t.val % 1 * 552 + (y 1).val) (y 2).val := by
  have y0 : (y 0).val = 0 := Nat.lt_one_iff.mp (y 0).isLt
  show V m c main_arg1 _ = _
  have e : cc0_transform_1 (grid0.coords t) = ![t.val / 1, t.val % 1, 0] :=
    (by decide +kernel : ∀ t : Fin grid0.N, cc0_transform_1 (grid0.coords t) = ![t.val / 1, t.val % 1, 0]) t
  refine at3_val (received m c) _ _ _ _ ?_ ?_ ?_
  · show cc0_transform_1 (grid0.coords t) 0 * 1 + 1 * (y 0).val = _
    rw [e]; simp [y0]
  · show cc0_transform_1 (grid0.coords t) 1 * 552 + 1 * (y 1).val = _
    rw [e]; simp
  · show cc0_transform_1 (grid0.coords t) 2 * 128 + 1 * (y 2).val = _
    rw [e]; simp

/-- The sum of the two parts. -/
abbrev sums : S4x552x128.Idx → EReal := fun i => both (piece m c) (received m c) (core m) (i 0).val (i 1).val (i 2).val

/-- What a point writes back: its block of the sum. -/
theorem written (t : Fin (cfgM m hO).N) :
    (dats m hO 0 c).flushed 2 t = (((cfgM m hO).win 2).blk t).view.read (Elt Ideal) (sums m c) := by
  show (((cfgM m hO).win 2).cut (grid0.coords t) ((dats m hO 0 c).after 2 t)) = _
  rw [after0_2]
  unfold outsAt0 out0_A_2 kernelRun0_A
  dsimp only
  refine (View.read_writes_full VO0_2 _ inb_S1x552x128_S1x552x128_0_0_0 _ _).trans ?_
  sl_unfold_words
  funext y
  have y0 : (y 0).val = 0 := Nat.lt_one_iff.mp (y 0).isLt
  have hR : ∀ p : Fin 3 → ℕ, p = ![t.val / 1, t.val % 1, 0] →
      both (piece m c) (received m c) (core m) (p 0 * 1 + 1 * (y 0).val) (p 1 * 552 + 1 * (y 1).val) (p 2 * 128 + 1 * (y 2).val)
        = both (piece m c) (received m c) (core m) (t.val / 1) (t.val % 1 * 552 + (y 1).val) (y 2).val := by
    rintro p rfl
    simp [y0]
  refine Eq.trans ?_ (hR _ (place m hO t)).symm
  refine (pay _ _ y).trans ?_
  refine congrArg₂ (· + ·) ?_ ?_
  · refine Eq.trans (congrArg (fun f : S1x1x552x128.Idx → EReal => at4 f 0 0 (y 1).val (y 2).val) ?_) (block0 m c hO t _ _ (y 1).isLt (y 2).isLt)
    funext j
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · refine Eq.trans ?_ (block1 m c hO t y)
    refine (congrFun (Memref.IsWhole.read_unread _ _) _).trans (congrArg _ (funext fun k => Fin.ext ?_))
    match k with
    | ⟨0, _⟩ => exact (Nat.zero_add _).trans (Nat.one_mul _)
    | ⟨1, _⟩ => exact (Nat.zero_add _).trans (Nat.one_mul _)
    | ⟨2, _⟩ => exact (Nat.zero_add _).trans (Nat.one_mul _)

/-- The kernel's array holds the sum. -/
theorem final (i : S4x552x128.Idx) : (dats m hO 0 c).arrAt 2 (cfgM m hO).N i = sums m c i := by
  have hi0 : (i 0).val < 4 := (i 0).isLt
  have hi1 : (i 1).val < 552 := (i 1).isLt
  have hN : (cfgM m hO).N = 4 * 1 := by show grid0.N = 4 * 1; decide
  have ht : (i 0).val * 1 + (i 1).val / 552 < (cfgM m hO).N := by rw [hN]; omega
  refine (dats m hO 0 c).arrAt_apply_of_mem 2 (sums m c) (fun t _ => written m c hO t) (cfgM m hO).N ⟨(i 0).val * 1 + (i 1).val / 552, ht⟩ i ht (flushes m hO _) ?_
  refine Eq.mpr (congrArg (i ∈ ·) (View.set_slice_whole main_v0 _)) ?_
  exact Rect.mem_set_unit.mpr fun k => held (p := ((i 0).val * 1 + (i 1).val / 552) / 1) (t := ((i 0).val * 1 + (i 1).val / 552) % 1) (b := 552) _
    (place m hO ⟨(i 0).val * 1 + (i 1).val / 552, ht⟩) i (by omega) (by omega) k

/-- So does the reference's. -/
theorem reference (hw : core m < 2) (i : S4x552x128.Idx) :
    PairSmallRefIdeal.Read.val_main_v8 (F := Ideal) (piece m 0) (received m 0) (m (((0 : Dev nD) : Thread nD τ).loc main_arg2)) i = sums m 0 i := by
  have hi0 : (i 0).val < 4 := (i 0).isLt
  have hi1 : (i 1).val < 552 := (i 1).isLt
  have hi2 : (i 2).val < 128 := (i 2).isLt
  have e : PairSmallRefIdeal.Read.val_main_v7 (F := Ideal) (piece m 0) (m (((0 : Dev nD) : Thread nD τ).loc main_arg2)) i
      = at4 (piece m 0) (i 0).val (core m) (i 1).val (i 2).val := by
    rw [PairSmallRefIdeal.Read.val_main_v7_apply, PairSmallRefIdeal.Read.val_main_v2_apply, PairSmallRefIdeal.Read.val_main_v1_apply, PairSmallRefIdeal.Read.val_main_v4_apply,
      PairSmallRefIdeal.Read.val_main_v3_apply, PairSmallRefIdeal.Read.val_main_v6_apply, PairSmallRefIdeal.Read.val_main_v5_apply,
      at4_val (piece m 0) (PairSmallRefIdeal.Read.idx_main_v3 _) (i 0).val 0 (i 1).val (i 2).val ?a ?b ?c ?d,
      at4_val (piece m 0) (PairSmallRefIdeal.Read.idx_main_v5 _) (i 0).val 1 (i 1).val (i 2).val ?a' ?b' ?c' ?d']
    · have hword := only (m (((0 : Dev nD) : Thread nD τ).loc main_arg2))
      refine Eq.trans (congrArg (fun w => Scalar.select (IntOp.cmpi .eq w 0#32) _ _) (hword _ _)) (pick (piece m 0) _ hw (i 0).val (i 1).val (i 2).val)
    case a => show (((i 0).val * 552 + (i 1).val) * 128 + (i 2).val) / (552 * 128) = _; omega
    case a' => show (((i 0).val * 552 + (i 1).val) * 128 + (i 2).val) / (552 * 128) = _; omega
    case b => rfl
    case b' => rfl
    case c => show (((i 0).val * 552 + (i 1).val) * 128 + (i 2).val) / 128 % 552 = _; omega
    case c' => show (((i 0).val * 552 + (i 1).val) * 128 + (i 2).val) / 128 % 552 = _; omega
    case d => show (((i 0).val * 552 + (i 1).val) * 128 + (i 2).val) % 128 = _; omega
    case d' => show (((i 0).val * 552 + (i 1).val) * 128 + (i 2).val) % 128 = _; omega
  exact congrArg₂ (· + ·) e (at3_val (received m 0) i _ _ _ rfl rfl rfl)

/-- The kernel ends with the reference's array. -/
theorem algebraic [Cert.Pre_a_core_PairSmall.Facts] : Cert.algebraic_PairSmallIdeal_PairSmallRefIdeal := by
  intro m g m' g' hp h
  have hw := core_two m hp
  have hO := ok m hw
  refine ⟨fun c => (dats m hO 0 c).arrAt 2 (cfgM m hO).N, ?_, ?_⟩
  · exact (θ_run _ _ _).mono (fun r hr c => ⟨(hr.1 c).1 2, hr.2 c⟩) (θ_run_and (run_main m g hO) (unchanged m g hO))
  · refine (θ_run _ _ _).mono (fun r hr c => ⟨?_, (hr c).2⟩) (PairSmallRefIdeal.Value.run m' g')
    obtain rfl : c = 0 := Subsingleton.elim _ _
    funext i
    refine Eq.trans ?_ (final m 0 hO i).symm
    rw [(hr 0).1, PairSmallRefIdeal.Read.val_main_v8_eq, (h 0).1, (h 0).2.1, (h 0).2.2]
    exact reference m hw i

end Cert.Step.PairSmall

end
-- ==== Proof.Step.LossSumIdealRun.lean ====
/- The run of `LossSumIdeal`, the sum of the devices' loss parts: two host operations (the part at the first place of the device's
    block, as a scalar), then one all-reduce over the eight devices. At any float values every device ends with its argument as
    it was, its result the all-reduce's of what the devices' scalars held, and every semaphore counter at zero.

    The two operations are one segment, the all-reduce another; the all-reduce's launch state and the dues it will pay ride
    along through the first. -/
module

public import proofs.«01_k».proof.Proof.Gen.LossSumIdeal.Launch
public import Idealize.ShloMosaic.Lib.StableHlo.CollectiveRules
public import Idealize.ShloMosaic.Lib.Pipeline.Regions
public import Idealize.ShloMosaic.Lib.Pipeline.CollectiveSegs
public import Idealize.ShloMosaic.Lib.Pipeline.Kit
public import Idealize.ShloMosaic.Lib.Pipeline.FrameTail
public import Idealize.ShloMosaic.Lib.Tactic

@[expose] public section

noncomputable section

namespace Cert.Step.LossSumIdeal

open Cert.LossSumIdeal Cert.LossSumIdeal.Gen
open Cert.LossSumIdeal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipelines' component (the program has none) beside the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR
abbrev adm : (p : Fin 0) → (pcfgs (F := F) p).Adm := fun p => p.elim0
abbrev 𝒱₀ : Variants := Variants.none
abbrev pdats : (p : Fin 0) → (c : Dev nD) → Pipeline.Dat τ (Elt F) ℕ ℕ UU ℕ (Pipeline.pin (pcfgs (F := F)) adm p) c := fun p => p.elim0

variable (m : (ℓ : Loc nD τ sig) → Buf (Elt F) ℓ) (ρ : Dev nD → PrngReg)

/-- What a device's buffers hold at launch; after the two operations; after the all-reduce. -/
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := (ar0 (F := F)).after₀ (V₁ m) c

/-- The record that the all-reduce's cells are under their invariants, copied out of its launch state. -/
abbrev invs (_ : Dev nD) : sProp 𝕄 := iprop(∃ κ, (AllReduce.Dat.once (ar0 (F := F)) (V₁ m)).cellInvs (Sites.E0 EC) κ)

/-- No operation of the stretch allocates a buffer. -/
theorem ops_fresh : (hostOps0 : List (HloOp τ sig (Elt F))).Forall fun op => op.fresh = ∅ := by
  simp only [List.Forall]; repeat' constructor

/-- The two operations. -/
def seg0 : Pipeline.HostSeg (Name := ℕ) (U := UU) (pcfgs (F := F)) defs₀ 𝒱₀ L lv :=
  Pipeline.HostSeg.ofOps _ _ _ _ _ (Pipeline.ucRefs τ sig) (hostOps0 (F := F))
    (fun op h => Pipeline.sub_ucRefs op ((List.forall_iff_forall_mem.mp hostOps0_sub) op h))
    (fun op h => (List.forall_iff_forall_mem.mp ops_fresh) op h) (V₀ m) (Sites.Es EC (V₁ m) 0)

/-- The all-reduce. -/
def seg1 : Pipeline.HostSeg (Name := ℕ) (U := UU) (pcfgs (F := F)) defs₀ 𝒱₀ L lv :=
  Sites.seg0 EC 𝒱₀ (V₁ m) (Sites.Rest0 (V₁ m) (invs m))

def segs : List (Pipeline.Seg (pcfgs (F := F)) adm pdats 0 defs₀ 𝒱₀ L lv) := [.host (seg0 m), .host (seg1 m)]

theorem main_eq (c : Dev nD) : main (F := F) c = Pipeline.Seg.run (segs m) :=
  main_segs adm pdats 0 𝒱₀ L lv (seg0 m) (seg1 m) rfl rfl c

/-- From the operations to the all-reduce: the invariants' record is copied out of the launch state. -/
theorem link0 (c : Dev nD) : (seg0 m).post c ⊢ (seg1 (F := F) m).pre c := by
  refine .trans ?_ (Sites.pre0 EC 𝒱₀ (V₁ m) (invs m) c)
  show iprop(StableHlo.held (c : Thread nD τ) (Pipeline.ucRefs τ sig) (V₁ m c) ∗ Sites.Es EC (V₁ m) 0 c) ⊢ _
  rw [Sites.Es_0]
  iintro ⟨Hh, HO, Hp, Hr⟩
  ihave #Hi := (show Sites.rides0 EC (V₁ m) c ⊢ invs m c from by
    unfold Sites.rides0 AllReduce.Dat.rides; iintro ⟨Hi, -⟩; iexact Hi) $$ Hr
  isplitl [Hh]; · iexact Hh
  isplitl; swap
  · iexact Hi
  isplitl [HO]; · iexact HO
  isplitl [Hp] <;> iassumption

/-- The last thread state: every unscoped buffer as the all-reduce leaves it, its cells' positions, the invariants' record. -/
abbrev Tₙ (c : Dev nD) : sProp 𝕄 :=
  iprop(StableHlo.held (c : Thread nD τ) (Pipeline.ucRefs τ sig) (V₂ m c) ∗ Sites.Ghost0 EC c ∗ invs m c)

theorem link1 (c : Dev nD) : (seg1 (F := F) m).post c ⊢ iprop(Tₙ m c ∗ ∃ W, owes (c : Thread nD τ) (0 : CellTallies nD τ sig ℕ) W) := by
  refine .trans (Sites.post0 EC 𝒱₀ (V₁ m) (invs m) c) ?_
  iintro ⟨Hh, HE, Hg, Hi⟩
  ihave HO := (Sites.hE_last EC (V₁ m) c) $$ HE
  isplitr [HO]; swap; · iexact HO
  isplitl [Hh]; · iexact Hh
  isplitl [Hg] <;> iassumption

/-- The launch element: no pipeline's, and the all-reduce's. -/
def u₀ : UU :=
  (initOf (Pipeline.cells (Pipeline.pin (pcfgs (F := F)) adm) cellOf_inj) (Pipeline.launchToks (Pipeline.pin (pcfgs (F := F)) adm) cellOf_inj),
    Sites.uC (U := UU) (V₁ m))

/-- The first thread state: the unscoped buffers as launched, the all-reduce's launch state, the dues. -/
abbrev T₀ (c : Dev nD) : sProp 𝕄 :=
  iprop(StableHlo.held (c : Thread nD τ) (Pipeline.ucRefs τ sig) (V₀ m c) ∗ Sites.Es EC (V₁ m) 0 c)

/-- What the launch deals every device becomes every device's first thread state. -/
theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (T₀ m) : sProp 𝕄) := by
  have hb (c : Dev nD) : unscopedBufs c (fun b => m ((c : Thread nD τ).loc b))
      = (StableHlo.held (c : Thread nD τ) (Pipeline.ucRefs τ sig) (V₀ m c) : sProp 𝕄) := Pipeline.unscopedBufs_held c (V₀ m c)
  iintro ⟨H, HL⟩
  ihave H' := (show _ ⊢ iprop((bigSep Finset.univ fun c : Dev nD => (StableHlo.held (c : Thread nD τ) (Pipeline.ucRefs τ sig) (V₀ m c) : sProp 𝕄))
        ∗ bigSep Finset.univ fun c : Dev nD => iprop(unscopedSems0 c
          ∗ owes (c : Thread nD τ) (Sites.O0 (F := F) c) ∅ ∗ Pipeline.launchCred (Sites.O0 (F := F)) c ∗ prngReg c (ρ c) ∗ Sites.G EC (V₁ m) c))
      from by rw [← bigSep_sep']; rw [bigSep_congr (s := Finset.univ) fun c _ => congrArg (fun X : sProp 𝕄 => iprop(X ∗ _)) (hb c)]) $$ H
  icases H' with ⟨Hh, Hr⟩
  imod (Sites.hE0 EC (V₁ m) ρ) $$ [Hr HL] with HE
  · isplitl [Hr] <;> iassumption
  imodintro
  iapply (show iprop((bigSep Finset.univ fun c : Dev nD => (StableHlo.held (c : Thread nD τ) (Pipeline.ucRefs τ sig) (V₀ m c) : sProp 𝕄))
        ∗ bigSep Finset.univ (Sites.Es EC (V₁ m) 0)) ⊢ bigSep Finset.univ (T₀ m) from by rw [← bigSep_sep'])
  isplitl [Hh] <;> iassumption

-- the run theorem's implicit arguments are found by unifying its conclusion with this one, which takes unfolding
-- plain definitions in a metavariable's type
set_option backward.isDefEq.respectTransparency.types false in
/-- THE RUN: every weakly fair execution on the eight devices ends, every unscoped buffer at `V₂`, every semaphore counter at zero. -/
theorem run_main : θ_run defs (onTc (τ := τ) (main (F := F))) ⟨m, fun _ => 0, ρ⟩
    (fun r => (∀ c : Dev nD, ∀ b ∈ Pipeline.ucRefs τ sig, r.2.mem (((c : Thread nD τ)).1, b) = V₂ m c b) ∧ r.2.sem = fun _ => 0) :=
  Pipeline.θ_run_regions_kit_sems (pcfgs (F := F)) adm pdats 0 cellOf_inj EP defs₀ 𝒱₀ L lv m ρ main (segs m)
    (fun c Q => by rw [main_eq m c])
    (by simp only [segs, Pipeline.Seg.pipes_host, Pipeline.Seg.pipes_nil]; exact List.nodup_nil)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun _ => .rfl, link0 m, link1 m⟩)
    (hinit := init m ρ)
    (QY := fun c s => (∀ b ∈ Pipeline.ucRefs τ sig, s.mem (((c : Thread nD τ)).1, b) = V₂ m c b)
      ∧ s.sem ((ar0 (F := F)).barrierCell c) = 0 ∧ s.sem ((ar0 (F := F)).recvCell c) = 0 ∧ s.sem ((ar0 (F := F)).sendCell c) = 0)
    (hfin := fun c s' => by
      unfold Tₙ StableHlo.held
      iintro ⟨⟨Hh, Hg, Hi⟩, HSI⟩
      imod ((AllReduce.Dat.once (ar0 (F := F)) (V₁ m)).ghostAfter_read (Sites.E0 EC) c (k := 0) le_rfl s') $$ [Hi Hg HSI] with ⟨%h0, HSI⟩
      · isplitr [HSI]; swap; · iexact HSI
        isplitl [Hi] <;> iassumption
      ihave Hp := (pointsTo_read_all (Pipeline.ucRefs τ sig) (fun b => (((c : Thread nD τ)).1, b)) (V₂ m c) s') $$ [Hh HSI]
      · isplitl [Hh] <;> iassumption
      icases Hp with ⟨%hb, HSI⟩
      imodintro
      isplitr; · ipureintro; exact ⟨hb, h0⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

theorem arg0_notMem : (Proc.devRef .tc main_arg0 : DevRef τ sig) ∉ (ar0 (F := F)).siteRefs := fun h => by
  have h0 : ∀ j : Fin 8, (Proc.devRef .tc main_arg0 : DevRef τ sig) ≠ Proc.devRef .tc (ar0_stage j) := by decide
  rcases (ar0 (F := F)).mem_siteRefs.mp h with h | h | ⟨j, h⟩
  · exact absurd h (by show (Proc.devRef .tc main_arg0 : DevRef τ sig) ≠ Proc.devRef .tc main_v3; decide)
  · exact absurd h (by show (Proc.devRef .tc main_arg0 : DevRef τ sig) ≠ Proc.devRef .tc main_v2; decide)
  · exact h0 j h

/-- Neither operation nor the all-reduce writes the argument. -/
theorem V₂_arg0 (c : Dev nD) : V₂ m c (Proc.devRef .tc main_arg0) = m ((c : Thread nD τ).loc main_arg0) :=
  ((ar0 (F := F)).after₀_off_siteRefs (V₁ m) c arg0_notMem).trans
    (StableHlo.after_of_writes_sub (W := [main_v1, main_v2]) hostOps0 _ (StableHlo.forall_writes_sub_of_map rfl) (by decide))

/-- THE FRAME, at any float values. -/
theorem quiescent : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (Proc.devRef .tc main_arg0) (Pipeline.devRef_mem_ucRefs rfl)).trans (V₂_arg0 m c), h.2⟩) (run_main m ρ)

end Cert.Step.LossSumIdeal

end
-- ==== Proof.Step.LossSum.lean ====
/- The sum of the devices' loss parts over the mesh equals the sum of the eight parts read off the whole array: each device's
   scalar is the first place of its block, row `8 d` of the whole, and the all-reduce's fold from device 0 to device 7 is the
   reference's sum begun at zero. Only the exact sum's laws are used: no order of the terms matters, infinite terms included. -/
module

public import proofs.«01_k».proof.Defs
public import proofs.«01_k».proof.Proof.Step.LossSumRun
public import proofs.«01_k».proof.Proof.Step.LossSumIdealRun
public import proofs.«01_k».proof.Proof.Gen.LossSumRefIdeal.Run
public import proofs.«01_k».proof.Proof.Gen.LossSumRefIdeal.Read
public import Idealize.ShloMosaic.Lib.Pointwise.Index
public import Idealize.ShloMosaic.PureOps.Ideal.Laws

@[expose] public section

noncomputable section

namespace Cert.Step.LossSum

open Idealize.ShloMosaic Idealize.ShloMosaic.TcCoe Idealize.SL.Sem
open Cert.LossSumIdeal Cert.LossSumIdeal.Gen Cert.Step.LossSumIdeal

/-- The frames of the program and of its ideal reading. -/
theorem quiescent_P : Cert.quiescent_LossSum := fun m g _ => Cert.Step.LossSum.quiescent m g
theorem quiescent_PI : Cert.quiescent_LossSumIdeal := fun m g _ => Cert.Step.LossSumIdeal.quiescent m g

/-- The first place of the block of device `d`. -/
def place (x : (⟨2, ![64, 128]⟩ : Shape).Idx → EReal) (d : Fin 8) : EReal :=
  x (Shape.pair ⟨d.val * 8, by show d.val * 8 < 64; have := d.isLt; omega⟩ ⟨0, by show 0 < 128; decide⟩)

/-- The parts' sum, in the order of the fold. -/
def total (x : (⟨2, ![64, 128]⟩ : Shape).Idx → EReal) : EReal :=
  place x 0 + place x 1 + place x 2 + place x 3 + place x 4 + place x 5 + place x 6 + place x 7

variable (m : (ℓ : Loc nD τ sig) → Buf (Elt Ideal) ℓ) (x : (⟨2, ![64, 128]⟩ : Shape).Idx → EReal)

/-- The first place of a block. -/
def corner : S8x128.Idx := Shape.pair (0 : Fin 8) (0 : Fin 128)

/-- The scalar that the two operations take off a block. -/
theorem scalar (X : (⟨S8x128, .f32⟩ : BufTy).Contents (Elt Ideal)) (i : S_.Idx) :
    shapeCast S_ (extractStridedSlice S1x1 ![0, 0] X slices_S8x128_S1x1_0_0) shapeCasts_S1x1_S_ i = X corner := by
  have h1 := shapeCast_apply (extractStridedSlice S1x1 ![0, 0] X slices_S8x128_S1x1_0_0) shapeCasts_S1x1_S_ i
    (Shape.pair (0 : Fin 1) (0 : Fin 1) : S1x1.Idx) (by
      have a : (S1x1.rowMajor (Shape.pair (0 : Fin 1) (0 : Fin 1))).val < 1 := Fin.isLt _
      have b : (S_.rowMajor i).val < 1 := Fin.isLt _
      exact (Nat.lt_one_iff.mp a).trans (Nat.lt_one_iff.mp b).symm)
  have h2 := extractStridedSlice_apply ![0, 0] X slices_S8x128_S1x1_0_0 (Shape.pair (0 : Fin 1) (0 : Fin 1) : S1x1.Idx) corner
    (fun a => match a with | ⟨0, _⟩ => rfl | ⟨1, _⟩ => rfl)
  exact h1.trans h2

/-- What device `d` puts into the all-reduce: the first place of its block. -/
theorem operand (d : Dev nD) (h : m ((d.tc : Thread nD τ).loc main_arg0) = Layout.block ⟨2, ![8, 128]⟩ ⟨2, ![64, 128]⟩ 0 8 d x)
    (i : S_.Idx) : V₁ m d (Proc.devRef .tc main_v2) i = place x d := by
  have e : V₁ m d (Proc.devRef .tc main_v2)
      = shapeCast S_ (extractStridedSlice S1x1 ![0, 0] (m ((d.tc : Thread nD τ).loc main_arg0)) slices_S8x128_S1x1_0_0) shapeCasts_S1x1_S_ := by
    after_results <;> rfl
  rw [e, h, scalar]
  refine congrArg x (funext fun a => Fin.ext ?_)
  match a with
  | ⟨0, _⟩ => rfl
  | ⟨1, _⟩ => rfl

/-- The one group lists the devices in order. -/
theorem peer_eq (c : Dev nD) (j : Fin 8) : (ar0 (F := Ideal)).peer c j = j := by
  have h0 : (ar0 (F := Ideal)).grp c = (0 : Fin 1) := Subsingleton.elim (α := Fin 1) _ _
  unfold AllReduce.Cfg.peer
  rw [h0]
  fin_cases j <;> rfl

/-- The all-reduce's result, from any contents: the operands folded from device 0 to device 7. -/
theorem folded (W : Dev nD → Valuation τ sig (Elt Ideal)) (c : Dev nD) (i : S_.Idx) (p : Fin 8 → EReal)
    (h : ∀ d : Fin 8, W d (Proc.devRef .tc main_v2) i = p d) :
    (ar0 (F := Ideal)).after₀ W c (Proc.devRef .tc main_v3) i = p 0 + p 1 + p 2 + p 3 + p 4 + p 5 + p 6 + p 7 := by
  have e : (ar0 (F := Ideal)).after₀ W c (Proc.devRef .tc main_v3)
      = (ar0 (F := Ideal)).foldGroup fun j => W ((ar0 (F := Ideal)).peer c j) (Proc.devRef .tc main_v2) :=
    (ar0 (F := Ideal)).after₀_result W c
  have hv : ∀ j : Fin 8, W ((ar0 (F := Ideal)).peer c j) (Proc.devRef .tc main_v2) i = p j := fun j => by rw [peer_eq]; exact h j
  rw [e, ← hv 0, ← hv 1, ← hv 2, ← hv 3, ← hv 4, ← hv 5, ← hv 6, ← hv 7]
  rfl

/-- What every device ends with. -/
theorem result (c : Dev nD) (h : ∀ d : Dev nD, m ((d.tc : Thread nD τ).loc main_arg0) = Layout.block ⟨2, ![8, 128]⟩ ⟨2, ![64, 128]⟩ 0 8 d x)
    (i : S_.Idx) : V₂ m c (Proc.devRef .tc main_v3) i = total x :=
  folded (V₁ m) c i (place x) fun d => operand m x d (h d) i

/-- The reference's sum: its part `d` is the first place of row `8 d`. -/
theorem ref (i : LossSumRefIdeal.S_.Idx) : LossSumRefIdeal.Read.val_main_v3 (F := Ideal) x i = total x := by
  have hd : ∀ d : Fin 8, LossSumRefIdeal.Read.val_main_v2 (F := Ideal) x (ix1 d) = place x d := fun d => by
    rw [LossSumRefIdeal.Read.val_main_v2_apply, LossSumRefIdeal.Read.val_main_v1_apply, LossSumRefIdeal.Read.val_main_v0_apply]
    unfold place
    refine congrArg x (funext fun a => Fin.ext ?_)
    fin_cases d <;> fin_cases a <;> rfl
  have hs := sum_idx1 (n0 := 8) (LossSumRefIdeal.Read.val_main_v2 (F := Ideal) x)
  rw [LossSumRefIdeal.Read.val_main_v3_apply, LossSumRefIdeal.Read.val_main_cst_apply]
  refine (congrArg _ hs).trans ?_
  rw [Fin.sum_univ_eight, hd, hd, hd, hd, hd, hd, hd, hd]
  refine (congrArg (· + _) (Ideal.ofBits_zero_f32)).trans (zero_add _)

theorem algebraic : Cert.algebraic_LossSumIdeal_LossSumRefIdeal := by
  intro m g m' g' _ h
  refine ⟨fun _ => total (m' (((0 : Dev LossSumRefIdeal.nD).tc : Thread LossSumRefIdeal.nD LossSumRefIdeal.τ).loc LossSumRefIdeal.main_arg0)), ?_, ?_⟩
  · exact (θ_run _ _ _).mono (fun r hr c => ⟨(hr.1 c (Proc.devRef .tc main_v3) (Pipeline.devRef_mem_ucRefs rfl)).trans (funext fun i => result m _ c h i),
      (hr.1 c (Proc.devRef .tc main_arg0) (Pipeline.devRef_mem_ucRefs rfl)).trans (V₂_arg0 m c)⟩) (run_main m g)
  · refine (θ_run _ _ _).mono (fun r hr => ⟨?_, (hr 0).2⟩) (LossSumRefIdeal.Value.run m' g')
    rw [(hr 0).1, LossSumRefIdeal.Read.val_main_v3_eq]
    exact funext fun i => ref _ i

end Cert.Step.LossSum

end
-- ==== Proof.lean ====
/- Every claim of the certificate, put together: the frame of each program is the generated one (of a reference,
   which only computes arrays, its run; of the sum over the devices, the one of `Step/LossSum`); a program and its ideal reading differ by nothing; and the value claims
   are the theorems `algebraic` of the modules under `Proof`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.HalfDx
public import proofs.«01_k».proof.Proof.Gen.HalfDx.Skeleton
public import proofs.«01_k».proof.Proof.Gen.HalfDx.Launch
public import proofs.«01_k».proof.Proof.Gen.HalfDx.Points
public import proofs.«01_k».proof.Proof.Gen.HalfDx.Frame
public import proofs.«01_k».proof.Proof.Gen.HalfDxIdeal
public import proofs.«01_k».proof.Proof.Gen.HalfDxIdeal.Skeleton
public import proofs.«01_k».proof.Proof.Gen.HalfDxIdeal.Launch
public import proofs.«01_k».proof.Proof.Gen.HalfDxIdeal.Points
public import proofs.«01_k».proof.Proof.Gen.HalfDxIdeal.Frame
public import proofs.«01_k».proof.Proof.Gen.HalfDxIdeal.Value
public import proofs.«01_k».proof.Proof.Gen.HalfDxRefIdeal
public import proofs.«01_k».proof.Proof.Gen.HalfDxRefIdeal.Run
public import proofs.«01_k».proof.Proof.Gen.HalfDxRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.GateDw
public import proofs.«01_k».proof.Proof.Gen.GateDw.Skeleton
public import proofs.«01_k».proof.Proof.Gen.GateDw.Launch
public import proofs.«01_k».proof.Proof.Gen.GateDw.Points
public import proofs.«01_k».proof.Proof.Gen.GateDw.Frame
public import proofs.«01_k».proof.Proof.Gen.GateDwIdeal
public import proofs.«01_k».proof.Proof.Gen.GateDwIdeal.Skeleton
public import proofs.«01_k».proof.Proof.Gen.GateDwIdeal.Launch
public import proofs.«01_k».proof.Proof.Gen.GateDwIdeal.Points
public import proofs.«01_k».proof.Proof.Gen.GateDwIdeal.Frame
public import proofs.«01_k».proof.Proof.Gen.GateDwIdeal.Value
public import proofs.«01_k».proof.Proof.Gen.GateDwRefIdeal
public import proofs.«01_k».proof.Proof.Gen.GateDwRefIdeal.Run
public import proofs.«01_k».proof.Proof.Gen.GateDwRefIdeal.Read
public import proofs.«01_k».proof.Proof.Gen.L0Proj
public import proofs.«01_k».proof.Proof.Gen.L0Proj.Skeleton
public import proofs.«01_k».proof.Proof.Gen.L0Proj.Launch
public import proofs.«01_k».proof.Proof.Gen.L0Proj.Points
public import proofs.«01_k».proof.Proof.Gen.L0Proj.Frame
public import proofs.«01_k».proof.Proof.Gen.L0ProjIdeal
public import proofs.«01_k».proof.Proof.Gen.L0ProjIdeal.Skeleton
public import proofs.«01_k».proof.Proof.Gen.L0ProjIdeal.Launch
public import proofs.«01_k».proof.Proof.Gen.L0ProjIdeal.Points
public import proofs.«01_k».proof.Proof.Gen.L0ProjIdeal.Frame
public import proofs.«01_k».proof.Proof.Gen.L0ProjIdeal.Value
public import proofs.«01_k».proof.Proof.Gen.L0ProjRefIdeal
public import proofs.«01_k».proof.Proof.Gen.L0ProjRefIdeal.Run
public import proofs.«01_k».proof.Proof.Gen.L0ProjRefIdeal.Read
public import proofs.«01_k».proof.Proof.Gen.L0ProjDx
public import proofs.«01_k».proof.Proof.Gen.L0ProjDx.Skeleton
public import proofs.«01_k».proof.Proof.Gen.L0ProjDx.Launch
public import proofs.«01_k».proof.Proof.Gen.L0ProjDx.Points
public import proofs.«01_k».proof.Proof.Gen.L0ProjDx.Frame
public import proofs.«01_k».proof.Proof.Gen.L0ProjDxIdeal
public import proofs.«01_k».proof.Proof.Gen.L0ProjDxIdeal.Skeleton
public import proofs.«01_k».proof.Proof.Gen.L0ProjDxIdeal.Launch
public import proofs.«01_k».proof.Proof.Gen.L0ProjDxIdeal.Points
public import proofs.«01_k».proof.Proof.Gen.L0ProjDxIdeal.Frame
public import proofs.«01_k».proof.Proof.Gen.L0ProjDxIdeal.Value
public import proofs.«01_k».proof.Proof.Gen.L0ProjDxRefIdeal
public import proofs.«01_k».proof.Proof.Gen.L0ProjDxRefIdeal.Run
public import proofs.«01_k».proof.Proof.Gen.L0ProjDxRefIdeal.Read
public import proofs.«01_k».proof.Proof.Gen.L0ProjDw
public import proofs.«01_k».proof.Proof.Gen.L0ProjDw.Skeleton
public import proofs.«01_k».proof.Proof.Gen.L0ProjDw.Launch
public import proofs.«01_k».proof.Proof.Gen.L0ProjDw.Points
public import proofs.«01_k».proof.Proof.Gen.L0ProjDw.Frame
public import proofs.«01_k».proof.Proof.Gen.L0ProjDwIdeal
public import proofs.«01_k».proof.Proof.Gen.L0ProjDwIdeal.Skeleton
public import proofs.«01_k».proof.Proof.Gen.L0ProjDwIdeal.Launch
public import proofs.«01_k».proof.Proof.Gen.L0ProjDwIdeal.Points
public import proofs.«01_k».proof.Proof.Gen.L0ProjDwIdeal.Frame
public import proofs.«01_k».proof.Proof.Gen.L0ProjDwIdeal.Value
public import proofs.«01_k».proof.Proof.Gen.L0ProjDwRefIdeal
public import proofs.«01_k».proof.Proof.Gen.L0ProjDwRefIdeal.Run
public import proofs.«01_k».proof.Proof.Gen.L0ProjDwRefIdeal.Read
public import proofs.«01_k».proof.Proof.Gen.L1Proj
public import proofs.«01_k».proof.Proof.Gen.L1Proj.Skeleton
public import proofs.«01_k».proof.Proof.Gen.L1Proj.Launch
public import proofs.«01_k».proof.Proof.Gen.L1Proj.Points
public import proofs.«01_k».proof.Proof.Gen.L1Proj.Frame
public import proofs.«01_k».proof.Proof.Gen.L1ProjIdeal
public import proofs.«01_k».proof.Proof.Gen.L1ProjIdeal.Skeleton
public import proofs.«01_k».proof.Proof.Gen.L1ProjIdeal.Launch
public import proofs.«01_k».proof.Proof.Gen.L1ProjIdeal.Points
public import proofs.«01_k».proof.Proof.Gen.L1ProjIdeal.Frame
public import proofs.«01_k».proof.Proof.Gen.L1ProjIdeal.Value
public import proofs.«01_k».proof.Proof.Gen.L1ProjRefIdeal
public import proofs.«01_k».proof.Proof.Gen.L1ProjRefIdeal.Run
public import proofs.«01_k».proof.Proof.Gen.L1ProjRefIdeal.Read
public import proofs.«01_k».proof.Proof.Gen.L1ProjDx
public import proofs.«01_k».proof.Proof.Gen.L1ProjDx.Skeleton
public import proofs.«01_k».proof.Proof.Gen.L1ProjDx.Launch
public import proofs.«01_k».proof.Proof.Gen.L1ProjDx.Points
public import proofs.«01_k».proof.Proof.Gen.L1ProjDx.Frame
public import proofs.«01_k».proof.Proof.Gen.L1ProjDxIdeal
public import proofs.«01_k».proof.Proof.Gen.L1ProjDxIdeal.Skeleton
public import proofs.«01_k».proof.Proof.Gen.L1ProjDxIdeal.Launch
public import proofs.«01_k».proof.Proof.Gen.L1ProjDxIdeal.Points
public import proofs.«01_k».proof.Proof.Gen.L1ProjDxIdeal.Frame
public import proofs.«01_k».proof.Proof.Gen.L1ProjDxIdeal.Value
public import proofs.«01_k».proof.Proof.Gen.L1ProjDxRefIdeal
public import proofs.«01_k».proof.Proof.Gen.L1ProjDxRefIdeal.Run
public import proofs.«01_k».proof.Proof.Gen.L1ProjDxRefIdeal.Read
public import proofs.«01_k».proof.Proof.Gen.L1ProjDw
public import proofs.«01_k».proof.Proof.Gen.L1ProjDw.Skeleton
public import proofs.«01_k».proof.Proof.Gen.L1ProjDw.Launch
public import proofs.«01_k».proof.Proof.Gen.L1ProjDw.Points
public import proofs.«01_k».proof.Proof.Gen.L1ProjDw.Frame
public import proofs.«01_k».proof.Proof.Gen.L1ProjDwIdeal
public import proofs.«01_k».proof.Proof.Gen.L1ProjDwIdeal.Skeleton
public import proofs.«01_k».proof.Proof.Gen.L1ProjDwIdeal.Launch
public import proofs.«01_k».proof.Proof.Gen.L1ProjDwIdeal.Points
public import proofs.«01_k».proof.Proof.Gen.L1ProjDwIdeal.Frame
public import proofs.«01_k».proof.Proof.Gen.L1ProjDwIdeal.Value
public import proofs.«01_k».proof.Proof.Gen.L1ProjDwRefIdeal
public import proofs.«01_k».proof.Proof.Gen.L1ProjDwRefIdeal.Run
public import proofs.«01_k».proof.Proof.Gen.L1ProjDwRefIdeal.Read
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutAIdeal.Value
public import proofs.«01_k».proof.Proof.Gen.OutARefIdeal
public import proofs.«01_k».proof.Proof.Gen.OutARefIdeal.Run
public import proofs.«01_k».proof.Proof.Gen.OutARefIdeal.Read
public import proofs.«01_k».proof.Proof.Gen.OutB
public import proofs.«01_k».proof.Proof.Gen.OutB.Skeleton
public import proofs.«01_k».proof.Proof.Gen.OutB.Launch
public import proofs.«01_k».proof.Proof.Gen.OutB.Points
public import proofs.«01_k».proof.Proof.Gen.OutB.Frame
public import proofs.«01_k».proof.Proof.Gen.OutBIdeal
public import proofs.«01_k».proof.Proof.Gen.OutBIdeal.Skeleton
public import proofs.«01_k».proof.Proof.Gen.OutBIdeal.Launch
public import proofs.«01_k».proof.Proof.Gen.OutBIdeal.Points
public import proofs.«01_k».proof.Proof.Gen.OutBIdeal.Frame
public import proofs.«01_k».proof.Proof.Gen.OutBIdeal.Value
public import proofs.«01_k».proof.Proof.Gen.OutBRefIdeal
public import proofs.«01_k».proof.Proof.Gen.OutBRefIdeal.Run
public import proofs.«01_k».proof.Proof.Gen.OutBRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.AdamL0In
public import proofs.«01_k».proof.Proof.Gen.AdamL0In.Skeleton
public import proofs.«01_k».proof.Proof.Gen.AdamL0In.Launch
public import proofs.«01_k».proof.Proof.Gen.AdamL0In.Points
public import proofs.«01_k».proof.Proof.Gen.AdamL0In.Frame
public import proofs.«01_k».proof.Proof.Gen.AdamL0InIdeal
public import proofs.«01_k».proof.Proof.Gen.AdamL0InIdeal.Skeleton
public import proofs.«01_k».proof.Proof.Gen.AdamL0InIdeal.Launch
public import proofs.«01_k».proof.Proof.Gen.AdamL0InIdeal.Points
public import proofs.«01_k».proof.Proof.Gen.AdamL0InIdeal.Frame
public import proofs.«01_k».proof.Proof.Gen.AdamL0InIdeal.Value
public import proofs.«01_k».proof.Proof.Gen.AdamL0InRefIdeal
public import proofs.«01_k».proof.Proof.Gen.AdamL0InRefIdeal.Run
public import proofs.«01_k».proof.Proof.Gen.AdamL0InRefIdeal.Read
public import proofs.«01_k».proof.Proof.Gen.AdamL1In
public import proofs.«01_k».proof.Proof.Gen.AdamL1In.Skeleton
public import proofs.«01_k».proof.Proof.Gen.AdamL1In.Launch
public import proofs.«01_k».proof.Proof.Gen.AdamL1In.Points
public import proofs.«01_k».proof.Proof.Gen.AdamL1In.Frame
public import proofs.«01_k».proof.Proof.Gen.AdamL1InIdeal
public import proofs.«01_k».proof.Proof.Gen.AdamL1InIdeal.Skeleton
public import proofs.«01_k».proof.Proof.Gen.AdamL1InIdeal.Launch
public import proofs.«01_k».proof.Proof.Gen.AdamL1InIdeal.Points
public import proofs.«01_k».proof.Proof.Gen.AdamL1InIdeal.Frame
public import proofs.«01_k».proof.Proof.Gen.AdamL1InIdeal.Value
public import proofs.«01_k».proof.Proof.Gen.AdamL1InRefIdeal
public import proofs.«01_k».proof.Proof.Gen.AdamL1InRefIdeal.Run
public import proofs.«01_k».proof.Proof.Gen.AdamL1InRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Mm.Up
public import proofs.«01_k».proof.Proof.Mm.Down
public import proofs.«01_k».proof.Proof.Mm.DownDx
public import proofs.«01_k».proof.Proof.Mm.DownDw
public import proofs.«01_k».proof.Proof.Mm.HalfDx
public import proofs.«01_k».proof.Proof.Mm.UpDw
public import proofs.«01_k».proof.Proof.Mm.GateDw
public import proofs.«01_k».proof.Proof.Mm.L0Proj
public import proofs.«01_k».proof.Proof.Mm.L0ProjDx
public import proofs.«01_k».proof.Proof.Mm.L0ProjDw
public import proofs.«01_k».proof.Proof.Mm.L1Proj
public import proofs.«01_k».proof.Proof.Mm.L1ProjDx
public import proofs.«01_k».proof.Proof.Mm.L1ProjDw
public import proofs.«01_k».proof.Proof.Mm.OutA
public import proofs.«01_k».proof.Proof.Mm.OutB
public import proofs.«01_k».proof.Proof.Mm.OutDx
public import proofs.«01_k».proof.Proof.Mm.OutDw
public import proofs.«01_k».proof.Proof.Step.AdamL0In
public import proofs.«01_k».proof.Proof.Step.AdamL1In
public import proofs.«01_k».proof.Proof.Step.AdamUp
public import proofs.«01_k».proof.Proof.Step.AdamDown
public import proofs.«01_k».proof.Proof.Step.AdamOut
public import proofs.«01_k».proof.Proof.Step.AdamSmall
public import proofs.«01_k».proof.Proof.Step.Loss
public import proofs.«01_k».proof.Proof.Mla.Final
public import proofs.«01_k».proof.Proof.Gen.On_first_two
public import proofs.«01_k».proof.Proof.Gen.ChipL0In
public import proofs.«01_k».proof.Proof.Gen.ChipL0In.Skeleton
public import proofs.«01_k».proof.Proof.Gen.ChipL0In.Launch
public import proofs.«01_k».proof.Proof.Gen.ChipL0In.Points
public import proofs.«01_k».proof.Proof.Gen.ChipL0In.Frame
public import proofs.«01_k».proof.Proof.Gen.ChipL0InIdeal
public import proofs.«01_k».proof.Proof.Gen.ChipL0InIdeal.Skeleton
public import proofs.«01_k».proof.Proof.Gen.ChipL0InIdeal.Launch
public import proofs.«01_k».proof.Proof.Gen.ChipL0InIdeal.Points
public import proofs.«01_k».proof.Proof.Gen.ChipL0InIdeal.Frame
public import proofs.«01_k».proof.Proof.Gen.ChipL0InRefIdeal
public import proofs.«01_k».proof.Proof.Gen.ChipL0InRefIdeal.Run
public import proofs.«01_k».proof.Proof.Gen.ChipL0InRefIdeal.Read
public import proofs.«01_k».proof.Proof.Gen.Pre_a_core_ChipL0In
public import proofs.«01_k».proof.Proof.Gen.On_own_half_ChipL0InIdeal
public import proofs.«01_k».proof.Proof.Step.ChipL0In
public import proofs.«01_k».proof.Proof.Gen.ChipL1In
public import proofs.«01_k».proof.Proof.Gen.ChipL1In.Skeleton
public import proofs.«01_k».proof.Proof.Gen.ChipL1In.Launch
public import proofs.«01_k».proof.Proof.Gen.ChipL1In.Points
public import proofs.«01_k».proof.Proof.Gen.ChipL1In.Frame
public import proofs.«01_k».proof.Proof.Gen.ChipL1InIdeal
public import proofs.«01_k».proof.Proof.Gen.ChipL1InIdeal.Skeleton
public import proofs.«01_k».proof.Proof.Gen.ChipL1InIdeal.Launch
public import proofs.«01_k».proof.Proof.Gen.ChipL1InIdeal.Points
public import proofs.«01_k».proof.Proof.Gen.ChipL1InIdeal.Frame
public import proofs.«01_k».proof.Proof.Gen.ChipL1InRefIdeal
public import proofs.«01_k».proof.Proof.Gen.ChipL1InRefIdeal.Run
public import proofs.«01_k».proof.Proof.Gen.ChipL1InRefIdeal.Read
public import proofs.«01_k».proof.Proof.Gen.Pre_a_core_ChipL1In
public import proofs.«01_k».proof.Proof.Gen.On_own_half_ChipL1InIdeal
public import proofs.«01_k».proof.Proof.Step.ChipL1In
public import proofs.«01_k».proof.Proof.Gen.ChipUp
public import proofs.«01_k».proof.Proof.Gen.ChipUp.Skeleton
public import proofs.«01_k».proof.Proof.Gen.ChipUp.Launch
public import proofs.«01_k».proof.Proof.Gen.ChipUp.Points
public import proofs.«01_k».proof.Proof.Gen.ChipUp.Frame
public import proofs.«01_k».proof.Proof.Gen.ChipUpIdeal
public import proofs.«01_k».proof.Proof.Gen.ChipUpIdeal.Skeleton
public import proofs.«01_k».proof.Proof.Gen.ChipUpIdeal.Launch
public import proofs.«01_k».proof.Proof.Gen.ChipUpIdeal.Points
public import proofs.«01_k».proof.Proof.Gen.ChipUpIdeal.Frame
public import proofs.«01_k».proof.Proof.Gen.ChipUpRefIdeal
public import proofs.«01_k».proof.Proof.Gen.ChipUpRefIdeal.Run
public import proofs.«01_k».proof.Proof.Gen.ChipUpRefIdeal.Read
public import proofs.«01_k».proof.Proof.Gen.Pre_a_core_ChipUp
public import proofs.«01_k».proof.Proof.Gen.On_own_half_ChipUpIdeal
public import proofs.«01_k».proof.Proof.Step.ChipUp
public import proofs.«01_k».proof.Proof.Gen.ChipDown
public import proofs.«01_k».proof.Proof.Gen.ChipDown.Skeleton
public import proofs.«01_k».proof.Proof.Gen.ChipDown.Launch
public import proofs.«01_k».proof.Proof.Gen.ChipDown.Points
public import proofs.«01_k».proof.Proof.Gen.ChipDown.Frame
public import proofs.«01_k».proof.Proof.Gen.ChipDownIdeal
public import proofs.«01_k».proof.Proof.Gen.ChipDownIdeal.Skeleton
public import proofs.«01_k».proof.Proof.Gen.ChipDownIdeal.Launch
public import proofs.«01_k».proof.Proof.Gen.ChipDownIdeal.Points
public import proofs.«01_k».proof.Proof.Gen.ChipDownIdeal.Frame
public import proofs.«01_k».proof.Proof.Gen.ChipDownRefIdeal
public import proofs.«01_k».proof.Proof.Gen.ChipDownRefIdeal.Run
public import proofs.«01_k».proof.Proof.Gen.ChipDownRefIdeal.Read
public import proofs.«01_k».proof.Proof.Gen.Pre_a_core_ChipDown
public import proofs.«01_k».proof.Proof.Gen.On_own_half_ChipDownIdeal
public import proofs.«01_k».proof.Proof.Step.ChipDown
public import proofs.«01_k».proof.Proof.Gen.ChipOut
public import proofs.«01_k».proof.Proof.Gen.ChipOut.Skeleton
public import proofs.«01_k».proof.Proof.Gen.ChipOut.Launch
public import proofs.«01_k».proof.Proof.Gen.ChipOut.Points
public import proofs.«01_k».proof.Proof.Gen.ChipOut.Frame
public import proofs.«01_k».proof.Proof.Gen.ChipOutIdeal
public import proofs.«01_k».proof.Proof.Gen.ChipOutIdeal.Skeleton
public import proofs.«01_k».proof.Proof.Gen.ChipOutIdeal.Launch
public import proofs.«01_k».proof.Proof.Gen.ChipOutIdeal.Points
public import proofs.«01_k».proof.Proof.Gen.ChipOutIdeal.Frame
public import proofs.«01_k».proof.Proof.Gen.ChipOutRefIdeal
public import proofs.«01_k».proof.Proof.Gen.ChipOutRefIdeal.Run
public import proofs.«01_k».proof.Proof.Gen.ChipOutRefIdeal.Read
public import proofs.«01_k».proof.Proof.Gen.Pre_a_core_ChipOut
public import proofs.«01_k».proof.Proof.Gen.On_own_half_ChipOutIdeal
public import proofs.«01_k».proof.Proof.Step.ChipOut
public import proofs.«01_k».proof.Proof.Gen.ChipSmall
public import proofs.«01_k».proof.Proof.Gen.ChipSmall.Skeleton
public import proofs.«01_k».proof.Proof.Gen.ChipSmall.Launch
public import proofs.«01_k».proof.Proof.Gen.ChipSmall.Points
public import proofs.«01_k».proof.Proof.Gen.ChipSmall.Frame
public import proofs.«01_k».proof.Proof.Gen.ChipSmallIdeal
public import proofs.«01_k».proof.Proof.Gen.ChipSmallIdeal.Skeleton
public import proofs.«01_k».proof.Proof.Gen.ChipSmallIdeal.Launch
public import proofs.«01_k».proof.Proof.Gen.ChipSmallIdeal.Points
public import proofs.«01_k».proof.Proof.Gen.ChipSmallIdeal.Frame
public import proofs.«01_k».proof.Proof.Gen.ChipSmallRefIdeal
public import proofs.«01_k».proof.Proof.Gen.ChipSmallRefIdeal.Run
public import proofs.«01_k».proof.Proof.Gen.ChipSmallRefIdeal.Read
public import proofs.«01_k».proof.Proof.Gen.Pre_a_core_ChipSmall
public import proofs.«01_k».proof.Proof.Gen.On_own_half_ChipSmallIdeal
public import proofs.«01_k».proof.Proof.Step.ChipSmall
public import proofs.«01_k».proof.Proof.Gen.PairL0In
public import proofs.«01_k».proof.Proof.Gen.PairL0In.Skeleton
public import proofs.«01_k».proof.Proof.Gen.PairL0In.Launch
public import proofs.«01_k».proof.Proof.Gen.PairL0In.Points
public import proofs.«01_k».proof.Proof.Gen.PairL0In.Frame
public import proofs.«01_k».proof.Proof.Gen.PairL0InIdeal
public import proofs.«01_k».proof.Proof.Gen.PairL0InIdeal.Skeleton
public import proofs.«01_k».proof.Proof.Gen.PairL0InIdeal.Launch
public import proofs.«01_k».proof.Proof.Gen.PairL0InIdeal.Points
public import proofs.«01_k».proof.Proof.Gen.PairL0InIdeal.Frame
public import proofs.«01_k».proof.Proof.Gen.PairL0InRefIdeal
public import proofs.«01_k».proof.Proof.Gen.PairL0InRefIdeal.Run
public import proofs.«01_k».proof.Proof.Gen.PairL0InRefIdeal.Read
public import proofs.«01_k».proof.Proof.Gen.Pre_a_core_PairL0In
public import proofs.«01_k».proof.Proof.Step.PairL0In
public import proofs.«01_k».proof.Proof.Gen.PairL1In
public import proofs.«01_k».proof.Proof.Gen.PairL1In.Skeleton
public import proofs.«01_k».proof.Proof.Gen.PairL1In.Launch
public import proofs.«01_k».proof.Proof.Gen.PairL1In.Points
public import proofs.«01_k».proof.Proof.Gen.PairL1In.Frame
public import proofs.«01_k».proof.Proof.Gen.PairL1InIdeal
public import proofs.«01_k».proof.Proof.Gen.PairL1InIdeal.Skeleton
public import proofs.«01_k».proof.Proof.Gen.PairL1InIdeal.Launch
public import proofs.«01_k».proof.Proof.Gen.PairL1InIdeal.Points
public import proofs.«01_k».proof.Proof.Gen.PairL1InIdeal.Frame
public import proofs.«01_k».proof.Proof.Gen.PairL1InRefIdeal
public import proofs.«01_k».proof.Proof.Gen.PairL1InRefIdeal.Run
public import proofs.«01_k».proof.Proof.Gen.PairL1InRefIdeal.Read
public import proofs.«01_k».proof.Proof.Gen.Pre_a_core_PairL1In
public import proofs.«01_k».proof.Proof.Step.PairL1In
public import proofs.«01_k».proof.Proof.Gen.PairUp
public import proofs.«01_k».proof.Proof.Gen.PairUp.Skeleton
public import proofs.«01_k».proof.Proof.Gen.PairUp.Launch
public import proofs.«01_k».proof.Proof.Gen.PairUp.Points
public import proofs.«01_k».proof.Proof.Gen.PairUp.Frame
public import proofs.«01_k».proof.Proof.Gen.PairUpIdeal
public import proofs.«01_k».proof.Proof.Gen.PairUpIdeal.Skeleton
public import proofs.«01_k».proof.Proof.Gen.PairUpIdeal.Launch
public import proofs.«01_k».proof.Proof.Gen.PairUpIdeal.Points
public import proofs.«01_k».proof.Proof.Gen.PairUpIdeal.Frame
public import proofs.«01_k».proof.Proof.Gen.PairUpRefIdeal
public import proofs.«01_k».proof.Proof.Gen.PairUpRefIdeal.Run
public import proofs.«01_k».proof.Proof.Gen.PairUpRefIdeal.Read
public import proofs.«01_k».proof.Proof.Gen.Pre_a_core_PairUp
public import proofs.«01_k».proof.Proof.Step.PairUp
public import proofs.«01_k».proof.Proof.Gen.PairDown
public import proofs.«01_k».proof.Proof.Gen.PairDown.Skeleton
public import proofs.«01_k».proof.Proof.Gen.PairDown.Launch
public import proofs.«01_k».proof.Proof.Gen.PairDown.Points
public import proofs.«01_k».proof.Proof.Gen.PairDown.Frame
public import proofs.«01_k».proof.Proof.Gen.PairDownIdeal
public import proofs.«01_k».proof.Proof.Gen.PairDownIdeal.Skeleton
public import proofs.«01_k».proof.Proof.Gen.PairDownIdeal.Launch
public import proofs.«01_k».proof.Proof.Gen.PairDownIdeal.Points
public import proofs.«01_k».proof.Proof.Gen.PairDownIdeal.Frame
public import proofs.«01_k».proof.Proof.Gen.PairDownRefIdeal
public import proofs.«01_k».proof.Proof.Gen.PairDownRefIdeal.Run
public import proofs.«01_k».proof.Proof.Gen.PairDownRefIdeal.Read
public import proofs.«01_k».proof.Proof.Gen.Pre_a_core_PairDown
public import proofs.«01_k».proof.Proof.Step.PairDown
public import proofs.«01_k».proof.Proof.Gen.PairOut
public import proofs.«01_k».proof.Proof.Gen.PairOut.Skeleton
public import proofs.«01_k».proof.Proof.Gen.PairOut.Launch
public import proofs.«01_k».proof.Proof.Gen.PairOut.Points
public import proofs.«01_k».proof.Proof.Gen.PairOut.Frame
public import proofs.«01_k».proof.Proof.Gen.PairOutIdeal
public import proofs.«01_k».proof.Proof.Gen.PairOutIdeal.Skeleton
public import proofs.«01_k».proof.Proof.Gen.PairOutIdeal.Launch
public import proofs.«01_k».proof.Proof.Gen.PairOutIdeal.Points
public import proofs.«01_k».proof.Proof.Gen.PairOutIdeal.Frame
public import proofs.«01_k».proof.Proof.Gen.PairOutRefIdeal
public import proofs.«01_k».proof.Proof.Gen.PairOutRefIdeal.Run
public import proofs.«01_k».proof.Proof.Gen.PairOutRefIdeal.Read
public import proofs.«01_k».proof.Proof.Gen.Pre_a_core_PairOut
public import proofs.«01_k».proof.Proof.Step.PairOut
public import proofs.«01_k».proof.Proof.Gen.PairSmall
public import proofs.«01_k».proof.Proof.Gen.PairSmall.Skeleton
public import proofs.«01_k».proof.Proof.Gen.PairSmall.Launch
public import proofs.«01_k».proof.Proof.Gen.PairSmall.Points
public import proofs.«01_k».proof.Proof.Gen.PairSmall.Frame
public import proofs.«01_k».proof.Proof.Gen.PairSmallIdeal
public import proofs.«01_k».proof.Proof.Gen.PairSmallIdeal.Skeleton
public import proofs.«01_k».proof.Proof.Gen.PairSmallIdeal.Launch
public import proofs.«01_k».proof.Proof.Gen.PairSmallIdeal.Points
public import proofs.«01_k».proof.Proof.Gen.PairSmallIdeal.Frame
public import proofs.«01_k».proof.Proof.Gen.PairSmallRefIdeal
public import proofs.«01_k».proof.Proof.Gen.PairSmallRefIdeal.Run
public import proofs.«01_k».proof.Proof.Gen.PairSmallRefIdeal.Read
public import proofs.«01_k».proof.Proof.Gen.Pre_a_core_PairSmall
public import proofs.«01_k».proof.Proof.Step.PairSmall
public import proofs.«01_k».proof.Proof.Gen.LossSum
public import proofs.«01_k».proof.Proof.Gen.LossSum.Launch
public import proofs.«01_k».proof.Proof.Gen.LossSumIdeal
public import proofs.«01_k».proof.Proof.Gen.LossSumIdeal.Launch
public import proofs.«01_k».proof.Proof.Gen.LossSumRefIdeal
public import proofs.«01_k».proof.Proof.Gen.LossSumRefIdeal.Run
public import proofs.«01_k».proof.Proof.Gen.LossSumRefIdeal.Read
public import proofs.«01_k».proof.Proof.Step.LossSum
public import Idealize.ShloMosaic.Adequacy
public import Idealize.ShloMosaic.Init

@[expose] public section

noncomputable section

namespace Cert.Proof

open Idealize.ShloMosaic Idealize.SL.Sem

/-- Every claim holds. -/
theorem claim : Cert.Claim := ⟨
  Cert.Kernel.Gen.facts, Cert.KernelIdeal.Gen.facts, Cert.ReferenceIdeal.Gen.facts, Cert.Up.Gen.facts,
  Cert.UpIdeal.Gen.facts, Cert.UpRefIdeal.Gen.facts, Cert.Down.Gen.facts, Cert.DownIdeal.Gen.facts,
  Cert.DownRefIdeal.Gen.facts, Cert.DownDx.Gen.facts, Cert.DownDxIdeal.Gen.facts, Cert.DownDxRefIdeal.Gen.facts,
  Cert.DownDw.Gen.facts, Cert.DownDwIdeal.Gen.facts, Cert.DownDwRefIdeal.Gen.facts, Cert.HalfDx.Gen.facts,
  Cert.HalfDxIdeal.Gen.facts, Cert.HalfDxRefIdeal.Gen.facts, Cert.UpDw.Gen.facts, Cert.UpDwIdeal.Gen.facts,
  Cert.UpDwRefIdeal.Gen.facts, Cert.GateDw.Gen.facts, Cert.GateDwIdeal.Gen.facts, Cert.GateDwRefIdeal.Gen.facts,
  Cert.L0Proj.Gen.facts, Cert.L0ProjIdeal.Gen.facts, Cert.L0ProjRefIdeal.Gen.facts, Cert.L0ProjDx.Gen.facts,
  Cert.L0ProjDxIdeal.Gen.facts, Cert.L0ProjDxRefIdeal.Gen.facts, Cert.L0ProjDw.Gen.facts, Cert.L0ProjDwIdeal.Gen.facts,
  Cert.L0ProjDwRefIdeal.Gen.facts, Cert.L1Proj.Gen.facts, Cert.L1ProjIdeal.Gen.facts, Cert.L1ProjRefIdeal.Gen.facts,
  Cert.L1ProjDx.Gen.facts, Cert.L1ProjDxIdeal.Gen.facts, Cert.L1ProjDxRefIdeal.Gen.facts, Cert.L1ProjDw.Gen.facts,
  Cert.L1ProjDwIdeal.Gen.facts, Cert.L1ProjDwRefIdeal.Gen.facts, Cert.OutA.Gen.facts, Cert.OutAIdeal.Gen.facts,
  Cert.OutARefIdeal.Gen.facts, Cert.OutB.Gen.facts, Cert.OutBIdeal.Gen.facts, Cert.OutBRefIdeal.Gen.facts,
  Cert.OutDx.Gen.facts, Cert.OutDxIdeal.Gen.facts, Cert.OutDxRefIdeal.Gen.facts, Cert.OutDw.Gen.facts,
  Cert.OutDwIdeal.Gen.facts, Cert.OutDwRefIdeal.Gen.facts, Cert.AdamL0In.Gen.facts, Cert.AdamL0InIdeal.Gen.facts,
  Cert.AdamL0InRefIdeal.Gen.facts, Cert.AdamL1In.Gen.facts, Cert.AdamL1InIdeal.Gen.facts, Cert.AdamL1InRefIdeal.Gen.facts,
  Cert.AdamUp.Gen.facts, Cert.AdamUpIdeal.Gen.facts, Cert.AdamUpRefIdeal.Gen.facts, Cert.AdamDown.Gen.facts,
  Cert.AdamDownIdeal.Gen.facts, Cert.AdamDownRefIdeal.Gen.facts, Cert.AdamOut.Gen.facts, Cert.AdamOutIdeal.Gen.facts,
  Cert.AdamOutRefIdeal.Gen.facts, Cert.AdamSmall.Gen.facts, Cert.AdamSmallIdeal.Gen.facts, Cert.AdamSmallRefIdeal.Gen.facts,
  Cert.Loss.Gen.facts, Cert.LossIdeal.Gen.facts, Cert.LossRefIdeal.Gen.facts, Cert.ChipL0In.Gen.facts,
  Cert.ChipL0InIdeal.Gen.facts, Cert.ChipL0InRefIdeal.Gen.facts, Cert.ChipL1In.Gen.facts, Cert.ChipL1InIdeal.Gen.facts,
  Cert.ChipL1InRefIdeal.Gen.facts, Cert.ChipUp.Gen.facts, Cert.ChipUpIdeal.Gen.facts, Cert.ChipUpRefIdeal.Gen.facts,
  Cert.ChipDown.Gen.facts, Cert.ChipDownIdeal.Gen.facts, Cert.ChipDownRefIdeal.Gen.facts, Cert.ChipOut.Gen.facts,
  Cert.ChipOutIdeal.Gen.facts, Cert.ChipOutRefIdeal.Gen.facts, Cert.ChipSmall.Gen.facts, Cert.ChipSmallIdeal.Gen.facts,
  Cert.ChipSmallRefIdeal.Gen.facts, Cert.PairL0In.Gen.facts, Cert.PairL0InIdeal.Gen.facts, Cert.PairL0InRefIdeal.Gen.facts,
  Cert.PairL1In.Gen.facts, Cert.PairL1InIdeal.Gen.facts, Cert.PairL1InRefIdeal.Gen.facts, Cert.PairUp.Gen.facts,
  Cert.PairUpIdeal.Gen.facts, Cert.PairUpRefIdeal.Gen.facts, Cert.PairDown.Gen.facts, Cert.PairDownIdeal.Gen.facts,
  Cert.PairDownRefIdeal.Gen.facts, Cert.PairOut.Gen.facts, Cert.PairOutIdeal.Gen.facts, Cert.PairOutRefIdeal.Gen.facts,
  Cert.PairSmall.Gen.facts, Cert.PairSmallIdeal.Gen.facts, Cert.PairSmallRefIdeal.Gen.facts, Cert.LossSum.Gen.facts,
  Cert.LossSumIdeal.Gen.facts, Cert.LossSumRefIdeal.Gen.facts, Cert.Pre_finite.Gen.facts, Cert.Pre_a_core_ChipL0In.Gen.facts,
  Cert.Pre_a_core_ChipL1In.Gen.facts, Cert.Pre_a_core_ChipUp.Gen.facts, Cert.Pre_a_core_ChipDown.Gen.facts, Cert.Pre_a_core_ChipOut.Gen.facts,
  Cert.Pre_a_core_ChipSmall.Gen.facts, Cert.Pre_a_core_PairL0In.Gen.facts, Cert.Pre_a_core_PairL1In.Gen.facts, Cert.Pre_a_core_PairUp.Gen.facts,
  Cert.Pre_a_core_PairDown.Gen.facts, Cert.Pre_a_core_PairOut.Gen.facts, Cert.Pre_a_core_PairSmall.Gen.facts, Cert.On_first_two.Gen.facts,
  Cert.On_own_half_ChipL0InIdeal.Gen.facts, Cert.On_own_half_ChipL1InIdeal.Gen.facts, Cert.On_own_half_ChipUpIdeal.Gen.facts, Cert.On_own_half_ChipDownIdeal.Gen.facts,
  Cert.On_own_half_ChipOutIdeal.Gen.facts, Cert.On_own_half_ChipSmallIdeal.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2.2.2, sem_eq_zero_of_no_sems (by decide) r.2⟩)
    (Cert.ReferenceIdeal.Value.run m ρ),
  fun m ρ _ => (θ_run Cert.ReferenceIdeal.defs _ _).mono (fun r h => ⟨fun c => (h c).2.2.2.2, sem_eq_zero_of_no_sems (by decide) r.2⟩)
    (Cert.ReferenceIdeal.Value.run m ρ),
  fun m ρ _ => Cert.Up.Gen.frame m ρ,
  fun m ρ _ => Cert.UpIdeal.Gen.frame m ρ,
  fun m ρ _ => (θ_run Cert.UpRefIdeal.defs _ _).mono (fun r h => ⟨fun c => (h c).2, sem_eq_zero_of_no_sems (by decide) r.2⟩)
    (Cert.UpRefIdeal.Value.run m ρ),
  fun m ρ _ => Cert.Down.Gen.frame m ρ,
  fun m ρ _ => Cert.DownIdeal.Gen.frame m ρ,
  fun m ρ _ => (θ_run Cert.DownRefIdeal.defs _ _).mono (fun r h => ⟨fun c => (h c).2, sem_eq_zero_of_no_sems (by decide) r.2⟩)
    (Cert.DownRefIdeal.Value.run m ρ),
  fun m ρ _ => Cert.DownDx.Gen.frame m ρ,
  fun m ρ _ => Cert.DownDxIdeal.Gen.frame m ρ,
  fun m ρ _ => (θ_run Cert.DownDxRefIdeal.defs _ _).mono (fun r h => ⟨fun c => (h c).2, sem_eq_zero_of_no_sems (by decide) r.2⟩)
    (Cert.DownDxRefIdeal.Value.run m ρ),
  fun m ρ _ => Cert.DownDw.Gen.frame m ρ,
  fun m ρ _ => Cert.DownDwIdeal.Gen.frame m ρ,
  fun m ρ _ => (θ_run Cert.DownDwRefIdeal.defs _ _).mono (fun r h => ⟨fun c => (h c).2, sem_eq_zero_of_no_sems (by decide) r.2⟩)
    (Cert.DownDwRefIdeal.Value.run m ρ),
  fun m ρ _ => Cert.HalfDx.Gen.frame m ρ,
  fun m ρ _ => Cert.HalfDxIdeal.Gen.frame m ρ,
  fun m ρ _ => (θ_run Cert.HalfDxRefIdeal.defs _ _).mono (fun r h => ⟨fun c => (h c).2, sem_eq_zero_of_no_sems (by decide) r.2⟩)
    (Cert.HalfDxRefIdeal.Value.run m ρ),
  fun m ρ _ => Cert.UpDw.Gen.frame m ρ,
  fun m ρ _ => Cert.UpDwIdeal.Gen.frame m ρ,
  fun m ρ _ => (θ_run Cert.UpDwRefIdeal.defs _ _).mono (fun r h => ⟨fun c => (h c).2, sem_eq_zero_of_no_sems (by decide) r.2⟩)
    (Cert.UpDwRefIdeal.Value.run m ρ),
  fun m ρ _ => Cert.GateDw.Gen.frame m ρ,
  fun m ρ _ => Cert.GateDwIdeal.Gen.frame m ρ,
  fun m ρ _ => (θ_run Cert.GateDwRefIdeal.defs _ _).mono (fun r h => ⟨fun c => (h c).2, sem_eq_zero_of_no_sems (by decide) r.2⟩)
    (Cert.GateDwRefIdeal.Value.run m ρ),
  fun m ρ _ => Cert.L0Proj.Gen.frame m ρ,
  fun m ρ _ => Cert.L0ProjIdeal.Gen.frame m ρ,
  fun m ρ _ => (θ_run Cert.L0ProjRefIdeal.defs _ _).mono (fun r h => ⟨fun c => (h c).2, sem_eq_zero_of_no_sems (by decide) r.2⟩)
    (Cert.L0ProjRefIdeal.Value.run m ρ),
  fun m ρ _ => Cert.L0ProjDx.Gen.frame m ρ,
  fun m ρ _ => Cert.L0ProjDxIdeal.Gen.frame m ρ,
  fun m ρ _ => (θ_run Cert.L0ProjDxRefIdeal.defs _ _).mono (fun r h => ⟨fun c => (h c).2, sem_eq_zero_of_no_sems (by decide) r.2⟩)
    (Cert.L0ProjDxRefIdeal.Value.run m ρ),
  fun m ρ _ => Cert.L0ProjDw.Gen.frame m ρ,
  fun m ρ _ => Cert.L0ProjDwIdeal.Gen.frame m ρ,
  fun m ρ _ => (θ_run Cert.L0ProjDwRefIdeal.defs _ _).mono (fun r h => ⟨fun c => (h c).2, sem_eq_zero_of_no_sems (by decide) r.2⟩)
    (Cert.L0ProjDwRefIdeal.Value.run m ρ),
  fun m ρ _ => Cert.L1Proj.Gen.frame m ρ,
  fun m ρ _ => Cert.L1ProjIdeal.Gen.frame m ρ,
  fun m ρ _ => (θ_run Cert.L1ProjRefIdeal.defs _ _).mono (fun r h => ⟨fun c => (h c).2, sem_eq_zero_of_no_sems (by decide) r.2⟩)
    (Cert.L1ProjRefIdeal.Value.run m ρ),
  fun m ρ _ => Cert.L1ProjDx.Gen.frame m ρ,
  fun m ρ _ => Cert.L1ProjDxIdeal.Gen.frame m ρ,
  fun m ρ _ => (θ_run Cert.L1ProjDxRefIdeal.defs _ _).mono (fun r h => ⟨fun c => (h c).2, sem_eq_zero_of_no_sems (by decide) r.2⟩)
    (Cert.L1ProjDxRefIdeal.Value.run m ρ),
  fun m ρ _ => Cert.L1ProjDw.Gen.frame m ρ,
  fun m ρ _ => Cert.L1ProjDwIdeal.Gen.frame m ρ,
  fun m ρ _ => (θ_run Cert.L1ProjDwRefIdeal.defs _ _).mono (fun r h => ⟨fun c => (h c).2, sem_eq_zero_of_no_sems (by decide) r.2⟩)
    (Cert.L1ProjDwRefIdeal.Value.run m ρ),
  fun m ρ _ => Cert.OutA.Gen.frame m ρ,
  fun m ρ _ => Cert.OutAIdeal.Gen.frame m ρ,
  fun m ρ _ => (θ_run Cert.OutARefIdeal.defs _ _).mono (fun r h => ⟨fun c => (h c).2, sem_eq_zero_of_no_sems (by decide) r.2⟩)
    (Cert.OutARefIdeal.Value.run m ρ),
  fun m ρ _ => Cert.OutB.Gen.frame m ρ,
  fun m ρ _ => Cert.OutBIdeal.Gen.frame m ρ,
  fun m ρ _ => (θ_run Cert.OutBRefIdeal.defs _ _).mono (fun r h => ⟨fun c => (h c).2, sem_eq_zero_of_no_sems (by decide) r.2⟩)
    (Cert.OutBRefIdeal.Value.run m ρ),
  fun m ρ _ => Cert.OutDx.Gen.frame m ρ,
  fun m ρ _ => Cert.OutDxIdeal.Gen.frame m ρ,
  fun m ρ _ => (θ_run Cert.OutDxRefIdeal.defs _ _).mono (fun r h => ⟨fun c => (h c).2, sem_eq_zero_of_no_sems (by decide) r.2⟩)
    (Cert.OutDxRefIdeal.Value.run m ρ),
  fun m ρ _ => Cert.OutDw.Gen.frame m ρ,
  fun m ρ _ => Cert.OutDwIdeal.Gen.frame m ρ,
  fun m ρ _ => (θ_run Cert.OutDwRefIdeal.defs _ _).mono (fun r h => ⟨fun c => (h c).2, sem_eq_zero_of_no_sems (by decide) r.2⟩)
    (Cert.OutDwRefIdeal.Value.run m ρ),
  fun m ρ _ => Cert.AdamL0In.Gen.frame m ρ,
  fun m ρ _ => Cert.AdamL0InIdeal.Gen.frame m ρ,
  fun m ρ _ => (θ_run Cert.AdamL0InRefIdeal.defs _ _).mono (fun r h => ⟨fun c => (h c).2.2.2, sem_eq_zero_of_no_sems (by decide) r.2⟩)
    (Cert.AdamL0InRefIdeal.Value.run m ρ),
  fun m ρ _ => Cert.AdamL1In.Gen.frame m ρ,
  fun m ρ _ => Cert.AdamL1InIdeal.Gen.frame m ρ,
  fun m ρ _ => (θ_run Cert.AdamL1InRefIdeal.defs _ _).mono (fun r h => ⟨fun c => (h c).2.2.2, sem_eq_zero_of_no_sems (by decide) r.2⟩)
    (Cert.AdamL1InRefIdeal.Value.run m ρ),
  fun m ρ _ => Cert.AdamUp.Gen.frame m ρ,
  fun m ρ _ => Cert.AdamUpIdeal.Gen.frame m ρ,
  fun m ρ _ => (θ_run Cert.AdamUpRefIdeal.defs _ _).mono (fun r h => ⟨fun c => (h c).2.2.2, sem_eq_zero_of_no_sems (by decide) r.2⟩)
    (Cert.AdamUpRefIdeal.Value.run m ρ),
  fun m ρ _ => Cert.AdamDown.Gen.frame m ρ,
  fun m ρ _ => Cert.AdamDownIdeal.Gen.frame m ρ,
  fun m ρ _ => (θ_run Cert.AdamDownRefIdeal.defs _ _).mono (fun r h => ⟨fun c => (h c).2.2.2, sem_eq_zero_of_no_sems (by decide) r.2⟩)
    (Cert.AdamDownRefIdeal.Value.run m ρ),
  fun m ρ _ => Cert.AdamOut.Gen.frame m ρ,
  fun m ρ _ => Cert.AdamOutIdeal.Gen.frame m ρ,
  fun m ρ _ => (θ_run Cert.AdamOutRefIdeal.defs _ _).mono (fun r h => ⟨fun c => (h c).2.2.2, sem_eq_zero_of_no_sems (by decide) r.2⟩)
    (Cert.AdamOutRefIdeal.Value.run m ρ),
  fun m ρ _ => Cert.AdamSmall.Gen.frame m ρ,
  fun m ρ _ => Cert.AdamSmallIdeal.Gen.frame m ρ,
  fun m ρ _ => (θ_run Cert.AdamSmallRefIdeal.defs _ _).mono (fun r h => ⟨fun c => (h c).2.2.2, sem_eq_zero_of_no_sems (by decide) r.2⟩)
    (Cert.AdamSmallRefIdeal.Value.run m ρ),
  fun m ρ _ => Cert.Loss.Gen.frame m ρ,
  fun m ρ _ => Cert.LossIdeal.Gen.frame m ρ,
  fun m ρ _ => (θ_run Cert.LossRefIdeal.defs _ _).mono (fun r h => ⟨fun c => (h c).2.2, sem_eq_zero_of_no_sems (by decide) r.2⟩)
    (Cert.LossRefIdeal.Value.run m ρ),
  fun m ρ h => Cert.ChipL0In.Gen.frame m ρ (Cert.Step.ChipL0In.fits m h),
  fun m ρ h => Cert.ChipL0InIdeal.Gen.frame m ρ (Cert.Step.ChipL0In.ok m (Cert.Step.ChipL0In.core_two m h)),
  fun m ρ _ => (θ_run Cert.ChipL0InRefIdeal.defs _ _).mono (fun r h => ⟨fun c => (h c).2, sem_eq_zero_of_no_sems (by decide) r.2⟩)
    (Cert.ChipL0InRefIdeal.Value.run m ρ),
  fun m ρ _ => (θ_run Cert.ChipL0InRefIdeal.defs _ _).mono (fun r h => ⟨fun c => (h c).2, sem_eq_zero_of_no_sems (by decide) r.2⟩)
    (Cert.ChipL0InRefIdeal.Value.run m ρ),
  fun m ρ h => Cert.ChipL1In.Gen.frame m ρ (Cert.Step.ChipL1In.fits m h),
  fun m ρ h => Cert.ChipL1InIdeal.Gen.frame m ρ (Cert.Step.ChipL1In.ok m (Cert.Step.ChipL1In.core_two m h)),
  fun m ρ _ => (θ_run Cert.ChipL1InRefIdeal.defs _ _).mono (fun r h => ⟨fun c => (h c).2, sem_eq_zero_of_no_sems (by decide) r.2⟩)
    (Cert.ChipL1InRefIdeal.Value.run m ρ),
  fun m ρ _ => (θ_run Cert.ChipL1InRefIdeal.defs _ _).mono (fun r h => ⟨fun c => (h c).2, sem_eq_zero_of_no_sems (by decide) r.2⟩)
    (Cert.ChipL1InRefIdeal.Value.run m ρ),
  fun m ρ h => Cert.ChipUp.Gen.frame m ρ (Cert.Step.ChipUp.fits m h),
  fun m ρ h => Cert.ChipUpIdeal.Gen.frame m ρ (Cert.Step.ChipUp.ok m (Cert.Step.ChipUp.core_two m h)),
  fun m ρ _ => (θ_run Cert.ChipUpRefIdeal.defs _ _).mono (fun r h => ⟨fun c => (h c).2, sem_eq_zero_of_no_sems (by decide) r.2⟩)
    (Cert.ChipUpRefIdeal.Value.run m ρ),
  fun m ρ _ => (θ_run Cert.ChipUpRefIdeal.defs _ _).mono (fun r h => ⟨fun c => (h c).2, sem_eq_zero_of_no_sems (by decide) r.2⟩)
    (Cert.ChipUpRefIdeal.Value.run m ρ),
  fun m ρ h => Cert.ChipDown.Gen.frame m ρ (Cert.Step.ChipDown.fits m h),
  fun m ρ h => Cert.ChipDownIdeal.Gen.frame m ρ (Cert.Step.ChipDown.ok m (Cert.Step.ChipDown.core_two m h)),
  fun m ρ _ => (θ_run Cert.ChipDownRefIdeal.defs _ _).mono (fun r h => ⟨fun c => (h c).2, sem_eq_zero_of_no_sems (by decide) r.2⟩)
    (Cert.ChipDownRefIdeal.Value.run m ρ),
  fun m ρ _ => (θ_run Cert.ChipDownRefIdeal.defs _ _).mono (fun r h => ⟨fun c => (h c).2, sem_eq_zero_of_no_sems (by decide) r.2⟩)
    (Cert.ChipDownRefIdeal.Value.run m ρ),
  fun m ρ h => Cert.ChipOut.Gen.frame m ρ (Cert.Step.ChipOut.fits m h),
  fun m ρ h => Cert.ChipOutIdeal.Gen.frame m ρ (Cert.Step.ChipOut.ok m (Cert.Step.ChipOut.core_two m h)),
  fun m ρ _ => (θ_run Cert.ChipOutRefIdeal.defs _ _).mono (fun r h => ⟨fun c => (h c).2, sem_eq_zero_of_no_sems (by decide) r.2⟩)
    (Cert.ChipOutRefIdeal.Value.run m ρ),
  fun m ρ _ => (θ_run Cert.ChipOutRefIdeal.defs _ _).mono (fun r h => ⟨fun c => (h c).2, sem_eq_zero_of_no_sems (by decide) r.2⟩)
    (Cert.ChipOutRefIdeal.Value.run m ρ),
  fun m ρ h => Cert.ChipSmall.Gen.frame m ρ (Cert.Step.ChipSmall.fits m h),
  fun m ρ h => Cert.ChipSmallIdeal.Gen.frame m ρ (Cert.Step.ChipSmall.ok m (Cert.Step.ChipSmall.core_two m h)),
  fun m ρ _ => (θ_run Cert.ChipSmallRefIdeal.defs _ _).mono (fun r h => ⟨fun c => (h c).2, sem_eq_zero_of_no_sems (by decide) r.2⟩)
    (Cert.ChipSmallRefIdeal.Value.run m ρ),
  fun m ρ _ => (θ_run Cert.ChipSmallRefIdeal.defs _ _).mono (fun r h => ⟨fun c => (h c).2, sem_eq_zero_of_no_sems (by decide) r.2⟩)
    (Cert.ChipSmallRefIdeal.Value.run m ρ),
  fun m ρ h => Cert.PairL0In.Gen.frame m ρ (Cert.Step.PairL0In.fits m h),
  fun m ρ h => Cert.PairL0InIdeal.Gen.frame m ρ (Cert.Step.PairL0In.ok m (Cert.Step.PairL0In.core_two m h)),
  fun m ρ _ => (θ_run Cert.PairL0InRefIdeal.defs _ _).mono (fun r h => ⟨fun c => (h c).2, sem_eq_zero_of_no_sems (by decide) r.2⟩)
    (Cert.PairL0InRefIdeal.Value.run m ρ),
  fun m ρ _ => (θ_run Cert.PairL0InRefIdeal.defs _ _).mono (fun r h => ⟨fun c => (h c).2, sem_eq_zero_of_no_sems (by decide) r.2⟩)
    (Cert.PairL0InRefIdeal.Value.run m ρ),
  fun m ρ h => Cert.PairL1In.Gen.frame m ρ (Cert.Step.PairL1In.fits m h),
  fun m ρ h => Cert.PairL1InIdeal.Gen.frame m ρ (Cert.Step.PairL1In.ok m (Cert.Step.PairL1In.core_two m h)),
  fun m ρ _ => (θ_run Cert.PairL1InRefIdeal.defs _ _).mono (fun r h => ⟨fun c => (h c).2, sem_eq_zero_of_no_sems (by decide) r.2⟩)
    (Cert.PairL1InRefIdeal.Value.run m ρ),
  fun m ρ _ => (θ_run Cert.PairL1InRefIdeal.defs _ _).mono (fun r h => ⟨fun c => (h c).2, sem_eq_zero_of_no_sems (by decide) r.2⟩)
    (Cert.PairL1InRefIdeal.Value.run m ρ),
  fun m ρ h => Cert.PairUp.Gen.frame m ρ (Cert.Step.PairUp.fits m h),
  fun m ρ h => Cert.PairUpIdeal.Gen.frame m ρ (Cert.Step.PairUp.ok m (Cert.Step.PairUp.core_two m h)),
  fun m ρ _ => (θ_run Cert.PairUpRefIdeal.defs _ _).mono (fun r h => ⟨fun c => (h c).2, sem_eq_zero_of_no_sems (by decide) r.2⟩)
    (Cert.PairUpRefIdeal.Value.run m ρ),
  fun m ρ _ => (θ_run Cert.PairUpRefIdeal.defs _ _).mono (fun r h => ⟨fun c => (h c).2, sem_eq_zero_of_no_sems (by decide) r.2⟩)
    (Cert.PairUpRefIdeal.Value.run m ρ),
  fun m ρ h => Cert.PairDown.Gen.frame m ρ (Cert.Step.PairDown.fits m h),
  fun m ρ h => Cert.PairDownIdeal.Gen.frame m ρ (Cert.Step.PairDown.ok m (Cert.Step.PairDown.core_two m h)),
  fun m ρ _ => (θ_run Cert.PairDownRefIdeal.defs _ _).mono (fun r h => ⟨fun c => (h c).2, sem_eq_zero_of_no_sems (by decide) r.2⟩)
    (Cert.PairDownRefIdeal.Value.run m ρ),
  fun m ρ _ => (θ_run Cert.PairDownRefIdeal.defs _ _).mono (fun r h => ⟨fun c => (h c).2, sem_eq_zero_of_no_sems (by decide) r.2⟩)
    (Cert.PairDownRefIdeal.Value.run m ρ),
  fun m ρ h => Cert.PairOut.Gen.frame m ρ (Cert.Step.PairOut.fits m h),
  fun m ρ h => Cert.PairOutIdeal.Gen.frame m ρ (Cert.Step.PairOut.ok m (Cert.Step.PairOut.core_two m h)),
  fun m ρ _ => (θ_run Cert.PairOutRefIdeal.defs _ _).mono (fun r h => ⟨fun c => (h c).2, sem_eq_zero_of_no_sems (by decide) r.2⟩)
    (Cert.PairOutRefIdeal.Value.run m ρ),
  fun m ρ _ => (θ_run Cert.PairOutRefIdeal.defs _ _).mono (fun r h => ⟨fun c => (h c).2, sem_eq_zero_of_no_sems (by decide) r.2⟩)
    (Cert.PairOutRefIdeal.Value.run m ρ),
  fun m ρ h => Cert.PairSmall.Gen.frame m ρ (Cert.Step.PairSmall.fits m h),
  fun m ρ h => Cert.PairSmallIdeal.Gen.frame m ρ (Cert.Step.PairSmall.ok m (Cert.Step.PairSmall.core_two m h)),
  fun m ρ _ => (θ_run Cert.PairSmallRefIdeal.defs _ _).mono (fun r h => ⟨fun c => (h c).2, sem_eq_zero_of_no_sems (by decide) r.2⟩)
    (Cert.PairSmallRefIdeal.Value.run m ρ),
  fun m ρ _ => (θ_run Cert.PairSmallRefIdeal.defs _ _).mono (fun r h => ⟨fun c => (h c).2, sem_eq_zero_of_no_sems (by decide) r.2⟩)
    (Cert.PairSmallRefIdeal.Value.run m ρ),
  Cert.Step.LossSum.quiescent_P,
  Cert.Step.LossSum.quiescent_PI,
  fun m ρ _ => (θ_run Cert.LossSumRefIdeal.defs _ _).mono (fun r h => ⟨fun c => (h c).2, sem_eq_zero_of_no_sems (by decide) r.2⟩)
    (Cert.LossSumRefIdeal.Value.run m ρ),
  trivial,
  Cert.Mla.algebraic,
  trivial,
  Cert.Mm.Up.algebraic,
  trivial,
  Cert.Mm.Down.algebraic,
  trivial,
  Cert.Mm.DownDx.algebraic,
  trivial,
  Cert.Mm.DownDw.algebraic,
  trivial,
  Cert.Mm.HalfDx.algebraic,
  trivial,
  Cert.Mm.UpDw.algebraic,
  trivial,
  Cert.Mm.GateDw.algebraic,
  trivial,
  Cert.Mm.L0Proj.algebraic,
  trivial,
  Cert.Mm.L0ProjDx.algebraic,
  trivial,
  Cert.Mm.L0ProjDw.algebraic,
  trivial,
  Cert.Mm.L1Proj.algebraic,
  trivial,
  Cert.Mm.L1ProjDx.algebraic,
  trivial,
  Cert.Mm.L1ProjDw.algebraic,
  trivial,
  Cert.Mm.OutA.algebraic,
  trivial,
  Cert.Mm.OutB.algebraic,
  trivial,
  Cert.Mm.OutDx.algebraic,
  trivial,
  Cert.Mm.OutDw.algebraic,
  trivial,
  Cert.Step.AdamL0In.algebraic,
  trivial,
  Cert.Step.AdamL1In.algebraic,
  trivial,
  Cert.Step.AdamUp.algebraic,
  trivial,
  Cert.Step.AdamDown.algebraic,
  trivial,
  Cert.Step.AdamOut.algebraic,
  trivial,
  Cert.Step.AdamSmall.algebraic,
  trivial,
  Cert.Step.Loss.algebraic,
  trivial,
  Cert.Step.ChipL0In.algebraic,
  trivial,
  Cert.Step.ChipL1In.algebraic,
  trivial,
  Cert.Step.ChipUp.algebraic,
  trivial,
  Cert.Step.ChipDown.algebraic,
  trivial,
  Cert.Step.ChipOut.algebraic,
  trivial,
  Cert.Step.ChipSmall.algebraic,
  trivial,
  Cert.Step.PairL0In.algebraic,
  trivial,
  Cert.Step.PairL1In.algebraic,
  trivial,
  Cert.Step.PairUp.algebraic,
  trivial,
  Cert.Step.PairDown.algebraic,
  trivial,
  Cert.Step.PairOut.algebraic,
  trivial,
  Cert.Step.PairSmall.algebraic,
  trivial,
  Cert.Step.LossSum.algebraic⟩

end Cert.Proof

end
